-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_ProjectZX (m : (ℓ : Loc Cert.ProjectZX.nD Cert.ProjectZX.τ Cert.ProjectZX.sig) → Buf (Elt Bits) ℓ) : Prop :=
  True

def Pre_ProjectZXIdeal (m : (ℓ : Loc Cert.ProjectZXIdeal.nD Cert.ProjectZXIdeal.τ Cert.ProjectZXIdeal.sig) → Buf (Elt Ideal) ℓ) : Prop :=
  True

def Pre_ReferenceProjectZXIdeal (m : (ℓ : Loc Cert.ReferenceProjectZXIdeal.nD Cert.ReferenceProjectZXIdeal.τ Cert.ReferenceProjectZXIdeal.sig) → Buf (Elt Ideal) ℓ) : Prop :=
  True

def Pre_ProjectQG (m : (ℓ : Loc Cert.ProjectQG.nD Cert.ProjectQG.τ Cert.ProjectQG.sig) → Buf (Elt Bits) ℓ) : Prop :=
  True

def Pre_ProjectQGIdeal (m : (ℓ : Loc Cert.ProjectQGIdeal.nD Cert.ProjectQGIdeal.τ Cert.ProjectQGIdeal.sig) → Buf (Elt Ideal) ℓ) : Prop :=
  True

def Pre_ReferenceProjectQGIdeal (m : (ℓ : Loc Cert.ReferenceProjectQGIdeal.nD Cert.ReferenceProjectQGIdeal.τ Cert.ReferenceProjectQGIdeal.sig) → Buf (Elt Ideal) ℓ) : Prop :=
  True

def Pre_ProjectDTF (m : (ℓ : Loc Cert.ProjectDTF.nD Cert.ProjectDTF.τ Cert.ProjectDTF.sig) → Buf (Elt Bits) ℓ) : Prop :=
  True

def Pre_ProjectDTFIdeal (m : (ℓ : Loc Cert.ProjectDTFIdeal.nD Cert.ProjectDTFIdeal.τ Cert.ProjectDTFIdeal.sig) → Buf (Elt Ideal) ℓ) : Prop :=
  True

def Pre_ReferenceProjectDTFIdeal (m : (ℓ : Loc Cert.ReferenceProjectDTFIdeal.nD Cert.ReferenceProjectDTFIdeal.τ Cert.ReferenceProjectDTFIdeal.sig) → Buf (Elt Ideal) ℓ) : Prop :=
  True

def Pre_KeysFirst (m : (ℓ : Loc Cert.KeysFirst.nD Cert.KeysFirst.τ Cert.KeysFirst.sig) → Buf (Elt Bits) ℓ) : Prop :=
  True

def Pre_KeysFirstIdeal (m : (ℓ : Loc Cert.KeysFirstIdeal.nD Cert.KeysFirstIdeal.τ Cert.KeysFirstIdeal.sig) → Buf (Elt Ideal) ℓ) : Prop :=
  True

def Pre_ReferenceKeysFirstIdeal (m : (ℓ : Loc Cert.ReferenceKeysFirstIdeal.nD Cert.ReferenceKeysFirstIdeal.τ Cert.ReferenceKeysFirstIdeal.sig) → Buf (Elt Ideal) ℓ) : Prop :=
  True

def Pre_KeysSecond (m : (ℓ : Loc Cert.KeysSecond.nD Cert.KeysSecond.τ Cert.KeysSecond.sig) → Buf (Elt Bits) ℓ) : Prop :=
  True

def Pre_KeysSecondIdeal (m : (ℓ : Loc Cert.KeysSecondIdeal.nD Cert.KeysSecondIdeal.τ Cert.KeysSecondIdeal.sig) → Buf (Elt Ideal) ℓ) : Prop :=
  True

def Pre_ReferenceKeysSecondIdeal (m : (ℓ : Loc Cert.ReferenceKeysSecondIdeal.nD Cert.ReferenceKeysSecondIdeal.τ Cert.ReferenceKeysSecondIdeal.sig) → Buf (Elt Ideal) ℓ) : Prop :=
  True

def Pre_ValuesFirst (m : (ℓ : Loc Cert.ValuesFirst.nD Cert.ValuesFirst.τ Cert.ValuesFirst.sig) → Buf (Elt Bits) ℓ) : Prop :=
  True

def Pre_ValuesFirstIdeal (m : (ℓ : Loc Cert.ValuesFirstIdeal.nD Cert.ValuesFirstIdeal.τ Cert.ValuesFirstIdeal.sig) → Buf (Elt Ideal) ℓ) : Prop :=
  True

def Pre_ReferenceValuesFirstIdeal (m : (ℓ : Loc Cert.ReferenceValuesFirstIdeal.nD Cert.ReferenceValuesFirstIdeal.τ Cert.ReferenceValuesFirstIdeal.sig) → Buf (Elt Ideal) ℓ) : Prop :=
  True

def Pre_ValuesSecond (m : (ℓ : Loc Cert.ValuesSecond.nD Cert.ValuesSecond.τ Cert.ValuesSecond.sig) → Buf (Elt Bits) ℓ) : Prop :=
  True

def Pre_ValuesSecondIdeal (m : (ℓ : Loc Cert.ValuesSecondIdeal.nD Cert.ValuesSecondIdeal.τ Cert.ValuesSecondIdeal.sig) → Buf (Elt Ideal) ℓ) : Prop :=
  True

def Pre_ReferenceValuesSecondIdeal (m : (ℓ : Loc Cert.ReferenceValuesSecondIdeal.nD Cert.ReferenceValuesSecondIdeal.τ Cert.ReferenceValuesSecondIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_ForgetFirst (m : (ℓ : Loc Cert.ForgetFirst.nD Cert.ForgetFirst.τ Cert.ForgetFirst.sig) → Buf (Elt Bits) ℓ) : Prop :=
  True

def Pre_ForgetFirstIdeal (m : (ℓ : Loc Cert.ForgetFirstIdeal.nD Cert.ForgetFirstIdeal.τ Cert.ForgetFirstIdeal.sig) → Buf (Elt Ideal) ℓ) : Prop :=
  True

def Pre_ReferenceForgetFirstIdeal (m : (ℓ : Loc Cert.ReferenceForgetFirstIdeal.nD Cert.ReferenceForgetFirstIdeal.τ Cert.ReferenceForgetFirstIdeal.sig) → Buf (Elt Ideal) ℓ) : Prop :=
  True

def Pre_ForgetSecond (m : (ℓ : Loc Cert.ForgetSecond.nD Cert.ForgetSecond.τ Cert.ForgetSecond.sig) → Buf (Elt Bits) ℓ) : Prop :=
  True

def Pre_ForgetSecondIdeal (m : (ℓ : Loc Cert.ForgetSecondIdeal.nD Cert.ForgetSecondIdeal.τ Cert.ForgetSecondIdeal.sig) → Buf (Elt Ideal) ℓ) : Prop :=
  True

def Pre_ReferenceForgetSecondIdeal (m : (ℓ : Loc Cert.ReferenceForgetSecondIdeal.nD Cert.ReferenceForgetSecondIdeal.τ Cert.ReferenceForgetSecondIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ProjectZX [hProjectZX : Cert.ProjectZX.Facts] : Prop :=
  ∀ (m : (ℓ : Loc Cert.ProjectZX.nD Cert.ProjectZX.τ Cert.ProjectZX.sig) → Buf (Elt Bits) ℓ) (g : Dev Cert.ProjectZX.nD → PrngReg), Pre_ProjectZX m →
    θ_run (Cert.ProjectZX.defs (F := Bits)) (onTc (τ := Cert.ProjectZX.τ) (Cert.ProjectZX.main (F := Bits))) ⟨m, fun _ => 0, g⟩ (fun r => (∀ c : Dev Cert.ProjectZX.nD,
      r.2.mem ((c.tc : Thread Cert.ProjectZX.nD Cert.ProjectZX.τ).loc Cert.ProjectZX.main_arg0) = m ((c.tc : Thread Cert.ProjectZX.nD Cert.ProjectZX.τ).loc Cert.ProjectZX.main_arg0)
      ∧ r.2.mem ((c.tc : Thread Cert.ProjectZX.nD Cert.ProjectZX.τ).loc Cert.ProjectZX.main_arg1) = m ((c.tc : Thread Cert.ProjectZX.nD Cert.ProjectZX.τ).loc Cert.ProjectZX.main_arg1))
      ∧ r.2.sem = fun _ => 0)

def quiescent_ProjectZXIdeal [hProjectZXIdeal : Cert.ProjectZXIdeal.Facts] : Prop :=
  ∀ (m : (ℓ : Loc Cert.ProjectZXIdeal.nD Cert.ProjectZXIdeal.τ Cert.ProjectZXIdeal.sig) → Buf (Elt Ideal) ℓ) (g : Dev Cert.ProjectZXIdeal.nD → PrngReg), Pre_ProjectZXIdeal m →
    θ_run (Cert.ProjectZXIdeal.defs (F := Ideal)) (onTc (τ := Cert.ProjectZXIdeal.τ) (Cert.ProjectZXIdeal.main (F := Ideal))) ⟨m, fun _ => 0, g⟩ (fun r => (∀ c : Dev Cert.ProjectZXIdeal.nD,
      r.2.mem ((c.tc : Thread Cert.ProjectZXIdeal.nD Cert.ProjectZXIdeal.τ).loc Cert.ProjectZXIdeal.main_arg0) = m ((c.tc : Thread Cert.ProjectZXIdeal.nD Cert.ProjectZXIdeal.τ).loc Cert.ProjectZXIdeal.main_arg0)
      ∧ r.2.mem ((c.tc : Thread Cert.ProjectZXIdeal.nD Cert.ProjectZXIdeal.τ).loc Cert.ProjectZXIdeal.main_arg1) = m ((c.tc : Thread Cert.ProjectZXIdeal.nD Cert.ProjectZXIdeal.τ).loc Cert.ProjectZXIdeal.main_arg1))
      ∧ r.2.sem = fun _ => 0)

def quiescent_ReferenceProjectZXIdeal [hReferenceProjectZXIdeal : Cert.ReferenceProjectZXIdeal.Facts] : Prop :=
  ∀ (m : (ℓ : Loc Cert.ReferenceProjectZXIdeal.nD Cert.ReferenceProjectZXIdeal.τ Cert.ReferenceProjectZXIdeal.sig) → Buf (Elt Ideal) ℓ) (g : Dev Cert.ReferenceProjectZXIdeal.nD → PrngReg), Pre_ReferenceProjectZXIdeal m →
    θ_run (Cert.ReferenceProjectZXIdeal.defs (F := Ideal)) (onTc (τ := Cert.ReferenceProjectZXIdeal.τ) (Cert.ReferenceProjectZXIdeal.main (F := Ideal))) ⟨m, fun _ => 0, g⟩ (fun r => (∀ c : Dev Cert.ReferenceProjectZXIdeal.nD,
      r.2.mem ((c.tc : Thread Cert.ReferenceProjectZXIdeal.nD Cert.ReferenceProjectZXIdeal.τ).loc Cert.ReferenceProjectZXIdeal.main_arg0) = m ((c.tc : Thread Cert.ReferenceProjectZXIdeal.nD Cert.ReferenceProjectZXIdeal.τ).loc Cert.ReferenceProjectZXIdeal.main_arg0)
      ∧ r.2.mem ((c.tc : Thread Cert.ReferenceProjectZXIdeal.nD Cert.ReferenceProjectZXIdeal.τ).loc Cert.ReferenceProjectZXIdeal.main_arg1) = m ((c.tc : Thread Cert.ReferenceProjectZXIdeal.nD Cert.ReferenceProjectZXIdeal.τ).loc Cert.ReferenceProjectZXIdeal.main_arg1))
      ∧ r.2.sem = fun _ => 0)

def quiescent_ProjectQG [hProjectQG : Cert.ProjectQG.Facts] : Prop :=
  ∀ (m : (ℓ : Loc Cert.ProjectQG.nD Cert.ProjectQG.τ Cert.ProjectQG.sig) → Buf (Elt Bits) ℓ) (g : Dev Cert.ProjectQG.nD → PrngReg), Pre_ProjectQG m →
    θ_run (Cert.ProjectQG.defs (F := Bits)) (onTc (τ := Cert.ProjectQG.τ) (Cert.ProjectQG.main (F := Bits))) ⟨m, fun _ => 0, g⟩ (fun r => (∀ c : Dev Cert.ProjectQG.nD,
      r.2.mem ((c.tc : Thread Cert.ProjectQG.nD Cert.ProjectQG.τ).loc Cert.ProjectQG.main_arg0) = m ((c.tc : Thread Cert.ProjectQG.nD Cert.ProjectQG.τ).loc Cert.ProjectQG.main_arg0)
      ∧ r.2.mem ((c.tc : Thread Cert.ProjectQG.nD Cert.ProjectQG.τ).loc Cert.ProjectQG.main_arg1) = m ((c.tc : Thread Cert.ProjectQG.nD Cert.ProjectQG.τ).loc Cert.ProjectQG.main_arg1))
      ∧ r.2.sem = fun _ => 0)

def quiescent_ProjectQGIdeal [hProjectQGIdeal : Cert.ProjectQGIdeal.Facts] : Prop :=
  ∀ (m : (ℓ : Loc Cert.ProjectQGIdeal.nD Cert.ProjectQGIdeal.τ Cert.ProjectQGIdeal.sig) → Buf (Elt Ideal) ℓ) (g : Dev Cert.ProjectQGIdeal.nD → PrngReg), Pre_ProjectQGIdeal m →
    θ_run (Cert.ProjectQGIdeal.defs (F := Ideal)) (onTc (τ := Cert.ProjectQGIdeal.τ) (Cert.ProjectQGIdeal.main (F := Ideal))) ⟨m, fun _ => 0, g⟩ (fun r => (∀ c : Dev Cert.ProjectQGIdeal.nD,
      r.2.mem ((c.tc : Thread Cert.ProjectQGIdeal.nD Cert.ProjectQGIdeal.τ).loc Cert.ProjectQGIdeal.main_arg0) = m ((c.tc : Thread Cert.ProjectQGIdeal.nD Cert.ProjectQGIdeal.τ).loc Cert.ProjectQGIdeal.main_arg0)
      ∧ r.2.mem ((c.tc : Thread Cert.ProjectQGIdeal.nD Cert.ProjectQGIdeal.τ).loc Cert.ProjectQGIdeal.main_arg1) = m ((c.tc : Thread Cert.ProjectQGIdeal.nD Cert.ProjectQGIdeal.τ).loc Cert.ProjectQGIdeal.main_arg1))
      ∧ r.2.sem = fun _ => 0)

def quiescent_ReferenceProjectQGIdeal [hReferenceProjectQGIdeal : Cert.ReferenceProjectQGIdeal.Facts] : Prop :=
  ∀ (m : (ℓ : Loc Cert.ReferenceProjectQGIdeal.nD Cert.ReferenceProjectQGIdeal.τ Cert.ReferenceProjectQGIdeal.sig) → Buf (Elt Ideal) ℓ) (g : Dev Cert.ReferenceProjectQGIdeal.nD → PrngReg), Pre_ReferenceProjectQGIdeal m →
    θ_run (Cert.ReferenceProjectQGIdeal.defs (F := Ideal)) (onTc (τ := Cert.ReferenceProjectQGIdeal.τ) (Cert.ReferenceProjectQGIdeal.main (F := Ideal))) ⟨m, fun _ => 0, g⟩ (fun r => (∀ c : Dev Cert.ReferenceProjectQGIdeal.nD,
      r.2.mem ((c.tc : Thread Cert.ReferenceProjectQGIdeal.nD Cert.ReferenceProjectQGIdeal.τ).loc Cert.ReferenceProjectQGIdeal.main_arg0) = m ((c.tc : Thread Cert.ReferenceProjectQGIdeal.nD Cert.ReferenceProjectQGIdeal.τ).loc Cert.ReferenceProjectQGIdeal.main_arg0)
      ∧ r.2.mem ((c.tc : Thread Cert.ReferenceProjectQGIdeal.nD Cert.ReferenceProjectQGIdeal.τ).loc Cert.ReferenceProjectQGIdeal.main_arg1) = m ((c.tc : Thread Cert.ReferenceProjectQGIdeal.nD Cert.ReferenceProjectQGIdeal.τ).loc Cert.ReferenceProjectQGIdeal.main_arg1))
      ∧ r.2.sem = fun _ => 0)

def quiescent_ProjectDTF [hProjectDTF : Cert.ProjectDTF.Facts] : Prop :=
  ∀ (m : (ℓ : Loc Cert.ProjectDTF.nD Cert.ProjectDTF.τ Cert.ProjectDTF.sig) → Buf (Elt Bits) ℓ) (g : Dev Cert.ProjectDTF.nD → PrngReg), Pre_ProjectDTF m →
    θ_run (Cert.ProjectDTF.defs (F := Bits)) (onTc (τ := Cert.ProjectDTF.τ) (Cert.ProjectDTF.main (F := Bits))) ⟨m, fun _ => 0, g⟩ (fun r => (∀ c : Dev Cert.ProjectDTF.nD,
      r.2.mem ((c.tc : Thread Cert.ProjectDTF.nD Cert.ProjectDTF.τ).loc Cert.ProjectDTF.main_arg0) = m ((c.tc : Thread Cert.ProjectDTF.nD Cert.ProjectDTF.τ).loc Cert.ProjectDTF.main_arg0)
      ∧ r.2.mem ((c.tc : Thread Cert.ProjectDTF.nD Cert.ProjectDTF.τ).loc Cert.ProjectDTF.main_arg1) = m ((c.tc : Thread Cert.ProjectDTF.nD Cert.ProjectDTF.τ).loc Cert.ProjectDTF.main_arg1))
      ∧ r.2.sem = fun _ => 0)

def quiescent_ProjectDTFIdeal [hProjectDTFIdeal : Cert.ProjectDTFIdeal.Facts] : Prop :=
  ∀ (m : (ℓ : Loc Cert.ProjectDTFIdeal.nD Cert.ProjectDTFIdeal.τ Cert.ProjectDTFIdeal.sig) → Buf (Elt Ideal) ℓ) (g : Dev Cert.ProjectDTFIdeal.nD → PrngReg), Pre_ProjectDTFIdeal m →
    θ_run (Cert.ProjectDTFIdeal.defs (F := Ideal)) (onTc (τ := Cert.ProjectDTFIdeal.τ) (Cert.ProjectDTFIdeal.main (F := Ideal))) ⟨m, fun _ => 0, g⟩ (fun r => (∀ c : Dev Cert.ProjectDTFIdeal.nD,
      r.2.mem ((c.tc : Thread Cert.ProjectDTFIdeal.nD Cert.ProjectDTFIdeal.τ).loc Cert.ProjectDTFIdeal.main_arg0) = m ((c.tc : Thread Cert.ProjectDTFIdeal.nD Cert.ProjectDTFIdeal.τ).loc Cert.ProjectDTFIdeal.main_arg0)
      ∧ r.2.mem ((c.tc : Thread Cert.ProjectDTFIdeal.nD Cert.ProjectDTFIdeal.τ).loc Cert.ProjectDTFIdeal.main_arg1) = m ((c.tc : Thread Cert.ProjectDTFIdeal.nD Cert.ProjectDTFIdeal.τ).loc Cert.ProjectDTFIdeal.main_arg1))
      ∧ r.2.sem = fun _ => 0)

def quiescent_ReferenceProjectDTFIdeal [hReferenceProjectDTFIdeal : Cert.ReferenceProjectDTFIdeal.Facts] : Prop :=
  ∀ (m : (ℓ : Loc Cert.ReferenceProjectDTFIdeal.nD Cert.ReferenceProjectDTFIdeal.τ Cert.ReferenceProjectDTFIdeal.sig) → Buf (Elt Ideal) ℓ) (g : Dev Cert.ReferenceProjectDTFIdeal.nD → PrngReg), Pre_ReferenceProjectDTFIdeal m →
    θ_run (Cert.ReferenceProjectDTFIdeal.defs (F := Ideal)) (onTc (τ := Cert.ReferenceProjectDTFIdeal.τ) (Cert.ReferenceProjectDTFIdeal.main (F := Ideal))) ⟨m, fun _ => 0, g⟩ (fun r => (∀ c : Dev Cert.ReferenceProjectDTFIdeal.nD,
      r.2.mem ((c.tc : Thread Cert.ReferenceProjectDTFIdeal.nD Cert.ReferenceProjectDTFIdeal.τ).loc Cert.ReferenceProjectDTFIdeal.main_arg0) = m ((c.tc : Thread Cert.ReferenceProjectDTFIdeal.nD Cert.ReferenceProjectDTFIdeal.τ).loc Cert.ReferenceProjectDTFIdeal.main_arg0)
      ∧ r.2.mem ((c.tc : Thread Cert.ReferenceProjectDTFIdeal.nD Cert.ReferenceProjectDTFIdeal.τ).loc Cert.ReferenceProjectDTFIdeal.main_arg1) = m ((c.tc : Thread Cert.ReferenceProjectDTFIdeal.nD Cert.ReferenceProjectDTFIdeal.τ).loc Cert.ReferenceProjectDTFIdeal.main_arg1))
      ∧ r.2.sem = fun _ => 0)

def quiescent_KeysFirst [hKeysFirst : Cert.KeysFirst.Facts] : Prop :=
  ∀ (m : (ℓ : Loc Cert.KeysFirst.nD Cert.KeysFirst.τ Cert.KeysFirst.sig) → Buf (Elt Bits) ℓ) (g : Dev Cert.KeysFirst.nD → PrngReg), Pre_KeysFirst m →
    θ_run (Cert.KeysFirst.defs (F := Bits)) (onTc (τ := Cert.KeysFirst.τ) (Cert.KeysFirst.main (F := Bits))) ⟨m, fun _ => 0, g⟩ (fun r => (∀ c : Dev Cert.KeysFirst.nD,
      r.2.mem ((c.tc : Thread Cert.KeysFirst.nD Cert.KeysFirst.τ).loc Cert.KeysFirst.main_arg0) = m ((c.tc : Thread Cert.KeysFirst.nD Cert.KeysFirst.τ).loc Cert.KeysFirst.main_arg0)
      ∧ r.2.mem ((c.tc : Thread Cert.KeysFirst.nD Cert.KeysFirst.τ).loc Cert.KeysFirst.main_arg1) = m ((c.tc : Thread Cert.KeysFirst.nD Cert.KeysFirst.τ).loc Cert.KeysFirst.main_arg1))
      ∧ r.2.sem = fun _ => 0)

def quiescent_KeysFirstIdeal [hKeysFirstIdeal : Cert.KeysFirstIdeal.Facts] : Prop :=
  ∀ (m : (ℓ : Loc Cert.KeysFirstIdeal.nD Cert.KeysFirstIdeal.τ Cert.KeysFirstIdeal.sig) → Buf (Elt Ideal) ℓ) (g : Dev Cert.KeysFirstIdeal.nD → PrngReg), Pre_KeysFirstIdeal m →
    θ_run (Cert.KeysFirstIdeal.defs (F := Ideal)) (onTc (τ := Cert.KeysFirstIdeal.τ) (Cert.KeysFirstIdeal.main (F := Ideal))) ⟨m, fun _ => 0, g⟩ (fun r => (∀ c : Dev Cert.KeysFirstIdeal.nD,
      r.2.mem ((c.tc : Thread Cert.KeysFirstIdeal.nD Cert.KeysFirstIdeal.τ).loc Cert.KeysFirstIdeal.main_arg0) = m ((c.tc : Thread Cert.KeysFirstIdeal.nD Cert.KeysFirstIdeal.τ).loc Cert.KeysFirstIdeal.main_arg0)
      ∧ r.2.mem ((c.tc : Thread Cert.KeysFirstIdeal.nD Cert.KeysFirstIdeal.τ).loc Cert.KeysFirstIdeal.main_arg1) = m ((c.tc : Thread Cert.KeysFirstIdeal.nD Cert.KeysFirstIdeal.τ).loc Cert.KeysFirstIdeal.main_arg1))
      ∧ r.2.sem = fun _ => 0)

def quiescent_ReferenceKeysFirstIdeal [hReferenceKeysFirstIdeal : Cert.ReferenceKeysFirstIdeal.Facts] : Prop :=
  ∀ (m : (ℓ : Loc Cert.ReferenceKeysFirstIdeal.nD Cert.ReferenceKeysFirstIdeal.τ Cert.ReferenceKeysFirstIdeal.sig) → Buf (Elt Ideal) ℓ) (g : Dev Cert.ReferenceKeysFirstIdeal.nD → PrngReg), Pre_ReferenceKeysFirstIdeal m →
    θ_run (Cert.ReferenceKeysFirstIdeal.defs (F := Ideal)) (onTc (τ := Cert.ReferenceKeysFirstIdeal.τ) (Cert.ReferenceKeysFirstIdeal.main (F := Ideal))) ⟨m, fun _ => 0, g⟩ (fun r => (∀ c : Dev Cert.ReferenceKeysFirstIdeal.nD,
      r.2.mem ((c.tc : Thread Cert.ReferenceKeysFirstIdeal.nD Cert.ReferenceKeysFirstIdeal.τ).loc Cert.ReferenceKeysFirstIdeal.main_arg0) = m ((c.tc : Thread Cert.ReferenceKeysFirstIdeal.nD Cert.ReferenceKeysFirstIdeal.τ).loc Cert.ReferenceKeysFirstIdeal.main_arg0)
      ∧ r.2.mem ((c.tc : Thread Cert.ReferenceKeysFirstIdeal.nD Cert.ReferenceKeysFirstIdeal.τ).loc Cert.ReferenceKeysFirstIdeal.main_arg1) = m ((c.tc : Thread Cert.ReferenceKeysFirstIdeal.nD Cert.ReferenceKeysFirstIdeal.τ).loc Cert.ReferenceKeysFirstIdeal.main_arg1))
      ∧ r.2.sem = fun _ => 0)

def quiescent_KeysSecond [hKeysSecond : Cert.KeysSecond.Facts] : Prop :=
  ∀ (m : (ℓ : Loc Cert.KeysSecond.nD Cert.KeysSecond.τ Cert.KeysSecond.sig) → Buf (Elt Bits) ℓ) (g : Dev Cert.KeysSecond.nD → PrngReg), Pre_KeysSecond m →
    θ_run (Cert.KeysSecond.defs (F := Bits)) (onTc (τ := Cert.KeysSecond.τ) (Cert.KeysSecond.main (F := Bits))) ⟨m, fun _ => 0, g⟩ (fun r => (∀ c : Dev Cert.KeysSecond.nD,
      r.2.mem ((c.tc : Thread Cert.KeysSecond.nD Cert.KeysSecond.τ).loc Cert.KeysSecond.main_arg0) = m ((c.tc : Thread Cert.KeysSecond.nD Cert.KeysSecond.τ).loc Cert.KeysSecond.main_arg0)
      ∧ r.2.mem ((c.tc : Thread Cert.KeysSecond.nD Cert.KeysSecond.τ).loc Cert.KeysSecond.main_arg1) = m ((c.tc : Thread Cert.KeysSecond.nD Cert.KeysSecond.τ).loc Cert.KeysSecond.main_arg1)
      ∧ r.2.mem ((c.tc : Thread Cert.KeysSecond.nD Cert.KeysSecond.τ).loc Cert.KeysSecond.main_arg2) = m ((c.tc : Thread Cert.KeysSecond.nD Cert.KeysSecond.τ).loc Cert.KeysSecond.main_arg2))
      ∧ r.2.sem = fun _ => 0)

def quiescent_KeysSecondIdeal [hKeysSecondIdeal : Cert.KeysSecondIdeal.Facts] : Prop :=
  ∀ (m : (ℓ : Loc Cert.KeysSecondIdeal.nD Cert.KeysSecondIdeal.τ Cert.KeysSecondIdeal.sig) → Buf (Elt Ideal) ℓ) (g : Dev Cert.KeysSecondIdeal.nD → PrngReg), Pre_KeysSecondIdeal m →
    θ_run (Cert.KeysSecondIdeal.defs (F := Ideal)) (onTc (τ := Cert.KeysSecondIdeal.τ) (Cert.KeysSecondIdeal.main (F := Ideal))) ⟨m, fun _ => 0, g⟩ (fun r => (∀ c : Dev Cert.KeysSecondIdeal.nD,
      r.2.mem ((c.tc : Thread Cert.KeysSecondIdeal.nD Cert.KeysSecondIdeal.τ).loc Cert.KeysSecondIdeal.main_arg0) = m ((c.tc : Thread Cert.KeysSecondIdeal.nD Cert.KeysSecondIdeal.τ).loc Cert.KeysSecondIdeal.main_arg0)
      ∧ r.2.mem ((c.tc : Thread Cert.KeysSecondIdeal.nD Cert.KeysSecondIdeal.τ).loc Cert.KeysSecondIdeal.main_arg1) = m ((c.tc : Thread Cert.KeysSecondIdeal.nD Cert.KeysSecondIdeal.τ).loc Cert.KeysSecondIdeal.main_arg1)
      ∧ r.2.mem ((c.tc : Thread Cert.KeysSecondIdeal.nD Cert.KeysSecondIdeal.τ).loc Cert.KeysSecondIdeal.main_arg2) = m ((c.tc : Thread Cert.KeysSecondIdeal.nD Cert.KeysSecondIdeal.τ).loc Cert.KeysSecondIdeal.main_arg2))
      ∧ r.2.sem = fun _ => 0)

def quiescent_ReferenceKeysSecondIdeal [hReferenceKeysSecondIdeal : Cert.ReferenceKeysSecondIdeal.Facts] : Prop :=
  ∀ (m : (ℓ : Loc Cert.ReferenceKeysSecondIdeal.nD Cert.ReferenceKeysSecondIdeal.τ Cert.ReferenceKeysSecondIdeal.sig) → Buf (Elt Ideal) ℓ) (g : Dev Cert.ReferenceKeysSecondIdeal.nD → PrngReg), Pre_ReferenceKeysSecondIdeal m →
    θ_run (Cert.ReferenceKeysSecondIdeal.defs (F := Ideal)) (onTc (τ := Cert.ReferenceKeysSecondIdeal.τ) (Cert.ReferenceKeysSecondIdeal.main (F := Ideal))) ⟨m, fun _ => 0, g⟩ (fun r => (∀ c : Dev Cert.ReferenceKeysSecondIdeal.nD,
      r.2.mem ((c.tc : Thread Cert.ReferenceKeysSecondIdeal.nD Cert.ReferenceKeysSecondIdeal.τ).loc Cert.ReferenceKeysSecondIdeal.main_arg0) = m ((c.tc : Thread Cert.ReferenceKeysSecondIdeal.nD Cert.ReferenceKeysSecondIdeal.τ).loc Cert.ReferenceKeysSecondIdeal.main_arg0)
      ∧ r.2.mem ((c.tc : Thread Cert.ReferenceKeysSecondIdeal.nD Cert.ReferenceKeysSecondIdeal.τ).loc Cert.ReferenceKeysSecondIdeal.main_arg1) = m ((c.tc : Thread Cert.ReferenceKeysSecondIdeal.nD Cert.ReferenceKeysSecondIdeal.τ).loc Cert.ReferenceKeysSecondIdeal.main_arg1)
      ∧ r.2.mem ((c.tc : Thread Cert.ReferenceKeysSecondIdeal.nD Cert.ReferenceKeysSecondIdeal.τ).loc Cert.ReferenceKeysSecondIdeal.main_arg2) = m ((c.tc : Thread Cert.ReferenceKeysSecondIdeal.nD Cert.ReferenceKeysSecondIdeal.τ).loc Cert.ReferenceKeysSecondIdeal.main_arg2))
      ∧ r.2.sem = fun _ => 0)

def quiescent_ValuesFirst [hValuesFirst : Cert.ValuesFirst.Facts] : Prop :=
  ∀ (m : (ℓ : Loc Cert.ValuesFirst.nD Cert.ValuesFirst.τ Cert.ValuesFirst.sig) → Buf (Elt Bits) ℓ) (g : Dev Cert.ValuesFirst.nD → PrngReg), Pre_ValuesFirst m →
    θ_run (Cert.ValuesFirst.defs (F := Bits)) (onTc (τ := Cert.ValuesFirst.τ) (Cert.ValuesFirst.main (F := Bits))) ⟨m, fun _ => 0, g⟩ (fun r => (∀ c : Dev Cert.ValuesFirst.nD,
      r.2.mem ((c.tc : Thread Cert.ValuesFirst.nD Cert.ValuesFirst.τ).loc Cert.ValuesFirst.main_arg0) = m ((c.tc : Thread Cert.ValuesFirst.nD Cert.ValuesFirst.τ).loc Cert.ValuesFirst.main_arg0)
      ∧ r.2.mem ((c.tc : Thread Cert.ValuesFirst.nD Cert.ValuesFirst.τ).loc Cert.ValuesFirst.main_arg1) = m ((c.tc : Thread Cert.ValuesFirst.nD Cert.ValuesFirst.τ).loc Cert.ValuesFirst.main_arg1))
      ∧ r.2.sem = fun _ => 0)

def quiescent_ValuesFirstIdeal [hValuesFirstIdeal : Cert.ValuesFirstIdeal.Facts] : Prop :=
  ∀ (m : (ℓ : Loc Cert.ValuesFirstIdeal.nD Cert.ValuesFirstIdeal.τ Cert.ValuesFirstIdeal.sig) → Buf (Elt Ideal) ℓ) (g : Dev Cert.ValuesFirstIdeal.nD → PrngReg), Pre_ValuesFirstIdeal m →
    θ_run (Cert.ValuesFirstIdeal.defs (F := Ideal)) (onTc (τ := Cert.ValuesFirstIdeal.τ) (Cert.ValuesFirstIdeal.main (F := Ideal))) ⟨m, fun _ => 0, g⟩ (fun r => (∀ c : Dev Cert.ValuesFirstIdeal.nD,
      r.2.mem ((c.tc : Thread Cert.ValuesFirstIdeal.nD Cert.ValuesFirstIdeal.τ).loc Cert.ValuesFirstIdeal.main_arg0) = m ((c.tc : Thread Cert.ValuesFirstIdeal.nD Cert.ValuesFirstIdeal.τ).loc Cert.ValuesFirstIdeal.main_arg0)
      ∧ r.2.mem ((c.tc : Thread Cert.ValuesFirstIdeal.nD Cert.ValuesFirstIdeal.τ).loc Cert.ValuesFirstIdeal.main_arg1) = m ((c.tc : Thread Cert.ValuesFirstIdeal.nD Cert.ValuesFirstIdeal.τ).loc Cert.ValuesFirstIdeal.main_arg1))
      ∧ r.2.sem = fun _ => 0)

def quiescent_ReferenceValuesFirstIdeal [hReferenceValuesFirstIdeal : Cert.ReferenceValuesFirstIdeal.Facts] : Prop :=
  ∀ (m : (ℓ : Loc Cert.ReferenceValuesFirstIdeal.nD Cert.ReferenceValuesFirstIdeal.τ Cert.ReferenceValuesFirstIdeal.sig) → Buf (Elt Ideal) ℓ) (g : Dev Cert.ReferenceValuesFirstIdeal.nD → PrngReg), Pre_ReferenceValuesFirstIdeal m →
    θ_run (Cert.ReferenceValuesFirstIdeal.defs (F := Ideal)) (onTc (τ := Cert.ReferenceValuesFirstIdeal.τ) (Cert.ReferenceValuesFirstIdeal.main (F := Ideal))) ⟨m, fun _ => 0, g⟩ (fun r => (∀ c : Dev Cert.ReferenceValuesFirstIdeal.nD,
      r.2.mem ((c.tc : Thread Cert.ReferenceValuesFirstIdeal.nD Cert.ReferenceValuesFirstIdeal.τ).loc Cert.ReferenceValuesFirstIdeal.main_arg0) = m ((c.tc : Thread Cert.ReferenceValuesFirstIdeal.nD Cert.ReferenceValuesFirstIdeal.τ).loc Cert.ReferenceValuesFirstIdeal.main_arg0)
      ∧ r.2.mem ((c.tc : Thread Cert.ReferenceValuesFirstIdeal.nD Cert.ReferenceValuesFirstIdeal.τ).loc Cert.ReferenceValuesFirstIdeal.main_arg1) = m ((c.tc : Thread Cert.ReferenceValuesFirstIdeal.nD Cert.ReferenceValuesFirstIdeal.τ).loc Cert.ReferenceValuesFirstIdeal.main_arg1))
      ∧ r.2.sem = fun _ => 0)

def quiescent_ValuesSecond [hValuesSecond : Cert.ValuesSecond.Facts] : Prop :=
  ∀ (m : (ℓ : Loc Cert.ValuesSecond.nD Cert.ValuesSecond.τ Cert.ValuesSecond.sig) → Buf (Elt Bits) ℓ) (g : Dev Cert.ValuesSecond.nD → PrngReg), Pre_ValuesSecond m →
    θ_run (Cert.ValuesSecond.defs (F := Bits)) (onTc (τ := Cert.ValuesSecond.τ) (Cert.ValuesSecond.main (F := Bits))) ⟨m, fun _ => 0, g⟩ (fun r => (∀ c : Dev Cert.ValuesSecond.nD,
      r.2.mem ((c.tc : Thread Cert.ValuesSecond.nD Cert.ValuesSecond.τ).loc Cert.ValuesSecond.main_arg0) = m ((c.tc : Thread Cert.ValuesSecond.nD Cert.ValuesSecond.τ).loc Cert.ValuesSecond.main_arg0)
      ∧ r.2.mem ((c.tc : Thread Cert.ValuesSecond.nD Cert.ValuesSecond.τ).loc Cert.ValuesSecond.main_arg1) = m ((c.tc : Thread Cert.ValuesSecond.nD Cert.ValuesSecond.τ).loc Cert.ValuesSecond.main_arg1)
      ∧ r.2.mem ((c.tc : Thread Cert.ValuesSecond.nD Cert.ValuesSecond.τ).loc Cert.ValuesSecond.main_arg2) = m ((c.tc : Thread Cert.ValuesSecond.nD Cert.ValuesSecond.τ).loc Cert.ValuesSecond.main_arg2))
      ∧ r.2.sem = fun _ => 0)

def quiescent_ValuesSecondIdeal [hValuesSecondIdeal : Cert.ValuesSecondIdeal.Facts] : Prop :=
  ∀ (m : (ℓ : Loc Cert.ValuesSecondIdeal.nD Cert.ValuesSecondIdeal.τ Cert.ValuesSecondIdeal.sig) → Buf (Elt Ideal) ℓ) (g : Dev Cert.ValuesSecondIdeal.nD → PrngReg), Pre_ValuesSecondIdeal m →
    θ_run (Cert.ValuesSecondIdeal.defs (F := Ideal)) (onTc (τ := Cert.ValuesSecondIdeal.τ) (Cert.ValuesSecondIdeal.main (F := Ideal))) ⟨m, fun _ => 0, g⟩ (fun r => (∀ c : Dev Cert.ValuesSecondIdeal.nD,
      r.2.mem ((c.tc : Thread Cert.ValuesSecondIdeal.nD Cert.ValuesSecondIdeal.τ).loc Cert.ValuesSecondIdeal.main_arg0) = m ((c.tc : Thread Cert.ValuesSecondIdeal.nD Cert.ValuesSecondIdeal.τ).loc Cert.ValuesSecondIdeal.main_arg0)
      ∧ r.2.mem ((c.tc : Thread Cert.ValuesSecondIdeal.nD Cert.ValuesSecondIdeal.τ).loc Cert.ValuesSecondIdeal.main_arg1) = m ((c.tc : Thread Cert.ValuesSecondIdeal.nD Cert.ValuesSecondIdeal.τ).loc Cert.ValuesSecondIdeal.main_arg1)
      ∧ r.2.mem ((c.tc : Thread Cert.ValuesSecondIdeal.nD Cert.ValuesSecondIdeal.τ).loc Cert.ValuesSecondIdeal.main_arg2) = m ((c.tc : Thread Cert.ValuesSecondIdeal.nD Cert.ValuesSecondIdeal.τ).loc Cert.ValuesSecondIdeal.main_arg2))
      ∧ r.2.sem = fun _ => 0)

def quiescent_ReferenceValuesSecondIdeal [hReferenceValuesSecondIdeal : Cert.ReferenceValuesSecondIdeal.Facts] : Prop :=
  ∀ (m : (ℓ : Loc Cert.ReferenceValuesSecondIdeal.nD Cert.ReferenceValuesSecondIdeal.τ Cert.ReferenceValuesSecondIdeal.sig) → Buf (Elt Ideal) ℓ) (g : Dev Cert.ReferenceValuesSecondIdeal.nD → PrngReg), Pre_ReferenceValuesSecondIdeal m →
    θ_run (Cert.ReferenceValuesSecondIdeal.defs (F := Ideal)) (onTc (τ := Cert.ReferenceValuesSecondIdeal.τ) (Cert.ReferenceValuesSecondIdeal.main (F := Ideal))) ⟨m, fun _ => 0, g⟩ (fun r => (∀ c : Dev Cert.ReferenceValuesSecondIdeal.nD,
      r.2.mem ((c.tc : Thread Cert.ReferenceValuesSecondIdeal.nD Cert.ReferenceValuesSecondIdeal.τ).loc Cert.ReferenceValuesSecondIdeal.main_arg0) = m ((c.tc : Thread Cert.ReferenceValuesSecondIdeal.nD Cert.ReferenceValuesSecondIdeal.τ).loc Cert.ReferenceValuesSecondIdeal.main_arg0)
      ∧ r.2.mem ((c.tc : Thread Cert.ReferenceValuesSecondIdeal.nD Cert.ReferenceValuesSecondIdeal.τ).loc Cert.ReferenceValuesSecondIdeal.main_arg1) = m ((c.tc : Thread Cert.ReferenceValuesSecondIdeal.nD Cert.ReferenceValuesSecondIdeal.τ).loc Cert.ReferenceValuesSecondIdeal.main_arg1)
      ∧ r.2.mem ((c.tc : Thread Cert.ReferenceValuesSecondIdeal.nD Cert.ReferenceValuesSecondIdeal.τ).loc Cert.ReferenceValuesSecondIdeal.main_arg2) = m ((c.tc : Thread Cert.ReferenceValuesSecondIdeal.nD Cert.ReferenceValuesSecondIdeal.τ).loc Cert.ReferenceValuesSecondIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11)
      ∧ r.2.mem ((c.tc : Thread Cert.ReferenceMergeIdeal.nD Cert.ReferenceMergeIdeal.τ).loc Cert.ReferenceMergeIdeal.main_arg12) = m ((c.tc : Thread Cert.ReferenceMergeIdeal.nD Cert.ReferenceMergeIdeal.τ).loc Cert.ReferenceMergeIdeal.main_arg12)
      ∧ r.2.mem ((c.tc : Thread Cert.ReferenceMergeIdeal.nD Cert.ReferenceMergeIdeal.τ).loc Cert.ReferenceMergeIdeal.main_arg13) = m ((c.tc : Thread Cert.ReferenceMergeIdeal.nD Cert.ReferenceMergeIdeal.τ).loc Cert.ReferenceMergeIdeal.main_arg13)
      ∧ r.2.mem ((c.tc : Thread Cert.ReferenceMergeIdeal.nD Cert.ReferenceMergeIdeal.τ).loc Cert.ReferenceMergeIdeal.main_arg14) = m ((c.tc : Thread Cert.ReferenceMergeIdeal.nD Cert.ReferenceMergeIdeal.τ).loc Cert.ReferenceMergeIdeal.main_arg14)
      ∧ r.2.mem ((c.tc : Thread Cert.ReferenceMergeIdeal.nD Cert.ReferenceMergeIdeal.τ).loc Cert.ReferenceMergeIdeal.main_arg15) = m ((c.tc : Thread Cert.ReferenceMergeIdeal.nD Cert.ReferenceMergeIdeal.τ).loc Cert.ReferenceMergeIdeal.main_arg15))
      ∧ r.2.sem = fun _ => 0)

def quiescent_ForgetFirst [hForgetFirst : Cert.ForgetFirst.Facts] : Prop :=
  ∀ (m : (ℓ : Loc Cert.ForgetFirst.nD Cert.ForgetFirst.τ Cert.ForgetFirst.sig) → Buf (Elt Bits) ℓ) (g : Dev Cert.ForgetFirst.nD → PrngReg), Pre_ForgetFirst m →
    θ_run (Cert.ForgetFirst.defs (F := Bits)) (onTc (τ := Cert.ForgetFirst.τ) (Cert.ForgetFirst.main (F := Bits))) ⟨m, fun _ => 0, g⟩ (fun r => (∀ c : Dev Cert.ForgetFirst.nD,
      r.2.mem ((c.tc : Thread Cert.ForgetFirst.nD Cert.ForgetFirst.τ).loc Cert.ForgetFirst.main_arg0) = m ((c.tc : Thread Cert.ForgetFirst.nD Cert.ForgetFirst.τ).loc Cert.ForgetFirst.main_arg0)
      ∧ r.2.mem ((c.tc : Thread Cert.ForgetFirst.nD Cert.ForgetFirst.τ).loc Cert.ForgetFirst.main_arg1) = m ((c.tc : Thread Cert.ForgetFirst.nD Cert.ForgetFirst.τ).loc Cert.ForgetFirst.main_arg1)
      ∧ r.2.mem ((c.tc : Thread Cert.ForgetFirst.nD Cert.ForgetFirst.τ).loc Cert.ForgetFirst.main_arg2) = m ((c.tc : Thread Cert.ForgetFirst.nD Cert.ForgetFirst.τ).loc Cert.ForgetFirst.main_arg2))
      ∧ r.2.sem = fun _ => 0)

def quiescent_ForgetFirstIdeal [hForgetFirstIdeal : Cert.ForgetFirstIdeal.Facts] : Prop :=
  ∀ (m : (ℓ : Loc Cert.ForgetFirstIdeal.nD Cert.ForgetFirstIdeal.τ Cert.ForgetFirstIdeal.sig) → Buf (Elt Ideal) ℓ) (g : Dev Cert.ForgetFirstIdeal.nD → PrngReg), Pre_ForgetFirstIdeal m →
    θ_run (Cert.ForgetFirstIdeal.defs (F := Ideal)) (onTc (τ := Cert.ForgetFirstIdeal.τ) (Cert.ForgetFirstIdeal.main (F := Ideal))) ⟨m, fun _ => 0, g⟩ (fun r => (∀ c : Dev Cert.ForgetFirstIdeal.nD,
      r.2.mem ((c.tc : Thread Cert.ForgetFirstIdeal.nD Cert.ForgetFirstIdeal.τ).loc Cert.ForgetFirstIdeal.main_arg0) = m ((c.tc : Thread Cert.ForgetFirstIdeal.nD Cert.ForgetFirstIdeal.τ).loc Cert.ForgetFirstIdeal.main_arg0)
      ∧ r.2.mem ((c.tc : Thread Cert.ForgetFirstIdeal.nD Cert.ForgetFirstIdeal.τ).loc Cert.ForgetFirstIdeal.main_arg1) = m ((c.tc : Thread Cert.ForgetFirstIdeal.nD Cert.ForgetFirstIdeal.τ).loc Cert.ForgetFirstIdeal.main_arg1)
      ∧ r.2.mem ((c.tc : Thread Cert.ForgetFirstIdeal.nD Cert.ForgetFirstIdeal.τ).loc Cert.ForgetFirstIdeal.main_arg2) = m ((c.tc : Thread Cert.ForgetFirstIdeal.nD Cert.ForgetFirstIdeal.τ).loc Cert.ForgetFirstIdeal.main_arg2))
      ∧ r.2.sem = fun _ => 0)

def quiescent_ReferenceForgetFirstIdeal [hReferenceForgetFirstIdeal : Cert.ReferenceForgetFirstIdeal.Facts] : Prop :=
  ∀ (m : (ℓ : Loc Cert.ReferenceForgetFirstIdeal.nD Cert.ReferenceForgetFirstIdeal.τ Cert.ReferenceForgetFirstIdeal.sig) → Buf (Elt Ideal) ℓ) (g : Dev Cert.ReferenceForgetFirstIdeal.nD → PrngReg), Pre_ReferenceForgetFirstIdeal m →
    θ_run (Cert.ReferenceForgetFirstIdeal.defs (F := Ideal)) (onTc (τ := Cert.ReferenceForgetFirstIdeal.τ) (Cert.ReferenceForgetFirstIdeal.main (F := Ideal))) ⟨m, fun _ => 0, g⟩ (fun r => (∀ c : Dev Cert.ReferenceForgetFirstIdeal.nD,
      r.2.mem ((c.tc : Thread Cert.ReferenceForgetFirstIdeal.nD Cert.ReferenceForgetFirstIdeal.τ).loc Cert.ReferenceForgetFirstIdeal.main_arg0) = m ((c.tc : Thread Cert.ReferenceForgetFirstIdeal.nD Cert.ReferenceForgetFirstIdeal.τ).loc Cert.ReferenceForgetFirstIdeal.main_arg0)
      ∧ r.2.mem ((c.tc : Thread Cert.ReferenceForgetFirstIdeal.nD Cert.ReferenceForgetFirstIdeal.τ).loc Cert.ReferenceForgetFirstIdeal.main_arg1) = m ((c.tc : Thread Cert.ReferenceForgetFirstIdeal.nD Cert.ReferenceForgetFirstIdeal.τ).loc Cert.ReferenceForgetFirstIdeal.main_arg1)
      ∧ r.2.mem ((c.tc : Thread Cert.ReferenceForgetFirstIdeal.nD Cert.ReferenceForgetFirstIdeal.τ).loc Cert.ReferenceForgetFirstIdeal.main_arg2) = m ((c.tc : Thread Cert.ReferenceForgetFirstIdeal.nD Cert.ReferenceForgetFirstIdeal.τ).loc Cert.ReferenceForgetFirstIdeal.main_arg2))
      ∧ r.2.sem = fun _ => 0)

def quiescent_ForgetSecond [hForgetSecond : Cert.ForgetSecond.Facts] : Prop :=
  ∀ (m : (ℓ : Loc Cert.ForgetSecond.nD Cert.ForgetSecond.τ Cert.ForgetSecond.sig) → Buf (Elt Bits) ℓ) (g : Dev Cert.ForgetSecond.nD → PrngReg), Pre_ForgetSecond m →
    θ_run (Cert.ForgetSecond.defs (F := Bits)) (onTc (τ := Cert.ForgetSecond.τ) (Cert.ForgetSecond.main (F := Bits))) ⟨m, fun _ => 0, g⟩ (fun r => (∀ c : Dev Cert.ForgetSecond.nD,
      r.2.mem ((c.tc : Thread Cert.ForgetSecond.nD Cert.ForgetSecond.τ).loc Cert.ForgetSecond.main_arg0) = m ((c.tc : Thread Cert.ForgetSecond.nD Cert.ForgetSecond.τ).loc Cert.ForgetSecond.main_arg0)
      ∧ r.2.mem ((c.tc : Thread Cert.ForgetSecond.nD Cert.ForgetSecond.τ).loc Cert.ForgetSecond.main_arg1) = m ((c.tc : Thread Cert.ForgetSecond.nD Cert.ForgetSecond.τ).loc Cert.ForgetSecond.main_arg1)
      ∧ r.2.mem ((c.tc : Thread Cert.ForgetSecond.nD Cert.ForgetSecond.τ).loc Cert.ForgetSecond.main_arg2) = m ((c.tc : Thread Cert.ForgetSecond.nD Cert.ForgetSecond.τ).loc Cert.ForgetSecond.main_arg2)
      ∧ r.2.mem ((c.tc : Thread Cert.ForgetSecond.nD Cert.ForgetSecond.τ).loc Cert.ForgetSecond.main_arg3) = m ((c.tc : Thread Cert.ForgetSecond.nD Cert.ForgetSecond.τ).loc Cert.ForgetSecond.main_arg3))
      ∧ r.2.sem = fun _ => 0)

def quiescent_ForgetSecondIdeal [hForgetSecondIdeal : Cert.ForgetSecondIdeal.Facts] : Prop :=
  ∀ (m : (ℓ : Loc Cert.ForgetSecondIdeal.nD Cert.ForgetSecondIdeal.τ Cert.ForgetSecondIdeal.sig) → Buf (Elt Ideal) ℓ) (g : Dev Cert.ForgetSecondIdeal.nD → PrngReg), Pre_ForgetSecondIdeal m →
    θ_run (Cert.ForgetSecondIdeal.defs (F := Ideal)) (onTc (τ := Cert.ForgetSecondIdeal.τ) (Cert.ForgetSecondIdeal.main (F := Ideal))) ⟨m, fun _ => 0, g⟩ (fun r => (∀ c : Dev Cert.ForgetSecondIdeal.nD,
      r.2.mem ((c.tc : Thread Cert.ForgetSecondIdeal.nD Cert.ForgetSecondIdeal.τ).loc Cert.ForgetSecondIdeal.main_arg0) = m ((c.tc : Thread Cert.ForgetSecondIdeal.nD Cert.ForgetSecondIdeal.τ).loc Cert.ForgetSecondIdeal.main_arg0)
      ∧ r.2.mem ((c.tc : Thread Cert.ForgetSecondIdeal.nD Cert.ForgetSecondIdeal.τ).loc Cert.ForgetSecondIdeal.main_arg1) = m ((c.tc : Thread Cert.ForgetSecondIdeal.nD Cert.ForgetSecondIdeal.τ).loc Cert.ForgetSecondIdeal.main_arg1)
      ∧ r.2.mem ((c.tc : Thread Cert.ForgetSecondIdeal.nD Cert.ForgetSecondIdeal.τ).loc Cert.ForgetSecondIdeal.main_arg2) = m ((c.tc : Thread Cert.ForgetSecondIdeal.nD Cert.ForgetSecondIdeal.τ).loc Cert.ForgetSecondIdeal.main_arg2)
      ∧ r.2.mem ((c.tc : Thread Cert.ForgetSecondIdeal.nD Cert.ForgetSecondIdeal.τ).loc Cert.ForgetSecondIdeal.main_arg3) = m ((c.tc : Thread Cert.ForgetSecondIdeal.nD Cert.ForgetSecondIdeal.τ).loc Cert.ForgetSecondIdeal.main_arg3))
      ∧ r.2.sem = fun _ => 0)

def quiescent_ReferenceForgetSecondIdeal [hReferenceForgetSecondIdeal : Cert.ReferenceForgetSecondIdeal.Facts] : Prop :=
  ∀ (m : (ℓ : Loc Cert.ReferenceForgetSecondIdeal.nD Cert.ReferenceForgetSecondIdeal.τ Cert.ReferenceForgetSecondIdeal.sig) → Buf (Elt Ideal) ℓ) (g : Dev Cert.ReferenceForgetSecondIdeal.nD → PrngReg), Pre_ReferenceForgetSecondIdeal m →
    θ_run (Cert.ReferenceForgetSecondIdeal.defs (F := Ideal)) (onTc (τ := Cert.ReferenceForgetSecondIdeal.τ) (Cert.ReferenceForgetSecondIdeal.main (F := Ideal))) ⟨m, fun _ => 0, g⟩ (fun r => (∀ c : Dev Cert.ReferenceForgetSecondIdeal.nD,
      r.2.mem ((c.tc : Thread Cert.ReferenceForgetSecondIdeal.nD Cert.ReferenceForgetSecondIdeal.τ).loc Cert.ReferenceForgetSecondIdeal.main_arg0) = m ((c.tc : Thread Cert.ReferenceForgetSecondIdeal.nD Cert.ReferenceForgetSecondIdeal.τ).loc Cert.ReferenceForgetSecondIdeal.main_arg0)
      ∧ r.2.mem ((c.tc : Thread Cert.ReferenceForgetSecondIdeal.nD Cert.ReferenceForgetSecondIdeal.τ).loc Cert.ReferenceForgetSecondIdeal.main_arg1) = m ((c.tc : Thread Cert.ReferenceForgetSecondIdeal.nD Cert.ReferenceForgetSecondIdeal.τ).loc Cert.ReferenceForgetSecondIdeal.main_arg1)
      ∧ r.2.mem ((c.tc : Thread Cert.ReferenceForgetSecondIdeal.nD Cert.ReferenceForgetSecondIdeal.τ).loc Cert.ReferenceForgetSecondIdeal.main_arg2) = m ((c.tc : Thread Cert.ReferenceForgetSecondIdeal.nD Cert.ReferenceForgetSecondIdeal.τ).loc Cert.ReferenceForgetSecondIdeal.main_arg2)
      ∧ r.2.mem ((c.tc : Thread Cert.ReferenceForgetSecondIdeal.nD Cert.ReferenceForgetSecondIdeal.τ).loc Cert.ReferenceForgetSecondIdeal.main_arg3) = m ((c.tc : Thread Cert.ReferenceForgetSecondIdeal.nD Cert.ReferenceForgetSecondIdeal.τ).loc Cert.ReferenceForgetSecondIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ProjectZX_ProjectZXIdeal : Prop :=
  True

def algebraic_ProjectZXIdeal_ReferenceProjectZXIdeal [hProjectZXIdeal : Cert.ProjectZXIdeal.Facts] [hReferenceProjectZXIdeal : Cert.ReferenceProjectZXIdeal.Facts] : Prop :=
  ∀ (m : (ℓ : Loc Cert.ProjectZXIdeal.nD Cert.ProjectZXIdeal.τ Cert.ProjectZXIdeal.sig) → Buf (Elt Ideal) ℓ) (g : Dev Cert.ProjectZXIdeal.nD → PrngReg)
    (m' : (ℓ : Loc Cert.ReferenceProjectZXIdeal.nD Cert.ReferenceProjectZXIdeal.τ Cert.ReferenceProjectZXIdeal.sig) → Buf (Elt Ideal) ℓ) (g' : Dev Cert.ReferenceProjectZXIdeal.nD → PrngReg), Pre_ProjectZXIdeal m →
    (∀ c : Dev Cert.ProjectZXIdeal.nD,
      m' ((c.tc : Thread Cert.ReferenceProjectZXIdeal.nD Cert.ReferenceProjectZXIdeal.τ).loc Cert.ReferenceProjectZXIdeal.main_arg0) = m ((c.tc : Thread Cert.ProjectZXIdeal.nD Cert.ProjectZXIdeal.τ).loc Cert.ProjectZXIdeal.main_arg0)
      ∧ m' ((c.tc : Thread Cert.ReferenceProjectZXIdeal.nD Cert.ReferenceProjectZXIdeal.τ).loc Cert.ReferenceProjectZXIdeal.main_arg1) = m ((c.tc : Thread Cert.ProjectZXIdeal.nD Cert.ProjectZXIdeal.τ).loc Cert.ProjectZXIdeal.main_arg1)) →
    ∃ (v0 : (c : Dev Cert.ProjectZXIdeal.nD) → Buf (Elt Ideal) ((c.tc : Thread Cert.ProjectZXIdeal.nD Cert.ProjectZXIdeal.τ).loc Cert.ProjectZXIdeal.main_v7)),
      θ_run (Cert.ProjectZXIdeal.defs (F := Ideal)) (onTc (τ := Cert.ProjectZXIdeal.τ) (Cert.ProjectZXIdeal.main (F := Ideal))) ⟨m, fun _ => 0, g⟩ (fun r => ∀ c : Dev Cert.ProjectZXIdeal.nD,
          r.2.mem ((c.tc : Thread Cert.ProjectZXIdeal.nD Cert.ProjectZXIdeal.τ).loc Cert.ProjectZXIdeal.main_v7) = v0 c
          ∧ r.2.mem ((c.tc : Thread Cert.ProjectZXIdeal.nD Cert.ProjectZXIdeal.τ).loc Cert.ProjectZXIdeal.main_arg0) = m ((c.tc : Thread Cert.ProjectZXIdeal.nD Cert.ProjectZXIdeal.τ).loc Cert.ProjectZXIdeal.main_arg0)
          ∧ r.2.mem ((c.tc : Thread Cert.ProjectZXIdeal.nD Cert.ProjectZXIdeal.τ).loc Cert.ProjectZXIdeal.main_arg1) = m ((c.tc : Thread Cert.ProjectZXIdeal.nD Cert.ProjectZXIdeal.τ).loc Cert.ProjectZXIdeal.main_arg1))
      ∧ θ_run (Cert.ReferenceProjectZXIdeal.defs (F := Ideal)) (onTc (τ := Cert.ReferenceProjectZXIdeal.τ) (Cert.ReferenceProjectZXIdeal.main (F := Ideal))) ⟨m', fun _ => 0, g'⟩ (fun r => ∀ c : Dev Cert.ReferenceProjectZXIdeal.nD,
          r.2.mem ((c.tc : Thread Cert.ReferenceProjectZXIdeal.nD Cert.ReferenceProjectZXIdeal.τ).loc Cert.ReferenceProjectZXIdeal.main_v5) = v0 c
          ∧ r.2.mem ((c.tc : Thread Cert.ReferenceProjectZXIdeal.nD Cert.ReferenceProjectZXIdeal.τ).loc Cert.ReferenceProjectZXIdeal.main_arg0) = m' ((c.tc : Thread Cert.ReferenceProjectZXIdeal.nD Cert.ReferenceProjectZXIdeal.τ).loc Cert.ReferenceProjectZXIdeal.main_arg0)
          ∧ r.2.mem ((c.tc : Thread Cert.ReferenceProjectZXIdeal.nD Cert.ReferenceProjectZXIdeal.τ).loc Cert.ReferenceProjectZXIdeal.main_arg1) = m' ((c.tc : Thread Cert.ReferenceProjectZXIdeal.nD Cert.ReferenceProjectZXIdeal.τ).loc Cert.ReferenceProjectZXIdeal.main_arg1))

def preserves_ProjectQG_ProjectQGIdeal : Prop :=
  True

def algebraic_ProjectQGIdeal_ReferenceProjectQGIdeal [hProjectQGIdeal : Cert.ProjectQGIdeal.Facts] [hReferenceProjectQGIdeal : Cert.ReferenceProjectQGIdeal.Facts] : Prop :=
  ∀ (m : (ℓ : Loc Cert.ProjectQGIdeal.nD Cert.ProjectQGIdeal.τ Cert.ProjectQGIdeal.sig) → Buf (Elt Ideal) ℓ) (g : Dev Cert.ProjectQGIdeal.nD → PrngReg)
    (m' : (ℓ : Loc Cert.ReferenceProjectQGIdeal.nD Cert.ReferenceProjectQGIdeal.τ Cert.ReferenceProjectQGIdeal.sig) → Buf (Elt Ideal) ℓ) (g' : Dev Cert.ReferenceProjectQGIdeal.nD → PrngReg), Pre_ProjectQGIdeal m →
    (∀ c : Dev Cert.ProjectQGIdeal.nD,
      m' ((c.tc : Thread Cert.ReferenceProjectQGIdeal.nD Cert.ReferenceProjectQGIdeal.τ).loc Cert.ReferenceProjectQGIdeal.main_arg0) = m ((c.tc : Thread Cert.ProjectQGIdeal.nD Cert.ProjectQGIdeal.τ).loc Cert.ProjectQGIdeal.main_arg0)
      ∧ m' ((c.tc : Thread Cert.ReferenceProjectQGIdeal.nD Cert.ReferenceProjectQGIdeal.τ).loc Cert.ReferenceProjectQGIdeal.main_arg1) = m ((c.tc : Thread Cert.ProjectQGIdeal.nD Cert.ProjectQGIdeal.τ).loc Cert.ProjectQGIdeal.main_arg1)) →
    ∃ (v0 : (c : Dev Cert.ProjectQGIdeal.nD) → Buf (Elt Ideal) ((c.tc : Thread Cert.ProjectQGIdeal.nD Cert.ProjectQGIdeal.τ).loc Cert.ProjectQGIdeal.main_v13)),
      θ_run (Cert.ProjectQGIdeal.defs (F := Ideal)) (onTc (τ := Cert.ProjectQGIdeal.τ) (Cert.ProjectQGIdeal.main (F := Ideal))) ⟨m, fun _ => 0, g⟩ (fun r => ∀ c : Dev Cert.ProjectQGIdeal.nD,
          r.2.mem ((c.tc : Thread Cert.ProjectQGIdeal.nD Cert.ProjectQGIdeal.τ).loc Cert.ProjectQGIdeal.main_v13) = v0 c
          ∧ r.2.mem ((c.tc : Thread Cert.ProjectQGIdeal.nD Cert.ProjectQGIdeal.τ).loc Cert.ProjectQGIdeal.main_arg0) = m ((c.tc : Thread Cert.ProjectQGIdeal.nD Cert.ProjectQGIdeal.τ).loc Cert.ProjectQGIdeal.main_arg0)
          ∧ r.2.mem ((c.tc : Thread Cert.ProjectQGIdeal.nD Cert.ProjectQGIdeal.τ).loc Cert.ProjectQGIdeal.main_arg1) = m ((c.tc : Thread Cert.ProjectQGIdeal.nD Cert.ProjectQGIdeal.τ).loc Cert.ProjectQGIdeal.main_arg1))
      ∧ θ_run (Cert.ReferenceProjectQGIdeal.defs (F := Ideal)) (onTc (τ := Cert.ReferenceProjectQGIdeal.τ) (Cert.ReferenceProjectQGIdeal.main (F := Ideal))) ⟨m', fun _ => 0, g'⟩ (fun r => ∀ c : Dev Cert.ReferenceProjectQGIdeal.nD,
          r.2.mem ((c.tc : Thread Cert.ReferenceProjectQGIdeal.nD Cert.ReferenceProjectQGIdeal.τ).loc Cert.ReferenceProjectQGIdeal.main_v14) = v0 c
          ∧ r.2.mem ((c.tc : Thread Cert.ReferenceProjectQGIdeal.nD Cert.ReferenceProjectQGIdeal.τ).loc Cert.ReferenceProjectQGIdeal.main_arg0) = m' ((c.tc : Thread Cert.ReferenceProjectQGIdeal.nD Cert.ReferenceProjectQGIdeal.τ).loc Cert.ReferenceProjectQGIdeal.main_arg0)
          ∧ r.2.mem ((c.tc : Thread Cert.ReferenceProjectQGIdeal.nD Cert.ReferenceProjectQGIdeal.τ).loc Cert.ReferenceProjectQGIdeal.main_arg1) = m' ((c.tc : Thread Cert.ReferenceProjectQGIdeal.nD Cert.ReferenceProjectQGIdeal.τ).loc Cert.ReferenceProjectQGIdeal.main_arg1))

def preserves_ProjectDTF_ProjectDTFIdeal : Prop :=
  True

def algebraic_ProjectDTFIdeal_ReferenceProjectDTFIdeal [hProjectDTFIdeal : Cert.ProjectDTFIdeal.Facts] [hReferenceProjectDTFIdeal : Cert.ReferenceProjectDTFIdeal.Facts] : Prop :=
  ∀ (m : (ℓ : Loc Cert.ProjectDTFIdeal.nD Cert.ProjectDTFIdeal.τ Cert.ProjectDTFIdeal.sig) → Buf (Elt Ideal) ℓ) (g : Dev Cert.ProjectDTFIdeal.nD → PrngReg)
    (m' : (ℓ : Loc Cert.ReferenceProjectDTFIdeal.nD Cert.ReferenceProjectDTFIdeal.τ Cert.ReferenceProjectDTFIdeal.sig) → Buf (Elt Ideal) ℓ) (g' : Dev Cert.ReferenceProjectDTFIdeal.nD → PrngReg), Pre_ProjectDTFIdeal m →
    (∀ c : Dev Cert.ProjectDTFIdeal.nD,
      m' ((c.tc : Thread Cert.ReferenceProjectDTFIdeal.nD Cert.ReferenceProjectDTFIdeal.τ).loc Cert.ReferenceProjectDTFIdeal.main_arg0) = m ((c.tc : Thread Cert.ProjectDTFIdeal.nD Cert.ProjectDTFIdeal.τ).loc Cert.ProjectDTFIdeal.main_arg0)
      ∧ m' ((c.tc : Thread Cert.ReferenceProjectDTFIdeal.nD Cert.ReferenceProjectDTFIdeal.τ).loc Cert.ReferenceProjectDTFIdeal.main_arg1) = m ((c.tc : Thread Cert.ProjectDTFIdeal.nD Cert.ProjectDTFIdeal.τ).loc Cert.ProjectDTFIdeal.main_arg1)) →
    ∃ (v0 : (c : Dev Cert.ProjectDTFIdeal.nD) → Buf (Elt Ideal) ((c.tc : Thread Cert.ProjectDTFIdeal.nD Cert.ProjectDTFIdeal.τ).loc Cert.ProjectDTFIdeal.main_v10)),
      θ_run (Cert.ProjectDTFIdeal.defs (F := Ideal)) (onTc (τ := Cert.ProjectDTFIdeal.τ) (Cert.ProjectDTFIdeal.main (F := Ideal))) ⟨m, fun _ => 0, g⟩ (fun r => ∀ c : Dev Cert.ProjectDTFIdeal.nD,
          r.2.mem ((c.tc : Thread Cert.ProjectDTFIdeal.nD Cert.ProjectDTFIdeal.τ).loc Cert.ProjectDTFIdeal.main_v10) = v0 c
          ∧ r.2.mem ((c.tc : Thread Cert.ProjectDTFIdeal.nD Cert.ProjectDTFIdeal.τ).loc Cert.ProjectDTFIdeal.main_arg0) = m ((c.tc : Thread Cert.ProjectDTFIdeal.nD Cert.ProjectDTFIdeal.τ).loc Cert.ProjectDTFIdeal.main_arg0)
          ∧ r.2.mem ((c.tc : Thread Cert.ProjectDTFIdeal.nD Cert.ProjectDTFIdeal.τ).loc Cert.ProjectDTFIdeal.main_arg1) = m ((c.tc : Thread Cert.ProjectDTFIdeal.nD Cert.ProjectDTFIdeal.τ).loc Cert.ProjectDTFIdeal.main_arg1))
      ∧ θ_run (Cert.ReferenceProjectDTFIdeal.defs (F := Ideal)) (onTc (τ := Cert.ReferenceProjectDTFIdeal.τ) (Cert.ReferenceProjectDTFIdeal.main (F := Ideal))) ⟨m', fun _ => 0, g'⟩ (fun r => ∀ c : Dev Cert.ReferenceProjectDTFIdeal.nD,
          r.2.mem ((c.tc : Thread Cert.ReferenceProjectDTFIdeal.nD Cert.ReferenceProjectDTFIdeal.τ).loc Cert.ReferenceProjectDTFIdeal.main_v10) = v0 c
          ∧ r.2.mem ((c.tc : Thread Cert.ReferenceProjectDTFIdeal.nD Cert.ReferenceProjectDTFIdeal.τ).loc Cert.ReferenceProjectDTFIdeal.main_arg0) = m' ((c.tc : Thread Cert.ReferenceProjectDTFIdeal.nD Cert.ReferenceProjectDTFIdeal.τ).loc Cert.ReferenceProjectDTFIdeal.main_arg0)
          ∧ r.2.mem ((c.tc : Thread Cert.ReferenceProjectDTFIdeal.nD Cert.ReferenceProjectDTFIdeal.τ).loc Cert.ReferenceProjectDTFIdeal.main_arg1) = m' ((c.tc : Thread Cert.ReferenceProjectDTFIdeal.nD Cert.ReferenceProjectDTFIdeal.τ).loc Cert.ReferenceProjectDTFIdeal.main_arg1))

def preserves_KeysFirst_KeysFirstIdeal : Prop :=
  True

def algebraic_KeysFirstIdeal_ReferenceKeysFirstIdeal [hKeysFirstIdeal : Cert.KeysFirstIdeal.Facts] [hReferenceKeysFirstIdeal : Cert.ReferenceKeysFirstIdeal.Facts] : Prop :=
  ∀ (m : (ℓ : Loc Cert.KeysFirstIdeal.nD Cert.KeysFirstIdeal.τ Cert.KeysFirstIdeal.sig) → Buf (Elt Ideal) ℓ) (g : Dev Cert.KeysFirstIdeal.nD → PrngReg)
    (m' : (ℓ : Loc Cert.ReferenceKeysFirstIdeal.nD Cert.ReferenceKeysFirstIdeal.τ Cert.ReferenceKeysFirstIdeal.sig) → Buf (Elt Ideal) ℓ) (g' : Dev Cert.ReferenceKeysFirstIdeal.nD → PrngReg), Pre_KeysFirstIdeal m →
    (∀ c : Dev Cert.KeysFirstIdeal.nD,
      m' ((c.tc : Thread Cert.ReferenceKeysFirstIdeal.nD Cert.ReferenceKeysFirstIdeal.τ).loc Cert.ReferenceKeysFirstIdeal.main_arg0) = m ((c.tc : Thread Cert.KeysFirstIdeal.nD Cert.KeysFirstIdeal.τ).loc Cert.KeysFirstIdeal.main_arg0)
      ∧ m' ((c.tc : Thread Cert.ReferenceKeysFirstIdeal.nD Cert.ReferenceKeysFirstIdeal.τ).loc Cert.ReferenceKeysFirstIdeal.main_arg1) = m ((c.tc : Thread Cert.KeysFirstIdeal.nD Cert.KeysFirstIdeal.τ).loc Cert.KeysFirstIdeal.main_arg1)) →
    ∃ (v0 : (c : Dev Cert.KeysFirstIdeal.nD) → Buf (Elt Ideal) ((c.tc : Thread Cert.KeysFirstIdeal.nD Cert.KeysFirstIdeal.τ).loc Cert.KeysFirstIdeal.main_v7)),
      θ_run (Cert.KeysFirstIdeal.defs (F := Ideal)) (onTc (τ := Cert.KeysFirstIdeal.τ) (Cert.KeysFirstIdeal.main (F := Ideal))) ⟨m, fun _ => 0, g⟩ (fun r => ∀ c : Dev Cert.KeysFirstIdeal.nD,
          r.2.mem ((c.tc : Thread Cert.KeysFirstIdeal.nD Cert.KeysFirstIdeal.τ).loc Cert.KeysFirstIdeal.main_v7) = v0 c
          ∧ r.2.mem ((c.tc : Thread Cert.KeysFirstIdeal.nD Cert.KeysFirstIdeal.τ).loc Cert.KeysFirstIdeal.main_arg0) = m ((c.tc : Thread Cert.KeysFirstIdeal.nD Cert.KeysFirstIdeal.τ).loc Cert.KeysFirstIdeal.main_arg0)
          ∧ r.2.mem ((c.tc : Thread Cert.KeysFirstIdeal.nD Cert.KeysFirstIdeal.τ).loc Cert.KeysFirstIdeal.main_arg1) = m ((c.tc : Thread Cert.KeysFirstIdeal.nD Cert.KeysFirstIdeal.τ).loc Cert.KeysFirstIdeal.main_arg1))
      ∧ θ_run (Cert.ReferenceKeysFirstIdeal.defs (F := Ideal)) (onTc (τ := Cert.ReferenceKeysFirstIdeal.τ) (Cert.ReferenceKeysFirstIdeal.main (F := Ideal))) ⟨m', fun _ => 0, g'⟩ (fun r => ∀ c : Dev Cert.ReferenceKeysFirstIdeal.nD,
          r.2.mem ((c.tc : Thread Cert.ReferenceKeysFirstIdeal.nD Cert.ReferenceKeysFirstIdeal.τ).loc Cert.ReferenceKeysFirstIdeal.main_v8) = v0 c
          ∧ r.2.mem ((c.tc : Thread Cert.ReferenceKeysFirstIdeal.nD Cert.ReferenceKeysFirstIdeal.τ).loc Cert.ReferenceKeysFirstIdeal.main_arg0) = m' ((c.tc : Thread Cert.ReferenceKeysFirstIdeal.nD Cert.ReferenceKeysFirstIdeal.τ).loc Cert.ReferenceKeysFirstIdeal.main_arg0)
          ∧ r.2.mem ((c.tc : Thread Cert.ReferenceKeysFirstIdeal.nD Cert.ReferenceKeysFirstIdeal.τ).loc Cert.ReferenceKeysFirstIdeal.main_arg1) = m' ((c.tc : Thread Cert.ReferenceKeysFirstIdeal.nD Cert.ReferenceKeysFirstIdeal.τ).loc Cert.ReferenceKeysFirstIdeal.main_arg1))

def preserves_KeysSecond_KeysSecondIdeal : Prop :=
  True

def algebraic_KeysSecondIdeal_ReferenceKeysSecondIdeal [hKeysSecondIdeal : Cert.KeysSecondIdeal.Facts] [hReferenceKeysSecondIdeal : Cert.ReferenceKeysSecondIdeal.Facts] : Prop :=
  ∀ (m : (ℓ : Loc Cert.KeysSecondIdeal.nD Cert.KeysSecondIdeal.τ Cert.KeysSecondIdeal.sig) → Buf (Elt Ideal) ℓ) (g : Dev Cert.KeysSecondIdeal.nD → PrngReg)
    (m' : (ℓ : Loc Cert.ReferenceKeysSecondIdeal.nD Cert.ReferenceKeysSecondIdeal.τ Cert.ReferenceKeysSecondIdeal.sig) → Buf (Elt Ideal) ℓ) (g' : Dev Cert.ReferenceKeysSecondIdeal.nD → PrngReg), Pre_KeysSecondIdeal m →
    (∀ c : Dev Cert.KeysSecondIdeal.nD,
      m' ((c.tc : Thread Cert.ReferenceKeysSecondIdeal.nD Cert.ReferenceKeysSecondIdeal.τ).loc Cert.ReferenceKeysSecondIdeal.main_arg0) = m ((c.tc : Thread Cert.KeysSecondIdeal.nD Cert.KeysSecondIdeal.τ).loc Cert.KeysSecondIdeal.main_arg0)
      ∧ m' ((c.tc : Thread Cert.ReferenceKeysSecondIdeal.nD Cert.ReferenceKeysSecondIdeal.τ).loc Cert.ReferenceKeysSecondIdeal.main_arg1) = m ((c.tc : Thread Cert.KeysSecondIdeal.nD Cert.KeysSecondIdeal.τ).loc Cert.KeysSecondIdeal.main_arg1)
      ∧ m' ((c.tc : Thread Cert.ReferenceKeysSecondIdeal.nD Cert.ReferenceKeysSecondIdeal.τ).loc Cert.ReferenceKeysSecondIdeal.main_arg2) = m ((c.tc : Thread Cert.KeysSecondIdeal.nD Cert.KeysSecondIdeal.τ).loc Cert.KeysSecondIdeal.main_arg2)) →
    ∃ (v0 : (c : Dev Cert.KeysSecondIdeal.nD) → Buf (Elt Ideal) ((c.tc : Thread Cert.KeysSecondIdeal.nD Cert.KeysSecondIdeal.τ).loc Cert.KeysSecondIdeal.main_v7)),
      θ_run (Cert.KeysSecondIdeal.defs (F := Ideal)) (onTc (τ := Cert.KeysSecondIdeal.τ) (Cert.KeysSecondIdeal.main (F := Ideal))) ⟨m, fun _ => 0, g⟩ (fun r => ∀ c : Dev Cert.KeysSecondIdeal.nD,
          r.2.mem ((c.tc : Thread Cert.KeysSecondIdeal.nD Cert.KeysSecondIdeal.τ).loc Cert.KeysSecondIdeal.main_v7) = v0 c
          ∧ r.2.mem ((c.tc : Thread Cert.KeysSecondIdeal.nD Cert.KeysSecondIdeal.τ).loc Cert.KeysSecondIdeal.main_arg0) = m ((c.tc : Thread Cert.KeysSecondIdeal.nD Cert.KeysSecondIdeal.τ).loc Cert.KeysSecondIdeal.main_arg0)
          ∧ r.2.mem ((c.tc : Thread Cert.KeysSecondIdeal.nD Cert.KeysSecondIdeal.τ).loc Cert.KeysSecondIdeal.main_arg1) = m ((c.tc : Thread Cert.KeysSecondIdeal.nD Cert.KeysSecondIdeal.τ).loc Cert.KeysSecondIdeal.main_arg1)
          ∧ r.2.mem ((c.tc : Thread Cert.KeysSecondIdeal.nD Cert.KeysSecondIdeal.τ).loc Cert.KeysSecondIdeal.main_arg2) = m ((c.tc : Thread Cert.KeysSecondIdeal.nD Cert.KeysSecondIdeal.τ).loc Cert.KeysSecondIdeal.main_arg2))
      ∧ θ_run (Cert.ReferenceKeysSecondIdeal.defs (F := Ideal)) (onTc (τ := Cert.ReferenceKeysSecondIdeal.τ) (Cert.ReferenceKeysSecondIdeal.main (F := Ideal))) ⟨m', fun _ => 0, g'⟩ (fun r => ∀ c : Dev Cert.ReferenceKeysSecondIdeal.nD,
          r.2.mem ((c.tc : Thread Cert.ReferenceKeysSecondIdeal.nD Cert.ReferenceKeysSecondIdeal.τ).loc Cert.ReferenceKeysSecondIdeal.main_v9) = v0 c
          ∧ r.2.mem ((c.tc : Thread Cert.ReferenceKeysSecondIdeal.nD Cert.ReferenceKeysSecondIdeal.τ).loc Cert.ReferenceKeysSecondIdeal.main_arg0) = m' ((c.tc : Thread Cert.ReferenceKeysSecondIdeal.nD Cert.ReferenceKeysSecondIdeal.τ).loc Cert.ReferenceKeysSecondIdeal.main_arg0)
          ∧ r.2.mem ((c.tc : Thread Cert.ReferenceKeysSecondIdeal.nD Cert.ReferenceKeysSecondIdeal.τ).loc Cert.ReferenceKeysSecondIdeal.main_arg1) = m' ((c.tc : Thread Cert.ReferenceKeysSecondIdeal.nD Cert.ReferenceKeysSecondIdeal.τ).loc Cert.ReferenceKeysSecondIdeal.main_arg1)
          ∧ r.2.mem ((c.tc : Thread Cert.ReferenceKeysSecondIdeal.nD Cert.ReferenceKeysSecondIdeal.τ).loc Cert.ReferenceKeysSecondIdeal.main_arg2) = m' ((c.tc : Thread Cert.ReferenceKeysSecondIdeal.nD Cert.ReferenceKeysSecondIdeal.τ).loc Cert.ReferenceKeysSecondIdeal.main_arg2))

def preserves_ValuesFirst_ValuesFirstIdeal : Prop :=
  True

def algebraic_ValuesFirstIdeal_ReferenceValuesFirstIdeal [hValuesFirstIdeal : Cert.ValuesFirstIdeal.Facts] [hReferenceValuesFirstIdeal : Cert.ReferenceValuesFirstIdeal.Facts] : Prop :=
  ∀ (m : (ℓ : Loc Cert.ValuesFirstIdeal.nD Cert.ValuesFirstIdeal.τ Cert.ValuesFirstIdeal.sig) → Buf (Elt Ideal) ℓ) (g : Dev Cert.ValuesFirstIdeal.nD → PrngReg)
    (m' : (ℓ : Loc Cert.ReferenceValuesFirstIdeal.nD Cert.ReferenceValuesFirstIdeal.τ Cert.ReferenceValuesFirstIdeal.sig) → Buf (Elt Ideal) ℓ) (g' : Dev Cert.ReferenceValuesFirstIdeal.nD → PrngReg), Pre_ValuesFirstIdeal m →
    (∀ c : Dev Cert.ValuesFirstIdeal.nD,
      m' ((c.tc : Thread Cert.ReferenceValuesFirstIdeal.nD Cert.ReferenceValuesFirstIdeal.τ).loc Cert.ReferenceValuesFirstIdeal.main_arg0) = m ((c.tc : Thread Cert.ValuesFirstIdeal.nD Cert.ValuesFirstIdeal.τ).loc Cert.ValuesFirstIdeal.main_arg0)
      ∧ m' ((c.tc : Thread Cert.ReferenceValuesFirstIdeal.nD Cert.ReferenceValuesFirstIdeal.τ).loc Cert.ReferenceValuesFirstIdeal.main_arg1) = m ((c.tc : Thread Cert.ValuesFirstIdeal.nD Cert.ValuesFirstIdeal.τ).loc Cert.ValuesFirstIdeal.main_arg1)) →
    ∃ (v0 : (c : Dev Cert.ValuesFirstIdeal.nD) → Buf (Elt Ideal) ((c.tc : Thread Cert.ValuesFirstIdeal.nD Cert.ValuesFirstIdeal.τ).loc Cert.ValuesFirstIdeal.main_v7)),
      θ_run (Cert.ValuesFirstIdeal.defs (F := Ideal)) (onTc (τ := Cert.ValuesFirstIdeal.τ) (Cert.ValuesFirstIdeal.main (F := Ideal))) ⟨m, fun _ => 0, g⟩ (fun r => ∀ c : Dev Cert.ValuesFirstIdeal.nD,
          r.2.mem ((c.tc : Thread Cert.ValuesFirstIdeal.nD Cert.ValuesFirstIdeal.τ).loc Cert.ValuesFirstIdeal.main_v7) = v0 c
          ∧ r.2.mem ((c.tc : Thread Cert.ValuesFirstIdeal.nD Cert.ValuesFirstIdeal.τ).loc Cert.ValuesFirstIdeal.main_arg0) = m ((c.tc : Thread Cert.ValuesFirstIdeal.nD Cert.ValuesFirstIdeal.τ).loc Cert.ValuesFirstIdeal.main_arg0)
          ∧ r.2.mem ((c.tc : Thread Cert.ValuesFirstIdeal.nD Cert.ValuesFirstIdeal.τ).loc Cert.ValuesFirstIdeal.main_arg1) = m ((c.tc : Thread Cert.ValuesFirstIdeal.nD Cert.ValuesFirstIdeal.τ).loc Cert.ValuesFirstIdeal.main_arg1))
      ∧ θ_run (Cert.ReferenceValuesFirstIdeal.defs (F := Ideal)) (onTc (τ := Cert.ReferenceValuesFirstIdeal.τ) (Cert.ReferenceValuesFirstIdeal.main (F := Ideal))) ⟨m', fun _ => 0, g'⟩ (fun r => ∀ c : Dev Cert.ReferenceValuesFirstIdeal.nD,
          r.2.mem ((c.tc : Thread Cert.ReferenceValuesFirstIdeal.nD Cert.ReferenceValuesFirstIdeal.τ).loc Cert.ReferenceValuesFirstIdeal.main_v8) = v0 c
          ∧ r.2.mem ((c.tc : Thread Cert.ReferenceValuesFirstIdeal.nD Cert.ReferenceValuesFirstIdeal.τ).loc Cert.ReferenceValuesFirstIdeal.main_arg0) = m' ((c.tc : Thread Cert.ReferenceValuesFirstIdeal.nD Cert.ReferenceValuesFirstIdeal.τ).loc Cert.ReferenceValuesFirstIdeal.main_arg0)
          ∧ r.2.mem ((c.tc : Thread Cert.ReferenceValuesFirstIdeal.nD Cert.ReferenceValuesFirstIdeal.τ).loc Cert.ReferenceValuesFirstIdeal.main_arg1) = m' ((c.tc : Thread Cert.ReferenceValuesFirstIdeal.nD Cert.ReferenceValuesFirstIdeal.τ).loc Cert.ReferenceValuesFirstIdeal.main_arg1))

def preserves_ValuesSecond_ValuesSecondIdeal : Prop :=
  True

def algebraic_ValuesSecondIdeal_ReferenceValuesSecondIdeal [hValuesSecondIdeal : Cert.ValuesSecondIdeal.Facts] [hReferenceValuesSecondIdeal : Cert.ReferenceValuesSecondIdeal.Facts] : Prop :=
  ∀ (m : (ℓ : Loc Cert.ValuesSecondIdeal.nD Cert.ValuesSecondIdeal.τ Cert.ValuesSecondIdeal.sig) → Buf (Elt Ideal) ℓ) (g : Dev Cert.ValuesSecondIdeal.nD → PrngReg)
    (m' : (ℓ : Loc Cert.ReferenceValuesSecondIdeal.nD Cert.ReferenceValuesSecondIdeal.τ Cert.ReferenceValuesSecondIdeal.sig) → Buf (Elt Ideal) ℓ) (g' : Dev Cert.ReferenceValuesSecondIdeal.nD → PrngReg), Pre_ValuesSecondIdeal m →
    (∀ c : Dev Cert.ValuesSecondIdeal.nD,
      m' ((c.tc : Thread Cert.ReferenceValuesSecondIdeal.nD Cert.ReferenceValuesSecondIdeal.τ).loc Cert.ReferenceValuesSecondIdeal.main_arg0) = m ((c.tc : Thread Cert.ValuesSecondIdeal.nD Cert.ValuesSecondIdeal.τ).loc Cert.ValuesSecondIdeal.main_arg0)
      ∧ m' ((c.tc : Thread Cert.ReferenceValuesSecondIdeal.nD Cert.ReferenceValuesSecondIdeal.τ).loc Cert.ReferenceValuesSecondIdeal.main_arg1) = m ((c.tc : Thread Cert.ValuesSecondIdeal.nD Cert.ValuesSecondIdeal.τ).loc Cert.ValuesSecondIdeal.main_arg1)
      ∧ m' ((c.tc : Thread Cert.ReferenceValuesSecondIdeal.nD Cert.ReferenceValuesSecondIdeal.τ).loc Cert.ReferenceValuesSecondIdeal.main_arg2) = m ((c.tc : Thread Cert.ValuesSecondIdeal.nD Cert.ValuesSecondIdeal.τ).loc Cert.ValuesSecondIdeal.main_arg2)) →
    ∃ (v0 : (c : Dev Cert.ValuesSecondIdeal.nD) → Buf (Elt Ideal) ((c.tc : Thread Cert.ValuesSecondIdeal.nD Cert.ValuesSecondIdeal.τ).loc Cert.ValuesSecondIdeal.main_v7)),
      θ_run (Cert.ValuesSecondIdeal.defs (F := Ideal)) (onTc (τ := Cert.ValuesSecondIdeal.τ) (Cert.ValuesSecondIdeal.main (F := Ideal))) ⟨m, fun _ => 0, g⟩ (fun r => ∀ c : Dev Cert.ValuesSecondIdeal.nD,
          r.2.mem ((c.tc : Thread Cert.ValuesSecondIdeal.nD Cert.ValuesSecondIdeal.τ).loc Cert.ValuesSecondIdeal.main_v7) = v0 c
          ∧ r.2.mem ((c.tc : Thread Cert.ValuesSecondIdeal.nD Cert.ValuesSecondIdeal.τ).loc Cert.ValuesSecondIdeal.main_arg0) = m ((c.tc : Thread Cert.ValuesSecondIdeal.nD Cert.ValuesSecondIdeal.τ).loc Cert.ValuesSecondIdeal.main_arg0)
          ∧ r.2.mem ((c.tc : Thread Cert.ValuesSecondIdeal.nD Cert.ValuesSecondIdeal.τ).loc Cert.ValuesSecondIdeal.main_arg1) = m ((c.tc : Thread Cert.ValuesSecondIdeal.nD Cert.ValuesSecondIdeal.τ).loc Cert.ValuesSecondIdeal.main_arg1)
          ∧ r.2.mem ((c.tc : Thread Cert.ValuesSecondIdeal.nD Cert.ValuesSecondIdeal.τ).loc Cert.ValuesSecondIdeal.main_arg2) = m ((c.tc : Thread Cert.ValuesSecondIdeal.nD Cert.ValuesSecondIdeal.τ).loc Cert.ValuesSecondIdeal.main_arg2))
      ∧ θ_run (Cert.ReferenceValuesSecondIdeal.defs (F := Ideal)) (onTc (τ := Cert.ReferenceValuesSecondIdeal.τ) (Cert.ReferenceValuesSecondIdeal.main (F := Ideal))) ⟨m', fun _ => 0, g'⟩ (fun r => ∀ c : Dev Cert.ReferenceValuesSecondIdeal.nD,
          r.2.mem ((c.tc : Thread Cert.ReferenceValuesSecondIdeal.nD Cert.ReferenceValuesSecondIdeal.τ).loc Cert.ReferenceValuesSecondIdeal.main_v9) = v0 c
          ∧ r.2.mem ((c.tc : Thread Cert.ReferenceValuesSecondIdeal.nD Cert.ReferenceValuesSecondIdeal.τ).loc Cert.ReferenceValuesSecondIdeal.main_arg0) = m' ((c.tc : Thread Cert.ReferenceValuesSecondIdeal.nD Cert.ReferenceValuesSecondIdeal.τ).loc Cert.ReferenceValuesSecondIdeal.main_arg0)
          ∧ r.2.mem ((c.tc : Thread Cert.ReferenceValuesSecondIdeal.nD Cert.ReferenceValuesSecondIdeal.τ).loc Cert.ReferenceValuesSecondIdeal.main_arg1) = m' ((c.tc : Thread Cert.ReferenceValuesSecondIdeal.nD Cert.ReferenceValuesSecondIdeal.τ).loc Cert.ReferenceValuesSecondIdeal.main_arg1)
          ∧ r.2.mem ((c.tc : Thread Cert.ReferenceValuesSecondIdeal.nD Cert.ReferenceValuesSecondIdeal.τ).loc Cert.ReferenceValuesSecondIdeal.main_arg2) = m' ((c.tc : Thread Cert.ReferenceValuesSecondIdeal.nD Cert.ReferenceValuesSecondIdeal.τ).loc Cert.ReferenceValuesSecondIdeal.main_arg2))

def preserves_Merge_MergeIdeal : Prop :=
  True

def algebraic_MergeIdeal_ReferenceMergeIdeal [hMergeIdeal : Cert.MergeIdeal.Facts] [hReferenceMergeIdeal : Cert.ReferenceMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_MergeIdeal m →
    (∀ c : Dev Cert.MergeIdeal.nD,
      m' ((c.tc : Thread Cert.ReferenceMergeIdeal.nD Cert.ReferenceMergeIdeal.τ).loc Cert.ReferenceMergeIdeal.main_arg0) = m ((c.tc : Thread Cert.MergeIdeal.nD Cert.MergeIdeal.τ).loc Cert.MergeIdeal.main_arg0)
      ∧ m' ((c.tc : Thread Cert.ReferenceMergeIdeal.nD Cert.ReferenceMergeIdeal.τ).loc Cert.ReferenceMergeIdeal.main_arg1) = m ((c.tc : Thread Cert.MergeIdeal.nD Cert.MergeIdeal.τ).loc Cert.MergeIdeal.main_arg1)
      ∧ m' ((c.tc : Thread Cert.ReferenceMergeIdeal.nD Cert.ReferenceMergeIdeal.τ).loc Cert.ReferenceMergeIdeal.main_arg2) = m ((c.tc : Thread Cert.MergeIdeal.nD Cert.MergeIdeal.τ).loc Cert.MergeIdeal.main_arg2)
      ∧ m' ((c.tc : Thread Cert.ReferenceMergeIdeal.nD Cert.ReferenceMergeIdeal.τ).loc Cert.ReferenceMergeIdeal.main_arg3) = m ((c.tc : Thread Cert.MergeIdeal.nD Cert.MergeIdeal.τ).loc Cert.MergeIdeal.main_arg3)
      ∧ m' ((c.tc : Thread Cert.ReferenceMergeIdeal.nD Cert.ReferenceMergeIdeal.τ).loc Cert.ReferenceMergeIdeal.main_arg4) = m ((c.tc : Thread Cert.MergeIdeal.nD Cert.MergeIdeal.τ).loc Cert.MergeIdeal.main_arg4)
      ∧ m' ((c.tc : Thread Cert.ReferenceMergeIdeal.nD Cert.ReferenceMergeIdeal.τ).loc Cert.ReferenceMergeIdeal.main_arg5) = m ((c.tc : Thread Cert.MergeIdeal.nD Cert.MergeIdeal.τ).loc Cert.MergeIdeal.main_arg5)
      ∧ m' ((c.tc : Thread Cert.ReferenceMergeIdeal.nD Cert.ReferenceMergeIdeal.τ).loc Cert.ReferenceMergeIdeal.main_arg6) = m ((c.tc : Thread Cert.MergeIdeal.nD Cert.MergeIdeal.τ).loc Cert.MergeIdeal.main_arg6)
      ∧ m' ((c.tc : Thread Cert.ReferenceMergeIdeal.nD Cert.ReferenceMergeIdeal.τ).loc Cert.ReferenceMergeIdeal.main_arg7) = m ((c.tc : Thread Cert.MergeIdeal.nD Cert.MergeIdeal.τ).loc Cert.MergeIdeal.main_arg7)
      ∧ m' ((c.tc : Thread Cert.ReferenceMergeIdeal.nD Cert.ReferenceMergeIdeal.τ).loc Cert.ReferenceMergeIdeal.main_arg8) = m ((c.tc : Thread Cert.MergeIdeal.nD Cert.MergeIdeal.τ).loc Cert.MergeIdeal.main_arg8)
      ∧ m' ((c.tc : Thread Cert.ReferenceMergeIdeal.nD Cert.ReferenceMergeIdeal.τ).loc Cert.ReferenceMergeIdeal.main_arg9) = m ((c.tc : Thread Cert.MergeIdeal.nD Cert.MergeIdeal.τ).loc Cert.MergeIdeal.main_arg9)
      ∧ m' ((c.tc : Thread Cert.ReferenceMergeIdeal.nD Cert.ReferenceMergeIdeal.τ).loc Cert.ReferenceMergeIdeal.main_arg10) = m ((c.tc : Thread Cert.MergeIdeal.nD Cert.MergeIdeal.τ).loc Cert.MergeIdeal.main_arg10)
      ∧ m' ((c.tc : Thread Cert.ReferenceMergeIdeal.nD Cert.ReferenceMergeIdeal.τ).loc Cert.ReferenceMergeIdeal.main_arg11) = m ((c.tc : Thread Cert.MergeIdeal.nD Cert.MergeIdeal.τ).loc Cert.MergeIdeal.main_arg11)
      ∧ m' ((c.tc : Thread Cert.ReferenceMergeIdeal.nD Cert.ReferenceMergeIdeal.τ).loc Cert.ReferenceMergeIdeal.main_arg12) = m ((c.tc : Thread Cert.MergeIdeal.nD Cert.MergeIdeal.τ).loc Cert.MergeIdeal.main_arg12)
      ∧ m' ((c.tc : Thread Cert.ReferenceMergeIdeal.nD Cert.ReferenceMergeIdeal.τ).loc Cert.ReferenceMergeIdeal.main_arg13) = m ((c.tc : Thread Cert.MergeIdeal.nD Cert.MergeIdeal.τ).loc Cert.MergeIdeal.main_arg13)
      ∧ m' ((c.tc : Thread Cert.ReferenceMergeIdeal.nD Cert.ReferenceMergeIdeal.τ).loc Cert.ReferenceMergeIdeal.main_arg14) = m ((c.tc : Thread Cert.MergeIdeal.nD Cert.MergeIdeal.τ).loc Cert.MergeIdeal.main_arg14)
      ∧ m' ((c.tc : Thread Cert.ReferenceMergeIdeal.nD Cert.ReferenceMergeIdeal.τ).loc Cert.ReferenceMergeIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v39)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v39) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v86) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11)
          ∧ r.2.mem ((c.tc : Thread Cert.ReferenceMergeIdeal.nD Cert.ReferenceMergeIdeal.τ).loc Cert.ReferenceMergeIdeal.main_arg12) = m' ((c.tc : Thread Cert.ReferenceMergeIdeal.nD Cert.ReferenceMergeIdeal.τ).loc Cert.ReferenceMergeIdeal.main_arg12)
          ∧ r.2.mem ((c.tc : Thread Cert.ReferenceMergeIdeal.nD Cert.ReferenceMergeIdeal.τ).loc Cert.ReferenceMergeIdeal.main_arg13) = m' ((c.tc : Thread Cert.ReferenceMergeIdeal.nD Cert.ReferenceMergeIdeal.τ).loc Cert.ReferenceMergeIdeal.main_arg13)
          ∧ r.2.mem ((c.tc : Thread Cert.ReferenceMergeIdeal.nD Cert.ReferenceMergeIdeal.τ).loc Cert.ReferenceMergeIdeal.main_arg14) = m' ((c.tc : Thread Cert.ReferenceMergeIdeal.nD Cert.ReferenceMergeIdeal.τ).loc Cert.ReferenceMergeIdeal.main_arg14)
          ∧ r.2.mem ((c.tc : Thread Cert.ReferenceMergeIdeal.nD Cert.ReferenceMergeIdeal.τ).loc Cert.ReferenceMergeIdeal.main_arg15) = m' ((c.tc : Thread Cert.ReferenceMergeIdeal.nD Cert.ReferenceMergeIdeal.τ).loc Cert.ReferenceMergeIdeal.main_arg15))

def preserves_ForgetFirst_ForgetFirstIdeal : Prop :=
  True

def algebraic_ForgetFirstIdeal_ReferenceForgetFirstIdeal [hForgetFirstIdeal : Cert.ForgetFirstIdeal.Facts] [hReferenceForgetFirstIdeal : Cert.ReferenceForgetFirstIdeal.Facts] : Prop :=
  ∀ (m : (ℓ : Loc Cert.ForgetFirstIdeal.nD Cert.ForgetFirstIdeal.τ Cert.ForgetFirstIdeal.sig) → Buf (Elt Ideal) ℓ) (g : Dev Cert.ForgetFirstIdeal.nD → PrngReg)
    (m' : (ℓ : Loc Cert.ReferenceForgetFirstIdeal.nD Cert.ReferenceForgetFirstIdeal.τ Cert.ReferenceForgetFirstIdeal.sig) → Buf (Elt Ideal) ℓ) (g' : Dev Cert.ReferenceForgetFirstIdeal.nD → PrngReg), Pre_ForgetFirstIdeal m →
    (∀ c : Dev Cert.ForgetFirstIdeal.nD,
      m' ((c.tc : Thread Cert.ReferenceForgetFirstIdeal.nD Cert.ReferenceForgetFirstIdeal.τ).loc Cert.ReferenceForgetFirstIdeal.main_arg0) = m ((c.tc : Thread Cert.ForgetFirstIdeal.nD Cert.ForgetFirstIdeal.τ).loc Cert.ForgetFirstIdeal.main_arg0)
      ∧ m' ((c.tc : Thread Cert.ReferenceForgetFirstIdeal.nD Cert.ReferenceForgetFirstIdeal.τ).loc Cert.ReferenceForgetFirstIdeal.main_arg1) = m ((c.tc : Thread Cert.ForgetFirstIdeal.nD Cert.ForgetFirstIdeal.τ).loc Cert.ForgetFirstIdeal.main_arg1)
      ∧ m' ((c.tc : Thread Cert.ReferenceForgetFirstIdeal.nD Cert.ReferenceForgetFirstIdeal.τ).loc Cert.ReferenceForgetFirstIdeal.main_arg2) = m ((c.tc : Thread Cert.ForgetFirstIdeal.nD Cert.ForgetFirstIdeal.τ).loc Cert.ForgetFirstIdeal.main_arg2)) →
    ∃ (v0 : (c : Dev Cert.ForgetFirstIdeal.nD) → Buf (Elt Ideal) ((c.tc : Thread Cert.ForgetFirstIdeal.nD Cert.ForgetFirstIdeal.τ).loc Cert.ForgetFirstIdeal.main_v7_0)) (v1 : (c : Dev Cert.ForgetFirstIdeal.nD) → Buf (Elt Ideal) ((c.tc : Thread Cert.ForgetFirstIdeal.nD Cert.ForgetFirstIdeal.τ).loc Cert.ForgetFirstIdeal.main_v7_1)),
      θ_run (Cert.ForgetFirstIdeal.defs (F := Ideal)) (onTc (τ := Cert.ForgetFirstIdeal.τ) (Cert.ForgetFirstIdeal.main (F := Ideal))) ⟨m, fun _ => 0, g⟩ (fun r => ∀ c : Dev Cert.ForgetFirstIdeal.nD,
          r.2.mem ((c.tc : Thread Cert.ForgetFirstIdeal.nD Cert.ForgetFirstIdeal.τ).loc Cert.ForgetFirstIdeal.main_v7_0) = v0 c
          ∧ r.2.mem ((c.tc : Thread Cert.ForgetFirstIdeal.nD Cert.ForgetFirstIdeal.τ).loc Cert.ForgetFirstIdeal.main_v7_1) = v1 c
          ∧ r.2.mem ((c.tc : Thread Cert.ForgetFirstIdeal.nD Cert.ForgetFirstIdeal.τ).loc Cert.ForgetFirstIdeal.main_arg0) = m ((c.tc : Thread Cert.ForgetFirstIdeal.nD Cert.ForgetFirstIdeal.τ).loc Cert.ForgetFirstIdeal.main_arg0)
          ∧ r.2.mem ((c.tc : Thread Cert.ForgetFirstIdeal.nD Cert.ForgetFirstIdeal.τ).loc Cert.ForgetFirstIdeal.main_arg1) = m ((c.tc : Thread Cert.ForgetFirstIdeal.nD Cert.ForgetFirstIdeal.τ).loc Cert.ForgetFirstIdeal.main_arg1)
          ∧ r.2.mem ((c.tc : Thread Cert.ForgetFirstIdeal.nD Cert.ForgetFirstIdeal.τ).loc Cert.ForgetFirstIdeal.main_arg2) = m ((c.tc : Thread Cert.ForgetFirstIdeal.nD Cert.ForgetFirstIdeal.τ).loc Cert.ForgetFirstIdeal.main_arg2))
      ∧ θ_run (Cert.ReferenceForgetFirstIdeal.defs (F := Ideal)) (onTc (τ := Cert.ReferenceForgetFirstIdeal.τ) (Cert.ReferenceForgetFirstIdeal.main (F := Ideal))) ⟨m', fun _ => 0, g'⟩ (fun r => ∀ c : Dev Cert.ReferenceForgetFirstIdeal.nD,
          r.2.mem ((c.tc : Thread Cert.ReferenceForgetFirstIdeal.nD Cert.ReferenceForgetFirstIdeal.τ).loc Cert.ReferenceForgetFirstIdeal.main_v11) = v0 c
          ∧ r.2.mem ((c.tc : Thread Cert.ReferenceForgetFirstIdeal.nD Cert.ReferenceForgetFirstIdeal.τ).loc Cert.ReferenceForgetFirstIdeal.main_v12) = v1 c
          ∧ r.2.mem ((c.tc : Thread Cert.ReferenceForgetFirstIdeal.nD Cert.ReferenceForgetFirstIdeal.τ).loc Cert.ReferenceForgetFirstIdeal.main_arg0) = m' ((c.tc : Thread Cert.ReferenceForgetFirstIdeal.nD Cert.ReferenceForgetFirstIdeal.τ).loc Cert.ReferenceForgetFirstIdeal.main_arg0)
          ∧ r.2.mem ((c.tc : Thread Cert.ReferenceForgetFirstIdeal.nD Cert.ReferenceForgetFirstIdeal.τ).loc Cert.ReferenceForgetFirstIdeal.main_arg1) = m' ((c.tc : Thread Cert.ReferenceForgetFirstIdeal.nD Cert.ReferenceForgetFirstIdeal.τ).loc Cert.ReferenceForgetFirstIdeal.main_arg1)
          ∧ r.2.mem ((c.tc : Thread Cert.ReferenceForgetFirstIdeal.nD Cert.ReferenceForgetFirstIdeal.τ).loc Cert.ReferenceForgetFirstIdeal.main_arg2) = m' ((c.tc : Thread Cert.ReferenceForgetFirstIdeal.nD Cert.ReferenceForgetFirstIdeal.τ).loc Cert.ReferenceForgetFirstIdeal.main_arg2))

def preserves_ForgetSecond_ForgetSecondIdeal : Prop :=
  True

def algebraic_ForgetSecondIdeal_ReferenceForgetSecondIdeal [hForgetSecondIdeal : Cert.ForgetSecondIdeal.Facts] [hReferenceForgetSecondIdeal : Cert.ReferenceForgetSecondIdeal.Facts] : Prop :=
  ∀ (m : (ℓ : Loc Cert.ForgetSecondIdeal.nD Cert.ForgetSecondIdeal.τ Cert.ForgetSecondIdeal.sig) → Buf (Elt Ideal) ℓ) (g : Dev Cert.ForgetSecondIdeal.nD → PrngReg)
    (m' : (ℓ : Loc Cert.ReferenceForgetSecondIdeal.nD Cert.ReferenceForgetSecondIdeal.τ Cert.ReferenceForgetSecondIdeal.sig) → Buf (Elt Ideal) ℓ) (g' : Dev Cert.ReferenceForgetSecondIdeal.nD → PrngReg), Pre_ForgetSecondIdeal m →
    (∀ c : Dev Cert.ForgetSecondIdeal.nD,
      m' ((c.tc : Thread Cert.ReferenceForgetSecondIdeal.nD Cert.ReferenceForgetSecondIdeal.τ).loc Cert.ReferenceForgetSecondIdeal.main_arg0) = m ((c.tc : Thread Cert.ForgetSecondIdeal.nD Cert.ForgetSecondIdeal.τ).loc Cert.ForgetSecondIdeal.main_arg0)
      ∧ m' ((c.tc : Thread Cert.ReferenceForgetSecondIdeal.nD Cert.ReferenceForgetSecondIdeal.τ).loc Cert.ReferenceForgetSecondIdeal.main_arg1) = m ((c.tc : Thread Cert.ForgetSecondIdeal.nD Cert.ForgetSecondIdeal.τ).loc Cert.ForgetSecondIdeal.main_arg1)
      ∧ m' ((c.tc : Thread Cert.ReferenceForgetSecondIdeal.nD Cert.ReferenceForgetSecondIdeal.τ).loc Cert.ReferenceForgetSecondIdeal.main_arg2) = m ((c.tc : Thread Cert.ForgetSecondIdeal.nD Cert.ForgetSecondIdeal.τ).loc Cert.ForgetSecondIdeal.main_arg2)
      ∧ m' ((c.tc : Thread Cert.ReferenceForgetSecondIdeal.nD Cert.ReferenceForgetSecondIdeal.τ).loc Cert.ReferenceForgetSecondIdeal.main_arg3) = m ((c.tc : Thread Cert.ForgetSecondIdeal.nD Cert.ForgetSecondIdeal.τ).loc Cert.ForgetSecondIdeal.main_arg3)) →
    ∃ (v0 : (c : Dev Cert.ForgetSecondIdeal.nD) → Buf (Elt Ideal) ((c.tc : Thread Cert.ForgetSecondIdeal.nD Cert.ForgetSecondIdeal.τ).loc Cert.ForgetSecondIdeal.main_v6_0)) (v1 : (c : Dev Cert.ForgetSecondIdeal.nD) → Buf (Elt Ideal) ((c.tc : Thread Cert.ForgetSecondIdeal.nD Cert.ForgetSecondIdeal.τ).loc Cert.ForgetSecondIdeal.main_v6_1)),
      θ_run (Cert.ForgetSecondIdeal.defs (F := Ideal)) (onTc (τ := Cert.ForgetSecondIdeal.τ) (Cert.ForgetSecondIdeal.main (F := Ideal))) ⟨m, fun _ => 0, g⟩ (fun r => ∀ c : Dev Cert.ForgetSecondIdeal.nD,
          r.2.mem ((c.tc : Thread Cert.ForgetSecondIdeal.nD Cert.ForgetSecondIdeal.τ).loc Cert.ForgetSecondIdeal.main_v6_0) = v0 c
          ∧ r.2.mem ((c.tc : Thread Cert.ForgetSecondIdeal.nD Cert.ForgetSecondIdeal.τ).loc Cert.ForgetSecondIdeal.main_v6_1) = v1 c
          ∧ r.2.mem ((c.tc : Thread Cert.ForgetSecondIdeal.nD Cert.ForgetSecondIdeal.τ).loc Cert.ForgetSecondIdeal.main_arg0) = m ((c.tc : Thread Cert.ForgetSecondIdeal.nD Cert.ForgetSecondIdeal.τ).loc Cert.ForgetSecondIdeal.main_arg0)
          ∧ r.2.mem ((c.tc : Thread Cert.ForgetSecondIdeal.nD Cert.ForgetSecondIdeal.τ).loc Cert.ForgetSecondIdeal.main_arg1) = m ((c.tc : Thread Cert.ForgetSecondIdeal.nD Cert.ForgetSecondIdeal.τ).loc Cert.ForgetSecondIdeal.main_arg1)
          ∧ r.2.mem ((c.tc : Thread Cert.ForgetSecondIdeal.nD Cert.ForgetSecondIdeal.τ).loc Cert.ForgetSecondIdeal.main_arg2) = m ((c.tc : Thread Cert.ForgetSecondIdeal.nD Cert.ForgetSecondIdeal.τ).loc Cert.ForgetSecondIdeal.main_arg2)
          ∧ r.2.mem ((c.tc : Thread Cert.ForgetSecondIdeal.nD Cert.ForgetSecondIdeal.τ).loc Cert.ForgetSecondIdeal.main_arg3) = m ((c.tc : Thread Cert.ForgetSecondIdeal.nD Cert.ForgetSecondIdeal.τ).loc Cert.ForgetSecondIdeal.main_arg3))
      ∧ θ_run (Cert.ReferenceForgetSecondIdeal.defs (F := Ideal)) (onTc (τ := Cert.ReferenceForgetSecondIdeal.τ) (Cert.ReferenceForgetSecondIdeal.main (F := Ideal))) ⟨m', fun _ => 0, g'⟩ (fun r => ∀ c : Dev Cert.ReferenceForgetSecondIdeal.nD,
          r.2.mem ((c.tc : Thread Cert.ReferenceForgetSecondIdeal.nD Cert.ReferenceForgetSecondIdeal.τ).loc Cert.ReferenceForgetSecondIdeal.main_v12) = v0 c
          ∧ r.2.mem ((c.tc : Thread Cert.ReferenceForgetSecondIdeal.nD Cert.ReferenceForgetSecondIdeal.τ).loc Cert.ReferenceForgetSecondIdeal.main_v13) = v1 c
          ∧ r.2.mem ((c.tc : Thread Cert.ReferenceForgetSecondIdeal.nD Cert.ReferenceForgetSecondIdeal.τ).loc Cert.ReferenceForgetSecondIdeal.main_arg0) = m' ((c.tc : Thread Cert.ReferenceForgetSecondIdeal.nD Cert.ReferenceForgetSecondIdeal.τ).loc Cert.ReferenceForgetSecondIdeal.main_arg0)
          ∧ r.2.mem ((c.tc : Thread Cert.ReferenceForgetSecondIdeal.nD Cert.ReferenceForgetSecondIdeal.τ).loc Cert.ReferenceForgetSecondIdeal.main_arg1) = m' ((c.tc : Thread Cert.ReferenceForgetSecondIdeal.nD Cert.ReferenceForgetSecondIdeal.τ).loc Cert.ReferenceForgetSecondIdeal.main_arg1)
          ∧ r.2.mem ((c.tc : Thread Cert.ReferenceForgetSecondIdeal.nD Cert.ReferenceForgetSecondIdeal.τ).loc Cert.ReferenceForgetSecondIdeal.main_arg2) = m' ((c.tc : Thread Cert.ReferenceForgetSecondIdeal.nD Cert.ReferenceForgetSecondIdeal.τ).loc Cert.ReferenceForgetSecondIdeal.main_arg2)
          ∧ r.2.mem ((c.tc : Thread Cert.ReferenceForgetSecondIdeal.nD Cert.ReferenceForgetSecondIdeal.τ).loc Cert.ReferenceForgetSecondIdeal.main_arg3) = m' ((c.tc : Thread Cert.ReferenceForgetSecondIdeal.nD Cert.ReferenceForgetSecondIdeal.τ).loc Cert.ReferenceForgetSecondIdeal.main_arg3))

def Claim : Prop :=
  ∃ (hKernel : Cert.Kernel.Facts) (hKernelIdeal : Cert.KernelIdeal.Facts) (hReferenceIdeal : Cert.ReferenceIdeal.Facts) (hProjectZX : Cert.ProjectZX.Facts) (hProjectZXIdeal : Cert.ProjectZXIdeal.Facts) (hReferenceProjectZXIdeal : Cert.ReferenceProjectZXIdeal.Facts) (hProjectQG : Cert.ProjectQG.Facts) (hProjectQGIdeal : Cert.ProjectQGIdeal.Facts) (hReferenceProjectQGIdeal : Cert.ReferenceProjectQGIdeal.Facts) (hProjectDTF : Cert.ProjectDTF.Facts) (hProjectDTFIdeal : Cert.ProjectDTFIdeal.Facts) (hReferenceProjectDTFIdeal : Cert.ReferenceProjectDTFIdeal.Facts) (hKeysFirst : Cert.KeysFirst.Facts) (hKeysFirstIdeal : Cert.KeysFirstIdeal.Facts) (hReferenceKeysFirstIdeal : Cert.ReferenceKeysFirstIdeal.Facts) (hKeysSecond : Cert.KeysSecond.Facts) (hKeysSecondIdeal : Cert.KeysSecondIdeal.Facts) (hReferenceKeysSecondIdeal : Cert.ReferenceKeysSecondIdeal.Facts) (hValuesFirst : Cert.ValuesFirst.Facts) (hValuesFirstIdeal : Cert.ValuesFirstIdeal.Facts) (hReferenceValuesFirstIdeal : Cert.ReferenceValuesFirstIdeal.Facts) (hValuesSecond : Cert.ValuesSecond.Facts) (hValuesSecondIdeal : Cert.ValuesSecondIdeal.Facts) (hReferenceValuesSecondIdeal : Cert.ReferenceValuesSecondIdeal.Facts) (hMerge : Cert.Merge.Facts) (hMergeIdeal : Cert.MergeIdeal.Facts) (hReferenceMergeIdeal : Cert.ReferenceMergeIdeal.Facts) (hForgetFirst : Cert.ForgetFirst.Facts) (hForgetFirstIdeal : Cert.ForgetFirstIdeal.Facts) (hReferenceForgetFirstIdeal : Cert.ReferenceForgetFirstIdeal.Facts) (hForgetSecond : Cert.ForgetSecond.Facts) (hForgetSecondIdeal : Cert.ForgetSecondIdeal.Facts) (hReferenceForgetSecondIdeal : Cert.ReferenceForgetSecondIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjectZX (hProjectZX := hProjectZX)
    ∧ quiescent_ProjectZXIdeal (hProjectZXIdeal := hProjectZXIdeal)
    ∧ quiescent_ReferenceProjectZXIdeal (hReferenceProjectZXIdeal := hReferenceProjectZXIdeal)
    ∧ quiescent_ProjectQG (hProjectQG := hProjectQG)
    ∧ quiescent_ProjectQGIdeal (hProjectQGIdeal := hProjectQGIdeal)
    ∧ quiescent_ReferenceProjectQGIdeal (hReferenceProjectQGIdeal := hReferenceProjectQGIdeal)
    ∧ quiescent_ProjectDTF (hProjectDTF := hProjectDTF)
    ∧ quiescent_ProjectDTFIdeal (hProjectDTFIdeal := hProjectDTFIdeal)
    ∧ quiescent_ReferenceProjectDTFIdeal (hReferenceProjectDTFIdeal := hReferenceProjectDTFIdeal)
    ∧ quiescent_KeysFirst (hKeysFirst := hKeysFirst)
    ∧ quiescent_KeysFirstIdeal (hKeysFirstIdeal := hKeysFirstIdeal)
    ∧ quiescent_ReferenceKeysFirstIdeal (hReferenceKeysFirstIdeal := hReferenceKeysFirstIdeal)
    ∧ quiescent_KeysSecond (hKeysSecond := hKeysSecond)
    ∧ quiescent_KeysSecondIdeal (hKeysSecondIdeal := hKeysSecondIdeal)
    ∧ quiescent_ReferenceKeysSecondIdeal (hReferenceKeysSecondIdeal := hReferenceKeysSecondIdeal)
    ∧ quiescent_ValuesFirst (hValuesFirst := hValuesFirst)
    ∧ quiescent_ValuesFirstIdeal (hValuesFirstIdeal := hValuesFirstIdeal)
    ∧ quiescent_ReferenceValuesFirstIdeal (hReferenceValuesFirstIdeal := hReferenceValuesFirstIdeal)
    ∧ quiescent_ValuesSecond (hValuesSecond := hValuesSecond)
    ∧ quiescent_ValuesSecondIdeal (hValuesSecondIdeal := hValuesSecondIdeal)
    ∧ quiescent_ReferenceValuesSecondIdeal (hReferenceValuesSecondIdeal := hReferenceValuesSecondIdeal)
    ∧ quiescent_Merge (hMerge := hMerge)
    ∧ quiescent_MergeIdeal (hMergeIdeal := hMergeIdeal)
    ∧ quiescent_ReferenceMergeIdeal (hReferenceMergeIdeal := hReferenceMergeIdeal)
    ∧ quiescent_ForgetFirst (hForgetFirst := hForgetFirst)
    ∧ quiescent_ForgetFirstIdeal (hForgetFirstIdeal := hForgetFirstIdeal)
    ∧ quiescent_ReferenceForgetFirstIdeal (hReferenceForgetFirstIdeal := hReferenceForgetFirstIdeal)
    ∧ quiescent_ForgetSecond (hForgetSecond := hForgetSecond)
    ∧ quiescent_ForgetSecondIdeal (hForgetSecondIdeal := hForgetSecondIdeal)
    ∧ quiescent_ReferenceForgetSecondIdeal (hReferenceForgetSecondIdeal := hReferenceForgetSecondIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjectZX_ProjectZXIdeal
    ∧ algebraic_ProjectZXIdeal_ReferenceProjectZXIdeal (hProjectZXIdeal := hProjectZXIdeal) (hReferenceProjectZXIdeal := hReferenceProjectZXIdeal)
    ∧ preserves_ProjectQG_ProjectQGIdeal
    ∧ algebraic_ProjectQGIdeal_ReferenceProjectQGIdeal (hProjectQGIdeal := hProjectQGIdeal) (hReferenceProjectQGIdeal := hReferenceProjectQGIdeal)
    ∧ preserves_ProjectDTF_ProjectDTFIdeal
    ∧ algebraic_ProjectDTFIdeal_ReferenceProjectDTFIdeal (hProjectDTFIdeal := hProjectDTFIdeal) (hReferenceProjectDTFIdeal := hReferenceProjectDTFIdeal)
    ∧ preserves_KeysFirst_KeysFirstIdeal
    ∧ algebraic_KeysFirstIdeal_ReferenceKeysFirstIdeal (hKeysFirstIdeal := hKeysFirstIdeal) (hReferenceKeysFirstIdeal := hReferenceKeysFirstIdeal)
    ∧ preserves_KeysSecond_KeysSecondIdeal
    ∧ algebraic_KeysSecondIdeal_ReferenceKeysSecondIdeal (hKeysSecondIdeal := hKeysSecondIdeal) (hReferenceKeysSecondIdeal := hReferenceKeysSecondIdeal)
    ∧ preserves_ValuesFirst_ValuesFirstIdeal
    ∧ algebraic_ValuesFirstIdeal_ReferenceValuesFirstIdeal (hValuesFirstIdeal := hValuesFirstIdeal) (hReferenceValuesFirstIdeal := hReferenceValuesFirstIdeal)
    ∧ preserves_ValuesSecond_ValuesSecondIdeal
    ∧ algebraic_ValuesSecondIdeal_ReferenceValuesSecondIdeal (hValuesSecondIdeal := hValuesSecondIdeal) (hReferenceValuesSecondIdeal := hReferenceValuesSecondIdeal)
    ∧ preserves_Merge_MergeIdeal
    ∧ algebraic_MergeIdeal_ReferenceMergeIdeal (hMergeIdeal := hMergeIdeal) (hReferenceMergeIdeal := hReferenceMergeIdeal)
    ∧ preserves_ForgetFirst_ForgetFirstIdeal
    ∧ algebraic_ForgetFirstIdeal_ReferenceForgetFirstIdeal (hForgetFirstIdeal := hForgetFirstIdeal) (hReferenceForgetFirstIdeal := hReferenceForgetFirstIdeal)
    ∧ preserves_ForgetSecond_ForgetSecondIdeal
    ∧ algebraic_ForgetSecondIdeal_ReferenceForgetSecondIdeal (hForgetSecondIdeal := hForgetSecondIdeal) (hReferenceForgetSecondIdeal := hReferenceForgetSecondIdeal)
-- ==== Pre_finite.lean ====
abbrev S16x2048x1024 : Shape := ⟨3, ![16, 2048, 1024]⟩
abbrev S16x2048x3072 : Shape := ⟨3, ![16, 2048, 3072]⟩
abbrev S2x16x2048x16x64 : Shape := ⟨5, ![2, 16, 2048, 16, 64]⟩
abbrev S16x2048x16 : Shape := ⟨3, ![16, 2048, 16]⟩
abbrev S_ : Shape := ⟨0, ![]⟩
abbrev S1x16x2048x16x64 : Shape := ⟨5, ![1, 16, 2048, 16, 64]⟩
abbrev S16x2048x16x64 : Shape := ⟨4, ![16, 2048, 16, 64]⟩

class Facts : Prop where
  bcast_S_S16x2048x1024 : S_.BroadcastsInDim S16x2048x1024 (![] : Fin 0 → Fin S16x2048x1024.rank)
  slices_S2x16x2048x16x64_S1x16x2048x16x64_1_0_0_0_0 : S2x16x2048x16x64.Slices ![1, 0, 0, 0, 0] S1x16x2048x16x64
  shapeCasts_S1x16x2048x16x64_S16x2048x16x64 : S1x16x2048x16x64.ShapeCasts S16x2048x16x64
  bcast_S_S16x2048x16x64 : S_.BroadcastsInDim S16x2048x16x64 (![] : Fin 0 → Fin S16x2048x16x64.rank)
  bcast_S_S16x2048x16 : S_.BroadcastsInDim S16x2048x16 (![] : Fin 0 → Fin S16x2048x16.rank)

variable [Facts]

def fn {F : FTy → Type} [FloatOps F] (main_arg0 : FVec F S16x2048x1024 .f32) (main_arg1 : FVec F S16x2048x3072 .f32) (main_arg2 : FVec F S2x16x2048x16x64 .f32) (main_arg3 : FVec F S2x16x2048x16x64 .f32) (main_arg4 : FVec F S16x2048x16 .f32) : IVec S16x2048x1024 1 × IVec S16x2048x16x64 1 × IVec S16x2048x16 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S1x16x2048x16x64 .f32 := (extractStridedSlice S1x16x2048x16x64 ![1, 0, 0, 0, 0] · slices_S2x16x2048x16x64_S1x16x2048x16x64_1_0_0_0_0) main_arg2
  let main_v4 : FVec F S16x2048x16x64 .f32 := shapeCast S16x2048x16x64 main_v3 shapeCasts_S1x16x2048x16x64_S16x2048x16x64
  let main_v5 : FVec F S16x2048x16x64 .f32 := Host.absf main_v4
  let main_cst_0 : FVec F S_ .f32 := constant S_ .f32 0x7F800000#32
  let main_v6 : FVec F S16x2048x16x64 .f32 := broadcastInDim S16x2048x16x64 ![] bcast_S_S16x2048x16x64 main_cst_0
  let main_v7 : IVec S16x2048x16x64 1 := cmpf .olt main_v5 main_v6
  let main_v8 : FVec F S16x2048x16 .f32 := Host.absf main_arg4
  let main_cst_1 : FVec F S_ .f32 := constant S_ .f32 0x7F800000#32
  let main_v9 : FVec F S16x2048x16 .f32 := broadcastInDim S16x2048x16 ![] bcast_S_S16x2048x16 main_cst_1
  let main_v10 : IVec S16x2048x16 1 := cmpf .olt main_v8 main_v9
  (main_v2, main_v7, main_v10)
-- ==== Kernel.lean ====
abbrev S16x2048x1024 : Shape := ⟨3, ![16, 2048, 1024]⟩
abbrev S16x2048x3072 : Shape := ⟨3, ![16, 2048, 3072]⟩
abbrev S2x16x2048x16x64 : Shape := ⟨5, ![2, 16, 2048, 16, 64]⟩
abbrev S16x2048x16 : Shape := ⟨3, ![16, 2048, 16]⟩
abbrev S_ : Shape := ⟨0, ![]⟩
abbrev S16x2048x4096 : Shape := ⟨3, ![16, 2048, 4096]⟩
abbrev S2x16x16x64x2048 : Shape := ⟨5, ![2, 16, 16, 64, 2048]⟩
abbrev S2x16x1024x2048 : Shape := ⟨4, ![2, 16, 1024, 2048]⟩
abbrev S16x16x2048 : Shape := ⟨3, ![16, 16, 2048]⟩
abbrev S16x16x8x256 : Shape := ⟨4, ![16, 16, 8, 256]⟩
abbrev S1x256x1024 : Shape := ⟨3, ![1, 256, 1024]⟩
abbrev S1x1x1024x2048 : Shape := ⟨4, ![1, 1, 1024, 2048]⟩
abbrev S1x16x8x256 : Shape := ⟨4, ![1, 16, 8, 256]⟩
abbrev S16x8x128x256 : Shape := ⟨4, ![16, 8, 128, 256]⟩
abbrev S8x8x128x256 : Shape := ⟨4, ![8, 8, 128, 256]⟩
abbrev S16x1x256 : Shape := ⟨3, ![16, 1, 256]⟩
abbrev S16x64x256 : Shape := ⟨3, ![16, 64, 256]⟩
abbrev S16x256 : Shape := ⟨2, ![16, 256]⟩
abbrev S48x256 : Shape := ⟨2, ![48, 256]⟩
abbrev S1x1x128x256 : Shape := ⟨4, ![1, 1, 128, 256]⟩
abbrev S128x256 : Shape := ⟨2, ![128, 256]⟩
abbrev S1x1x1x256 : Shape := ⟨4, ![1, 1, 1, 256]⟩
abbrev S1x256 : Shape := ⟨2, ![1, 256]⟩
abbrev S64x256 : Shape := ⟨2, ![64, 256]⟩
abbrev S1x256x128 : Shape := ⟨3, ![1, 256, 128]⟩
abbrev S256x128 : Shape := ⟨2, ![256, 128]⟩
abbrev S256x256 : Shape := ⟨2, ![256, 256]⟩
abbrev S1x1x256 : Shape := ⟨3, ![1, 1, 256]⟩
abbrev S256 : Shape := ⟨1, ![256]⟩
abbrev S1x64x256 : Shape := ⟨3, ![1, 64, 256]⟩
abbrev S1x1x64x256 : Shape := ⟨4, ![1, 1, 64, 256]⟩

abbrev nBuf : Space → Nat
  | .hbm => 20
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x3072, .f32⟩
  | .hbm, ⟨2, _⟩ => ⟨S2x16x2048x16x64, .f32⟩
  | .hbm, ⟨3, _⟩ => ⟨S2x16x2048x16x64, .f32⟩
  | .hbm, ⟨4, _⟩ => ⟨S16x2048x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x1024, .f32⟩
  | .hbm, ⟨10, _⟩ => ⟨S16x2048x1024, .f32⟩
  | .hbm, ⟨11, _⟩ => ⟨S16x2048x4096, .f32⟩
  | .hbm, ⟨12, _⟩ => ⟨S16x2048x4096, .bf16⟩
  | .hbm, ⟨13, _⟩ => ⟨S2x16x16x64x2048, .f32⟩
  | .hbm, ⟨14, _⟩ => ⟨S2x16x1024x2048, .f32⟩
  | .hbm, ⟨15, _⟩ => ⟨S2x16x16x64x2048, .f32⟩
  | .hbm, ⟨16, _⟩ => ⟨S2x16x1024x2048, .f32⟩
  | .hbm, ⟨17, _⟩ => ⟨S16x16x2048, .f32⟩
  | .hbm, ⟨18, _⟩ => ⟨S16x16x8x256, .f32⟩
  | .hbm, ⟨19, _⟩ => ⟨S16x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1024x2048, .f32⟩
  | .local _ .vmem, ⟨5, _⟩ => ⟨S1x1x1024x2048, .f32⟩
  | .local _ .vmem, ⟨6, _⟩ => ⟨S1x16x8x256, .f32⟩
  | .local _ .vmem, ⟨7, _⟩ => ⟨S1x16x8x256, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S16x8x128x256, .bf16⟩
  | .local _ .vmem, ⟨13, _⟩ => ⟨S8x8x128x256, .bf16⟩
  | .local _ .vmem, ⟨14, _⟩ => ⟨S16x1x256, .f32⟩
  | .local _ .vmem, ⟨15, _⟩ => ⟨S16x1x256, .f32⟩
  | .local _ .vmem, ⟨16, _⟩ => ⟨S16x64x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 1, 8], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

def k0_off1 (i : grid0.Coords) (c0_i32_174 : BitVec 32) : Fin 4 → Nat :=
  let c0_175 : Index := 0#32
  let arg1 : BitVec 32 := BitVec.ofNat 32 (i 1).val
  let c16_i32 : BitVec 32 := 16#32
  let v302 : BitVec 32 := Scalar.muli arg1 c16_i32
  let v303 : BitVec 32 := Scalar.addi v302 c0_i32_174
  let v304 : Index := Scalar.indexCast v303
  let c0_176 : Index := 0#32
  let c0_177 : Index := 0#32
  ![0, v304.toNat, 0, 0]
def k0_off2 (i : grid0.Coords) (c0_i32_214 : BitVec 32) : Fin 4 → Nat :=
  let c0_215 : Index := 0#32
  let arg1 : BitVec 32 := BitVec.ofNat 32 (i 1).val
  let c16_i32_213 : BitVec 32 := 16#32
  let v386 : BitVec 32 := Scalar.muli arg1 c16_i32_213
  let v387 : BitVec 32 := Scalar.addi v386 c0_i32_214
  let v388 : Index := Scalar.indexCast v387
  let c1_216 : Index := 1#32
  let c0_217 : Index := 0#32
  ![0, v388.toNat, 1, 0]
def k0_off3 (i : grid0.Coords) (c0_i32_254 : BitVec 32) : Fin 4 → Nat :=
  let c0_255 : Index := 0#32
  let arg1 : BitVec 32 := BitVec.ofNat 32 (i 1).val
  let c16_i32_253 : BitVec 32 := 16#32
  let v470 : BitVec 32 := Scalar.muli arg1 c16_i32_253
  let v471 : BitVec 32 := Scalar.addi v470 c0_i32_254
  let v472 : Index := Scalar.indexCast v471
  let c2_256 : Index := 2#32
  let c0_257 : Index := 0#32
  ![0, v472.toNat, 2, 0]
def k0_off4 (i : grid0.Coords) (c0_i32_294 : BitVec 32) : Fin 4 → Nat :=
  let c0_295 : Index := 0#32
  let arg1 : BitVec 32 := BitVec.ofNat 32 (i 1).val
  let c16_i32_293 : BitVec 32 := 16#32
  let v554 : BitVec 32 := Scalar.muli arg1 c16_i32_293
  let v555 : BitVec 32 := Scalar.addi v554 c0_i32_294
  let v556 : Index := Scalar.indexCast v555
  let c3_296 : Index := 3#32
  let c0_297 : Index := 0#32
  ![0, v556.toNat, 3, 0]
def k0_off5 (i : grid0.Coords) (c0_i32_333 : BitVec 32) : Fin 4 → Nat :=
  let c0_334 : Index := 0#32
  let arg1 : BitVec 32 := BitVec.ofNat 32 (i 1).val
  let c16_i32_332 : BitVec 32 := 16#32
  let v638 : BitVec 32 := Scalar.muli arg1 c16_i32_332
  let v639 : BitVec 32 := Scalar.addi v638 c0_i32_333
  let v640 : Index := Scalar.indexCast v639
  let c4_335 : Index := 4#32
  let c0_336 : Index := 0#32
  ![0, v640.toNat, 4, 0]
def k0_off6 (i : grid0.Coords) (c0_i32_372 : BitVec 32) : Fin 4 → Nat :=
  let c0_373 : Index := 0#32
  let arg1 : BitVec 32 := BitVec.ofNat 32 (i 1).val
  let c16_i32_371 : BitVec 32 := 16#32
  let v722 : BitVec 32 := Scalar.muli arg1 c16_i32_371
  let v723 : BitVec 32 := Scalar.addi v722 c0_i32_372
  let v724 : Index := Scalar.indexCast v723
  let c5_374 : Index := 5#32
  let c0_375 : Index := 0#32
  ![0, v724.toNat, 5, 0]
def k0_off7 (i : grid0.Coords) (c0_i32_411 : BitVec 32) : Fin 4 → Nat :=
  let c0_412 : Index := 0#32
  let arg1 : BitVec 32 := BitVec.ofNat 32 (i 1).val
  let c16_i32_410 : BitVec 32 := 16#32
  let v806 : BitVec 32 := Scalar.muli arg1 c16_i32_410
  let v807 : BitVec 32 := Scalar.addi v806 c0_i32_411
  let v808 : Index := Scalar.indexCast v807
  let c6_413 : Index := 6#32
  let c0_414 : Index := 0#32
  ![0, v808.toNat, 6, 0]
def k0_off8 (i : grid0.Coords) (c0_i32_450 : BitVec 32) : Fin 4 → Nat :=
  let c0_451 : Index := 0#32
  let arg1 : BitVec 32 := BitVec.ofNat 32 (i 1).val
  let c16_i32_449 : BitVec 32 := 16#32
  let v890 : BitVec 32 := Scalar.muli arg1 c16_i32_449
  let v891 : BitVec 32 := Scalar.addi v890 c0_i32_450
  let v892 : Index := Scalar.indexCast v891
  let c7_452 : Index := 7#32
  let c0_453 : Index := 0#32
  ![0, v892.toNat, 7, 0]
@[reducible] def k0_t1_loop (i : grid0.Coords) : Scf.Loop 32 :=
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_39 : BitVec 32 := 1#32
  ⟨c0_i32_37, v123, c1_i32_39⟩
def k0_off9 (i : grid0.Coords) (k0_t1 : Fin (k0_t1_loop i).trips) : Fin 4 → Nat :=
  let c0_165 : Index := 0#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v297 : Index := Scalar.indexCast v294
  let c0_166 : Index := 0#32
  let c0_167 : Index := 0#32
  ![0, v297.toNat, 0, 0]
def k0_off10 (i : grid0.Coords) (k0_t1 : Fin (k0_t1_loop i).trips) : Fin 4 → Nat :=
  let c0_169 : Index := 0#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v301 : Index := Scalar.indexCast v296
  let c0_170 : Index := 0#32
  let c0_171 : Index := 0#32
  ![0, v301.toNat, 0, 0]
def k0_off11 (i : grid0.Coords) (k0_t1 : Fin (k0_t1_loop i).trips) : Fin 4 → Nat :=
  let c1_173 : Index := 1#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v305 : Index := Scalar.indexCast v294
  let c0_174 : Index := 0#32
  let c0_175 : Index := 0#32
  ![1, v305.toNat, 0, 0]
def k0_off12 (i : grid0.Coords) (k0_t1 : Fin (k0_t1_loop i).trips) : Fin 4 → Nat :=
  let c1_177 : Index := 1#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v309 : Index := Scalar.indexCast v296
  let c0_178 : Index := 0#32
  let c0_179 : Index := 0#32
  ![1, v309.toNat, 0, 0]
def k0_off13 (i : grid0.Coords) (k0_t1 : Fin (k0_t1_loop i).trips) : Fin 4 → Nat :=
  let c2_181 : Index := 2#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v313 : Index := Scalar.indexCast v294
  let c0_182 : Index := 0#32
  let c0_183 : Index := 0#32
  ![2, v313.toNat, 0, 0]
def k0_off14 (i : grid0.Coords) (k0_t1 : Fin (k0_t1_loop i).trips) : Fin 4 → Nat :=
  let c2_185 : Index := 2#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v317 : Index := Scalar.indexCast v296
  let c0_186 : Index := 0#32
  let c0_187 : Index := 0#32
  ![2, v317.toNat, 0, 0]
def k0_off15 (i : grid0.Coords) (k0_t1 : Fin (k0_t1_loop i).trips) : Fin 4 → Nat :=
  let c3_189 : Index := 3#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v321 : Index := Scalar.indexCast v294
  let c0_190 : Index := 0#32
  let c0_191 : Index := 0#32
  ![3, v321.toNat, 0, 0]
def k0_off16 (i : grid0.Coords) (k0_t1 : Fin (k0_t1_loop i).trips) : Fin 4 → Nat :=
  let c3_193 : Index := 3#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v325 : Index := Scalar.indexCast v296
  let c0_194 : Index := 0#32
  let c0_195 : Index := 0#32
  ![3, v325.toNat, 0, 0]
def k0_off17 (i : grid0.Coords) (k0_t1 : Fin (k0_t1_loop i).trips) : Fin 4 → Nat :=
  let c4_197 : Index := 4#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v329 : Index := Scalar.indexCast v294
  let c0_198 : Index := 0#32
  let c0_199 : Index := 0#32
  ![4, v329.toNat, 0, 0]
def k0_off18 (i : grid0.Coords) (k0_t1 : Fin (k0_t1_loop i).trips) : Fin 4 → Nat :=
  let c4_201 : Index := 4#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v333 : Index := Scalar.indexCast v296
  let c0_202 : Index := 0#32
  let c0_203 : Index := 0#32
  ![4, v333.toNat, 0, 0]
def k0_off19 (i : grid0.Coords) (k0_t1 : Fin (k0_t1_loop i).trips) : Fin 4 → Nat :=
  let c5_205 : Index := 5#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v337 : Index := Scalar.indexCast v294
  let c0_206 : Index := 0#32
  let c0_207 : Index := 0#32
  ![5, v337.toNat, 0, 0]
def k0_off20 (i : grid0.Coords) (k0_t1 : Fin (k0_t1_loop i).trips) : Fin 4 → Nat :=
  let c5_209 : Index := 5#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v341 : Index := Scalar.indexCast v296
  let c0_210 : Index := 0#32
  let c0_211 : Index := 0#32
  ![5, v341.toNat, 0, 0]
def k0_off21 (i : grid0.Coords) (k0_t1 : Fin (k0_t1_loop i).trips) : Fin 4 → Nat :=
  let c6_213 : Index := 6#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v345 : Index := Scalar.indexCast v294
  let c0_214 : Index := 0#32
  let c0_215 : Index := 0#32
  ![6, v345.toNat, 0, 0]
def k0_off22 (i : grid0.Coords) (k0_t1 : Fin (k0_t1_loop i).trips) : Fin 4 → Nat :=
  let c6_217 : Index := 6#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v349 : Index := Scalar.indexCast v296
  let c0_218 : Index := 0#32
  let c0_219 : Index := 0#32
  ![6, v349.toNat, 0, 0]
def k0_off23 (i : grid0.Coords) (k0_t1 : Fin (k0_t1_loop i).trips) : Fin 4 → Nat :=
  let c7_221 : Index := 7#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v353 : Index := Scalar.indexCast v294
  let c0_222 : Index := 0#32
  let c0_223 : Index := 0#32
  ![7, v353.toNat, 0, 0]
def k0_off24 (i : grid0.Coords) (k0_t1 : Fin (k0_t1_loop i).trips) : Fin 4 → Nat :=
  let c7_225 : Index := 7#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v357 : Index := Scalar.indexCast v296
  let c0_226 : Index := 0#32
  let c0_227 : Index := 0#32
  ![7, v357.toNat, 0, 0]
def k0_off25 (i : grid0.Coords) (k0_t1 : Fin (k0_t1_loop i).trips) : Fin 4 → Nat :=
  let c8_229 : Index := 8#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v361 : Index := Scalar.indexCast v294
  let c0_230 : Index := 0#32
  let c0_231 : Index := 0#32
  ![8, v361.toNat, 0, 0]
def k0_off26 (i : grid0.Coords) (k0_t1 : Fin (k0_t1_loop i).trips) : Fin 4 → Nat :=
  let c8_233 : Index := 8#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v365 : Index := Scalar.indexCast v296
  let c0_234 : Index := 0#32
  let c0_235 : Index := 0#32
  ![8, v365.toNat, 0, 0]
def k0_off27 (i : grid0.Coords) (k0_t1 : Fin (k0_t1_loop i).trips) : Fin 4 → Nat :=
  let c9_237 : Index := 9#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v369 : Index := Scalar.indexCast v294
  let c0_238 : Index := 0#32
  let c0_239 : Index := 0#32
  ![9, v369.toNat, 0, 0]
def k0_off28 (i : grid0.Coords) (k0_t1 : Fin (k0_t1_loop i).trips) : Fin 4 → Nat :=
  let c9_241 : Index := 9#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v373 : Index := Scalar.indexCast v296
  let c0_242 : Index := 0#32
  let c0_243 : Index := 0#32
  ![9, v373.toNat, 0, 0]
def k0_off29 (i : grid0.Coords) (k0_t1 : Fin (k0_t1_loop i).trips) : Fin 4 → Nat :=
  let c10_245 : Index := 10#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v377 : Index := Scalar.indexCast v294
  let c0_246 : Index := 0#32
  let c0_247 : Index := 0#32
  ![10, v377.toNat, 0, 0]
def k0_off30 (i : grid0.Coords) (k0_t1 : Fin (k0_t1_loop i).trips) : Fin 4 → Nat :=
  let c10_249 : Index := 10#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v381 : Index := Scalar.indexCast v296
  let c0_250 : Index := 0#32
  let c0_251 : Index := 0#32
  ![10, v381.toNat, 0, 0]
def k0_off31 (i : grid0.Coords) (k0_t1 : Fin (k0_t1_loop i).trips) : Fin 4 → Nat :=
  let c11_253 : Index := 11#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v385 : Index := Scalar.indexCast v294
  let c0_254 : Index := 0#32
  let c0_255 : Index := 0#32
  ![11, v385.toNat, 0, 0]
def k0_off32 (i : grid0.Coords) (k0_t1 : Fin (k0_t1_loop i).trips) : Fin 4 → Nat :=
  let c11_257 : Index := 11#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v389 : Index := Scalar.indexCast v296
  let c0_258 : Index := 0#32
  let c0_259 : Index := 0#32
  ![11, v389.toNat, 0, 0]
def k0_off33 (i : grid0.Coords) (k0_t1 : Fin (k0_t1_loop i).trips) : Fin 4 → Nat :=
  let c12_261 : Index := 12#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v393 : Index := Scalar.indexCast v294
  let c0_262 : Index := 0#32
  let c0_263 : Index := 0#32
  ![12, v393.toNat, 0, 0]
def k0_off34 (i : grid0.Coords) (k0_t1 : Fin (k0_t1_loop i).trips) : Fin 4 → Nat :=
  let c12_265 : Index := 12#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v397 : Index := Scalar.indexCast v296
  let c0_266 : Index := 0#32
  let c0_267 : Index := 0#32
  ![12, v397.toNat, 0, 0]
def k0_off35 (i : grid0.Coords) (k0_t1 : Fin (k0_t1_loop i).trips) : Fin 4 → Nat :=
  let c13_269 : Index := 13#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v401 : Index := Scalar.indexCast v294
  let c0_270 : Index := 0#32
  let c0_271 : Index := 0#32
  ![13, v401.toNat, 0, 0]
def k0_off36 (i : grid0.Coords) (k0_t1 : Fin (k0_t1_loop i).trips) : Fin 4 → Nat :=
  let c13_273 : Index := 13#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v405 : Index := Scalar.indexCast v296
  let c0_274 : Index := 0#32
  let c0_275 : Index := 0#32
  ![13, v405.toNat, 0, 0]
def k0_off37 (i : grid0.Coords) (k0_t1 : Fin (k0_t1_loop i).trips) : Fin 4 → Nat :=
  let c14_277 : Index := 14#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v409 : Index := Scalar.indexCast v294
  let c0_278 : Index := 0#32
  let c0_279 : Index := 0#32
  ![14, v409.toNat, 0, 0]
def k0_off38 (i : grid0.Coords) (k0_t1 : Fin (k0_t1_loop i).trips) : Fin 4 → Nat :=
  let c14_281 : Index := 14#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v413 : Index := Scalar.indexCast v296
  let c0_282 : Index := 0#32
  let c0_283 : Index := 0#32
  ![14, v413.toNat, 0, 0]
def k0_off39 (i : grid0.Coords) (k0_t1 : Fin (k0_t1_loop i).trips) : Fin 4 → Nat :=
  let c15_285 : Index := 15#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v417 : Index := Scalar.indexCast v294
  let c0_286 : Index := 0#32
  let c0_287 : Index := 0#32
  ![15, v417.toNat, 0, 0]
def k0_off40 (i : grid0.Coords) (k0_t1 : Fin (k0_t1_loop i).trips) : Fin 4 → Nat :=
  let c15_289 : Index := 15#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v421 : Index := Scalar.indexCast v296
  let c0_290 : Index := 0#32
  let c0_291 : Index := 0#32
  ![15, v421.toNat, 0, 0]
def k0_off41 (i : grid0.Coords) (k0_t1 : Fin (k0_t1_loop i).trips) : Fin 4 → Nat :=
  let c0_552 : Index := 0#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v957 : Index := Scalar.indexCast v294
  let c0_553 : Index := 0#32
  let c0_554 : Index := 0#32
  ![0, v957.toNat, 0, 0]
def k0_off42 (i : grid0.Coords) (k0_t1 : Fin (k0_t1_loop i).trips) : Fin 4 → Nat :=
  let c0_556 : Index := 0#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v962 : Index := Scalar.indexCast v296
  let c0_557 : Index := 0#32
  let c0_558 : Index := 0#32
  ![0, v962.toNat, 0, 0]
def k0_off43 (i : grid0.Coords) (k0_t1 : Fin (k0_t1_loop i).trips) : Fin 4 → Nat :=
  let c0_566 : Index := 0#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v974 : Index := Scalar.indexCast v294
  let c64 : Index := 64#32
  let c0_567 : Index := 0#32
  ![0, v974.toNat, 64, 0]
def k0_off44 (i : grid0.Coords) (k0_t1 : Fin (k0_t1_loop i).trips) : Fin 4 → Nat :=
  let c0_569 : Index := 0#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v979 : Index := Scalar.indexCast v296
  let c64_570 : Index := 64#32
  let c0_571 : Index := 0#32
  ![0, v979.toNat, 64, 0]
def k0_off45 (i : grid0.Coords) (k0_t1 : Fin (k0_t1_loop i).trips) : Fin 4 → Nat :=
  let c1_579 : Index := 1#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v991 : Index := Scalar.indexCast v294
  let c0_580 : Index := 0#32
  let c0_581 : Index := 0#32
  ![1, v991.toNat, 0, 0]
def k0_off46 (i : grid0.Coords) (k0_t1 : Fin (k0_t1_loop i).trips) : Fin 4 → Nat :=
  let c1_583 : Index := 1#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v996 : Index := Scalar.indexCast v296
  let c0_584 : Index := 0#32
  let c0_585 : Index := 0#32
  ![1, v996.toNat, 0, 0]
def k0_off47 (i : grid0.Coords) (k0_t1 : Fin (k0_t1_loop i).trips) : Fin 4 → Nat :=
  let c1_593 : Index := 1#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1008 : Index := Scalar.indexCast v294
  let c64_594 : Index := 64#32
  let c0_595 : Index := 0#32
  ![1, v1008.toNat, 64, 0]
def k0_off48 (i : grid0.Coords) (k0_t1 : Fin (k0_t1_loop i).trips) : Fin 4 → Nat :=
  let c1_597 : Index := 1#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1013 : Index := Scalar.indexCast v296
  let c64_598 : Index := 64#32
  let c0_599 : Index := 0#32
  ![1, v1013.toNat, 64, 0]
def k0_off49 (i : grid0.Coords) (k0_t1 : Fin (k0_t1_loop i).trips) : Fin 4 → Nat :=
  let c2_607 : Index := 2#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1025 : Index := Scalar.indexCast v294
  let c0_608 : Index := 0#32
  let c0_609 : Index := 0#32
  ![2, v1025.toNat, 0, 0]
def k0_off50 (i : grid0.Coords) (k0_t1 : Fin (k0_t1_loop i).trips) : Fin 4 → Nat :=
  let c2_611 : Index := 2#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1030 : Index := Scalar.indexCast v296
  let c0_612 : Index := 0#32
  let c0_613 : Index := 0#32
  ![2, v1030.toNat, 0, 0]
def k0_off51 (i : grid0.Coords) (k0_t1 : Fin (k0_t1_loop i).trips) : Fin 4 → Nat :=
  let c2_621 : Index := 2#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1042 : Index := Scalar.indexCast v294
  let c64_622 : Index := 64#32
  let c0_623 : Index := 0#32
  ![2, v1042.toNat, 64, 0]
def k0_off52 (i : grid0.Coords) (k0_t1 : Fin (k0_t1_loop i).trips) : Fin 4 → Nat :=
  let c2_625 : Index := 2#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1047 : Index := Scalar.indexCast v296
  let c64_626 : Index := 64#32
  let c0_627 : Index := 0#32
  ![2, v1047.toNat, 64, 0]
def k0_off53 (i : grid0.Coords) (k0_t1 : Fin (k0_t1_loop i).trips) : Fin 4 → Nat :=
  let c3_635 : Index := 3#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1059 : Index := Scalar.indexCast v294
  let c0_636 : Index := 0#32
  let c0_637 : Index := 0#32
  ![3, v1059.toNat, 0, 0]
def k0_off54 (i : grid0.Coords) (k0_t1 : Fin (k0_t1_loop i).trips) : Fin 4 → Nat :=
  let c3_639 : Index := 3#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1064 : Index := Scalar.indexCast v296
  let c0_640 : Index := 0#32
  let c0_641 : Index := 0#32
  ![3, v1064.toNat, 0, 0]
def k0_off55 (i : grid0.Coords) (k0_t1 : Fin (k0_t1_loop i).trips) : Fin 4 → Nat :=
  let c3_649 : Index := 3#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1076 : Index := Scalar.indexCast v294
  let c64_650 : Index := 64#32
  let c0_651 : Index := 0#32
  ![3, v1076.toNat, 64, 0]
def k0_off56 (i : grid0.Coords) (k0_t1 : Fin (k0_t1_loop i).trips) : Fin 4 → Nat :=
  let c3_653 : Index := 3#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1081 : Index := Scalar.indexCast v296
  let c64_654 : Index := 64#32
  let c0_655 : Index := 0#32
  ![3, v1081.toNat, 64, 0]
def k0_off57 (i : grid0.Coords) (k0_t1 : Fin (k0_t1_loop i).trips) : Fin 4 → Nat :=
  let c4_663 : Index := 4#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1093 : Index := Scalar.indexCast v294
  let c0_664 : Index := 0#32
  let c0_665 : Index := 0#32
  ![4, v1093.toNat, 0, 0]
def k0_off58 (i : grid0.Coords) (k0_t1 : Fin (k0_t1_loop i).trips) : Fin 4 → Nat :=
  let c4_667 : Index := 4#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1098 : Index := Scalar.indexCast v296
  let c0_668 : Index := 0#32
  let c0_669 : Index := 0#32
  ![4, v1098.toNat, 0, 0]
def k0_off59 (i : grid0.Coords) (k0_t1 : Fin (k0_t1_loop i).trips) : Fin 4 → Nat :=
  let c4_677 : Index := 4#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1110 : Index := Scalar.indexCast v294
  let c64_678 : Index := 64#32
  let c0_679 : Index := 0#32
  ![4, v1110.toNat, 64, 0]
def k0_off60 (i : grid0.Coords) (k0_t1 : Fin (k0_t1_loop i).trips) : Fin 4 → Nat :=
  let c4_681 : Index := 4#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1115 : Index := Scalar.indexCast v296
  let c64_682 : Index := 64#32
  let c0_683 : Index := 0#32
  ![4, v1115.toNat, 64, 0]
def k0_off61 (i : grid0.Coords) (k0_t1 : Fin (k0_t1_loop i).trips) : Fin 4 → Nat :=
  let c5_691 : Index := 5#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1127 : Index := Scalar.indexCast v294
  let c0_692 : Index := 0#32
  let c0_693 : Index := 0#32
  ![5, v1127.toNat, 0, 0]
def k0_off62 (i : grid0.Coords) (k0_t1 : Fin (k0_t1_loop i).trips) : Fin 4 → Nat :=
  let c5_695 : Index := 5#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1132 : Index := Scalar.indexCast v296
  let c0_696 : Index := 0#32
  let c0_697 : Index := 0#32
  ![5, v1132.toNat, 0, 0]
def k0_off63 (i : grid0.Coords) (k0_t1 : Fin (k0_t1_loop i).trips) : Fin 4 → Nat :=
  let c5_705 : Index := 5#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1144 : Index := Scalar.indexCast v294
  let c64_706 : Index := 64#32
  let c0_707 : Index := 0#32
  ![5, v1144.toNat, 64, 0]
def k0_off64 (i : grid0.Coords) (k0_t1 : Fin (k0_t1_loop i).trips) : Fin 4 → Nat :=
  let c5_709 : Index := 5#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1149 : Index := Scalar.indexCast v296
  let c64_710 : Index := 64#32
  let c0_711 : Index := 0#32
  ![5, v1149.toNat, 64, 0]
def k0_off65 (i : grid0.Coords) (k0_t1 : Fin (k0_t1_loop i).trips) : Fin 4 → Nat :=
  let c6_719 : Index := 6#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1161 : Index := Scalar.indexCast v294
  let c0_720 : Index := 0#32
  let c0_721 : Index := 0#32
  ![6, v1161.toNat, 0, 0]
def k0_off66 (i : grid0.Coords) (k0_t1 : Fin (k0_t1_loop i).trips) : Fin 4 → Nat :=
  let c6_723 : Index := 6#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1166 : Index := Scalar.indexCast v296
  let c0_724 : Index := 0#32
  let c0_725 : Index := 0#32
  ![6, v1166.toNat, 0, 0]
def k0_off67 (i : grid0.Coords) (k0_t1 : Fin (k0_t1_loop i).trips) : Fin 4 → Nat :=
  let c6_733 : Index := 6#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1178 : Index := Scalar.indexCast v294
  let c64_734 : Index := 64#32
  let c0_735 : Index := 0#32
  ![6, v1178.toNat, 64, 0]
def k0_off68 (i : grid0.Coords) (k0_t1 : Fin (k0_t1_loop i).trips) : Fin 4 → Nat :=
  let c6_737 : Index := 6#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1183 : Index := Scalar.indexCast v296
  let c64_738 : Index := 64#32
  let c0_739 : Index := 0#32
  ![6, v1183.toNat, 64, 0]
def k0_off69 (i : grid0.Coords) (k0_t1 : Fin (k0_t1_loop i).trips) : Fin 4 → Nat :=
  let c7_747 : Index := 7#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1195 : Index := Scalar.indexCast v294
  let c0_748 : Index := 0#32
  let c0_749 : Index := 0#32
  ![7, v1195.toNat, 0, 0]
def k0_off70 (i : grid0.Coords) (k0_t1 : Fin (k0_t1_loop i).trips) : Fin 4 → Nat :=
  let c7_751 : Index := 7#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1200 : Index := Scalar.indexCast v296
  let c0_752 : Index := 0#32
  let c0_753 : Index := 0#32
  ![7, v1200.toNat, 0, 0]
def k0_off71 (i : grid0.Coords) (k0_t1 : Fin (k0_t1_loop i).trips) : Fin 4 → Nat :=
  let c7_761 : Index := 7#32
  let c2_i32_162 : BitVec 32 := 2#32
  let c0_i32_37 : BitVec 32 := 0#32
  let c1_i32_39 : BitVec 32 := 1#32
  let arg14 : BitVec 32 := Scf.iv c0_i32_37 c1_i32_39 k0_t1
  let v294 : BitVec 32 := Scalar.muli c2_i32_162 arg14
  let v1212 : Index := Scalar.indexCast v294
  let c64_762 : Index := 64#32
  let c0_763 : Index := 0#32
  ![7, v1212.toNat, 64, 0]
def k0_off72 (i : grid0.Coords) (k0_t1 : Fin (k0_t1_loop i).trips) : Fin 4 → Nat :=
  let c7_765 : Index := 7#32
  let c2_i32_163 : BitVec 32 := 2#32
  let c0_i32_37 : BitVec 32 := 0#32
  let c1_i32_39 : BitVec 32 := 1#32
  let arg14 : BitVec 32 := Scf.iv c0_i32_37 c1_i32_39 k0_t1
  let v295 : BitVec 32 := Scalar.muli c2_i32_163 arg14
  let c1_i32_164 : BitVec 32 := 1#32
  let v296 : BitVec 32 := Scalar.addi v295 c1_i32_164
  let v1217 : Index := Scalar.indexCast v296
  let c64_766 : Index := 64#32
  let c0_767 : Index := 0#32
  ![7, v1217.toNat, 64, 0]
@[reducible] def k0_t2_loop (i : grid0.Coords) : Scf.Loop 32 :=
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let v120 : BitVec 32 := Scalar.addi c0_i32_37 v119
  let c1_i32_40 : BitVec 32 := 1#32
  ⟨v123, v120, c1_i32_40⟩
def k0_off73 (i : grid0.Coords) (k0_t2 : Fin (k0_t2_loop i).trips) : Fin 4 → Nat :=
  let c0_165 : Index := 0#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v297 : Index := Scalar.indexCast v294
  let c0_166 : Index := 0#32
  let c0_167 : Index := 0#32
  ![0, v297.toNat, 0, 0]
def k0_off74 (i : grid0.Coords) (k0_t2 : Fin (k0_t2_loop i).trips) : Fin 4 → Nat :=
  let c0_169 : Index := 0#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v301 : Index := Scalar.indexCast v296
  let c0_170 : Index := 0#32
  let c0_171 : Index := 0#32
  ![0, v301.toNat, 0, 0]
def k0_off75 (i : grid0.Coords) (k0_t2 : Fin (k0_t2_loop i).trips) : Fin 4 → Nat :=
  let c1_173 : Index := 1#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v305 : Index := Scalar.indexCast v294
  let c0_174 : Index := 0#32
  let c0_175 : Index := 0#32
  ![1, v305.toNat, 0, 0]
def k0_off76 (i : grid0.Coords) (k0_t2 : Fin (k0_t2_loop i).trips) : Fin 4 → Nat :=
  let c1_177 : Index := 1#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v309 : Index := Scalar.indexCast v296
  let c0_178 : Index := 0#32
  let c0_179 : Index := 0#32
  ![1, v309.toNat, 0, 0]
def k0_off77 (i : grid0.Coords) (k0_t2 : Fin (k0_t2_loop i).trips) : Fin 4 → Nat :=
  let c2_181 : Index := 2#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v313 : Index := Scalar.indexCast v294
  let c0_182 : Index := 0#32
  let c0_183 : Index := 0#32
  ![2, v313.toNat, 0, 0]
def k0_off78 (i : grid0.Coords) (k0_t2 : Fin (k0_t2_loop i).trips) : Fin 4 → Nat :=
  let c2_185 : Index := 2#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v317 : Index := Scalar.indexCast v296
  let c0_186 : Index := 0#32
  let c0_187 : Index := 0#32
  ![2, v317.toNat, 0, 0]
def k0_off79 (i : grid0.Coords) (k0_t2 : Fin (k0_t2_loop i).trips) : Fin 4 → Nat :=
  let c3_189 : Index := 3#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v321 : Index := Scalar.indexCast v294
  let c0_190 : Index := 0#32
  let c0_191 : Index := 0#32
  ![3, v321.toNat, 0, 0]
def k0_off80 (i : grid0.Coords) (k0_t2 : Fin (k0_t2_loop i).trips) : Fin 4 → Nat :=
  let c3_193 : Index := 3#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v325 : Index := Scalar.indexCast v296
  let c0_194 : Index := 0#32
  let c0_195 : Index := 0#32
  ![3, v325.toNat, 0, 0]
def k0_off81 (i : grid0.Coords) (k0_t2 : Fin (k0_t2_loop i).trips) : Fin 4 → Nat :=
  let c4_197 : Index := 4#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v329 : Index := Scalar.indexCast v294
  let c0_198 : Index := 0#32
  let c0_199 : Index := 0#32
  ![4, v329.toNat, 0, 0]
def k0_off82 (i : grid0.Coords) (k0_t2 : Fin (k0_t2_loop i).trips) : Fin 4 → Nat :=
  let c4_201 : Index := 4#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v333 : Index := Scalar.indexCast v296
  let c0_202 : Index := 0#32
  let c0_203 : Index := 0#32
  ![4, v333.toNat, 0, 0]
def k0_off83 (i : grid0.Coords) (k0_t2 : Fin (k0_t2_loop i).trips) : Fin 4 → Nat :=
  let c5_205 : Index := 5#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v337 : Index := Scalar.indexCast v294
  let c0_206 : Index := 0#32
  let c0_207 : Index := 0#32
  ![5, v337.toNat, 0, 0]
def k0_off84 (i : grid0.Coords) (k0_t2 : Fin (k0_t2_loop i).trips) : Fin 4 → Nat :=
  let c5_209 : Index := 5#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v341 : Index := Scalar.indexCast v296
  let c0_210 : Index := 0#32
  let c0_211 : Index := 0#32
  ![5, v341.toNat, 0, 0]
def k0_off85 (i : grid0.Coords) (k0_t2 : Fin (k0_t2_loop i).trips) : Fin 4 → Nat :=
  let c6_213 : Index := 6#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v345 : Index := Scalar.indexCast v294
  let c0_214 : Index := 0#32
  let c0_215 : Index := 0#32
  ![6, v345.toNat, 0, 0]
def k0_off86 (i : grid0.Coords) (k0_t2 : Fin (k0_t2_loop i).trips) : Fin 4 → Nat :=
  let c6_217 : Index := 6#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v349 : Index := Scalar.indexCast v296
  let c0_218 : Index := 0#32
  let c0_219 : Index := 0#32
  ![6, v349.toNat, 0, 0]
def k0_off87 (i : grid0.Coords) (k0_t2 : Fin (k0_t2_loop i).trips) : Fin 4 → Nat :=
  let c7_221 : Index := 7#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v353 : Index := Scalar.indexCast v294
  let c0_222 : Index := 0#32
  let c0_223 : Index := 0#32
  ![7, v353.toNat, 0, 0]
def k0_off88 (i : grid0.Coords) (k0_t2 : Fin (k0_t2_loop i).trips) : Fin 4 → Nat :=
  let c7_225 : Index := 7#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v357 : Index := Scalar.indexCast v296
  let c0_226 : Index := 0#32
  let c0_227 : Index := 0#32
  ![7, v357.toNat, 0, 0]
def k0_off89 (i : grid0.Coords) (k0_t2 : Fin (k0_t2_loop i).trips) : Fin 4 → Nat :=
  let c8_229 : Index := 8#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v361 : Index := Scalar.indexCast v294
  let c0_230 : Index := 0#32
  let c0_231 : Index := 0#32
  ![8, v361.toNat, 0, 0]
def k0_off90 (i : grid0.Coords) (k0_t2 : Fin (k0_t2_loop i).trips) : Fin 4 → Nat :=
  let c8_233 : Index := 8#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v365 : Index := Scalar.indexCast v296
  let c0_234 : Index := 0#32
  let c0_235 : Index := 0#32
  ![8, v365.toNat, 0, 0]
def k0_off91 (i : grid0.Coords) (k0_t2 : Fin (k0_t2_loop i).trips) : Fin 4 → Nat :=
  let c9_237 : Index := 9#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v369 : Index := Scalar.indexCast v294
  let c0_238 : Index := 0#32
  let c0_239 : Index := 0#32
  ![9, v369.toNat, 0, 0]
def k0_off92 (i : grid0.Coords) (k0_t2 : Fin (k0_t2_loop i).trips) : Fin 4 → Nat :=
  let c9_241 : Index := 9#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v373 : Index := Scalar.indexCast v296
  let c0_242 : Index := 0#32
  let c0_243 : Index := 0#32
  ![9, v373.toNat, 0, 0]
def k0_off93 (i : grid0.Coords) (k0_t2 : Fin (k0_t2_loop i).trips) : Fin 4 → Nat :=
  let c10_245 : Index := 10#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v377 : Index := Scalar.indexCast v294
  let c0_246 : Index := 0#32
  let c0_247 : Index := 0#32
  ![10, v377.toNat, 0, 0]
def k0_off94 (i : grid0.Coords) (k0_t2 : Fin (k0_t2_loop i).trips) : Fin 4 → Nat :=
  let c10_249 : Index := 10#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v381 : Index := Scalar.indexCast v296
  let c0_250 : Index := 0#32
  let c0_251 : Index := 0#32
  ![10, v381.toNat, 0, 0]
def k0_off95 (i : grid0.Coords) (k0_t2 : Fin (k0_t2_loop i).trips) : Fin 4 → Nat :=
  let c11_253 : Index := 11#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v385 : Index := Scalar.indexCast v294
  let c0_254 : Index := 0#32
  let c0_255 : Index := 0#32
  ![11, v385.toNat, 0, 0]
def k0_off96 (i : grid0.Coords) (k0_t2 : Fin (k0_t2_loop i).trips) : Fin 4 → Nat :=
  let c11_257 : Index := 11#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v389 : Index := Scalar.indexCast v296
  let c0_258 : Index := 0#32
  let c0_259 : Index := 0#32
  ![11, v389.toNat, 0, 0]
def k0_off97 (i : grid0.Coords) (k0_t2 : Fin (k0_t2_loop i).trips) : Fin 4 → Nat :=
  let c12_261 : Index := 12#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v393 : Index := Scalar.indexCast v294
  let c0_262 : Index := 0#32
  let c0_263 : Index := 0#32
  ![12, v393.toNat, 0, 0]
def k0_off98 (i : grid0.Coords) (k0_t2 : Fin (k0_t2_loop i).trips) : Fin 4 → Nat :=
  let c12_265 : Index := 12#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v397 : Index := Scalar.indexCast v296
  let c0_266 : Index := 0#32
  let c0_267 : Index := 0#32
  ![12, v397.toNat, 0, 0]
def k0_off99 (i : grid0.Coords) (k0_t2 : Fin (k0_t2_loop i).trips) : Fin 4 → Nat :=
  let c13_269 : Index := 13#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v401 : Index := Scalar.indexCast v294
  let c0_270 : Index := 0#32
  let c0_271 : Index := 0#32
  ![13, v401.toNat, 0, 0]
def k0_off100 (i : grid0.Coords) (k0_t2 : Fin (k0_t2_loop i).trips) : Fin 4 → Nat :=
  let c13_273 : Index := 13#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v405 : Index := Scalar.indexCast v296
  let c0_274 : Index := 0#32
  let c0_275 : Index := 0#32
  ![13, v405.toNat, 0, 0]
def k0_off101 (i : grid0.Coords) (k0_t2 : Fin (k0_t2_loop i).trips) : Fin 4 → Nat :=
  let c14_277 : Index := 14#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v409 : Index := Scalar.indexCast v294
  let c0_278 : Index := 0#32
  let c0_279 : Index := 0#32
  ![14, v409.toNat, 0, 0]
def k0_off102 (i : grid0.Coords) (k0_t2 : Fin (k0_t2_loop i).trips) : Fin 4 → Nat :=
  let c14_281 : Index := 14#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v413 : Index := Scalar.indexCast v296
  let c0_282 : Index := 0#32
  let c0_283 : Index := 0#32
  ![14, v413.toNat, 0, 0]
def k0_off103 (i : grid0.Coords) (k0_t2 : Fin (k0_t2_loop i).trips) : Fin 4 → Nat :=
  let c15_285 : Index := 15#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v417 : Index := Scalar.indexCast v294
  let c0_286 : Index := 0#32
  let c0_287 : Index := 0#32
  ![15, v417.toNat, 0, 0]
def k0_off104 (i : grid0.Coords) (k0_t2 : Fin (k0_t2_loop i).trips) : Fin 4 → Nat :=
  let c15_289 : Index := 15#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v421 : Index := Scalar.indexCast v296
  let c0_290 : Index := 0#32
  let c0_291 : Index := 0#32
  ![15, v421.toNat, 0, 0]
def k0_off105 (i : grid0.Coords) (k0_t2 : Fin (k0_t2_loop i).trips) : Fin 4 → Nat :=
  let c0_552 : Index := 0#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v957 : Index := Scalar.indexCast v294
  let c0_553 : Index := 0#32
  let c0_554 : Index := 0#32
  ![0, v957.toNat, 0, 0]
def k0_off106 (i : grid0.Coords) (k0_t2 : Fin (k0_t2_loop i).trips) : Fin 4 → Nat :=
  let c0_556 : Index := 0#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v962 : Index := Scalar.indexCast v296
  let c0_557 : Index := 0#32
  let c0_558 : Index := 0#32
  ![0, v962.toNat, 0, 0]
def k0_off107 (i : grid0.Coords) (k0_t2 : Fin (k0_t2_loop i).trips) : Fin 4 → Nat :=
  let c0_566 : Index := 0#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v974 : Index := Scalar.indexCast v294
  let c64 : Index := 64#32
  let c0_567 : Index := 0#32
  ![0, v974.toNat, 64, 0]
def k0_off108 (i : grid0.Coords) (k0_t2 : Fin (k0_t2_loop i).trips) : Fin 4 → Nat :=
  let c0_569 : Index := 0#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v979 : Index := Scalar.indexCast v296
  let c64_570 : Index := 64#32
  let c0_571 : Index := 0#32
  ![0, v979.toNat, 64, 0]
def k0_off109 (i : grid0.Coords) (k0_t2 : Fin (k0_t2_loop i).trips) : Fin 4 → Nat :=
  let c1_579 : Index := 1#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v991 : Index := Scalar.indexCast v294
  let c0_580 : Index := 0#32
  let c0_581 : Index := 0#32
  ![1, v991.toNat, 0, 0]
def k0_off110 (i : grid0.Coords) (k0_t2 : Fin (k0_t2_loop i).trips) : Fin 4 → Nat :=
  let c1_583 : Index := 1#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v996 : Index := Scalar.indexCast v296
  let c0_584 : Index := 0#32
  let c0_585 : Index := 0#32
  ![1, v996.toNat, 0, 0]
def k0_off111 (i : grid0.Coords) (k0_t2 : Fin (k0_t2_loop i).trips) : Fin 4 → Nat :=
  let c1_593 : Index := 1#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1008 : Index := Scalar.indexCast v294
  let c64_594 : Index := 64#32
  let c0_595 : Index := 0#32
  ![1, v1008.toNat, 64, 0]
def k0_off112 (i : grid0.Coords) (k0_t2 : Fin (k0_t2_loop i).trips) : Fin 4 → Nat :=
  let c1_597 : Index := 1#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1013 : Index := Scalar.indexCast v296
  let c64_598 : Index := 64#32
  let c0_599 : Index := 0#32
  ![1, v1013.toNat, 64, 0]
def k0_off113 (i : grid0.Coords) (k0_t2 : Fin (k0_t2_loop i).trips) : Fin 4 → Nat :=
  let c2_607 : Index := 2#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1025 : Index := Scalar.indexCast v294
  let c0_608 : Index := 0#32
  let c0_609 : Index := 0#32
  ![2, v1025.toNat, 0, 0]
def k0_off114 (i : grid0.Coords) (k0_t2 : Fin (k0_t2_loop i).trips) : Fin 4 → Nat :=
  let c2_611 : Index := 2#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1030 : Index := Scalar.indexCast v296
  let c0_612 : Index := 0#32
  let c0_613 : Index := 0#32
  ![2, v1030.toNat, 0, 0]
def k0_off115 (i : grid0.Coords) (k0_t2 : Fin (k0_t2_loop i).trips) : Fin 4 → Nat :=
  let c2_621 : Index := 2#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1042 : Index := Scalar.indexCast v294
  let c64_622 : Index := 64#32
  let c0_623 : Index := 0#32
  ![2, v1042.toNat, 64, 0]
def k0_off116 (i : grid0.Coords) (k0_t2 : Fin (k0_t2_loop i).trips) : Fin 4 → Nat :=
  let c2_625 : Index := 2#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1047 : Index := Scalar.indexCast v296
  let c64_626 : Index := 64#32
  let c0_627 : Index := 0#32
  ![2, v1047.toNat, 64, 0]
def k0_off117 (i : grid0.Coords) (k0_t2 : Fin (k0_t2_loop i).trips) : Fin 4 → Nat :=
  let c3_635 : Index := 3#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1059 : Index := Scalar.indexCast v294
  let c0_636 : Index := 0#32
  let c0_637 : Index := 0#32
  ![3, v1059.toNat, 0, 0]
def k0_off118 (i : grid0.Coords) (k0_t2 : Fin (k0_t2_loop i).trips) : Fin 4 → Nat :=
  let c3_639 : Index := 3#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1064 : Index := Scalar.indexCast v296
  let c0_640 : Index := 0#32
  let c0_641 : Index := 0#32
  ![3, v1064.toNat, 0, 0]
def k0_off119 (i : grid0.Coords) (k0_t2 : Fin (k0_t2_loop i).trips) : Fin 4 → Nat :=
  let c3_649 : Index := 3#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1076 : Index := Scalar.indexCast v294
  let c64_650 : Index := 64#32
  let c0_651 : Index := 0#32
  ![3, v1076.toNat, 64, 0]
def k0_off120 (i : grid0.Coords) (k0_t2 : Fin (k0_t2_loop i).trips) : Fin 4 → Nat :=
  let c3_653 : Index := 3#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1081 : Index := Scalar.indexCast v296
  let c64_654 : Index := 64#32
  let c0_655 : Index := 0#32
  ![3, v1081.toNat, 64, 0]
def k0_off121 (i : grid0.Coords) (k0_t2 : Fin (k0_t2_loop i).trips) : Fin 4 → Nat :=
  let c4_663 : Index := 4#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1093 : Index := Scalar.indexCast v294
  let c0_664 : Index := 0#32
  let c0_665 : Index := 0#32
  ![4, v1093.toNat, 0, 0]
def k0_off122 (i : grid0.Coords) (k0_t2 : Fin (k0_t2_loop i).trips) : Fin 4 → Nat :=
  let c4_667 : Index := 4#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1098 : Index := Scalar.indexCast v296
  let c0_668 : Index := 0#32
  let c0_669 : Index := 0#32
  ![4, v1098.toNat, 0, 0]
def k0_off123 (i : grid0.Coords) (k0_t2 : Fin (k0_t2_loop i).trips) : Fin 4 → Nat :=
  let c4_677 : Index := 4#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1110 : Index := Scalar.indexCast v294
  let c64_678 : Index := 64#32
  let c0_679 : Index := 0#32
  ![4, v1110.toNat, 64, 0]
def k0_off124 (i : grid0.Coords) (k0_t2 : Fin (k0_t2_loop i).trips) : Fin 4 → Nat :=
  let c4_681 : Index := 4#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1115 : Index := Scalar.indexCast v296
  let c64_682 : Index := 64#32
  let c0_683 : Index := 0#32
  ![4, v1115.toNat, 64, 0]
def k0_off125 (i : grid0.Coords) (k0_t2 : Fin (k0_t2_loop i).trips) : Fin 4 → Nat :=
  let c5_691 : Index := 5#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1127 : Index := Scalar.indexCast v294
  let c0_692 : Index := 0#32
  let c0_693 : Index := 0#32
  ![5, v1127.toNat, 0, 0]
def k0_off126 (i : grid0.Coords) (k0_t2 : Fin (k0_t2_loop i).trips) : Fin 4 → Nat :=
  let c5_695 : Index := 5#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1132 : Index := Scalar.indexCast v296
  let c0_696 : Index := 0#32
  let c0_697 : Index := 0#32
  ![5, v1132.toNat, 0, 0]
def k0_off127 (i : grid0.Coords) (k0_t2 : Fin (k0_t2_loop i).trips) : Fin 4 → Nat :=
  let c5_705 : Index := 5#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1144 : Index := Scalar.indexCast v294
  let c64_706 : Index := 64#32
  let c0_707 : Index := 0#32
  ![5, v1144.toNat, 64, 0]
def k0_off128 (i : grid0.Coords) (k0_t2 : Fin (k0_t2_loop i).trips) : Fin 4 → Nat :=
  let c5_709 : Index := 5#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1149 : Index := Scalar.indexCast v296
  let c64_710 : Index := 64#32
  let c0_711 : Index := 0#32
  ![5, v1149.toNat, 64, 0]
def k0_off129 (i : grid0.Coords) (k0_t2 : Fin (k0_t2_loop i).trips) : Fin 4 → Nat :=
  let c6_719 : Index := 6#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1161 : Index := Scalar.indexCast v294
  let c0_720 : Index := 0#32
  let c0_721 : Index := 0#32
  ![6, v1161.toNat, 0, 0]
def k0_off130 (i : grid0.Coords) (k0_t2 : Fin (k0_t2_loop i).trips) : Fin 4 → Nat :=
  let c6_723 : Index := 6#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1166 : Index := Scalar.indexCast v296
  let c0_724 : Index := 0#32
  let c0_725 : Index := 0#32
  ![6, v1166.toNat, 0, 0]
def k0_off131 (i : grid0.Coords) (k0_t2 : Fin (k0_t2_loop i).trips) : Fin 4 → Nat :=
  let c6_733 : Index := 6#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1178 : Index := Scalar.indexCast v294
  let c64_734 : Index := 64#32
  let c0_735 : Index := 0#32
  ![6, v1178.toNat, 64, 0]
def k0_off132 (i : grid0.Coords) (k0_t2 : Fin (k0_t2_loop i).trips) : Fin 4 → Nat :=
  let c6_737 : Index := 6#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1183 : Index := Scalar.indexCast v296
  let c64_738 : Index := 64#32
  let c0_739 : Index := 0#32
  ![6, v1183.toNat, 64, 0]
def k0_off133 (i : grid0.Coords) (k0_t2 : Fin (k0_t2_loop i).trips) : Fin 4 → Nat :=
  let c7_747 : Index := 7#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1195 : Index := Scalar.indexCast v294
  let c0_748 : Index := 0#32
  let c0_749 : Index := 0#32
  ![7, v1195.toNat, 0, 0]
def k0_off134 (i : grid0.Coords) (k0_t2 : Fin (k0_t2_loop i).trips) : Fin 4 → Nat :=
  let c7_751 : Index := 7#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1200 : Index := Scalar.indexCast v296
  let c0_752 : Index := 0#32
  let c0_753 : Index := 0#32
  ![7, v1200.toNat, 0, 0]
def k0_off135 (i : grid0.Coords) (k0_t2 : Fin (k0_t2_loop i).trips) : Fin 4 → Nat :=
  let c7_761 : Index := 7#32
  let c2_i32_162 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v294 : BitVec 32 := Scalar.muli c2_i32_162 arg14
  let v1212 : Index := Scalar.indexCast v294
  let c64_762 : Index := 64#32
  let c0_763 : Index := 0#32
  ![7, v1212.toNat, 64, 0]
def k0_off136 (i : grid0.Coords) (k0_t2 : Fin (k0_t2_loop i).trips) : Fin 4 → Nat :=
  let c7_765 : Index := 7#32
  let c2_i32_163 : BitVec 32 := 2#32
  let c0_i32_37 : BitVec 32 := 0#32
  let arg2 : BitVec 32 := BitVec.ofNat 32 (i 2).val
  let c0_i32_31 : BitVec 32 := 0#32
  let v103 : BitVec 1 := Scalar.cmpi .sgt arg2 c0_i32_31
  let v104 : BitVec 32 := Scalar.extui v103
  let c0_i32_32 : BitVec 32 := 0#32
  let v105 : BitVec 1 := Scalar.cmpi .slt arg2 c0_i32_32
  let v106 : BitVec 32 := Scalar.extui v105
  let v107 : BitVec 32 := Scalar.subi v104 v106
  let c2_i32 : BitVec 32 := 2#32
  let c0_i32_33 : BitVec 32 := 0#32
  let v108 : BitVec 1 := Scalar.cmpi .sgt c2_i32 c0_i32_33
  let v109 : BitVec 32 := Scalar.extui v108
  let c0_i32_34 : BitVec 32 := 0#32
  let v110 : BitVec 1 := Scalar.cmpi .slt c2_i32 c0_i32_34
  let v111 : BitVec 32 := Scalar.extui v110
  let v112 : BitVec 32 := Scalar.subi v109 v111
  let v113 : BitVec 1 := Scalar.cmpi .ne v107 v112
  let v114 : BitVec 32 := Scalar.remsi arg2 c2_i32
  let c0_i32_35 : BitVec 32 := 0#32
  let v115 : BitVec 1 := Scalar.cmpi .ne v114 c0_i32_35
  let v116 : BitVec 1 := Scalar.andi v113 v115
  let v102 : BitVec 32 := Scalar.divsi arg2 c2_i32
  let c1_i32 : BitVec 32 := 1#32
  let v117 : BitVec 32 := Scalar.subi v102 c1_i32
  let v118 : BitVec 32 := Scalar.select v116 v117 v102
  let v119 : BitVec 32 := Scalar.subi v118 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg14 : BitVec 32 := Scf.iv v123 c1_i32_40 k0_t2
  let v295 : BitVec 32 := Scalar.muli c2_i32_163 arg14
  let c1_i32_164 : BitVec 32 := 1#32
  let v296 : BitVec 32 := Scalar.addi v295 c1_i32_164
  let v1217 : Index := Scalar.indexCast v296
  let c64_766 : Index := 64#32
  let c0_767 : Index := 0#32
  ![7, v1217.toNat, 64, 0]
def k0_cond2 (i : grid0.Coords) : BitVec 1 :=
  let arg2 : BitVec 32 := BitVec.ofNat 32 (i 2).val
  let c2_i32_41 : BitVec 32 := 2#32
  let c0_i32_42 : BitVec 32 := 0#32
  let v124 : BitVec 1 := Scalar.cmpi .eq c2_i32_41 c0_i32_42
  let c1_i32_43 : BitVec 32 := 1#32
  let v125 : BitVec 32 := Scalar.select v124 c1_i32_43 c2_i32_41
  let v126 : BitVec 32 := Scalar.remsi arg2 v125
  let c0_i32_45 : BitVec 32 := 0#32
  let v128 : BitVec 1 := Scalar.cmpi .slt v126 c0_i32_45
  let c0_i32_46 : BitVec 32 := 0#32
  let v129 : BitVec 1 := Scalar.cmpi .slt v125 c0_i32_46
  let v130 : BitVec 1 := Scalar.xori v128 v129
  let c0_i32_44 : BitVec 32 := 0#32
  let v127 : BitVec 1 := Scalar.cmpi .ne v126 c0_i32_44
  let v131 : BitVec 1 := Scalar.andi v130 v127
  let v132 : BitVec 32 := Scalar.addi v126 v125
  let v133 : BitVec 32 := Scalar.select v131 v132 v126
  let c1_i32_47 : BitVec 32 := 1#32
  let v134 : BitVec 1 := Scalar.cmpi .eq v133 c1_i32_47
  let v135 : BitVec 32 := Scalar.extui v134
  let c0_i32_48 : BitVec 32 := 0#32
  let v136 : BitVec 1 := Scalar.cmpi .ne v135 c0_i32_48
  v136

def k0_off137 (i : grid0.Coords) : Fin 4 → Nat :=
  let c0_163 : Index := 0#32
  let arg2 : BitVec 32 := BitVec.ofNat 32 (i 2).val
  let c1_i32_162 : BitVec 32 := 1#32
  let v294 : BitVec 32 := Scalar.subi arg2 c1_i32_162
  let v295 : Index := Scalar.indexCast v294
  let c0_164 : Index := 0#32
  let c0_165 : Index := 0#32
  ![0, v295.toNat, 0, 0]
def k0_off138 (i : grid0.Coords) : Fin 4 → Nat :=
  let c0_167 : Index := 0#32
  let arg2 : BitVec 32 := BitVec.ofNat 32 (i 2).val
  let v299 : Index := Scalar.indexCast arg2
  let c0_168 : Index := 0#32
  let c0_169 : Index := 0#32
  ![0, v299.toNat, 0, 0]
def k0_off139 (i : grid0.Coords) : Fin 4 → Nat :=
  let c1_171 : Index := 1#32
  let arg2 : BitVec 32 := BitVec.ofNat 32 (i 2).val
  let c1_i32_162 : BitVec 32 := 1#32
  let v294 : BitVec 32 := Scalar.subi arg2 c1_i32_162
  let v303 : Index := Scalar.indexCast v294
  let c0_172 : Index := 0#32
  let c0_173 : Index := 0#32
  ![1, v303.toNat, 0, 0]
def k0_off140 (i : grid0.Coords) : Fin 4 → Nat :=
  let c1_175 : Index := 1#32
  let arg2 : BitVec 32 := BitVec.ofNat 32 (i 2).val
  let v307 : Index := Scalar.indexCast arg2
  let c0_176 : Index := 0#32
  let c0_177 : Index := 0#32
  ![1, v307.toNat, 0, 0]
def k0_off141 (i : grid0.Coords) : Fin 4 → Nat :=
  let c2_179 : Index := 2#32
  let arg2 : BitVec 32 := BitVec.ofNat 32 (i 2).val
  let c1_i32_162 : BitVec 32 := 1#32
  let v294 : BitVec 32 := Scalar.subi arg2 c1_i32_162
  let v311 : Index := Scalar.indexCast v294
  let c0_180 : Index := 0#32
  let c0_181 : Index := 0#32
  ![2, v311.toNat, 0, 0]
def k0_off142 (i : grid0.Coords) : Fin 4 → Nat :=
  let c2_183 : Index := 2#32
  let arg2 : BitVec 32 := BitVec.ofNat 32 (i 2).val
  let v315 : Index := Scalar.indexCast arg2
  let c0_184 : Index := 0#32
  let c0_185 : Index := 0#32
  ![2, v315.toNat, 0, 0]
def k0_off143 (i : grid0.Coords) : Fin 4 → Nat :=
  let c3_187 : Index := 3#32
  let arg2 : BitVec 32 := BitVec.ofNat 32 (i 2).val
  let c1_i32_162 : BitVec 32 := 1#32
  let v294 : BitVec 32 := Scalar.subi arg2 c1_i32_162
  let v319 : Index := Scalar.indexCast v294
  let c0_188 : Index := 0#32
  let c0_189 : Index := 0#32
  ![3, v319.toNat, 0, 0]
def k0_off144 (i : grid0.Coords) : Fin 4 → Nat :=
  let c3_191 : Index := 3#32
  let arg2 : BitVec 32 := BitVec.ofNat 32 (i 2).val
  let v323 : Index := Scalar.indexCast arg2
  let c0_192 : Index := 0#32
  let c0_193 : Index := 0#32
  ![3, v323.toNat, 0, 0]
def k0_off145 (i : grid0.Coords) : Fin 4 → Nat :=
  let c4_195 : Index := 4#32
  let arg2 : BitVec 32 := BitVec.ofNat 32 (i 2).val
  let c1_i32_162 : BitVec 32 := 1#32
  let v294 : BitVec 32 := Scalar.subi arg2 c1_i32_162
  let v327 : Index := Scalar.indexCast v294
  let c0_196 : Index := 0#32
  let c0_197 : Index := 0#32
  ![4, v327.toNat, 0, 0]
def k0_off146 (i : grid0.Coords) : Fin 4 → Nat :=
  let c4_199 : Index := 4#32
  let arg2 : BitVec 32 := BitVec.ofNat 32 (i 2).val
  let v331 : Index := Scalar.indexCast arg2
  let c0_200 : Index := 0#32
  let c0_201 : Index := 0#32
  ![4, v331.toNat, 0, 0]
def k0_off147 (i : grid0.Coords) : Fin 4 → Nat :=
  let c5_203 : Index := 5#32
  let arg2 : BitVec 32 := BitVec.ofNat 32 (i 2).val
  let c1_i32_162 : BitVec 32 := 1#32
  let v294 : BitVec 32 := Scalar.subi arg2 c1_i32_162
  let v335 : Index := Scalar.indexCast v294
  let c0_204 : Index := 0#32
  let c0_205 : Index := 0#32
  ![5, v335.toNat, 0, 0]
def k0_off148 (i : grid0.Coords) : Fin 4 → Nat :=
  let c5_207 : Index := 5#32
  let arg2 : BitVec 32 := BitVec.ofNat 32 (i 2).val
  let v339 : Index := Scalar.indexCast arg2
  let c0_208 : Index := 0#32
  let c0_209 : Index := 0#32
  ![5, v339.toNat, 0, 0]
def k0_off149 (i : grid0.Coords) : Fin 4 → Nat :=
  let c6_211 : Index := 6#32
  let arg2 : BitVec 32 := BitVec.ofNat 32 (i 2).val
  let c1_i32_162 : BitVec 32 := 1#32
  let v294 : BitVec 32 := Scalar.subi arg2 c1_i32_162
  let v343 : Index := Scalar.indexCast v294
  let c0_212 : Index := 0#32
  let c0_213 : Index := 0#32
  ![6, v343.toNat, 0, 0]
def k0_off150 (i : grid0.Coords) : Fin 4 → Nat :=
  let c6_215 : Index := 6#32
  let arg2 : BitVec 32 := BitVec.ofNat 32 (i 2).val
  let v347 : Index := Scalar.indexCast arg2
  let c0_216 : Index := 0#32
  let c0_217 : Index := 0#32
  ![6, v347.toNat, 0, 0]
def k0_off151 (i : grid0.Coords) : Fin 4 → Nat :=
  let c7_219 : Index := 7#32
  let arg2 : BitVec 32 := BitVec.ofNat 32 (i 2).val
  let c1_i32_162 : BitVec 32 := 1#32
  let v294 : BitVec 32 := Scalar.subi arg2 c1_i32_162
  let v351 : Index := Scalar.indexCast v294
  let c0_220 : Index := 0#32
  let c0_221 : Index := 0#32
  ![7, v351.toNat, 0, 0]
def k0_off152 (i : grid0.Coords) : Fin 4 → Nat :=
  let c7_223 : Index := 7#32
  let arg2 : BitVec 32 := BitVec.ofNat 32 (i 2).val
  let v355 : Index := Scalar.indexCast arg2
  let c0_224 : Index := 0#32
  let c0_225 : Index := 0#32
  ![7, v355.toNat, 0, 0]
def k0_off153 (i : grid0.Coords) : Fin 4 → Nat :=
  let c8_227 : Index := 8#32
  let arg2 : BitVec 32 := BitVec.ofNat 32 (i 2).val
  let c1_i32_162 : BitVec 32 := 1#32
  let v294 : BitVec 32 := Scalar.subi arg2 c1_i32_162
  let v359 : Index := Scalar.indexCast v294
  let c0_228 : Index := 0#32
  let c0_229 : Index := 0#32
  ![8, v359.toNat, 0, 0]
def k0_off154 (i : grid0.Coords) : Fin 4 → Nat :=
  let c8_231 : Index := 8#32
  let arg2 : BitVec 32 := BitVec.ofNat 32 (i 2).val
  let v363 : Index := Scalar.indexCast arg2
  let c0_232 : Index := 0#32
  let c0_233 : Index := 0#32
  ![8, v363.toNat, 0, 0]
def k0_off155 (i : grid0.Coords) : Fin 4 → Nat :=
  let c9_235 : Index := 9#32
  let arg2 : BitVec 32 := BitVec.ofNat 32 (i 2).val
  let c1_i32_162 : BitVec 32 := 1#32
  let v294 : BitVec 32 := Scalar.subi arg2 c1_i32_162
  let v367 : Index := Scalar.indexCast v294
  let c0_236 : Index := 0#32
  let c0_237 : Index := 0#32
  ![9, v367.toNat, 0, 0]
def k0_off156 (i : grid0.Coords) : Fin 4 → Nat :=
  let c9_239 : Index := 9#32
  let arg2 : BitVec 32 := BitVec.ofNat 32 (i 2).val
  let v371 : Index := Scalar.indexCast arg2
  let c0_240 : Index := 0#32
  let c0_241 : Index := 0#32
  ![9, v371.toNat, 0, 0]
def k0_off157 (i : grid0.Coords) : Fin 4 → Nat :=
  let c10_243 : Index := 10#32
  let arg2 : BitVec 32 := BitVec.ofNat 32 (i 2).val
  let c1_i32_162 : BitVec 32 := 1#32
  let v294 : BitVec 32 := Scalar.subi arg2 c1_i32_162
  let v375 : Index := Scalar.indexCast v294
  let c0_244 : Index := 0#32
  let c0_245 : Index := 0#32
  ![10, v375.toNat, 0, 0]
def k0_off158 (i : grid0.Coords) : Fin 4 → Nat :=
  let c10_247 : Index := 10#32
  let arg2 : BitVec 32 := BitVec.ofNat 32 (i 2).val
  let v379 : Index := Scalar.indexCast arg2
  let c0_248 : Index := 0#32
  let c0_249 : Index := 0#32
  ![10, v379.toNat, 0, 0]
def k0_off159 (i : grid0.Coords) : Fin 4 → Nat :=
  let c11_251 : Index := 11#32
  let arg2 : BitVec 32 := BitVec.ofNat 32 (i 2).val
  let c1_i32_162 : BitVec 32 := 1#32
  let v294 : BitVec 32 := Scalar.subi arg2 c1_i32_162
  let v383 : Index := Scalar.indexCast v294
  let c0_252 : Index := 0#32
  let c0_253 : Index := 0#32
  ![11, v383.toNat, 0, 0]
def k0_off160 (i : grid0.Coords) : Fin 4 → Nat :=
  let c11_255 : Index := 11#32
  let arg2 : BitVec 32 := BitVec.ofNat 32 (i 2).val
  let v387 : Index := Scalar.indexCast arg2
  let c0_256 : Index := 0#32
  let c0_257 : Index := 0#32
  ![11, v387.toNat, 0, 0]
def k0_off161 (i : grid0.Coords) : Fin 4 → Nat :=
  let c12_259 : Index := 12#32
  let arg2 : BitVec 32 := BitVec.ofNat 32 (i 2).val
  let c1_i32_162 : BitVec 32 := 1#32
  let v294 : BitVec 32 := Scalar.subi arg2 c1_i32_162
  let v391 : Index := Scalar.indexCast v294
  let c0_260 : Index := 0#32
  let c0_261 : Index := 0#32
  ![12, v391.toNat, 0, 0]
def k0_off162 (i : grid0.Coords) : Fin 4 → Nat :=
  let c12_263 : Index := 12#32
  let arg2 : BitVec 32 := BitVec.ofNat 32 (i 2).val
  let v395 : Index := Scalar.indexCast arg2
  let c0_264 : Index := 0#32
  let c0_265 : Index := 0#32
  ![12, v395.toNat, 0, 0]
def k0_off163 (i : grid0.Coords) : Fin 4 → Nat :=
  let c13_267 : Index := 13#32
  let arg2 : BitVec 32 := BitVec.ofNat 32 (i 2).val
  let c1_i32_162 : BitVec 32 := 1#32
  let v294 : BitVec 32 := Scalar.subi arg2 c1_i32_162
  let v399 : Index := Scalar.indexCast v294
  let c0_268 : Index := 0#32
  let c0_269 : Index := 0#32
  ![13, v399.toNat, 0, 0]
def k0_off164 (i : grid0.Coords) : Fin 4 → Nat :=
  let c13_271 : Index := 13#32
  let arg2 : BitVec 32 := BitVec.ofNat 32 (i 2).val
  let v403 : Index := Scalar.indexCast arg2
  let c0_272 : Index := 0#32
  let c0_273 : Index := 0#32
  ![13, v403.toNat, 0, 0]
def k0_off165 (i : grid0.Coords) : Fin 4 → Nat :=
  let c14_275 : Index := 14#32
  let arg2 : BitVec 32 := BitVec.ofNat 32 (i 2).val
  let c1_i32_162 : BitVec 32 := 1#32
  let v294 : BitVec 32 := Scalar.subi arg2 c1_i32_162
  let v407 : Index := Scalar.indexCast v294
  let c0_276 : Index := 0#32
  let c0_277 : Index := 0#32
  ![14, v407.toNat, 0, 0]
def k0_off166 (i : grid0.Coords) : Fin 4 → Nat :=
  let c14_279 : Index := 14#32
  let arg2 : BitVec 32 := BitVec.ofNat 32 (i 2).val
  let v411 : Index := Scalar.indexCast arg2
  let c0_280 : Index := 0#32
  let c0_281 : Index := 0#32
  ![14, v411.toNat, 0, 0]
def k0_off167 (i : grid0.Coords) : Fin 4 → Nat :=
  let c15_283 : Index := 15#32
  let arg2 : BitVec 32 := BitVec.ofNat 32 (i 2).val
  let c1_i32_162 : BitVec 32 := 1#32
  let v294 : BitVec 32 := Scalar.subi arg2 c1_i32_162
  let v415 : Index := Scalar.indexCast v294
  let c0_284 : Index := 0#32
  let c0_285 : Index := 0#32
  ![15, v415.toNat, 0, 0]
def k0_off168 (i : grid0.Coords) : Fin 4 → Nat :=
  let c15_287 : Index := 15#32
  let arg2 : BitVec 32 := BitVec.ofNat 32 (i 2).val
  let v419 : Index := Scalar.indexCast arg2
  let c0_288 : Index := 0#32
  let c0_289 : Index := 0#32
  ![15, v419.toNat, 0, 0]
def k0_off169 (i : grid0.Coords) : Fin 4 → Nat :=
  let c0_566 : Index := 0#32
  let arg2 : BitVec 32 := BitVec.ofNat 32 (i 2).val
  let c1_i32_162 : BitVec 32 := 1#32
  let v294 : BitVec 32 := Scalar.subi arg2 c1_i32_162
  let v1035 : Index := Scalar.indexCast v294
  let c0_567 : Index := 0#32
  let c0_568 : Index := 0#32
  ![0, v1035.toNat, 0, 0]
def k0_off170 (i : grid0.Coords) : Fin 4 → Nat :=
  let c0_570 : Index := 0#32
  let arg2 : BitVec 32 := BitVec.ofNat 32 (i 2).val
  let v1040 : Index := Scalar.indexCast arg2
  let c0_571 : Index := 0#32
  let c0_572 : Index := 0#32
  ![0, v1040.toNat, 0, 0]
def k0_off171 (i : grid0.Coords) : Fin 4 → Nat :=
  let c0_580 : Index := 0#32
  let arg2 : BitVec 32 := BitVec.ofNat 32 (i 2).val
  let c1_i32_162 : BitVec 32 := 1#32
  let v294 : BitVec 32 := Scalar.subi arg2 c1_i32_162
  let v1052 : Index := Scalar.indexCast v294
  let c64 : Index := 64#32
  let c0_581 : Index := 0#32
  ![0, v1052.toNat, 64, 0]
def k0_off172 (i : grid0.Coords) : Fin 4 → Nat :=
  let c0_583 : Index := 0#32
  let arg2 : BitVec 32 := BitVec.ofNat 32 (i 2).val
  let v1057 : Index := Scalar.indexCast arg2
  let c64_584 : Index := 64#32
  let c0_585 : Index := 0#32
  ![0, v1057.toNat, 64, 0]
def k0_off173 (i : grid0.Coords) : Fin 4 → Nat :=
  let c1_593 : Index := 1#32
  let arg2 : BitVec 32 := BitVec.ofNat 32 (i 2).val
  let c1_i32_162 : BitVec 32 := 1#32
  let v294 : BitVec 32 := Scalar.subi arg2 c1_i32_162
  let v1069 : Index := Scalar.indexCast v294
  let c0_594 : Index := 0#32
  let c0_595 : Index := 0#32
  ![1, v1069.toNat, 0, 0]
def k0_off174 (i : grid0.Coords) : Fin 4 → Nat :=
  let c1_597 : Index := 1#32
  let arg2 : BitVec 32 := BitVec.ofNat 32 (i 2).val
  let v1074 : Index := Scalar.indexCast arg2
  let c0_598 : Index := 0#32
  let c0_599 : Index := 0#32
  ![1, v1074.toNat, 0, 0]
def k0_off175 (i : grid0.Coords) : Fin 4 → Nat :=
  let c1_607 : Index := 1#32
  let arg2 : BitVec 32 := BitVec.ofNat 32 (i 2).val
  let c1_i32_162 : BitVec 32 := 1#32
  let v294 : BitVec 32 := Scalar.subi arg2 c1_i32_162
  let v1086 : Index := Scalar.indexCast v294
  let c64_608 : Index := 64#32
  let c0_609 : Index := 0#32
  ![1, v1086.toNat, 64, 0]
def k0_off176 (i : grid0.Coords) : Fin 4 → Nat :=
  let c1_611 : Index := 1#32
  let arg2 : BitVec 32 := BitVec.ofNat 32 (i 2).val
  let v1091 : Index := Scalar.indexCast arg2
  let c64_612 : Index := 64#32
  let c0_613 : Index := 0#32
  ![1, v1091.toNat, 64, 0]
def k0_off177 (i : grid0.Coords) : Fin 4 → Nat :=
  let c2_621 : Index := 2#32
  let arg2 : BitVec 32 := BitVec.ofNat 32 (i 2).val
  let c1_i32_162 : BitVec 32 := 1#32
  let v294 : BitVec 32 := Scalar.subi arg2 c1_i32_162
  let v1103 : Index := Scalar.indexCast v294
  let c0_622 : Index := 0#32
  let c0_623 : Index := 0#32
  ![2, v1103.toNat, 0, 0]
def k0_off178 (i : grid0.Coords) : Fin 4 → Nat :=
  let c2_625 : Index := 2#32
  let arg2 : BitVec 32 := BitVec.ofNat 32 (i 2).val
  let v1108 : Index := Scalar.indexCast arg2
  let c0_626 : Index := 0#32
  let c0_627 : Index := 0#32
  ![2, v1108.toNat, 0, 0]
def k0_off179 (i : grid0.Coords) : Fin 4 → Nat :=
  let c2_635 : Index := 2#32
  let arg2 : BitVec 32 := BitVec.ofNat 32 (i 2).val
  let c1_i32_162 : BitVec 32 := 1#32
  let v294 : BitVec 32 := Scalar.subi arg2 c1_i32_162
  let v1120 : Index := Scalar.indexCast v294
  let c64_636 : Index := 64#32
  let c0_637 : Index := 0#32
  ![2, v1120.toNat, 64, 0]
def k0_off180 (i : grid0.Coords) : Fin 4 → Nat :=
  let c2_639 : Index := 2#32
  let arg2 : BitVec 32 := BitVec.ofNat 32 (i 2).val
  let v1125 : Index := Scalar.indexCast arg2
  let c64_640 : Index := 64#32
  let c0_641 : Index := 0#32
  ![2, v1125.toNat, 64, 0]
def k0_off181 (i : grid0.Coords) : Fin 4 → Nat :=
  let c3_649 : Index := 3#32
  let arg2 : BitVec 32 := BitVec.ofNat 32 (i 2).val
  let c1_i32_162 : BitVec 32 := 1#32
  let v294 : BitVec 32 := Scalar.subi arg2 c1_i32_162
  let v1137 : Index := Scalar.indexCast v294
  let c0_650 : Index := 0#32
  let c0_651 : Index := 0#32
  ![3, v1137.toNat, 0, 0]
def k0_off182 (i : grid0.Coords) : Fin 4 → Nat :=
  let c3_653 : Index := 3#32
  let arg2 : BitVec 32 := BitVec.ofNat 32 (i 2).val
  let v1142 : Index := Scalar.indexCast arg2
  let c0_654 : Index := 0#32
  let c0_655 : Index := 0#32
  ![3, v1142.toNat, 0, 0]
def k0_off183 (i : grid0.Coords) : Fin 4 → Nat :=
  let c3_663 : Index := 3#32
  let arg2 : BitVec 32 := BitVec.ofNat 32 (i 2).val
  let c1_i32_162 : BitVec 32 := 1#32
  let v294 : BitVec 32 := Scalar.subi arg2 c1_i32_162
  let v1154 : Index := Scalar.indexCast v294
  let c64_664 : Index := 64#32
  let c0_665 : Index := 0#32
  ![3, v1154.toNat, 64, 0]
def k0_off184 (i : grid0.Coords) : Fin 4 → Nat :=
  let c3_667 : Index := 3#32
  let arg2 : BitVec 32 := BitVec.ofNat 32 (i 2).val
  let v1159 : Index := Scalar.indexCast arg2
  let c64_668 : Index := 64#32
  let c0_669 : Index := 0#32
  ![3, v1159.toNat, 64, 0]
def k0_off185 (i : grid0.Coords) : Fin 4 → Nat :=
  let c4_677 : Index := 4#32
  let arg2 : BitVec 32 := BitVec.ofNat 32 (i 2).val
  let c1_i32_162 : BitVec 32 := 1#32
  let v294 : BitVec 32 := Scalar.subi arg2 c1_i32_162
  let v1171 : Index := Scalar.indexCast v294
  let c0_678 : Index := 0#32
  let c0_679 : Index := 0#32
  ![4, v1171.toNat, 0, 0]
def k0_off186 (i : grid0.Coords) : Fin 4 → Nat :=
  let c4_681 : Index := 4#32
  let arg2 : BitVec 32 := BitVec.ofNat 32 (i 2).val
  let v1176 : Index := Scalar.indexCast arg2
  let c0_682 : Index := 0#32
  let c0_683 : Index := 0#32
  ![4, v1176.toNat, 0, 0]
def k0_off187 (i : grid0.Coords) : Fin 4 → Nat :=
  let c4_691 : Index := 4#32
  let arg2 : BitVec 32 := BitVec.ofNat 32 (i 2).val
  let c1_i32_162 : BitVec 32 := 1#32
  let v294 : BitVec 32 := Scalar.subi arg2 c1_i32_162
  let v1188 : Index := Scalar.indexCast v294
  let c64_692 : Index := 64#32
  let c0_693 : Index := 0#32
  ![4, v1188.toNat, 64, 0]
def k0_off188 (i : grid0.Coords) : Fin 4 → Nat :=
  let c4_695 : Index := 4#32
  let arg2 : BitVec 32 := BitVec.ofNat 32 (i 2).val
  let v1193 : Index := Scalar.indexCast arg2
  let c64_696 : Index := 64#32
  let c0_697 : Index := 0#32
  ![4, v1193.toNat, 64, 0]
def k0_off189 (i : grid0.Coords) : Fin 4 → Nat :=
  let c5_705 : Index := 5#32
  let arg2 : BitVec 32 := BitVec.ofNat 32 (i 2).val
  let c1_i32_162 : BitVec 32 := 1#32
  let v294 : BitVec 32 := Scalar.subi arg2 c1_i32_162
  let v1205 : Index := Scalar.indexCast v294
  let c0_706 : Index := 0#32
  let c0_707 : Index := 0#32
  ![5, v1205.toNat, 0, 0]
def k0_off190 (i : grid0.Coords) : Fin 4 → Nat :=
  let c5_709 : Index := 5#32
  let arg2 : BitVec 32 := BitVec.ofNat 32 (i 2).val
  let v1210 : Index := Scalar.indexCast arg2
  let c0_710 : Index := 0#32
  let c0_711 : Index := 0#32
  ![5, v1210.toNat, 0, 0]
def k0_off191 (i : grid0.Coords) : Fin 4 → Nat :=
  let c5_719 : Index := 5#32
  let arg2 : BitVec 32 := BitVec.ofNat 32 (i 2).val
  let c1_i32_162 : BitVec 32 := 1#32
  let v294 : BitVec 32 := Scalar.subi arg2 c1_i32_162
  let v1222 : Index := Scalar.indexCast v294
  let c64_720 : Index := 64#32
  let c0_721 : Index := 0#32
  ![5, v1222.toNat, 64, 0]
def k0_off192 (i : grid0.Coords) : Fin 4 → Nat :=
  let c5_723 : Index := 5#32
  let arg2 : BitVec 32 := BitVec.ofNat 32 (i 2).val
  let v1227 : Index := Scalar.indexCast arg2
  let c64_724 : Index := 64#32
  let c0_725 : Index := 0#32
  ![5, v1227.toNat, 64, 0]
def k0_off193 (i : grid0.Coords) : Fin 4 → Nat :=
  let c6_733 : Index := 6#32
  let arg2 : BitVec 32 := BitVec.ofNat 32 (i 2).val
  let c1_i32_162 : BitVec 32 := 1#32
  let v294 : BitVec 32 := Scalar.subi arg2 c1_i32_162
  let v1239 : Index := Scalar.indexCast v294
  let c0_734 : Index := 0#32
  let c0_735 : Index := 0#32
  ![6, v1239.toNat, 0, 0]
def k0_off194 (i : grid0.Coords) : Fin 4 → Nat :=
  let c6_737 : Index := 6#32
  let arg2 : BitVec 32 := BitVec.ofNat 32 (i 2).val
  let v1244 : Index := Scalar.indexCast arg2
  let c0_738 : Index := 0#32
  let c0_739 : Index := 0#32
  ![6, v1244.toNat, 0, 0]
def k0_off195 (i : grid0.Coords) : Fin 4 → Nat :=
  let c6_747 : Index := 6#32
  let arg2 : BitVec 32 := BitVec.ofNat 32 (i 2).val
  let c1_i32_162 : BitVec 32 := 1#32
  let v294 : BitVec 32 := Scalar.subi arg2 c1_i32_162
  let v1256 : Index := Scalar.indexCast v294
  let c64_748 : Index := 64#32
  let c0_749 : Index := 0#32
  ![6, v1256.toNat, 64, 0]
def k0_off196 (i : grid0.Coords) : Fin 4 → Nat :=
  let c6_751 : Index := 6#32
  let arg2 : BitVec 32 := BitVec.ofNat 32 (i 2).val
  let v1261 : Index := Scalar.indexCast arg2
  let c64_752 : Index := 64#32
  let c0_753 : Index := 0#32
  ![6, v1261.toNat, 64, 0]
def k0_off197 (i : grid0.Coords) : Fin 4 → Nat :=
  let c7_761 : Index := 7#32
  let arg2 : BitVec 32 := BitVec.ofNat 32 (i 2).val
  let c1_i32_162 : BitVec 32 := 1#32
  let v294 : BitVec 32 := Scalar.subi arg2 c1_i32_162
  let v1273 : Index := Scalar.indexCast v294
  let c0_762 : Index := 0#32
  let c0_763 : Index := 0#32
  ![7, v1273.toNat, 0, 0]
def k0_off198 (i : grid0.Coords) : Fin 4 → Nat :=
  let c7_765 : Index := 7#32
  let arg2 : BitVec 32 := BitVec.ofNat 32 (i 2).val
  let v1278 : Index := Scalar.indexCast arg2
  let c0_766 : Index := 0#32
  let c0_767 : Index := 0#32
  ![7, v1278.toNat, 0, 0]
def k0_off199 (i : grid0.Coords) : Fin 4 → Nat :=
  let c7_775 : Index := 7#32
  let arg2 : BitVec 32 := BitVec.ofNat 32 (i 2).val
  let c1_i32_162 : BitVec 32 := 1#32
  let v294 : BitVec 32 := Scalar.subi arg2 c1_i32_162
  let v1290 : Index := Scalar.indexCast v294
  let c64_776 : Index := 64#32
  let c0_777 : Index := 0#32
  ![7, v1290.toNat, 64, 0]
def k0_off200 (i : grid0.Coords) : Fin 4 → Nat :=
  let c7_779 : Index := 7#32
  let arg2 : BitVec 32 := BitVec.ofNat 32 (i 2).val
  let v1295 : Index := Scalar.indexCast arg2
  let c64_780 : Index := 64#32
  let c0_781 : Index := 0#32
  ![7, v1295.toNat, 64, 0]
def k0_cond3 (i : grid0.Coords) : BitVec 1 :=
  let arg2 : BitVec 32 := BitVec.ofNat 32 (i 2).val
  let c2_i32_49 : BitVec 32 := 2#32
  let c0_i32_50 : BitVec 32 := 0#32
  let v137 : BitVec 1 := Scalar.cmpi .eq c2_i32_49 c0_i32_50
  let c1_i32_51 : BitVec 32 := 1#32
  let v138 : BitVec 32 := Scalar.select v137 c1_i32_51 c2_i32_49
  let v139 : BitVec 32 := Scalar.remsi arg2 v138
  let c0_i32_53 : BitVec 32 := 0#32
  let v141 : BitVec 1 := Scalar.cmpi .slt v139 c0_i32_53
  let c0_i32_54 : BitVec 32 := 0#32
  let v142 : BitVec 1 := Scalar.cmpi .slt v138 c0_i32_54
  let v143 : BitVec 1 := Scalar.xori v141 v142
  let c0_i32_52 : BitVec 32 := 0#32
  let v140 : BitVec 1 := Scalar.cmpi .ne v139 c0_i32_52
  let v144 : BitVec 1 := Scalar.andi v143 v140
  let v145 : BitVec 32 := Scalar.addi v139 v138
  let v146 : BitVec 32 := Scalar.select v144 v145 v139
  let c0_i32_55 : BitVec 32 := 0#32
  let v147 : BitVec 1 := Scalar.cmpi .eq v146 c0_i32_55
  let v148 : BitVec 32 := Scalar.extui v147
  let c0_i32_56 : BitVec 32 := 0#32
  let v149 : BitVec 1 := Scalar.cmpi .ne v148 c0_i32_56
  v149

def k0_off201 (i : grid0.Coords) : Fin 4 → Nat :=
  let c0_162 : Index := 0#32
  let arg2 : BitVec 32 := BitVec.ofNat 32 (i 2).val
  let v294 : Index := Scalar.indexCast arg2
  let c0_163 : Index := 0#32
  let c0_164 : Index := 0#32
  ![0, v294.toNat, 0, 0]
def k0_off202 (i : grid0.Coords) : Fin 4 → Nat :=
  let c1_166 : Index := 1#32
  let arg2 : BitVec 32 := BitVec.ofNat 32 (i 2).val
  let v298 : Index := Scalar.indexCast arg2
  let c0_167 : Index := 0#32
  let c0_168 : Index := 0#32
  ![1, v298.toNat, 0, 0]
def k0_off203 (i : grid0.Coords) : Fin 4 → Nat :=
  let c2_170 : Index := 2#32
  let arg2 : BitVec 32 := BitVec.ofNat 32 (i 2).val
  let v302 : Index := Scalar.indexCast arg2
  let c0_171 : Index := 0#32
  let c0_172 : Index := 0#32
  ![2, v302.toNat, 0, 0]
def k0_off204 (i : grid0.Coords) : Fin 4 → Nat :=
  let c3_174 : Index := 3#32
  let arg2 : BitVec 32 := BitVec.ofNat 32 (i 2).val
  let v306 : Index := Scalar.indexCast arg2
  let c0_175 : Index := 0#32
  let c0_176 : Index := 0#32
  ![3, v306.toNat, 0, 0]
def k0_off205 (i : grid0.Coords) : Fin 4 → Nat :=
  let c4_178 : Index := 4#32
  let arg2 : BitVec 32 := BitVec.ofNat 32 (i 2).val
  let v310 : Index := Scalar.indexCast arg2
  let c0_179 : Index := 0#32
  let c0_180 : Index := 0#32
  ![4, v310.toNat, 0, 0]
def k0_off206 (i : grid0.Coords) : Fin 4 → Nat :=
  let c5_182 : Index := 5#32
  let arg2 : BitVec 32 := BitVec.ofNat 32 (i 2).val
  let v314 : Index := Scalar.indexCast arg2
  let c0_183 : Index := 0#32
  let c0_184 : Index := 0#32
  ![5, v314.toNat, 0, 0]
def k0_off207 (i : grid0.Coords) : Fin 4 → Nat :=
  let c6_186 : Index := 6#32
  let arg2 : BitVec 32 := BitVec.ofNat 32 (i 2).val
  let v318 : Index := Scalar.indexCast arg2
  let c0_187 : Index := 0#32
  let c0_188 : Index := 0#32
  ![6, v318.toNat, 0, 0]
def k0_off208 (i : grid0.Coords) : Fin 4 → Nat :=
  let c7_190 : Index := 7#32
  let arg2 : BitVec 32 := BitVec.ofNat 32 (i 2).val
  let v322 : Index := Scalar.indexCast arg2
  let c0_191 : Index := 0#32
  let c0_192 : Index := 0#32
  ![7, v322.toNat, 0, 0]
def k0_off209 (i : grid0.Coords) : Fin 4 → Nat :=
  let c8_194 : Index := 8#32
  let arg2 : BitVec 32 := BitVec.ofNat 32 (i 2).val
  let v326 : Index := Scalar.indexCast arg2
  let c0_195 : Index := 0#32
  let c0_196 : Index := 0#32
  ![8, v326.toNat, 0, 0]
def k0_off210 (i : grid0.Coords) : Fin 4 → Nat :=
  let c9_198 : Index := 9#32
  let arg2 : BitVec 32 := BitVec.ofNat 32 (i 2).val
  let v330 : Index := Scalar.indexCast arg2
  let c0_199 : Index := 0#32
  let c0_200 : Index := 0#32
  ![9, v330.toNat, 0, 0]
def k0_off211 (i : grid0.Coords) : Fin 4 → Nat :=
  let c10_202 : Index := 10#32
  let arg2 : BitVec 32 := BitVec.ofNat 32 (i 2).val
  let v334 : Index := Scalar.indexCast arg2
  let c0_203 : Index := 0#32
  let c0_204 : Index := 0#32
  ![10, v334.toNat, 0, 0]
def k0_off212 (i : grid0.Coords) : Fin 4 → Nat :=
  let c11_206 : Index := 11#32
  let arg2 : BitVec 32 := BitVec.ofNat 32 (i 2).val
  let v338 : Index := Scalar.indexCast arg2
  let c0_207 : Index := 0#32
  let c0_208 : Index := 0#32
  ![11, v338.toNat, 0, 0]
def k0_off213 (i : grid0.Coords) : Fin 4 → Nat :=
  let c12_210 : Index := 12#32
  let arg2 : BitVec 32 := BitVec.ofNat 32 (i 2).val
  let v342 : Index := Scalar.indexCast arg2
  let c0_211 : Index := 0#32
  let c0_212 : Index := 0#32
  ![12, v342.toNat, 0, 0]
def k0_off214 (i : grid0.Coords) : Fin 4 → Nat :=
  let c13_214 : Index := 13#32
  let arg2 : BitVec 32 := BitVec.ofNat 32 (i 2).val
  let v346 : Index := Scalar.indexCast arg2
  let c0_215 : Index := 0#32
  let c0_216 : Index := 0#32
  ![13, v346.toNat, 0, 0]
def k0_off215 (i : grid0.Coords) : Fin 4 → Nat :=
  let c14_218 : Index := 14#32
  let arg2 : BitVec 32 := BitVec.ofNat 32 (i 2).val
  let v350 : Index := Scalar.indexCast arg2
  let c0_219 : Index := 0#32
  let c0_220 : Index := 0#32
  ![14, v350.toNat, 0, 0]
def k0_off216 (i : grid0.Coords) : Fin 4 → Nat :=
  let c15_222 : Index := 15#32
  let arg2 : BitVec 32 := BitVec.ofNat 32 (i 2).val
  let v354 : Index := Scalar.indexCast arg2
  let c0_223 : Index := 0#32
  let c0_224 : Index := 0#32
  ![15, v354.toNat, 0, 0]
def k0_off217 (i : grid0.Coords) : Fin 4 → Nat :=
  let c0_469 : Index := 0#32
  let arg2 : BitVec 32 := BitVec.ofNat 32 (i 2).val
  let v810 : Index := Scalar.indexCast arg2
  let c0_470 : Index := 0#32
  let c0_471 : Index := 0#32
  ![0, v810.toNat, 0, 0]
def k0_off218 (i : grid0.Coords) : Fin 4 → Nat :=
  let c0_479 : Index := 0#32
  let arg2 : BitVec 32 := BitVec.ofNat 32 (i 2).val
  let v822 : Index := Scalar.indexCast arg2
  let c64 : Index := 64#32
  let c0_480 : Index := 0#32
  ![0, v822.toNat, 64, 0]
def k0_off219 (i : grid0.Coords) : Fin 4 → Nat :=
  let c1_488 : Index := 1#32
  let arg2 : BitVec 32 := BitVec.ofNat 32 (i 2).val
  let v834 : Index := Scalar.indexCast arg2
  let c0_489 : Index := 0#32
  let c0_490 : Index := 0#32
  ![1, v834.toNat, 0, 0]
def k0_off220 (i : grid0.Coords) : Fin 4 → Nat :=
  let c1_498 : Index := 1#32
  let arg2 : BitVec 32 := BitVec.ofNat 32 (i 2).val
  let v846 : Index := Scalar.indexCast arg2
  let c64_499 : Index := 64#32
  let c0_500 : Index := 0#32
  ![1, v846.toNat, 64, 0]
def k0_off221 (i : grid0.Coords) : Fin 4 → Nat :=
  let c2_508 : Index := 2#32
  let arg2 : BitVec 32 := BitVec.ofNat 32 (i 2).val
  let v858 : Index := Scalar.indexCast arg2
  let c0_509 : Index := 0#32
  let c0_510 : Index := 0#32
  ![2, v858.toNat, 0, 0]
def k0_off222 (i : grid0.Coords) : Fin 4 → Nat :=
  let c2_518 : Index := 2#32
  let arg2 : BitVec 32 := BitVec.ofNat 32 (i 2).val
  let v870 : Index := Scalar.indexCast arg2
  let c64_519 : Index := 64#32
  let c0_520 : Index := 0#32
  ![2, v870.toNat, 64, 0]
def k0_off223 (i : grid0.Coords) : Fin 4 → Nat :=
  let c3_528 : Index := 3#32
  let arg2 : BitVec 32 := BitVec.ofNat 32 (i 2).val
  let v882 : Index := Scalar.indexCast arg2
  let c0_529 : Index := 0#32
  let c0_530 : Index := 0#32
  ![3, v882.toNat, 0, 0]
def k0_off224 (i : grid0.Coords) : Fin 4 → Nat :=
  let c3_538 : Index := 3#32
  let arg2 : BitVec 32 := BitVec.ofNat 32 (i 2).val
  let v894 : Index := Scalar.indexCast arg2
  let c64_539 : Index := 64#32
  let c0_540 : Index := 0#32
  ![3, v894.toNat, 64, 0]
def k0_off225 (i : grid0.Coords) : Fin 4 → Nat :=
  let c4_548 : Index := 4#32
  let arg2 : BitVec 32 := BitVec.ofNat 32 (i 2).val
  let v906 : Index := Scalar.indexCast arg2
  let c0_549 : Index := 0#32
  let c0_550 : Index := 0#32
  ![4, v906.toNat, 0, 0]
def k0_off226 (i : grid0.Coords) : Fin 4 → Nat :=
  let c4_558 : Index := 4#32
  let arg2 : BitVec 32 := BitVec.ofNat 32 (i 2).val
  let v918 : Index := Scalar.indexCast arg2
  let c64_559 : Index := 64#32
  let c0_560 : Index := 0#32
  ![4, v918.toNat, 64, 0]
def k0_off227 (i : grid0.Coords) : Fin 4 → Nat :=
  let c5_568 : Index := 5#32
  let arg2 : BitVec 32 := BitVec.ofNat 32 (i 2).val
  let v930 : Index := Scalar.indexCast arg2
  let c0_569 : Index := 0#32
  let c0_570 : Index := 0#32
  ![5, v930.toNat, 0, 0]
def k0_off228 (i : grid0.Coords) : Fin 4 → Nat :=
  let c5_578 : Index := 5#32
  let arg2 : BitVec 32 := BitVec.ofNat 32 (i 2).val
  let v942 : Index := Scalar.indexCast arg2
  let c64_579 : Index := 64#32
  let c0_580 : Index := 0#32
  ![5, v942.toNat, 64, 0]
def k0_off229 (i : grid0.Coords) : Fin 4 → Nat :=
  let c6_588 : Index := 6#32
  let arg2 : BitVec 32 := BitVec.ofNat 32 (i 2).val
  let v954 : Index := Scalar.indexCast arg2
  let c0_589 : Index := 0#32
  let c0_590 : Index := 0#32
  ![6, v954.toNat, 0, 0]
def k0_off230 (i : grid0.Coords) : Fin 4 → Nat :=
  let c6_598 : Index := 6#32
  let arg2 : BitVec 32 := BitVec.ofNat 32 (i 2).val
  let v966 : Index := Scalar.indexCast arg2
  let c64_599 : Index := 64#32
  let c0_600 : Index := 0#32
  ![6, v966.toNat, 64, 0]
def k0_off231 (i : grid0.Coords) : Fin 4 → Nat :=
  let c7_608 : Index := 7#32
  let arg2 : BitVec 32 := BitVec.ofNat 32 (i 2).val
  let v978 : Index := Scalar.indexCast arg2
  let c0_609 : Index := 0#32
  let c0_610 : Index := 0#32
  ![7, v978.toNat, 0, 0]
def k0_off232 (i : grid0.Coords) : Fin 4 → Nat :=
  let c7_618 : Index := 7#32
  let arg2 : BitVec 32 := BitVec.ofNat 32 (i 2).val
  let v990 : Index := Scalar.indexCast arg2
  let c64_619 : Index := 64#32
  let c0_620 : Index := 0#32
  ![7, v990.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x2048x1024 : Shape := ⟨3, ![16, 2048, 1024]⟩
abbrev S16x2048x3072 : Shape := ⟨3, ![16, 2048, 3072]⟩
abbrev S2x16x2048x16x64 : Shape := ⟨5, ![2, 16, 2048, 16, 64]⟩
abbrev S16x2048x16 : Shape := ⟨3, ![16, 2048, 16]⟩
abbrev S16x2048x16x64 : Shape := ⟨4, ![16, 2048, 16, 64]⟩
abbrev S1x16x2048x16x64 : Shape := ⟨5, ![1, 16, 2048, 16, 64]⟩
abbrev S16x16x2048x2048 : Shape := ⟨4, ![16, 16, 2048, 2048]⟩
abbrev S_ : Shape := ⟨0, ![]⟩
abbrev S16x16x2048 : Shape := ⟨3, ![16, 16, 2048]⟩
abbrev S16x16x2048x1 : Shape := ⟨4, ![16, 16, 2048, 1]⟩
abbrev S16x16x1x2048 : Shape := ⟨4, ![16, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x16x64x2048 : Shape := ⟨4, ![16, 16, 64, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x3072, .f32⟩
  | .hbm, ⟨2, _⟩ => ⟨S2x16x2048x16x64, .f32⟩
  | .hbm, ⟨3, _⟩ => ⟨S2x16x2048x16x64, .f32⟩
  | .hbm, ⟨4, _⟩ => ⟨S16x2048x16, .f32⟩
  | .hbm, ⟨5, _⟩ => ⟨S16x2048x16x64, .f32⟩
  | .hbm, ⟨6, _⟩ => ⟨S1x16x2048x16x64, .f32⟩
  | .hbm, ⟨7, _⟩ => ⟨S16x2048x16x64, .f32⟩
  | .hbm, ⟨8, _⟩ => ⟨S1x16x2048x16x64, .f32⟩
  | .hbm, ⟨9, _⟩ => ⟨S16x2048x16x64, .f32⟩
  | .hbm, ⟨10, _⟩ => ⟨S16x16x2048x2048, .f32⟩
  | .hbm, ⟨11, _⟩ => ⟨S_, .f32⟩
  | .hbm, ⟨12, _⟩ => ⟨S16x16x2048x2048, .f32⟩
  | .hbm, ⟨13, _⟩ => ⟨S16x16x2048x2048, .f32⟩
  | .hbm, ⟨14, _⟩ => ⟨S16x16x2048, .f32⟩
  | .hbm, ⟨15, _⟩ => ⟨S16x16x2048x1, .f32⟩
  | .hbm, ⟨16, _⟩ => ⟨S16x16x1x2048, .f32⟩
  | .hbm, ⟨17, _⟩ => ⟨S16x16x2048x2048, .f32⟩
  | .hbm, ⟨18, _⟩ => ⟨S16x16x2048x2048, .f32⟩
  | .hbm, ⟨19, _⟩ => ⟨S16x16x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S16x16x2048x2048, .f32⟩
  | .hbm, ⟨28, _⟩ => ⟨S_, .f32⟩
  | .hbm, ⟨29, _⟩ => ⟨S_, .f32⟩
  | .hbm, ⟨30, _⟩ => ⟨S16x16x2048x2048, .i1⟩
  | .hbm, ⟨31, _⟩ => ⟨S16x16x2048x2048, .f32⟩
  | .hbm, ⟨32, _⟩ => ⟨S16x16x2048x2048, .f32⟩
  | .hbm, ⟨33, _⟩ => ⟨S_, .f32⟩
  | .hbm, ⟨34, _⟩ => ⟨S16x16x2048, .f32⟩
  | .hbm, ⟨35, _⟩ => ⟨S_, .f32⟩
  | .hbm, ⟨36, _⟩ => ⟨S16x16x2048, .f32⟩
  | .hbm, ⟨37, _⟩ => ⟨S16x16x2048, .f32⟩
  | .hbm, ⟨38, _⟩ => ⟨S16x16x2048x1, .f32⟩
  | .hbm, ⟨39, _⟩ => ⟨S16x16x2048x2048, .f32⟩
  | .hbm, ⟨40, _⟩ => ⟨S16x16x2048x2048, .f32⟩
  | .hbm, ⟨41, _⟩ => ⟨S16x16x2048x2048, .f32⟩
  | .hbm, ⟨42, _⟩ => ⟨S_, .f32⟩
  | .hbm, ⟨43, _⟩ => ⟨S16x16x2048, .f32⟩
  | .hbm, ⟨44, _⟩ => ⟨S16x16x2048x1, .f32⟩
  | .hbm, ⟨45, _⟩ => ⟨S16x16x2048x2048, .f32⟩
  | .hbm, ⟨46, _⟩ => ⟨S16x16x2048x2048, .f32⟩
  | .hbm, ⟨47, _⟩ => ⟨S16x16x64x2048, .f32⟩
  | .hbm, ⟨48, _⟩ => ⟨S16x2048x16x64, .f32⟩
  | .hbm, ⟨49, _⟩ => ⟨S16x2048x1024, .f32⟩
  | .hbm, ⟨50, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== ProjectZX.lean ====
abbrev S16x2048x1024 : Shape := ⟨3, ![16, 2048, 1024]⟩
abbrev S2x1024x12336 : Shape := ⟨3, ![2, 1024, 12336]⟩
abbrev S32768x1024 : Shape := ⟨2, ![32768, 1024]⟩
abbrev S1x1024x12336 : Shape := ⟨3, ![1, 1024, 12336]⟩
abbrev S1024x12336 : Shape := ⟨2, ![1024, 12336]⟩
abbrev S12336x1024 : Shape := ⟨2, ![12336, 1024]⟩
abbrev S6144x1024 : Shape := ⟨2, ![6144, 1024]⟩
abbrev S32768x6144 : Shape := ⟨2, ![32768, 6144]⟩
abbrev S4096x1024 : Shape := ⟨2, ![4096, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S32768x1024, .f32⟩
  | .hbm, ⟨3, _⟩ => ⟨S32768x1024, .bf16⟩
  | .hbm, ⟨4, _⟩ => ⟨S1x1024x12336, .f32⟩
  | .hbm, ⟨5, _⟩ => ⟨S1024x12336, .f32⟩
  | .hbm, ⟨6, _⟩ => ⟨S12336x1024, .f32⟩
  | .hbm, ⟨7, _⟩ => ⟨S6144x1024, .f32⟩
  | .hbm, ⟨8, _⟩ => ⟨S6144x1024, .bf16⟩
  | .hbm, ⟨9, _⟩ => ⟨S32768x6144, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .bf16⟩
  | .local _ .vmem, ⟨5, _⟩ => ⟨S4096x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjectZXIdeal.lean ====
abbrev S16x2048x1024 : Shape := ⟨3, ![16, 2048, 1024]⟩
abbrev S2x1024x12336 : Shape := ⟨3, ![2, 1024, 12336]⟩
abbrev S1x1024x12336 : Shape := ⟨3, ![1, 1024, 12336]⟩
abbrev S1024x12336 : Shape := ⟨2, ![1024, 12336]⟩
abbrev S1024x6144 : Shape := ⟨2, ![1024, 6144]⟩
abbrev S16x2048x6144 : Shape := ⟨3, ![16, 2048, 6144]⟩
abbrev S32768x6144 : Shape := ⟨2, ![32768, 6144]⟩

abbrev nBuf : Space → Nat
  | .hbm => 8
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S1x1024x12336, .f32⟩
  | .hbm, ⟨3, _⟩ => ⟨S1024x12336, .f32⟩
  | .hbm, ⟨4, _⟩ => ⟨S1024x6144, .f32⟩
  | .hbm, ⟨5, _⟩ => ⟨S16x2048x6144, .f32⟩
  | .hbm, ⟨6, _⟩ => ⟨S32768x6144, .f32⟩
  | .hbm, ⟨7, _⟩ => ⟨S32768x6144, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjectQG.lean ====
abbrev S16x2048x1024 : Shape := ⟨3, ![16, 2048, 1024]⟩
abbrev S2x1024x12336 : Shape := ⟨3, ![2, 1024, 12336]⟩
abbrev S32768x1024 : Shape := ⟨2, ![32768, 1024]⟩
abbrev S1x1024x12336 : Shape := ⟨3, ![1, 1024, 12336]⟩
abbrev S1024x12336 : Shape := ⟨2, ![1024, 12336]⟩
abbrev S12336x1024 : Shape := ⟨2, ![12336, 1024]⟩
abbrev S_ : Shape := ⟨0, ![]⟩
abbrev S1024x1024 : Shape := ⟨2, ![1024, 1024]⟩
abbrev S3072x1024 : Shape := ⟨2, ![3072, 1024]⟩
abbrev S4096x1024 : Shape := ⟨2, ![4096, 1024]⟩
abbrev S32768x4096 : Shape := ⟨2, ![32768, 4096]⟩

abbrev nBuf : Space → Nat
  | .hbm => 18
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S32768x1024, .f32⟩
  | .hbm, ⟨3, _⟩ => ⟨S32768x1024, .bf16⟩
  | .hbm, ⟨4, _⟩ => ⟨S1x1024x12336, .f32⟩
  | .hbm, ⟨5, _⟩ => ⟨S1024x12336, .f32⟩
  | .hbm, ⟨6, _⟩ => ⟨S12336x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S3072x1024, .f32⟩
  | .hbm, ⟨15, _⟩ => ⟨S4096x1024, .f32⟩
  | .hbm, ⟨16, _⟩ => ⟨S4096x1024, .bf16⟩
  | .hbm, ⟨17, _⟩ => ⟨S32768x4096, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .bf16⟩
  | .local _ .vmem, ⟨5, _⟩ => ⟨S4096x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjectQGIdeal.lean ====
abbrev S16x2048x1024 : Shape := ⟨3, ![16, 2048, 1024]⟩
abbrev S2x1024x12336 : Shape := ⟨3, ![2, 1024, 12336]⟩
abbrev S1x1024x12336 : Shape := ⟨3, ![1, 1024, 12336]⟩
abbrev S1024x12336 : Shape := ⟨2, ![1024, 12336]⟩
abbrev S1024x1024 : Shape := ⟨2, ![1024, 1024]⟩
abbrev S_ : Shape := ⟨0, ![]⟩
abbrev S1024x3072 : Shape := ⟨2, ![1024, 3072]⟩
abbrev S16x2048x3072 : Shape := ⟨3, ![16, 2048, 3072]⟩
abbrev S16x2048x4096 : Shape := ⟨3, ![16, 2048, 4096]⟩
abbrev S32768x4096 : Shape := ⟨2, ![32768, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S1x1024x12336, .f32⟩
  | .hbm, ⟨3, _⟩ => ⟨S1024x12336, .f32⟩
  | .hbm, ⟨4, _⟩ => ⟨S1024x1024, .f32⟩
  | .hbm, ⟨5, _⟩ => ⟨S16x2048x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x1024, .f32⟩
  | .hbm, ⟨11, _⟩ => ⟨S16x2048x1024, .f32⟩
  | .hbm, ⟨12, _⟩ => ⟨S1x1024x12336, .f32⟩
  | .hbm, ⟨13, _⟩ => ⟨S1024x12336, .f32⟩
  | .hbm, ⟨14, _⟩ => ⟨S1024x3072, .f32⟩
  | .hbm, ⟨15, _⟩ => ⟨S16x2048x3072, .f32⟩
  | .hbm, ⟨16, _⟩ => ⟨S16x2048x4096, .f32⟩
  | .hbm, ⟨17, _⟩ => ⟨S32768x4096, .f32⟩
  | .hbm, ⟨18, _⟩ => ⟨S32768x4096, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== ProjectDTF.lean ====
abbrev S16x2048x1024 : Shape := ⟨3, ![16, 2048, 1024]⟩
abbrev S2x1024x12336 : Shape := ⟨3, ![2, 1024, 12336]⟩
abbrev S32768x1024 : Shape := ⟨2, ![32768, 1024]⟩
abbrev S1x1024x12336 : Shape := ⟨3, ![1, 1024, 12336]⟩
abbrev S1024x12336 : Shape := ⟨2, ![1024, 12336]⟩
abbrev S12336x1024 : Shape := ⟨2, ![12336, 1024]⟩
abbrev S_ : Shape := ⟨0, ![]⟩
abbrev S80x1024 : Shape := ⟨2, ![80, 1024]⟩
abbrev S32x1024 : Shape := ⟨2, ![32, 1024]⟩
abbrev S16x1024 : Shape := ⟨2, ![16, 1024]⟩
abbrev S128x1024 : Shape := ⟨2, ![128, 1024]⟩
abbrev S32768x128 : Shape := ⟨2, ![32768, 128]⟩
abbrev S4096x1024 : Shape := ⟨2, ![4096, 1024]⟩
abbrev S4096x128 : Shape := ⟨2, ![4096, 128]⟩

abbrev nBuf : Space → Nat
  | .hbm => 14
  | .vmem => 5
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S32768x1024, .f32⟩
  | .hbm, ⟨3, _⟩ => ⟨S32768x1024, .bf16⟩
  | .hbm, ⟨4, _⟩ => ⟨S1x1024x12336, .f32⟩
  | .hbm, ⟨5, _⟩ => ⟨S1024x12336, .f32⟩
  | .hbm, ⟨6, _⟩ => ⟨S12336x1024, .f32⟩
  | .hbm, ⟨7, _⟩ => ⟨S_, .f32⟩
  | .hbm, ⟨8, _⟩ => ⟨S80x1024, .f32⟩
  | .hbm, ⟨9, _⟩ => ⟨S32x1024, .f32⟩
  | .hbm, ⟨10, _⟩ => ⟨S16x1024, .f32⟩
  | .hbm, ⟨11, _⟩ => ⟨S128x1024, .f32⟩
  | .hbm, ⟨12, _⟩ => ⟨S128x1024, .bf16⟩
  | .hbm, ⟨13, _⟩ => ⟨S32768x128, .f32⟩
  | .local _ .vmem, ⟨0, _⟩ => ⟨S4096x1024, .bf16⟩
  | .local _ .vmem, ⟨1, _⟩ => ⟨S4096x1024, .bf16⟩
  | .local _ .vmem, ⟨2, _⟩ => ⟨S128x1024, .bf16⟩
  | .local _ .vmem, ⟨3, _⟩ => ⟨S4096x128, .f32⟩
  | .local _ .vmem, ⟨4, _⟩ => ⟨S4096x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjectDTFIdeal.lean ====
abbrev S16x2048x1024 : Shape := ⟨3, ![16, 2048, 1024]⟩
abbrev S2x1024x12336 : Shape := ⟨3, ![2, 1024, 12336]⟩
abbrev S1x1024x12336 : Shape := ⟨3, ![1, 1024, 12336]⟩
abbrev S1024x12336 : Shape := ⟨2, ![1024, 12336]⟩
abbrev S1024x32 : Shape := ⟨2, ![1024, 32]⟩
abbrev S16x2048x32 : Shape := ⟨3, ![16, 2048, 32]⟩
abbrev S1024x16 : Shape := ⟨2, ![1024, 16]⟩
abbrev S16x2048x16 : Shape := ⟨3, ![16, 2048, 16]⟩
abbrev S_ : Shape := ⟨0, ![]⟩
abbrev S16x2048x80 : Shape := ⟨3, ![16, 2048, 80]⟩
abbrev S16x2048x128 : Shape := ⟨3, ![16, 2048, 128]⟩
abbrev S32768x128 : Shape := ⟨2, ![32768, 128]⟩

abbrev nBuf : Space → Nat
  | .hbm => 14
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S1x1024x12336, .f32⟩
  | .hbm, ⟨3, _⟩ => ⟨S1024x12336, .f32⟩
  | .hbm, ⟨4, _⟩ => ⟨S1024x32, .f32⟩
  | .hbm, ⟨5, _⟩ => ⟨S16x2048x32, .f32⟩
  | .hbm, ⟨6, _⟩ => ⟨S1x1024x12336, .f32⟩
  | .hbm, ⟨7, _⟩ => ⟨S1024x12336, .f32⟩
  | .hbm, ⟨8, _⟩ => ⟨S1024x16, .f32⟩
  | .hbm, ⟨9, _⟩ => ⟨S16x2048x16, .f32⟩
  | .hbm, ⟨10, _⟩ => ⟨S_, .f32⟩
  | .hbm, ⟨11, _⟩ => ⟨S16x2048x80, .f32⟩
  | .hbm, ⟨12, _⟩ => ⟨S16x2048x128, .f32⟩
  | .hbm, ⟨13, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KeysFirst.lean ====
abbrev S16x2048x1024 : Shape := ⟨3, ![16, 2048, 1024]⟩
abbrev S2x1024x12336 : Shape := ⟨3, ![2, 1024, 12336]⟩
abbrev S32768x1024 : Shape := ⟨2, ![32768, 1024]⟩
abbrev S1x1024x12336 : Shape := ⟨3, ![1, 1024, 12336]⟩
abbrev S1024x12336 : Shape := ⟨2, ![1024, 12336]⟩
abbrev S12336x1024 : Shape := ⟨2, ![12336, 1024]⟩
abbrev S1024x1024 : Shape := ⟨2, ![1024, 1024]⟩
abbrev S2x16x1024x2048 : Shape := ⟨4, ![2, 16, 1024, 2048]⟩
abbrev S2048x1024 : Shape := ⟨2, ![2048, 1024]⟩
abbrev S1x1x1024x2048 : Shape := ⟨4, ![1, 1, 1024, 2048]⟩
abbrev S1024x2048 : Shape := ⟨2, ![1024, 2048]⟩

abbrev nBuf : Space → Nat
  | .hbm => 10
  | .vmem => 5
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S32768x1024, .f32⟩
  | .hbm, ⟨3, _⟩ => ⟨S32768x1024, .bf16⟩
  | .hbm, ⟨4, _⟩ => ⟨S1x1024x12336, .f32⟩
  | .hbm, ⟨5, _⟩ => ⟨S1024x12336, .f32⟩
  | .hbm, ⟨6, _⟩ => ⟨S12336x1024, .f32⟩
  | .hbm, ⟨7, _⟩ => ⟨S1024x1024, .f32⟩
  | .hbm, ⟨8, _⟩ => ⟨S1024x1024, .bf16⟩
  | .hbm, ⟨9, _⟩ => ⟨S2x16x1024x2048, .f32⟩
  | .local _ .vmem, ⟨0, _⟩ => ⟨S1024x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1x1024x2048, .f32⟩
  | .local _ .vmem, ⟨4, _⟩ => ⟨S1x1x1024x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![2, 16, 1, 1], ![false, false, false, false]⟩

def k0_cond1 (i : grid0.Coords) : BitVec 1 :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 1 := Scalar.cmpi .eq v0 c0_i32_0
  let v2 : BitVec 32 := Scalar.extui v1
  let c0_i32_1 : BitVec 32 := 0#32
  let v3 : BitVec 1 := Scalar.cmpi .ne v2 c0_i32_1
  v3

def k0_cond2 (i : grid0.Coords) : BitVec 1 :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 1 := Scalar.cmpi .eq v0 c0_i32_0
  let v_true : BitVec 1 := 1#1
  let v4 : BitVec 1 := Scalar.xori v1 v_true
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg0 c0_i32
  let c0_i32_0 : BitVec 32 := 0#32
  let v1 : BitVec 1 := Scalar.cmpi .eq v0 c0_i32_0
  let c1_i32 : BitVec 32 := 1#32
  let v2 : BitVec 32 := Scalar.muli arg1 c1_i32
  let v3 : BitVec 32 := Scalar.addi v2 arg3
  let c0_i32_1 : BitVec 32 := 0#32
  let v4 : BitVec 32 := Scalar.select v1 v3 c0_i32_1
  let c0_i32_2 : BitVec 32 := 0#32
  let c0_i32_3 : BitVec 32 := 0#32
  ![v4.toNat, c0_i32_2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg0 c0_i32
  let c0_i32_0 : BitVec 32 := 0#32
  ![v0.toNat, arg1.toNat, arg2.toNat, arg3.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== ReferenceKeysFirstIdeal.lean ====
abbrev S16x2048x1024 : Shape := ⟨3, ![16, 2048, 1024]⟩
abbrev S2x1024x12336 : Shape := ⟨3, ![2, 1024, 12336]⟩
abbrev S1x1024x12336 : Shape := ⟨3, ![1, 1024, 12336]⟩
abbrev S1024x12336 : Shape := ⟨2, ![1024, 12336]⟩
abbrev S1024x1024 : Shape := ⟨2, ![1024, 1024]⟩
abbrev S_ : Shape := ⟨0, ![]⟩
abbrev S1x16x2048x1024 : Shape := ⟨4, ![1, 16, 2048, 1024]⟩
abbrev S2x16x2048x1024 : Shape := ⟨4, ![2, 16, 2048, 1024]⟩
abbrev S2x16x1024x2048 : Shape := ⟨4, ![2, 16, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S1x1024x12336, .f32⟩
  | .hbm, ⟨3, _⟩ => ⟨S1024x12336, .f32⟩
  | .hbm, ⟨4, _⟩ => ⟨S1024x1024, .f32⟩
  | .hbm, ⟨5, _⟩ => ⟨S16x2048x1024, .f32⟩
  | .hbm, ⟨6, _⟩ => ⟨S_, .f32⟩
  | .hbm, ⟨7, _⟩ => ⟨S16x2048x1024, .f32⟩
  | .hbm, ⟨8, _⟩ => ⟨S1x16x2048x1024, .f32⟩
  | .hbm, ⟨9, _⟩ => ⟨S1x16x2048x1024, .f32⟩
  | .hbm, ⟨10, _⟩ => ⟨S2x16x2048x1024, .f32⟩
  | .hbm, ⟨11, _⟩ => ⟨S2x16x1024x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KeysSecond.lean ====
abbrev S16x2048x1024 : Shape := ⟨3, ![16, 2048, 1024]⟩
abbrev S2x1024x12336 : Shape := ⟨3, ![2, 1024, 12336]⟩
abbrev S2x16x1024x2048 : Shape := ⟨4, ![2, 16, 1024, 2048]⟩
abbrev S32768x1024 : Shape := ⟨2, ![32768, 1024]⟩
abbrev S1x1024x12336 : Shape := ⟨3, ![1, 1024, 12336]⟩
abbrev S1024x12336 : Shape := ⟨2, ![1024, 12336]⟩
abbrev S12336x1024 : Shape := ⟨2, ![12336, 1024]⟩
abbrev S1024x1024 : Shape := ⟨2, ![1024, 1024]⟩
abbrev S2048x1024 : Shape := ⟨2, ![2048, 1024]⟩
abbrev S1x1x1024x2048 : Shape := ⟨4, ![1, 1, 1024, 2048]⟩
abbrev S1024x2048 : Shape := ⟨2, ![1024, 2048]⟩

abbrev nBuf : Space → Nat
  | .hbm => 11
  | .vmem => 5
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S2x16x1024x2048, .f32⟩
  | .hbm, ⟨3, _⟩ => ⟨S32768x1024, .f32⟩
  | .hbm, ⟨4, _⟩ => ⟨S32768x1024, .bf16⟩
  | .hbm, ⟨5, _⟩ => ⟨S1x1024x12336, .f32⟩
  | .hbm, ⟨6, _⟩ => ⟨S1024x12336, .f32⟩
  | .hbm, ⟨7, _⟩ => ⟨S12336x1024, .f32⟩
  | .hbm, ⟨8, _⟩ => ⟨S1024x1024, .f32⟩
  | .hbm, ⟨9, _⟩ => ⟨S1024x1024, .bf16⟩
  | .hbm, ⟨10, _⟩ => ⟨S2x16x1024x2048, .f32⟩
  | .local _ .vmem, ⟨0, _⟩ => ⟨S1024x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1x1024x2048, .f32⟩
  | .local _ .vmem, ⟨4, _⟩ => ⟨S1x1x1024x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 16, 1, 1], ![false, false, false, false]⟩

def k0_cond1 (i : grid0.Coords) : BitVec 1 :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .eq v0 c1_i32_0
  let v2 : BitVec 32 := Scalar.extui v1
  let c0_i32 : BitVec 32 := 0#32
  let v3 : BitVec 1 := Scalar.cmpi .ne v2 c0_i32
  v3

def k0_cond2 (i : grid0.Coords) : BitVec 1 :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .eq v0 c1_i32_0
  let v_true : BitVec 1 := 1#1
  let v4 : BitVec 1 := Scalar.xori v1 v_true
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg0 c1_i32
  let c1_i32_0 : BitVec 32 := 1#32
  let v1 : BitVec 1 := Scalar.cmpi .eq v0 c1_i32_0
  let c1_i32_1 : BitVec 32 := 1#32
  let v2 : BitVec 32 := Scalar.muli arg1 c1_i32_1
  let v3 : BitVec 32 := Scalar.addi v2 arg3
  let c0_i32 : BitVec 32 := 0#32
  let v4 : BitVec 32 := Scalar.select v1 v3 c0_i32
  let c0_i32_2 : BitVec 32 := 0#32
  let c0_i32_3 : BitVec 32 := 0#32
  ![v4.toNat, c0_i32_2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg0 c1_i32
  let c0_i32 : BitVec 32 := 0#32
  ![v0.toNat, arg1.toNat, arg2.toNat, arg3.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== ReferenceKeysSecondIdeal.lean ====
abbrev S16x2048x1024 : Shape := ⟨3, ![16, 2048, 1024]⟩
abbrev S2x1024x12336 : Shape := ⟨3, ![2, 1024, 12336]⟩
abbrev S2x16x1024x2048 : Shape := ⟨4, ![2, 16, 1024, 2048]⟩
abbrev S1x1024x12336 : Shape := ⟨3, ![1, 1024, 12336]⟩
abbrev S1024x12336 : Shape := ⟨2, ![1024, 12336]⟩
abbrev S1024x1024 : Shape := ⟨2, ![1024, 1024]⟩
abbrev S1x16x1024x2048 : Shape := ⟨4, ![1, 16, 1024, 2048]⟩
abbrev S16x1024x2048 : Shape := ⟨3, ![16, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S2x16x1024x2048, .f32⟩
  | .hbm, ⟨3, _⟩ => ⟨S1x1024x12336, .f32⟩
  | .hbm, ⟨4, _⟩ => ⟨S1024x12336, .f32⟩
  | .hbm, ⟨5, _⟩ => ⟨S1024x1024, .f32⟩
  | .hbm, ⟨6, _⟩ => ⟨S16x2048x1024, .f32⟩
  | .hbm, ⟨7, _⟩ => ⟨S1x16x1024x2048, .f32⟩
  | .hbm, ⟨8, _⟩ => ⟨S16x1024x2048, .f32⟩
  | .hbm, ⟨9, _⟩ => ⟨S16x1024x2048, .f32⟩
  | .hbm, ⟨10, _⟩ => ⟨S1x16x1024x2048, .f32⟩
  | .hbm, ⟨11, _⟩ => ⟨S1x16x1024x2048, .f32⟩
  | .hbm, ⟨12, _⟩ => ⟨S2x16x1024x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ValuesFirst.lean ====
abbrev S16x2048x1024 : Shape := ⟨3, ![16, 2048, 1024]⟩
abbrev S2x1024x12336 : Shape := ⟨3, ![2, 1024, 12336]⟩
abbrev S32768x1024 : Shape := ⟨2, ![32768, 1024]⟩
abbrev S1x1024x12336 : Shape := ⟨3, ![1, 1024, 12336]⟩
abbrev S1024x12336 : Shape := ⟨2, ![1024, 12336]⟩
abbrev S12336x1024 : Shape := ⟨2, ![12336, 1024]⟩
abbrev S1024x1024 : Shape := ⟨2, ![1024, 1024]⟩
abbrev S2x16x1024x2048 : Shape := ⟨4, ![2, 16, 1024, 2048]⟩
abbrev S2048x1024 : Shape := ⟨2, ![2048, 1024]⟩
abbrev S1x1x1024x2048 : Shape := ⟨4, ![1, 1, 1024, 2048]⟩
abbrev S1024x2048 : Shape := ⟨2, ![1024, 2048]⟩

abbrev nBuf : Space → Nat
  | .hbm => 10
  | .vmem => 5
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S32768x1024, .f32⟩
  | .hbm, ⟨3, _⟩ => ⟨S32768x1024, .bf16⟩
  | .hbm, ⟨4, _⟩ => ⟨S1x1024x12336, .f32⟩
  | .hbm, ⟨5, _⟩ => ⟨S1024x12336, .f32⟩
  | .hbm, ⟨6, _⟩ => ⟨S12336x1024, .f32⟩
  | .hbm, ⟨7, _⟩ => ⟨S1024x1024, .f32⟩
  | .hbm, ⟨8, _⟩ => ⟨S1024x1024, .bf16⟩
  | .hbm, ⟨9, _⟩ => ⟨S2x16x1024x2048, .f32⟩
  | .local _ .vmem, ⟨0, _⟩ => ⟨S1024x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1x1024x2048, .f32⟩
  | .local _ .vmem, ⟨4, _⟩ => ⟨S1x1x1024x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![2, 16, 1, 1], ![false, false, false, false]⟩

def k0_cond1 (i : grid0.Coords) : BitVec 1 :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 1 := Scalar.cmpi .eq v0 c0_i32_0
  let v2 : BitVec 32 := Scalar.extui v1
  let c0_i32_1 : BitVec 32 := 0#32
  let v3 : BitVec 1 := Scalar.cmpi .ne v2 c0_i32_1
  v3

def k0_cond2 (i : grid0.Coords) : BitVec 1 :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 1 := Scalar.cmpi .eq v0 c0_i32_0
  let v_true : BitVec 1 := 1#1
  let v4 : BitVec 1 := Scalar.xori v1 v_true
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg0 c0_i32
  let c0_i32_0 : BitVec 32 := 0#32
  let v1 : BitVec 1 := Scalar.cmpi .eq v0 c0_i32_0
  let c1_i32 : BitVec 32 := 1#32
  let v2 : BitVec 32 := Scalar.muli arg1 c1_i32
  let v3 : BitVec 32 := Scalar.addi v2 arg3
  let c0_i32_1 : BitVec 32 := 0#32
  let v4 : BitVec 32 := Scalar.select v1 v3 c0_i32_1
  let c0_i32_2 : BitVec 32 := 0#32
  let c0_i32_3 : BitVec 32 := 0#32
  ![v4.toNat, c0_i32_2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg0 c0_i32
  let c0_i32_0 : BitVec 32 := 0#32
  ![v0.toNat, arg1.toNat, arg2.toNat, arg3.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== ReferenceValuesFirstIdeal.lean ====
abbrev S16x2048x1024 : Shape := ⟨3, ![16, 2048, 1024]⟩
abbrev S2x1024x12336 : Shape := ⟨3, ![2, 1024, 12336]⟩
abbrev S1x1024x12336 : Shape := ⟨3, ![1, 1024, 12336]⟩
abbrev S1024x12336 : Shape := ⟨2, ![1024, 12336]⟩
abbrev S1024x1024 : Shape := ⟨2, ![1024, 1024]⟩
abbrev S_ : Shape := ⟨0, ![]⟩
abbrev S1x16x2048x1024 : Shape := ⟨4, ![1, 16, 2048, 1024]⟩
abbrev S2x16x2048x1024 : Shape := ⟨4, ![2, 16, 2048, 1024]⟩
abbrev S2x16x1024x2048 : Shape := ⟨4, ![2, 16, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S1x1024x12336, .f32⟩
  | .hbm, ⟨3, _⟩ => ⟨S1024x12336, .f32⟩
  | .hbm, ⟨4, _⟩ => ⟨S1024x1024, .f32⟩
  | .hbm, ⟨5, _⟩ => ⟨S16x2048x1024, .f32⟩
  | .hbm, ⟨6, _⟩ => ⟨S_, .f32⟩
  | .hbm, ⟨7, _⟩ => ⟨S16x2048x1024, .f32⟩
  | .hbm, ⟨8, _⟩ => ⟨S1x16x2048x1024, .f32⟩
  | .hbm, ⟨9, _⟩ => ⟨S1x16x2048x1024, .f32⟩
  | .hbm, ⟨10, _⟩ => ⟨S2x16x2048x1024, .f32⟩
  | .hbm, ⟨11, _⟩ => ⟨S2x16x1024x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ValuesSecond.lean ====
abbrev S16x2048x1024 : Shape := ⟨3, ![16, 2048, 1024]⟩
abbrev S2x1024x12336 : Shape := ⟨3, ![2, 1024, 12336]⟩
abbrev S2x16x1024x2048 : Shape := ⟨4, ![2, 16, 1024, 2048]⟩
abbrev S32768x1024 : Shape := ⟨2, ![32768, 1024]⟩
abbrev S1x1024x12336 : Shape := ⟨3, ![1, 1024, 12336]⟩
abbrev S1024x12336 : Shape := ⟨2, ![1024, 12336]⟩
abbrev S12336x1024 : Shape := ⟨2, ![12336, 1024]⟩
abbrev S1024x1024 : Shape := ⟨2, ![1024, 1024]⟩
abbrev S2048x1024 : Shape := ⟨2, ![2048, 1024]⟩
abbrev S1x1x1024x2048 : Shape := ⟨4, ![1, 1, 1024, 2048]⟩
abbrev S1024x2048 : Shape := ⟨2, ![1024, 2048]⟩

abbrev nBuf : Space → Nat
  | .hbm => 11
  | .vmem => 5
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S2x16x1024x2048, .f32⟩
  | .hbm, ⟨3, _⟩ => ⟨S32768x1024, .f32⟩
  | .hbm, ⟨4, _⟩ => ⟨S32768x1024, .bf16⟩
  | .hbm, ⟨5, _⟩ => ⟨S1x1024x12336, .f32⟩
  | .hbm, ⟨6, _⟩ => ⟨S1024x12336, .f32⟩
  | .hbm, ⟨7, _⟩ => ⟨S12336x1024, .f32⟩
  | .hbm, ⟨8, _⟩ => ⟨S1024x1024, .f32⟩
  | .hbm, ⟨9, _⟩ => ⟨S1024x1024, .bf16⟩
  | .hbm, ⟨10, _⟩ => ⟨S2x16x1024x2048, .f32⟩
  | .local _ .vmem, ⟨0, _⟩ => ⟨S1024x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1x1024x2048, .f32⟩
  | .local _ .vmem, ⟨4, _⟩ => ⟨S1x1x1024x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 16, 1, 1], ![false, false, false, false]⟩

def k0_cond1 (i : grid0.Coords) : BitVec 1 :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .eq v0 c1_i32_0
  let v2 : BitVec 32 := Scalar.extui v1
  let c0_i32 : BitVec 32 := 0#32
  let v3 : BitVec 1 := Scalar.cmpi .ne v2 c0_i32
  v3

def k0_cond2 (i : grid0.Coords) : BitVec 1 :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .eq v0 c1_i32_0
  let v_true : BitVec 1 := 1#1
  let v4 : BitVec 1 := Scalar.xori v1 v_true
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg0 c1_i32
  let c1_i32_0 : BitVec 32 := 1#32
  let v1 : BitVec 1 := Scalar.cmpi .eq v0 c1_i32_0
  let c1_i32_1 : BitVec 32 := 1#32
  let v2 : BitVec 32 := Scalar.muli arg1 c1_i32_1
  let v3 : BitVec 32 := Scalar.addi v2 arg3
  let c0_i32 : BitVec 32 := 0#32
  let v4 : BitVec 32 := Scalar.select v1 v3 c0_i32
  let c0_i32_2 : BitVec 32 := 0#32
  let c0_i32_3 : BitVec 32 := 0#32
  ![v4.toNat, c0_i32_2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg0 c1_i32
  let c0_i32 : BitVec 32 := 0#32
  ![v0.toNat, arg1.toNat, arg2.toNat, arg3.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== ReferenceValuesSecondIdeal.lean ====
abbrev S16x2048x1024 : Shape := ⟨3, ![16, 2048, 1024]⟩
abbrev S2x1024x12336 : Shape := ⟨3, ![2, 1024, 12336]⟩
abbrev S2x16x1024x2048 : Shape := ⟨4, ![2, 16, 1024, 2048]⟩
abbrev S1x1024x12336 : Shape := ⟨3, ![1, 1024, 12336]⟩
abbrev S1024x12336 : Shape := ⟨2, ![1024, 12336]⟩
abbrev S1024x1024 : Shape := ⟨2, ![1024, 1024]⟩
abbrev S1x16x1024x2048 : Shape := ⟨4, ![1, 16, 1024, 2048]⟩
abbrev S16x1024x2048 : Shape := ⟨3, ![16, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x12336, .f32⟩
  | .hbm, ⟨2, _⟩ => ⟨S2x16x1024x2048, .f32⟩
  | .hbm, ⟨3, _⟩ => ⟨S1x1024x12336, .f32⟩
  | .hbm, ⟨4, _⟩ => ⟨S1024x12336, .f32⟩
  | .hbm, ⟨5, _⟩ => ⟨S1024x1024, .f32⟩
  | .hbm, ⟨6, _⟩ => ⟨S16x2048x1024, .f32⟩
  | .hbm, ⟨7, _⟩ => ⟨S1x16x1024x2048, .f32⟩
  | .hbm, ⟨8, _⟩ => ⟨S16x1024x2048, .f32⟩
  | .hbm, ⟨9, _⟩ => ⟨S16x1024x2048, .f32⟩
  | .hbm, ⟨10, _⟩ => ⟨S1x16x1024x2048, .f32⟩
  | .hbm, ⟨11, _⟩ => ⟨S1x16x1024x2048, .f32⟩
  | .hbm, ⟨12, _⟩ => ⟨S2x16x1024x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Merge.lean ====
abbrev S16x2048x2048 : Shape := ⟨3, ![16, 2048, 2048]⟩
abbrev S16x2048x1024 : Shape := ⟨3, ![16, 2048, 1024]⟩
abbrev S16x2048x4096 : Shape := ⟨3, ![16, 2048, 4096]⟩
abbrev S2x2048 : Shape := ⟨2, ![2, 2048]⟩
abbrev S2x2048x1024 : Shape := ⟨3, ![2, 2048, 1024]⟩
abbrev S2x1024x1024 : Shape := ⟨3, ![2, 1024, 1024]⟩
abbrev S2x1024 : Shape := ⟨2, ![2, 1024]⟩
abbrev S32768x2048 : Shape := ⟨2, ![32768, 2048]⟩
abbrev S32768x4096 : Shape := ⟨2, ![32768, 4096]⟩
abbrev S32768x6144 : Shape := ⟨2, ![32768, 6144]⟩
abbrev S32768x1024 : Shape := ⟨2, ![32768, 1024]⟩
abbrev S1x2048 : Shape := ⟨2, ![1, 2048]⟩
abbrev S2048 : Shape := ⟨1, ![2048]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512x2048 : Shape := ⟨2, ![512, 2048]⟩
abbrev S512x1024 : Shape := ⟨2, ![512, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S256x1024 : Shape := ⟨2, ![256, 1024]⟩

abbrev nBuf : Space → Nat
  | .hbm => 56
  | .vmem => 24
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x2048, .f32⟩
  | .hbm, ⟨3, _⟩ => ⟨S16x2048x4096, .f32⟩
  | .hbm, ⟨4, _⟩ => ⟨S16x2048x1024, .f32⟩
  | .hbm, ⟨5, _⟩ => ⟨S16x2048x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S2x2048, .f32⟩
  | .hbm, ⟨10, _⟩ => ⟨S2x2048, .f32⟩
  | .hbm, ⟨11, _⟩ => ⟨S2x2048x1024, .f32⟩
  | .hbm, ⟨12, _⟩ => ⟨S2x1024x1024, .f32⟩
  | .hbm, ⟨13, _⟩ => ⟨S2x1024x1024, .f32⟩
  | .hbm, ⟨14, _⟩ => ⟨S2x1024, .f32⟩
  | .hbm, ⟨15, _⟩ => ⟨S2x1024, .f32⟩
  | .hbm, ⟨16, _⟩ => ⟨S32768x2048, .f32⟩
  | .hbm, ⟨17, _⟩ => ⟨S32768x4096, .f32⟩
  | .hbm, ⟨18, _⟩ => ⟨S32768x6144, .f32⟩
  | .hbm, ⟨19, _⟩ => ⟨S32768x6144, .bf16⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x4096, .f32⟩
  | .hbm, ⟨25, _⟩ => ⟨S32768x4096, .bf16⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S1x2048x1024, .f32⟩
  | .hbm, ⟨30, _⟩ => ⟨S2048x1024, .f32⟩
  | .hbm, ⟨31, _⟩ => ⟨S2048x1024, .bf16⟩
  | .hbm, ⟨32, _⟩ => ⟨S1x1024x1024, .f32⟩
  | .hbm, ⟨33, _⟩ => ⟨S1024x1024, .f32⟩
  | .hbm, ⟨34, _⟩ => ⟨S1024x1024, .bf16⟩
  | .hbm, ⟨35, _⟩ => ⟨S1x1024x1024, .f32⟩
  | .hbm, ⟨36, _⟩ => ⟨S1024x1024, .f32⟩
  | .hbm, ⟨37, _⟩ => ⟨S1024x1024, .bf16⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S32768x2048, .f32⟩
  | .hbm, ⟨51, _⟩ => ⟨S32768x2048, .bf16⟩
  | .hbm, ⟨52, _⟩ => ⟨S32768x1024, .f32⟩
  | .hbm, ⟨53, _⟩ => ⟨S32768x1024, .bf16⟩
  | .hbm, ⟨54, _⟩ => ⟨S32768x1024, .f32⟩
  | .hbm, ⟨55, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x2048, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceMergeIdeal.lean ====
abbrev S16x2048x2048 : Shape := ⟨3, ![16, 2048, 2048]⟩
abbrev S16x2048x1024 : Shape := ⟨3, ![16, 2048, 1024]⟩
abbrev S16x2048x4096 : Shape := ⟨3, ![16, 2048, 4096]⟩
abbrev S2x2048 : Shape := ⟨2, ![2, 2048]⟩
abbrev S2x2048x1024 : Shape := ⟨3, ![2, 2048, 1024]⟩
abbrev S2x1024x1024 : Shape := ⟨3, ![2, 1024, 1024]⟩
abbrev S2x1024 : Shape := ⟨2, ![2, 1024]⟩
abbrev S_ : Shape := ⟨0, ![]⟩
abbrev S16x2048x8x256 : Shape := ⟨4, ![16, 2048, 8, 256]⟩
abbrev S16x2048x8 : Shape := ⟨3, ![16, 2048, 8]⟩
abbrev S16x2048x8x1 : Shape := ⟨4, ![16, 2048, 8, 1]⟩
abbrev S1x2048 : Shape := ⟨2, ![1, 2048]⟩
abbrev S2048 : Shape := ⟨1, ![2048]⟩
abbrev S1x1x2048 : Shape := ⟨3, ![1, 1, 2048]⟩
abbrev S1x1024 : Shape := ⟨2, ![1, 1024]⟩
abbrev S1024 : Shape := ⟨1, ![1024]⟩
abbrev S1x1x1024 : Shape := ⟨3, ![1, 1, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩
abbrev S16x2048 : Shape := ⟨2, ![16, 2048]⟩
abbrev S16x2048x1 : Shape := ⟨3, ![16, 2048, 1]⟩
abbrev S32768x1024 : Shape := ⟨2, ![32768, 1024]⟩

abbrev nBuf : Space → Nat
  | .hbm => 132
  | .vmem => 0
  | .smem => 0
  | _ => 0

abbrev hbmTy0_0 (i : Nat) : BufTy := match i % 128 with
  | 0 => ⟨S16x2048x2048, .f32⟩
  | 1 => ⟨S16x2048x1024, .f32⟩
  | 2 => ⟨S16x2048x2048, .f32⟩
  | 3 => ⟨S16x2048x4096, .f32⟩
  | 4 => ⟨S16x2048x1024, .f32⟩
  | 5 => ⟨S16x2048x1024, .f32⟩
  | 6 => ⟨S16x2048x1024, .f32⟩
  | 7 => ⟨S16x2048x1024, .f32⟩
  | 8 => ⟨S16x2048x1024, .f32⟩
  | 9 => ⟨S2x2048, .f32⟩
  | 10 => ⟨S2x2048, .f32⟩
  | 11 => ⟨S2x2048x1024, .f32⟩
  | 12 => ⟨S2x1024x1024, .f32⟩
  | 13 => ⟨S2x1024x1024, .f32⟩
  | 14 => ⟨S2x1024, .f32⟩
  | 15 => ⟨S2x1024, .f32⟩
  | 16 => ⟨S16x2048x2048, .f32⟩
  | 17 => ⟨S16x2048x2048, .f32⟩
  | 18 => ⟨S_, .f32⟩
  | 19 => ⟨S16x2048x2048, .f32⟩
  | 20 => ⟨S16x2048x2048, .f32⟩
  | 21 => ⟨S_, .f32⟩
  | 22 => ⟨S16x2048x2048, .f32⟩
  | 23 => ⟨S16x2048x2048, .f32⟩
  | 24 => ⟨S16x2048x2048, .f32⟩
  | 25 => ⟨S16x2048x2048, .f32⟩
  | 26 => ⟨S16x2048x8x256, .f32⟩
  | 27 => ⟨S16x2048x8x256, .f32⟩
  | 28 => ⟨S_, .f32⟩
  | 29 => ⟨S16x2048x8, .f32⟩
  | 30 => ⟨S16x2048x8x1, .f32⟩
  | 31 => ⟨S_, .f32⟩
  | 32 => ⟨S16x2048x8x1, .f32⟩
  | 33 => ⟨S16x2048x8x1, .f32⟩
  | 34 => ⟨S_, .f32⟩
  | 35 => ⟨S16x2048x8x1, .f32⟩
  | 36 => ⟨S16x2048x8x1, .f32⟩
  | 37 => ⟨S16x2048x8x1, .f32⟩
  | 38 => ⟨S16x2048x8x256, .f32⟩
  | 39 => ⟨S16x2048x8x256, .f32⟩
  | 40 => ⟨S16x2048x2048, .f32⟩
  | 41 => ⟨S1x2048, .f32⟩
  | 42 => ⟨S2048, .f32⟩
  | 43 => ⟨S1x1x2048, .f32⟩
  | 44 => ⟨S16x2048x2048, .f32⟩
  | 45 => ⟨S16x2048x2048, .f32⟩
  | 46 => ⟨S16x2048x1024, .f32⟩
  | 47 => ⟨S16x2048x1024, .f32⟩
  | 48 => ⟨S_, .f32⟩
  | 49 => ⟨S16x2048x1024, .f32⟩
  | 50 => ⟨S16x2048x1024, .f32⟩
  | 51 => ⟨S_, .f32⟩
  | 52 => ⟨S16x2048x1024, .f32⟩
  | 53 => ⟨S16x2048x1024, .f32⟩
  | 54 => ⟨S16x2048x1024, .f32⟩
  | 55 => ⟨S16x2048x1024, .f32⟩
  | 56 => ⟨S1x1024, .f32⟩
  | 57 => ⟨S1024, .f32⟩
  | 58 => ⟨S1x1x1024, .f32⟩
  | 59 => ⟨S16x2048x1024, .f32⟩
  | 60 => ⟨S16x2048x1024, .f32⟩
  | 61 => ⟨S16x2048x1024, .f32⟩
  | 62 => ⟨S16x2048x1024, .f32⟩
  | 63 => ⟨S_, .f32⟩
  | 64 => ⟨S16x2048x1024, .f32⟩
  | 65 => ⟨S16x2048x1024, .f32⟩
  | 66 => ⟨S_, .f32⟩
  | 67 => ⟨S16x2048x1024, .f32⟩
  | 68 => ⟨S16x2048x1024, .f32⟩
  | 69 => ⟨S1x1024, .f32⟩
  | 70 => ⟨S1024, .f32⟩
  | 71 => ⟨S1x1x1024, .f32⟩
  | 72 => ⟨S16x2048x1024, .f32⟩
  | 73 => ⟨S16x2048x1024, .f32⟩
  | 74 => ⟨S16x2048x1024, .f32⟩
  | 75 => ⟨S16x2048x1024, .f32⟩
  | 76 => ⟨S_, .f32⟩
  | 77 => ⟨S16x2048x1024, .f32⟩
  | 78 => ⟨S16x2048x1024, .f32⟩
  | 79 => ⟨S_, .f32⟩
  | 80 => ⟨S16x2048x1024, .f32⟩
  | 81 => ⟨S16x2048x1024, .f32⟩
  | 82 => ⟨S1x2048x1024, .f32⟩
  | 83 => ⟨S2048x1024, .f32⟩
  | 84 => ⟨S16x2048x1024, .f32⟩
  | 85 => ⟨S16x2048x1024, .f32⟩
  | 86 => ⟨S1x1024x1024, .f32⟩
  | 87 => ⟨S1024x1024, .f32⟩
  | 88 => ⟨S16x2048x1024, .f32⟩
  | 89 => ⟨S16x2048x1024, .f32⟩
  | 90 => ⟨S16x2048x1024, .f32⟩
  | 91 => ⟨S1x1024x1024, .f32⟩
  | 92 => ⟨S1024x1024, .f32⟩
  | 93 => ⟨S16x2048x1024, .f32⟩
  | 94 => ⟨S_, .f32⟩
  | 95 => ⟨S16x2048x1024, .f32⟩
  | 96 => ⟨S16x2048x1024, .f32⟩
  | 97 => ⟨S16x2048x1024, .f32⟩
  | 98 => ⟨S_, .f32⟩
  | 99 => ⟨S16x2048, .f32⟩
  | 100 => ⟨S16x2048x1, .f32⟩
  | 101 => ⟨S_, .f32⟩
  | 102 => ⟨S16x2048x1, .f32⟩
  | 103 => ⟨S16x2048x1, .f32⟩
  | 104 => ⟨S16x2048x1024, .f32⟩
  | 105 => ⟨S16x2048x1024, .f32⟩
  | 106 => ⟨S16x2048x1024, .f32⟩
  | 107 => ⟨S_, .f32⟩
  | 108 => ⟨S16x2048, .f32⟩
  | 109 => ⟨S16x2048x1, .f32⟩
  | 110 => ⟨S_, .f32⟩
  | 111 => ⟨S16x2048x1, .f32⟩
  | 112 => ⟨S16x2048x1, .f32⟩
  | 113 => ⟨S16x2048x1024, .f32⟩
  | 114 => ⟨S16x2048x1024, .f32⟩
  | 115 => ⟨S_, .f32⟩
  | 116 => ⟨S16x2048x1, .f32⟩
  | 117 => ⟨S16x2048x1, .f32⟩
  | 118 => ⟨S16x2048x1, .f32⟩
  | 119 => ⟨S16x2048x1024, .f32⟩
  | 120 => ⟨S16x2048x1024, .f32⟩
  | 121 => ⟨S1x1024, .f32⟩
  | 122 => ⟨S1024, .f32⟩
  | 123 => ⟨S1x1x1024, .f32⟩
  | 124 => ⟨S16x2048x1024, .f32⟩
  | 125 => ⟨S16x2048x1024, .f32⟩
  | 126 => ⟨S1x1024, .f32⟩
  | 127 => ⟨S1024, .f32⟩
  | _ => ⟨S16x2048x2048, .f32⟩

abbrev hbmTy0_1 (i : Nat) : BufTy := match i % 128 with
  | 0 => ⟨S1x1x1024, .f32⟩
  | 1 => ⟨S16x2048x1024, .f32⟩
  | 2 => ⟨S16x2048x1024, .f32⟩
  | 3 => ⟨S32768x1024, .f32⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_cst_5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_6 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_7 : Ref sig .tc := ⟨.hbm, 98, rfl⟩
abbrev main_v58 : Ref sig .tc := ⟨.hbm, 99, rfl⟩
abbrev main_v59 : Ref sig .tc := ⟨.hbm, 100, rfl⟩
abbrev main_cst_8 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_9 : Ref sig .tc := ⟨.hbm, 107, rfl⟩
abbrev main_v65 : Ref sig .tc := ⟨.hbm, 108, rfl⟩
abbrev main_v66 : Ref sig .tc := ⟨.hbm, 109, rfl⟩
abbrev main_cst_10 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_11 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩

abbrev nD : Nat := 1
abbrev τ : Topo := Topo.v7x

variable {F : FTy → Type} [FloatOps F]
-- ==== ForgetFirst.lean ====
abbrev S16x2048x16 : Shape := ⟨3, ![16, 2048, 16]⟩
abbrev S16x2048x32 : Shape := ⟨3, ![16, 2048, 32]⟩
abbrev S2x16 : Shape := ⟨2, ![2, 16]⟩
abbrev S_ : Shape := ⟨0, ![]⟩
abbrev S16x2048x80 : Shape := ⟨3, ![16, 2048, 80]⟩
abbrev S16x2048x128 : Shape := ⟨3, ![16, 2048, 128]⟩
abbrev S32768x128 : Shape := ⟨2, ![32768, 128]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x16x16x2048 : Shape := ⟨4, ![2, 16, 16, 2048]⟩
abbrev S16x16x2048 : Shape := ⟨3, ![16, 16, 2048]⟩
abbrev S2048x128 : Shape := ⟨2, ![2048, 128]⟩
abbrev S2x1x16x2048 : Shape := ⟨4, ![2, 1, 16, 2048]⟩
abbrev S1x16x2048 : Shape := ⟨3, ![1, 16, 2048]⟩
abbrev S128x128 : Shape := ⟨2, ![128, 128]⟩
abbrev S16x128 : Shape := ⟨2, ![16, 128]⟩
abbrev S1x1x16x128 : Shape := ⟨4, ![1, 1, 16, 128]⟩
abbrev S1x16x128 : Shape := ⟨3, ![1, 16, 128]⟩

abbrev nBuf : Space → Nat
  | .hbm => 14
  | .vmem => 7
  | .smem => 0
  | _ => 0

abbrev bufTy : (tb : Table) → Fin (tcTables nBuf tb) → BufTy
  | .hbm, ⟨0, _⟩ => ⟨S16x2048x16, .f32⟩
  | .hbm, ⟨1, _⟩ => ⟨S16x2048x32, .f32⟩
  | .hbm, ⟨2, _⟩ => ⟨S2x16, .f32⟩
  | .hbm, ⟨3, _⟩ => ⟨S_, .f32⟩
  | .hbm, ⟨4, _⟩ => ⟨S16x2048x80, .f32⟩
  | .hbm, ⟨5, _⟩ => ⟨S16x2048x128, .f32⟩
  | .hbm, ⟨6, _⟩ => ⟨S32768x128, .f32⟩
  | .hbm, ⟨7, _⟩ => ⟨S1x16, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S1, .f32⟩
  | .hbm, ⟨12, _⟩ => ⟨S2x16x16x2048, .f32⟩
  | .hbm, ⟨13, _⟩ => ⟨S16x16x2048, .f32⟩
  | .local _ .vmem, ⟨0, _⟩ => ⟨S2048x128, .f32⟩
  | .local _ .vmem, ⟨1, _⟩ => ⟨S2048x128, .f32⟩
  | .local _ .vmem, ⟨2, _⟩ => ⟨S16x1, .f32⟩
  | .local _ .vmem, ⟨3, _⟩ => ⟨S2x1x16x2048, .f32⟩
  | .local _ .vmem, ⟨4, _⟩ => ⟨S2x1x16x2048, .f32⟩
  | .local _ .vmem, ⟨5, _⟩ => ⟨S1x16x2048, .f32⟩
  | .local _ .vmem, ⟨6, _⟩ => ⟨S1x16x2048, .f32⟩
  | _, _ => ⟨S16x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceForgetFirstIdeal.lean ====
abbrev S16x2048x16 : Shape := ⟨3, ![16, 2048, 16]⟩
abbrev S16x2048x32 : Shape := ⟨3, ![16, 2048, 32]⟩
abbrev S2x16 : Shape := ⟨2, ![2, 16]⟩
abbrev S1x16 : Shape := ⟨2, ![1, 16]⟩
abbrev S16 : Shape := ⟨1, ![16]⟩
abbrev S1x1x16 : Shape := ⟨3, ![1, 1, 16]⟩
abbrev S_ : Shape := ⟨0, ![]⟩
abbrev S1x16x2048x16 : Shape := ⟨4, ![1, 16, 2048, 16]⟩
abbrev S2x16x2048x16 : Shape := ⟨4, ![2, 16, 2048, 16]⟩
abbrev S2x16x16x2048 : Shape := ⟨4, ![2, 16, 16, 2048]⟩
abbrev S16x16x2048 : Shape := ⟨3, ![16, 16, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x16, .f32⟩
  | .hbm, ⟨1, _⟩ => ⟨S16x2048x32, .f32⟩
  | .hbm, ⟨2, _⟩ => ⟨S2x16, .f32⟩
  | .hbm, ⟨3, _⟩ => ⟨S1x16, .f32⟩
  | .hbm, ⟨4, _⟩ => ⟨S16, .f32⟩
  | .hbm, ⟨5, _⟩ => ⟨S1x1x16, .f32⟩
  | .hbm, ⟨6, _⟩ => ⟨S16x2048x16, .f32⟩
  | .hbm, ⟨7, _⟩ => ⟨S16x2048x16, .f32⟩
  | .hbm, ⟨8, _⟩ => ⟨S16x2048x16, .f32⟩
  | .hbm, ⟨9, _⟩ => ⟨S_, .f32⟩
  | .hbm, ⟨10, _⟩ => ⟨S16x2048x16, .f32⟩
  | .hbm, ⟨11, _⟩ => ⟨S16x2048x16, .f32⟩
  | .hbm, ⟨12, _⟩ => ⟨S16x2048x16, .f32⟩
  | .hbm, ⟨13, _⟩ => ⟨S16x2048x16, .f32⟩
  | .hbm, ⟨14, _⟩ => ⟨S16x2048x16, .i1⟩
  | .hbm, ⟨15, _⟩ => ⟨S16x2048x16, .f32⟩
  | .hbm, ⟨16, _⟩ => ⟨S16x2048x16, .f32⟩
  | .hbm, ⟨17, _⟩ => ⟨S16x2048x16, .f32⟩
  | .hbm, ⟨18, _⟩ => ⟨S16x2048x16, .f32⟩
  | .hbm, ⟨19, _⟩ => ⟨S16x2048x16, .f32⟩
  | .hbm, ⟨20, _⟩ => ⟨S16x2048x16, .f32⟩
  | .hbm, ⟨21, _⟩ => ⟨S16x2048x16, .f32⟩
  | .hbm, ⟨22, _⟩ => ⟨S16x2048x16, .f32⟩
  | .hbm, ⟨23, _⟩ => ⟨S16x2048x16, .f32⟩
  | .hbm, ⟨24, _⟩ => ⟨S_, .f32⟩
  | .hbm, ⟨25, _⟩ => ⟨S_, .f32⟩
  | .hbm, ⟨26, _⟩ => ⟨S16x2048x16, .f32⟩
  | .hbm, ⟨27, _⟩ => ⟨S_, .f32⟩
  | .hbm, ⟨28, _⟩ => ⟨S16x2048x16, .f32⟩
  | .hbm, ⟨29, _⟩ => ⟨S1x16x2048x16, .f32⟩
  | .hbm, ⟨30, _⟩ => ⟨S1x16x2048x16, .f32⟩
  | .hbm, ⟨31, _⟩ => ⟨S2x16x2048x16, .f32⟩
  | .hbm, ⟨32, _⟩ => ⟨S2x16x16x2048, .f32⟩
  | .hbm, ⟨33, _⟩ => ⟨S16x16x2048, .f32⟩
  | _, _ => ⟨S16x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_call1_call0_cst : Ref sig .tc := ⟨.hbm, 24, rfl⟩
abbrev main_call1_call0_v0 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== ForgetSecond.lean ====
abbrev S16x2048x16 : Shape := ⟨3, ![16, 2048, 16]⟩
abbrev S16x2048x32 : Shape := ⟨3, ![16, 2048, 32]⟩
abbrev S2x16 : Shape := ⟨2, ![2, 16]⟩
abbrev S2x16x16x2048 : Shape := ⟨4, ![2, 16, 16, 2048]⟩
abbrev S_ : Shape := ⟨0, ![]⟩
abbrev S16x2048x80 : Shape := ⟨3, ![16, 2048, 80]⟩
abbrev S16x2048x128 : Shape := ⟨3, ![16, 2048, 128]⟩
abbrev S32768x128 : Shape := ⟨2, ![32768, 128]⟩
abbrev S1x16 : Shape := ⟨2, ![1, 16]⟩
abbrev S16 : Shape := ⟨1, ![16]⟩
abbrev S16x1 : Shape := ⟨2, ![16, 1]⟩
abbrev S16x16x2048 : Shape := ⟨3, ![16, 16, 2048]⟩
abbrev S2048x128 : Shape := ⟨2, ![2048, 128]⟩
abbrev S1x1x16x2048 : Shape := ⟨4, ![1, 1, 16, 2048]⟩
abbrev S1x16x2048 : Shape := ⟨3, ![1, 16, 2048]⟩
abbrev S128x128 : Shape := ⟨2, ![128, 128]⟩
abbrev S16x128 : Shape := ⟨2, ![16, 128]⟩
abbrev S1x1x16x128 : Shape := ⟨4, ![1, 1, 16, 128]⟩
abbrev S1x16x128 : Shape := ⟨3, ![1, 16, 128]⟩

abbrev nBuf : Space → Nat
  | .hbm => 13
  | .vmem => 7
  | .smem => 0
  | _ => 0

abbrev bufTy : (tb : Table) → Fin (tcTables nBuf tb) → BufTy
  | .hbm, ⟨0, _⟩ => ⟨S16x2048x16, .f32⟩
  | .hbm, ⟨1, _⟩ => ⟨S16x2048x32, .f32⟩
  | .hbm, ⟨2, _⟩ => ⟨S2x16, .f32⟩
  | .hbm, ⟨3, _⟩ => ⟨S2x16x16x2048, .f32⟩
  | .hbm, ⟨4, _⟩ => ⟨S_, .f32⟩
  | .hbm, ⟨5, _⟩ => ⟨S16x2048x80, .f32⟩
  | .hbm, ⟨6, _⟩ => ⟨S16x2048x128, .f32⟩
  | .hbm, ⟨7, _⟩ => ⟨S32768x128, .f32⟩
  | .hbm, ⟨8, _⟩ => ⟨S1x16, .f32⟩
  | .hbm, ⟨9, _⟩ => ⟨S16, .f32⟩
  | .hbm, ⟨10, _⟩ => ⟨S16x1, .f32⟩
  | .hbm, ⟨11, _⟩ => ⟨S2x16x16x2048, .f32⟩
  | .hbm, ⟨12, _⟩ => ⟨S16x16x2048, .f32⟩
  | .local _ .vmem, ⟨0, _⟩ => ⟨S2048x128, .f32⟩
  | .local _ .vmem, ⟨1, _⟩ => ⟨S2048x128, .f32⟩
  | .local _ .vmem, ⟨2, _⟩ => ⟨S16x1, .f32⟩
  | .local _ .vmem, ⟨3, _⟩ => ⟨S1x1x16x2048, .f32⟩
  | .local _ .vmem, ⟨4, _⟩ => ⟨S1x1x16x2048, .f32⟩
  | .local _ .vmem, ⟨5, _⟩ => ⟨S1x16x2048, .f32⟩
  | .local _ .vmem, ⟨6, _⟩ => ⟨S1x16x2048, .f32⟩
  | _, _ => ⟨S16x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceForgetSecondIdeal.lean ====
abbrev S16x2048x16 : Shape := ⟨3, ![16, 2048, 16]⟩
abbrev S16x2048x32 : Shape := ⟨3, ![16, 2048, 32]⟩
abbrev S2x16 : Shape := ⟨2, ![2, 16]⟩
abbrev S2x16x16x2048 : Shape := ⟨4, ![2, 16, 16, 2048]⟩
abbrev S1x16 : Shape := ⟨2, ![1, 16]⟩
abbrev S16 : Shape := ⟨1, ![16]⟩
abbrev S1x1x16 : Shape := ⟨3, ![1, 1, 16]⟩
abbrev S_ : Shape := ⟨0, ![]⟩
abbrev S1x16x16x2048 : Shape := ⟨4, ![1, 16, 16, 2048]⟩
abbrev S16x16x2048 : Shape := ⟨3, ![16, 16, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x16, .f32⟩
  | .hbm, ⟨1, _⟩ => ⟨S16x2048x32, .f32⟩
  | .hbm, ⟨2, _⟩ => ⟨S2x16, .f32⟩
  | .hbm, ⟨3, _⟩ => ⟨S2x16x16x2048, .f32⟩
  | .hbm, ⟨4, _⟩ => ⟨S1x16, .f32⟩
  | .hbm, ⟨5, _⟩ => ⟨S16, .f32⟩
  | .hbm, ⟨6, _⟩ => ⟨S1x1x16, .f32⟩
  | .hbm, ⟨7, _⟩ => ⟨S16x2048x16, .f32⟩
  | .hbm, ⟨8, _⟩ => ⟨S16x2048x16, .f32⟩
  | .hbm, ⟨9, _⟩ => ⟨S16x2048x16, .f32⟩
  | .hbm, ⟨10, _⟩ => ⟨S_, .f32⟩
  | .hbm, ⟨11, _⟩ => ⟨S16x2048x16, .f32⟩
  | .hbm, ⟨12, _⟩ => ⟨S16x2048x16, .f32⟩
  | .hbm, ⟨13, _⟩ => ⟨S16x2048x16, .f32⟩
  | .hbm, ⟨14, _⟩ => ⟨S16x2048x16, .f32⟩
  | .hbm, ⟨15, _⟩ => ⟨S16x2048x16, .i1⟩
  | .hbm, ⟨16, _⟩ => ⟨S16x2048x16, .f32⟩
  | .hbm, ⟨17, _⟩ => ⟨S16x2048x16, .f32⟩
  | .hbm, ⟨18, _⟩ => ⟨S16x2048x16, .f32⟩
  | .hbm, ⟨19, _⟩ => ⟨S16x2048x16, .f32⟩
  | .hbm, ⟨20, _⟩ => ⟨S16x2048x16, .f32⟩
  | .hbm, ⟨21, _⟩ => ⟨S16x2048x16, .f32⟩
  | .hbm, ⟨22, _⟩ => ⟨S16x2048x16, .f32⟩
  | .hbm, ⟨23, _⟩ => ⟨S16x2048x16, .f32⟩
  | .hbm, ⟨24, _⟩ => ⟨S16x2048x16, .f32⟩
  | .hbm, ⟨25, _⟩ => ⟨S_, .f32⟩
  | .hbm, ⟨26, _⟩ => ⟨S_, .f32⟩
  | .hbm, ⟨27, _⟩ => ⟨S16x2048x16, .f32⟩
  | .hbm, ⟨28, _⟩ => ⟨S1x16x16x2048, .f32⟩
  | .hbm, ⟨29, _⟩ => ⟨S16x16x2048, .f32⟩
  | .hbm, ⟨30, _⟩ => ⟨S16x16x2048, .f32⟩
  | .hbm, ⟨31, _⟩ => ⟨S1x16x16x2048, .f32⟩
  | .hbm, ⟨32, _⟩ => ⟨S1x16x16x2048, .f32⟩
  | .hbm, ⟨33, _⟩ => ⟨S2x16x16x2048, .f32⟩
  | .hbm, ⟨34, _⟩ => ⟨S16x16x2048, .f32⟩
  | _, _ => ⟨S16x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v5 : Ref sig .tc := ⟨.hbm, 24, rfl⟩
abbrev main_call1_call0_cst : Ref sig .tc := ⟨.hbm, 25, rfl⟩
abbrev main_call1_call0_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Proof.ProjectZX.lean ====
/- The gate z and the inputs of the convolution: each block the call writes is its part of one matrix product. -/
module

public import proofs.«01_k».proof.Proof.Gen.ProjectZXIdeal.Value
public import proofs.«01_k».proof.Proof.Gen.ReferenceProjectZXIdeal.Read
public import Idealize.ShloMosaic.Lib.Pointwise
public import Idealize.ShloMosaic.Lib.StableHlo.ReadAt
public import Idealize.ShloMosaic.Lib.Pipeline.ValueKit

@[expose] public section

set_option maxRecDepth 16384
set_option maxHeartbeats 2000000

noncomputable section

namespace Cert.ReferenceProjectZXIdeal.Read

open Idealize.ShloMosaic Idealize.ShloMosaic.TcCoe Cert.ReferenceProjectZXIdeal Cert.ReferenceProjectZXIdeal.Gen

variable (x0 : (⟨S16x2048x1024, .f32⟩ : BufTy).Contents (Elt Ideal)) (x1 : (⟨S2x1024x12336, .f32⟩ : BufTy).Contents (Elt Ideal))

theorem v5_val (r : Fin 32768) (e : Fin 6144) : (val_main_v5 (F := Ideal) x0 x1 (ix2 r e) : EReal)
    = ∑ d : Fin 1024, x0 (ix3 ⟨r / 2048, by omega⟩ ⟨r % 2048, by omega⟩ d) * x1 (ix3 1 d ⟨e, by omega⟩) := by
  unfold val_main_v5 val_main_v4 val_main_v3 val_main_v2 val_main_v1 val_main_v0
  pointwise

end Cert.ReferenceProjectZXIdeal.Read

namespace Cert.ProjectZXIdeal.Tile

open Idealize.ShloMosaic Idealize.ShloMosaic.TcCoe Cert.ProjectZXIdeal Cert.ProjectZXIdeal.Gen

variable (m : (ℓ : Loc nD τ sig) → Buf (Elt Ideal) ℓ) (c : Dev nD)

def inX (r : Fin 32768) (d : Fin 1024) : EReal := m ((c : Thread nD τ).loc main_arg0) (ix3 ⟨r / 2048, by omega⟩ ⟨r % 2048, by omega⟩ d)
def inW (e : Fin 6144) (d : Fin 1024) : EReal := m ((c : Thread nD τ).loc main_arg1) (ix3 1 d ⟨e, by omega⟩)

theorem V1_apply (r : Fin 32768) (d : Fin 1024) : (V m c main_v1 (ix2 r d) : EReal) = inX m c r d := by
  unfold V
  after_reads_at
  rfl
theorem V6_apply (e : Fin 6144) (d : Fin 1024) : (V m c main_v6 (ix2 e d) : EReal) = inW m c e d := by
  unfold V
  after_reads_at
  rfl

theorem lt_N (t : Fin cfg0.N) : t.val < 48 := lt_of_lt_of_eq t.isLt N_0
theorem index0 : ∀ t : Fin cfg0.N, win0_0.index t = ![t.val % 8, 0] := by decide
theorem index1 : ∀ t : Fin cfg0.N, win0_1.index t = ![t.val / 8, 0] := by decide
theorem index2 : ∀ t : Fin cfg0.N, win0_2.index t = ![t.val % 8, t.val / 8] := by decide
theorem flush2 : ∀ t : Fin cfg0.N, (cfg0.win 2).flush t = true := by decide

def row (t : Fin cfg0.N) (p : Fin 4096) : Fin 32768 := ⟨4096 * (t.val % 8) + p, by omega⟩
def col (t : Fin cfg0.N) (q : Fin 1024) : Fin 6144 := ⟨1024 * (t.val / 8) + q, by have := lt_N t; omega⟩

theorem emb0 (t : Fin cfg0.N) (p : Fin 4096) (d : Fin 1024) : ((cfg0.win 0).blk t).view.emb (ix2 p d) = ix2 (row t p) d := by
  funext a; refine Fin.ext ?_
  blk_simp [index0]
  fin_cases a
  · show t.val % 8 * 4096 + (p : ℕ) = 4096 * (t.val % 8) + p; omega
  · show 0 * 1024 + (d : ℕ) = d; omega
theorem emb1 (t : Fin cfg0.N) (q d : Fin 1024) : ((cfg0.win 1).blk t).view.emb (ix2 q d) = ix2 (col t q) d := by
  funext a; refine Fin.ext ?_
  blk_simp [index1]
  fin_cases a
  · show t.val / 8 * 1024 + (q : ℕ) = 1024 * (t.val / 8) + q; omega
  · show 0 * 1024 + (d : ℕ) = d; omega
theorem emb2 (t : Fin cfg0.N) (p : Fin 4096) (q : Fin 1024) : ((cfg0.win 2).blk t).view.emb (ix2 p q) = ix2 (row t p) (col t q) := by
  funext a; refine Fin.ext ?_
  blk_simp [index2]
  fin_cases a
  · show t.val % 8 * 4096 + (p : ℕ) = 4096 * (t.val % 8) + p; omega
  · show t.val / 8 * 1024 + (q : ℕ) = 1024 * (t.val / 8) + q; omega

theorem iblk0_eq (t : Fin cfg0.N) (p : Fin 4096) (d : Fin 1024) : (iblk m c 0 t (ix2 p d) : EReal) = inX m c (row t p) d := by
  unfold iblk
  exact (congrArg (V m c main_v1) (emb0 t p d)).trans (V1_apply m c _ _)
theorem iblk1_eq (t : Fin cfg0.N) (q d : Fin 1024) : (iblk m c 1 t (ix2 q d) : EReal) = inW m c (col t q) d := by
  unfold iblk
  exact (congrArg (V m c main_v6) (emb1 t q d)).trans (V6_apply m c _ _)

/-- The block of a grid point is the product of the rows it is given. -/
theorem out_eq (X : Vec Ideal S4096x1024 .bf16) (W : Vec Ideal S1024x1024 .bf16) (p : Fin 4096) (q : Fin 1024) :
    (out0_2 (F := Ideal) X W (ix2 p q) : EReal) = ∑ d : Fin 1024, X (ix2 p d) * W (ix2 q d) := by
  unfold out0_2
  refine (congrFun (View.canon_cons_unit_zero (by funext a; fin_cases a <;> rfl) _ _ _) _).trans ?_
  unfold k0_pay1
  pointwise

/-- The product of the rows of the layer's input and the columns of its weights. -/
def product : S32768x6144.Idx → EReal := fun i => ∑ d : Fin 1024, inX m c (i 0) d * inW m c (i 1) d

theorem flushed_eq (t : Fin cfg0.N) (hf : (cfg0.win 2).flush t = true) :
    (dats m 0 c).flushed 2 t = ((cfg0.win 2).blk t).view.read (Elt Ideal) (product m c) := by
  rw [Value.flushed2]
  funext y
  have key : ∀ (p : Fin 4096) (q : Fin 1024), (out0_2 (F := Ideal) (iblk m c 0 t) (iblk m c 1 t) (ix2 p q) : EReal)
      = product m c (((cfg0.win 2).blk t).view.emb (ix2 p q)) := fun p q => by
    rw [out_eq, emb2]
    exact Finset.sum_congr rfl fun d _ => congrArg₂ (· * ·) (iblk0_eq m c t p d) (iblk1_eq m c t q d)
  have hy : (cfg0.win 2).xinj (grid0.coords t) y = ix2 (n0 := 4096) (n1 := 1024) (y 0) (y 1) := by
    funext a; fin_cases a <;> rfl
  have hy' : y = ix2 (n0 := 4096) (n1 := 1024) (y 0) (y 1) := by funext a; fin_cases a <;> rfl
  show out0_2 (F := Ideal) (iblk m c 0 t) (iblk m c 1 t) ((cfg0.win 2).xinj (grid0.coords t) y) = product m c (((cfg0.win 2).blk t).view.emb y)
  exact (congrArg (out0_2 (F := Ideal) (iblk m c 0 t) (iblk m c 1 t)) hy).trans
    ((key (y 0) (y 1)).trans (congrArg (fun z => product m c (((cfg0.win 2).blk t).view.emb z)) hy'.symm))

theorem covered (i : S32768x6144.Idx) : ∃ t : Fin cfg0.N, (cfg0.win 2).flush t = true ∧ i ∈ ((cfg0.win 2).blk t).view.set := by
  have h0 : (i 0).val < 32768 := (i 0).isLt
  have h1 : (i 1).val < 6144 := (i 1).isLt
  let t : Fin cfg0.N := ⟨8 * ((i 1).val / 1024) + (i 0).val / 4096, lt_of_lt_of_eq (by omega) N_0.symm⟩
  have e0 : win0_2.index t (0 : Fin 2) = t.val % 8 := congrFun (index2 t) 0
  have e1 : win0_2.index t (1 : Fin 2) = t.val / 8 := congrFun (index2 t) 1
  have ht : t.val = 8 * ((i 1).val / 1024) + (i 0).val / 4096 := rfl
  refine ⟨t, flush2 t, ?_⟩
  show i ∈ ((View.whole main_v7).slice (win0_2.rect t)).set
  rw [View.set_slice_whole, Rect.mem_set_unit]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1024 ≤ (i 1).val ∧ (i 1).val < win0_2.index t (1 : Fin 2) * 1024 + 1024; omega

theorem final : (dats m 0 c).arrAt 2 cfg0.N = product m c :=
  (dats m 0 c).arrAt_eq_of_cover 2 _ (fun t hf => flushed_eq m c t hf) (covered)

/-- The call's array is the reference's, over the same arguments. -/
theorem meet (x0 : (⟨S16x2048x1024, .f32⟩ : BufTy).Contents (Elt Ideal)) (x1 : (⟨S2x1024x12336, .f32⟩ : BufTy).Contents (Elt Ideal))
    (h0 : x0 = m ((c : Thread nD τ).loc main_arg0)) (h1 : x1 = m ((c : Thread nD τ).loc main_arg1)) :
    Cert.ReferenceProjectZXIdeal.Read.val_main_v5 (F := Ideal) x0 x1 = (dats m 0 c).arrAt 2 cfg0.N := by
  rw [final, h0, h1]
  funext i
  have hi : i = ix2 (n0 := 32768) (n1 := 6144) (i 0) (i 1) := by funext a; fin_cases a <;> rfl
  exact (congrArg _ hi).trans (Cert.ReferenceProjectZXIdeal.Read.v5_val _ _ (i 0) (i 1))

end Cert.ProjectZXIdeal.Tile

end
-- ==== Proof.Softmax.lean ====
/- The online softmax over a finite stream of keys, in the extended reals: what the running maximum, the running sum of
   weights and the running weighted sum are after `n` keys, how a further tile of keys changes them, and what their quotient
   is. Nothing here names the program. -/
module

public import Idealize.ShloMosaic.Lib.Pointwise

@[expose] public section

noncomputable section

namespace Cert.Softmax

open Idealize.ShloMosaic Finset

/-- The greatest of the first `n` logits; the bottom where there is none. -/
def top (s : ℕ → EReal) (n : ℕ) : EReal := (range n).sup s

/-- The sum of the weights of the first `n` keys, each against the greatest logit among them. -/
def den (s : ℕ → EReal) (n : ℕ) : EReal := ∑ k ∈ range n, Ideal.exp2 (s k - top s n)

/-- The sum of the first `n` values, weighted. -/
def num (s v : ℕ → EReal) (n : ℕ) : EReal := ∑ k ∈ range n, v k * Ideal.exp2 (s k - top s n)

theorem top_zero (s : ℕ → EReal) : top s 0 = ⊥ := rfl
theorem den_zero (s : ℕ → EReal) : den s 0 = 0 := rfl
theorem num_zero (s v : ℕ → EReal) : num s v 0 = 0 := rfl

theorem le_top {s : ℕ → EReal} {n k : ℕ} (h : k < n) : s k ≤ top s n := le_sup (mem_range.mpr h)

theorem top_ne_top {s : ℕ → EReal} (hs : ∀ k, s k ≠ ⊤) (n : ℕ) : top s n ≠ ⊤ := by
  refine ne_of_lt ?_
  rw [top, Finset.sup_lt_iff (by exact bot_lt_top)]
  exact fun k _ => lt_top_iff_ne_top.mpr (hs k)

/-- The greatest logit after a further tile of `t` keys. -/
theorem top_add (s : ℕ → EReal) (n t : ℕ) :
    top s (n + t) = max (top s n) (univ.sup fun k : Fin t => s (n + k)) := by
  apply le_antisymm
  · refine Finset.sup_le fun k hk => ?_
    rcases Nat.lt_or_ge k n with h | h
    · exact le_max_of_le_left (le_top h)
    · have hk' : k - n < t := by have := mem_range.mp hk; omega
      refine le_max_of_le_right (le_trans (le_of_eq ?_) (le_sup (f := fun k : Fin t => s (n + k)) (mem_univ ⟨k - n, hk'⟩)))
      simp only []; congr 1; omega
  · refine max_le ?_ ?_
    · exact Finset.sup_le fun k hk => le_top (by have := mem_range.mp hk; omega)
    · exact Finset.sup_le fun k _ => le_top (by have := k.isLt; omega)

theorem exp2_nonneg (x : EReal) : 0 ≤ Ideal.exp2 x := by
  induction x using EReal.rec with
  | bot => exact le_refl _
  | top => exact le_top'
  | coe r => rw [Ideal.exp2_coe]; exact EReal.coe_nonneg.mpr (Real.rpow_nonneg (by norm_num) _)
where le_top' : (0 : EReal) ≤ ⊤ := OrderTop.le_top _

theorem exp2_ne_top {x : EReal} (h : x ≠ ⊤) : Ideal.exp2 x ≠ ⊤ := by
  induction x using EReal.rec with
  | bot => rw [Ideal.exp2_bot]; exact EReal.zero_ne_top
  | top => exact absurd rfl h
  | coe r => rw [Ideal.exp2_coe]; exact EReal.coe_ne_top _

/-- A difference `a - b` of `a ≤ b < ⊤` is below the top. -/
theorem sub_ne_top {a b : EReal} (hab : a ≤ b) (hb : b ≠ ⊤) : a - b ≠ ⊤ := by
  induction b using EReal.rec with
  | bot => rw [le_bot_iff.mp hab]; exact fun h => by simp at h
  | top => exact absurd rfl hb
  | coe r =>
    induction a using EReal.rec with
    | bot => simp
    | top => exact absurd (top_le_iff.mp hab) (EReal.coe_ne_top r)
    | coe q => rw [← EReal.coe_sub]; exact EReal.coe_ne_top _

/-- A weight against the old greatest logit, rescaled to a new one. -/
theorem rescale {x a b : EReal} (hxa : x ≤ a) (hab : a ≤ b) (hb : b ≠ ⊤) :
    Ideal.exp2 (a - b) * Ideal.exp2 (x - a) = Ideal.exp2 (x - b) := by
  induction b using EReal.rec with
  | top => exact absurd rfl hb
  | bot => rw [le_bot_iff.mp hab] at hxa ⊢; rw [le_bot_iff.mp hxa]; simp [EReal.bot_sub]
  | coe r =>
    induction a using EReal.rec with
    | top => exact absurd (top_le_iff.mp hab) (EReal.coe_ne_top r)
    | bot => rw [le_bot_iff.mp hxa]; simp [EReal.bot_sub]
    | coe q =>
      induction x using EReal.rec with
      | top => exact absurd (top_le_iff.mp hxa) (EReal.coe_ne_top q)
      | bot => simp [EReal.bot_sub]
      | coe p =>
        simp only [← EReal.coe_sub, Ideal.exp2_coe, ← EReal.coe_mul, Real.rpow_eq_pow]
        rw [← Real.rpow_add (by norm_num)]
        congr 2; ring

theorem mul_sum_of_nonneg {ι : Type} (S : Finset ι) {c : EReal} (h0 : 0 ≤ c) (ht : c ≠ ⊤) (f : ι → EReal) :
    c * ∑ i ∈ S, f i = ∑ i ∈ S, c * f i := by
  classical
  induction S using Finset.induction_on with
  | empty => simp
  | insert a S ha ih => rw [sum_insert ha, sum_insert ha, EReal.left_distrib_of_nonneg_of_ne_top h0 ht, ih]

/-- The sum of weights rescaled to a greater logit `M`. -/
theorem den_rescale {s : ℕ → EReal} {n : ℕ} {M : EReal} (h : top s n ≤ M) (hM : M ≠ ⊤) :
    Ideal.exp2 (top s n - M) * den s n = ∑ k ∈ range n, Ideal.exp2 (s k - M) := by
  rw [den, mul_sum_of_nonneg _ (exp2_nonneg _) (exp2_ne_top (sub_ne_top h hM))]
  exact sum_congr rfl fun k hk => rescale (le_top (mem_range.mp hk)) h hM

/-- The weighted sum rescaled to a greater logit `M`. -/
theorem num_rescale {s v : ℕ → EReal} {n : ℕ} {M : EReal} (h : top s n ≤ M) (hM : M ≠ ⊤) :
    Ideal.exp2 (top s n - M) * num s v n = ∑ k ∈ range n, v k * Ideal.exp2 (s k - M) := by
  rw [num, mul_sum_of_nonneg _ (exp2_nonneg _) (exp2_ne_top (sub_ne_top h hM))]
  refine sum_congr rfl fun k hk => ?_
  rw [mul_left_comm, rescale (le_top (mem_range.mp hk)) h hM]

theorem top_mono (s : ℕ → EReal) {n n' : ℕ} (h : n ≤ n') : top s n ≤ top s n' :=
  Finset.sup_mono (range_subset_range.mpr h)

/-- One tile of `t` keys absorbed into the sum of weights. -/
theorem den_add {s : ℕ → EReal} (hs : ∀ k, s k ≠ ⊤) (n t : ℕ) :
    den s (n + t) = Ideal.exp2 (top s n - top s (n + t)) * den s n
      + ∑ k : Fin t, Ideal.exp2 (s (n + k) - top s (n + t)) := by
  rw [den_rescale (top_mono s (Nat.le_add_right n t)) (top_ne_top hs _), den, sum_range_add,
    Finset.sum_range (fun k => Ideal.exp2 (s (n + k) - top s (n + t)))]

/-- One tile of `t` keys absorbed into the weighted sum. -/
theorem num_add {s : ℕ → EReal} (hs : ∀ k, s k ≠ ⊤) (v : ℕ → EReal) (n t : ℕ) :
    num s v (n + t) = Ideal.exp2 (top s n - top s (n + t)) * num s v n
      + ∑ k : Fin t, v (n + k) * Ideal.exp2 (s (n + k) - top s (n + t)) := by
  rw [num_rescale (top_mono s (Nat.le_add_right n t)) (top_ne_top hs _), num, sum_range_add,
    Finset.sum_range (fun k => v (n + k) * Ideal.exp2 (s (n + k) - top s (n + t)))]

/-- Two tiles absorbed at once: the greatest logit. -/
theorem top_add2 (s : ℕ → EReal) (n t : ℕ) :
    top s (n + t + t) = max (top s n)
      (max (univ.sup fun k : Fin t => s (n + k)) (univ.sup fun k : Fin t => s (n + t + k))) := by
  rw [top_add, top_add, max_assoc]

/-- Two tiles absorbed at once: the sum of weights. -/
theorem den_add2 {s : ℕ → EReal} (hs : ∀ k, s k ≠ ⊤) (n t : ℕ) :
    den s (n + t + t) = Ideal.exp2 (top s n - top s (n + t + t)) * den s n
      + ∑ k : Fin t, Ideal.exp2 (s (n + k) - top s (n + t + t))
      + ∑ k : Fin t, Ideal.exp2 (s (n + t + k) - top s (n + t + t)) := by
  rw [den_rescale (top_mono s (by omega)) (top_ne_top hs _), den, sum_range_add, sum_range_add,
    Finset.sum_range (fun k => Ideal.exp2 (s (n + k) - top s (n + t + t))),
    Finset.sum_range (fun k => Ideal.exp2 (s (n + t + k) - top s (n + t + t)))]

/-- Two tiles absorbed at once: the weighted sum. -/
theorem num_add2 {s : ℕ → EReal} (hs : ∀ k, s k ≠ ⊤) (v : ℕ → EReal) (n t : ℕ) :
    num s v (n + t + t) = Ideal.exp2 (top s n - top s (n + t + t)) * num s v n
      + ∑ k : Fin t, v (n + k) * Ideal.exp2 (s (n + k) - top s (n + t + t))
      + ∑ k : Fin t, v (n + t + k) * Ideal.exp2 (s (n + t + k) - top s (n + t + t)) := by
  rw [num_rescale (top_mono s (by omega)) (top_ne_top hs _), num, sum_range_add, sum_range_add,
    Finset.sum_range (fun k => v (n + k) * Ideal.exp2 (s (n + k) - top s (n + t + t))),
    Finset.sum_range (fun k => v (n + t + k) * Ideal.exp2 (s (n + t + k) - top s (n + t + t)))]

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [sum_insert ha, sum_insert ha, EReal.coe_add, ih]

/-- Logits masked after `q`: the real `a k` for `k ≤ q`, the bottom beyond. -/
def masked (q : ℕ) (a : ℕ → ℝ) (k : ℕ) : EReal := if k ≤ q then (a k : EReal) else ⊥

theorem masked_ne_top (q : ℕ) (a : ℕ → ℝ) (k : ℕ) : masked q a k ≠ ⊤ := by
  unfold masked; split
  · exact EReal.coe_ne_top _
  · exact bot_ne_top

/-- The greatest of masked logits, once one unmasked key is among them, is a real. -/
theorem top_masked (q : ℕ) (a : ℕ → ℝ) {n : ℕ} (h : 0 < n) : ∃ μ : ℝ, top (masked q a) n = μ := by
  have h1 : top (masked q a) n ≠ ⊤ := top_ne_top (masked_ne_top q a) n
  have h2 : top (masked q a) n ≠ ⊥ := by
    intro hb
    have := le_top (s := masked q a) h
    rw [hb, le_bot_iff, masked, if_pos (Nat.zero_le q)] at this
    exact EReal.coe_ne_bot _ this
  exact ⟨_, (EReal.coe_toReal h1 h2).symm⟩

/-- A base-two softmax of masked logits over the first `n` keys, `n` beyond the mask, is the natural softmax over all `N`
    keys of the logits scaled by `log 2` and moved by any constant. -/
theorem quot_eq (q n N : ℕ) (hq : q < n) (hn : n ≤ N) (a t : ℕ → ℝ) (c : ℝ)
    (hat : ∀ k, t k = a k * Real.log 2 + c) (v : ℕ → EReal) :
    Ideal.div (num (masked q a) v n) (den (masked q a) n)
      = ∑ k ∈ range N, v k * Ideal.div (Ideal.exp (masked q t k - top (masked q t) N))
          (∑ k' ∈ range N, Ideal.exp (masked q t k' - top (masked q t) N)) := by
  obtain ⟨μ, hμ⟩ := top_masked q a (n := n) (by omega)
  obtain ⟨τ, hτ⟩ := top_masked q t (n := N) (by omega)
  set w : ℕ → ℝ := fun k => if k ≤ q then (2 : ℝ) ^ (a k - μ) else 0 with hw
  set γ : ℝ := Real.exp (c + μ * Real.log 2 - τ) with hγ
  have hγ0 : 0 < γ := Real.exp_pos _
  have hw0 : ∀ k, 0 ≤ w k := fun k => by
    rw [hw]; dsimp only; split
    · exact Real.rpow_nonneg (by norm_num) _
    · exact le_refl _
  have h1 : ∀ k, Ideal.exp2 (masked q a k - (μ : EReal)) = (w k : EReal) := fun k => by
    rw [hw]; dsimp only [masked]; split
    · rw [← EReal.coe_sub, Ideal.exp2_coe, Real.rpow_eq_pow]
    · rw [EReal.bot_sub, Ideal.exp2_bot, EReal.coe_zero]
  have h2 : ∀ k, Ideal.exp (masked q t k - (τ : EReal)) = ((γ * w k : ℝ) : EReal) := fun k => by
    rw [hw]; dsimp only [masked]; split
    · rw [← EReal.coe_sub, Ideal.exp_coe, hat, hγ, Real.rpow_def_of_pos (by norm_num), ← Real.exp_add]
      congr 2; ring
    · rw [EReal.bot_sub, Ideal.exp_bot, mul_zero, EReal.coe_zero]
  have hW : ∑ k ∈ range n, w k = ∑ k ∈ range N, w k := by
    refine sum_subset (range_subset_range.mpr hn) fun k _ hk => ?_
    rw [hw]; dsimp only; rw [if_neg]; have := mt mem_range.mpr hk; omega
  have hWpos : 0 < ∑ k ∈ range N, w k := by
    refine lt_of_lt_of_le ?_ (single_le_sum (fun k _ => hw0 k) (mem_range.mpr (by omega : 0 < N)))
    rw [hw]; dsimp only; rw [if_pos (Nat.zero_le q)]; exact Real.rpow_pos_of_pos (by norm_num) _
  set W : ℝ := ∑ k ∈ range N, w k with hWd
  rw [num, den, hμ, hτ]
  simp only [h1, h2]
  rw [← coe_sum, ← coe_sum, hW, ← mul_sum, ← hWd, Ideal.div_coe hWpos.ne']
  simp only [Ideal.div_coe (mul_pos hγ0 hWpos).ne', ← EReal.coe_mul]
  rw [mul_comm, mul_sum_of_nonneg _ (EReal.coe_nonneg.mpr (by positivity)) (EReal.coe_ne_top _)]
  have h3 : ∀ k, γ * w k * (1 / (γ * W)) = 1 / W * w k := fun k => by
    field_simp
  simp only [h3, EReal.coe_mul]
  rw [← sum_subset (range_subset_range.mpr hn) (f := fun k => v k * (((1 / W : ℝ) : EReal) * (w k : EReal)))]
  · exact sum_congr rfl fun k _ => mul_left_comm _ _ _
  · intro k _ hk
    have : w k = 0 := by rw [hw]; dsimp only; rw [if_neg]; have := mt mem_range.mpr hk; omega
    rw [this]; simp

end Cert.Softmax

end
-- ==== Proof.Arrays.lean ====
/- The arrays the call is given, index by index: the scaled queries, the keys and values of the second layer with frames last,
   and the gate sums by head. -/
module

public import proofs.«01_k».proof.Proof.Gen.KernelIdeal.Value
public import proofs.«01_k».proof.Proof.Softmax
public import Idealize.ShloMosaic.Lib.Pointwise
public import Idealize.ShloMosaic.Lib.StableHlo.ReadAt
public import Idealize.ShloMosaic.Lib.Pipeline.ValueKit

@[expose] public section

set_option maxRecDepth 16384
set_option maxHeartbeats 2000000

noncomputable section

namespace Cert.KernelIdeal.Step

open Idealize.ShloMosaic Idealize.ShloMosaic.TcCoe Cert.KernelIdeal Cert.KernelIdeal.Gen

variable (m : (ℓ : Loc nD τ sig) → Buf (Elt Ideal) ℓ) (c : Dev nD)

/-- The arguments, at their elements. -/
def inQ (b : Fin 16) (q : Fin 2048) (e : Fin 1024) : EReal := m ((c : Thread nD τ).loc main_arg0) (ix3 b q e)
def inK (b : Fin 16) (j : Fin 2048) (h : Fin 16) (d : Fin 64) : EReal := m ((c : Thread nD τ).loc main_arg2) (ix5 1 b j h d)
def inV (b : Fin 16) (j : Fin 2048) (h : Fin 16) (d : Fin 64) : EReal := m ((c : Thread nD τ).loc main_arg3) (ix5 1 b j h d)
def inC (b : Fin 16) (j : Fin 2048) (h : Fin 16) : EReal := m ((c : Thread nD τ).loc main_arg4) (ix3 b j h)

theorem V5_apply (b : Fin 16) (q : Fin 2048) (e : Fin 1024) :
    (V m c main_v5 (ix3 b q ⟨e.val, by omega⟩) : EReal) = inQ m c b q e * Ideal.div (Ideal.ofBits .f32 0x3E000000#32) (Ideal.log (Ideal.ofBits .f32 0x40000000#32)) := by
  have he := e.isLt
  unfold V
  after_reads_at
  after_reads_at
  rfl
theorem V7_apply (b : Fin 16) (e : Fin 1024) (j : Fin 2048) : (V m c main_v7 (ix4 1 b e j) : EReal) = inK m c b j ⟨e / 64, by omega⟩ ⟨e % 64, by omega⟩ := by
  unfold V
  after_reads_at
  rfl
theorem V9_apply (b : Fin 16) (e : Fin 1024) (j : Fin 2048) : (V m c main_v9 (ix4 1 b e j) : EReal) = inV m c b j ⟨e / 64, by omega⟩ ⟨e % 64, by omega⟩ := by
  unfold V
  after_reads_at
  rfl
theorem V11_apply (b : Fin 16) (h : Fin 16) (t : Fin 8) (k : Fin 256) : (V m c main_v11 (ix4 b h t k) : EReal) = inC m c b ⟨256 * t + k, by omega⟩ h := by
  unfold V
  after_reads_at
  unfold inC
  simp only [mul_comm 256]

theorem coords_eq : ∀ t : Fin cfg0.N, (grid0.coords t 0).val = t.val / 8 ∧ (grid0.coords t 2).val = t.val % 8 := by decide
theorem index0 : ∀ t : Fin cfg0.N, win0_0.index t = ![t.val / 8, t.val % 8, 0] := by decide
theorem index1 : ∀ t : Fin cfg0.N, win0_1.index t = ![1, t.val / 8, 0, 0] := by decide
theorem index2 : ∀ t : Fin cfg0.N, win0_2.index t = ![1, t.val / 8, 0, 0] := by decide
theorem index3 : ∀ t : Fin cfg0.N, win0_3.index t = ![t.val / 8, 0, 0, 0] := by decide

theorem lt_N (t : Fin cfg0.N) : t.val < 128 := lt_of_lt_of_eq t.isLt N_0

theorem emb0 (t : Fin cfg0.N) (q : Fin 256) (e : Fin 1024) :
    ((cfg0.win 0).blk t).view.emb (ix3 0 q e) = ix3 ⟨t.val / 8, by have := lt_N t; omega⟩ ⟨256 * (t.val % 8) + q, by omega⟩ ⟨e, by omega⟩ := by
  funext a; refine Fin.ext ?_
  blk_simp [index0]
  fin_cases a
  · show t.val / 8 * 1 + 0 = t.val / 8; omega
  · show t.val % 8 * 256 + (q : ℕ) = 256 * (t.val % 8) + q; omega
  · show 0 * 1024 + (e : ℕ) = e; omega
theorem emb1 (t : Fin cfg0.N) (e : Fin 1024) (j : Fin 2048) :
    ((cfg0.win 1).blk t).view.emb (ix4 0 0 e j) = ix4 1 ⟨t.val / 8, by have := lt_N t; omega⟩ e j := by
  funext a; refine Fin.ext ?_
  blk_simp [index1]
  fin_cases a
  · rfl
  · show t.val / 8 * 1 + 0 = t.val / 8; omega
  · show 0 * 1024 + (e : ℕ) = e; omega
  · show 0 * 2048 + (j : ℕ) = j; omega
theorem emb2 (t : Fin cfg0.N) (e : Fin 1024) (j : Fin 2048) :
    ((cfg0.win 2).blk t).view.emb (ix4 0 0 e j) = ix4 1 ⟨t.val / 8, by have := lt_N t; omega⟩ e j := by
  funext a; refine Fin.ext ?_
  blk_simp [index2]
  fin_cases a
  · rfl
  · show t.val / 8 * 1 + 0 = t.val / 8; omega
  · show 0 * 1024 + (e : ℕ) = e; omega
  · show 0 * 2048 + (j : ℕ) = j; omega
theorem emb3 (t : Fin cfg0.N) (h : Fin 16) (s : Fin 8) (k : Fin 256) :
    ((cfg0.win 3).blk t).view.emb (ix4 0 h s k) = ix4 ⟨t.val / 8, by have := lt_N t; omega⟩ h s k := by
  funext a; refine Fin.ext ?_
  blk_simp [index3]
  fin_cases a
  · show t.val / 8 * 1 + 0 = t.val / 8; omega
  · show 0 * 16 + (h : ℕ) = h; omega
  · show 0 * 8 + (s : ℕ) = s; omega
  · show 0 * 256 + (k : ℕ) = k; omega

/-- The arguments' elements as real numbers, by natural positions: keys, gate sums and queries of sequence `b`. -/
def kR (b : Fin 16) (e j : ℕ) : ℝ := (inK m c b ⟨j % 2048, by omega⟩ ⟨e / 64 % 16, by omega⟩ ⟨e % 64, by omega⟩).toReal
def cR (b : Fin 16) (h j : ℕ) : ℝ := (inC m c b ⟨j % 2048, by omega⟩ ⟨h % 16, by omega⟩).toReal
def qR (b : Fin 16) (q e : ℕ) : ℝ := (inQ m c b ⟨q % 2048, by omega⟩ ⟨e % 1024, by omega⟩).toReal
/-- The values, as they are. -/
def vE (b : Fin 16) (e j : ℕ) : EReal := inV m c b ⟨j % 2048, by omega⟩ ⟨e / 64 % 16, by omega⟩ ⟨e % 64, by omega⟩

/-- Every query, key of the layer and gate sum is finite. -/
structure Finite : Prop where
  q : ∀ b q e, inQ m c b q e ≠ ⊤ ∧ inQ m c b q e ≠ ⊥
  k : ∀ b j h d, inK m c b j h d ≠ ⊤ ∧ inK m c b j h d ≠ ⊥
  c : ∀ b j h, inC m c b j h ≠ ⊤ ∧ inC m c b j h ≠ ⊥

/-- The factor on the queries: the softmax's, in the base-two scale. -/
theorem scale_eq : Ideal.div (Ideal.ofBits .f32 0x3E000000#32) (Ideal.log (Ideal.ofBits .f32 0x40000000#32)) = ((0.125 / Real.log 2 : ℝ) : EReal) := by
  have h1 : Ideal.ofBits .f32 0x3E000000#32 = ((0.125 : ℝ) : EReal) := by
    have e : BitVec.extractLsb' 31 1 1040187392#32 = 0#1 := by decide
    norm_num [Ideal.ofBits, Ideal.ieee, Nat.shiftRight_eq_div_pow, e]
  have h2 : Ideal.ofBits .f32 0x40000000#32 = ((2 : ℝ) : EReal) := by
    have e : BitVec.extractLsb' 31 1 1073741824#32 = 0#1 := by decide
    norm_num [Ideal.ofBits, Ideal.ieee, Nat.shiftRight_eq_div_pow, e]
  have h3 : Real.log 2 ≠ 0 := ne_of_gt (Real.log_pos (by norm_num))
  rw [h1, h2, Ideal.log_coe, if_neg (by norm_num), Ideal.div_coe h3, ← EReal.coe_mul, mul_one_div]

variable {m c} (hF : Finite m c)

include hF

theorem kR_eq (b : Fin 16) (e : Fin 1024) (j : Fin 2048) : (kR m c b e j : EReal) = inK m c b j ⟨e / 64, by omega⟩ ⟨e % 64, by omega⟩ := by
  unfold kR
  rw [EReal.coe_toReal (hF.k _ _ _ _).1 (hF.k _ _ _ _).2]
  congr 1
  · exact Fin.ext (Nat.mod_eq_of_lt j.isLt)
  · exact Fin.ext (Nat.mod_eq_of_lt (show (e : ℕ) / 64 < 16 by omega))
theorem cR_eq (b : Fin 16) (h : Fin 16) (j : Fin 2048) : (cR m c b h j : EReal) = inC m c b j h := by
  unfold cR
  rw [EReal.coe_toReal (hF.c _ _ _).1 (hF.c _ _ _).2]
  congr 1
  · exact Fin.ext (Nat.mod_eq_of_lt j.isLt)
  · exact Fin.ext (Nat.mod_eq_of_lt h.isLt)
theorem qR_eq (b : Fin 16) (q : Fin 2048) (e : Fin 1024) : (qR m c b q e : EReal) = inQ m c b q e := by
  unfold qR
  rw [EReal.coe_toReal (hF.q _ _ _).1 (hF.q _ _ _).2]
  congr 1
  · exact Fin.ext (Nat.mod_eq_of_lt q.isLt)
  · exact Fin.ext (Nat.mod_eq_of_lt e.isLt)
omit hF in
theorem vE_eq (b : Fin 16) (e : Fin 1024) (j : Fin 2048) : vE m c b e j = inV m c b j ⟨e / 64, by omega⟩ ⟨e % 64, by omega⟩ := by
  unfold vE
  congr 1
  · exact Fin.ext (Nat.mod_eq_of_lt j.isLt)
  · exact Fin.ext (Nat.mod_eq_of_lt (show (e : ℕ) / 64 < 16 by omega))

/-- The sequence a grid point works on. -/
abbrev sq (t : Fin cfg0.N) : Fin 16 := ⟨t.val / 8, by have := lt_N t; omega⟩

/-- The blocks a grid point is given. -/
theorem iblk0_eq (t : Fin cfg0.N) (q : Fin 256) (e : Fin 1024) :
    (iblk m c 0 t (ix3 0 q e) : EReal) = ((qR m c (sq t) (256 * (t.val % 8) + q) e * (0.125 / Real.log 2) : ℝ) : EReal) := by
  unfold iblk
  refine (congrArg (V m c main_v5) (emb0 t q e)).trans ?_
  rw [V5_apply, scale_eq, EReal.coe_mul, qR_eq hF (sq t) ⟨256 * (t.val % 8) + q, by omega⟩ e]
theorem iblk1_eq (t : Fin cfg0.N) (e : Fin 1024) (j : Fin 2048) : (iblk m c 1 t (ix4 0 0 e j) : EReal) = (kR m c (sq t) e j : EReal) := by
  unfold iblk
  refine (congrArg (V m c main_v7) (emb1 t e j)).trans ?_
  rw [V7_apply, kR_eq hF]
omit hF in
theorem iblk2_eq (t : Fin cfg0.N) (e : Fin 1024) (j : Fin 2048) : (iblk m c 2 t (ix4 0 0 e j) : EReal) = vE m c (sq t) e j := by
  unfold iblk
  refine (congrArg (V m c main_v9) (emb2 t e j)).trans ?_
  rw [V9_apply, vE_eq]
theorem iblk3_eq (t : Fin cfg0.N) (h : Fin 16) (s : Fin 8) (k : Fin 256) : (iblk m c 3 t (ix4 0 h s k) : EReal) = (cR m c (sq t) h (256 * s + k) : EReal) := by
  unfold iblk
  refine (congrArg (V m c main_v11) (emb3 t h s k)).trans ?_
  rw [V11_apply]
  exact (cR_eq hF (sq t) h ⟨256 * s + k, by omega⟩).symm

end Cert.KernelIdeal.Step

end
-- ==== Proof.ProjectQG.lean ====
/- The scaled queries and the three gates: each block the call writes is its part of one matrix product; a finite scale
   of the weights is a scale of the product. -/
module

public import proofs.«01_k».proof.Proof.Gen.ProjectQGIdeal.Value
public import proofs.«01_k».proof.Proof.Arrays
public import proofs.«01_k».proof.Proof.Gen.ReferenceProjectQGIdeal.Read
public import Idealize.ShloMosaic.Lib.Pointwise
public import Idealize.ShloMosaic.Lib.StableHlo.ReadAt
public import Idealize.ShloMosaic.Lib.Pipeline.ValueKit

@[expose] public section

set_option maxRecDepth 16384
set_option maxHeartbeats 2000000

noncomputable section

namespace Cert.ReferenceProjectQGIdeal.Read

open Idealize.ShloMosaic Idealize.ShloMosaic.TcCoe Cert.ReferenceProjectQGIdeal Cert.ReferenceProjectQGIdeal.Gen

variable (x0 : (⟨S16x2048x1024, .f32⟩ : BufTy).Contents (Elt Ideal)) (x1 : (⟨S2x1024x12336, .f32⟩ : BufTy).Contents (Elt Ideal))

/-- The scale of the queries: an eighth over the logarithm of two. -/
abbrev scale : EReal := Ideal.div (Ideal.ofBits .f32 0x3E000000#32) (Ideal.log (Ideal.ofBits .f32 0x40000000#32))

theorem v14_val (r : Fin 32768) (e : Fin 4096) : (val_main_v14 (F := Ideal) x0 x1 (ix2 r e) : EReal)
    = if h : (e : ℕ) < 1024 then (∑ d : Fin 1024, x0 (ix3 ⟨r / 2048, by omega⟩ ⟨r % 2048, by omega⟩ d) * x1 (ix3 1 d ⟨6176 + e, by omega⟩)) * scale
      else ∑ d : Fin 1024, x0 (ix3 ⟨r / 2048, by omega⟩ ⟨r % 2048, by omega⟩ d) * x1 (ix3 1 d ⟨9264 + (e - 1024), by omega⟩) := by
  unfold val_main_v14 val_main_v13 val_main_v12 val_main_v7 val_main_v6 val_main_v5 val_main_v4 val_main_v11 val_main_v10 val_main_v9 val_main_v8 val_main_v3 val_main_v2 val_main_v1 val_main_v0 val_main_cst val_main_cst_0
  pointwise

end Cert.ReferenceProjectQGIdeal.Read

namespace Cert.ProjectQGIdeal.Tile

open Idealize.ShloMosaic Idealize.ShloMosaic.TcCoe Cert.ProjectQGIdeal Cert.ProjectQGIdeal.Gen

variable (m : (ℓ : Loc nD τ sig) → Buf (Elt Ideal) ℓ) (c : Dev nD)

def inX (r : Fin 32768) (d : Fin 1024) : EReal := m ((c : Thread nD τ).loc main_arg0) (ix3 ⟨r / 2048, by omega⟩ ⟨r % 2048, by omega⟩ d)
def wAt (e : Fin 12336) (d : Fin 1024) : EReal := m ((c : Thread nD τ).loc main_arg1) (ix3 1 d e)
def inW (e : Fin 4096) (d : Fin 1024) : EReal :=
  if h : (e : ℕ) < 1024 then wAt m c ⟨6176 + e, by omega⟩ d * Cert.ReferenceProjectQGIdeal.Read.scale
  else wAt m c ⟨9264 + (e - 1024), by omega⟩ d

theorem V1_apply (r : Fin 32768) (d : Fin 1024) : (V m c main_v1 (ix2 r d) : EReal) = inX m c r d := by
  unfold V
  after_reads_at
  rfl
theorem V12_apply (e : Fin 4096) (d : Fin 1024) : (V m c main_v12 (ix2 e d) : EReal) = inW m c e d := by
  unfold V
  after_reads_at
  after_reads_at
  rfl

theorem lt_N (t : Fin cfg0.N) : t.val < 32 := lt_of_lt_of_eq t.isLt N_0
theorem index0 : ∀ t : Fin cfg0.N, win0_0.index t = ![t.val % 8, 0] := by decide
theorem index1 : ∀ t : Fin cfg0.N, win0_1.index t = ![t.val / 8, 0] := by decide
theorem index2 : ∀ t : Fin cfg0.N, win0_2.index t = ![t.val % 8, t.val / 8] := by decide
theorem flush2 : ∀ t : Fin cfg0.N, (cfg0.win 2).flush t = true := by decide

def row (t : Fin cfg0.N) (p : Fin 4096) : Fin 32768 := ⟨4096 * (t.val % 8) + p, by omega⟩
def col (t : Fin cfg0.N) (q : Fin 1024) : Fin 4096 := ⟨1024 * (t.val / 8) + q, by have := lt_N t; omega⟩

theorem emb0 (t : Fin cfg0.N) (p : Fin 4096) (d : Fin 1024) : ((cfg0.win 0).blk t).view.emb (ix2 p d) = ix2 (row t p) d := by
  funext a; refine Fin.ext ?_
  blk_simp [index0]
  fin_cases a
  · show t.val % 8 * 4096 + (p : ℕ) = 4096 * (t.val % 8) + p; omega
  · show 0 * 1024 + (d : ℕ) = d; omega
theorem emb1 (t : Fin cfg0.N) (q d : Fin 1024) : ((cfg0.win 1).blk t).view.emb (ix2 q d) = ix2 (col t q) d := by
  funext a; refine Fin.ext ?_
  blk_simp [index1]
  fin_cases a
  · show t.val / 8 * 1024 + (q : ℕ) = 1024 * (t.val / 8) + q; omega
  · show 0 * 1024 + (d : ℕ) = d; omega
theorem emb2 (t : Fin cfg0.N) (p : Fin 4096) (q : Fin 1024) : ((cfg0.win 2).blk t).view.emb (ix2 p q) = ix2 (row t p) (col t q) := by
  funext a; refine Fin.ext ?_
  blk_simp [index2]
  fin_cases a
  · show t.val % 8 * 4096 + (p : ℕ) = 4096 * (t.val % 8) + p; omega
  · show t.val / 8 * 1024 + (q : ℕ) = 1024 * (t.val / 8) + q; omega

theorem iblk0_eq (t : Fin cfg0.N) (p : Fin 4096) (d : Fin 1024) : (iblk m c 0 t (ix2 p d) : EReal) = inX m c (row t p) d := by
  unfold iblk
  exact (congrArg (V m c main_v1) (emb0 t p d)).trans (V1_apply m c _ _)
theorem iblk1_eq (t : Fin cfg0.N) (q d : Fin 1024) : (iblk m c 1 t (ix2 q d) : EReal) = inW m c (col t q) d := by
  unfold iblk
  exact (congrArg (V m c main_v12) (emb1 t q d)).trans (V12_apply m c _ _)

/-- The block of a grid point is the product of the rows it is given. -/
theorem out_eq (X : Vec Ideal S4096x1024 .bf16) (W : Vec Ideal S1024x1024 .bf16) (p : Fin 4096) (q : Fin 1024) :
    (out0_2 (F := Ideal) X W (ix2 p q) : EReal) = ∑ d : Fin 1024, X (ix2 p d) * W (ix2 q d) := by
  unfold out0_2
  refine (congrFun (View.canon_cons_unit_zero (by funext a; fin_cases a <;> rfl) _ _ _) _).trans ?_
  unfold k0_pay1
  pointwise

/-- The product of the rows of the layer's input and the columns of its weights. -/
def product : S32768x4096.Idx → EReal := fun i => ∑ d : Fin 1024, inX m c (i 0) d * inW m c (i 1) d

theorem flushed_eq (t : Fin cfg0.N) (hf : (cfg0.win 2).flush t = true) :
    (dats m 0 c).flushed 2 t = ((cfg0.win 2).blk t).view.read (Elt Ideal) (product m c) := by
  rw [Value.flushed2]
  funext y
  have key : ∀ (p : Fin 4096) (q : Fin 1024), (out0_2 (F := Ideal) (iblk m c 0 t) (iblk m c 1 t) (ix2 p q) : EReal)
      = product m c (((cfg0.win 2).blk t).view.emb (ix2 p q)) := fun p q => by
    rw [out_eq, emb2]
    exact Finset.sum_congr rfl fun d _ => congrArg₂ (· * ·) (iblk0_eq m c t p d) (iblk1_eq m c t q d)
  have hy : (cfg0.win 2).xinj (grid0.coords t) y = ix2 (n0 := 4096) (n1 := 1024) (y 0) (y 1) := by
    funext a; fin_cases a <;> rfl
  have hy' : y = ix2 (n0 := 4096) (n1 := 1024) (y 0) (y 1) := by funext a; fin_cases a <;> rfl
  show out0_2 (F := Ideal) (iblk m c 0 t) (iblk m c 1 t) ((cfg0.win 2).xinj (grid0.coords t) y) = product m c (((cfg0.win 2).blk t).view.emb y)
  exact (congrArg (out0_2 (F := Ideal) (iblk m c 0 t) (iblk m c 1 t)) hy).trans
    ((key (y 0) (y 1)).trans (congrArg (fun z => product m c (((cfg0.win 2).blk t).view.emb z)) hy'.symm))

theorem covered (i : S32768x4096.Idx) : ∃ t : Fin cfg0.N, (cfg0.win 2).flush t = true ∧ i ∈ ((cfg0.win 2).blk t).view.set := by
  have h0 : (i 0).val < 32768 := (i 0).isLt
  have h1 : (i 1).val < 4096 := (i 1).isLt
  let t : Fin cfg0.N := ⟨8 * ((i 1).val / 1024) + (i 0).val / 4096, lt_of_lt_of_eq (by omega) N_0.symm⟩
  have e0 : win0_2.index t (0 : Fin 2) = t.val % 8 := congrFun (index2 t) 0
  have e1 : win0_2.index t (1 : Fin 2) = t.val / 8 := congrFun (index2 t) 1
  have ht : t.val = 8 * ((i 1).val / 1024) + (i 0).val / 4096 := rfl
  refine ⟨t, flush2 t, ?_⟩
  show i ∈ ((View.whole main_v13).slice (win0_2.rect t)).set
  rw [View.set_slice_whole, Rect.mem_set_unit]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1024 ≤ (i 1).val ∧ (i 1).val < win0_2.index t (1 : Fin 2) * 1024 + 1024; omega

theorem final : (dats m 0 c).arrAt 2 cfg0.N = product m c :=
  (dats m 0 c).arrAt_eq_of_cover 2 _ (fun t hf => flushed_eq m c t hf) (covered)

/-- A finite scale that is not negative goes into a sum of products. -/
theorem sum_scale (s : ℝ) (hs : 0 ≤ s) (f g : Fin 1024 → EReal) :
    (∑ d : Fin 1024, f d * g d) * (s : EReal) = ∑ d : Fin 1024, f d * (g d * (s : EReal)) := by
  have h : ∀ S : Finset (Fin 1024), (∑ d ∈ S, f d * g d) * (s : EReal) = ∑ d ∈ S, f d * (g d * (s : EReal)) := fun S => by
    induction S using Finset.induction_on with
    | empty => simp
    | insert d S hd ih =>
      rw [Finset.sum_insert hd, Finset.sum_insert hd, ← ih, ← mul_assoc]
      exact EReal.right_distrib_of_nonneg_of_ne_top (EReal.coe_nonneg.mpr hs) (EReal.coe_ne_top s) _ _
  exact h Finset.univ

theorem product_eq (r : Fin 32768) (e : Fin 4096) : (Cert.ReferenceProjectQGIdeal.Read.val_main_v14 (F := Ideal) (m ((c : Thread nD τ).loc main_arg0))
    (m ((c : Thread nD τ).loc main_arg1)) (ix2 r e) : EReal) = product m c (ix2 r e) := by
  rw [Cert.ReferenceProjectQGIdeal.Read.v14_val]
  show _ = ∑ d : Fin 1024, inX m c r d * inW m c e d
  have hs : (0 : ℝ) ≤ 0.125 / Real.log 2 := div_nonneg (by norm_num) (Real.log_nonneg (by norm_num))
  unfold inW inX wAt
  by_cases h : (e : ℕ) < 1024
  · simp only [dif_pos h]
    unfold Cert.ReferenceProjectQGIdeal.Read.scale
    rw [Cert.KernelIdeal.Step.scale_eq]
    exact sum_scale _ hs _ _
  · simp only [dif_neg h]

/-- The call's array is the reference's, over the same arguments. -/
theorem meet (x0 : (⟨S16x2048x1024, .f32⟩ : BufTy).Contents (Elt Ideal)) (x1 : (⟨S2x1024x12336, .f32⟩ : BufTy).Contents (Elt Ideal))
    (h0 : x0 = m ((c : Thread nD τ).loc main_arg0)) (h1 : x1 = m ((c : Thread nD τ).loc main_arg1)) :
    Cert.ReferenceProjectQGIdeal.Read.val_main_v14 (F := Ideal) x0 x1 = (dats m 0 c).arrAt 2 cfg0.N := by
  rw [final, h0, h1]
  funext i
  have hi : i = ix2 (n0 := 32768) (n1 := 4096) (i 0) (i 1) := by funext a; fin_cases a <;> rfl
  exact (congrArg _ hi).trans ((product_eq m c (i 0) (i 1)).trans (congrArg (product m c) hi.symm))

end Cert.ProjectQGIdeal.Tile

end
-- ==== Proof.ProjectDTF.lean ====
/- The steps of the scan and the forget gates before their biases, padded to 128 columns: each block the call writes is its part of one matrix product. -/
module

public import proofs.«01_k».proof.Proof.Gen.ProjectDTFIdeal.Value
public import proofs.«01_k».proof.Proof.Gen.ReferenceProjectDTFIdeal.Read
public import Idealize.ShloMosaic.Lib.Pointwise
public import Idealize.ShloMosaic.Lib.StableHlo.ReadAt
public import Idealize.ShloMosaic.Lib.Pipeline.ValueKit

@[expose] public section

set_option maxRecDepth 16384
set_option maxHeartbeats 2000000

noncomputable section

namespace Cert.ReferenceProjectDTFIdeal.Read

open Idealize.ShloMosaic Idealize.ShloMosaic.TcCoe Cert.ReferenceProjectDTFIdeal Cert.ReferenceProjectDTFIdeal.Gen

variable (x0 : (⟨S16x2048x1024, .f32⟩ : BufTy).Contents (Elt Ideal)) (x1 : (⟨S2x1024x12336, .f32⟩ : BufTy).Contents (Elt Ideal))

theorem v10_val (r : Fin 32768) (e : Fin 128) : (val_main_v10 (F := Ideal) x0 x1 (ix2 r e) : EReal)
    = if h : (e : ℕ) < 32 then ∑ d : Fin 1024, x0 (ix3 ⟨r / 2048, by omega⟩ ⟨r % 2048, by omega⟩ d) * x1 (ix3 1 d ⟨6144 + e, by omega⟩)
      else if h : (e : ℕ) - 32 < 16 then ∑ d : Fin 1024, x0 (ix3 ⟨r / 2048, by omega⟩ ⟨r % 2048, by omega⟩ d) * x1 (ix3 1 d ⟨9248 + (e - 32), by omega⟩)
      else 0 := by
  unfold val_main_v10 val_main_v9 val_main_v8 val_main_cst val_main_v7 val_main_v6 val_main_v5 val_main_v4 val_main_v3 val_main_v2 val_main_v1 val_main_v0
  pointwise

end Cert.ReferenceProjectDTFIdeal.Read

namespace Cert.ProjectDTFIdeal.Tile

open Idealize.ShloMosaic Idealize.ShloMosaic.TcCoe Cert.ProjectDTFIdeal Cert.ProjectDTFIdeal.Gen

variable (m : (ℓ : Loc nD τ sig) → Buf (Elt Ideal) ℓ) (c : Dev nD)

def inX (r : Fin 32768) (d : Fin 1024) : EReal := m ((c : Thread nD τ).loc main_arg0) (ix3 ⟨r / 2048, by omega⟩ ⟨r % 2048, by omega⟩ d)
def inW (e : Fin 128) (d : Fin 1024) : EReal :=
  if h : (e : ℕ) < 32 then m ((c : Thread nD τ).loc main_arg1) (ix3 1 d ⟨6144 + e, by omega⟩)
  else if h : (e : ℕ) - 32 < 16 then m ((c : Thread nD τ).loc main_arg1) (ix3 1 d ⟨9248 + (e - 32), by omega⟩)
  else 0

theorem V1_apply (r : Fin 32768) (d : Fin 1024) : (V m c main_v1 (ix2 r d) : EReal) = inX m c r d := by
  unfold V
  after_reads_at
  rfl
theorem V9_apply (e : Fin 128) (d : Fin 1024) : (V m c main_v9 (ix2 e d) : EReal) = inW m c e d := by
  unfold V
  after_reads_at
  after_reads_at
  rfl

theorem lt_N (t : Fin cfg0.N) : t.val < 8 := lt_of_lt_of_eq t.isLt N_0
theorem index0 : ∀ t : Fin cfg0.N, win0_0.index t = ![t.val, 0] := by decide
theorem index1 : ∀ t : Fin cfg0.N, win0_1.index t = ![0, 0] := by decide
theorem index2 : ∀ t : Fin cfg0.N, win0_2.index t = ![t.val, 0] := by decide
theorem flush2 : ∀ t : Fin cfg0.N, (cfg0.win 2).flush t = true := by decide

def row (t : Fin cfg0.N) (p : Fin 4096) : Fin 32768 := ⟨4096 * t.val + p, by have := lt_N t; omega⟩

theorem emb0 (t : Fin cfg0.N) (p : Fin 4096) (d : Fin 1024) : ((cfg0.win 0).blk t).view.emb (ix2 p d) = ix2 (row t p) d := by
  funext a; refine Fin.ext ?_
  blk_simp [index0]
  fin_cases a
  · show t.val * 4096 + (p : ℕ) = 4096 * t.val + p; omega
  · show 0 * 1024 + (d : ℕ) = d; omega
theorem emb1 (t : Fin cfg0.N) (q : Fin 128) (d : Fin 1024) : ((cfg0.win 1).blk t).view.emb (ix2 q d) = ix2 q d := by
  funext a; refine Fin.ext ?_
  blk_simp [index1]
  fin_cases a
  · show 0 * 128 + (q : ℕ) = q; omega
  · show 0 * 1024 + (d : ℕ) = d; omega
theorem emb2 (t : Fin cfg0.N) (p : Fin 4096) (q : Fin 128) : ((cfg0.win 2).blk t).view.emb (ix2 p q) = ix2 (row t p) q := by
  funext a; refine Fin.ext ?_
  blk_simp [index2]
  fin_cases a
  · show t.val * 4096 + (p : ℕ) = 4096 * t.val + p; omega
  · show 0 * 128 + (q : ℕ) = q; omega

theorem iblk0_eq (t : Fin cfg0.N) (p : Fin 4096) (d : Fin 1024) : (iblk m c 0 t (ix2 p d) : EReal) = inX m c (row t p) d := by
  unfold iblk
  exact (congrArg (V m c main_v1) (emb0 t p d)).trans (V1_apply m c _ _)
theorem iblk1_eq (t : Fin cfg0.N) (q : Fin 128) (d : Fin 1024) : (iblk m c 1 t (ix2 q d) : EReal) = inW m c q d := by
  unfold iblk
  exact (congrArg (V m c main_v9) (emb1 t q d)).trans (V9_apply m c _ _)

/-- The block of a grid point is the product of the rows it is given. -/
theorem out_eq (X : Vec Ideal S4096x1024 .bf16) (W : Vec Ideal S128x1024 .bf16) (p : Fin 4096) (q : Fin 128) :
    (out0_2 (F := Ideal) X W (ix2 p q) : EReal) = ∑ d : Fin 1024, X (ix2 p d) * W (ix2 q d) := by
  unfold out0_2
  refine (congrFun (View.canon_cons_unit_zero (by funext a; fin_cases a <;> rfl) _ _ _) _).trans ?_
  unfold k0_pay1
  pointwise

/-- The product of the rows of the layer's input and the columns of its weights. -/
def product : S32768x128.Idx → EReal := fun i => ∑ d : Fin 1024, inX m c (i 0) d * inW m c (i 1) d

theorem flushed_eq (t : Fin cfg0.N) (hf : (cfg0.win 2).flush t = true) :
    (dats m 0 c).flushed 2 t = ((cfg0.win 2).blk t).view.read (Elt Ideal) (product m c) := by
  rw [Value.flushed2]
  funext y
  have key : ∀ (p : Fin 4096) (q : Fin 128), (out0_2 (F := Ideal) (iblk m c 0 t) (iblk m c 1 t) (ix2 p q) : EReal)
      = product m c (((cfg0.win 2).blk t).view.emb (ix2 p q)) := fun p q => by
    rw [out_eq, emb2]
    exact Finset.sum_congr rfl fun d _ => congrArg₂ (· * ·) (iblk0_eq m c t p d) (iblk1_eq m c t q d)
  have hy : (cfg0.win 2).xinj (grid0.coords t) y = ix2 (n0 := 4096) (n1 := 128) (y 0) (y 1) := by
    funext a; fin_cases a <;> rfl
  have hy' : y = ix2 (n0 := 4096) (n1 := 128) (y 0) (y 1) := by funext a; fin_cases a <;> rfl
  show out0_2 (F := Ideal) (iblk m c 0 t) (iblk m c 1 t) ((cfg0.win 2).xinj (grid0.coords t) y) = product m c (((cfg0.win 2).blk t).view.emb y)
  exact (congrArg (out0_2 (F := Ideal) (iblk m c 0 t) (iblk m c 1 t)) hy).trans
    ((key (y 0) (y 1)).trans (congrArg (fun z => product m c (((cfg0.win 2).blk t).view.emb z)) hy'.symm))

theorem covered (i : S32768x128.Idx) : ∃ t : Fin cfg0.N, (cfg0.win 2).flush t = true ∧ i ∈ ((cfg0.win 2).blk t).view.set := by
  have h0 : (i 0).val < 32768 := (i 0).isLt
  have h1 : (i 1).val < 128 := (i 1).isLt
  let t : Fin cfg0.N := ⟨(i 0).val / 4096, lt_of_lt_of_eq (by omega) N_0.symm⟩
  have e0 : win0_2.index t (0 : Fin 2) = t.val := congrFun (index2 t) 0
  have e1 : win0_2.index t (1 : Fin 2) = 0 := congrFun (index2 t) 1
  have ht : t.val = (i 0).val / 4096 := rfl
  refine ⟨t, flush2 t, ?_⟩
  show i ∈ ((View.whole main_v10).slice (win0_2.rect t)).set
  rw [View.set_slice_whole, Rect.mem_set_unit]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

theorem final : (dats m 0 c).arrAt 2 cfg0.N = product m c :=
  (dats m 0 c).arrAt_eq_of_cover 2 _ (fun t hf => flushed_eq m c t hf) (covered)

theorem product_eq (r : Fin 32768) (e : Fin 128) : (Cert.ReferenceProjectDTFIdeal.Read.val_main_v10 (F := Ideal) (m ((c : Thread nD τ).loc main_arg0))
    (m ((c : Thread nD τ).loc main_arg1)) (ix2 r e) : EReal) = product m c (ix2 r e) := by
  rw [Cert.ReferenceProjectDTFIdeal.Read.v10_val]
  show _ = ∑ d : Fin 1024, inX m c r d * inW m c e d
  unfold inW inX
  by_cases h : (e : ℕ) < 32
  · simp only [dif_pos h]
  · by_cases h' : (e : ℕ) - 32 < 16
    · simp only [dif_neg h, dif_pos h']
    · simp only [dif_neg h, dif_neg h', mul_zero, Finset.sum_const_zero]

/-- The call's array is the reference's, over the same arguments. -/
theorem meet (x0 : (⟨S16x2048x1024, .f32⟩ : BufTy).Contents (Elt Ideal)) (x1 : (⟨S2x1024x12336, .f32⟩ : BufTy).Contents (Elt Ideal))
    (h0 : x0 = m ((c : Thread nD τ).loc main_arg0)) (h1 : x1 = m ((c : Thread nD τ).loc main_arg1)) :
    Cert.ReferenceProjectDTFIdeal.Read.val_main_v10 (F := Ideal) x0 x1 = (dats m 0 c).arrAt 2 cfg0.N := by
  rw [final, h0, h1]
  funext i
  have hi : i = ix2 (n0 := 32768) (n1 := 128) (i 0) (i 1) := by funext a; fin_cases a <;> rfl
  exact (congrArg _ hi).trans ((product_eq m c (i 0) (i 1)).trans (congrArg (product m c) hi.symm))

end Cert.ProjectDTFIdeal.Tile

end
-- ==== Proof.Keys.lean ====
/- The keys of both layers, frames last: the first call writes the first layer's and zeros for the second's, the second call
   writes its layer into the array of the first. -/
module

public import proofs.«01_k».proof.Proof.Gen.KeysFirstIdeal.Value
public import proofs.«01_k».proof.Proof.Gen.ReferenceKeysFirstIdeal.Read
public import proofs.«01_k».proof.Proof.Gen.KeysSecondIdeal.Value
public import proofs.«01_k».proof.Proof.Gen.ReferenceKeysSecondIdeal.Read
public import Idealize.ShloMosaic.Lib.Pointwise
public import Idealize.ShloMosaic.Lib.StableHlo.ReadAt
public import Idealize.ShloMosaic.Lib.Pipeline.ValueKit
public import Idealize.ShloMosaic.Lib.WholeRead

@[expose] public section

set_option maxRecDepth 16384
set_option maxHeartbeats 2000000

noncomputable section

namespace Cert.ReferenceKeysFirstIdeal.Read

open Idealize.ShloMosaic Idealize.ShloMosaic.TcCoe Cert.ReferenceKeysFirstIdeal Cert.ReferenceKeysFirstIdeal.Gen

variable (x0 : (⟨S16x2048x1024, .f32⟩ : BufTy).Contents (Elt Ideal)) (x1 : (⟨S2x1024x12336, .f32⟩ : BufTy).Contents (Elt Ideal))

theorem v8_val (l : Fin 2) (b : Fin 16) (e : Fin 1024) (s : Fin 2048) : (val_main_v8 (F := Ideal) x0 x1 (ix4 l b e s) : EReal)
    = if h : (l : ℕ) < 1 then ∑ d : Fin 1024, x0 (ix3 b s d) * x1 (ix3 0 d ⟨7200 + e, by omega⟩) else 0 := by
  unfold val_main_v8 val_main_v7 val_main_v6 val_main_v5 val_main_v4 val_main_v3 val_main_v2 val_main_v1 val_main_v0 val_main_cst
  pointwise

end Cert.ReferenceKeysFirstIdeal.Read

namespace Cert.ReferenceKeysSecondIdeal.Read

open Idealize.ShloMosaic Idealize.ShloMosaic.TcCoe Cert.ReferenceKeysSecondIdeal Cert.ReferenceKeysSecondIdeal.Gen

variable (x0 : (⟨S16x2048x1024, .f32⟩ : BufTy).Contents (Elt Ideal)) (x1 : (⟨S2x1024x12336, .f32⟩ : BufTy).Contents (Elt Ideal))
  (x2 : (⟨S2x16x1024x2048, .f32⟩ : BufTy).Contents (Elt Ideal))

theorem v9_val (l : Fin 2) (b : Fin 16) (e : Fin 1024) (s : Fin 2048) : (val_main_v9 (F := Ideal) x0 x1 x2 (ix4 l b e s) : EReal)
    = if h : (l : ℕ) < 1 then x2 (ix4 0 b e s) else ∑ d : Fin 1024, x0 (ix3 b s d) * x1 (ix3 1 d ⟨7200 + e, by omega⟩) := by
  unfold val_main_v9 val_main_v8 val_main_v7 val_main_v6 val_main_v5 val_main_v4 val_main_v3 val_main_v2 val_main_v1 val_main_v0
  pointwise

end Cert.ReferenceKeysSecondIdeal.Read

namespace Cert.KeysFirstIdeal.Tile

open Idealize.ShloMosaic Idealize.ShloMosaic.TcCoe Cert.KeysFirstIdeal Cert.KeysFirstIdeal.Gen

variable (m : (ℓ : Loc nD τ sig) → Buf (Elt Ideal) ℓ) (c : Dev nD)

def inX (b : Fin 16) (s : Fin 2048) (d : Fin 1024) : EReal := m ((c : Thread nD τ).loc main_arg0) (ix3 b s d)
def inW (e d : Fin 1024) : EReal := m ((c : Thread nD τ).loc main_arg1) (ix3 0 d ⟨7200 + e, by omega⟩)

theorem V1_apply (r : Fin 32768) (d : Fin 1024) :
    (V m c main_v1 (ix2 r d) : EReal) = inX m c ⟨r / 2048, by omega⟩ ⟨r % 2048, by omega⟩ d := by
  unfold V
  after_reads_at
  rfl
theorem V6_apply (e d : Fin 1024) : (V m c main_v6 (ix2 e d) : EReal) = inW m c e d := by
  unfold V
  after_reads_at
  rfl

theorem lt_N (t : Fin cfg0.N) : t.val < 32 := lt_of_lt_of_eq t.isLt N_0
theorem index0 : ∀ t : Fin cfg0.N, win0_0.index t = ![0, 0] := by decide
theorem index1 : ∀ t : Fin cfg0.N, win0_1.index t = ![if t.val < 16 then t.val else 0, 0] := by decide
theorem index2 : ∀ t : Fin cfg0.N, win0_2.index t = ![t.val / 16, t.val % 16, 0, 0] := by decide

/-- The stream of a grid point. -/
def sq (t : Fin cfg0.N) : Fin 16 := ⟨t.val % 16, by have := lt_N t; omega⟩
def lay (t : Fin cfg0.N) : Fin 2 := ⟨t.val / 16, by have := lt_N t; omega⟩

theorem emb0 (t : Fin cfg0.N) (p d : Fin 1024) : ((cfg0.win 0).blk t).view.emb (ix2 p d) = ix2 p d := by
  funext a; refine Fin.ext ?_
  blk_simp [index0]
  fin_cases a
  · show 0 * 1024 + (p : ℕ) = p; omega
  · show 0 * 1024 + (d : ℕ) = d; omega
theorem emb2 (t : Fin cfg0.N) (p : Fin 1024) (q : Fin 2048) : ((cfg0.win 2).blk t).view.emb (ix4 0 0 p q) = ix4 (lay t) (sq t) p q := by
  funext a; refine Fin.ext ?_
  blk_simp [index2]
  fin_cases a
  · show t.val / 16 * 1 + 0 = t.val / 16; omega
  · show t.val % 16 * 1 + 0 = t.val % 16; omega
  · show 0 * 1024 + (p : ℕ) = p; omega
  · show 0 * 2048 + (q : ℕ) = q; omega

theorem iblk0_eq (t : Fin cfg0.N) (p d : Fin 1024) : (iblk m c 0 t (ix2 p d) : EReal) = inW m c p d := by
  unfold iblk
  exact (congrArg (V m c main_v6) (emb0 t p d)).trans (V6_apply m c p d)

/-- The block of a grid point of this layer is the product of the rows it is given. -/
theorem out_eq (t : Fin cfg0.N) (h0 : cond0_0 (grid0.coords t)) (h1 : ¬cond0_1 (grid0.coords t)) (W : Vec Ideal S1024x1024 .bf16)
    (X : Vec Ideal S2048x1024 .bf16) (p : Fin 1024) (q : Fin 2048) :
    (out0_A_2 (F := Ideal) c (grid0.coords t) (ms0_0 t) (hs0_0 t) (ms0_1 t) (hs0_1 t) (ms0_2 t) (hs0_2 t) h0 h1 W X (ix4 0 0 p q) : EReal)
      = ∑ d : Fin 1024, X (ix2 q d) * W (ix2 p d) := by
  unfold out0_A_2
  rw [View.read_writes_junk_eq_canon]
  unfold kernelRun0_A
  dsimp only
  refine (congrFun (View.canon_cons_unit_zero (by funext a; fin_cases a <;> rfl) _ _ _) _).trans ?_
  unfold k0_pay1
  pointwise
  refine Finset.sum_congr rfl fun d _ => ?_
  rw [Memref.IsWhole.readAt_unread (hs0_0 t), Memref.IsWhole.readAt_unread (hs0_1 t), mul_comm]
  exact congrArg₂ (fun a b => X a * W b)
    (by funext a; refine Fin.ext ?_; fin_cases a <;> exact (Nat.zero_add _).trans (Nat.one_mul _))
    (by funext a; refine Fin.ext ?_; fin_cases a <;> exact (Nat.zero_add _).trans (Nat.one_mul _))

theorem zero_eq (t : Fin cfg0.N) (h0 : ¬cond0_0 (grid0.coords t)) (h1 : cond0_1 (grid0.coords t)) (W : Vec Ideal S1024x1024 .bf16)
    (X : Vec Ideal S2048x1024 .bf16) (p : Fin 1024) (q : Fin 2048) :
    (out0_B_2 (F := Ideal) c (grid0.coords t) (ms0_0 t) (hs0_0 t) (ms0_1 t) (hs0_1 t) (ms0_2 t) (hs0_2 t) h0 h1 W X (ix4 0 0 p q) : EReal) = (0 : EReal) := by
  unfold out0_B_2
  rw [View.read_writes_junk_eq_canon]
  unfold kernelRun0_B
  dsimp only
  refine (congrFun (View.canon_cons_unit_zero (by funext a; fin_cases a <;> rfl) _ _ _) _).trans ?_
  unfold k0_pay2
  pointwise

theorem emb1 (t : Fin cfg0.N) (h : t.val < 16) (q : Fin 2048) (d : Fin 1024) :
    ((cfg0.win 1).blk t).view.emb (ix2 q d) = ix2 ⟨2048 * t.val + q, by omega⟩ d := by
  funext a; refine Fin.ext ?_
  blk_simp [index1]
  fin_cases a
  · show (if t.val < 16 then t.val else 0) * 2048 + (q : ℕ) = 2048 * t.val + q; rw [if_pos h]; omega
  · show 0 * 1024 + (d : ℕ) = d; omega
theorem iblk1_eq (t : Fin cfg0.N) (h : t.val < 16) (q : Fin 2048) (d : Fin 1024) : (iblk m c 1 t (ix2 q d) : EReal) = inX m c (sq t) q d := by
  unfold iblk
  refine (congrArg (V m c main_v1) (emb1 t h q d)).trans ((V1_apply m c _ _).trans ?_)
  refine congrArg₂ (fun a b => inX m c a b d) (Fin.ext ?_) (Fin.ext ?_)
  · show (2048 * t.val + q) / 2048 = t.val % 16; omega
  · show (2048 * t.val + (q : ℕ)) % 2048 = q; omega

/-- The keys of the first layer, then zeros. -/
def keys : S2x16x1024x2048.Idx → EReal := fun i => if (i 0).val < 1 then ∑ d : Fin 1024, inX m c (i 1) (i 3) d * inW m c (i 2) d else 0

theorem flushed_eq (t : Fin cfg0.N) (hf : (cfg0.win 2).flush t = true) :
    (dats m 0 c).flushed 2 t = ((cfg0.win 2).blk t).view.read (Elt Ideal) (keys m c) := by
  have key : ∀ (p : Fin 1024) (q : Fin 2048), (outsAt0 m c t.val t.isLt (ix4 0 0 p q) : EReal)
      = keys m c (((cfg0.win 2).blk t).view.emb (ix4 0 0 p q)) := fun p q => by
    rw [emb2]
    by_cases h : t.val < 16
    · rw [outsAt0_A m c t h (by omega), out_eq]
      refine Eq.trans ?_ (if_pos (show t.val / 16 < 1 by omega)).symm
      exact Finset.sum_congr rfl fun d _ => congrArg₂ (· * ·) (iblk1_eq m c t h q d) (iblk0_eq m c t p d)
    · rw [outsAt0_B m c t h (by omega), zero_eq]
      exact (if_neg (show ¬t.val / 16 < 1 by omega)).symm
  rw [Value.flushed2]
  funext y
  have h0 : (y 0).val < 1 := (y 0).isLt
  have h1 : (y 1).val < 1 := (y 1).isLt
  have hy : (cfg0.win 2).xinj (grid0.coords t) y = ix4 (n0 := 1) (n1 := 1) (n2 := 1024) (n3 := 2048) 0 0 (y 2) (y 3) := by
    funext a; refine Fin.ext ?_
    fin_cases a
    · show (y 0).val = 0; omega
    · show (y 1).val = 0; omega
    · rfl
    · rfl
  have hy' : y = ix4 (n0 := 1) (n1 := 1) (n2 := 1024) (n3 := 2048) 0 0 (y 2) (y 3) := by
    funext a; refine Fin.ext ?_
    fin_cases a
    · show (y 0).val = 0; omega
    · show (y 1).val = 0; omega
    · rfl
    · rfl
  exact (congrArg (outsAt0 m c t.val t.isLt) hy).trans
    ((key (y 2) (y 3)).trans (congrArg (fun z => keys m c (((cfg0.win 2).blk t).view.emb z)) hy'.symm))

theorem covered (i : S2x16x1024x2048.Idx) : ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 1024 := (i 2).isLt
  have h3 : (i 3).val < 2048 := (i 3).isLt
  let t : Fin cfg0.N := ⟨16 * (i 0).val + (i 1).val, lt_of_lt_of_eq (by omega) N_0.symm⟩
  have e0 : win0_2.index t (0 : Fin 4) = t.val / 16 := congrFun (index2 t) 0
  have e1 : win0_2.index t (1 : Fin 4) = t.val % 16 := congrFun (index2 t) 1
  have e2 : win0_2.index t (2 : Fin 4) = 0 := congrFun (index2 t) 2
  have e3 : win0_2.index t (3 : Fin 4) = 0 := congrFun (index2 t) 3
  have ht : t.val = 16 * (i 0).val + (i 1).val := rfl
  refine ⟨t, flush0_2 t, ?_⟩
  show i ∈ ((View.whole main_v7).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 2048 ≤ (i 3).val ∧ (i 3).val < win0_2.index t (3 : Fin 4) * 2048 + 2048; omega

theorem final : (dats m 0 c).arrAt 2 cfg0.N = keys m c :=
  (dats m 0 c).arrAt_eq_of_cover 2 _ (fun t hf => flushed_eq m c t hf) covered

/-- The call's array is the reference's, over the same arguments. -/
theorem meet (x0 : (⟨S16x2048x1024, .f32⟩ : BufTy).Contents (Elt Ideal)) (x1 : (⟨S2x1024x12336, .f32⟩ : BufTy).Contents (Elt Ideal))
    (h0 : x0 = m ((c : Thread nD τ).loc main_arg0)) (h1 : x1 = m ((c : Thread nD τ).loc main_arg1)) :
    Cert.ReferenceKeysFirstIdeal.Read.val_main_v8 (F := Ideal) x0 x1 = (dats m 0 c).arrAt 2 cfg0.N := by
  rw [final, h0, h1]
  funext i
  have hi : i = ix4 (n0 := 2) (n1 := 16) (n2 := 1024) (n3 := 2048) (i 0) (i 1) (i 2) (i 3) := by funext a; fin_cases a <;> rfl
  refine (congrArg _ hi).trans ((Cert.ReferenceKeysFirstIdeal.Read.v8_val _ _ (i 0) (i 1) (i 2) (i 3)).trans ?_)
  rfl

end Cert.KeysFirstIdeal.Tile

namespace Cert.KeysSecondIdeal.Tile

open Idealize.ShloMosaic Idealize.ShloMosaic.TcCoe Cert.KeysSecondIdeal Cert.KeysSecondIdeal.Gen

variable (m : (ℓ : Loc nD τ sig) → Buf (Elt Ideal) ℓ) (c : Dev nD)

def inX (b : Fin 16) (s : Fin 2048) (d : Fin 1024) : EReal := m ((c : Thread nD τ).loc main_arg0) (ix3 b s d)
def inW (e d : Fin 1024) : EReal := m ((c : Thread nD τ).loc main_arg1) (ix3 1 d ⟨7200 + e, by omega⟩)

theorem V1_apply (r : Fin 32768) (d : Fin 1024) :
    (V m c main_v1 (ix2 r d) : EReal) = inX m c ⟨r / 2048, by omega⟩ ⟨r % 2048, by omega⟩ d := by
  unfold V
  after_reads_at
  rfl
theorem V6_apply (e d : Fin 1024) : (V m c main_v6 (ix2 e d) : EReal) = inW m c e d := by
  unfold V
  after_reads_at
  rfl

theorem lt_N (t : Fin cfg0.N) : t.val < 16 := lt_of_lt_of_eq t.isLt N_0
theorem index0 : ∀ t : Fin cfg0.N, win0_0.index t = ![0, 0] := by decide
theorem index1 : ∀ t : Fin cfg0.N, win0_1.index t = ![t.val, 0] := by decide
theorem index2 : ∀ t : Fin cfg0.N, win0_2.index t = ![1, t.val, 0, 0] := by decide

/-- The stream of a grid point. -/
def sq (t : Fin cfg0.N) : Fin 16 := ⟨t.val, by have := lt_N t; omega⟩

theorem emb0 (t : Fin cfg0.N) (p d : Fin 1024) : ((cfg0.win 0).blk t).view.emb (ix2 p d) = ix2 p d := by
  funext a; refine Fin.ext ?_
  blk_simp [index0]
  fin_cases a
  · show 0 * 1024 + (p : ℕ) = p; omega
  · show 0 * 1024 + (d : ℕ) = d; omega
theorem emb2 (t : Fin cfg0.N) (p : Fin 1024) (q : Fin 2048) : ((cfg0.win 2).blk t).view.emb (ix4 0 0 p q) = ix4 1 (sq t) p q := by
  funext a; refine Fin.ext ?_
  blk_simp [index2]
  fin_cases a
  · show 1 * 1 + 0 = 1; omega
  · show t.val * 1 + 0 = t.val; omega
  · show 0 * 1024 + (p : ℕ) = p; omega
  · show 0 * 2048 + (q : ℕ) = q; omega

theorem iblk0_eq (t : Fin cfg0.N) (p d : Fin 1024) : (iblk m c 0 t (ix2 p d) : EReal) = inW m c p d := by
  unfold iblk
  exact (congrArg (V m c main_v6) (emb0 t p d)).trans (V6_apply m c p d)

/-- The block of a grid point of this layer is the product of the rows it is given. -/
theorem out_eq (t : Fin cfg0.N) (h0 : cond0_0 (grid0.coords t)) (h1 : ¬cond0_1 (grid0.coords t)) (W : Vec Ideal S1024x1024 .bf16)
    (X : Vec Ideal S2048x1024 .bf16) (p : Fin 1024) (q : Fin 2048) :
    (out0_A_2 (F := Ideal) c (grid0.coords t) (ms0_0 t) (hs0_0 t) (ms0_1 t) (hs0_1 t) (ms0_2 t) (hs0_2 t) h0 h1 W X (ix4 0 0 p q) : EReal)
      = ∑ d : Fin 1024, X (ix2 q d) * W (ix2 p d) := by
  unfold out0_A_2
  rw [View.read_writes_junk_eq_canon]
  unfold kernelRun0_A
  dsimp only
  refine (congrFun (View.canon_cons_unit_zero (by funext a; fin_cases a <;> rfl) _ _ _) _).trans ?_
  unfold k0_pay1
  pointwise
  refine Finset.sum_congr rfl fun d _ => ?_
  rw [Memref.IsWhole.readAt_unread (hs0_0 t), Memref.IsWhole.readAt_unread (hs0_1 t), mul_comm]
  exact congrArg₂ (fun a b => X a * W b)
    (by funext a; refine Fin.ext ?_; fin_cases a <;> exact (Nat.zero_add _).trans (Nat.one_mul _))
    (by funext a; refine Fin.ext ?_; fin_cases a <;> exact (Nat.zero_add _).trans (Nat.one_mul _))

theorem emb1 (t : Fin cfg0.N) (q : Fin 2048) (d : Fin 1024) :
    ((cfg0.win 1).blk t).view.emb (ix2 q d) = ix2 ⟨2048 * t.val + q, by have := lt_N t; omega⟩ d := by
  funext a; refine Fin.ext ?_
  blk_simp [index1]
  fin_cases a
  · show t.val * 2048 + (q : ℕ) = 2048 * t.val + q; omega
  · show 0 * 1024 + (d : ℕ) = d; omega
theorem iblk1_eq (t : Fin cfg0.N) (q : Fin 2048) (d : Fin 1024) : (iblk m c 1 t (ix2 q d) : EReal) = inX m c (sq t) q d := by
  unfold iblk
  refine (congrArg (V m c main_v1) (emb1 t q d)).trans ((V1_apply m c _ _).trans ?_)
  refine congrArg₂ (fun a b => inX m c a b d) (Fin.ext ?_) (Fin.ext ?_)
  · show (2048 * t.val + q) / 2048 = t.val; omega
  · show (2048 * t.val + (q : ℕ)) % 2048 = q; omega

/-- The array the call is given, which it leaves at the first layer. -/
theorem V7_eq : V m c main_v7 = m ((c : Thread nD τ).loc main_arg2) := by
  funext i
  unfold V
  after_reads_at
  rfl

/-- The second layer of the array after the call: the blocks of the streams, each written once. -/
theorem second (b : Fin 16) (p : Fin 1024) (q : Fin 2048) :
    ((dats m 0 c).arrAt 2 cfg0.N (ix4 1 b p q) : EReal) = ∑ d : Fin 1024, inX m c b q d * inW m c p d := by
  let t : Fin cfg0.N := ⟨b.val, lt_of_lt_of_eq b.isLt N_0.symm⟩
  have h := congrFun (Value.blocks2 m c t (flush0_2 t)) (ix4 (n0 := 1) (n1 := 1) (n2 := 1024) (n3 := 2048) 0 0 p q)
  rw [Value.flushed2_A] at h
  have he : ((cfg0.win 2).blk t).view.emb (ix4 0 0 p q) = ix4 1 b p q := emb2 t p q
  refine (congrArg ((dats m 0 c).arrAt 2 cfg0.N) he).symm.trans (h.trans ?_)
  refine (out_eq c t _ _ _ _ p q).trans ?_
  exact Finset.sum_congr rfl fun d _ => congrArg₂ (· * ·) (iblk1_eq m c t q d) (iblk0_eq m c t p d)

/-- The first layer of the array after the call: as given. -/
theorem first (b : Fin 16) (p : Fin 1024) (q : Fin 2048) :
    (dats m 0 c).arrAt 2 cfg0.N (ix4 0 b p q) = m ((c : Thread nD τ).loc main_arg2) (ix4 0 b p q) := by
  refine (Value.entry2 m c _ fun t _ hi => ?_).trans (congrFun (V7_eq m c) _)
  change _ ∈ ((View.whole main_v7).slice (win0_2.rect t)).set at hi
  rw [View.set_slice_whole, Rect.mem_set_unit] at hi
  have h : win0_2.index t (0 : Fin 4) * 1 ≤ 0 := (hi (0 : Fin 4)).1
  have e0 : win0_2.index t (0 : Fin 4) = 1 := congrFun (index2 t) 0
  omega

theorem keys_eq (l : Fin 2) (b : Fin 16) (p : Fin 1024) (q : Fin 2048) : Cert.ReferenceKeysSecondIdeal.Read.val_main_v9 (F := Ideal)
    (m ((c : Thread nD τ).loc main_arg0)) (m ((c : Thread nD τ).loc main_arg1)) (m ((c : Thread nD τ).loc main_arg2)) (ix4 l b p q)
    = (dats m 0 c).arrAt 2 cfg0.N (ix4 l b p q) := by
  refine (Cert.ReferenceKeysSecondIdeal.Read.v9_val _ _ _ l b p q).trans ?_
  match l with
  | ⟨0, _⟩ => exact (dif_pos Nat.zero_lt_one).trans (first m c b p q).symm
  | ⟨1, _⟩ => exact (dif_neg (Nat.lt_irrefl 1)).trans (second m c b p q).symm

/-- The call's array is the reference's, over the same arguments. -/
theorem meet (x0 : (⟨S16x2048x1024, .f32⟩ : BufTy).Contents (Elt Ideal)) (x1 : (⟨S2x1024x12336, .f32⟩ : BufTy).Contents (Elt Ideal))
    (x2 : (⟨S2x16x1024x2048, .f32⟩ : BufTy).Contents (Elt Ideal)) (h0 : x0 = m ((c : Thread nD τ).loc main_arg0))
    (h1 : x1 = m ((c : Thread nD τ).loc main_arg1)) (h2 : x2 = m ((c : Thread nD τ).loc main_arg2)) :
    Cert.ReferenceKeysSecondIdeal.Read.val_main_v9 (F := Ideal) x0 x1 x2 = (dats m 0 c).arrAt 2 cfg0.N := by
  rw [h0, h1, h2]
  funext i
  have hi : i = ix4 (n0 := 2) (n1 := 16) (n2 := 1024) (n3 := 2048) (i 0) (i 1) (i 2) (i 3) := by funext a; fin_cases a <;> rfl
  exact (congrArg _ hi).trans ((keys_eq m c (i 0) (i 1) (i 2) (i 3)).trans (congrArg _ hi.symm))

end Cert.KeysSecondIdeal.Tile

end
-- ==== Proof.Values.lean ====
/- The values of both layers, frames last: the first call writes the first layer's and zeros for the second's, the second call
   writes its layer into the array of the first. -/
module

public import proofs.«01_k».proof.Proof.Gen.ValuesFirstIdeal.Value
public import proofs.«01_k».proof.Proof.Gen.ReferenceValuesFirstIdeal.Read
public import proofs.«01_k».proof.Proof.Gen.ValuesSecondIdeal.Value
public import proofs.«01_k».proof.Proof.Gen.ReferenceValuesSecondIdeal.Read
public import Idealize.ShloMosaic.Lib.Pointwise
public import Idealize.ShloMosaic.Lib.StableHlo.ReadAt
public import Idealize.ShloMosaic.Lib.Pipeline.ValueKit
public import Idealize.ShloMosaic.Lib.WholeRead

@[expose] public section

set_option maxRecDepth 16384
set_option maxHeartbeats 2000000

noncomputable section

namespace Cert.ReferenceValuesFirstIdeal.Read

open Idealize.ShloMosaic Idealize.ShloMosaic.TcCoe Cert.ReferenceValuesFirstIdeal Cert.ReferenceValuesFirstIdeal.Gen

variable (x0 : (⟨S16x2048x1024, .f32⟩ : BufTy).Contents (Elt Ideal)) (x1 : (⟨S2x1024x12336, .f32⟩ : BufTy).Contents (Elt Ideal))

theorem v8_val (l : Fin 2) (b : Fin 16) (e : Fin 1024) (s : Fin 2048) : (val_main_v8 (F := Ideal) x0 x1 (ix4 l b e s) : EReal)
    = if h : (l : ℕ) < 1 then ∑ d : Fin 1024, x0 (ix3 b s d) * x1 (ix3 0 d ⟨8224 + e, by omega⟩) else 0 := by
  unfold val_main_v8 val_main_v7 val_main_v6 val_main_v5 val_main_v4 val_main_v3 val_main_v2 val_main_v1 val_main_v0 val_main_cst
  pointwise

end Cert.ReferenceValuesFirstIdeal.Read

namespace Cert.ReferenceValuesSecondIdeal.Read

open Idealize.ShloMosaic Idealize.ShloMosaic.TcCoe Cert.ReferenceValuesSecondIdeal Cert.ReferenceValuesSecondIdeal.Gen

variable (x0 : (⟨S16x2048x1024, .f32⟩ : BufTy).Contents (Elt Ideal)) (x1 : (⟨S2x1024x12336, .f32⟩ : BufTy).Contents (Elt Ideal))
  (x2 : (⟨S2x16x1024x2048, .f32⟩ : BufTy).Contents (Elt Ideal))

theorem v9_val (l : Fin 2) (b : Fin 16) (e : Fin 1024) (s : Fin 2048) : (val_main_v9 (F := Ideal) x0 x1 x2 (ix4 l b e s) : EReal)
    = if h : (l : ℕ) < 1 then x2 (ix4 0 b e s) else ∑ d : Fin 1024, x0 (ix3 b s d) * x1 (ix3 1 d ⟨8224 + e, by omega⟩) := by
  unfold val_main_v9 val_main_v8 val_main_v7 val_main_v6 val_main_v5 val_main_v4 val_main_v3 val_main_v2 val_main_v1 val_main_v0
  pointwise

end Cert.ReferenceValuesSecondIdeal.Read

namespace Cert.ValuesFirstIdeal.Tile

open Idealize.ShloMosaic Idealize.ShloMosaic.TcCoe Cert.ValuesFirstIdeal Cert.ValuesFirstIdeal.Gen

variable (m : (ℓ : Loc nD τ sig) → Buf (Elt Ideal) ℓ) (c : Dev nD)

def inX (b : Fin 16) (s : Fin 2048) (d : Fin 1024) : EReal := m ((c : Thread nD τ).loc main_arg0) (ix3 b s d)
def inW (e d : Fin 1024) : EReal := m ((c : Thread nD τ).loc main_arg1) (ix3 0 d ⟨8224 + e, by omega⟩)

theorem V1_apply (r : Fin 32768) (d : Fin 1024) :
    (V m c main_v1 (ix2 r d) : EReal) = inX m c ⟨r / 2048, by omega⟩ ⟨r % 2048, by omega⟩ d := by
  unfold V
  after_reads_at
  rfl
theorem V6_apply (e d : Fin 1024) : (V m c main_v6 (ix2 e d) : EReal) = inW m c e d := by
  unfold V
  after_reads_at
  rfl

theorem lt_N (t : Fin cfg0.N) : t.val < 32 := lt_of_lt_of_eq t.isLt N_0
theorem index0 : ∀ t : Fin cfg0.N, win0_0.index t = ![0, 0] := by decide
theorem index1 : ∀ t : Fin cfg0.N, win0_1.index t = ![if t.val < 16 then t.val else 0, 0] := by decide
theorem index2 : ∀ t : Fin cfg0.N, win0_2.index t = ![t.val / 16, t.val % 16, 0, 0] := by decide

/-- The stream of a grid point. -/
def sq (t : Fin cfg0.N) : Fin 16 := ⟨t.val % 16, by have := lt_N t; omega⟩
def lay (t : Fin cfg0.N) : Fin 2 := ⟨t.val / 16, by have := lt_N t; omega⟩

theorem emb0 (t : Fin cfg0.N) (p d : Fin 1024) : ((cfg0.win 0).blk t).view.emb (ix2 p d) = ix2 p d := by
  funext a; refine Fin.ext ?_
  blk_simp [index0]
  fin_cases a
  · show 0 * 1024 + (p : ℕ) = p; omega
  · show 0 * 1024 + (d : ℕ) = d; omega
theorem emb2 (t : Fin cfg0.N) (p : Fin 1024) (q : Fin 2048) : ((cfg0.win 2).blk t).view.emb (ix4 0 0 p q) = ix4 (lay t) (sq t) p q := by
  funext a; refine Fin.ext ?_
  blk_simp [index2]
  fin_cases a
  · show t.val / 16 * 1 + 0 = t.val / 16; omega
  · show t.val % 16 * 1 + 0 = t.val % 16; omega
  · show 0 * 1024 + (p : ℕ) = p; omega
  · show 0 * 2048 + (q : ℕ) = q; omega

theorem iblk0_eq (t : Fin cfg0.N) (p d : Fin 1024) : (iblk m c 0 t (ix2 p d) : EReal) = inW m c p d := by
  unfold iblk
  exact (congrArg (V m c main_v6) (emb0 t p d)).trans (V6_apply m c p d)

/-- The block of a grid point of this layer is the product of the rows it is given. -/
theorem out_eq (t : Fin cfg0.N) (h0 : cond0_0 (grid0.coords t)) (h1 : ¬cond0_1 (grid0.coords t)) (W : Vec Ideal S1024x1024 .bf16)
    (X : Vec Ideal S2048x1024 .bf16) (p : Fin 1024) (q : Fin 2048) :
    (out0_A_2 (F := Ideal) c (grid0.coords t) (ms0_0 t) (hs0_0 t) (ms0_1 t) (hs0_1 t) (ms0_2 t) (hs0_2 t) h0 h1 W X (ix4 0 0 p q) : EReal)
      = ∑ d : Fin 1024, X (ix2 q d) * W (ix2 p d) := by
  unfold out0_A_2
  rw [View.read_writes_junk_eq_canon]
  unfold kernelRun0_A
  dsimp only
  refine (congrFun (View.canon_cons_unit_zero (by funext a; fin_cases a <;> rfl) _ _ _) _).trans ?_
  unfold k0_pay1
  pointwise
  refine Finset.sum_congr rfl fun d _ => ?_
  rw [Memref.IsWhole.readAt_unread (hs0_0 t), Memref.IsWhole.readAt_unread (hs0_1 t), mul_comm]
  exact congrArg₂ (fun a b => X a * W b)
    (by funext a; refine Fin.ext ?_; fin_cases a <;> exact (Nat.zero_add _).trans (Nat.one_mul _))
    (by funext a; refine Fin.ext ?_; fin_cases a <;> exact (Nat.zero_add _).trans (Nat.one_mul _))

theorem zero_eq (t : Fin cfg0.N) (h0 : ¬cond0_0 (grid0.coords t)) (h1 : cond0_1 (grid0.coords t)) (W : Vec Ideal S1024x1024 .bf16)
    (X : Vec Ideal S2048x1024 .bf16) (p : Fin 1024) (q : Fin 2048) :
    (out0_B_2 (F := Ideal) c (grid0.coords t) (ms0_0 t) (hs0_0 t) (ms0_1 t) (hs0_1 t) (ms0_2 t) (hs0_2 t) h0 h1 W X (ix4 0 0 p q) : EReal) = (0 : EReal) := by
  unfold out0_B_2
  rw [View.read_writes_junk_eq_canon]
  unfold kernelRun0_B
  dsimp only
  refine (congrFun (View.canon_cons_unit_zero (by funext a; fin_cases a <;> rfl) _ _ _) _).trans ?_
  unfold k0_pay2
  pointwise

theorem emb1 (t : Fin cfg0.N) (h : t.val < 16) (q : Fin 2048) (d : Fin 1024) :
    ((cfg0.win 1).blk t).view.emb (ix2 q d) = ix2 ⟨2048 * t.val + q, by omega⟩ d := by
  funext a; refine Fin.ext ?_
  blk_simp [index1]
  fin_cases a
  · show (if t.val < 16 then t.val else 0) * 2048 + (q : ℕ) = 2048 * t.val + q; rw [if_pos h]; omega
  · show 0 * 1024 + (d : ℕ) = d; omega
theorem iblk1_eq (t : Fin cfg0.N) (h : t.val < 16) (q : Fin 2048) (d : Fin 1024) : (iblk m c 1 t (ix2 q d) : EReal) = inX m c (sq t) q d := by
  unfold iblk
  refine (congrArg (V m c main_v1) (emb1 t h q d)).trans ((V1_apply m c _ _).trans ?_)
  refine congrArg₂ (fun a b => inX m c a b d) (Fin.ext ?_) (Fin.ext ?_)
  · show (2048 * t.val + q) / 2048 = t.val % 16; omega
  · show (2048 * t.val + (q : ℕ)) % 2048 = q; omega

/-- The values of the first layer, then zeros. -/
def values : S2x16x1024x2048.Idx → EReal := fun i => if (i 0).val < 1 then ∑ d : Fin 1024, inX m c (i 1) (i 3) d * inW m c (i 2) d else 0

theorem flushed_eq (t : Fin cfg0.N) (hf : (cfg0.win 2).flush t = true) :
    (dats m 0 c).flushed 2 t = ((cfg0.win 2).blk t).view.read (Elt Ideal) (values m c) := by
  have key : ∀ (p : Fin 1024) (q : Fin 2048), (outsAt0 m c t.val t.isLt (ix4 0 0 p q) : EReal)
      = values m c (((cfg0.win 2).blk t).view.emb (ix4 0 0 p q)) := fun p q => by
    rw [emb2]
    by_cases h : t.val < 16
    · rw [outsAt0_A m c t h (by omega), out_eq]
      refine Eq.trans ?_ (if_pos (show t.val / 16 < 1 by omega)).symm
      exact Finset.sum_congr rfl fun d _ => congrArg₂ (· * ·) (iblk1_eq m c t h q d) (iblk0_eq m c t p d)
    · rw [outsAt0_B m c t h (by omega), zero_eq]
      exact (if_neg (show ¬t.val / 16 < 1 by omega)).symm
  rw [Value.flushed2]
  funext y
  have h0 : (y 0).val < 1 := (y 0).isLt
  have h1 : (y 1).val < 1 := (y 1).isLt
  have hy : (cfg0.win 2).xinj (grid0.coords t) y = ix4 (n0 := 1) (n1 := 1) (n2 := 1024) (n3 := 2048) 0 0 (y 2) (y 3) := by
    funext a; refine Fin.ext ?_
    fin_cases a
    · show (y 0).val = 0; omega
    · show (y 1).val = 0; omega
    · rfl
    · rfl
  have hy' : y = ix4 (n0 := 1) (n1 := 1) (n2 := 1024) (n3 := 2048) 0 0 (y 2) (y 3) := by
    funext a; refine Fin.ext ?_
    fin_cases a
    · show (y 0).val = 0; omega
    · show (y 1).val = 0; omega
    · rfl
    · rfl
  exact (congrArg (outsAt0 m c t.val t.isLt) hy).trans
    ((key (y 2) (y 3)).trans (congrArg (fun z => values m c (((cfg0.win 2).blk t).view.emb z)) hy'.symm))

theorem covered (i : S2x16x1024x2048.Idx) : ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 1024 := (i 2).isLt
  have h3 : (i 3).val < 2048 := (i 3).isLt
  let t : Fin cfg0.N := ⟨16 * (i 0).val + (i 1).val, lt_of_lt_of_eq (by omega) N_0.symm⟩
  have e0 : win0_2.index t (0 : Fin 4) = t.val / 16 := congrFun (index2 t) 0
  have e1 : win0_2.index t (1 : Fin 4) = t.val % 16 := congrFun (index2 t) 1
  have e2 : win0_2.index t (2 : Fin 4) = 0 := congrFun (index2 t) 2
  have e3 : win0_2.index t (3 : Fin 4) = 0 := congrFun (index2 t) 3
  have ht : t.val = 16 * (i 0).val + (i 1).val := rfl
  refine ⟨t, flush0_2 t, ?_⟩
  show i ∈ ((View.whole main_v7).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 2048 ≤ (i 3).val ∧ (i 3).val < win0_2.index t (3 : Fin 4) * 2048 + 2048; omega

theorem final : (dats m 0 c).arrAt 2 cfg0.N = values m c :=
  (dats m 0 c).arrAt_eq_of_cover 2 _ (fun t hf => flushed_eq m c t hf) covered

/-- The call's array is the reference's, over the same arguments. -/
theorem meet (x0 : (⟨S16x2048x1024, .f32⟩ : BufTy).Contents (Elt Ideal)) (x1 : (⟨S2x1024x12336, .f32⟩ : BufTy).Contents (Elt Ideal))
    (h0 : x0 = m ((c : Thread nD τ).loc main_arg0)) (h1 : x1 = m ((c : Thread nD τ).loc main_arg1)) :
    Cert.ReferenceValuesFirstIdeal.Read.val_main_v8 (F := Ideal) x0 x1 = (dats m 0 c).arrAt 2 cfg0.N := by
  rw [final, h0, h1]
  funext i
  have hi : i = ix4 (n0 := 2) (n1 := 16) (n2 := 1024) (n3 := 2048) (i 0) (i 1) (i 2) (i 3) := by funext a; fin_cases a <;> rfl
  refine (congrArg _ hi).trans ((Cert.ReferenceValuesFirstIdeal.Read.v8_val _ _ (i 0) (i 1) (i 2) (i 3)).trans ?_)
  rfl

end Cert.ValuesFirstIdeal.Tile

namespace Cert.ValuesSecondIdeal.Tile

open Idealize.ShloMosaic Idealize.ShloMosaic.TcCoe Cert.ValuesSecondIdeal Cert.ValuesSecondIdeal.Gen

variable (m : (ℓ : Loc nD τ sig) → Buf (Elt Ideal) ℓ) (c : Dev nD)

def inX (b : Fin 16) (s : Fin 2048) (d : Fin 1024) : EReal := m ((c : Thread nD τ).loc main_arg0) (ix3 b s d)
def inW (e d : Fin 1024) : EReal := m ((c : Thread nD τ).loc main_arg1) (ix3 1 d ⟨8224 + e, by omega⟩)

theorem V1_apply (r : Fin 32768) (d : Fin 1024) :
    (V m c main_v1 (ix2 r d) : EReal) = inX m c ⟨r / 2048, by omega⟩ ⟨r % 2048, by omega⟩ d := by
  unfold V
  after_reads_at
  rfl
theorem V6_apply (e d : Fin 1024) : (V m c main_v6 (ix2 e d) : EReal) = inW m c e d := by
  unfold V
  after_reads_at
  rfl

theorem lt_N (t : Fin cfg0.N) : t.val < 16 := lt_of_lt_of_eq t.isLt N_0
theorem index0 : ∀ t : Fin cfg0.N, win0_0.index t = ![0, 0] := by decide
theorem index1 : ∀ t : Fin cfg0.N, win0_1.index t = ![t.val, 0] := by decide
theorem index2 : ∀ t : Fin cfg0.N, win0_2.index t = ![1, t.val, 0, 0] := by decide

/-- The stream of a grid point. -/
def sq (t : Fin cfg0.N) : Fin 16 := ⟨t.val, by have := lt_N t; omega⟩

theorem emb0 (t : Fin cfg0.N) (p d : Fin 1024) : ((cfg0.win 0).blk t).view.emb (ix2 p d) = ix2 p d := by
  funext a; refine Fin.ext ?_
  blk_simp [index0]
  fin_cases a
  · show 0 * 1024 + (p : ℕ) = p; omega
  · show 0 * 1024 + (d : ℕ) = d; omega
theorem emb2 (t : Fin cfg0.N) (p : Fin 1024) (q : Fin 2048) : ((cfg0.win 2).blk t).view.emb (ix4 0 0 p q) = ix4 1 (sq t) p q := by
  funext a; refine Fin.ext ?_
  blk_simp [index2]
  fin_cases a
  · show 1 * 1 + 0 = 1; omega
  · show t.val * 1 + 0 = t.val; omega
  · show 0 * 1024 + (p : ℕ) = p; omega
  · show 0 * 2048 + (q : ℕ) = q; omega

theorem iblk0_eq (t : Fin cfg0.N) (p d : Fin 1024) : (iblk m c 0 t (ix2 p d) : EReal) = inW m c p d := by
  unfold iblk
  exact (congrArg (V m c main_v6) (emb0 t p d)).trans (V6_apply m c p d)

/-- The block of a grid point of this layer is the product of the rows it is given. -/
theorem out_eq (t : Fin cfg0.N) (h0 : cond0_0 (grid0.coords t)) (h1 : ¬cond0_1 (grid0.coords t)) (W : Vec Ideal S1024x1024 .bf16)
    (X : Vec Ideal S2048x1024 .bf16) (p : Fin 1024) (q : Fin 2048) :
    (out0_A_2 (F := Ideal) c (grid0.coords t) (ms0_0 t) (hs0_0 t) (ms0_1 t) (hs0_1 t) (ms0_2 t) (hs0_2 t) h0 h1 W X (ix4 0 0 p q) : EReal)
      = ∑ d : Fin 1024, X (ix2 q d) * W (ix2 p d) := by
  unfold out0_A_2
  rw [View.read_writes_junk_eq_canon]
  unfold kernelRun0_A
  dsimp only
  refine (congrFun (View.canon_cons_unit_zero (by funext a; fin_cases a <;> rfl) _ _ _) _).trans ?_
  unfold k0_pay1
  pointwise
  refine Finset.sum_congr rfl fun d _ => ?_
  rw [Memref.IsWhole.readAt_unread (hs0_0 t), Memref.IsWhole.readAt_unread (hs0_1 t), mul_comm]
  exact congrArg₂ (fun a b => X a * W b)
    (by funext a; refine Fin.ext ?_; fin_cases a <;> exact (Nat.zero_add _).trans (Nat.one_mul _))
    (by funext a; refine Fin.ext ?_; fin_cases a <;> exact (Nat.zero_add _).trans (Nat.one_mul _))

theorem emb1 (t : Fin cfg0.N) (q : Fin 2048) (d : Fin 1024) :
    ((cfg0.win 1).blk t).view.emb (ix2 q d) = ix2 ⟨2048 * t.val + q, by have := lt_N t; omega⟩ d := by
  funext a; refine Fin.ext ?_
  blk_simp [index1]
  fin_cases a
  · show t.val * 2048 + (q : ℕ) = 2048 * t.val + q; omega
  · show 0 * 1024 + (d : ℕ) = d; omega
theorem iblk1_eq (t : Fin cfg0.N) (q : Fin 2048) (d : Fin 1024) : (iblk m c 1 t (ix2 q d) : EReal) = inX m c (sq t) q d := by
  unfold iblk
  refine (congrArg (V m c main_v1) (emb1 t q d)).trans ((V1_apply m c _ _).trans ?_)
  refine congrArg₂ (fun a b => inX m c a b d) (Fin.ext ?_) (Fin.ext ?_)
  · show (2048 * t.val + q) / 2048 = t.val; omega
  · show (2048 * t.val + (q : ℕ)) % 2048 = q; omega

/-- The array the call is given, which it leaves at the first layer. -/
theorem V7_eq : V m c main_v7 = m ((c : Thread nD τ).loc main_arg2) := by
  funext i
  unfold V
  after_reads_at
  rfl

/-- The second layer of the array after the call: the blocks of the streams, each written once. -/
theorem second (b : Fin 16) (p : Fin 1024) (q : Fin 2048) :
    ((dats m 0 c).arrAt 2 cfg0.N (ix4 1 b p q) : EReal) = ∑ d : Fin 1024, inX m c b q d * inW m c p d := by
  let t : Fin cfg0.N := ⟨b.val, lt_of_lt_of_eq b.isLt N_0.symm⟩
  have h := congrFun (Value.blocks2 m c t (flush0_2 t)) (ix4 (n0 := 1) (n1 := 1) (n2 := 1024) (n3 := 2048) 0 0 p q)
  rw [Value.flushed2_A] at h
  have he : ((cfg0.win 2).blk t).view.emb (ix4 0 0 p q) = ix4 1 b p q := emb2 t p q
  refine (congrArg ((dats m 0 c).arrAt 2 cfg0.N) he).symm.trans (h.trans ?_)
  refine (out_eq c t _ _ _ _ p q).trans ?_
  exact Finset.sum_congr rfl fun d _ => congrArg₂ (· * ·) (iblk1_eq m c t q d) (iblk0_eq m c t p d)

/-- The first layer of the array after the call: as given. -/
theorem first (b : Fin 16) (p : Fin 1024) (q : Fin 2048) :
    (dats m 0 c).arrAt 2 cfg0.N (ix4 0 b p q) = m ((c : Thread nD τ).loc main_arg2) (ix4 0 b p q) := by
  refine (Value.entry2 m c _ fun t _ hi => ?_).trans (congrFun (V7_eq m c) _)
  change _ ∈ ((View.whole main_v7).slice (win0_2.rect t)).set at hi
  rw [View.set_slice_whole, Rect.mem_set_unit] at hi
  have h : win0_2.index t (0 : Fin 4) * 1 ≤ 0 := (hi (0 : Fin 4)).1
  have e0 : win0_2.index t (0 : Fin 4) = 1 := congrFun (index2 t) 0
  omega

theorem values_eq (l : Fin 2) (b : Fin 16) (p : Fin 1024) (q : Fin 2048) : Cert.ReferenceValuesSecondIdeal.Read.val_main_v9 (F := Ideal)
    (m ((c : Thread nD τ).loc main_arg0)) (m ((c : Thread nD τ).loc main_arg1)) (m ((c : Thread nD τ).loc main_arg2)) (ix4 l b p q)
    = (dats m 0 c).arrAt 2 cfg0.N (ix4 l b p q) := by
  refine (Cert.ReferenceValuesSecondIdeal.Read.v9_val _ _ _ l b p q).trans ?_
  match l with
  | ⟨0, _⟩ => exact (dif_pos Nat.zero_lt_one).trans (first m c b p q).symm
  | ⟨1, _⟩ => exact (dif_neg (Nat.lt_irrefl 1)).trans (second m c b p q).symm

/-- The call's array is the reference's, over the same arguments. -/
theorem meet (x0 : (⟨S16x2048x1024, .f32⟩ : BufTy).Contents (Elt Ideal)) (x1 : (⟨S2x1024x12336, .f32⟩ : BufTy).Contents (Elt Ideal))
    (x2 : (⟨S2x16x1024x2048, .f32⟩ : BufTy).Contents (Elt Ideal)) (h0 : x0 = m ((c : Thread nD τ).loc main_arg0))
    (h1 : x1 = m ((c : Thread nD τ).loc main_arg1)) (h2 : x2 = m ((c : Thread nD τ).loc main_arg2)) :
    Cert.ReferenceValuesSecondIdeal.Read.val_main_v9 (F := Ideal) x0 x1 x2 = (dats m 0 c).arrAt 2 cfg0.N := by
  rw [h0, h1, h2]
  funext i
  have hi : i = ix4 (n0 := 2) (n1 := 16) (n2 := 1024) (n3 := 2048) (i 0) (i 1) (i 2) (i 3) := by funext a; fin_cases a <;> rfl
  exact (congrArg _ hi).trans ((values_eq m c (i 0) (i 1) (i 2) (i 3)).trans (congrArg _ hi.symm))

end Cert.ValuesSecondIdeal.Tile

end
-- ==== Proof.MergeRow.lean ====
/- One row of the merge: the two branches, their gates, the output projection and the norm, and the reference's rows read as it. -/
module

public import proofs.«01_k».proof.Proof.Gen.ReferenceMergeIdeal.Read
public import Idealize.ShloMosaic.Lib.Pointwise
public import Idealize.ShloMosaic.Lib.StableHlo.ReadAt
public import Idealize.ShloMosaic.Lib.Pipeline.ValueKit

@[expose] public section

set_option maxRecDepth 16384
set_option maxHeartbeats 2000000

noncomputable section

namespace Cert.MergeRow

open Idealize.ShloMosaic

def eps : EReal := Ideal.ofBits .f32 0x3727C5AC#32
def lanes : EReal := Ideal.ofBits .f32 0x43800000#32
def width : EReal := Ideal.ofBits .f32 0x44800000#32
def alpha : EReal := Ideal.ofBits .f32 0x3FB504F3#32

def silu (a : EReal) : EReal := a * Ideal.logistic a

/-- The recurrent branch's values, gated. -/
def gated (y z : Fin 2048 → EReal) (e : Fin 2048) : EReal := y e * silu (z e)

/-- The mean square of the group of lanes a lane lies in. -/
def square (v : Fin 2048 → EReal) (g : Fin 8) : EReal :=
  Ideal.div (∑ l : Fin 256, v ⟨g * 256 + l, by omega⟩ * v ⟨g * 256 + l, by omega⟩) lanes

def normed (y z w : Fin 2048 → EReal) (e : Fin 2048) : EReal :=
  gated y z e * Ideal.rsqrt (square (gated y z) ⟨e / 256, by omega⟩ + eps) * w e

def merged (y z w : Fin 2048 → EReal) (o g gm ga bm ba : Fin 1024 → EReal) (wm : Fin 2048 → Fin 1024 → EReal)
    (wa : Fin 1024 → Fin 1024 → EReal) (d : Fin 1024) : EReal :=
  Ideal.logistic (gm d + bm d) * (∑ e : Fin 2048, normed y z w e * wm e d)
    + Ideal.logistic (ga d + ba d) * (∑ e : Fin 1024, o e * silu (g e) * wa e d)

def residual (x u : Fin 1024 → EReal) (wo : Fin 1024 → Fin 1024 → EReal) (d : Fin 1024) : EReal :=
  alpha * x d + ∑ e : Fin 1024, u e * wo e d

def mean (r : Fin 1024 → EReal) : EReal := Ideal.div (∑ d : Fin 1024, r d) width

def normal (r lg lb : Fin 1024 → EReal) (d : Fin 1024) : EReal :=
  (r d - mean r) * Ideal.rsqrt (mean (fun a => (r a - mean r) * (r a - mean r)) + eps) * lg d + lb d

end Cert.MergeRow

namespace Cert.ReferenceMergeIdeal.Read

open Idealize.ShloMosaic Idealize.ShloMosaic.TcCoe Cert.ReferenceMergeIdeal Cert.ReferenceMergeIdeal.Gen Cert.MergeRow

variable (x0 x2 : (⟨S16x2048x2048, .f32⟩ : BufTy).Contents (Elt Ideal)) (x1 x5 x6 x7 x8 : (⟨S16x2048x1024, .f32⟩ : BufTy).Contents (Elt Ideal))
  (x9 x10 : (⟨S2x2048, .f32⟩ : BufTy).Contents (Elt Ideal)) (x11 : (⟨S2x2048x1024, .f32⟩ : BufTy).Contents (Elt Ideal))
  (x12 x13 : (⟨S2x1024x1024, .f32⟩ : BufTy).Contents (Elt Ideal)) (x14 x15 : (⟨S2x1024, .f32⟩ : BufTy).Contents (Elt Ideal))

theorem v1_val (b : Fin 16) (l : Fin 2048) (e : Fin 2048) : (val_main_v1 (F := Ideal) x0 x2 (ix3 b l e) : EReal)
    = gated (fun e => x0 (ix3 b l e)) (fun e => x2 (ix3 b l e)) e := by
  unfold val_main_v1 val_main_v0 val_main_call0_v5 val_main_call0_v4 val_main_call0_v3 val_main_call0_v2 val_main_call0_v1 val_main_call0_v0 val_main_call0_cst val_main_call0_cst_0
  pointwise
  rfl

theorem v9_val (b : Fin 16) (l : Fin 2048) (g : Fin 8) : (val_main_v9 (F := Ideal) x0 x2 (ix4 b l g 0) : EReal)
    = square (gated (fun e => x0 (ix3 b l e)) (fun e => x2 (ix3 b l e))) g + eps := by
  rw [← (funext fun e => v1_val x0 x2 b l e :
    (fun e => val_main_v1 (F := Ideal) x0 x2 (ix3 b l e)) = gated (fun e => x0 (ix3 b l e)) (fun e => x2 (ix3 b l e)))]
  unfold val_main_v9 val_main_v8 val_main_v7 val_main_v6 val_main_v5 val_main_v4 val_main_v3 val_main_v2 val_main_cst val_main_cst_0 val_main_cst_1 square lanes eps
  generalize val_main_v1 (F := Ideal) x0 x2 = y
  pointwise

theorem v18_val (b : Fin 16) (l : Fin 2048) (e : Fin 2048) : (val_main_v18 (F := Ideal) x0 x2 x9 (ix3 b l e) : EReal)
    = normed (fun e => x0 (ix3 b l e)) (fun e => x2 (ix3 b l e)) (fun e => x9 (ix2 1 e)) e := by
  unfold normed
  rw [← v9_val, ← v1_val]
  unfold val_main_v18 val_main_v17 val_main_v16 val_main_v15 val_main_v14 val_main_v13 val_main_v12 val_main_v11 val_main_v10 val_main_v2
  generalize val_main_v1 (F := Ideal) x0 x2 = y
  generalize val_main_v9 (F := Ideal) x0 x2 = y'
  pointwise

theorem v20_val (b : Fin 16) (l : Fin 2048) (e : Fin 1024) : (val_main_v20 (F := Ideal) x1 x5 (ix3 b l e) : EReal)
    = x1 (ix3 b l e) * silu (x5 (ix3 b l e)) := by
  unfold val_main_v20 val_main_v19 val_main_call1_v5 val_main_call1_v4 val_main_call1_v3 val_main_call1_v2 val_main_call1_v1 val_main_call1_v0 val_main_call1_cst val_main_call1_cst_0
  pointwise
  rfl

theorem v24_val (b : Fin 16) (l : Fin 2048) (e : Fin 1024) : (val_main_v24 (F := Ideal) x10 (ix3 b l e) : EReal)
    = x10 (ix2 1 ⟨e, by omega⟩) := by
  unfold val_main_v24 val_main_v23 val_main_v22 val_main_v21
  pointwise

theorem v31_val (b : Fin 16) (l : Fin 2048) (e : Fin 1024) : (val_main_v31 (F := Ideal) x6 x10 (ix3 b l e) : EReal)
    = Ideal.logistic (x6 (ix3 b l e) + x10 (ix2 1 ⟨e, by omega⟩)) := by
  rw [← v24_val x10 b l e]
  unfold val_main_v31 val_main_v30 val_main_cst_3 val_main_v29 val_main_v28 val_main_cst_2 val_main_v27 val_main_v26 val_main_v25
  generalize val_main_v24 (F := Ideal) x10 = y
  pointwise
  rfl

theorem v35_val (b : Fin 16) (l : Fin 2048) (e : Fin 1024) : (val_main_v35 (F := Ideal) x10 (ix3 b l e) : EReal)
    = x10 (ix2 1 ⟨1024 + e, by omega⟩) := by
  unfold val_main_v35 val_main_v34 val_main_v33 val_main_v32
  pointwise

theorem v42_val (b : Fin 16) (l : Fin 2048) (e : Fin 1024) : (val_main_v42 (F := Ideal) x7 x10 (ix3 b l e) : EReal)
    = Ideal.logistic (x7 (ix3 b l e) + x10 (ix2 1 ⟨1024 + e, by omega⟩)) := by
  rw [← v35_val x10 b l e]
  unfold val_main_v42 val_main_v41 val_main_cst_5 val_main_v40 val_main_v39 val_main_cst_4 val_main_v38 val_main_v37 val_main_v36
  generalize val_main_v35 (F := Ideal) x10 = y
  pointwise
  rfl

/-- The values merged before the output projection. -/
def mergedAt (b : Fin 16) (l : Fin 2048) : Fin 1024 → EReal :=
  merged (fun e => x0 (ix3 b l e)) (fun e => x2 (ix3 b l e)) (fun e => x9 (ix2 1 e)) (fun e => x1 (ix3 b l e))
    (fun e => x5 (ix3 b l e)) (fun e => x6 (ix3 b l e)) (fun e => x7 (ix3 b l e)) (fun e => x10 (ix2 1 ⟨e, by omega⟩))
    (fun e => x10 (ix2 1 ⟨1024 + e, by omega⟩)) (fun e d => x11 (ix3 1 e d)) (fun e d => x12 (ix3 1 e d))

theorem v51_val (b : Fin 16) (l : Fin 2048) (d : Fin 1024) : (val_main_v51 (F := Ideal) x0 x1 x2 x5 x6 x7 x9 x10 x11 x12 (ix3 b l d) : EReal)
    = mergedAt x0 x2 x1 x5 x6 x7 x9 x10 x11 x12 b l d := by
  have h : (val_main_v51 (F := Ideal) x0 x1 x2 x5 x6 x7 x9 x10 x11 x12 (ix3 b l d) : EReal)
      = val_main_v31 (F := Ideal) x6 x10 (ix3 b l d) * (∑ e, val_main_v18 (F := Ideal) x0 x2 x9 (ix3 b l e) * x11 (ix3 1 e d))
        + val_main_v42 (F := Ideal) x7 x10 (ix3 b l d) * (∑ e, val_main_v20 (F := Ideal) x1 x5 (ix3 b l e) * x12 (ix3 1 e d)) := by
    unfold val_main_v51 val_main_v50 val_main_v49 val_main_v48 val_main_v47 val_main_v46 val_main_v45 val_main_v44 val_main_v43
    generalize val_main_v18 (F := Ideal) x0 x2 x9 = y
    generalize val_main_v20 (F := Ideal) x1 x5 = y'
    generalize val_main_v31 (F := Ideal) x6 x10 = g
    generalize val_main_v42 (F := Ideal) x7 x10 = g'
    pointwise
  refine h.trans ?_
  refine congrArg₂ (· + ·) (congrArg₂ (· * ·) (v31_val x6 x10 b l d) (Finset.sum_congr rfl fun e _ => ?_))
    (congrArg₂ (· * ·) (v42_val x7 x10 b l d) (Finset.sum_congr rfl fun e _ => ?_))
  · exact congrArg (· * _) (v18_val x0 x2 x9 b l e)
  · exact congrArg (· * _) (v20_val x1 x5 b l e)

/-- The values the norm is given. -/
def residualAt (b : Fin 16) (l : Fin 2048) : Fin 1024 → EReal :=
  residual (fun d => x8 (ix3 b l d)) (mergedAt x0 x2 x1 x5 x6 x7 x9 x10 x11 x12 b l) (fun e d => x13 (ix3 1 e d))

theorem v57_val (b : Fin 16) (l : Fin 2048) (d : Fin 1024) : (val_main_v57 (F := Ideal) x0 x1 x2 x5 x6 x7 x8 x9 x10 x11 x12 x13 (ix3 b l d) : EReal)
    = residualAt x0 x2 x1 x5 x6 x7 x8 x9 x10 x11 x12 x13 b l d := by
  have h : (val_main_v57 (F := Ideal) x0 x1 x2 x5 x6 x7 x8 x9 x10 x11 x12 x13 (ix3 b l d) : EReal)
      = alpha * x8 (ix3 b l d) + ∑ e, val_main_v51 (F := Ideal) x0 x1 x2 x5 x6 x7 x9 x10 x11 x12 (ix3 b l e) * x13 (ix3 1 e d) := by
    unfold val_main_v57 val_main_v56 val_main_v55 val_main_v54 val_main_v53 val_main_v52 val_main_cst_6
    generalize val_main_v51 (F := Ideal) x0 x1 x2 x5 x6 x7 x9 x10 x11 x12 = u
    unfold alpha
    pointwise
  refine h.trans (congrArg (_ + ·) (Finset.sum_congr rfl fun e _ => congrArg (· * _) (v51_val x0 x2 x1 x5 x6 x7 x9 x10 x11 x12 b l e)))

theorem v61_val (b : Fin 16) (l : Fin 2048) : (val_main_v61 (F := Ideal) x0 x1 x2 x5 x6 x7 x8 x9 x10 x11 x12 x13 (ix3 b l 0) : EReal)
    = mean (residualAt x0 x2 x1 x5 x6 x7 x8 x9 x10 x11 x12 x13 b l) := by
  rw [← (funext fun d => v57_val x0 x2 x1 x5 x6 x7 x8 x9 x10 x11 x12 x13 b l d :
    (fun d => val_main_v57 (F := Ideal) x0 x1 x2 x5 x6 x7 x8 x9 x10 x11 x12 x13 (ix3 b l d)) = residualAt x0 x2 x1 x5 x6 x7 x8 x9 x10 x11 x12 x13 b l)]
  unfold val_main_v61 val_main_v60 val_main_v59 val_main_v58 val_main_cst_7 val_main_cst_8 mean width
  generalize val_main_v57 (F := Ideal) x0 x1 x2 x5 x6 x7 x8 x9 x10 x11 x12 x13 = r
  pointwise

theorem v68_val (b : Fin 16) (l : Fin 2048) : (val_main_v68 (F := Ideal) x0 x1 x2 x5 x6 x7 x8 x9 x10 x11 x12 x13 (ix3 b l 0) : EReal)
    = mean (fun a => (residualAt x0 x2 x1 x5 x6 x7 x8 x9 x10 x11 x12 x13 b l a - mean (residualAt x0 x2 x1 x5 x6 x7 x8 x9 x10 x11 x12 x13 b l))
      * (residualAt x0 x2 x1 x5 x6 x7 x8 x9 x10 x11 x12 x13 b l a - mean (residualAt x0 x2 x1 x5 x6 x7 x8 x9 x10 x11 x12 x13 b l))) := by
  rw [← v61_val, ← (funext fun d => v57_val x0 x2 x1 x5 x6 x7 x8 x9 x10 x11 x12 x13 b l d :
    (fun d => val_main_v57 (F := Ideal) x0 x1 x2 x5 x6 x7 x8 x9 x10 x11 x12 x13 (ix3 b l d)) = residualAt x0 x2 x1 x5 x6 x7 x8 x9 x10 x11 x12 x13 b l)]
  unfold val_main_v68 val_main_v67 val_main_v66 val_main_v65 val_main_v64 val_main_v63 val_main_v62 val_main_cst_9 val_main_cst_10 mean width
  generalize val_main_v57 (F := Ideal) x0 x1 x2 x5 x6 x7 x8 x9 x10 x11 x12 x13 = r
  generalize val_main_v61 (F := Ideal) x0 x1 x2 x5 x6 x7 x8 x9 x10 x11 x12 x13 = a
  pointwise

theorem v86_val (r : Fin 32768) (d : Fin 1024) : (val_main_v86 (F := Ideal) x0 x1 x2 x5 x6 x7 x8 x9 x10 x11 x12 x13 x14 x15 (ix2 r d) : EReal)
    = normal (residualAt x0 x2 x1 x5 x6 x7 x8 x9 x10 x11 x12 x13 ⟨r / 2048, by omega⟩ ⟨r % 2048, by omega⟩) (fun d => x14 (ix2 1 d)) (fun d => x15 (ix2 1 d)) d := by
  unfold normal
  rw [← v68_val, ← v61_val, ← v57_val]
  unfold val_main_v86 val_main_v85 val_main_v84 val_main_v83 val_main_v82 val_main_v81 val_main_v80 val_main_v79 val_main_v78 val_main_v77 val_main_v76 val_main_v75 val_main_v74 val_main_v73 val_main_v72 val_main_v71 val_main_cst_11 val_main_v70 val_main_v69
  generalize val_main_v57 (F := Ideal) x0 x1 x2 x5 x6 x7 x8 x9 x10 x11 x12 x13 = r
  generalize val_main_v61 (F := Ideal) x0 x1 x2 x5 x6 x7 x8 x9 x10 x11 x12 x13 = a
  generalize val_main_v68 (F := Ideal) x0 x1 x2 x5 x6 x7 x8 x9 x10 x11 x12 x13 = v
  unfold eps
  pointwise

end Cert.ReferenceMergeIdeal.Read

end
-- ==== Proof.MergeBlock.lean ====
/- A block of the merge: its two halves of 256 rows are computed alike, each row as `MergeRow` says. -/
module

public import proofs.«01_k».proof.Proof.Gen.MergeIdeal.Value
public import proofs.«01_k».proof.Proof.MergeRow
public import Idealize.ShloMosaic.Lib.Pointwise
public import Idealize.ShloMosaic.Lib.StableHlo.ReadAt
public import Idealize.ShloMosaic.Lib.Pipeline.ValueKit

@[expose] public section

set_option maxRecDepth 16384
set_option maxHeartbeats 2000000

noncomputable section

namespace Cert.MergeIdeal.Tile

open Idealize.ShloMosaic Idealize.ShloMosaic.TcCoe Cert.MergeIdeal Cert.MergeIdeal.Gen Cert.MergeRow

theorem pay2_val (v0 v3 : Vec Ideal S256x2048 .bf16) (p : Fin 256) (e : Fin 2048) :
    (k0_pay2 (F := Ideal) v0 v3 (ix2 p e) : EReal) = gated (fun e => v0 (ix2 p e)) (fun e => v3 (ix2 p e)) e := by
  unfold k0_pay2 gated silu
  pointwise

/-- One group of lanes, divided by its root mean square and weighted. -/
def group (v : Fin 2048 → EReal) (g : Fin 8) (w : EReal) (l : Fin 256) : EReal :=
  v ⟨g * 256 + l, by omega⟩ * Ideal.rsqrt (square v g + eps) * w

theorem normed_group (y z w : Fin 2048 → EReal) (g : Fin 8) (l : Fin 256) :
    normed y z w ⟨g * 256 + l, by omega⟩ = group (gated y z) g (w ⟨g * 256 + l, by omega⟩) l := by
  unfold normed group
  rw [show (⟨(⟨(g : ℕ) * 256 + l, by omega⟩ : Fin 2048) / 256, by simp only; omega⟩ : Fin 8) = g from
    Fin.ext (show ((g : ℕ) * 256 + l) / 256 = g by omega)]

theorem group_zero (v : Fin 2048 → EReal) (w : EReal) (l : Fin 256) :
    group v 0 w l = v ⟨l, by omega⟩ * Ideal.rsqrt (Ideal.div (∑ x : Fin 256, v ⟨x, by omega⟩ * v ⟨x, by omega⟩) lanes + eps) * w := by
  have h : ∀ x : Fin 256, (⟨((0 : Fin 8) : ℕ) * 256 + x, by omega⟩ : Fin 2048) = ⟨x, by omega⟩ := fun x => Fin.ext (show 0 * 256 + (x : ℕ) = x by omega)
  unfold group square
  rw [h l]
  simp only [h]

theorem pay3_val (v0 v3 : Vec Ideal S256x2048 .bf16) (w : Vec Ideal S1x256 .f32) (p l : Fin 256) :
    (k0_pay3 (F := Ideal) v0 v3 w (ix2 p l) : EReal) = group (fun e => k0_pay2 (F := Ideal) v0 v3 (ix2 p e)) 0 (w (ix2 0 l)) l := by
  rw [group_zero]
  unfold k0_pay3 eps lanes
  generalize k0_pay2 (F := Ideal) v0 v3 = v
  pointwise

theorem pay4_val (v0 v3 : Vec Ideal S256x2048 .bf16) (w : Vec Ideal S1x256 .f32) (p l : Fin 256) :
    (k0_pay4 (F := Ideal) v0 v3 w (ix2 p l) : EReal) = group (fun e => k0_pay2 (F := Ideal) v0 v3 (ix2 p e)) 1 (w (ix2 0 l)) l := by
  unfold k0_pay4 group square eps lanes
  generalize k0_pay2 (F := Ideal) v0 v3 = v
  pointwise

theorem pay7_val (v0 v3 : Vec Ideal S256x2048 .bf16) (w : Vec Ideal S1x256 .f32) (p l : Fin 256) :
    (k0_pay7 (F := Ideal) (k0_pay5 v0 v3) (k0_pay6 v0 v3) w (ix2 p l) : EReal)
      = group (fun e => k0_pay2 (F := Ideal) v0 v3 (ix2 p e)) 2 (w (ix2 0 l)) l := by
  unfold k0_pay7 k0_pay6 k0_pay5 group square eps lanes
  generalize k0_pay2 (F := Ideal) v0 v3 = v
  pointwise

theorem pay8_val (v : FVec Ideal S256x2048 .f32) (w : Vec Ideal S1x256 .f32) (p l : Fin 256) :
    (k0_pay8 (F := Ideal) v w (ix2 p l) : EReal) = group (fun e => v (ix2 p e)) 3 (w (ix2 0 l)) l := by
  unfold k0_pay8 group square eps lanes
  pointwise

theorem pay9_val (v : FVec Ideal S256x2048 .f32) (w : Vec Ideal S1x256 .f32) (p l : Fin 256) :
    (k0_pay9 (F := Ideal) v w (ix2 p l) : EReal) = group (fun e => v (ix2 p e)) 4 (w (ix2 0 l)) l := by
  unfold k0_pay9 group square eps lanes
  pointwise

theorem pay11_val (v : FVec Ideal S256x2048 .f32) (w : Vec Ideal S1x256 .f32) (p l : Fin 256) :
    (k0_pay11 (F := Ideal) (k0_pay10 v) w (ix2 p l) : EReal) = group (fun e => v (ix2 p e)) 5 (w (ix2 0 l)) l := by
  unfold k0_pay11 k0_pay10 group square eps lanes
  pointwise

theorem pay12_val (v : FVec Ideal S256x2048 .f32) (w : Vec Ideal S1x256 .f32) (p l : Fin 256) :
    (k0_pay12 (F := Ideal) v w (ix2 p l) : EReal) = group (fun e => v (ix2 p e)) 6 (w (ix2 0 l)) l := by
  unfold k0_pay12 group square eps lanes
  pointwise

theorem pay13_val (v : FVec Ideal S256x2048 .f32) (w : Vec Ideal S1x256 .f32) (p l : Fin 256) :
    ((k0_pay13 (F := Ideal) v (ix2 p l) : EReal) * (k0_pay14 (F := Ideal) w (ix2 p l) : EReal)) = group (fun e => v (ix2 p e)) 7 (w (ix2 0 l)) l := by
  unfold k0_pay13 k0_pay14 group square eps lanes
  pointwise

/-- The first product of a half, from what its eight groups of lanes hold. -/
theorem pay15_val (a0 a1 a2 a3 a4 a5 a6 : FVec Ideal S256x256 .bf16) (a7 b7 : FVec Ideal S256x256 .f32) (W : Vec Ideal S2048x1024 .bf16)
    (p : Fin 256) (d : Fin 1024) (f : Fin 2048 → EReal)
    (h0 : ∀ l : Fin 256, (a0 (ix2 p l) : EReal) = f ⟨(0 : Fin 8) * 256 + l, by omega⟩) (h1 : ∀ l : Fin 256, (a1 (ix2 p l) : EReal) = f ⟨(1 : Fin 8) * 256 + l, by omega⟩)
    (h2 : ∀ l : Fin 256, (a2 (ix2 p l) : EReal) = f ⟨(2 : Fin 8) * 256 + l, by omega⟩) (h3 : ∀ l : Fin 256, (a3 (ix2 p l) : EReal) = f ⟨(3 : Fin 8) * 256 + l, by omega⟩)
    (h4 : ∀ l : Fin 256, (a4 (ix2 p l) : EReal) = f ⟨(4 : Fin 8) * 256 + l, by omega⟩) (h5 : ∀ l : Fin 256, (a5 (ix2 p l) : EReal) = f ⟨(5 : Fin 8) * 256 + l, by omega⟩)
    (h6 : ∀ l : Fin 256, (a6 (ix2 p l) : EReal) = f ⟨(6 : Fin 8) * 256 + l, by omega⟩)
    (h7 : ∀ l : Fin 256, ((a7 (ix2 p l) : EReal) * (b7 (ix2 p l) : EReal)) = f ⟨(7 : Fin 8) * 256 + l, by omega⟩) :
    (k0_pay15 (F := Ideal) a0 a1 a2 a3 a4 a5 a6 a7 b7 W (ix2 p d) : EReal) = ∑ e : Fin 2048, f e * W (ix2 e d) := by
  unfold k0_pay15
  pointwise
  refine Finset.sum_congr rfl fun x _ => congrArg (· * (W (ix2 x d) : EReal)) ?_
  have at' : ∀ (g : Fin 8) (l : Fin 256), (x : ℕ) = g * 256 + l → f ⟨g * 256 + l, by omega⟩ = f x :=
    fun g l h => congrArg f (Fin.ext h.symm)
  by_cases c0 : (x : ℕ) < 256
  · exact (dif_pos c0).trans ((h0 _).trans (at' 0 _ (by show (x : ℕ) = 0 * 256 + (x); omega)))
  refine (dif_neg c0).trans ?_
  by_cases c1 : (x : ℕ) - 256 < 256
  · exact (dif_pos c1).trans ((h1 _).trans (at' 1 _ (by show (x : ℕ) = 1 * 256 + (x - 256); omega)))
  refine (dif_neg c1).trans ?_
  by_cases c2 : (x : ℕ) - 256 - 256 < 256
  · exact (dif_pos c2).trans ((h2 _).trans (at' 2 _ (by show (x : ℕ) = 2 * 256 + (x - 256 - 256); omega)))
  refine (dif_neg c2).trans ?_
  by_cases c3 : (x : ℕ) - 256 - 256 - 256 < 256
  · exact (dif_pos c3).trans ((h3 _).trans (at' 3 _ (by show (x : ℕ) = 3 * 256 + (x - 256 - 256 - 256); omega)))
  refine (dif_neg c3).trans ?_
  by_cases c4 : (x : ℕ) - 256 - 256 - 256 - 256 < 256
  · exact (dif_pos c4).trans ((h4 _).trans (at' 4 _ (by show (x : ℕ) = 4 * 256 + (x - 256 - 256 - 256 - 256); omega)))
  refine (dif_neg c4).trans ?_
  by_cases c5 : (x : ℕ) - 256 - 256 - 256 - 256 - 256 < 256
  · exact (dif_pos c5).trans ((h5 _).trans (at' 5 _ (by show (x : ℕ) = 5 * 256 + (x - 256 - 256 - 256 - 256 - 256); omega)))
  refine (dif_neg c5).trans ?_
  by_cases c6 : (x : ℕ) - 256 - 256 - 256 - 256 - 256 - 256 < 256
  · exact (dif_pos c6).trans ((h6 _).trans (at' 6 _ (by show (x : ℕ) = 6 * 256 + (x - 256 - 256 - 256 - 256 - 256 - 256); omega)))
  refine (dif_neg c6).trans ?_
  exact (h7 ⟨x - 256 - 256 - 256 - 256 - 256 - 256 - 256, by omega⟩).trans (at' 7 _ (by show (x : ℕ) = 7 * 256 + (x - 256 - 256 - 256 - 256 - 256 - 256 - 256); omega))

theorem pay16_val (o g : Vec Ideal S256x1024 .bf16) (W : Vec Ideal S1024x1024 .bf16) (p : Fin 256) (d : Fin 1024) :
    (k0_pay16 (F := Ideal) o g W (ix2 p d) : EReal) = ∑ e : Fin 1024, o (ix2 p e) * silu (g (ix2 p e)) * W (ix2 e d) := by
  unfold k0_pay16 silu
  pointwise

theorem pay32_val (a b : FVec Ideal S256x1024 .f32) (gm ga : Vec Ideal S256x1024 .bf16) (bm ba : Vec Ideal S1x1024 .f32) (W : Vec Ideal S1024x1024 .bf16) (p : Fin 256) (d : Fin 1024) :
    (k0_pay32 (F := Ideal) a b gm bm ga ba W (ix2 p d) : EReal)
      = ∑ e : Fin 1024, (Ideal.logistic (gm (ix2 p e) + bm (ix2 0 e)) * a (ix2 p e) + Ideal.logistic (ga (ix2 p e) + ba (ix2 0 e)) * b (ix2 p e)) * W (ix2 e d) := by
  unfold k0_pay32
  pointwise

theorem pay33_val (u : FVec Ideal S256x1024 .f32) (x : Vec Ideal S256x1024 .f32) (lg lb : Vec Ideal S1x1024 .f32) (p : Fin 256) (d : Fin 1024) :
    (k0_pay33 (F := Ideal) u x lg lb (ix2 p d) : EReal)
      = normal (fun d => alpha * x (ix2 p d) + u (ix2 p d)) (fun d => lg (ix2 0 d)) (fun d => lb (ix2 0 d)) d := by
  unfold k0_pay33 normal mean alpha width eps
  pointwise

/-- What a half of 256 rows of a block is given back, from its rows and the weights. -/
def half (y z : Vec Ideal S256x2048 .bf16) (w0 w1 w2 w3 w4 w5 w6 w7 : Vec Ideal S1x256 .f32) (wm : Vec Ideal S2048x1024 .bf16)
    (o g : Vec Ideal S256x1024 .bf16) (wa : Vec Ideal S1024x1024 .bf16) (gm : Vec Ideal S256x1024 .bf16) (bm : Vec Ideal S1x1024 .f32)
    (ga : Vec Ideal S256x1024 .bf16) (ba : Vec Ideal S1x1024 .f32) (wo : Vec Ideal S1024x1024 .bf16) (x : Vec Ideal S256x1024 .f32)
    (lg lb : Vec Ideal S1x1024 .f32) : FVec Ideal S256x1024 .f32 :=
  k0_pay33 (k0_pay32 (k0_pay15 (k0_pay3 y z w0) (k0_pay4 y z w1) (k0_pay7 (k0_pay5 y z) (k0_pay6 y z) w2) (k0_pay8 (k0_pay2 y z) w3) (k0_pay9 (k0_pay2 y z) w4)
      (k0_pay11 (k0_pay10 (k0_pay2 y z)) w5) (k0_pay12 (k0_pay2 y z) w6) (k0_pay13 (k0_pay2 y z)) (k0_pay14 w7) wm)
    (k0_pay16 o g wa) gm bm ga ba wo) x lg lb

theorem half_val (y z : Vec Ideal S256x2048 .bf16) (w0 w1 w2 w3 w4 w5 w6 w7 : Vec Ideal S1x256 .f32) (wm : Vec Ideal S2048x1024 .bf16)
    (o g : Vec Ideal S256x1024 .bf16) (wa : Vec Ideal S1024x1024 .bf16) (gm : Vec Ideal S256x1024 .bf16) (bm : Vec Ideal S1x1024 .f32)
    (ga : Vec Ideal S256x1024 .bf16) (ba : Vec Ideal S1x1024 .f32) (wo : Vec Ideal S1024x1024 .bf16) (x : Vec Ideal S256x1024 .f32)
    (lg lb : Vec Ideal S1x1024 .f32) (w : Fin 2048 → EReal)
    (h0 : ∀ l : Fin 256, (w0 (ix2 0 l) : EReal) = w ⟨(0 : Fin 8) * 256 + l, by omega⟩) (h1 : ∀ l : Fin 256, (w1 (ix2 0 l) : EReal) = w ⟨(1 : Fin 8) * 256 + l, by omega⟩)
    (h2 : ∀ l : Fin 256, (w2 (ix2 0 l) : EReal) = w ⟨(2 : Fin 8) * 256 + l, by omega⟩) (h3 : ∀ l : Fin 256, (w3 (ix2 0 l) : EReal) = w ⟨(3 : Fin 8) * 256 + l, by omega⟩)
    (h4 : ∀ l : Fin 256, (w4 (ix2 0 l) : EReal) = w ⟨(4 : Fin 8) * 256 + l, by omega⟩) (h5 : ∀ l : Fin 256, (w5 (ix2 0 l) : EReal) = w ⟨(5 : Fin 8) * 256 + l, by omega⟩)
    (h6 : ∀ l : Fin 256, (w6 (ix2 0 l) : EReal) = w ⟨(6 : Fin 8) * 256 + l, by omega⟩) (h7 : ∀ l : Fin 256, (w7 (ix2 0 l) : EReal) = w ⟨(7 : Fin 8) * 256 + l, by omega⟩)
    (p : Fin 256) (d : Fin 1024) :
    (half y z w0 w1 w2 w3 w4 w5 w6 w7 wm o g wa gm bm ga ba wo x lg lb (ix2 p d) : EReal)
      = normal (residual (fun d => x (ix2 p d))
          (merged (fun e => y (ix2 p e)) (fun e => z (ix2 p e)) w (fun e => o (ix2 p e)) (fun e => g (ix2 p e)) (fun e => gm (ix2 p e)) (fun e => ga (ix2 p e))
            (fun e => bm (ix2 0 e)) (fun e => ba (ix2 0 e)) (fun e d => wm (ix2 e d)) (fun e d => wa (ix2 e d)))
          (fun e d => wo (ix2 e d))) (fun d => lg (ix2 0 d)) (fun d => lb (ix2 0 d)) d := by
  have hv : (fun e => k0_pay2 (F := Ideal) y z (ix2 p e) : Fin 2048 → EReal) = gated (fun e => y (ix2 p e)) (fun e => z (ix2 p e)) :=
    funext fun e => pay2_val y z p e
  have k : ∀ (i : Fin 8) (wi : Vec Ideal S1x256 .f32), (∀ l : Fin 256, (wi (ix2 0 l) : EReal) = w ⟨i * 256 + l, by omega⟩) → ∀ l : Fin 256,
      group (fun e => k0_pay2 (F := Ideal) y z (ix2 p e)) i (wi (ix2 0 l)) l
        = normed (fun e => y (ix2 p e)) (fun e => z (ix2 p e)) w ⟨i * 256 + l, by omega⟩ := fun i wi h l => by
    rw [normed_group, hv, h]
  unfold half
  refine (pay33_val _ x lg lb p d).trans ?_
  refine congrArg (fun r => normal r _ _ d) (funext fun d => congrArg (_ + ·) ((pay32_val _ _ gm ga bm ba wo p d).trans ?_))
  refine Finset.sum_congr rfl fun e _ => congrArg (· * _) (congrArg₂ (· + ·) (congrArg₂ (· * ·) rfl ?_) (congrArg₂ (· * ·) rfl (pay16_val o g wa p e)))
  exact pay15_val _ _ _ _ _ _ _ _ _ wm p e (normed (fun e => y (ix2 p e)) (fun e => z (ix2 p e)) w)
    (fun l => (pay3_val y z w0 p l).trans (k 0 w0 h0 l)) (fun l => (pay4_val y z w1 p l).trans (k 1 w1 h1 l))
    (fun l => (pay7_val y z w2 p l).trans (k 2 w2 h2 l)) (fun l => (pay8_val _ w3 p l).trans (k 3 w3 h3 l))
    (fun l => (pay9_val _ w4 p l).trans (k 4 w4 h4 l)) (fun l => (pay11_val _ w5 p l).trans (k 5 w5 h5 l))
    (fun l => (pay12_val _ w6 p l).trans (k 6 w6 h6 l)) (fun l => (pay13_val _ w7 p l).trans (k 7 w7 h7 l))

end Cert.MergeIdeal.Tile

end
-- ==== Proof.Merge.lean ====
/- The merge of the branches: every row the call writes is the reference's row. -/
module

public import proofs.«01_k».proof.Proof.MergeBlock
public import Idealize.ShloMosaic.Lib.Pipeline.ReadBack

@[expose] public section

set_option maxRecDepth 16384
set_option maxHeartbeats 2000000

noncomputable section

namespace Cert.MergeIdeal.Tile

open Idealize.ShloMosaic Idealize.ShloMosaic.TcCoe Cert.MergeIdeal Cert.MergeIdeal.Gen Cert.MergeRow

/-- A row of a block. -/
def rowOf (X0 : Vec Ideal S512x2048 .bf16) (X1 : Vec Ideal S512x1024 .bf16) (X2 : Vec Ideal S512x2048 .bf16) (X3 X4 X5 : Vec Ideal S512x1024 .bf16)
    (X6 : Vec Ideal S512x1024 .f32) (X7 : Vec Ideal S2048x1024 .bf16) (X8 X9 : Vec Ideal S1024x1024 .bf16) (X10 : Vec Ideal S1x2048 .f32)
    (X11 X12 X13 X14 : Vec Ideal S1x1024 .f32) (p : Fin 512) (d : Fin 1024) : EReal :=
  normal (residual (fun d => X6 (ix2 p d))
      (merged (fun e => X0 (ix2 p e)) (fun e => X2 (ix2 p e)) (fun e => X10 (ix2 0 e)) (fun e => X1 (ix2 p e)) (fun e => X3 (ix2 p e)) (fun e => X4 (ix2 p e)) (fun e => X5 (ix2 p e))
        (fun e => X11 (ix2 0 e)) (fun e => X12 (ix2 0 e)) (fun e d => X7 (ix2 e d)) (fun e d => X8 (ix2 e d)))
      (fun e d => X9 (ix2 e d))) (fun d => X13 (ix2 0 d)) (fun d => X14 (ix2 0 d)) d

section Block

variable (X0 : Vec Ideal S512x2048 .bf16) (X1 : Vec Ideal S512x1024 .bf16) (X2 : Vec Ideal S512x2048 .bf16) (X3 X4 X5 : Vec Ideal S512x1024 .bf16)
    (X6 : Vec Ideal S512x1024 .f32) (X7 : Vec Ideal S2048x1024 .bf16) (X8 X9 : Vec Ideal S1024x1024 .bf16) (X10 : Vec Ideal S1x2048 .f32)
    (X11 X12 X13 X14 : Vec Ideal S1x1024 .f32)

/-- The first half of the rows of a block, and the second. -/
def first : FVec Ideal S256x1024 .f32 :=
  half (View.ld X0 r0_0) (View.ld X2 r0_0) (View.ld X10 r0_1) (View.ld X10 r0_2) (View.ld X10 r0_3) (View.ld X10 r0_4) (View.ld X10 r0_5) (View.ld X10 r0_6)
    (View.ld X10 r0_7) (View.ld X10 r0_8) (View.ld X7 r0_9) (View.ld X1 r0_10) (View.ld X3 r0_10) (View.ld X8 r0_11) (View.ld X4 r0_10) (View.ld X11 r0_14)
    (View.ld X5 r0_10) (View.ld X12 r0_14) (View.ld X9 r0_11) (View.ld X6 r0_10) (View.ld X13 r0_14) (View.ld X14 r0_14)
def second : FVec Ideal S256x1024 .f32 :=
  half (View.ld X0 r0_12) (View.ld X2 r0_12) (View.ld X10 r0_1) (View.ld X10 r0_2) (View.ld X10 r0_3) (View.ld X10 r0_4) (View.ld X10 r0_5) (View.ld X10 r0_6)
    (View.ld X10 r0_7) (View.ld X10 r0_8) (View.ld X7 r0_9) (View.ld X1 r0_13) (View.ld X3 r0_13) (View.ld X8 r0_11) (View.ld X4 r0_13) (View.ld X11 r0_14)
    (View.ld X5 r0_13) (View.ld X12 r0_14) (View.ld X9 r0_11) (View.ld X6 r0_13) (View.ld X13 r0_14) (View.ld X14 r0_14)

theorem out_pieces : (out0_15 (F := Ideal) X0 X1 X2 X3 X4 X5 X6 X7 X8 X9 X10 X11 X12 X13 X14)
    = View.canon [⟨r0_13, second X0 X1 X2 X3 X4 X5 X6 X7 X8 X9 X10 X11 X12 X13 X14⟩, ⟨r0_10, first X0 X1 X2 X3 X4 X5 X6 X7 X8 X9 X10 X11 X12 X13 X14⟩] := rfl

theorem ld2 {n0 n1 k0 k1 : ℕ} {e : EltTy} (X : Vec Ideal ⟨2, ![n0, n1]⟩ e) (a b : ℕ) (inb) (p : Fin k0) (q : Fin k1) (p' : Fin n0) (q' : Fin n1)
    (hp : (p' : ℕ) = a + p) (hq : (q' : ℕ) = b + q) :
    View.ld X (Rect.unit (s := ⟨2, ![n0, n1]⟩) ![a, b] (⟨2, ![k0, k1]⟩ : Shape).size inb) (ix2 p q) = X (ix2 p' q') :=
  View.ld_unit_apply_of X _ _ inb (ix2 p q) (ix2 p' q') (by intro j; fin_cases j; exacts [hp, hq])

/-- A half whose rows are rows of the block holds the block's rows. -/
theorem half_row (y z : Vec Ideal S256x2048 .bf16) (o g gm ga : Vec Ideal S256x1024 .bf16) (x : Vec Ideal S256x1024 .f32) (p : Fin 256) (P : Fin 512) (d : Fin 1024)
    (hy : ∀ e : Fin 2048, (y (ix2 p e) : EReal) = X0 (ix2 P e)) (hz : ∀ e : Fin 2048, (z (ix2 p e) : EReal) = X2 (ix2 P e)) (ho : ∀ e : Fin 1024, (o (ix2 p e) : EReal) = X1 (ix2 P e))
    (hg : ∀ e : Fin 1024, (g (ix2 p e) : EReal) = X3 (ix2 P e)) (hgm : ∀ e : Fin 1024, (gm (ix2 p e) : EReal) = X4 (ix2 P e)) (hga : ∀ e : Fin 1024, (ga (ix2 p e) : EReal) = X5 (ix2 P e))
    (hx : ∀ e : Fin 1024, (x (ix2 p e) : EReal) = X6 (ix2 P e)) :
    (half y z (View.ld X10 r0_1) (View.ld X10 r0_2) (View.ld X10 r0_3) (View.ld X10 r0_4) (View.ld X10 r0_5) (View.ld X10 r0_6) (View.ld X10 r0_7) (View.ld X10 r0_8)
      (View.ld X7 r0_9) o g (View.ld X8 r0_11) gm (View.ld X11 r0_14) ga (View.ld X12 r0_14) (View.ld X9 r0_11) x (View.ld X13 r0_14) (View.ld X14 r0_14) (ix2 p d) : EReal)
    = rowOf X0 X1 X2 X3 X4 X5 X6 X7 X8 X9 X10 X11 X12 X13 X14 P d := by
  refine (half_val y z _ _ _ _ _ _ _ _ _ o g _ gm _ ga _ _ x _ _ (fun e => X10 (ix2 0 e))
    (fun l => ld2 X10 0 0 _ 0 l 0 _ rfl rfl) (fun l => ld2 X10 0 256 _ 0 l 0 _ rfl rfl) (fun l => ld2 X10 0 512 _ 0 l 0 _ rfl rfl) (fun l => ld2 X10 0 768 _ 0 l 0 _ rfl rfl)
    (fun l => ld2 X10 0 1024 _ 0 l 0 _ rfl rfl) (fun l => ld2 X10 0 1280 _ 0 l 0 _ rfl rfl) (fun l => ld2 X10 0 1536 _ 0 l 0 _ rfl rfl) (fun l => ld2 X10 0 1792 _ 0 l 0 _ rfl rfl) p d).trans ?_
  have e7 : View.ld X7 r0_9 = X7 := View.ld_unit_lit _ X7 (by intro a; fin_cases a <;> rfl)
  have e8 : View.ld X8 r0_11 = X8 := View.ld_unit_lit _ X8 (by intro a; fin_cases a <;> rfl)
  have e9 : View.ld X9 r0_11 = X9 := View.ld_unit_lit _ X9 (by intro a; fin_cases a <;> rfl)
  have e1 : ∀ X : Vec Ideal S1x1024 .f32, View.ld X r0_14 = X := fun X => View.ld_unit_lit _ X (by intro a; fin_cases a <;> rfl)
  rw [e7, e8, e9, e1, e1, e1, e1]
  unfold rowOf
  rw [funext hy, funext hz, funext ho, funext hg, funext hgm, funext hga, funext hx]

theorem first_val (p : Fin 256) (d : Fin 1024) : (first X0 X1 X2 X3 X4 X5 X6 X7 X8 X9 X10 X11 X12 X13 X14 (ix2 p d) : EReal) = rowOf X0 X1 X2 X3 X4 X5 X6 X7 X8 X9 X10 X11 X12 X13 X14 ⟨p, by omega⟩ d :=
  half_row X0 X1 X2 X3 X4 X5 X6 X7 X8 X9 X10 X11 X12 X13 X14 _ _ _ _ _ _ _ p _ d
    (fun e => ld2 X0 0 0 _ p e _ e (Nat.zero_add _).symm (Nat.zero_add _).symm) (fun e => ld2 X2 0 0 _ p e _ e (Nat.zero_add _).symm (Nat.zero_add _).symm)
    (fun e => ld2 X1 0 0 _ p e _ e (Nat.zero_add _).symm (Nat.zero_add _).symm) (fun e => ld2 X3 0 0 _ p e _ e (Nat.zero_add _).symm (Nat.zero_add _).symm)
    (fun e => ld2 X4 0 0 _ p e _ e (Nat.zero_add _).symm (Nat.zero_add _).symm) (fun e => ld2 X5 0 0 _ p e _ e (Nat.zero_add _).symm (Nat.zero_add _).symm)
    (fun e => ld2 X6 0 0 _ p e _ e (Nat.zero_add _).symm (Nat.zero_add _).symm)

theorem second_val (p : Fin 256) (d : Fin 1024) : (second X0 X1 X2 X3 X4 X5 X6 X7 X8 X9 X10 X11 X12 X13 X14 (ix2 p d) : EReal) = rowOf X0 X1 X2 X3 X4 X5 X6 X7 X8 X9 X10 X11 X12 X13 X14 ⟨256 + p, by omega⟩ d :=
  half_row X0 X1 X2 X3 X4 X5 X6 X7 X8 X9 X10 X11 X12 X13 X14 _ _ _ _ _ _ _ p _ d
    (fun e => ld2 X0 256 0 _ p e _ e rfl (Nat.zero_add _).symm) (fun e => ld2 X2 256 0 _ p e _ e rfl (Nat.zero_add _).symm)
    (fun e => ld2 X1 256 0 _ p e _ e rfl (Nat.zero_add _).symm) (fun e => ld2 X3 256 0 _ p e _ e rfl (Nat.zero_add _).symm)
    (fun e => ld2 X4 256 0 _ p e _ e rfl (Nat.zero_add _).symm) (fun e => ld2 X5 256 0 _ p e _ e rfl (Nat.zero_add _).symm)
    (fun e => ld2 X6 256 0 _ p e _ e rfl (Nat.zero_add _).symm)

theorem emb_first (p : Fin 256) (d : Fin 1024) : r0_10.emb (ix2 p d) = ix2 (n0 := 512) (n1 := 1024) ⟨p, by omega⟩ d := by
  funext j; refine Fin.ext ?_
  fin_cases j
  · show 0 + 1 * (p : ℕ) = p; omega
  · show 0 + 1 * (d : ℕ) = d; omega
theorem emb_second (p : Fin 256) (d : Fin 1024) : r0_13.emb (ix2 p d) = ix2 (n0 := 512) (n1 := 1024) ⟨256 + p, by omega⟩ d := by
  funext j; refine Fin.ext ?_
  fin_cases j
  · show 256 + 1 * (p : ℕ) = 256 + p; omega
  · show 0 + 1 * (d : ℕ) = d; omega

theorem out_eq (P : Fin 512) (d : Fin 1024) : (out0_15 (F := Ideal) X0 X1 X2 X3 X4 X5 X6 X7 X8 X9 X10 X11 X12 X13 X14 (ix2 P d) : EReal) = rowOf X0 X1 X2 X3 X4 X5 X6 X7 X8 X9 X10 X11 X12 X13 X14 P d := by
  rw [out_pieces]
  have := View.canon_append_of_pieces (fun y : S512x1024.Idx => (rowOf X0 X1 X2 X3 X4 X5 X6 X7 X8 X9 X10 X11 X12 X13 X14 (y 0) (y 1) : Elt Ideal .f32)) []
    ([⟨r0_13, second X0 X1 X2 X3 X4 X5 X6 X7 X8 X9 X10 X11 X12 X13 X14⟩, ⟨r0_10, first X0 X1 X2 X3 X4 X5 X6 X7 X8 X9 X10 X11 X12 X13 X14⟩] : List (View.Piece (Elt Ideal) S512x1024 .f32)) ?_ (ix2 P d) ?_
  · rw [List.append_nil] at this; exact this
  · intro Q hQ x
    rcases List.mem_cons.mp hQ with rfl | hQ
    · have hi : x = ix2 (n0 := 256) (n1 := 1024) (x 0) (x 1) := by funext a; fin_cases a <;> rfl
      refine (congrArg (second X0 X1 X2 X3 X4 X5 X6 X7 X8 X9 X10 X11 X12 X13 X14) hi).trans ((second_val X0 X1 X2 X3 X4 X5 X6 X7 X8 X9 X10 X11 X12 X13 X14 (x 0) (x 1)).trans ?_)
      exact (congrArg (fun y : S512x1024.Idx => rowOf X0 X1 X2 X3 X4 X5 X6 X7 X8 X9 X10 X11 X12 X13 X14 (y 0) (y 1)) ((congrArg r0_13.emb hi).trans (emb_second (x 0) (x 1)))).symm
    · rcases List.mem_singleton.mp hQ with rfl
      have hi : x = ix2 (n0 := 256) (n1 := 1024) (x 0) (x 1) := by funext a; fin_cases a <;> rfl
      refine (congrArg (first X0 X1 X2 X3 X4 X5 X6 X7 X8 X9 X10 X11 X12 X13 X14) hi).trans ((first_val X0 X1 X2 X3 X4 X5 X6 X7 X8 X9 X10 X11 X12 X13 X14 (x 0) (x 1)).trans ?_)
      exact (congrArg (fun y : S512x1024.Idx => rowOf X0 X1 X2 X3 X4 X5 X6 X7 X8 X9 X10 X11 X12 X13 X14 (y 0) (y 1)) ((congrArg r0_10.emb hi).trans (emb_first (x 0) (x 1)))).symm
  · obtain ⟨pc, h1, h2⟩ := cover0_15 (F := Ideal) (second X0 X1 X2 X3 X4 X5 X6 X7 X8 X9 X10 X11 X12 X13 X14) (first X0 X1 X2 X3 X4 X5 X6 X7 X8 X9 X10 X11 X12 X13 X14) (ix2 P d)
    exact ⟨pc, h1, h2⟩

end Block

variable (m : (ℓ : Loc nD τ sig) → Buf (Elt Ideal) ℓ) (c : Dev nD)

theorem V35_apply (r : Fin 32768) (e : Fin 2048) : (V m c main_v35 (ix2 r e) : EReal) = m ((c : Thread nD τ).loc main_arg0) (ix3 ⟨r / 2048, by omega⟩ ⟨r % 2048, by omega⟩ e) := by
  unfold V
  after_reads_at
theorem V37_apply (r : Fin 32768) (e : Fin 1024) : (V m c main_v37 (ix2 r e) : EReal) = m ((c : Thread nD τ).loc main_arg1) (ix3 ⟨r / 2048, by omega⟩ ⟨r % 2048, by omega⟩ e) := by
  unfold V
  after_reads_at
theorem V38_apply (r : Fin 32768) (e : Fin 1024) : (V m c main_v38 (ix2 r e) : EReal) = m ((c : Thread nD τ).loc main_arg8) (ix3 ⟨r / 2048, by omega⟩ ⟨r % 2048, by omega⟩ e) := by
  unfold V
  after_reads_at
theorem V15_apply (e : Fin 2048) (d : Fin 1024) : (V m c main_v15 (ix2 e d) : EReal) = m ((c : Thread nD τ).loc main_arg11) (ix3 1 e d) := by
  unfold V
  after_reads_at
theorem V18_apply (e d : Fin 1024) : (V m c main_v18 (ix2 e d) : EReal) = m ((c : Thread nD τ).loc main_arg12) (ix3 1 e d) := by
  unfold V
  after_reads_at
theorem V21_apply (e d : Fin 1024) : (V m c main_v21 (ix2 e d) : EReal) = m ((c : Thread nD τ).loc main_arg13) (ix3 1 e d) := by
  unfold V
  after_reads_at
theorem V12_apply (e : Fin 2048) : (V m c main_v12 (ix2 0 e) : EReal) = m ((c : Thread nD τ).loc main_arg9) (ix2 1 e) := by
  unfold V
  after_reads_at
theorem V24_apply (e : Fin 1024) : (V m c main_v24 (ix2 0 e) : EReal) = m ((c : Thread nD τ).loc main_arg10) (ix2 1 ⟨e, by omega⟩) := by
  unfold V
  after_reads_at
theorem V27_apply (e : Fin 1024) : (V m c main_v27 (ix2 0 e) : EReal) = m ((c : Thread nD τ).loc main_arg10) (ix2 1 ⟨1024 + e, by omega⟩) := by
  unfold V
  after_reads_at
theorem V30_apply (e : Fin 1024) : (V m c main_v30 (ix2 0 e) : EReal) = m ((c : Thread nD τ).loc main_arg14) (ix2 1 e) := by
  unfold V
  after_reads_at
theorem V33_apply (e : Fin 1024) : (V m c main_v33 (ix2 0 e) : EReal) = m ((c : Thread nD τ).loc main_arg15) (ix2 1 e) := by
  unfold V
  after_reads_at
theorem V3_apply (r : Fin 32768) (e : Fin 2048) : (V m c main_v3 (ix2 r ⟨e, by omega⟩) : EReal) = m ((c : Thread nD τ).loc main_arg2) (ix3 ⟨r / 2048, by omega⟩ ⟨r % 2048, by omega⟩ e) := by
  unfold V
  after_reads_at
  after_reads_at
theorem V9_g (r : Fin 32768) (e : Fin 1024) : (V m c main_v9 (ix2 r ⟨1024 + e, by omega⟩) : EReal) = m ((c : Thread nD τ).loc main_arg5) (ix3 ⟨r / 2048, by omega⟩ ⟨r % 2048, by omega⟩ e) := by
  unfold V
  after_reads_at
  after_reads_at

theorem V9_gm (r : Fin 32768) (e : Fin 1024) : (V m c main_v9 (ix2 r ⟨2048 + e, by omega⟩) : EReal) = m ((c : Thread nD τ).loc main_arg6) (ix3 ⟨r / 2048, by omega⟩ ⟨r % 2048, by omega⟩ e) := by
  unfold V
  after_reads_at
  after_reads_at
  refine (dif_neg (by omega)).trans ((dif_neg (by omega)).trans ((dif_pos (by omega)).trans ?_))
  exact congrArg (fun j => m ((c : Thread nD τ).loc main_arg6) (ix3 ⟨r / 2048, by omega⟩ ⟨r % 2048, by omega⟩ j)) (Fin.ext (show 2048 + (e : ℕ) - 1024 - 1024 = e by omega))
theorem V9_ga (r : Fin 32768) (e : Fin 1024) : (V m c main_v9 (ix2 r ⟨3072 + e, by omega⟩) : EReal) = m ((c : Thread nD τ).loc main_arg7) (ix3 ⟨r / 2048, by omega⟩ ⟨r % 2048, by omega⟩ e) := by
  unfold V
  after_reads_at
  after_reads_at
  refine (dif_neg (by omega)).trans ((dif_neg (by omega)).trans ((dif_neg (by omega)).trans ?_))
  exact congrArg (fun j => m ((c : Thread nD τ).loc main_arg7) (ix3 ⟨r / 2048, by omega⟩ ⟨r % 2048, by omega⟩ j)) (Fin.ext (show 3072 + (e : ℕ) - 1024 - 1024 - 1024 = e by omega))

theorem lt_N (t : Fin cfg0.N) : t.val < 64 := lt_of_lt_of_eq t.isLt N_0
theorem index0 : ∀ t : Fin cfg0.N, win0_0.index t = ![t.val, 0] := by decide
theorem index1 : ∀ t : Fin cfg0.N, win0_1.index t = ![t.val, 0] := by decide
theorem index2 : ∀ t : Fin cfg0.N, win0_2.index t = ![t.val, 0] := by decide
theorem index3 : ∀ t : Fin cfg0.N, win0_3.index t = ![t.val, 1] := by decide
theorem index4 : ∀ t : Fin cfg0.N, win0_4.index t = ![t.val, 2] := by decide
theorem index5 : ∀ t : Fin cfg0.N, win0_5.index t = ![t.val, 3] := by decide
theorem index6 : ∀ t : Fin cfg0.N, win0_6.index t = ![t.val, 0] := by decide
theorem index7 : ∀ t : Fin cfg0.N, win0_7.index t = ![0, 0] := by decide
theorem index8 : ∀ t : Fin cfg0.N, win0_8.index t = ![0, 0] := by decide
theorem index9 : ∀ t : Fin cfg0.N, win0_9.index t = ![0, 0] := by decide
theorem index10 : ∀ t : Fin cfg0.N, win0_10.index t = ![0, 0] := by decide
theorem index11 : ∀ t : Fin cfg0.N, win0_11.index t = ![0, 0] := by decide
theorem index12 : ∀ t : Fin cfg0.N, win0_12.index t = ![0, 0] := by decide
theorem index13 : ∀ t : Fin cfg0.N, win0_13.index t = ![0, 0] := by decide
theorem index14 : ∀ t : Fin cfg0.N, win0_14.index t = ![0, 0] := by decide
theorem index15 : ∀ t : Fin cfg0.N, win0_15.index t = ![t.val, 0] := by decide
theorem flush15 : ∀ t : Fin cfg0.N, (cfg0.win 15).flush t = true := by decide

def row (t : Fin cfg0.N) (p : Fin 512) : Fin 32768 := ⟨512 * t.val + p, by have := lt_N t; omega⟩

theorem emb0 (t : Fin cfg0.N) (p : Fin 512) (e : Fin 2048) : ((cfg0.win 0).blk t).view.emb (ix2 p e) = ix2 (row t p) e := by
  funext a; refine Fin.ext ?_
  blk_simp [index0]
  fin_cases a
  · show t.val * 512 + (p : ℕ) = 512 * t.val + p; omega
  · show 0 * 2048 + (e : ℕ) = e; omega
theorem iblk0_eq (t : Fin cfg0.N) (p : Fin 512) (e : Fin 2048) : (iblk m c 0 t (ix2 p e) : EReal)
    = m ((c : Thread nD τ).loc main_arg0) (ix3 ⟨row t p / 2048, by omega⟩ ⟨row t p % 2048, by omega⟩ e) := by
  unfold iblk
  exact (congrArg (V m c main_v35) (emb0 t p e)).trans (V35_apply m c _ _)
theorem emb1 (t : Fin cfg0.N) (p : Fin 512) (e : Fin 1024) : ((cfg0.win 1).blk t).view.emb (ix2 p e) = ix2 (row t p) e := by
  funext a; refine Fin.ext ?_
  blk_simp [index1]
  fin_cases a
  · show t.val * 512 + (p : ℕ) = 512 * t.val + p; omega
  · show 0 * 1024 + (e : ℕ) = e; omega
theorem iblk1_eq (t : Fin cfg0.N) (p : Fin 512) (e : Fin 1024) : (iblk m c 1 t (ix2 p e) : EReal)
    = m ((c : Thread nD τ).loc main_arg1) (ix3 ⟨row t p / 2048, by omega⟩ ⟨row t p % 2048, by omega⟩ e) := by
  unfold iblk
  exact (congrArg (V m c main_v37) (emb1 t p e)).trans (V37_apply m c _ _)
theorem emb2 (t : Fin cfg0.N) (p : Fin 512) (e : Fin 2048) : ((cfg0.win 2).blk t).view.emb (ix2 p e) = ix2 (row t p) ⟨e, by omega⟩ := by
  funext a; refine Fin.ext ?_
  blk_simp [index2]
  fin_cases a
  · show t.val * 512 + (p : ℕ) = 512 * t.val + p; omega
  · show 0 * 2048 + (e : ℕ) = e; omega
theorem iblk2_eq (t : Fin cfg0.N) (p : Fin 512) (e : Fin 2048) : (iblk m c 2 t (ix2 p e) : EReal)
    = m ((c : Thread nD τ).loc main_arg2) (ix3 ⟨row t p / 2048, by omega⟩ ⟨row t p % 2048, by omega⟩ e) := by
  unfold iblk
  exact (congrArg (V m c main_v3) (emb2 t p e)).trans (V3_apply m c _ _)
theorem emb3 (t : Fin cfg0.N) (p : Fin 512) (e : Fin 1024) : ((cfg0.win 3).blk t).view.emb (ix2 p e) = ix2 (row t p) ⟨1024 + e, by omega⟩ := by
  funext a; refine Fin.ext ?_
  blk_simp [index3]
  fin_cases a
  · show t.val * 512 + (p : ℕ) = 512 * t.val + p; omega
  · show 1 * 1024 + (e : ℕ) = 1024 + e; omega
theorem iblk3_eq (t : Fin cfg0.N) (p : Fin 512) (e : Fin 1024) : (iblk m c 3 t (ix2 p e) : EReal)
    = m ((c : Thread nD τ).loc main_arg5) (ix3 ⟨row t p / 2048, by omega⟩ ⟨row t p % 2048, by omega⟩ e) := by
  unfold iblk
  exact (congrArg (V m c main_v9) (emb3 t p e)).trans (V9_g m c _ _)
theorem emb4 (t : Fin cfg0.N) (p : Fin 512) (e : Fin 1024) : ((cfg0.win 4).blk t).view.emb (ix2 p e) = ix2 (row t p) ⟨2048 + e, by omega⟩ := by
  funext a; refine Fin.ext ?_
  blk_simp [index4]
  fin_cases a
  · show t.val * 512 + (p : ℕ) = 512 * t.val + p; omega
  · show 2 * 1024 + (e : ℕ) = 2048 + e; omega
theorem iblk4_eq (t : Fin cfg0.N) (p : Fin 512) (e : Fin 1024) : (iblk m c 4 t (ix2 p e) : EReal)
    = m ((c : Thread nD τ).loc main_arg6) (ix3 ⟨row t p / 2048, by omega⟩ ⟨row t p % 2048, by omega⟩ e) := by
  unfold iblk
  exact (congrArg (V m c main_v9) (emb4 t p e)).trans (V9_gm m c _ _)
theorem emb5 (t : Fin cfg0.N) (p : Fin 512) (e : Fin 1024) : ((cfg0.win 5).blk t).view.emb (ix2 p e) = ix2 (row t p) ⟨3072 + e, by omega⟩ := by
  funext a; refine Fin.ext ?_
  blk_simp [index5]
  fin_cases a
  · show t.val * 512 + (p : ℕ) = 512 * t.val + p; omega
  · show 3 * 1024 + (e : ℕ) = 3072 + e; omega
theorem iblk5_eq (t : Fin cfg0.N) (p : Fin 512) (e : Fin 1024) : (iblk m c 5 t (ix2 p e) : EReal)
    = m ((c : Thread nD τ).loc main_arg7) (ix3 ⟨row t p / 2048, by omega⟩ ⟨row t p % 2048, by omega⟩ e) := by
  unfold iblk
  exact (congrArg (V m c main_v9) (emb5 t p e)).trans (V9_ga m c _ _)
theorem emb6 (t : Fin cfg0.N) (p : Fin 512) (e : Fin 1024) : ((cfg0.win 6).blk t).view.emb (ix2 p e) = ix2 (row t p) e := by
  funext a; refine Fin.ext ?_
  blk_simp [index6]
  fin_cases a
  · show t.val * 512 + (p : ℕ) = 512 * t.val + p; omega
  · show 0 * 1024 + (e : ℕ) = e; omega
theorem iblk6_eq (t : Fin cfg0.N) (p : Fin 512) (e : Fin 1024) : (iblk m c 6 t (ix2 p e) : EReal)
    = m ((c : Thread nD τ).loc main_arg8) (ix3 ⟨row t p / 2048, by omega⟩ ⟨row t p % 2048, by omega⟩ e) := by
  unfold iblk
  exact (congrArg (V m c main_v38) (emb6 t p e)).trans (V38_apply m c _ _)
theorem emb7 (t : Fin cfg0.N) (e : Fin 2048) (d : Fin 1024) : ((cfg0.win 7).blk t).view.emb (ix2 e d) = ix2 e d := by
  funext a; refine Fin.ext ?_
  blk_simp [index7]
  fin_cases a
  · show 0 * 2048 + (e : ℕ) = e; omega
  · show 0 * 1024 + (d : ℕ) = d; omega
theorem iblk7_eq (t : Fin cfg0.N) (e : Fin 2048) (d : Fin 1024) : (iblk m c 7 t (ix2 e d) : EReal) = m ((c : Thread nD τ).loc main_arg11) (ix3 1 e d) := by
  unfold iblk
  exact (congrArg (V m c main_v15) (emb7 t e d)).trans (V15_apply m c _ _)
theorem emb8 (t : Fin cfg0.N) (e : Fin 1024) (d : Fin 1024) : ((cfg0.win 8).blk t).view.emb (ix2 e d) = ix2 e d := by
  funext a; refine Fin.ext ?_
  blk_simp [index8]
  fin_cases a
  · show 0 * 1024 + (e : ℕ) = e; omega
  · show 0 * 1024 + (d : ℕ) = d; omega
theorem iblk8_eq (t : Fin cfg0.N) (e : Fin 1024) (d : Fin 1024) : (iblk m c 8 t (ix2 e d) : EReal) = m ((c : Thread nD τ).loc main_arg12) (ix3 1 e d) := by
  unfold iblk
  exact (congrArg (V m c main_v18) (emb8 t e d)).trans (V18_apply m c _ _)
theorem emb9 (t : Fin cfg0.N) (e : Fin 1024) (d : Fin 1024) : ((cfg0.win 9).blk t).view.emb (ix2 e d) = ix2 e d := by
  funext a; refine Fin.ext ?_
  blk_simp [index9]
  fin_cases a
  · show 0 * 1024 + (e : ℕ) = e; omega
  · show 0 * 1024 + (d : ℕ) = d; omega
theorem iblk9_eq (t : Fin cfg0.N) (e : Fin 1024) (d : Fin 1024) : (iblk m c 9 t (ix2 e d) : EReal) = m ((c : Thread nD τ).loc main_arg13) (ix3 1 e d) := by
  unfold iblk
  exact (congrArg (V m c main_v21) (emb9 t e d)).trans (V21_apply m c _ _)
theorem emb10 (t : Fin cfg0.N) (d : Fin 2048) : ((cfg0.win 10).blk t).view.emb (ix2 0 d) = ix2 0 d := by
  funext a; refine Fin.ext ?_
  blk_simp [index10]
  fin_cases a
  · show 0 * 1 + 0 = 0; omega
  · show 0 * 2048 + (d : ℕ) = d; omega
theorem iblk10_eq (t : Fin cfg0.N) (d : Fin 2048) : (iblk m c 10 t (ix2 0 d) : EReal) = m ((c : Thread nD τ).loc main_arg9) (ix2 1 d) := by
  unfold iblk
  exact (congrArg (V m c main_v12) (emb10 t d)).trans (V12_apply m c _)
theorem emb11 (t : Fin cfg0.N) (d : Fin 1024) : ((cfg0.win 11).blk t).view.emb (ix2 0 d) = ix2 0 d := by
  funext a; refine Fin.ext ?_
  blk_simp [index11]
  fin_cases a
  · show 0 * 1 + 0 = 0; omega
  · show 0 * 1024 + (d : ℕ) = d; omega
theorem iblk11_eq (t : Fin cfg0.N) (d : Fin 1024) : (iblk m c 11 t (ix2 0 d) : EReal) = m ((c : Thread nD τ).loc main_arg10) (ix2 1 ⟨d, by omega⟩) := by
  unfold iblk
  exact (congrArg (V m c main_v24) (emb11 t d)).trans (V24_apply m c _)
theorem emb12 (t : Fin cfg0.N) (d : Fin 1024) : ((cfg0.win 12).blk t).view.emb (ix2 0 d) = ix2 0 d := by
  funext a; refine Fin.ext ?_
  blk_simp [index12]
  fin_cases a
  · show 0 * 1 + 0 = 0; omega
  · show 0 * 1024 + (d : ℕ) = d; omega
theorem iblk12_eq (t : Fin cfg0.N) (d : Fin 1024) : (iblk m c 12 t (ix2 0 d) : EReal) = m ((c : Thread nD τ).loc main_arg10) (ix2 1 ⟨1024 + d, by omega⟩) := by
  unfold iblk
  exact (congrArg (V m c main_v27) (emb12 t d)).trans (V27_apply m c _)
theorem emb13 (t : Fin cfg0.N) (d : Fin 1024) : ((cfg0.win 13).blk t).view.emb (ix2 0 d) = ix2 0 d := by
  funext a; refine Fin.ext ?_
  blk_simp [index13]
  fin_cases a
  · show 0 * 1 + 0 = 0; omega
  · show 0 * 1024 + (d : ℕ) = d; omega
theorem iblk13_eq (t : Fin cfg0.N) (d : Fin 1024) : (iblk m c 13 t (ix2 0 d) : EReal) = m ((c : Thread nD τ).loc main_arg14) (ix2 1 d) := by
  unfold iblk
  exact (congrArg (V m c main_v30) (emb13 t d)).trans (V30_apply m c _)
theorem emb14 (t : Fin cfg0.N) (d : Fin 1024) : ((cfg0.win 14).blk t).view.emb (ix2 0 d) = ix2 0 d := by
  funext a; refine Fin.ext ?_
  blk_simp [index14]
  fin_cases a
  · show 0 * 1 + 0 = 0; omega
  · show 0 * 1024 + (d : ℕ) = d; omega
theorem iblk14_eq (t : Fin cfg0.N) (d : Fin 1024) : (iblk m c 14 t (ix2 0 d) : EReal) = m ((c : Thread nD τ).loc main_arg15) (ix2 1 d) := by
  unfold iblk
  exact (congrArg (V m c main_v33) (emb14 t d)).trans (V33_apply m c _)
theorem emb15 (t : Fin cfg0.N) (p : Fin 512) (d : Fin 1024) : ((cfg0.win 15).blk t).view.emb (ix2 p d) = ix2 (row t p) d := by
  funext a; refine Fin.ext ?_
  blk_simp [index15]
  fin_cases a
  · show t.val * 512 + (p : ℕ) = 512 * t.val + p; omega
  · show 0 * 1024 + (d : ℕ) = d; omega

/-- The layer's rows, as the reference has them. -/
def layer : S32768x1024.Idx → EReal := fun i =>
  normal (Cert.ReferenceMergeIdeal.Read.residualAt (m ((c : Thread nD τ).loc main_arg0)) (m ((c : Thread nD τ).loc main_arg2)) (m ((c : Thread nD τ).loc main_arg1))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg13)) ⟨(i 0).val / 2048, by have := (i 0).isLt; change (i 0).val < 32768 at this; omega⟩ ⟨(i 0).val % 2048, by omega⟩)
    (fun d => m ((c : Thread nD τ).loc main_arg14) (ix2 1 d)) (fun d => m ((c : Thread nD τ).loc main_arg15) (ix2 1 d)) (i 1)

theorem rowOf_eq (t : Fin cfg0.N) (p : Fin 512) (d : Fin 1024) :
    rowOf (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) p d = layer m c (ix2 (row t p) d) := by
  unfold rowOf layer Cert.ReferenceMergeIdeal.Read.residualAt Cert.ReferenceMergeIdeal.Read.mergedAt
  rw [funext (iblk0_eq m c t p), funext (iblk1_eq m c t p), funext (iblk2_eq m c t p), funext (iblk3_eq m c t p), funext (iblk4_eq m c t p), funext (iblk5_eq m c t p),
    funext (iblk6_eq m c t p), funext (fun e => funext (iblk7_eq m c t e)), funext (fun e => funext (iblk8_eq m c t e)), funext (fun e => funext (iblk9_eq m c t e)),
    funext (iblk10_eq m c t), funext (iblk11_eq m c t), funext (iblk12_eq m c t), funext (iblk13_eq m c t), funext (iblk14_eq m c t)]
  rfl

theorem flushed_eq (t : Fin cfg0.N) (hf : (cfg0.win 15).flush t = true) :
    (dats m 0 c).flushed 15 t = ((cfg0.win 15).blk t).view.read (Elt Ideal) (layer m c) := by
  rw [Value.flushed15]
  funext y
  have key : ∀ (p : Fin 512) (q : Fin 1024), (out0_15 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix2 p q) : EReal)
      = layer m c (((cfg0.win 15).blk t).view.emb (ix2 p q)) := fun p q => by
    rw [out_eq, emb15]
    exact rowOf_eq m c t p q
  have hy : (cfg0.win 15).xinj (grid0.coords t) y = ix2 (n0 := 512) (n1 := 1024) (y 0) (y 1) := by
    funext a; fin_cases a <;> rfl
  have hy' : y = ix2 (n0 := 512) (n1 := 1024) (y 0) (y 1) := by funext a; fin_cases a <;> rfl
  show out0_15 (F := Ideal) _ _ _ _ _ _ _ _ _ _ _ _ _ _ _ ((cfg0.win 15).xinj (grid0.coords t) y) = layer m c (((cfg0.win 15).blk t).view.emb y)
  exact (congrArg (out0_15 (F := Ideal) _ _ _ _ _ _ _ _ _ _ _ _ _ _ _) hy).trans
    ((key (y 0) (y 1)).trans (congrArg (fun z => layer m c (((cfg0.win 15).blk t).view.emb z)) hy'.symm))

theorem covered (i : S32768x1024.Idx) : ∃ t : Fin cfg0.N, (cfg0.win 15).flush t = true ∧ i ∈ ((cfg0.win 15).blk t).view.set := by
  have h0 : (i 0).val < 32768 := (i 0).isLt
  have h1 : (i 1).val < 1024 := (i 1).isLt
  let t : Fin cfg0.N := ⟨(i 0).val / 512, lt_of_lt_of_eq (by omega) N_0.symm⟩
  have e0 : win0_15.index t (0 : Fin 2) = t.val := congrFun (index15 t) 0
  have e1 : win0_15.index t (1 : Fin 2) = 0 := congrFun (index15 t) 1
  have ht : t.val = (i 0).val / 512 := rfl
  refine ⟨t, flush15 t, ?_⟩
  show i ∈ ((View.whole main_v39).slice (win0_15.rect t)).set
  rw [View.set_slice_whole, Rect.mem_set_unit]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 1024 ≤ (i 1).val ∧ (i 1).val < win0_15.index t (1 : Fin 2) * 1024 + 1024; omega

theorem final : (dats m 0 c).arrAt 15 cfg0.N = layer m c :=
  (dats m 0 c).arrAt_eq_of_cover 15 _ (fun t hf => flushed_eq m c t hf) (covered)

/-- The call's array is the reference's, over the same arguments. -/
theorem meet (x0 x2 : (⟨S16x2048x2048, .f32⟩ : BufTy).Contents (Elt Ideal)) (x1 x5 x6 x7 x8 : (⟨S16x2048x1024, .f32⟩ : BufTy).Contents (Elt Ideal))
    (x9 x10 : (⟨S2x2048, .f32⟩ : BufTy).Contents (Elt Ideal)) (x11 : (⟨S2x2048x1024, .f32⟩ : BufTy).Contents (Elt Ideal))
    (x12 x13 : (⟨S2x1024x1024, .f32⟩ : BufTy).Contents (Elt Ideal)) (x14 x15 : (⟨S2x1024, .f32⟩ : BufTy).Contents (Elt Ideal))
    (h0 : x0 = m ((c : Thread nD τ).loc main_arg0)) (h1 : x1 = m ((c : Thread nD τ).loc main_arg1)) (h2 : x2 = m ((c : Thread nD τ).loc main_arg2))
    (h5 : x5 = m ((c : Thread nD τ).loc main_arg5)) (h6 : x6 = m ((c : Thread nD τ).loc main_arg6)) (h7 : x7 = m ((c : Thread nD τ).loc main_arg7))
    (h8 : x8 = m ((c : Thread nD τ).loc main_arg8)) (h9 : x9 = m ((c : Thread nD τ).loc main_arg9)) (h10 : x10 = m ((c : Thread nD τ).loc main_arg10))
    (h11 : x11 = m ((c : Thread nD τ).loc main_arg11)) (h12 : x12 = m ((c : Thread nD τ).loc main_arg12)) (h13 : x13 = m ((c : Thread nD τ).loc main_arg13))
    (h14 : x14 = m ((c : Thread nD τ).loc main_arg14)) (h15 : x15 = m ((c : Thread nD τ).loc main_arg15)) :
    Cert.ReferenceMergeIdeal.Read.val_main_v86 (F := Ideal) x0 x1 x2 x5 x6 x7 x8 x9 x10 x11 x12 x13 x14 x15 = (dats m 0 c).arrAt 15 cfg0.N := by
  rw [final, h0, h1, h2, h5, h6, h7, h8, h9, h10, h11, h12, h13, h14, h15]
  funext i
  have hi : i = ix2 (n0 := 32768) (n1 := 1024) (i 0) (i 1) := by funext a; fin_cases a <;> rfl
  exact (congrArg _ hi).trans (Cert.ReferenceMergeIdeal.Read.v86_val _ _ _ _ _ _ _ _ _ _ _ _ _ _ (i 0) (i 1))

end Cert.MergeIdeal.Tile

end
-- ==== Proof.Forget.lean ====
/- The gates of the forgetting heads: their logarithms, frames last, and the running sums of the logarithms over the frames. The
   call takes the frames in trips of 128; a trip's running sums are a product with a triangle of ones, plus the last sums of
   the trip before it. -/
module

public import proofs.«01_k».proof.Proof.Gen.ForgetSecondIdeal.Value
public import proofs.«01_k».proof.Proof.Gen.ReferenceForgetSecondIdeal.Read
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.Lib.WholeRead

@[expose] public section

set_option maxRecDepth 16384
set_option maxHeartbeats 2000000

noncomputable section

namespace Cert.Gates

open Idealize.ShloMosaic

/-- The logarithm of the logistic of a number, as the call computes it. -/
def lsig (y : EReal) : EReal := 0 - (max (0 - y) 0 + Ideal.log1p (Ideal.exp (0 - FloatOps.absf (F := Ideal) (φ := .f32) (0 - y))))

/-- The same, as the reference computes it. -/
theorem lsig_ref (y : EReal) :
    (-(if -y ≠ -y then -y else max (-y) 0 + Ideal.log1p (Ideal.exp (-FloatOps.absf (F := Ideal) (φ := .f32) (-y)))) : EReal) = lsig y := by
  unfold lsig
  rw [if_neg (fun h => h rfl), zero_sub, zero_sub, zero_sub]

/-- A sum over a trip of the numbers up to a place. -/
theorem sum_upto (f : ℕ → EReal) (n : ℕ) (q : Fin 128) :
    ∑ k : Fin 128, f (n + k) * (if (k : ℕ) ≤ q then (1 : EReal) else 0) = ∑ k ∈ Finset.range ((q : ℕ) + 1), f (n + k) := by
  rw [Fin.sum_univ_eq_sum_range (fun k => f (n + k) * (if k ≤ (q : ℕ) then (1 : EReal) else 0)) 128]
  rw [← Finset.sum_subset (s₁ := Finset.range ((q : ℕ) + 1)) (s₂ := Finset.range 128)]
  · refine Finset.sum_congr rfl fun k hk => ?_
    rw [if_pos (Nat.lt_succ_iff.mp (Finset.mem_range.mp hk)), mul_one]
  · exact Finset.range_subset_range.mpr q.isLt
  · intro k _ hk
    rw [if_neg (fun h => hk (Finset.mem_range.mpr (Nat.lt_succ_of_le h))), mul_zero]

/-- The sum over the window ending at a place, the places before the first counted as zero. -/
theorem sum_window (f : ℕ → EReal) (j : ℕ) (hj : j < 2048) :
    ∑ k : Fin 2048, (if 2047 ≤ j + (k : ℕ) then f (j + k - 2047) else 0) = ∑ s ∈ Finset.range (j + 1), f s := by
  rw [Fin.sum_univ_eq_sum_range (fun k => if 2047 ≤ j + k then f (j + k - 2047) else 0) 2048]
  rw [show (2048 : ℕ) = (2047 - j) + (j + 1) by omega, Finset.sum_range_add]
  rw [Finset.sum_eq_zero (s := Finset.range (2047 - j)) (fun k hk => if_neg (by have := Finset.mem_range.mp hk; omega)), zero_add]
  refine Finset.sum_congr rfl fun k hk => ?_
  rw [if_pos (by omega)]
  exact congrArg f (by omega)

/-- Adding up a list from the left is its sum. -/
theorem foldl_add {α : Type} (g : α → EReal) : ∀ (l : List α) (a : EReal), l.foldl (fun r n => r + g n) a = a + (l.map g).sum
  | [], a => by simp
  | n :: l, a => by rw [List.foldl_cons, foldl_add g l, List.map_cons, List.sum_cons, add_assoc]

/-- The places of the window, by the one axis that has more than one. -/
def windowEquiv : Fin 2048 ≃ (⟨3, ![1, 2048, 1]⟩ : Shape).Idx where
  toFun k := ix3 (n0 := 1) (n1 := 2048) (n2 := 1) 0 k 0
  invFun w := w 1
  left_inv k := rfl
  right_inv w := by
    funext a
    fin_cases a
    · exact Subsingleton.elim (α := Fin 1) _ _
    · rfl
    · exact Subsingleton.elim (α := Fin 1) _ _

end Cert.Gates

namespace Cert.ForgetSecondIdeal.Tile

open Idealize.ShloMosaic Idealize.ShloMosaic.TcCoe Cert.ForgetSecondIdeal Cert.ForgetSecondIdeal.Gen Cert.Gates

section Block

variable (c : Dev nD) (t : Fin cfg0.N) (X : Vec Ideal S2048x128 .f32) (B : Vec Ideal S16x1 .f32)

theorem inb_rows (n : ℕ) (h : n < 16) : ∀ a, (![128 * n, 0] : Fin 2 → ℕ) a + (![128, 128] : Fin 2 → ℕ) a ≤ S2048x128.size a := by
  intro a; fin_cases a
  · show 128 * n + 128 ≤ 2048; omega
  · show 0 + 128 ≤ 128; omega

/-- The 128 frames of a trip, all columns. -/
def rows (n : ℕ) (h : n < 16) : Vec Ideal S128x128 .f32 :=
  View.readAt (Elt Ideal) (ms0_0 t).view (Rect.unit (s := S2048x128) ![128 * n, 0] ![128, 128] (inb_rows n h)).toLoadRect ((hs0_0 t).unread X)

/-- The offsets of the heads. -/
def offs : Vec Ideal S16x1 .f32 :=
  View.readAt (Elt Ideal) (ms0_1 t).view (Rect.unit (s := S16x1) ![0, 0] ![16, 1] inb_S16x1_S16x1_0_0).toLoadRect ((hs0_1 t).unread B)

/-- The logarithms of the gates of a trip. -/
def gates (n : ℕ) (h : n < 16) : FVec Ideal S16x128 .f32 := k0_pay9 (F := Ideal) (k0_pay8 (F := Ideal) (rows t X n h)) (offs t B)

/-- The running sums of a trip, from those of the trip before it. -/
def sums : (n : ℕ) → n < 16 → FVec Ideal S16x128 .f32
  | 0, h => k0_pay5 (F := Ideal) (rows t X 0 h) (offs t B)
  | n + 1, h => k0_pay11 (F := Ideal) (k0_pay2 (F := Ideal)) (extractStridedSlice S16x1 ![0, 127] (sums n (by omega)) slices_S16x128_o0_127_S16x1) (k0_pay8 (F := Ideal) (rows t X (n + 1) h)) (offs t B)

def gatesPut (n : ℕ) (h : n < 16) : FVec Ideal S1x1x16x128 .f32 := shapeCast S1x1x16x128 (gates t X B n h) shapeCasts_S16x128_S1x1x16x128
def sumsPut (n : ℕ) (h : n < 16) : FVec Ideal S1x16x128 .f32 := k0_pay1 (sums t X B n h)

/-- The writes of a point, the last first. -/
def sumsList : List (View.Piece (Elt Ideal) S1x16x2048 .f32) := [⟨Rect.unit ![0, 0, 1920] ![1, 16, 128] inb_S1x16x2048_S1x16x128_0_0_1920, sumsPut t X B 15 (by decide)⟩, ⟨Rect.unit ![0, 0, 1792] ![1, 16, 128] inb_S1x16x2048_S1x16x128_0_0_1792, sumsPut t X B 14 (by decide)⟩, ⟨Rect.unit ![0, 0, 1664] ![1, 16, 128] inb_S1x16x2048_S1x16x128_0_0_1664, sumsPut t X B 13 (by decide)⟩, ⟨Rect.unit ![0, 0, 1536] ![1, 16, 128] inb_S1x16x2048_S1x16x128_0_0_1536, sumsPut t X B 12 (by decide)⟩, ⟨Rect.unit ![0, 0, 1408] ![1, 16, 128] inb_S1x16x2048_S1x16x128_0_0_1408, sumsPut t X B 11 (by decide)⟩, ⟨Rect.unit ![0, 0, 1280] ![1, 16, 128] inb_S1x16x2048_S1x16x128_0_0_1280, sumsPut t X B 10 (by decide)⟩, ⟨Rect.unit ![0, 0, 1152] ![1, 16, 128] inb_S1x16x2048_S1x16x128_0_0_1152, sumsPut t X B 9 (by decide)⟩, ⟨Rect.unit ![0, 0, 1024] ![1, 16, 128] inb_S1x16x2048_S1x16x128_0_0_1024, sumsPut t X B 8 (by decide)⟩, ⟨Rect.unit ![0, 0, 896] ![1, 16, 128] inb_S1x16x2048_S1x16x128_0_0_896, sumsPut t X B 7 (by decide)⟩, ⟨Rect.unit ![0, 0, 768] ![1, 16, 128] inb_S1x16x2048_S1x16x128_0_0_768, sumsPut t X B 6 (by decide)⟩, ⟨Rect.unit ![0, 0, 640] ![1, 16, 128] inb_S1x16x2048_S1x16x128_0_0_640, sumsPut t X B 5 (by decide)⟩, ⟨Rect.unit ![0, 0, 512] ![1, 16, 128] inb_S1x16x2048_S1x16x128_0_0_512, sumsPut t X B 4 (by decide)⟩, ⟨Rect.unit ![0, 0, 384] ![1, 16, 128] inb_S1x16x2048_S1x16x128_0_0_384, sumsPut t X B 3 (by decide)⟩, ⟨Rect.unit ![0, 0, 256] ![1, 16, 128] inb_S1x16x2048_S1x16x128_0_0_256, sumsPut t X B 2 (by decide)⟩, ⟨Rect.unit ![0, 0, 128] ![1, 16, 128] inb_S1x16x2048_S1x16x128_0_0_128, sumsPut t X B 1 (by decide)⟩, ⟨Rect.unit ![0, 0, 0] ![1, 16, 128] inb_S1x16x2048_S1x16x128_0_0_0, sumsPut t X B 0 (by decide)⟩]
def gatesList : List (View.Piece (Elt Ideal) S1x1x16x2048 .f32) := [⟨Rect.unit ![0, 0, 0, 1920] ![1, 1, 16, 128] inb_S1x1x16x2048_S1x1x16x128_0_0_0_1920, gatesPut t X B 15 (by decide)⟩, ⟨Rect.unit ![0, 0, 0, 1792] ![1, 1, 16, 128] inb_S1x1x16x2048_S1x1x16x128_0_0_0_1792, gatesPut t X B 14 (by decide)⟩, ⟨Rect.unit ![0, 0, 0, 1664] ![1, 1, 16, 128] inb_S1x1x16x2048_S1x1x16x128_0_0_0_1664, gatesPut t X B 13 (by decide)⟩, ⟨Rect.unit ![0, 0, 0, 1536] ![1, 1, 16, 128] inb_S1x1x16x2048_S1x1x16x128_0_0_0_1536, gatesPut t X B 12 (by decide)⟩, ⟨Rect.unit ![0, 0, 0, 1408] ![1, 1, 16, 128] inb_S1x1x16x2048_S1x1x16x128_0_0_0_1408, gatesPut t X B 11 (by decide)⟩, ⟨Rect.unit ![0, 0, 0, 1280] ![1, 1, 16, 128] inb_S1x1x16x2048_S1x1x16x128_0_0_0_1280, gatesPut t X B 10 (by decide)⟩, ⟨Rect.unit ![0, 0, 0, 1152] ![1, 1, 16, 128] inb_S1x1x16x2048_S1x1x16x128_0_0_0_1152, gatesPut t X B 9 (by decide)⟩, ⟨Rect.unit ![0, 0, 0, 1024] ![1, 1, 16, 128] inb_S1x1x16x2048_S1x1x16x128_0_0_0_1024, gatesPut t X B 8 (by decide)⟩, ⟨Rect.unit ![0, 0, 0, 896] ![1, 1, 16, 128] inb_S1x1x16x2048_S1x1x16x128_0_0_0_896, gatesPut t X B 7 (by decide)⟩, ⟨Rect.unit ![0, 0, 0, 768] ![1, 1, 16, 128] inb_S1x1x16x2048_S1x1x16x128_0_0_0_768, gatesPut t X B 6 (by decide)⟩, ⟨Rect.unit ![0, 0, 0, 640] ![1, 1, 16, 128] inb_S1x1x16x2048_S1x1x16x128_0_0_0_640, gatesPut t X B 5 (by decide)⟩, ⟨Rect.unit ![0, 0, 0, 512] ![1, 1, 16, 128] inb_S1x1x16x2048_S1x1x16x128_0_0_0_512, gatesPut t X B 4 (by decide)⟩, ⟨Rect.unit ![0, 0, 0, 384] ![1, 1, 16, 128] inb_S1x1x16x2048_S1x1x16x128_0_0_0_384, gatesPut t X B 3 (by decide)⟩, ⟨Rect.unit ![0, 0, 0, 256] ![1, 1, 16, 128] inb_S1x1x16x2048_S1x1x16x128_0_0_0_256, gatesPut t X B 2 (by decide)⟩, ⟨Rect.unit ![0, 0, 0, 128] ![1, 1, 16, 128] inb_S1x1x16x2048_S1x1x16x128_0_0_0_128, gatesPut t X B 1 (by decide)⟩, ⟨Rect.unit ![0, 0, 0, 0] ![1, 1, 16, 128] inb_S1x1x16x2048_S1x1x16x128_0_0_0_0, gatesPut t X B 0 (by decide)⟩]

theorem pieces3 : out0_A_3 (F := Ideal) c (grid0.coords t) (ms0_0 t) (hs0_0 t) (ms0_1 t) (hs0_1 t) (ms0_2 t) (hs0_2 t) (ms0_3 t) (hs0_3 t) X B
    = View.canon (sumsList t X B) := by
  unfold out0_A_3
  rw [View.read_writes_junk_eq_canon]
  unfold kernelRun0_A
  dsimp only
  rfl

theorem pieces2 : out0_A_2 (F := Ideal) c (grid0.coords t) (ms0_0 t) (hs0_0 t) (ms0_1 t) (hs0_1 t) (ms0_2 t) (hs0_2 t) (ms0_3 t) (hs0_3 t) X B
    = View.canon (gatesList t X B) := by
  unfold out0_A_2
  rw [View.read_writes_junk_eq_canon]
  unfold kernelRun0_A
  dsimp only
  rfl

theorem rows_val (n : ℕ) (h : n < 16) (a b : Fin 128) : (rows t X n h (ix2 a b) : EReal) = X (ix2 ⟨128 * n + a, by omega⟩ b) := by
  unfold rows
  rw [Memref.IsWhole.readAt_unread (hs0_0 t)]
  refine congrArg X ?_
  funext j; refine Fin.ext ?_
  fin_cases j
  · show 128 * n + 1 * (a : ℕ) = 128 * n + a; omega
  · show 0 + 1 * (b : ℕ) = b; omega

theorem offs_val (p : Fin 16) : (offs t B (ix2 p 0) : EReal) = B (ix2 p 0) := by
  unfold offs
  rw [Memref.IsWhole.readAt_unread (hs0_1 t)]
  exact congrArg B (by funext a; refine Fin.ext ?_; fin_cases a <;> exact (Nat.zero_add _).trans (Nat.one_mul _))

theorem upper_val (k q : Fin 128) : (k0_pay2 (F := Ideal) (ix2 k q) : EReal) = if (k : ℕ) ≤ q then 1 else 0 := by
  unfold k0_pay2
  pointwise
  rw [WordCmp.cmpi_sle_ofNat (by omega) (by omega)]
  by_cases h : (k : ℕ) ≤ q
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

theorem pay9_val (V : FVec Ideal S128x128 .f32) (O : Vec Ideal S16x1 .f32) (p : Fin 16) (q : Fin 128) :
    (k0_pay9 (F := Ideal) V O (ix2 p q) : EReal) = lsig (V (ix2 q ⟨32 + p, by omega⟩) + O (ix2 p 0)) := by
  unfold k0_pay9 lsig
  pointwise

theorem pay11_val (U : FVec Ideal S128x128 .f32) (K : FVec Ideal S16x1 .f32) (V : FVec Ideal S128x128 .f32) (O : Vec Ideal S16x1 .f32) (p : Fin 16) (q : Fin 128) :
    (k0_pay11 (F := Ideal) U K V O (ix2 p q) : EReal) = ∑ k : Fin 128, k0_pay9 (F := Ideal) V O (ix2 p k) * U (ix2 k q) + K (ix2 p 0) := by
  unfold k0_pay11
  generalize k0_pay9 (F := Ideal) V O = G
  pointwise

theorem pay5_val (V : Vec Ideal S128x128 .f32) (O : Vec Ideal S16x1 .f32) (p : Fin 16) (q : Fin 128) :
    (k0_pay5 (F := Ideal) V O (ix2 p q) : EReal) = ∑ k : Fin 128, k0_pay9 (F := Ideal) (k0_pay8 (F := Ideal) V) O (ix2 p k) * k0_pay2 (F := Ideal) (ix2 k q) := by
  show (addf (matmul dot_S16x128_S128x128_S16x128_1_0_0_1_n_n (some .fp32) (k0_pay9 (F := Ideal) (k0_pay8 (F := Ideal) V) O) (k0_pay2 (F := Ideal)) (constant S16x128 .f32 0x00000000#32))
    (broadcastTo S16x128 (broadcast S16x1 (Scalar.ofBits (F := Ideal) .f32 0x00000000#32)) broadcasts_S16x1_S16x128) (ix2 p q) : EReal) = _
  generalize k0_pay9 (F := Ideal) (k0_pay8 (F := Ideal) V) O = G
  generalize k0_pay2 (F := Ideal) = U
  pointwise

theorem pay8_val (V : Vec Ideal S128x128 .f32) (a b : Fin 128) : (k0_pay8 (F := Ideal) V (ix2 a b) : EReal) = V (ix2 a b) := by
  unfold k0_pay8
  pointwise

theorem pay1_val (v : FVec Ideal S16x128 .f32) (a : Fin 1) (p : Fin 16) (q : Fin 128) : (k0_pay1 (F := Ideal) v (ix3 a p q) : EReal) = v (ix2 p q) := by
  unfold k0_pay1
  pointwise

theorem put_val (v : FVec Ideal S16x128 .f32) (a b : Fin 1) (p : Fin 16) (q : Fin 128) : (shapeCast S1x1x16x128 v shapeCasts_S16x128_S1x1x16x128 (ix4 a b p q) : EReal) = v (ix2 p q) := by
  pointwise

theorem last_val (v : FVec Ideal S16x128 .f32) (p : Fin 16) : (extractStridedSlice S16x1 ![0, 127] v slices_S16x128_o0_127_S16x1 (ix2 p 0) : EReal) = v (ix2 p 127) := by
  pointwise

/-- The logarithm of the gate of a head at a frame; zero past the last frame. -/
def gateAt (p : Fin 16) (s : ℕ) : EReal := if h : s < 2048 then lsig (X (ix2 ⟨s, h⟩ ⟨32 + p, by omega⟩) + B (ix2 p 0)) else 0

theorem gates_val (n : ℕ) (h : n < 16) (p : Fin 16) (q : Fin 128) : (gates t X B n h (ix2 p q) : EReal) = gateAt X B p (128 * n + q) := by
  unfold gates gateAt
  rw [pay9_val, pay8_val, rows_val, offs_val, dif_pos (by omega)]

theorem trip_val (n : ℕ) (h : n < 16) (p : Fin 16) (q : Fin 128) :
    ∑ k : Fin 128, (gates t X B n h (ix2 p k) : EReal) * k0_pay2 (F := Ideal) (ix2 k q) = ∑ k ∈ Finset.range ((q : ℕ) + 1), gateAt X B p (128 * n + k) := by
  rw [← sum_upto (gateAt X B p) (128 * n) q]
  refine Finset.sum_congr rfl fun k _ => ?_
  rw [gates_val, upper_val]

theorem sums_val : ∀ (n : ℕ) (h : n < 16) (p : Fin 16) (q : Fin 128), (sums t X B n h (ix2 p q) : EReal) = ∑ s ∈ Finset.range (128 * n + q + 1), gateAt X B p s
  | 0, h, p, q => by
    show (k0_pay5 (F := Ideal) (rows t X 0 h) (offs t B) (ix2 p q) : EReal) = _
    rw [pay5_val]
    refine (trip_val t X B 0 h p q).trans ?_
    rw [show 128 * 0 + (q : ℕ) + 1 = (q : ℕ) + 1 by omega]
    exact Finset.sum_congr rfl fun k _ => congrArg (gateAt X B p) (by omega)
  | n + 1, h, p, q => by
    show (k0_pay11 (F := Ideal) (k0_pay2 (F := Ideal)) (extractStridedSlice S16x1 ![0, 127] (sums t X B n (by omega)) slices_S16x128_o0_127_S16x1) (k0_pay8 (F := Ideal) (rows t X (n + 1) h)) (offs t B) (ix2 p q) : EReal) = _
    rw [pay11_val, last_val, sums_val n (by omega) p 127]
    refine (congrArg (· + _) (trip_val t X B (n + 1) h p q)).trans ?_
    rw [show 128 * n + ((127 : Fin 128) : ℕ) + 1 = 128 * (n + 1) from by show 128 * n + 127 + 1 = 128 * (n + 1); omega]
    exact (add_comm _ _).trans (Finset.sum_range_add (gateAt X B p) (128 * (n + 1)) ((q : ℕ) + 1)).symm

/-- What the call leaves of a block, place by place. -/
def sumsOf (y : S1x16x2048.Idx) : EReal := ∑ s ∈ Finset.range ((y 2 : ℕ) + 1), gateAt X B (y 1) s
def gatesOf (y : S1x1x16x2048.Idx) : EReal := gateAt X B (y 2) (y 3 : ℕ)

theorem sumsPut_val (n : ℕ) (h : n < 16) (o : ℕ) (ho : o = 128 * n) (inb : ∀ a, (![0, 0, o] : Fin 3 → ℕ) a + (![1, 16, 128] : Fin 3 → ℕ) a ≤ S1x16x2048.size a) (x : S1x16x128.Idx) :
    (sumsPut t X B n h x : EReal) = sumsOf X B ((Rect.unit (s := S1x16x2048) ![0, 0, o] ![1, 16, 128] inb).emb x) := by
  subst ho
  have hi : x = ix3 (n0 := 1) (n1 := 16) (n2 := 128) (x 0) (x 1) (x 2) := by funext a; fin_cases a <;> rfl
  have he : (Rect.unit (s := S1x16x2048) ![0, 0, 128 * n] ![1, 16, 128] inb).emb x = ix3 (n0 := 1) (n1 := 16) (n2 := 2048) (x 0) (x 1) ⟨128 * n + (x 2 : ℕ), by have h2 : (x 2 : ℕ) < 128 := (x 2).isLt; omega⟩ := by
    funext a; refine Fin.ext ?_
    fin_cases a
    · show 0 + 1 * (x 0 : ℕ) = (x 0 : ℕ); omega
    · show 0 + 1 * (x 1 : ℕ) = (x 1 : ℕ); omega
    · show 128 * n + 1 * (x 2 : ℕ) = 128 * n + (x 2 : ℕ); omega
  refine (congrArg (sumsPut t X B n h) hi).trans ?_
  unfold sumsPut
  refine (pay1_val _ (x 0) (x 1) (x 2)).trans ((sums_val t X B n h (x 1) (x 2)).trans ?_)
  exact (congrArg (sumsOf X B) he).symm

theorem gatesPut_val (n : ℕ) (h : n < 16) (o : ℕ) (ho : o = 128 * n) (inb : ∀ a, (![0, 0, 0, o] : Fin 4 → ℕ) a + (![1, 1, 16, 128] : Fin 4 → ℕ) a ≤ S1x1x16x2048.size a) (x : S1x1x16x128.Idx) :
    (gatesPut t X B n h x : EReal) = gatesOf X B ((Rect.unit (s := S1x1x16x2048) ![0, 0, 0, o] ![1, 1, 16, 128] inb).emb x) := by
  subst ho
  have hi : x = ix4 (n0 := 1) (n1 := 1) (n2 := 16) (n3 := 128) (x 0) (x 1) (x 2) (x 3) := by funext a; fin_cases a <;> rfl
  have he : (Rect.unit (s := S1x1x16x2048) ![0, 0, 0, 128 * n] ![1, 1, 16, 128] inb).emb x = ix4 (n0 := 1) (n1 := 1) (n2 := 16) (n3 := 2048) (x 0) (x 1) (x 2) ⟨128 * n + (x 3 : ℕ), by have h2 : (x 3 : ℕ) < 128 := (x 3).isLt; omega⟩ := by
    funext a; refine Fin.ext ?_
    fin_cases a
    · show 0 + 1 * (x 0 : ℕ) = (x 0 : ℕ); omega
    · show 0 + 1 * (x 1 : ℕ) = (x 1 : ℕ); omega
    · show 0 + 1 * (x 2 : ℕ) = (x 2 : ℕ); omega
    · show 128 * n + 1 * (x 3 : ℕ) = 128 * n + (x 3 : ℕ); omega
  refine (congrArg (gatesPut t X B n h) hi).trans ?_
  unfold gatesPut
  refine (put_val _ (x 0) (x 1) (x 2) (x 3)).trans ((gates_val t X B n h (x 2) (x 3)).trans ?_)
  exact (congrArg (gatesOf X B) he).symm

theorem out3_eq (p : Fin 16) (q : Fin 2048) :
    (out0_A_3 (F := Ideal) c (grid0.coords t) (ms0_0 t) (hs0_0 t) (ms0_1 t) (hs0_1 t) (ms0_2 t) (hs0_2 t) (ms0_3 t) (hs0_3 t) X B (ix3 0 p q) : EReal)
      = ∑ s ∈ Finset.range ((q : ℕ) + 1), gateAt X B p s := by
  rw [pieces3 c t X B]
  have := View.canon_append_of_piecesOf (sumsOf X B : S1x16x2048.Idx → Elt Ideal .f32) []
    (sumsList t X B) (by unfold sumsList; exact ⟨fun x => sumsPut_val t X B 15 (by decide) 1920 rfl inb_S1x16x2048_S1x16x128_0_0_1920 x, fun x => sumsPut_val t X B 14 (by decide) 1792 rfl inb_S1x16x2048_S1x16x128_0_0_1792 x, fun x => sumsPut_val t X B 13 (by decide) 1664 rfl inb_S1x16x2048_S1x16x128_0_0_1664 x, fun x => sumsPut_val t X B 12 (by decide) 1536 rfl inb_S1x16x2048_S1x16x128_0_0_1536 x, fun x => sumsPut_val t X B 11 (by decide) 1408 rfl inb_S1x16x2048_S1x16x128_0_0_1408 x, fun x => sumsPut_val t X B 10 (by decide) 1280 rfl inb_S1x16x2048_S1x16x128_0_0_1280 x, fun x => sumsPut_val t X B 9 (by decide) 1152 rfl inb_S1x16x2048_S1x16x128_0_0_1152 x, fun x => sumsPut_val t X B 8 (by decide) 1024 rfl inb_S1x16x2048_S1x16x128_0_0_1024 x, fun x => sumsPut_val t X B 7 (by decide) 896 rfl inb_S1x16x2048_S1x16x128_0_0_896 x, fun x => sumsPut_val t X B 6 (by decide) 768 rfl inb_S1x16x2048_S1x16x128_0_0_768 x, fun x => sumsPut_val t X B 5 (by decide) 640 rfl inb_S1x16x2048_S1x16x128_0_0_640 x, fun x => sumsPut_val t X B 4 (by decide) 512 rfl inb_S1x16x2048_S1x16x128_0_0_512 x, fun x => sumsPut_val t X B 3 (by decide) 384 rfl inb_S1x16x2048_S1x16x128_0_0_384 x, fun x => sumsPut_val t X B 2 (by decide) 256 rfl inb_S1x16x2048_S1x16x128_0_0_256 x, fun x => sumsPut_val t X B 1 (by decide) 128 rfl inb_S1x16x2048_S1x16x128_0_0_128 x, fun x => sumsPut_val t X B 0 (by decide) 0 rfl inb_S1x16x2048_S1x16x128_0_0_0 x, trivial⟩) (ix3 0 p q) (View.cover_of_tiledL (sumsList t X B) S1x16x128.size (by sl_kernel_rfl) _)
  rw [List.append_nil] at this
  exact this

theorem out2_eq (p : Fin 16) (q : Fin 2048) :
    (out0_A_2 (F := Ideal) c (grid0.coords t) (ms0_0 t) (hs0_0 t) (ms0_1 t) (hs0_1 t) (ms0_2 t) (hs0_2 t) (ms0_3 t) (hs0_3 t) X B (ix4 0 0 p q) : EReal)
      = gateAt X B p q := by
  rw [pieces2 c t X B]
  have := View.canon_append_of_piecesOf (gatesOf X B : S1x1x16x2048.Idx → Elt Ideal .f32) []
    (gatesList t X B) (by unfold gatesList; exact ⟨fun x => gatesPut_val t X B 15 (by decide) 1920 rfl inb_S1x1x16x2048_S1x1x16x128_0_0_0_1920 x, fun x => gatesPut_val t X B 14 (by decide) 1792 rfl inb_S1x1x16x2048_S1x1x16x128_0_0_0_1792 x, fun x => gatesPut_val t X B 13 (by decide) 1664 rfl inb_S1x1x16x2048_S1x1x16x128_0_0_0_1664 x, fun x => gatesPut_val t X B 12 (by decide) 1536 rfl inb_S1x1x16x2048_S1x1x16x128_0_0_0_1536 x, fun x => gatesPut_val t X B 11 (by decide) 1408 rfl inb_S1x1x16x2048_S1x1x16x128_0_0_0_1408 x, fun x => gatesPut_val t X B 10 (by decide) 1280 rfl inb_S1x1x16x2048_S1x1x16x128_0_0_0_1280 x, fun x => gatesPut_val t X B 9 (by decide) 1152 rfl inb_S1x1x16x2048_S1x1x16x128_0_0_0_1152 x, fun x => gatesPut_val t X B 8 (by decide) 1024 rfl inb_S1x1x16x2048_S1x1x16x128_0_0_0_1024 x, fun x => gatesPut_val t X B 7 (by decide) 896 rfl inb_S1x1x16x2048_S1x1x16x128_0_0_0_896 x, fun x => gatesPut_val t X B 6 (by decide) 768 rfl inb_S1x1x16x2048_S1x1x16x128_0_0_0_768 x, fun x => gatesPut_val t X B 5 (by decide) 640 rfl inb_S1x1x16x2048_S1x1x16x128_0_0_0_640 x, fun x => gatesPut_val t X B 4 (by decide) 512 rfl inb_S1x1x16x2048_S1x1x16x128_0_0_0_512 x, fun x => gatesPut_val t X B 3 (by decide) 384 rfl inb_S1x1x16x2048_S1x1x16x128_0_0_0_384 x, fun x => gatesPut_val t X B 2 (by decide) 256 rfl inb_S1x1x16x2048_S1x1x16x128_0_0_0_256 x, fun x => gatesPut_val t X B 1 (by decide) 128 rfl inb_S1x1x16x2048_S1x1x16x128_0_0_0_128 x, fun x => gatesPut_val t X B 0 (by decide) 0 rfl inb_S1x1x16x2048_S1x1x16x128_0_0_0_0 x, trivial⟩) (ix4 0 0 p q) (View.cover_of_tiledL (gatesList t X B) S1x1x16x128.size (by sl_kernel_rfl) _)
  rw [List.append_nil] at this
  exact this

end Block

end Cert.ForgetSecondIdeal.Tile

namespace Cert.ReferenceForgetSecondIdeal.Read

open Idealize.ShloMosaic Idealize.ShloMosaic.TcCoe Cert.ReferenceForgetSecondIdeal Cert.ReferenceForgetSecondIdeal.Gen Cert.Gates

variable (x0 : (⟨S16x2048x16, .f32⟩ : BufTy).Contents (Elt Ideal)) (x2 : (⟨S2x16, .f32⟩ : BufTy).Contents (Elt Ideal)) (x3 : (⟨S2x16x16x2048, .f32⟩ : BufTy).Contents (Elt Ideal))

theorem v5_val (b : Fin 16) (s : Fin 2048) (p : Fin 16) : (val_main_v5 (F := Ideal) x0 x2 (ix3 b s p) : EReal) = lsig (x0 (ix3 b s p) + x2 (ix2 1 p)) := by
  rw [← lsig_ref]
  unfold val_main_v5 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v4 val_main_v3 val_main_v2 val_main_v1 val_main_v0
  pointwise

theorem v12_val (l : Fin 2) (b : Fin 16) (p : Fin 16) (s : Fin 2048) : (val_main_v12 (F := Ideal) x0 x2 x3 (ix4 l b p s) : EReal)
    = if h : (l : ℕ) < 1 then x3 (ix4 0 b p s) else val_main_v5 (F := Ideal) x0 x2 (ix3 b s p) := by
  unfold val_main_v12 val_main_v11 val_main_v10 val_main_v9 val_main_v8 val_main_v7
  generalize val_main_v5 (F := Ideal) x0 x2 = G
  pointwise

theorem v13_val (b : Fin 16) (p : Fin 16) (s : Fin 2048) : (val_main_v13 (F := Ideal) x0 x2 (ix3 b p s) : EReal) = val_main_v6 (F := Ideal) x0 x2 (ix3 b s p) := by
  unfold val_main_v13
  generalize val_main_v6 (F := Ideal) x0 x2 = G
  pointwise

theorem window_val (G : FVec Ideal S16x2048x16 .f32) (f : ℕ → EReal) (b : Fin 16) (s : Fin 2048) (p : Fin 16) (hf : ∀ r : Fin 2048, f r = G (ix3 b r p)) :
    (Ideal.hostReduceWindowAdd ![1, 2048, 1] ![1, 1, 1] ![0, 2047, 0] ![0, 0, 0] reduceWindows_S16x2048x16_S16x2048x16_w1s1p0_0_w2048s1p2047_0_w1s1p0_0 G 0 (ix3 b s p) : EReal)
      = ∑ r ∈ Finset.range ((s : ℕ) + 1), f r := by
  unfold Ideal.hostReduceWindowAdd Host.reduceWindow
  dsimp only
  rw [foldl_add, zero_add, ← Fin.sum_univ_def, ← sum_window f s s.isLt]
  refine Fintype.sum_equiv ((Shape.rowMajor (⟨3, ![1, 2048, 1]⟩ : Shape)).symm.trans windowEquiv.symm) _ _ fun n => ?_
  let w := (Shape.rowMajor (⟨3, ![1, 2048, 1]⟩ : Shape)).symm n
  show _ = if 2047 ≤ (s : ℕ) + (w 1 : ℕ) then f ((s : ℕ) + (w 1 : ℕ) - 2047) else 0
  have w0 : (w 0 : ℕ) < 1 := (w 0).isLt
  have w1 : (w 1 : ℕ) < 2048 := (w 1).isLt
  have w2 : (w 2 : ℕ) < 1 := (w 2).isLt
  by_cases h : 2047 ≤ (s : ℕ) + (w 1 : ℕ)
  · rw [if_pos h, dif_pos (by
      intro a
      fin_cases a
      · show 0 ≤ (b : ℕ) * 1 + (w 0 : ℕ) ∧ (b : ℕ) * 1 + (w 0 : ℕ) - 0 < 16; omega
      · show 2047 ≤ (s : ℕ) * 1 + (w 1 : ℕ) ∧ (s : ℕ) * 1 + (w 1 : ℕ) - 2047 < 2048; omega
      · show 0 ≤ (p : ℕ) * 1 + (w 2 : ℕ) ∧ (p : ℕ) * 1 + (w 2 : ℕ) - 0 < 16; omega)]
    refine Eq.trans (congrArg G ?_) (hf ⟨(s : ℕ) + (w 1 : ℕ) - 2047, by omega⟩).symm
    funext a; refine Fin.ext ?_
    fin_cases a
    · show (b : ℕ) * 1 + (w 0 : ℕ) - 0 = b; omega
    · show (s : ℕ) * 1 + (w 1 : ℕ) - 2047 = (s : ℕ) + (w 1 : ℕ) - 2047; omega
    · show (p : ℕ) * 1 + (w 2 : ℕ) - 0 = p; omega
  · rw [if_neg h, dif_neg]
    intro hin
    have h1 : 2047 ≤ (s : ℕ) * 1 + (w 1 : ℕ) := (hin 1).1
    omega

theorem v6_val (b : Fin 16) (s : Fin 2048) (p : Fin 16) : (val_main_v6 (F := Ideal) x0 x2 (ix3 b s p) : EReal)
    = ∑ r ∈ Finset.range ((s : ℕ) + 1), (if h : r < 2048 then lsig (x0 (ix3 b ⟨r, h⟩ p) + x2 (ix2 1 p)) else 0) := by
  have hz : (val_main_call1_call0_v0 (F := Ideal) (Shape.Idx.first h_S_) : EReal) = 0 := by
    unfold val_main_call1_call0_v0 val_main_call1_call0_cst
    pointwise
  unfold val_main_v6 Host.reduceWindowAdd
  rw [Ideal.hostReduceWindowAdd_def, hz]
  refine window_val (val_main_v5 (F := Ideal) x0 x2) (fun r => if h : r < 2048 then lsig (x0 (ix3 b ⟨r, h⟩ p) + x2 (ix2 1 p)) else 0) b s p fun r => ?_
  rw [v5_val]
  exact dif_pos r.isLt

end Cert.ReferenceForgetSecondIdeal.Read

namespace Cert.ForgetSecondIdeal.Tile

open Idealize.ShloMosaic Idealize.ShloMosaic.TcCoe Cert.ForgetSecondIdeal Cert.ForgetSecondIdeal.Gen Cert.Gates

variable (m : (ℓ : Loc nD τ sig) → Buf (Elt Ideal) ℓ) (c : Dev nD)

/-- The argument of the gate of a head at a frame. -/
def inF (b : Fin 16) (s : Fin 2048) (p : Fin 16) : EReal := m ((c : Thread nD τ).loc main_arg0) (ix3 b s p)
def inO (p : Fin 16) : EReal := m ((c : Thread nD τ).loc main_arg2) (ix2 1 p)

theorem V2_apply (r : Fin 32768) (p : Fin 16) : (V m c main_v2 (ix2 r ⟨32 + p, by omega⟩) : EReal) = inF m c ⟨r / 2048, by omega⟩ ⟨r % 2048, by omega⟩ p := by
  unfold V
  after_reads_at
  after_reads_at
  rfl

theorem V5_apply (p : Fin 16) : (V m c main_v5 (ix2 p 0) : EReal) = inO m c p := by
  unfold V
  after_reads_at
  rfl

/-- The array the call is given, which it leaves at the first layer. -/
theorem V6_eq : V m c main_v6_0 = m ((c : Thread nD τ).loc main_arg3) := by
  funext i
  unfold V
  after_reads_at
  rfl

theorem lt_N (t : Fin cfg0.N) : t.val < 16 := lt_of_lt_of_eq t.isLt N_0
theorem index0 : ∀ t : Fin cfg0.N, win0_0.index t = ![t.val, 0] := by decide
theorem index1 : ∀ t : Fin cfg0.N, win0_1.index t = ![0, 0] := by decide
theorem index2 : ∀ t : Fin cfg0.N, win0_2.index t = ![1, t.val, 0, 0] := by decide
theorem index3 : ∀ t : Fin cfg0.N, win0_3.index t = ![t.val, 0, 0] := by decide

/-- The stream of a grid point. -/
def sq (t : Fin cfg0.N) : Fin 16 := ⟨t.val, by have := lt_N t; omega⟩

theorem emb0 (t : Fin cfg0.N) (q : Fin 2048) (d : Fin 128) : ((cfg0.win 0).blk t).view.emb (ix2 q d) = ix2 ⟨2048 * t.val + q, by have := lt_N t; omega⟩ d := by
  funext a; refine Fin.ext ?_
  blk_simp [index0]
  fin_cases a
  · show t.val * 2048 + (q : ℕ) = 2048 * t.val + q; omega
  · show 0 * 128 + (d : ℕ) = d; omega
theorem emb1 (t : Fin cfg0.N) (p : Fin 16) : ((cfg0.win 1).blk t).view.emb (ix2 p 0) = ix2 p 0 := by
  funext a; refine Fin.ext ?_
  blk_simp [index1]
  fin_cases a
  · show 0 * 16 + (p : ℕ) = p; omega
  · show 0 * 1 + 0 = 0; omega
theorem emb2 (t : Fin cfg0.N) (p : Fin 16) (q : Fin 2048) : ((cfg0.win 2).blk t).view.emb (ix4 0 0 p q) = ix4 1 (sq t) p q := by
  funext a; refine Fin.ext ?_
  blk_simp [index2]
  fin_cases a
  · show 1 * 1 + 0 = 1; omega
  · show t.val * 1 + 0 = t.val; omega
  · show 0 * 16 + (p : ℕ) = p; omega
  · show 0 * 2048 + (q : ℕ) = q; omega
theorem emb3 (t : Fin cfg0.N) (p : Fin 16) (q : Fin 2048) : ((cfg0.win 3).blk t).view.emb (ix3 0 p q) = ix3 (sq t) p q := by
  funext a; refine Fin.ext ?_
  blk_simp [index3]
  fin_cases a
  · show t.val * 1 + 0 = t.val; omega
  · show 0 * 16 + (p : ℕ) = p; omega
  · show 0 * 2048 + (q : ℕ) = q; omega

theorem iblk0_eq (t : Fin cfg0.N) (q : Fin 2048) (p : Fin 16) : (iblk m c 0 t (ix2 q ⟨32 + p, by omega⟩) : EReal) = inF m c (sq t) q p := by
  unfold iblk
  refine (congrArg (V m c main_v2) (emb0 t q _)).trans ((V2_apply m c _ p).trans ?_)
  refine congrArg₂ (fun a b => inF m c a b p) (Fin.ext ?_) (Fin.ext ?_)
  · show (2048 * t.val + q) / 2048 = t.val; omega
  · show (2048 * t.val + (q : ℕ)) % 2048 = q; omega
theorem iblk1_eq (t : Fin cfg0.N) (p : Fin 16) : (iblk m c 1 t (ix2 p 0) : EReal) = inO m c p := by
  unfold iblk
  exact (congrArg (V m c main_v5) (emb1 t p)).trans (V5_apply m c p)

/-- The logarithm of a gate from the arguments. -/
def gateOf (b : Fin 16) (p : Fin 16) (s : ℕ) : EReal := if h : s < 2048 then lsig (inF m c b ⟨s, h⟩ p + inO m c p) else 0

theorem gateAt_eq (t : Fin cfg0.N) (p : Fin 16) (s : ℕ) : gateAt (iblk m c 0 t) (iblk m c 1 t) p s = gateOf m c (sq t) p s := by
  unfold gateAt gateOf
  refine dite_congr rfl (fun h => ?_) fun _ => rfl
  exact congrArg lsig (congrArg₂ (· + ·) (iblk0_eq m c t ⟨s, h⟩ p) (iblk1_eq m c t p))

/-- The second layer of the gates after the call. -/
theorem second (b : Fin 16) (p : Fin 16) (q : Fin 2048) : ((dats m 0 c).arrAt 2 cfg0.N (ix4 1 b p q) : EReal) = gateOf m c b p q := by
  let t : Fin cfg0.N := ⟨b.val, lt_of_lt_of_eq b.isLt N_0.symm⟩
  have hb := congrFun (Value.blocks2 m c t (flush0_2 t)) (ix4 (n0 := 1) (n1 := 1) (n2 := 16) (n3 := 2048) 0 0 p q)
  rw [Value.flushed2_A] at hb
  refine Eq.trans ?_ (hb.trans ?_)
  · exact congrArg ((dats m 0 c).arrAt 2 cfg0.N) (emb2 t p q).symm
  · refine (out2_eq c t (iblk m c 0 t) (iblk m c 1 t) p q).trans ?_
    exact gateAt_eq m c t p q

/-- The running sums after the call. -/
theorem running (b : Fin 16) (p : Fin 16) (q : Fin 2048) : ((dats m 0 c).arrAt 3 cfg0.N (ix3 b p q) : EReal) = ∑ s ∈ Finset.range ((q : ℕ) + 1), gateOf m c b p s := by
  let t : Fin cfg0.N := ⟨b.val, lt_of_lt_of_eq b.isLt N_0.symm⟩
  have hb := congrFun (Value.blocks3 m c t (flush0_3 t)) (ix3 (n0 := 1) (n1 := 16) (n2 := 2048) 0 p q)
  rw [Value.flushed3_A] at hb
  refine Eq.trans ?_ (hb.trans ?_)
  · exact congrArg ((dats m 0 c).arrAt 3 cfg0.N) (emb3 t p q).symm
  · refine (out3_eq c t (iblk m c 0 t) (iblk m c 1 t) p q).trans ?_
    exact Finset.sum_congr rfl fun s _ => gateAt_eq m c t p s

/-- The first layer of the gates after the call: as given. -/
theorem first (b : Fin 16) (p : Fin 16) (q : Fin 2048) :
    (dats m 0 c).arrAt 2 cfg0.N (ix4 0 b p q) = m ((c : Thread nD τ).loc main_arg3) (ix4 0 b p q) := by
  refine (Value.entry2 m c _ fun t _ hi => ?_).trans (congrFun (V6_eq m c) _)
  change _ ∈ ((View.whole main_v6_0).slice (win0_2.rect t)).set at hi
  rw [View.set_slice_whole, Rect.mem_set_unit] at hi
  have h : win0_2.index t (0 : Fin 4) * 1 ≤ 0 := (hi (0 : Fin 4)).1
  have e0 : win0_2.index t (0 : Fin 4) = 1 := congrFun (index2 t) 0
  omega

theorem gates_eq (l : Fin 2) (b : Fin 16) (p : Fin 16) (q : Fin 2048) : Cert.ReferenceForgetSecondIdeal.Read.val_main_v12 (F := Ideal)
    (m ((c : Thread nD τ).loc main_arg0)) (m ((c : Thread nD τ).loc main_arg2)) (m ((c : Thread nD τ).loc main_arg3)) (ix4 l b p q)
    = (dats m 0 c).arrAt 2 cfg0.N (ix4 l b p q) := by
  refine (Cert.ReferenceForgetSecondIdeal.Read.v12_val _ _ _ l b p q).trans ?_
  match l with
  | ⟨0, _⟩ => exact (dif_pos Nat.zero_lt_one).trans (first m c b p q).symm
  | ⟨1, _⟩ =>
    refine (dif_neg (Nat.lt_irrefl 1)).trans ((Cert.ReferenceForgetSecondIdeal.Read.v5_val _ _ b q p).trans (Eq.trans ?_ (second m c b p q).symm))
    unfold gateOf
    rw [dif_pos q.isLt]
    rfl

/-- The gates the call leaves are the reference's, over the same arguments. -/
theorem meet_gates (x0 : (⟨S16x2048x16, .f32⟩ : BufTy).Contents (Elt Ideal)) (x2 : (⟨S2x16, .f32⟩ : BufTy).Contents (Elt Ideal))
    (x3 : (⟨S2x16x16x2048, .f32⟩ : BufTy).Contents (Elt Ideal)) (h0 : x0 = m ((c : Thread nD τ).loc main_arg0))
    (h2 : x2 = m ((c : Thread nD τ).loc main_arg2)) (h3 : x3 = m ((c : Thread nD τ).loc main_arg3)) :
    Cert.ReferenceForgetSecondIdeal.Read.val_main_v12 (F := Ideal) x0 x2 x3 = (dats m 0 c).arrAt 2 cfg0.N := by
  rw [h0, h2, h3]
  funext i
  have hi : i = ix4 (n0 := 2) (n1 := 16) (n2 := 16) (n3 := 2048) (i 0) (i 1) (i 2) (i 3) := by funext a; fin_cases a <;> rfl
  exact (congrArg _ hi).trans ((gates_eq m c (i 0) (i 1) (i 2) (i 3)).trans (congrArg _ hi.symm))

/-- The running sums the call leaves are the reference's, over the same arguments. -/
theorem meet_sums (x0 : (⟨S16x2048x16, .f32⟩ : BufTy).Contents (Elt Ideal)) (x2 : (⟨S2x16, .f32⟩ : BufTy).Contents (Elt Ideal))
    (h0 : x0 = m ((c : Thread nD τ).loc main_arg0)) (h2 : x2 = m ((c : Thread nD τ).loc main_arg2)) :
    Cert.ReferenceForgetSecondIdeal.Read.val_main_v13 (F := Ideal) x0 x2 = (dats m 0 c).arrAt 3 cfg0.N := by
  rw [h0, h2]
  funext i
  have hi : i = ix3 (n0 := 16) (n1 := 16) (n2 := 2048) (i 0) (i 1) (i 2) := by funext a; fin_cases a <;> rfl
  refine (congrArg _ hi).trans (Eq.trans ?_ (congrArg _ hi.symm))
  refine (Cert.ReferenceForgetSecondIdeal.Read.v13_val _ _ (i 0) (i 1) (i 2)).trans ((Cert.ReferenceForgetSecondIdeal.Read.v6_val _ _ (i 0) (i 2) (i 1)).trans ?_)
  exact (running m c (i 0) (i 1) (i 2)).symm

end Cert.ForgetSecondIdeal.Tile

end
-- ==== Proof.ForgetFirst.lean ====
/- The gates of the forgetting heads at the first layer: the call's block holds both layers, and it leaves the second zero. -/
module

public import proofs.«01_k».proof.Proof.Gen.ForgetFirstIdeal.Value
public import proofs.«01_k».proof.Proof.Gen.ReferenceForgetFirstIdeal.Read
public import proofs.«01_k».proof.Proof.Forget
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.Lib.WholeRead

@[expose] public section

set_option maxRecDepth 16384
set_option maxHeartbeats 2000000

noncomputable section

namespace Cert.ForgetFirstIdeal.Tile

open Idealize.ShloMosaic Idealize.ShloMosaic.TcCoe Cert.ForgetFirstIdeal Cert.ForgetFirstIdeal.Gen Cert.Gates

section Block

variable (c : Dev nD) (t : Fin cfg0.N) (X : Vec Ideal S2048x128 .f32) (B : Vec Ideal S16x1 .f32)

theorem inb_rows (n : ℕ) (h : n < 16) : ∀ a, (![128 * n, 0] : Fin 2 → ℕ) a + (![128, 128] : Fin 2 → ℕ) a ≤ S2048x128.size a := by
  intro a; fin_cases a
  · show 128 * n + 128 ≤ 2048; omega
  · show 0 + 128 ≤ 128; omega

/-- The 128 frames of a trip, all columns. -/
def rows (n : ℕ) (h : n < 16) : Vec Ideal S128x128 .f32 :=
  View.readAt (Elt Ideal) (ms0_0 t).view (Rect.unit (s := S2048x128) ![128 * n, 0] ![128, 128] (inb_rows n h)).toLoadRect ((hs0_0 t).unread X)

/-- The offsets of the heads. -/
def offs : Vec Ideal S16x1 .f32 :=
  View.readAt (Elt Ideal) (ms0_1 t).view (Rect.unit (s := S16x1) ![0, 0] ![16, 1] inb_S16x1_S16x1_0_0).toLoadRect ((hs0_1 t).unread B)

/-- The logarithms of the gates of a trip. -/
def gates (n : ℕ) (h : n < 16) : FVec Ideal S16x128 .f32 := k0_pay6 (F := Ideal) (rows t X n h) (offs t B)

/-- The running sums of a trip, from those of the trip before it. -/
def sums : (n : ℕ) → n < 16 → FVec Ideal S16x128 .f32
  | 0, h => k0_pay9 (F := Ideal) (rows t X 0 h) (offs t B)
  | n + 1, h => k0_pay14 (F := Ideal) (k0_pay5 (F := Ideal)) (sums n (by omega)) (rows t X (n + 1) h) (offs t B)

def gatesPut (n : ℕ) (h : n < 16) : FVec Ideal S1x1x16x128 .f32 := shapeCast S1x1x16x128 (gates t X B n h) shapeCasts_S16x128_S1x1x16x128
def zerosPut : FVec Ideal S1x1x16x128 .f32 := k0_pay8 (F := Ideal)
def sumsPut (n : ℕ) (h : n < 16) : FVec Ideal S1x16x128 .f32 := k0_pay10 (sums t X B n h)

/-- The writes of a point, the last first. -/
def sumsList : List (View.Piece (Elt Ideal) S1x16x2048 .f32) := [⟨Rect.unit ![0, 0, 1920] ![1, 16, 128] inb_S1x16x2048_S1x16x128_0_0_1920, sumsPut t X B 15 (by decide)⟩, ⟨Rect.unit ![0, 0, 1792] ![1, 16, 128] inb_S1x16x2048_S1x16x128_0_0_1792, sumsPut t X B 14 (by decide)⟩, ⟨Rect.unit ![0, 0, 1664] ![1, 16, 128] inb_S1x16x2048_S1x16x128_0_0_1664, sumsPut t X B 13 (by decide)⟩, ⟨Rect.unit ![0, 0, 1536] ![1, 16, 128] inb_S1x16x2048_S1x16x128_0_0_1536, sumsPut t X B 12 (by decide)⟩, ⟨Rect.unit ![0, 0, 1408] ![1, 16, 128] inb_S1x16x2048_S1x16x128_0_0_1408, sumsPut t X B 11 (by decide)⟩, ⟨Rect.unit ![0, 0, 1280] ![1, 16, 128] inb_S1x16x2048_S1x16x128_0_0_1280, sumsPut t X B 10 (by decide)⟩, ⟨Rect.unit ![0, 0, 1152] ![1, 16, 128] inb_S1x16x2048_S1x16x128_0_0_1152, sumsPut t X B 9 (by decide)⟩, ⟨Rect.unit ![0, 0, 1024] ![1, 16, 128] inb_S1x16x2048_S1x16x128_0_0_1024, sumsPut t X B 8 (by decide)⟩, ⟨Rect.unit ![0, 0, 896] ![1, 16, 128] inb_S1x16x2048_S1x16x128_0_0_896, sumsPut t X B 7 (by decide)⟩, ⟨Rect.unit ![0, 0, 768] ![1, 16, 128] inb_S1x16x2048_S1x16x128_0_0_768, sumsPut t X B 6 (by decide)⟩, ⟨Rect.unit ![0, 0, 640] ![1, 16, 128] inb_S1x16x2048_S1x16x128_0_0_640, sumsPut t X B 5 (by decide)⟩, ⟨Rect.unit ![0, 0, 512] ![1, 16, 128] inb_S1x16x2048_S1x16x128_0_0_512, sumsPut t X B 4 (by decide)⟩, ⟨Rect.unit ![0, 0, 384] ![1, 16, 128] inb_S1x16x2048_S1x16x128_0_0_384, sumsPut t X B 3 (by decide)⟩, ⟨Rect.unit ![0, 0, 256] ![1, 16, 128] inb_S1x16x2048_S1x16x128_0_0_256, sumsPut t X B 2 (by decide)⟩, ⟨Rect.unit ![0, 0, 128] ![1, 16, 128] inb_S1x16x2048_S1x16x128_0_0_128, sumsPut t X B 1 (by decide)⟩, ⟨Rect.unit ![0, 0, 0] ![1, 16, 128] inb_S1x16x2048_S1x16x128_0_0_0, sumsPut t X B 0 (by decide)⟩]
def gatesList : List (View.Piece (Elt Ideal) S2x1x16x2048 .f32) := [⟨Rect.unit ![1, 0, 0, 1920] ![1, 1, 16, 128] inb_S2x1x16x2048_S1x1x16x128_1_0_0_1920, zerosPut⟩, ⟨Rect.unit ![0, 0, 0, 1920] ![1, 1, 16, 128] inb_S2x1x16x2048_S1x1x16x128_0_0_0_1920, gatesPut t X B 15 (by decide)⟩, ⟨Rect.unit ![1, 0, 0, 1792] ![1, 1, 16, 128] inb_S2x1x16x2048_S1x1x16x128_1_0_0_1792, zerosPut⟩, ⟨Rect.unit ![0, 0, 0, 1792] ![1, 1, 16, 128] inb_S2x1x16x2048_S1x1x16x128_0_0_0_1792, gatesPut t X B 14 (by decide)⟩, ⟨Rect.unit ![1, 0, 0, 1664] ![1, 1, 16, 128] inb_S2x1x16x2048_S1x1x16x128_1_0_0_1664, zerosPut⟩, ⟨Rect.unit ![0, 0, 0, 1664] ![1, 1, 16, 128] inb_S2x1x16x2048_S1x1x16x128_0_0_0_1664, gatesPut t X B 13 (by decide)⟩, ⟨Rect.unit ![1, 0, 0, 1536] ![1, 1, 16, 128] inb_S2x1x16x2048_S1x1x16x128_1_0_0_1536, zerosPut⟩, ⟨Rect.unit ![0, 0, 0, 1536] ![1, 1, 16, 128] inb_S2x1x16x2048_S1x1x16x128_0_0_0_1536, gatesPut t X B 12 (by decide)⟩, ⟨Rect.unit ![1, 0, 0, 1408] ![1, 1, 16, 128] inb_S2x1x16x2048_S1x1x16x128_1_0_0_1408, zerosPut⟩, ⟨Rect.unit ![0, 0, 0, 1408] ![1, 1, 16, 128] inb_S2x1x16x2048_S1x1x16x128_0_0_0_1408, gatesPut t X B 11 (by decide)⟩, ⟨Rect.unit ![1, 0, 0, 1280] ![1, 1, 16, 128] inb_S2x1x16x2048_S1x1x16x128_1_0_0_1280, zerosPut⟩, ⟨Rect.unit ![0, 0, 0, 1280] ![1, 1, 16, 128] inb_S2x1x16x2048_S1x1x16x128_0_0_0_1280, gatesPut t X B 10 (by decide)⟩, ⟨Rect.unit ![1, 0, 0, 1152] ![1, 1, 16, 128] inb_S2x1x16x2048_S1x1x16x128_1_0_0_1152, zerosPut⟩, ⟨Rect.unit ![0, 0, 0, 1152] ![1, 1, 16, 128] inb_S2x1x16x2048_S1x1x16x128_0_0_0_1152, gatesPut t X B 9 (by decide)⟩, ⟨Rect.unit ![1, 0, 0, 1024] ![1, 1, 16, 128] inb_S2x1x16x2048_S1x1x16x128_1_0_0_1024, zerosPut⟩, ⟨Rect.unit ![0, 0, 0, 1024] ![1, 1, 16, 128] inb_S2x1x16x2048_S1x1x16x128_0_0_0_1024, gatesPut t X B 8 (by decide)⟩, ⟨Rect.unit ![1, 0, 0, 896] ![1, 1, 16, 128] inb_S2x1x16x2048_S1x1x16x128_1_0_0_896, zerosPut⟩, ⟨Rect.unit ![0, 0, 0, 896] ![1, 1, 16, 128] inb_S2x1x16x2048_S1x1x16x128_0_0_0_896, gatesPut t X B 7 (by decide)⟩, ⟨Rect.unit ![1, 0, 0, 768] ![1, 1, 16, 128] inb_S2x1x16x2048_S1x1x16x128_1_0_0_768, zerosPut⟩, ⟨Rect.unit ![0, 0, 0, 768] ![1, 1, 16, 128] inb_S2x1x16x2048_S1x1x16x128_0_0_0_768, gatesPut t X B 6 (by decide)⟩, ⟨Rect.unit ![1, 0, 0, 640] ![1, 1, 16, 128] inb_S2x1x16x2048_S1x1x16x128_1_0_0_640, zerosPut⟩, ⟨Rect.unit ![0, 0, 0, 640] ![1, 1, 16, 128] inb_S2x1x16x2048_S1x1x16x128_0_0_0_640, gatesPut t X B 5 (by decide)⟩, ⟨Rect.unit ![1, 0, 0, 512] ![1, 1, 16, 128] inb_S2x1x16x2048_S1x1x16x128_1_0_0_512, zerosPut⟩, ⟨Rect.unit ![0, 0, 0, 512] ![1, 1, 16, 128] inb_S2x1x16x2048_S1x1x16x128_0_0_0_512, gatesPut t X B 4 (by decide)⟩, ⟨Rect.unit ![1, 0, 0, 384] ![1, 1, 16, 128] inb_S2x1x16x2048_S1x1x16x128_1_0_0_384, zerosPut⟩, ⟨Rect.unit ![0, 0, 0, 384] ![1, 1, 16, 128] inb_S2x1x16x2048_S1x1x16x128_0_0_0_384, gatesPut t X B 3 (by decide)⟩, ⟨Rect.unit ![1, 0, 0, 256] ![1, 1, 16, 128] inb_S2x1x16x2048_S1x1x16x128_1_0_0_256, zerosPut⟩, ⟨Rect.unit ![0, 0, 0, 256] ![1, 1, 16, 128] inb_S2x1x16x2048_S1x1x16x128_0_0_0_256, gatesPut t X B 2 (by decide)⟩, ⟨Rect.unit ![1, 0, 0, 128] ![1, 1, 16, 128] inb_S2x1x16x2048_S1x1x16x128_1_0_0_128, zerosPut⟩, ⟨Rect.unit ![0, 0, 0, 128] ![1, 1, 16, 128] inb_S2x1x16x2048_S1x1x16x128_0_0_0_128, gatesPut t X B 1 (by decide)⟩, ⟨Rect.unit ![1, 0, 0, 0] ![1, 1, 16, 128] inb_S2x1x16x2048_S1x1x16x128_1_0_0_0, zerosPut⟩, ⟨Rect.unit ![0, 0, 0, 0] ![1, 1, 16, 128] inb_S2x1x16x2048_S1x1x16x128_0_0_0_0, gatesPut t X B 0 (by decide)⟩]

theorem pieces3 : out0_A_3 (F := Ideal) c (grid0.coords t) (ms0_0 t) (hs0_0 t) (ms0_1 t) (hs0_1 t) (ms0_2 t) (hs0_2 t) (ms0_3 t) (hs0_3 t) X B
    = View.canon (sumsList t X B) := by
  unfold out0_A_3
  rw [View.read_writes_junk_eq_canon]
  unfold kernelRun0_A
  dsimp only
  rfl

theorem pieces2 : out0_A_2 (F := Ideal) c (grid0.coords t) (ms0_0 t) (hs0_0 t) (ms0_1 t) (hs0_1 t) (ms0_2 t) (hs0_2 t) (ms0_3 t) (hs0_3 t) X B
    = View.canon (gatesList t X B) := by
  unfold out0_A_2
  rw [View.read_writes_junk_eq_canon]
  unfold kernelRun0_A
  dsimp only
  rfl

theorem rows_val (n : ℕ) (h : n < 16) (a b : Fin 128) : (rows t X n h (ix2 a b) : EReal) = X (ix2 ⟨128 * n + a, by omega⟩ b) := by
  unfold rows
  rw [Memref.IsWhole.readAt_unread (hs0_0 t)]
  refine congrArg X ?_
  funext j; refine Fin.ext ?_
  fin_cases j
  · show 128 * n + 1 * (a : ℕ) = 128 * n + a; omega
  · show 0 + 1 * (b : ℕ) = b; omega

theorem offs_val (p : Fin 16) : (offs t B (ix2 p 0) : EReal) = B (ix2 p 0) := by
  unfold offs
  rw [Memref.IsWhole.readAt_unread (hs0_1 t)]
  exact congrArg B (by funext a; refine Fin.ext ?_; fin_cases a <;> exact (Nat.zero_add _).trans (Nat.one_mul _))

theorem upper_val (k q : Fin 128) : (k0_pay5 (F := Ideal) (ix2 k q) : EReal) = if (k : ℕ) ≤ q then 1 else 0 := by
  unfold k0_pay5
  pointwise
  rw [WordCmp.cmpi_sle_ofNat (by omega) (by omega)]
  by_cases h : (k : ℕ) ≤ q
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

theorem gate_val (V : Vec Ideal S128x128 .f32) (O : Vec Ideal S16x1 .f32) (p : Fin 16) (q : Fin 128) :
    (k0_pay6 (F := Ideal) V O (ix2 p q) : EReal) = lsig (V (ix2 q ⟨32 + p, by omega⟩) + O (ix2 p 0)) := by
  unfold k0_pay6 lsig
  pointwise

theorem sum_val (U : FVec Ideal S128x128 .f32) (K : FVec Ideal S16x128 .f32) (V : Vec Ideal S128x128 .f32) (O : Vec Ideal S16x1 .f32) (p : Fin 16) (q : Fin 128) :
    (k0_pay14 (F := Ideal) U K V O (ix2 p q) : EReal) = ∑ k : Fin 128, k0_pay6 (F := Ideal) V O (ix2 p k) * U (ix2 k q) + K (ix2 p 127) := by
  unfold k0_pay14
  rw [show k0_pay11 (F := Ideal) V O = k0_pay6 (F := Ideal) V O from rfl]
  generalize k0_pay6 (F := Ideal) V O = G
  pointwise

theorem sum_first_val (V : Vec Ideal S128x128 .f32) (O : Vec Ideal S16x1 .f32) (p : Fin 16) (q : Fin 128) :
    (k0_pay9 (F := Ideal) V O (ix2 p q) : EReal) = ∑ k : Fin 128, k0_pay6 (F := Ideal) V O (ix2 p k) * k0_pay5 (F := Ideal) (ix2 k q) := by
  unfold k0_pay9
  generalize k0_pay6 (F := Ideal) V O = G
  generalize k0_pay5 (F := Ideal) = U
  pointwise

theorem zeros_val (a b : Fin 1) (p : Fin 16) (q : Fin 128) : (k0_pay8 (F := Ideal) (ix4 a b p q) : EReal) = 0 := by
  unfold k0_pay8
  pointwise

theorem cast_val (v : FVec Ideal S16x128 .f32) (a : Fin 1) (p : Fin 16) (q : Fin 128) : (k0_pay10 (F := Ideal) v (ix3 a p q) : EReal) = v (ix2 p q) := by
  unfold k0_pay10
  pointwise

theorem put_val (v : FVec Ideal S16x128 .f32) (a b : Fin 1) (p : Fin 16) (q : Fin 128) : (shapeCast S1x1x16x128 v shapeCasts_S16x128_S1x1x16x128 (ix4 a b p q) : EReal) = v (ix2 p q) := by
  pointwise

/-- The logarithm of the gate of a head at a frame; zero past the last frame. -/
def gateAt (p : Fin 16) (s : ℕ) : EReal := if h : s < 2048 then lsig (X (ix2 ⟨s, h⟩ ⟨32 + p, by omega⟩) + B (ix2 p 0)) else 0

theorem gates_val (n : ℕ) (h : n < 16) (p : Fin 16) (q : Fin 128) : (gates t X B n h (ix2 p q) : EReal) = gateAt X B p (128 * n + q) := by
  unfold gates gateAt
  rw [gate_val, rows_val, offs_val, dif_pos (by omega)]

theorem trip_val (n : ℕ) (h : n < 16) (p : Fin 16) (q : Fin 128) :
    ∑ k : Fin 128, (gates t X B n h (ix2 p k) : EReal) * k0_pay5 (F := Ideal) (ix2 k q) = ∑ k ∈ Finset.range ((q : ℕ) + 1), gateAt X B p (128 * n + k) := by
  rw [← sum_upto (gateAt X B p) (128 * n) q]
  refine Finset.sum_congr rfl fun k _ => ?_
  rw [gates_val, upper_val]

theorem sums_val : ∀ (n : ℕ) (h : n < 16) (p : Fin 16) (q : Fin 128), (sums t X B n h (ix2 p q) : EReal) = ∑ s ∈ Finset.range (128 * n + q + 1), gateAt X B p s
  | 0, h, p, q => by
    show (k0_pay9 (F := Ideal) (rows t X 0 h) (offs t B) (ix2 p q) : EReal) = _
    rw [sum_first_val]
    refine (trip_val t X B 0 h p q).trans ?_
    rw [show 128 * 0 + (q : ℕ) + 1 = (q : ℕ) + 1 by omega]
    exact Finset.sum_congr rfl fun k _ => congrArg (gateAt X B p) (by omega)
  | n + 1, h, p, q => by
    show (k0_pay14 (F := Ideal) (k0_pay5 (F := Ideal)) (sums t X B n (by omega)) (rows t X (n + 1) h) (offs t B) (ix2 p q) : EReal) = _
    rw [sum_val, sums_val n (by omega) p 127]
    refine (congrArg (· + _) (trip_val t X B (n + 1) h p q)).trans ?_
    rw [show 128 * n + ((127 : Fin 128) : ℕ) + 1 = 128 * (n + 1) from by show 128 * n + 127 + 1 = 128 * (n + 1); omega]
    exact (add_comm _ _).trans (Finset.sum_range_add (gateAt X B p) (128 * (n + 1)) ((q : ℕ) + 1)).symm

/-- What the call leaves of a block, place by place. -/
def sumsOf (y : S1x16x2048.Idx) : EReal := ∑ s ∈ Finset.range ((y 2 : ℕ) + 1), gateAt X B (y 1) s
def gatesOf (y : S2x1x16x2048.Idx) : EReal := if (y 0 : ℕ) < 1 then gateAt X B (y 2) (y 3 : ℕ) else 0

theorem sumsPut_val (n : ℕ) (h : n < 16) (o : ℕ) (ho : o = 128 * n) (inb : ∀ a, (![0, 0, o] : Fin 3 → ℕ) a + (![1, 16, 128] : Fin 3 → ℕ) a ≤ S1x16x2048.size a) (x : S1x16x128.Idx) :
    (sumsPut t X B n h x : EReal) = sumsOf X B ((Rect.unit (s := S1x16x2048) ![0, 0, o] ![1, 16, 128] inb).emb x) := by
  subst ho
  have hi : x = ix3 (n0 := 1) (n1 := 16) (n2 := 128) (x 0) (x 1) (x 2) := by funext a; fin_cases a <;> rfl
  have he : (Rect.unit (s := S1x16x2048) ![0, 0, 128 * n] ![1, 16, 128] inb).emb x = ix3 (n0 := 1) (n1 := 16) (n2 := 2048) (x 0) (x 1) ⟨128 * n + (x 2 : ℕ), by have h2 : (x 2 : ℕ) < 128 := (x 2).isLt; omega⟩ := by
    funext a; refine Fin.ext ?_
    fin_cases a
    · show 0 + 1 * (x 0 : ℕ) = (x 0 : ℕ); omega
    · show 0 + 1 * (x 1 : ℕ) = (x 1 : ℕ); omega
    · show 128 * n + 1 * (x 2 : ℕ) = 128 * n + (x 2 : ℕ); omega
  refine (congrArg (sumsPut t X B n h) hi).trans ?_
  unfold sumsPut
  refine (cast_val _ (x 0) (x 1) (x 2)).trans ((sums_val t X B n h (x 1) (x 2)).trans ?_)
  exact (congrArg (sumsOf X B) he).symm

theorem emb_val (l : Fin 2) (o : ℕ) (inb : ∀ a, (![(l : ℕ), 0, 0, o] : Fin 4 → ℕ) a + (![1, 1, 16, 128] : Fin 4 → ℕ) a ≤ S2x1x16x2048.size a) (x : S1x1x16x128.Idx) :
    gatesOf X B ((Rect.unit (s := S2x1x16x2048) ![(l : ℕ), 0, 0, o] ![1, 1, 16, 128] inb).emb x) = if (l : ℕ) < 1 then gateAt X B (x 2) (o + (x 3 : ℕ)) else 0 := by
  have x0 : (x 0 : ℕ) = 0 := Nat.lt_one_iff.mp (x 0).isLt
  unfold gatesOf
  refine if_congr ?_ (congrArg₂ (gateAt X B) (Fin.ext ?_) ?_) rfl
  · show (l : ℕ) + 1 * (x 0 : ℕ) < 1 ↔ (l : ℕ) < 1; omega
  · show 0 + 1 * (x 2 : ℕ) = (x 2 : ℕ); omega
  · show o + 1 * (x 3 : ℕ) = o + (x 3 : ℕ); omega

theorem gatesPut_val (n : ℕ) (h : n < 16) (o : ℕ) (ho : o = 128 * n) (inb : ∀ a, (![0, 0, 0, o] : Fin 4 → ℕ) a + (![1, 1, 16, 128] : Fin 4 → ℕ) a ≤ S2x1x16x2048.size a) (x : S1x1x16x128.Idx) :
    (gatesPut t X B n h x : EReal) = gatesOf X B ((Rect.unit (s := S2x1x16x2048) ![0, 0, 0, o] ![1, 1, 16, 128] inb).emb x) := by
  subst ho
  have hi : x = ix4 (n0 := 1) (n1 := 1) (n2 := 16) (n3 := 128) (x 0) (x 1) (x 2) (x 3) := by funext a; fin_cases a <;> rfl
  refine (congrArg (gatesPut t X B n h) hi).trans ?_
  unfold gatesPut
  refine (put_val _ (x 0) (x 1) (x 2) (x 3)).trans ((gates_val t X B n h (x 2) (x 3)).trans ?_)
  exact ((emb_val X B 0 (128 * n) inb x).trans (if_pos Nat.zero_lt_one)).symm

theorem zerosPut_val (o : ℕ) (inb : ∀ a, (![1, 0, 0, o] : Fin 4 → ℕ) a + (![1, 1, 16, 128] : Fin 4 → ℕ) a ≤ S2x1x16x2048.size a) (x : S1x1x16x128.Idx) :
    (zerosPut x : EReal) = gatesOf X B ((Rect.unit (s := S2x1x16x2048) ![1, 0, 0, o] ![1, 1, 16, 128] inb).emb x) := by
  have hi : x = ix4 (n0 := 1) (n1 := 1) (n2 := 16) (n3 := 128) (x 0) (x 1) (x 2) (x 3) := by funext a; fin_cases a <;> rfl
  refine (congrArg zerosPut hi).trans ?_
  unfold zerosPut
  refine (zeros_val (x 0) (x 1) (x 2) (x 3)).trans ?_
  exact ((emb_val X B 1 o inb x).trans (if_neg (Nat.lt_irrefl 1))).symm

theorem out3_eq (p : Fin 16) (q : Fin 2048) :
    (out0_A_3 (F := Ideal) c (grid0.coords t) (ms0_0 t) (hs0_0 t) (ms0_1 t) (hs0_1 t) (ms0_2 t) (hs0_2 t) (ms0_3 t) (hs0_3 t) X B (ix3 0 p q) : EReal)
      = ∑ s ∈ Finset.range ((q : ℕ) + 1), gateAt X B p s := by
  rw [pieces3 c t X B]
  have := View.canon_append_of_piecesOf (sumsOf X B : S1x16x2048.Idx → Elt Ideal .f32) []
    (sumsList t X B) (by unfold sumsList; exact ⟨fun x => sumsPut_val t X B 15 (by decide) 1920 rfl inb_S1x16x2048_S1x16x128_0_0_1920 x, fun x => sumsPut_val t X B 14 (by decide) 1792 rfl inb_S1x16x2048_S1x16x128_0_0_1792 x, fun x => sumsPut_val t X B 13 (by decide) 1664 rfl inb_S1x16x2048_S1x16x128_0_0_1664 x, fun x => sumsPut_val t X B 12 (by decide) 1536 rfl inb_S1x16x2048_S1x16x128_0_0_1536 x, fun x => sumsPut_val t X B 11 (by decide) 1408 rfl inb_S1x16x2048_S1x16x128_0_0_1408 x, fun x => sumsPut_val t X B 10 (by decide) 1280 rfl inb_S1x16x2048_S1x16x128_0_0_1280 x, fun x => sumsPut_val t X B 9 (by decide) 1152 rfl inb_S1x16x2048_S1x16x128_0_0_1152 x, fun x => sumsPut_val t X B 8 (by decide) 1024 rfl inb_S1x16x2048_S1x16x128_0_0_1024 x, fun x => sumsPut_val t X B 7 (by decide) 896 rfl inb_S1x16x2048_S1x16x128_0_0_896 x, fun x => sumsPut_val t X B 6 (by decide) 768 rfl inb_S1x16x2048_S1x16x128_0_0_768 x, fun x => sumsPut_val t X B 5 (by decide) 640 rfl inb_S1x16x2048_S1x16x128_0_0_640 x, fun x => sumsPut_val t X B 4 (by decide) 512 rfl inb_S1x16x2048_S1x16x128_0_0_512 x, fun x => sumsPut_val t X B 3 (by decide) 384 rfl inb_S1x16x2048_S1x16x128_0_0_384 x, fun x => sumsPut_val t X B 2 (by decide) 256 rfl inb_S1x16x2048_S1x16x128_0_0_256 x, fun x => sumsPut_val t X B 1 (by decide) 128 rfl inb_S1x16x2048_S1x16x128_0_0_128 x, fun x => sumsPut_val t X B 0 (by decide) 0 rfl inb_S1x16x2048_S1x16x128_0_0_0 x, trivial⟩) (ix3 0 p q) (View.cover_of_tiledL (sumsList t X B) S1x16x128.size (by sl_kernel_rfl) _)
  rw [List.append_nil] at this
  exact this

theorem out2_eq (l : Fin 2) (p : Fin 16) (q : Fin 2048) :
    (out0_A_2 (F := Ideal) c (grid0.coords t) (ms0_0 t) (hs0_0 t) (ms0_1 t) (hs0_1 t) (ms0_2 t) (hs0_2 t) (ms0_3 t) (hs0_3 t) X B (ix4 l 0 p q) : EReal)
      = if (l : ℕ) < 1 then gateAt X B p q else 0 := by
  rw [pieces2 c t X B]
  have := View.canon_append_of_piecesOf (gatesOf X B : S2x1x16x2048.Idx → Elt Ideal .f32) []
    (gatesList t X B) (by unfold gatesList; exact ⟨fun x => zerosPut_val X B 1920 inb_S2x1x16x2048_S1x1x16x128_1_0_0_1920 x, fun x => gatesPut_val t X B 15 (by decide) 1920 rfl inb_S2x1x16x2048_S1x1x16x128_0_0_0_1920 x, fun x => zerosPut_val X B 1792 inb_S2x1x16x2048_S1x1x16x128_1_0_0_1792 x, fun x => gatesPut_val t X B 14 (by decide) 1792 rfl inb_S2x1x16x2048_S1x1x16x128_0_0_0_1792 x, fun x => zerosPut_val X B 1664 inb_S2x1x16x2048_S1x1x16x128_1_0_0_1664 x, fun x => gatesPut_val t X B 13 (by decide) 1664 rfl inb_S2x1x16x2048_S1x1x16x128_0_0_0_1664 x, fun x => zerosPut_val X B 1536 inb_S2x1x16x2048_S1x1x16x128_1_0_0_1536 x, fun x => gatesPut_val t X B 12 (by decide) 1536 rfl inb_S2x1x16x2048_S1x1x16x128_0_0_0_1536 x, fun x => zerosPut_val X B 1408 inb_S2x1x16x2048_S1x1x16x128_1_0_0_1408 x, fun x => gatesPut_val t X B 11 (by decide) 1408 rfl inb_S2x1x16x2048_S1x1x16x128_0_0_0_1408 x, fun x => zerosPut_val X B 1280 inb_S2x1x16x2048_S1x1x16x128_1_0_0_1280 x, fun x => gatesPut_val t X B 10 (by decide) 1280 rfl inb_S2x1x16x2048_S1x1x16x128_0_0_0_1280 x, fun x => zerosPut_val X B 1152 inb_S2x1x16x2048_S1x1x16x128_1_0_0_1152 x, fun x => gatesPut_val t X B 9 (by decide) 1152 rfl inb_S2x1x16x2048_S1x1x16x128_0_0_0_1152 x, fun x => zerosPut_val X B 1024 inb_S2x1x16x2048_S1x1x16x128_1_0_0_1024 x, fun x => gatesPut_val t X B 8 (by decide) 1024 rfl inb_S2x1x16x2048_S1x1x16x128_0_0_0_1024 x, fun x => zerosPut_val X B 896 inb_S2x1x16x2048_S1x1x16x128_1_0_0_896 x, fun x => gatesPut_val t X B 7 (by decide) 896 rfl inb_S2x1x16x2048_S1x1x16x128_0_0_0_896 x, fun x => zerosPut_val X B 768 inb_S2x1x16x2048_S1x1x16x128_1_0_0_768 x, fun x => gatesPut_val t X B 6 (by decide) 768 rfl inb_S2x1x16x2048_S1x1x16x128_0_0_0_768 x, fun x => zerosPut_val X B 640 inb_S2x1x16x2048_S1x1x16x128_1_0_0_640 x, fun x => gatesPut_val t X B 5 (by decide) 640 rfl inb_S2x1x16x2048_S1x1x16x128_0_0_0_640 x, fun x => zerosPut_val X B 512 inb_S2x1x16x2048_S1x1x16x128_1_0_0_512 x, fun x => gatesPut_val t X B 4 (by decide) 512 rfl inb_S2x1x16x2048_S1x1x16x128_0_0_0_512 x, fun x => zerosPut_val X B 384 inb_S2x1x16x2048_S1x1x16x128_1_0_0_384 x, fun x => gatesPut_val t X B 3 (by decide) 384 rfl inb_S2x1x16x2048_S1x1x16x128_0_0_0_384 x, fun x => zerosPut_val X B 256 inb_S2x1x16x2048_S1x1x16x128_1_0_0_256 x, fun x => gatesPut_val t X B 2 (by decide) 256 rfl inb_S2x1x16x2048_S1x1x16x128_0_0_0_256 x, fun x => zerosPut_val X B 128 inb_S2x1x16x2048_S1x1x16x128_1_0_0_128 x, fun x => gatesPut_val t X B 1 (by decide) 128 rfl inb_S2x1x16x2048_S1x1x16x128_0_0_0_128 x, fun x => zerosPut_val X B 0 inb_S2x1x16x2048_S1x1x16x128_1_0_0_0 x, fun x => gatesPut_val t X B 0 (by decide) 0 rfl inb_S2x1x16x2048_S1x1x16x128_0_0_0_0 x, trivial⟩) (ix4 l 0 p q) (View.cover_of_tiledL (gatesList t X B) S1x1x16x128.size (by sl_kernel_rfl) _)
  rw [List.append_nil] at this
  exact this

end Block

end Cert.ForgetFirstIdeal.Tile

namespace Cert.ReferenceForgetFirstIdeal.Read

open Idealize.ShloMosaic Idealize.ShloMosaic.TcCoe Cert.ReferenceForgetFirstIdeal Cert.ReferenceForgetFirstIdeal.Gen Cert.Gates

variable (x0 : (⟨S16x2048x16, .f32⟩ : BufTy).Contents (Elt Ideal)) (x2 : (⟨S2x16, .f32⟩ : BufTy).Contents (Elt Ideal))

theorem v5_val (b : Fin 16) (s : Fin 2048) (p : Fin 16) : (val_main_v5 (F := Ideal) x0 x2 (ix3 b s p) : EReal) = lsig (x0 (ix3 b s p) + x2 (ix2 0 p)) := by
  rw [← lsig_ref]
  unfold val_main_v5 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v4 val_main_v3 val_main_v2 val_main_v1 val_main_v0
  pointwise

theorem v11_val (l : Fin 2) (b : Fin 16) (p : Fin 16) (s : Fin 2048) : (val_main_v11 (F := Ideal) x0 x2 (ix4 l b p s) : EReal)
    = if h : (l : ℕ) < 1 then val_main_v5 (F := Ideal) x0 x2 (ix3 b s p) else 0 := by
  unfold val_main_v11 val_main_v10 val_main_v9 val_main_v8 val_main_v7 val_main_cst
  generalize val_main_v5 (F := Ideal) x0 x2 = G
  pointwise

theorem v12_val (b : Fin 16) (p : Fin 16) (s : Fin 2048) : (val_main_v12 (F := Ideal) x0 x2 (ix3 b p s) : EReal) = val_main_v6 (F := Ideal) x0 x2 (ix3 b s p) := by
  unfold val_main_v12
  generalize val_main_v6 (F := Ideal) x0 x2 = G
  pointwise

theorem window_val (G : FVec Ideal S16x2048x16 .f32) (f : ℕ → EReal) (b : Fin 16) (s : Fin 2048) (p : Fin 16) (hf : ∀ r : Fin 2048, f r = G (ix3 b r p)) :
    (Ideal.hostReduceWindowAdd ![1, 2048, 1] ![1, 1, 1] ![0, 2047, 0] ![0, 0, 0] reduceWindows_S16x2048x16_S16x2048x16_w1s1p0_0_w2048s1p2047_0_w1s1p0_0 G 0 (ix3 b s p) : EReal)
      = ∑ r ∈ Finset.range ((s : ℕ) + 1), f r := by
  unfold Ideal.hostReduceWindowAdd Host.reduceWindow
  dsimp only
  rw [foldl_add, zero_add, ← Fin.sum_univ_def, ← sum_window f s s.isLt]
  refine Fintype.sum_equiv ((Shape.rowMajor (⟨3, ![1, 2048, 1]⟩ : Shape)).symm.trans windowEquiv.symm) _ _ fun n => ?_
  let w := (Shape.rowMajor (⟨3, ![1, 2048, 1]⟩ : Shape)).symm n
  show _ = if 2047 ≤ (s : ℕ) + (w 1 : ℕ) then f ((s : ℕ) + (w 1 : ℕ) - 2047) else 0
  have w0 : (w 0 : ℕ) < 1 := (w 0).isLt
  have w1 : (w 1 : ℕ) < 2048 := (w 1).isLt
  have w2 : (w 2 : ℕ) < 1 := (w 2).isLt
  by_cases h : 2047 ≤ (s : ℕ) + (w 1 : ℕ)
  · rw [if_pos h, dif_pos (by
      intro a
      fin_cases a
      · show 0 ≤ (b : ℕ) * 1 + (w 0 : ℕ) ∧ (b : ℕ) * 1 + (w 0 : ℕ) - 0 < 16; omega
      · show 2047 ≤ (s : ℕ) * 1 + (w 1 : ℕ) ∧ (s : ℕ) * 1 + (w 1 : ℕ) - 2047 < 2048; omega
      · show 0 ≤ (p : ℕ) * 1 + (w 2 : ℕ) ∧ (p : ℕ) * 1 + (w 2 : ℕ) - 0 < 16; omega)]
    refine Eq.trans (congrArg G ?_) (hf ⟨(s : ℕ) + (w 1 : ℕ) - 2047, by omega⟩).symm
    funext a; refine Fin.ext ?_
    fin_cases a
    · show (b : ℕ) * 1 + (w 0 : ℕ) - 0 = b; omega
    · show (s : ℕ) * 1 + (w 1 : ℕ) - 2047 = (s : ℕ) + (w 1 : ℕ) - 2047; omega
    · show (p : ℕ) * 1 + (w 2 : ℕ) - 0 = p; omega
  · rw [if_neg h, dif_neg]
    intro hin
    have h1 : 2047 ≤ (s : ℕ) * 1 + (w 1 : ℕ) := (hin 1).1
    omega

theorem v6_val (b : Fin 16) (s : Fin 2048) (p : Fin 16) : (val_main_v6 (F := Ideal) x0 x2 (ix3 b s p) : EReal)
    = ∑ r ∈ Finset.range ((s : ℕ) + 1), (if h : r < 2048 then lsig (x0 (ix3 b ⟨r, h⟩ p) + x2 (ix2 0 p)) else 0) := by
  have hz : (val_main_call1_call0_v0 (F := Ideal) (Shape.Idx.first h_S_) : EReal) = 0 := by
    unfold val_main_call1_call0_v0 val_main_call1_call0_cst
    pointwise
  unfold val_main_v6 Host.reduceWindowAdd
  rw [Ideal.hostReduceWindowAdd_def, hz]
  refine window_val (val_main_v5 (F := Ideal) x0 x2) (fun r => if h : r < 2048 then lsig (x0 (ix3 b ⟨r, h⟩ p) + x2 (ix2 0 p)) else 0) b s p fun r => ?_
  rw [v5_val]
  exact dif_pos r.isLt

end Cert.ReferenceForgetFirstIdeal.Read

namespace Cert.ForgetFirstIdeal.Tile

open Idealize.ShloMosaic Idealize.ShloMosaic.TcCoe Cert.ForgetFirstIdeal Cert.ForgetFirstIdeal.Gen Cert.Gates

variable (m : (ℓ : Loc nD τ sig) → Buf (Elt Ideal) ℓ) (c : Dev nD)

/-- The argument of the gate of a head at a frame. -/
def inF (b : Fin 16) (s : Fin 2048) (p : Fin 16) : EReal := m ((c : Thread nD τ).loc main_arg0) (ix3 b s p)
def inO (p : Fin 16) : EReal := m ((c : Thread nD τ).loc main_arg2) (ix2 0 p)

theorem V2_apply (r : Fin 32768) (p : Fin 16) : (V m c main_v2 (ix2 r ⟨32 + p, by omega⟩) : EReal) = inF m c ⟨r / 2048, by omega⟩ ⟨r % 2048, by omega⟩ p := by
  unfold V
  after_reads_at
  after_reads_at
  rfl

theorem V5_apply (p : Fin 16) : (V m c main_v5 (ix2 p 0) : EReal) = inO m c p := by
  unfold V
  after_reads_at
  rfl

theorem lt_N (t : Fin cfg0.N) : t.val < 16 := lt_of_lt_of_eq t.isLt N_0
theorem index0 : ∀ t : Fin cfg0.N, win0_0.index t = ![t.val, 0] := by decide
theorem index1 : ∀ t : Fin cfg0.N, win0_1.index t = ![0, 0] := by decide
theorem index2 : ∀ t : Fin cfg0.N, win0_2.index t = ![0, t.val, 0, 0] := by decide
theorem index3 : ∀ t : Fin cfg0.N, win0_3.index t = ![t.val, 0, 0] := by decide

/-- The stream of a grid point. -/
def sq (t : Fin cfg0.N) : Fin 16 := ⟨t.val, by have := lt_N t; omega⟩

theorem emb0 (t : Fin cfg0.N) (q : Fin 2048) (d : Fin 128) : ((cfg0.win 0).blk t).view.emb (ix2 q d) = ix2 ⟨2048 * t.val + q, by have := lt_N t; omega⟩ d := by
  funext a; refine Fin.ext ?_
  blk_simp [index0]
  fin_cases a
  · show t.val * 2048 + (q : ℕ) = 2048 * t.val + q; omega
  · show 0 * 128 + (d : ℕ) = d; omega
theorem emb1 (t : Fin cfg0.N) (p : Fin 16) : ((cfg0.win 1).blk t).view.emb (ix2 p 0) = ix2 p 0 := by
  funext a; refine Fin.ext ?_
  blk_simp [index1]
  fin_cases a
  · show 0 * 16 + (p : ℕ) = p; omega
  · show 0 * 1 + 0 = 0; omega
theorem emb2 (t : Fin cfg0.N) (l : Fin 2) (p : Fin 16) (q : Fin 2048) : ((cfg0.win 2).blk t).view.emb (ix4 l 0 p q) = ix4 l (sq t) p q := by
  funext a; refine Fin.ext ?_
  blk_simp [index2]
  fin_cases a
  · show 0 * 2 + (l : ℕ) = l; omega
  · show t.val * 1 + 0 = t.val; omega
  · show 0 * 16 + (p : ℕ) = p; omega
  · show 0 * 2048 + (q : ℕ) = q; omega
theorem emb3 (t : Fin cfg0.N) (p : Fin 16) (q : Fin 2048) : ((cfg0.win 3).blk t).view.emb (ix3 0 p q) = ix3 (sq t) p q := by
  funext a; refine Fin.ext ?_
  blk_simp [index3]
  fin_cases a
  · show t.val * 1 + 0 = t.val; omega
  · show 0 * 16 + (p : ℕ) = p; omega
  · show 0 * 2048 + (q : ℕ) = q; omega

theorem iblk0_eq (t : Fin cfg0.N) (q : Fin 2048) (p : Fin 16) : (iblk m c 0 t (ix2 q ⟨32 + p, by omega⟩) : EReal) = inF m c (sq t) q p := by
  unfold iblk
  refine (congrArg (V m c main_v2) (emb0 t q _)).trans ((V2_apply m c _ p).trans ?_)
  refine congrArg₂ (fun a b => inF m c a b p) (Fin.ext ?_) (Fin.ext ?_)
  · show (2048 * t.val + q) / 2048 = t.val; omega
  · show (2048 * t.val + (q : ℕ)) % 2048 = q; omega
theorem iblk1_eq (t : Fin cfg0.N) (p : Fin 16) : (iblk m c 1 t (ix2 p 0) : EReal) = inO m c p := by
  unfold iblk
  exact (congrArg (V m c main_v5) (emb1 t p)).trans (V5_apply m c p)

/-- The logarithm of a gate from the arguments. -/
def gateOf (b : Fin 16) (p : Fin 16) (s : ℕ) : EReal := if h : s < 2048 then lsig (inF m c b ⟨s, h⟩ p + inO m c p) else 0

theorem gateAt_eq (t : Fin cfg0.N) (p : Fin 16) (s : ℕ) : gateAt (iblk m c 0 t) (iblk m c 1 t) p s = gateOf m c (sq t) p s := by
  unfold gateAt gateOf
  refine dite_congr rfl (fun h => ?_) fun _ => rfl
  exact congrArg lsig (congrArg₂ (· + ·) (iblk0_eq m c t ⟨s, h⟩ p) (iblk1_eq m c t p))

/-- The gates after the call: zero at the second layer. -/
theorem both (l : Fin 2) (b : Fin 16) (p : Fin 16) (q : Fin 2048) : ((dats m 0 c).arrAt 2 cfg0.N (ix4 l b p q) : EReal) = if (l : ℕ) < 1 then gateOf m c b p q else 0 := by
  let t : Fin cfg0.N := ⟨b.val, lt_of_lt_of_eq b.isLt N_0.symm⟩
  have hb := congrFun (Value.blocks2 m c t (flush0_2 t)) (ix4 (n0 := 2) (n1 := 1) (n2 := 16) (n3 := 2048) l 0 p q)
  rw [Value.flushed2_A] at hb
  refine Eq.trans ?_ (hb.trans ?_)
  · exact congrArg ((dats m 0 c).arrAt 2 cfg0.N) (emb2 t l p q).symm
  · refine (out2_eq c t (iblk m c 0 t) (iblk m c 1 t) l p q).trans ?_
    exact if_congr Iff.rfl (gateAt_eq m c t p q) rfl

/-- The running sums after the call. -/
theorem running (b : Fin 16) (p : Fin 16) (q : Fin 2048) : ((dats m 0 c).arrAt 3 cfg0.N (ix3 b p q) : EReal) = ∑ s ∈ Finset.range ((q : ℕ) + 1), gateOf m c b p s := by
  let t : Fin cfg0.N := ⟨b.val, lt_of_lt_of_eq b.isLt N_0.symm⟩
  have hb := congrFun (Value.blocks3 m c t (flush0_3 t)) (ix3 (n0 := 1) (n1 := 16) (n2 := 2048) 0 p q)
  rw [Value.flushed3_A] at hb
  refine Eq.trans ?_ (hb.trans ?_)
  · exact congrArg ((dats m 0 c).arrAt 3 cfg0.N) (emb3 t p q).symm
  · refine (out3_eq c t (iblk m c 0 t) (iblk m c 1 t) p q).trans ?_
    exact Finset.sum_congr rfl fun s _ => gateAt_eq m c t p s

theorem gates_eq (l : Fin 2) (b : Fin 16) (p : Fin 16) (q : Fin 2048) : Cert.ReferenceForgetFirstIdeal.Read.val_main_v11 (F := Ideal)
    (m ((c : Thread nD τ).loc main_arg0)) (m ((c : Thread nD τ).loc main_arg2)) (ix4 l b p q)
    = (dats m 0 c).arrAt 2 cfg0.N (ix4 l b p q) := by
  refine (Cert.ReferenceForgetFirstIdeal.Read.v11_val _ _ l b p q).trans (Eq.trans ?_ (both m c l b p q).symm)
  refine if_congr Iff.rfl ((Cert.ReferenceForgetFirstIdeal.Read.v5_val _ _ b q p).trans ?_) rfl
  unfold gateOf
  rw [dif_pos q.isLt]
  rfl

/-- The gates the call leaves are the reference's, over the same arguments. -/
theorem meet_gates (x0 : (⟨S16x2048x16, .f32⟩ : BufTy).Contents (Elt Ideal)) (x2 : (⟨S2x16, .f32⟩ : BufTy).Contents (Elt Ideal))
    (h0 : x0 = m ((c : Thread nD τ).loc main_arg0))
    (h2 : x2 = m ((c : Thread nD τ).loc main_arg2)) :
    Cert.ReferenceForgetFirstIdeal.Read.val_main_v11 (F := Ideal) x0 x2 = (dats m 0 c).arrAt 2 cfg0.N := by
  rw [h0, h2]
  funext i
  have hi : i = ix4 (n0 := 2) (n1 := 16) (n2 := 16) (n3 := 2048) (i 0) (i 1) (i 2) (i 3) := by funext a; fin_cases a <;> rfl
  exact (congrArg _ hi).trans ((gates_eq m c (i 0) (i 1) (i 2) (i 3)).trans (congrArg _ hi.symm))

/-- The running sums the call leaves are the reference's, over the same arguments. -/
theorem meet_sums (x0 : (⟨S16x2048x16, .f32⟩ : BufTy).Contents (Elt Ideal)) (x2 : (⟨S2x16, .f32⟩ : BufTy).Contents (Elt Ideal))
    (h0 : x0 = m ((c : Thread nD τ).loc main_arg0)) (h2 : x2 = m ((c : Thread nD τ).loc main_arg2)) :
    Cert.ReferenceForgetFirstIdeal.Read.val_main_v12 (F := Ideal) x0 x2 = (dats m 0 c).arrAt 3 cfg0.N := by
  rw [h0, h2]
  funext i
  have hi : i = ix3 (n0 := 16) (n1 := 16) (n2 := 2048) (i 0) (i 1) (i 2) := by funext a; fin_cases a <;> rfl
  refine (congrArg _ hi).trans (Eq.trans ?_ (congrArg _ hi.symm))
  refine (Cert.ReferenceForgetFirstIdeal.Read.v12_val _ _ (i 0) (i 1) (i 2)).trans ((Cert.ReferenceForgetFirstIdeal.Read.v6_val _ _ (i 0) (i 2) (i 1)).trans ?_)
  exact (running m c (i 0) (i 1) (i 2)).symm

end Cert.ForgetFirstIdeal.Tile

end
-- ==== Proof.Pile.lean ====
/- Sixteen stores, one after the other, at sixteen disjoint rectangles of one buffer, each of a value that may depend on
   what the stores before it left: what the buffer holds at a rectangle before its store is what it held at the start, and
   after it what was stored. Nothing here names the program. -/
module

public import Idealize.ShloMosaic.Lib.Pipeline.ReadBack
public import Idealize.ShloMosaic.Lib.Pipeline.FrameBody

@[expose] public section

noncomputable section

namespace Cert.Pile

open Idealize.ShloMosaic

variable {s : Shape} {e : EltTy} {Val : EltTy → Type}

/-- The sixteen members in the order in which they are stored. -/
def heads : List (Fin 16) := [0, 1, 2, 3, 4, 5, 6, 7, 8, 9, 10, 11, 12, 13, 14, 15]

theorem heads_take_succ : ∀ h : Fin 16, heads.take (h + 1) = heads.take h ++ [h] := by decide

/-- The stores of the first `n` members in front of `base`; member `h` stores `w h L`, where `L` is what is stored before. -/
def upto (r : Fin 16 → Rect s) (w : (h : Fin 16) → List (View.Piece Val s e) → (r h).shape.Idx → Val e)
    (base : List (View.Piece Val s e)) (n : ℕ) : List (View.Piece Val s e) :=
  (heads.take n).foldl (fun L h => ⟨r h, w h L⟩ :: L) base

variable (r : Fin 16 → Rect s) (w : (h : Fin 16) → List (View.Piece Val s e) → (r h).shape.Idx → Val e)
  (base : List (View.Piece Val s e))

theorem upto_zero : upto r w base 0 = base := rfl

theorem upto_succ (h : Fin 16) : upto r w base (h + 1) = ⟨r h, w h (upto r w base h)⟩ :: upto r w base h := by
  unfold upto; rw [heads_take_succ, List.foldl_append]; rfl

/-- A family of lists each the one before with the next member's store in front is that of `upto`. -/
theorem eq_upto (L : Fin 17 → List (View.Piece Val s e)) (h0 : L 0 = base)
    (hs : ∀ h : Fin 16, L h.succ = ⟨r h, w h (L h.castSucc)⟩ :: L h.castSucc) : ∀ n : Fin 17, L n = upto r w base n := by
  intro n
  induction n using Fin.induction with
  | zero => rw [h0]; rfl
  | succ h ih => rw [hs, ih, Fin.val_succ, upto_succ]; rfl

/-- No index of one member's rectangle lies in another's. -/
def Apart : Prop := ∀ h h' : Fin 16, h ≠ h' → ∀ x, (r h).emb x ∉ (r h').set

variable {r}

/-- Before its own store, member `h`'s rectangle holds what `base` left. -/
theorem canon_upto_of_le [∀ e, Nonempty (Val e)] (hr : Apart r) (h : Fin 16) (x : (r h).shape.Idx) :
    ∀ n : ℕ, n ≤ h.val → View.canon (upto r w base n) ((r h).emb x) = View.canon base ((r h).emb x)
  | 0, _ => rfl
  | n + 1, hn => by
    have hn' : n < 16 := by have := h.isLt; omega
    rw [show n + 1 = (⟨n, hn'⟩ : Fin 16).val + 1 from rfl, upto_succ, View.canon_cons_of_not_mem]
    · exact canon_upto_of_le hr h x n (by omega)
    · exact hr h ⟨n, hn'⟩ (fun e => by have := congrArg Fin.val e; dsimp only at this; omega) x

/-- After it, what the member stored. -/
theorem canon_upto_of_lt [∀ e, Nonempty (Val e)] (hr : Apart r) (h : Fin 16) (x : (r h).shape.Idx) :
    ∀ n : ℕ, n ≤ 16 → h.val < n → View.canon (upto r w base n) ((r h).emb x) = w h (upto r w base h) x
  | 0, _, hn => absurd hn (by omega)
  | n + 1, h16, hn => by
    have hn' : n < 16 := by omega
    rw [show n + 1 = (⟨n, hn'⟩ : Fin 16).val + 1 from rfl, upto_succ]
    rcases eq_or_ne h ⟨n, hn'⟩ with rfl | hne
    · exact View.canon_cons_emb _ _ _ _
    · rw [View.canon_cons_of_not_mem _ _ (hr h ⟨n, hn'⟩ hne x)]
      exact canon_upto_of_lt hr h x n (by omega) (by
        have := hn; have h2 : h.val ≠ n := fun e => hne (Fin.ext e); omega)

/-- Every member's rectangle is among those stored. -/
theorem mem_upto (h : Fin 16) : ∀ n : ℕ, n ≤ 16 → h.val < n → ∃ p ∈ upto r w base n, p.1 = r h
  | 0, _, hn => absurd hn (by omega)
  | n + 1, h16, hn => by
    have hn' : n < 16 := by omega
    rw [show n + 1 = (⟨n, hn'⟩ : Fin 16).val + 1 from rfl, upto_succ]
    rcases eq_or_ne h ⟨n, hn'⟩ with rfl | hne
    · exact ⟨_, List.mem_cons_self, rfl⟩
    · obtain ⟨p, hp, hpr⟩ := mem_upto h n (by omega) (by
        have := hn; have h2 : h.val ≠ n := fun e => hne (Fin.ext e); omega)
      exact ⟨p, List.mem_cons_of_mem _ hp, hpr⟩

/-- A load of member `h`'s rectangle before its own store reads what `base` left. -/
theorem readCov_upto [∀ e, Nonempty (Val e)] {sig : RefSig} {κ : Kind} {sp : Space} (v : View sig κ sp s e) (hr : Apart r)
    (h : Fin 16) : v.readCov (upto r w base h) (r h).toLoadRect = v.readCov base (r h).toLoadRect := by
  rw [View.readCov_eq_canon', View.readCov_eq_canon']
  funext x
  exact canon_upto_of_le w base hr h x h.val le_rfl

/-- What any contents hold at member `h`'s rectangle after all sixteen stores. -/
theorem read_upto [∀ e, Nonempty (Val e)] {sig : RefSig} {κ : Kind} {sp : Space} (v : View sig κ sp s e) (f : v.ty.Contents Val)
    (hr : Apart r) (h : Fin 16) (x : (r h).shape.Idx) :
    v.read Val (v.writes Val f (upto r w base 16)) ((r h).emb x) = w h (upto r w base h) x := by
  rw [View.read_writes_apply_eq_canon]
  · exact canon_upto_of_lt w base hr h x 16 le_rfl h.isLt
  · obtain ⟨p, hp, hpr⟩ := mem_upto w base h 16 le_rfl h.isLt
    exact ⟨p, hp, by rw [hpr, ← Rect.map_emb_univ]; exact Finset.mem_map_of_mem _ (Finset.mem_univ x)⟩

end Cert.Pile

end
-- ==== Proof.Step.lean ====
/- One head's step of the online softmax in the kernel's own operations: the logits of a tile of keys, the new greatest
   logit, the new sum of weights, the new weighted values, and one head pair's normalised output; and a sweep of the sixteen
   heads over the three state buffers. The operations are the printed ones, at any float carrier. -/
module

public import proofs.«01_k».proof.Proof.Gen.KernelIdeal.Loops
public import proofs.«01_k».proof.Proof.Gen.KernelIdeal
public import proofs.«01_k».proof.Proof.Pile

@[expose] public section

noncomputable section

namespace Cert.KernelIdeal.Step

open Idealize.ShloMosaic Cert.KernelIdeal Cert.KernelIdeal.Gen Cert.Pile

variable {F : FTy → Type} [FloatOps F] [Named F]

/-- A tile's logits: keys down, queries across. -/
def lg (kt : Vec F S1x1x128x256 .bf16) (qx : FVec F S128x256 .bf16) : FVec F S256x256 .f32 :=
  matmul dot_S128x256_S128x256_S256x256_0_0_1_1_n_n none (shapeCast S128x256 kt shapeCasts_S1x1x128x256_S128x256) qx
    (constant S256x256 .f32 0x00000000#32)

/-- The logits of the diagonal tile: a key after the query is masked. -/
def diag (s : FVec F S256x256 .f32) : FVec F S256x256 .f32 :=
  select (cmpi .sle (iota .tc S256x256 32 [0] iota_S256x256_d0_w32) (iota .tc S256x256 32 [1] iota_S256x256_d1_w32)) s
    (broadcast S256x256 (Named.named κ "mask" 0xF149F2CA#32))

/-- The greatest logit of a tile, by query. -/
def mx (s : FVec F S256x256 .f32) : FVec F S1x256 .f32 :=
  shapeCast S1x256 (multiReduction .maximumf [0] S256 s 0xFF800000#32 reduces_S256x256_S256 (.inl rfl) rfl) shapeCasts_S256_S1x256

/-- The sum of a tile's weights, by query. -/
def sm (p : FVec F S256x256 .f32) : FVec F S1x256 .f32 :=
  shapeCast S1x256 (multiReduction .add [0] S256 p 0x00000000#32 reduces_S256x256_S256 (.inl rfl) rfl) shapeCasts_S256_S1x256

/-- A tile's weights against a greatest logit. -/
def ex (s : FVec F S256x256 .f32) (m : FVec F S1x256 .f32) : FVec F S256x256 .f32 :=
  exp2 (subf s (broadcastTo S256x256 m broadcasts_S1x256_S256x256))

/-- The factor that rescales the state from an old greatest logit to a new one. -/
def al (mo mn : FVec F S1x256 .f32) : FVec F S1x256 .f32 := exp2 (subf mo mn)

/-- A tile's values weighted. -/
def pv (v : Vec F S1x1x64x256 .bf16) (p : FVec F S256x256 .f32) : FVec F S64x256 .f32 :=
  matmul dot_S64x256_S256x256_S64x256_1_0_0_1_n_n none (shapeCast S64x256 v shapeCasts_S1x1x64x256_S64x256)
    (truncf .bf16 p bitsLt_bf16_f32) (constant S64x256 .f32 0x00000000#32)

/-- One tile: the new greatest logit, sum of weights and weighted values. -/
def m1 (s : FVec F S256x256 .f32) (mo : FVec F S1x256 .f32) : FVec F S1x256 .f32 := maximumf mo (mx s)
def l1 (s : FVec F S256x256 .f32) (mo lo : FVec F S1x256 .f32) : FVec F S1x256 .f32 :=
  addf (mulf (al mo (m1 s mo)) lo) (sm (ex s (m1 s mo)))
def a1 (s : FVec F S256x256 .f32) (v : Vec F S1x1x64x256 .bf16) (mo : FVec F S1x256 .f32) (ao : FVec F S64x256 .f32) : FVec F S64x256 .f32 :=
  addf (mulf (broadcastTo S64x256 (al mo (m1 s mo)) broadcasts_S1x256_S64x256) ao) (pv v (ex s (m1 s mo)))

/-- Two tiles at once: the new greatest logit, sum of weights and weighted values. -/
def m2 (s t : FVec F S256x256 .f32) (mo : FVec F S1x256 .f32) : FVec F S1x256 .f32 := maximumf mo (maximumf (mx s) (mx t))
def l2 (s t : FVec F S256x256 .f32) (mo lo : FVec F S1x256 .f32) : FVec F S1x256 .f32 :=
  addf (addf (mulf (al mo (m2 s t mo)) lo) (sm (ex s (m2 s t mo)))) (sm (ex t (m2 s t mo)))
def a2 (s t : FVec F S256x256 .f32) (v u : Vec F S1x1x64x256 .bf16) (mo : FVec F S1x256 .f32) (ao : FVec F S64x256 .f32) : FVec F S64x256 .f32 :=
  addf (addf (mulf (broadcastTo S64x256 (al mo (m2 s t mo)) broadcasts_S1x256_S64x256) ao) (pv v (ex s (m2 s t mo)))) (pv u (ex t (m2 s t mo)))

/-- One head pair's output block: the weighted values over the sum of weights, the two heads side by side. -/
def outp (a : Vec F S1x64x256 .f32) (l : Vec F S1x1x256 .f32) (a' : Vec F S1x64x256 .f32) (l' : Vec F S1x1x256 .f32) : FVec F S1x256x128 .bf16 :=
  shapeCast S1x256x128 (truncf .bf16 (transpose S256x128 [1, 0]
    (concatenate S128x256 0 [⟨S64x256, divf (shapeCast S64x256 a shapeCasts_S1x64x256_S64x256)
        (broadcastTo S64x256 (shapeCast S1x256 l shapeCasts_S1x1x256_S1x256) broadcasts_S1x256_S64x256)⟩,
      ⟨S64x256, divf (shapeCast S64x256 a' shapeCasts_S1x64x256_S64x256)
        (broadcastTo S64x256 (shapeCast S1x256 l' shapeCasts_S1x1x256_S1x256) broadcasts_S1x256_S64x256)⟩]
      concatenates_S64x256_S64x256_S128x256_d0) transposes_S128x256_p1_0_S256x128) bitsLt_bf16_f32) shapeCasts_S256x128_S1x256x128

/-- The query block of an even head, with the rows that meet the key tiles' bias. -/
def bias : FVec F S16x256 .f32 :=
  select (cmpi .slt (iota .tc S16x256 32 [0] iota_S16x256_d0_w32) (broadcast S16x256 3#32))
    (broadcast S16x256 (FloatOps.ofBits .f32 0xBF800000#32)) (broadcast S16x256 (FloatOps.ofBits .f32 0x00000000#32))
def qT (q : Vec F S1x256x128 .bf16) : FVec F S128x256 .f32 :=
  transpose S128x256 [1, 0] (extf .f32 (shapeCast S256x128 q shapeCasts_S1x256x128_S256x128) bitsLt_bf16_f32) transposes_S256x128_p1_0_S128x256
def qE (q : Vec F S1x256x128 .bf16) : FVec F S128x256 .bf16 :=
  truncf .bf16 (concatenate S128x256 0 [⟨S64x256, extractStridedSlice S64x256 ![0, 0] (qT q) slices_S128x256_o0_0_S64x256⟩,
    ⟨S16x256, bias⟩, ⟨S48x256, broadcast S48x256 (FloatOps.ofBits .f32 0x00000000#32)⟩]
    concatenates_S64x256_S16x256_S48x256_S128x256_d0) bitsLt_bf16_f32
/-- The query block of an odd head. -/
def qO (q : Vec F S1x256x128 .bf16) : FVec F S128x256 .bf16 :=
  truncf .bf16 (concatenate S128x256 0 [⟨S16x256, bias⟩, ⟨S48x256, broadcast S48x256 (FloatOps.ofBits .f32 0x00000000#32)⟩,
    ⟨S64x256, extractStridedSlice S64x256 ![64, 0] (qT q) slices_S128x256_o64_0_S64x256⟩]
    concatenates_S16x256_S48x256_S64x256_S128x256_d0) bitsLt_bf16_f32

/-! ## The sixteen heads -/

/-- Head `h`'s block of key tile `n`, and its block of value tile `n`: two heads' values share a block's rows. -/
theorem inbk (h : Fin 16) {n : ℕ} (hn : n + 1 ≤ 8) : ∀ a : Fin 4, (![(h : ℕ), n, 0, 0] : Fin 4 → ℕ) a + S1x1x128x256.size a ≤ S16x8x128x256.size a := by
  have := h.isLt; intro a; fin_cases a
  · show (h : ℕ) + 1 ≤ 16; omega
  · exact hn
  · exact le_refl _
  · exact le_refl _
theorem inbv (h : Fin 16) {n : ℕ} (hn : n + 1 ≤ 8) : ∀ a : Fin 4, (![(h : ℕ) / 2, n, (h : ℕ) % 2 * 64, 0] : Fin 4 → ℕ) a + S1x1x64x256.size a ≤ S8x8x128x256.size a := by
  have := h.isLt; intro a; fin_cases a
  · show (h : ℕ) / 2 + 1 ≤ 8; omega
  · exact hn
  · show (h : ℕ) % 2 * 64 + 64 ≤ 128; omega
  · exact le_refl _
abbrev rk (h : Fin 16) (n : ℕ) (hn : n + 1 ≤ 8) : Rect S16x8x128x256 := Rect.unit (s := S16x8x128x256) ![(h : ℕ), n, 0, 0] S1x1x128x256.size (inbk h hn)
abbrev rv (h : Fin 16) (n : ℕ) (hn : n + 1 ≤ 8) : Rect S8x8x128x256 :=
  Rect.unit (s := S8x8x128x256) ![(h : ℕ) / 2, n, (h : ℕ) % 2 * 64, 0] S1x1x64x256.size (inbv h hn)

theorem inb1 (h : Fin 16) : ∀ a : Fin 3, (![(h : ℕ), 0, 0] : Fin 3 → ℕ) a + S1x1x256.size a ≤ S16x1x256.size a := by
  have := h.isLt; intro a; fin_cases a
  · show (h : ℕ) + 1 ≤ 16; omega
  · exact le_refl _
  · exact le_refl _
theorem inb64 (h : Fin 16) : ∀ a : Fin 3, (![(h : ℕ), 0, 0] : Fin 3 → ℕ) a + S1x64x256.size a ≤ S16x64x256.size a := by
  have := h.isLt; intro a; fin_cases a
  · show (h : ℕ) + 1 ≤ 16; omega
  · exact le_refl _
  · exact le_refl _

/-- Head `h`'s row of the greatest logits and of the sums of weights; its rows of the weighted values. -/
abbrev r1 (h : Fin 16) : Rect S16x1x256 := Rect.unit (s := S16x1x256) ![(h : ℕ), 0, 0] S1x1x256.size (inb1 h)
abbrev r64 (h : Fin 16) : Rect S16x64x256 := Rect.unit (s := S16x64x256) ![(h : ℕ), 0, 0] S1x64x256.size (inb64 h)

theorem apart1 : Apart r1 := by
  intro h h' hne x hm
  have := Rect.mem_set_unit.mp hm 0
  have e : ((r1 h).emb x 0 : ℕ) = h.val + (x 0 : ℕ) := by
    rw [Rect.emb_apply]; show (h : ℕ) + 1 * (x 0 : ℕ) = _; omega
  have hx : (x 0 : ℕ) < 1 := (x 0).isLt
  rw [e] at this
  have h1 : (h' : ℕ) ≤ h + x 0 := this.1
  have h2 : (h : ℕ) + x 0 < h' + 1 := this.2
  exact hne (Fin.ext (by omega))
theorem apart64 : Apart r64 := by
  intro h h' hne x hm
  have := Rect.mem_set_unit.mp hm 0
  have e : ((r64 h).emb x 0 : ℕ) = h.val + (x 0 : ℕ) := by
    rw [Rect.emb_apply]; show (h : ℕ) + 1 * (x 0 : ℕ) = _; omega
  have hx : (x 0 : ℕ) < 1 := (x 0).isLt
  rw [e] at this
  have h1 : (h' : ℕ) ≤ h + x 0 := this.1
  have h2 : (h : ℕ) + x 0 < h' + 1 := this.2
  exact hne (Fin.ext (by omega))

variable {sig : RefSig} {κ' : Kind} {sp : Space}
  (vm vl : View sig κ' sp S16x1x256 .f32) (va : View sig κ' sp S16x64x256 .f32)

/-- How a head's step changes each of the three states, from the old greatest logit and the old state. -/
abbrev MStep (F : FTy → Type) := Fin 16 → FVec F S1x256 .f32 → FVec F S1x256 .f32
abbrev LStep (F : FTy → Type) := Fin 16 → FVec F S1x256 .f32 → FVec F S1x256 .f32 → FVec F S1x256 .f32
abbrev AStep (F : FTy → Type) := Fin 16 → FVec F S1x256 .f32 → FVec F S64x256 .f32 → FVec F S64x256 .f32

/-- The stores of a sweep that loads each head's state from the contents `f` the sweep finds. -/
def tripM (fm : MStep F) (f : vm.ty.Contents (Elt F)) : List (View.Piece (Elt F) S16x1x256 .f32) :=
  upto r1 (fun h _ => shapeCast S1x1x256 (fm h (shapeCast S1x256 (vm.readAt (Elt F) (r1 h).toLoadRect f) shapeCasts_S1x1x256_S1x256)) shapeCasts_S1x256_S1x1x256) [] 16
def tripL (fl : LStep F) (f : vm.ty.Contents (Elt F)) (g : vl.ty.Contents (Elt F)) : List (View.Piece (Elt F) S16x1x256 .f32) :=
  upto r1 (fun h _ => shapeCast S1x1x256 (fl h (shapeCast S1x256 (vm.readAt (Elt F) (r1 h).toLoadRect f) shapeCasts_S1x1x256_S1x256)
    (shapeCast S1x256 (vl.readAt (Elt F) (r1 h).toLoadRect g) shapeCasts_S1x1x256_S1x256)) shapeCasts_S1x256_S1x1x256) [] 16
def tripA (fa : AStep F) (f : vm.ty.Contents (Elt F)) (g : va.ty.Contents (Elt F)) : List (View.Piece (Elt F) S16x64x256 .f32) :=
  upto r64 (fun h _ => shapeCast S1x64x256 (fa h (shapeCast S1x256 (vm.readAt (Elt F) (r1 h).toLoadRect f) shapeCasts_S1x1x256_S1x256)
    (shapeCast S64x256 (va.readAt (Elt F) (r64 h).toLoadRect g) shapeCasts_S1x64x256_S64x256)) shapeCasts_S64x256_S1x64x256) [] 16

/-- The first `n` heads' stores of a sweep that loads each head's state through what is stored before it. -/
def sweepM (fm : MStep F) (bm : List (View.Piece (Elt F) S16x1x256 .f32)) (n : ℕ) : List (View.Piece (Elt F) S16x1x256 .f32) :=
  upto r1 (fun h L => shapeCast S1x1x256 (fm h (shapeCast S1x256 (vm.readCov L (r1 h).toLoadRect) shapeCasts_S1x1x256_S1x256)) shapeCasts_S1x256_S1x1x256) bm n
def sweepL (fm : MStep F) (fl : LStep F) (bm bl : List (View.Piece (Elt F) S16x1x256 .f32)) (n : ℕ) : List (View.Piece (Elt F) S16x1x256 .f32) :=
  upto r1 (fun h L => shapeCast S1x1x256 (fl h (shapeCast S1x256 (vm.readCov (sweepM vm fm bm h) (r1 h).toLoadRect) shapeCasts_S1x1x256_S1x256)
    (shapeCast S1x256 (vl.readCov L (r1 h).toLoadRect) shapeCasts_S1x1x256_S1x256)) shapeCasts_S1x256_S1x1x256) bl n
def sweepA (fm : MStep F) (fa : AStep F) (bm : List (View.Piece (Elt F) S16x1x256 .f32)) (ba : List (View.Piece (Elt F) S16x64x256 .f32)) (n : ℕ) :
    List (View.Piece (Elt F) S16x64x256 .f32) :=
  upto r64 (fun h L => shapeCast S1x64x256 (fa h (shapeCast S1x256 (vm.readCov (sweepM vm fm bm h) (r1 h).toLoadRect) shapeCasts_S1x1x256_S1x256)
    (shapeCast S64x256 (va.readCov L (r64 h).toLoadRect) shapeCasts_S1x64x256_S64x256)) shapeCasts_S64x256_S1x64x256) ba n

end Cert.KernelIdeal.Step

end
-- ==== Proof.Trip.lean ====
/- One trip of the kernel's loop over key tile pairs, read as a sweep of the sixteen heads over a pair of tiles. -/
module

public import proofs.«01_k».proof.Proof.Step

@[expose] public section

set_option maxRecDepth 16384

noncomputable section

namespace Cert.KernelIdeal.Step

open Idealize.ShloMosaic Idealize.ShloMosaic.TcCoe Cert.KernelIdeal Cert.KernelIdeal.Gen Cert.Pile

variable {F : FTy → Type} [FloatOps F] [Named F]

/-- The two key tiles a trip meets. -/
abbrev n0 (i : grid0.Coords) (k : Fin (k0_t1_loop i).trips) : ℕ := k0_off9 i k 1
abbrev n1 (i : grid0.Coords) (k : Fin (k0_t1_loop i).trips) : ℕ := k0_off10 i k 1
theorem n0_le (i : grid0.Coords) (k : Fin (k0_t1_loop i).trips) : n0 i k + 1 ≤ 8 := Facts₀.k0_off9_inb i k 1
theorem n1_le (i : grid0.Coords) (k : Fin (k0_t1_loop i).trips) : n1 i k + 1 ≤ 8 := Facts₀.k0_off10_inb i k 1

variable (𝒱 : Variants) (c : Dev nD) (bd : Option 𝒱.V) (i : grid0.Coords) (arg3 : Memref sig .tc .vmem S1x256x1024 .bf16) (harg3 : arg3.IsWhole) (arg4 : Memref sig .tc .vmem S1x1x1024x2048 .f32) (harg4 : arg4.IsWhole) (arg5 : Memref sig .tc .vmem S1x1x1024x2048 .f32) (harg5 : arg5.IsWhole) (arg6 : Memref sig .tc .vmem S1x16x8x256 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S16x8x128x256 .bf16) (harg9 : arg9.IsWhole) (arg10 : Memref sig .tc .vmem S8x8x128x256 .bf16) (harg10 : arg10.IsWhole) (arg11 : Memref sig .tc .vmem S16x1x256 .f32) (harg11 : arg11.IsWhole) (arg12 : Memref sig .tc .vmem S16x1x256 .f32) (harg12 : arg12.IsWhole) (arg13 : Memref sig .tc .vmem S16x64x256 .f32) (harg13 : arg13.IsWhole) (arg2 : BitVec 32) (v16 : FVec F S128x256 .bf16) (v19 : FVec F S128x256 .bf16) (v26 : FVec F S128x256 .bf16) (v29 : FVec F S128x256 .bf16) (v36 : FVec F S128x256 .bf16) (v39 : FVec F S128x256 .bf16) (v46 : FVec F S128x256 .bf16) (v49 : FVec F S128x256 .bf16) (v56 : FVec F S128x256 .bf16) (v59 : FVec F S128x256 .bf16) (v66 : FVec F S128x256 .bf16) (v69 : FVec F S128x256 .bf16) (v76 : FVec F S128x256 .bf16) (v79 : FVec F S128x256 .bf16) (v86 : FVec F S128x256 .bf16) (v89 : FVec F S128x256 .bf16) (c0_i32_37 : BitVec 32) (v119 : BitVec 32) (c1_i32_38 : BitVec 32) (X_arg9 : BufTy.Contents (Elt F) arg9.view.ty) (X_arg10 : BufTy.Contents (Elt F) arg10.view.ty) (k : Fin (k0_t1_loop i).trips)

/-- The sixteen heads' query blocks as a family. -/
abbrev Qs (v16 v19 v26 v29 v36 v39 v46 v49 v56 v59 v66 v69 v76 v79 v86 v89 : FVec F S128x256 .bf16) : Fin 16 → FVec F S128x256 .bf16 :=
  ![v16, v19, v26, v29, v36, v39, v46, v49, v56, v59, v66, v69, v76, v79, v86, v89]

/-- Head `h`'s logits of the pair's tile `n`, and its values of it, from the two buffers' contents. -/
def tl (Q : Fin 16 → FVec F S128x256 .bf16) (n : ℕ) (hn : n + 1 ≤ 8) (X : BufTy.Contents (Elt F) arg9.view.ty) (h : Fin 16) : FVec F S256x256 .f32 :=
  lg (arg9.view.readAt (Elt F) (rk h n hn).toLoadRect X) (Q h)
def tv (n : ℕ) (hn : n + 1 ≤ 8) (X : BufTy.Contents (Elt F) arg10.view.ty) (h : Fin 16) : Vec F S1x1x64x256 .bf16 :=
  arg10.view.readAt (Elt F) (rv h n hn).toLoadRect X

variable (f : BufTy.Contents (Elt F) arg11.view.ty) (g : BufTy.Contents (Elt F) arg12.view.ty) (z : BufTy.Contents (Elt F) arg13.view.ty)

theorem trip_M : (trip_k0_t1 (F:=F) 𝒱 c bd i arg3 harg3 arg4 harg4 arg5 harg5 arg6 harg6 arg7 harg7 arg8 harg8 arg9 harg9 arg10 harg10 arg11 harg11 arg12 harg12 arg13 harg13 arg2 v16 v19 v26 v29 v36 v39 v46 v49 v56 v59 v66 v69 v76 v79 v86 v89 c0_i32_37 v119 c1_i32_38 X_arg9 X_arg10 k).1 f g z =
    tripM arg11.view (fun h => m2 (tl arg9 (Qs v16 v19 v26 v29 v36 v39 v46 v49 v56 v59 v66 v69 v76 v79 v86 v89) (n0 i k) (n0_le i k) X_arg9 h) (tl arg9 (Qs v16 v19 v26 v29 v36 v39 v46 v49 v56 v59 v66 v69 v76 v79 v86 v89) (n1 i k) (n1_le i k) X_arg9 h)) f := by
  unfold trip_k0_t1; dsimp only; rfl

theorem trip_L : (trip_k0_t1 (F:=F) 𝒱 c bd i arg3 harg3 arg4 harg4 arg5 harg5 arg6 harg6 arg7 harg7 arg8 harg8 arg9 harg9 arg10 harg10 arg11 harg11 arg12 harg12 arg13 harg13 arg2 v16 v19 v26 v29 v36 v39 v46 v49 v56 v59 v66 v69 v76 v79 v86 v89 c0_i32_37 v119 c1_i32_38 X_arg9 X_arg10 k).2.1 f g z =
    tripL arg11.view arg12.view (fun h => l2 (tl arg9 (Qs v16 v19 v26 v29 v36 v39 v46 v49 v56 v59 v66 v69 v76 v79 v86 v89) (n0 i k) (n0_le i k) X_arg9 h) (tl arg9 (Qs v16 v19 v26 v29 v36 v39 v46 v49 v56 v59 v66 v69 v76 v79 v86 v89) (n1 i k) (n1_le i k) X_arg9 h)) f g := by
  unfold trip_k0_t1; dsimp only; rfl

theorem trip_A : (trip_k0_t1 (F:=F) 𝒱 c bd i arg3 harg3 arg4 harg4 arg5 harg5 arg6 harg6 arg7 harg7 arg8 harg8 arg9 harg9 arg10 harg10 arg11 harg11 arg12 harg12 arg13 harg13 arg2 v16 v19 v26 v29 v36 v39 v46 v49 v56 v59 v66 v69 v76 v79 v86 v89 c0_i32_37 v119 c1_i32_38 X_arg9 X_arg10 k).2.2.1 f g z =
    tripA arg11.view arg13.view (fun h => a2 (tl arg9 (Qs v16 v19 v26 v29 v36 v39 v46 v49 v56 v59 v66 v69 v76 v79 v86 v89) (n0 i k) (n0_le i k) X_arg9 h) (tl arg9 (Qs v16 v19 v26 v29 v36 v39 v46 v49 v56 v59 v66 v69 v76 v79 v86 v89) (n1 i k) (n1_le i k) X_arg9 h) (tv arg10 (n0 i k) (n0_le i k) X_arg10 h) (tv arg10 (n1 i k) (n1_le i k) X_arg10 h)) f z := by
  unfold trip_k0_t1; dsimp only; rfl

end Cert.KernelIdeal.Step

end
-- ==== Proof.Runs.lean ====
/- The kernel's body at a grid point, read as the loop's lists, a last sweep of the sixteen heads over the diagonal tile and
   the eight output stores: the printed stores, piece by piece. -/
module

public import proofs.«01_k».proof.Proof.Trip
public import proofs.«01_k».proof.Proof.Gen.KernelIdeal.Frame

@[expose] public section

set_option maxRecDepth 16384
set_option maxHeartbeats 1000000

noncomputable section

namespace Cert.KernelIdeal.Step

open Idealize.ShloMosaic Idealize.ShloMosaic.TcCoe Cert.KernelIdeal Cert.KernelIdeal.Gen Cert.Pile

variable {F : FTy → Type} [FloatOps F] [Named F]

/-- The columns of head pair `p` in a query or output block. -/
theorem inbq (p : Fin 8) : ∀ a : Fin 3, (![0, 0, 128 * (p : ℕ)] : Fin 3 → ℕ) a + S1x256x128.size a ≤ S1x256x1024.size a := by
  have := p.isLt; intro a; fin_cases a
  · exact le_refl _
  · exact le_refl _
  · show 128 * (p : ℕ) + 128 ≤ 1024; omega
abbrev rq (p : Fin 8) : Rect S1x256x1024 := Rect.unit (s := S1x256x1024) ![0, 0, 128 * (p : ℕ)] S1x256x128.size (inbq p)

/-- The states a grid point starts from. -/
def iM : List (View.Piece (Elt F) S16x1x256 .f32) :=
  [⟨Rect.unit ![0, 0, 0] S16x1x256.size inb_S16x1x256_S16x1x256_0_0_0, broadcast S16x1x256 (Named.named κ "mask" 0xF149F2CA#32)⟩]
def iL : List (View.Piece (Elt F) S16x1x256 .f32) :=
  [⟨Rect.unit ![0, 0, 0] S16x1x256.size inb_S16x1x256_S16x1x256_0_0_0, broadcast S16x1x256 (FloatOps.ofBits .f32 0x00000000#32)⟩]
def iA : List (View.Piece (Elt F) S16x64x256 .f32) :=
  [⟨Rect.unit ![0, 0, 0] S16x64x256.size inb_S16x64x256_S16x64x256_0_0_0, broadcast S16x64x256 (FloatOps.ofBits .f32 0x00000000#32)⟩]

variable (c : Dev nD) (i : grid0.Coords) (arg3 : Memref sig .tc .vmem S1x256x1024 .bf16) (harg3 : arg3.IsWhole) (arg4 : Memref sig .tc .vmem S1x1x1024x2048 .f32) (harg4 : arg4.IsWhole) (arg5 : Memref sig .tc .vmem S1x1x1024x2048 .f32) (harg5 : arg5.IsWhole) (arg6 : Memref sig .tc .vmem S1x16x8x256 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S16x8x128x256 .bf16) (harg9 : arg9.IsWhole) (arg10 : Memref sig .tc .vmem S8x8x128x256 .bf16) (harg10 : arg10.IsWhole) (arg11 : Memref sig .tc .vmem S16x1x256 .f32) (harg11 : arg11.IsWhole) (arg12 : Memref sig .tc .vmem S16x1x256 .f32) (harg12 : arg12.IsWhole) (arg13 : Memref sig .tc .vmem S16x64x256 .f32) (harg13 : arg13.IsWhole)

/-- The sixteen heads' query blocks, from a query block's contents. -/
def Qx (X : BufTy.Contents (Elt F) arg3.view.ty) : Fin 16 → FVec F S128x256 .bf16 :=
  let q (p : Fin 8) : Vec F S1x256x128 .bf16 := arg3.view.readAt (Elt F) (rq p).toLoadRect X
  Qs (qE (q 0)) (qO (q 0)) (qE (q 1)) (qO (q 1)) (qE (q 2)) (qO (q 2)) (qE (q 3)) (qO (q 3))
    (qE (q 4)) (qO (q 4)) (qE (q 5)) (qO (q 5)) (qE (q 6)) (qO (q 6)) (qE (q 7)) (qO (q 7))

/-- The first `n` trips' stores into the three states. -/
def L1 (Q : Fin 16 → FVec F S128x256 .bf16) (X : BufTy.Contents (Elt F) arg9.view.ty) (Y : BufTy.Contents (Elt F) arg10.view.ty) (n : ℕ) :=
  pb_k0_t1 (F := F) Variants.none c none i arg3 harg3 arg4 harg4 arg5 harg5 arg6 harg6 arg7 harg7 arg8 harg8 arg9 harg9 arg10 harg10 arg11 harg11 arg12 harg12 arg13 harg13 (BitVec.ofNat 32 (i 2).val) (Q 0) (Q 1) (Q 2) (Q 3) (Q 4) (Q 5) (Q 6) (Q 7) (Q 8) (Q 9) (Q 10) (Q 11) (Q 12) (Q 13) (Q 14) (Q 15) (0#32) (kernelRun0_C.sl.v119 i) (1#32) X Y
    (arg11.view.writes (Elt F) arg11.view.junk iM) (arg12.view.writes (Elt F) arg12.view.junk iL) (arg13.view.writes (Elt F) arg13.view.junk iA) n

/-- The stores of the loop that takes what the first leaves over. -/
def L2 (Q : Fin 16 → FVec F S128x256 .bf16) (X : BufTy.Contents (Elt F) arg9.view.ty) (Y : BufTy.Contents (Elt F) arg10.view.ty) :=
  pb_k0_t2 (F := F) Variants.none c none i arg3 harg3 arg4 harg4 arg5 harg5 arg6 harg6 arg7 harg7 arg8 harg8 arg9 harg9 arg10 harg10 arg11 harg11 arg12 harg12 arg13 harg13 (BitVec.ofNat 32 (i 2).val) (Q 0) (Q 1) (Q 2) (Q 3) (Q 4) (Q 5) (Q 6) (Q 7) (Q 8) (Q 9) (Q 10) (Q 11) (Q 12) (Q 13) (Q 14) (Q 15) (0#32) (kernelRun0_C.sl.v119 i) (1#32) (kernelRun0_C.sl.v123 i) X Y
    (arg11.view.writes (Elt F) arg11.view.junk ((L1 c i arg3 harg3 arg4 harg4 arg5 harg5 arg6 harg6 arg7 harg7 arg8 harg8 arg9 harg9 arg10 harg10 arg11 harg11 arg12 harg12 arg13 harg13 Q X Y (Scf.trips (k0_t1_loop i).lb (k0_t1_loop i).ub (k0_t1_loop i).st)).1 ++ iM))
    (arg12.view.writes (Elt F) arg12.view.junk ((L1 c i arg3 harg3 arg4 harg4 arg5 harg5 arg6 harg6 arg7 harg7 arg8 harg8 arg9 harg9 arg10 harg10 arg11 harg11 arg12 harg12 arg13 harg13 Q X Y (Scf.trips (k0_t1_loop i).lb (k0_t1_loop i).ub (k0_t1_loop i).st)).2.1 ++ iL))
    (arg13.view.writes (Elt F) arg13.view.junk ((L1 c i arg3 harg3 arg4 harg4 arg5 harg5 arg6 harg6 arg7 harg7 arg8 harg8 arg9 harg9 arg10 harg10 arg11 harg11 arg12 harg12 arg13 harg13 Q X Y (Scf.trips (k0_t1_loop i).lb (k0_t1_loop i).ub (k0_t1_loop i).st)).2.2 ++ iA))
    (Scf.trips (k0_t2_loop i).lb (k0_t2_loop i).ub (k0_t2_loop i).st)

/-- What is stored in the three states when the last sweep starts. -/
def bM (Q : Fin 16 → FVec F S128x256 .bf16) (X : BufTy.Contents (Elt F) arg9.view.ty) (Y : BufTy.Contents (Elt F) arg10.view.ty) :=
  (L2 c i arg3 harg3 arg4 harg4 arg5 harg5 arg6 harg6 arg7 harg7 arg8 harg8 arg9 harg9 arg10 harg10 arg11 harg11 arg12 harg12 arg13 harg13 Q X Y).1 ++ ((L1 c i arg3 harg3 arg4 harg4 arg5 harg5 arg6 harg6 arg7 harg7 arg8 harg8 arg9 harg9 arg10 harg10 arg11 harg11 arg12 harg12 arg13 harg13 Q X Y (Scf.trips (k0_t1_loop i).lb (k0_t1_loop i).ub (k0_t1_loop i).st)).1 ++ iM)
def bL (Q : Fin 16 → FVec F S128x256 .bf16) (X : BufTy.Contents (Elt F) arg9.view.ty) (Y : BufTy.Contents (Elt F) arg10.view.ty) :=
  (L2 c i arg3 harg3 arg4 harg4 arg5 harg5 arg6 harg6 arg7 harg7 arg8 harg8 arg9 harg9 arg10 harg10 arg11 harg11 arg12 harg12 arg13 harg13 Q X Y).2.1 ++ ((L1 c i arg3 harg3 arg4 harg4 arg5 harg5 arg6 harg6 arg7 harg7 arg8 harg8 arg9 harg9 arg10 harg10 arg11 harg11 arg12 harg12 arg13 harg13 Q X Y (Scf.trips (k0_t1_loop i).lb (k0_t1_loop i).ub (k0_t1_loop i).st)).2.1 ++ iL)
def bA (Q : Fin 16 → FVec F S128x256 .bf16) (X : BufTy.Contents (Elt F) arg9.view.ty) (Y : BufTy.Contents (Elt F) arg10.view.ty) :=
  (L2 c i arg3 harg3 arg4 harg4 arg5 harg5 arg6 harg6 arg7 harg7 arg8 harg8 arg9 harg9 arg10 harg10 arg11 harg11 arg12 harg12 arg13 harg13 Q X Y).2.2 ++ ((L1 c i arg3 harg3 arg4 harg4 arg5 harg5 arg6 harg6 arg7 harg7 arg8 harg8 arg9 harg9 arg10 harg10 arg11 harg11 arg12 harg12 arg13 harg13 Q X Y (Scf.trips (k0_t1_loop i).lb (k0_t1_loop i).ub (k0_t1_loop i).st)).2.2 ++ iA)

/-- The eight output stores of what the sums of weights and the weighted values hold. -/
def outs (lL : List (View.Piece (Elt F) S16x1x256 .f32)) (lA : List (View.Piece (Elt F) S16x64x256 .f32)) : List (View.Piece (Elt F) S1x256x1024 .bf16) :=
  let o (p : Fin 8) (h h' : Fin 16) : View.Piece (Elt F) S1x256x1024 .bf16 :=
    ⟨rq p, outp (arg13.view.readCov lA (r64 h).toLoadRect) (arg12.view.readCov lL (r1 h).toLoadRect)
      (arg13.view.readCov lA (r64 h').toLoadRect) (arg12.view.readCov lL (r1 h').toLoadRect)⟩
  [o 7 14 15, o 6 12 13, o 5 10 11, o 4 8 9, o 3 6 7, o 2 4 5, o 1 2 3, o 0 0 1]

/-- The outputs after a last sweep by the given steps over the given contents of the tile buffers. -/
def fin (Q : Fin 16 → FVec F S128x256 .bf16) (X : BufTy.Contents (Elt F) arg9.view.ty) (Y : BufTy.Contents (Elt F) arg10.view.ty)
    (fm : MStep F) (fl : LStep F) (fa : AStep F) : List (View.Piece (Elt F) S1x256x1024 .bf16) :=
  outs arg12 arg13 (sweepL arg11.view arg12.view fm fl (bM c i arg3 harg3 arg4 harg4 arg5 harg5 arg6 harg6 arg7 harg7 arg8 harg8 arg9 harg9 arg10 harg10 arg11 harg11 arg12 harg12 arg13 harg13 Q X Y) (bL c i arg3 harg3 arg4 harg4 arg5 harg5 arg6 harg6 arg7 harg7 arg8 harg8 arg9 harg9 arg10 harg10 arg11 harg11 arg12 harg12 arg13 harg13 Q X Y) 16)
    (sweepA arg11.view arg13.view fm fa (bM c i arg3 harg3 arg4 harg4 arg5 harg5 arg6 harg6 arg7 harg7 arg8 harg8 arg9 harg9 arg10 harg10 arg11 harg11 arg12 harg12 arg13 harg13 Q X Y) (bA c i arg3 harg3 arg4 harg4 arg5 harg5 arg6 harg6 arg7 harg7 arg8 harg8 arg9 harg9 arg10 harg10 arg11 harg11 arg12 harg12 arg13 harg13 Q X Y) 16)

/-- A head's store of its new greatest logit in front of a list. -/
def consM (fm : MStep F) (h : Fin 16) (L : List (View.Piece (Elt F) S16x1x256 .f32)) : List (View.Piece (Elt F) S16x1x256 .f32) :=
  ⟨r1 h, shapeCast S1x1x256 (fm h (shapeCast S1x256 (arg11.view.readCov L (r1 h).toLoadRect) shapeCasts_S1x1x256_S1x256)) shapeCasts_S1x256_S1x1x256⟩ :: L

/-- The outputs are `fin`'s where the three lists grow head by head as the sweep has it. -/
theorem fin_of (Q : Fin 16 → FVec F S128x256 .bf16) (X : BufTy.Contents (Elt F) arg9.view.ty) (Y : BufTy.Contents (Elt F) arg10.view.ty)
    (fm : MStep F) (fl : LStep F) (fa : AStep F) (M L : Fin 17 → List (View.Piece (Elt F) S16x1x256 .f32)) (A : Fin 17 → List (View.Piece (Elt F) S16x64x256 .f32))
    (hM0 : M 0 = bM c i arg3 harg3 arg4 harg4 arg5 harg5 arg6 harg6 arg7 harg7 arg8 harg8 arg9 harg9 arg10 harg10 arg11 harg11 arg12 harg12 arg13 harg13 Q X Y)
    (hM : ∀ h : Fin 16, M h.succ = ⟨r1 h, shapeCast S1x1x256 (fm h (shapeCast S1x256 (arg11.view.readCov (M h.castSucc) (r1 h).toLoadRect) shapeCasts_S1x1x256_S1x256)) shapeCasts_S1x256_S1x1x256⟩ :: M h.castSucc)
    (hL0 : L 0 = bL c i arg3 harg3 arg4 harg4 arg5 harg5 arg6 harg6 arg7 harg7 arg8 harg8 arg9 harg9 arg10 harg10 arg11 harg11 arg12 harg12 arg13 harg13 Q X Y)
    (hL : ∀ h : Fin 16, L h.succ = ⟨r1 h, shapeCast S1x1x256 (fl h (shapeCast S1x256 (arg11.view.readCov (M h.castSucc) (r1 h).toLoadRect) shapeCasts_S1x1x256_S1x256)
      (shapeCast S1x256 (arg12.view.readCov (L h.castSucc) (r1 h).toLoadRect) shapeCasts_S1x1x256_S1x256)) shapeCasts_S1x256_S1x1x256⟩ :: L h.castSucc)
    (hA0 : A 0 = bA c i arg3 harg3 arg4 harg4 arg5 harg5 arg6 harg6 arg7 harg7 arg8 harg8 arg9 harg9 arg10 harg10 arg11 harg11 arg12 harg12 arg13 harg13 Q X Y)
    (hA : ∀ h : Fin 16, A h.succ = ⟨r64 h, shapeCast S1x64x256 (fa h (shapeCast S1x256 (arg11.view.readCov (M h.castSucc) (r1 h).toLoadRect) shapeCasts_S1x1x256_S1x256)
      (shapeCast S64x256 (arg13.view.readCov (A h.castSucc) (r64 h).toLoadRect) shapeCasts_S1x64x256_S64x256)) shapeCasts_S64x256_S1x64x256⟩ :: A h.castSucc)
    {O : List (View.Piece (Elt F) S1x256x1024 .bf16)} (hO : O = outs arg12 arg13 (L 16) (A 16)) : O = fin c i arg3 harg3 arg4 harg4 arg5 harg5 arg6 harg6 arg7 harg7 arg8 harg8 arg9 harg9 arg10 harg10 arg11 harg11 arg12 harg12 arg13 harg13 Q X Y fm fl fa := by
  have eM : ∀ n : Fin 17, M n = sweepM arg11.view fm (bM c i arg3 harg3 arg4 harg4 arg5 harg5 arg6 harg6 arg7 harg7 arg8 harg8 arg9 harg9 arg10 harg10 arg11 harg11 arg12 harg12 arg13 harg13 Q X Y) n := eq_upto _ _ _ M hM0 hM
  have eL : ∀ n : Fin 17, L n = sweepL arg11.view arg12.view fm fl (bM c i arg3 harg3 arg4 harg4 arg5 harg5 arg6 harg6 arg7 harg7 arg8 harg8 arg9 harg9 arg10 harg10 arg11 harg11 arg12 harg12 arg13 harg13 Q X Y) (bL c i arg3 harg3 arg4 harg4 arg5 harg5 arg6 harg6 arg7 harg7 arg8 harg8 arg9 harg9 arg10 harg10 arg11 harg11 arg12 harg12 arg13 harg13 Q X Y) n :=
    eq_upto _ _ _ L hL0 (fun h => by rw [hL h, eM]; rfl)
  have eA : ∀ n : Fin 17, A n = sweepA arg11.view arg13.view fm fa (bM c i arg3 harg3 arg4 harg4 arg5 harg5 arg6 harg6 arg7 harg7 arg8 harg8 arg9 harg9 arg10 harg10 arg11 harg11 arg12 harg12 arg13 harg13 Q X Y) (bA c i arg3 harg3 arg4 harg4 arg5 harg5 arg6 harg6 arg7 harg7 arg8 harg8 arg9 harg9 arg10 harg10 arg11 harg11 arg12 harg12 arg13 harg13 Q X Y) n :=
    eq_upto _ _ _ A hA0 (fun h => by rw [hA h, eM]; rfl)
  rw [hO, eL, eA]; rfl

/-- The pieces that fill the tile buffers at a sequence's first point. -/
abbrev pk (hc0 : cond0_0 i) (x1 : Vec F S1x1x1024x2048 .f32) (x3 : Vec F S1x16x8x256 .f32) : List (View.Piece (Elt F) S16x8x128x256 .bf16) :=
  kernelRun0_A.sl.HS0_128 c i arg4 harg4 arg6 harg6 hc0 x1 x3
abbrev pw (x2 : Vec F S1x1x1024x2048 .f32) : List (View.Piece (Elt F) S8x8x128x256 .bf16) := kernelRun0_A.sl.HS1_64 c arg5 harg5 x2

def tlc (Q : Fin 16 → FVec F S128x256 .bf16) (n : ℕ) (hn : n + 1 ≤ 8) (L : List (View.Piece (Elt F) S16x8x128x256 .bf16)) (h : Fin 16) : FVec F S256x256 .f32 :=
  lg (arg9.view.readCov L (rk h n hn).toLoadRect) (Q h)
def tvc (n : ℕ) (hn : n + 1 ≤ 8) (L : List (View.Piece (Elt F) S8x8x128x256 .bf16)) (h : Fin 16) : Vec F S1x1x64x256 .bf16 :=
  arg10.view.readCov L (rv h n hn).toLoadRect

theorem runA (hc0 : cond0_0 i) (hc1 : ¬cond0_1 i) (hc2 : cond0_2 i) (x0 : Vec F S1x256x1024 .bf16) (x1 : Vec F S1x1x1024x2048 .f32) (x2 : Vec F S1x1x1024x2048 .f32) (x3 : Vec F S1x16x8x256 .f32) (x4 : Vec F S1x256x1024 .bf16) :
    (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4).1 =
      fin c i arg3 harg3 arg4 harg4 arg5 harg5 arg6 harg6 arg7 harg7 arg8 harg8 arg9 harg9 arg10 harg10 arg11 harg11 arg12 harg12 arg13 harg13 (Qx arg3 (harg3.unread x0)) (arg9.view.writes (Elt F) arg9.view.junk (pk c i arg4 harg4 arg6 harg6 hc0 x1 x3)) (arg10.view.writes (Elt F) arg10.view.junk (pw c arg5 harg5 x2))
        (fun h => m1 (diag (tlc arg9 (Qx arg3 (harg3.unread x0)) (k0_off201 i 1) (Facts₀.k0_off201_inb i hc2 1) (pk c i arg4 harg4 arg6 harg6 hc0 x1 x3) h)))
        (fun h => l1 (diag (tlc arg9 (Qx arg3 (harg3.unread x0)) (k0_off201 i 1) (Facts₀.k0_off201_inb i hc2 1) (pk c i arg4 harg4 arg6 harg6 hc0 x1 x3) h)))
        (fun h => a1 (diag (tlc arg9 (Qx arg3 (harg3.unread x0)) (k0_off201 i 1) (Facts₀.k0_off201_inb i hc2 1) (pk c i arg4 harg4 arg6 harg6 hc0 x1 x3) h)) (tvc arg10 (k0_off217 i 1) (Facts₀.k0_off217_inb i hc2 1) (pw c arg5 harg5 x2) h)) :=
  fin_of c i arg3 harg3 arg4 harg4 arg5 harg5 arg6 harg6 arg7 harg7 arg8 harg8 arg9 harg9 arg10 harg10 arg11 harg11 arg12 harg12 arg13 harg13 (Qx arg3 (harg3.unread x0)) (arg9.view.writes (Elt F) arg9.view.junk (pk c i arg4 harg4 arg6 harg6 hc0 x1 x3)) (arg10.view.writes (Elt F) arg10.view.junk (pw c arg5 harg5 x2)) _ _ _
    ![bM c i arg3 harg3 arg4 harg4 arg5 harg5 arg6 harg6 arg7 harg7 arg8 harg8 arg9 harg9 arg10 harg10 arg11 harg11 arg12 harg12 arg13 harg13 (Qx arg3 (harg3.unread x0)) (arg9.view.writes (Elt F) arg9.view.junk (pk c i arg4 harg4 arg6 harg6 hc0 x1 x3)) (arg10.view.writes (Elt F) arg10.view.junk (pw c arg5 harg5 x2)), (kernelRun0_A.sl.HS2_1_1 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_2 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_3 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_4 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_5 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_6 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_7 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_8 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_9 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_10 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_11 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_12 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_13 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_14 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS2_15 c i arg3 harg3 arg4 harg4 arg5 harg5 arg6 harg6 arg7 harg7 arg8 harg8 arg9 harg9 arg10 harg10 arg11 harg11 arg12 harg12 arg13 harg13 hc0 hc2 x0 x1 x2 x3), consM arg11 (fun h => m1 (diag (tlc arg9 (Qx arg3 (harg3.unread x0)) (k0_off201 i 1) (Facts₀.k0_off201_inb i hc2 1) (pk c i arg4 harg4 arg6 harg6 hc0 x1 x3) h))) 15 (kernelRun0_A.sl.HS2_15 c i arg3 harg3 arg4 harg4 arg5 harg5 arg6 harg6 arg7 harg7 arg8 harg8 arg9 harg9 arg10 harg10 arg11 harg11 arg12 harg12 arg13 harg13 hc0 hc2 x0 x1 x2 x3)]
    ![bL c i arg3 harg3 arg4 harg4 arg5 harg5 arg6 harg6 arg7 harg7 arg8 harg8 arg9 harg9 arg10 harg10 arg11 harg11 arg12 harg12 arg13 harg13 (Qx arg3 (harg3.unread x0)) (arg9.view.writes (Elt F) arg9.view.junk (pk c i arg4 harg4 arg6 harg6 hc0 x1 x3)) (arg10.view.writes (Elt F) arg10.view.junk (pw c arg5 harg5 x2)), (kernelRun0_A.sl.HS3_1_1 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_2 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_3 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_4 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_5 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_6 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_7 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_8 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_9 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_10 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_11 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_12 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_13 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_14 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_15 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS3_16 c i arg3 harg3 arg4 harg4 arg5 harg5 arg6 harg6 arg7 harg7 arg8 harg8 arg9 harg9 arg10 harg10 arg11 harg11 arg12 harg12 arg13 harg13 hc0 hc2 x0 x1 x2 x3)]
    ![bA c i arg3 harg3 arg4 harg4 arg5 harg5 arg6 harg6 arg7 harg7 arg8 harg8 arg9 harg9 arg10 harg10 arg11 harg11 arg12 harg12 arg13 harg13 (Qx arg3 (harg3.unread x0)) (arg9.view.writes (Elt F) arg9.view.junk (pk c i arg4 harg4 arg6 harg6 hc0 x1 x3)) (arg10.view.writes (Elt F) arg10.view.junk (pw c arg5 harg5 x2)), (kernelRun0_A.sl.HS4_1_1 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_2 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_3 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_4 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_5 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_6 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_7 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_8 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_9 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_10 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_11 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_12 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_13 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_14 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_15 c i arg3 harg3 arg4 harg4 arg5 harg5 arg6 harg6 arg7 harg7 arg8 harg8 arg9 harg9 arg10 harg10 arg11 harg11 arg12 harg12 arg13 harg13 hc0 hc2 x0 x1 x2 x3), (kernelRun0_A.sl.HS4_16 c i arg3 harg3 arg4 harg4 arg5 harg5 arg6 harg6 arg7 harg7 arg8 harg8 arg9 harg9 arg10 harg10 arg11 harg11 arg12 harg12 arg13 harg13 hc0 hc2 x0 x1 x2 x3)]
    rfl (by intro h; fin_cases h <;> rfl) rfl (by intro h; fin_cases h <;> rfl) rfl (by intro h; fin_cases h <;> rfl)
    (by unfold kernelRun0_A; dsimp only; rfl)

theorem runB (hc0 : ¬cond0_0 i) (hc1 : cond0_1 i) (hc2 : ¬cond0_2 i) (x0 : Vec F S1x256x1024 .bf16) (x1 : Vec F S1x1x1024x2048 .f32) (x2 : Vec F S1x1x1024x2048 .f32) (x3 : Vec F S1x16x8x256 .f32) (x4 : Vec F S1x256x1024 .bf16) (xs0 : Vec F S16x8x128x256 .bf16) (xs1 : Vec F S8x8x128x256 .bf16) :
    (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 xs0 xs1).1 =
      fin c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1)
        (fun h => m2 (tl arg9 (Qx arg3 (harg3.unread x0)) (k0_off137 i 1) (Facts₀.k0_off137_inb i hc1 1) (harg9.unread xs0) h) (diag (tl arg9 (Qx arg3 (harg3.unread x0)) (k0_off138 i 1) (Facts₀.k0_off138_inb i hc1 1) (harg9.unread xs0) h)))
        (fun h => l2 (tl arg9 (Qx arg3 (harg3.unread x0)) (k0_off137 i 1) (Facts₀.k0_off137_inb i hc1 1) (harg9.unread xs0) h) (diag (tl arg9 (Qx arg3 (harg3.unread x0)) (k0_off138 i 1) (Facts₀.k0_off138_inb i hc1 1) (harg9.unread xs0) h)))
        (fun h => a2 (tl arg9 (Qx arg3 (harg3.unread x0)) (k0_off137 i 1) (Facts₀.k0_off137_inb i hc1 1) (harg9.unread xs0) h) (diag (tl arg9 (Qx arg3 (harg3.unread x0)) (k0_off138 i 1) (Facts₀.k0_off138_inb i hc1 1) (harg9.unread xs0) h)) (tv arg10 (k0_off169 i 1) (Facts₀.k0_off169_inb i hc1 1) (harg10.unread xs1) h) (tv arg10 (k0_off170 i 1) (Facts₀.k0_off170_inb i hc1 1) (harg10.unread xs1) h)) :=
  fin_of c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1) _ _ _
    ![bM c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1), (kernelRun0_B.sl.HS2_1_1 c i arg3 harg3 arg4 harg4 arg5 harg5 arg6 harg6 arg7 harg7 arg8 harg8 arg9 harg9 arg10 harg10 arg11 harg11 arg12 harg12 arg13 harg13 hc1 x0 xs0 xs1), (kernelRun0_B.sl.HS2_2 c i arg3 harg3 arg4 harg4 arg5 harg5 arg6 harg6 arg7 harg7 arg8 harg8 arg9 harg9 arg10 harg10 arg11 harg11 arg12 harg12 arg13 harg13 hc1 x0 xs0 xs1), (kernelRun0_B.sl.HS2_3 c i arg3 harg3 arg4 harg4 arg5 harg5 arg6 harg6 arg7 harg7 arg8 harg8 arg9 harg9 arg10 harg10 arg11 harg11 arg12 harg12 arg13 harg13 hc1 x0 xs0 xs1), (kernelRun0_B.sl.HS2_4 c i arg3 harg3 arg4 harg4 arg5 harg5 arg6 harg6 arg7 harg7 arg8 harg8 arg9 harg9 arg10 harg10 arg11 harg11 arg12 harg12 arg13 harg13 hc1 x0 xs0 xs1), (kernelRun0_B.sl.HS2_5 c i arg3 harg3 arg4 harg4 arg5 harg5 arg6 harg6 arg7 harg7 arg8 harg8 arg9 harg9 arg10 harg10 arg11 harg11 arg12 harg12 arg13 harg13 hc1 x0 xs0 xs1), (kernelRun0_B.sl.HS2_6 c i arg3 harg3 arg4 harg4 arg5 harg5 arg6 harg6 arg7 harg7 arg8 harg8 arg9 harg9 arg10 harg10 arg11 harg11 arg12 harg12 arg13 harg13 hc1 x0 xs0 xs1), (kernelRun0_B.sl.HS2_7 c i arg3 harg3 arg4 harg4 arg5 harg5 arg6 harg6 arg7 harg7 arg8 harg8 arg9 harg9 arg10 harg10 arg11 harg11 arg12 harg12 arg13 harg13 hc1 x0 xs0 xs1), (kernelRun0_B.sl.HS2_8 c i arg3 harg3 arg4 harg4 arg5 harg5 arg6 harg6 arg7 harg7 arg8 harg8 arg9 harg9 arg10 harg10 arg11 harg11 arg12 harg12 arg13 harg13 hc1 x0 xs0 xs1), (kernelRun0_B.sl.HS2_9 c i arg3 harg3 arg4 harg4 arg5 harg5 arg6 harg6 arg7 harg7 arg8 harg8 arg9 harg9 arg10 harg10 arg11 harg11 arg12 harg12 arg13 harg13 hc1 x0 xs0 xs1), (kernelRun0_B.sl.HS2_10 c i arg3 harg3 arg4 harg4 arg5 harg5 arg6 harg6 arg7 harg7 arg8 harg8 arg9 harg9 arg10 harg10 arg11 harg11 arg12 harg12 arg13 harg13 hc1 x0 xs0 xs1), (kernelRun0_B.sl.HS2_11 c i arg3 harg3 arg4 harg4 arg5 harg5 arg6 harg6 arg7 harg7 arg8 harg8 arg9 harg9 arg10 harg10 arg11 harg11 arg12 harg12 arg13 harg13 hc1 x0 xs0 xs1), (kernelRun0_B.sl.HS2_12 c i arg3 harg3 arg4 harg4 arg5 harg5 arg6 harg6 arg7 harg7 arg8 harg8 arg9 harg9 arg10 harg10 arg11 harg11 arg12 harg12 arg13 harg13 hc1 x0 xs0 xs1), (kernelRun0_B.sl.HS2_13 c i arg3 harg3 arg4 harg4 arg5 harg5 arg6 harg6 arg7 harg7 arg8 harg8 arg9 harg9 arg10 harg10 arg11 harg11 arg12 harg12 arg13 harg13 hc1 x0 xs0 xs1), (kernelRun0_B.sl.HS2_14 c i arg3 harg3 arg4 harg4 arg5 harg5 arg6 harg6 arg7 harg7 arg8 harg8 arg9 harg9 arg10 harg10 arg11 harg11 arg12 harg12 arg13 harg13 hc1 x0 xs0 xs1), (kernelRun0_B.sl.HS2_15 c i arg3 harg3 arg4 harg4 arg5 harg5 arg6 harg6 arg7 harg7 arg8 harg8 arg9 harg9 arg10 harg10 arg11 harg11 arg12 harg12 arg13 harg13 hc1 x0 xs0 xs1), consM arg11 (fun h => m2 (tl arg9 (Qx arg3 (harg3.unread x0)) (k0_off137 i 1) (Facts₀.k0_off137_inb i hc1 1) (harg9.unread xs0) h) (diag (tl arg9 (Qx arg3 (harg3.unread x0)) (k0_off138 i 1) (Facts₀.k0_off138_inb i hc1 1) (harg9.unread xs0) h))) 15 (kernelRun0_B.sl.HS2_15 c i arg3 harg3 arg4 harg4 arg5 harg5 arg6 harg6 arg7 harg7 arg8 harg8 arg9 harg9 arg10 harg10 arg11 harg11 arg12 harg12 arg13 harg13 hc1 x0 xs0 xs1)]
    ![bL c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1), (kernelRun0_B.sl.HS3_1_1 c i arg3 harg3 arg4 harg4 arg5 harg5 arg6 harg6 arg7 harg7 arg8 harg8 arg9 harg9 arg10 harg10 arg11 harg11 arg12 harg12 arg13 harg13 hc1 x0 xs0 xs1), (kernelRun0_B.sl.HS3_2 c i arg3 harg3 arg4 harg4 arg5 harg5 arg6 harg6 arg7 harg7 arg8 harg8 arg9 harg9 arg10 harg10 arg11 harg11 arg12 harg12 arg13 harg13 hc1 x0 xs0 xs1), (kernelRun0_B.sl.HS3_3 c i arg3 harg3 arg4 harg4 arg5 harg5 arg6 harg6 arg7 harg7 arg8 harg8 arg9 harg9 arg10 harg10 arg11 harg11 arg12 harg12 arg13 harg13 hc1 x0 xs0 xs1), (kernelRun0_B.sl.HS3_4 c i arg3 harg3 arg4 harg4 arg5 harg5 arg6 harg6 arg7 harg7 arg8 harg8 arg9 harg9 arg10 harg10 arg11 harg11 arg12 harg12 arg13 harg13 hc1 x0 xs0 xs1), (kernelRun0_B.sl.HS3_5 c i arg3 harg3 arg4 harg4 arg5 harg5 arg6 harg6 arg7 harg7 arg8 harg8 arg9 harg9 arg10 harg10 arg11 harg11 arg12 harg12 arg13 harg13 hc1 x0 xs0 xs1), (kernelRun0_B.sl.HS3_6 c i arg3 harg3 arg4 harg4 arg5 harg5 arg6 harg6 arg7 harg7 arg8 harg8 arg9 harg9 arg10 harg10 arg11 harg11 arg12 harg12 arg13 harg13 hc1 x0 xs0 xs1), (kernelRun0_B.sl.HS3_7 c i arg3 harg3 arg4 harg4 arg5 harg5 arg6 harg6 arg7 harg7 arg8 harg8 arg9 harg9 arg10 harg10 arg11 harg11 arg12 harg12 arg13 harg13 hc1 x0 xs0 xs1), (kernelRun0_B.sl.HS3_8 c i arg3 harg3 arg4 harg4 arg5 harg5 arg6 harg6 arg7 harg7 arg8 harg8 arg9 harg9 arg10 harg10 arg11 harg11 arg12 harg12 arg13 harg13 hc1 x0 xs0 xs1), (kernelRun0_B.sl.HS3_9 c i arg3 harg3 arg4 harg4 arg5 harg5 arg6 harg6 arg7 harg7 arg8 harg8 arg9 harg9 arg10 harg10 arg11 harg11 arg12 harg12 arg13 harg13 hc1 x0 xs0 xs1), (kernelRun0_B.sl.HS3_10 c i arg3 harg3 arg4 harg4 arg5 harg5 arg6 harg6 arg7 harg7 arg8 harg8 arg9 harg9 arg10 harg10 arg11 harg11 arg12 harg12 arg13 harg13 hc1 x0 xs0 xs1), (kernelRun0_B.sl.HS3_11 c i arg3 harg3 arg4 harg4 arg5 harg5 arg6 harg6 arg7 harg7 arg8 harg8 arg9 harg9 arg10 harg10 arg11 harg11 arg12 harg12 arg13 harg13 hc1 x0 xs0 xs1), (kernelRun0_B.sl.HS3_12 c i arg3 harg3 arg4 harg4 arg5 harg5 arg6 harg6 arg7 harg7 arg8 harg8 arg9 harg9 arg10 harg10 arg11 harg11 arg12 harg12 arg13 harg13 hc1 x0 xs0 xs1), (kernelRun0_B.sl.HS3_13 c i arg3 harg3 arg4 harg4 arg5 harg5 arg6 harg6 arg7 harg7 arg8 harg8 arg9 harg9 arg10 harg10 arg11 harg11 arg12 harg12 arg13 harg13 hc1 x0 xs0 xs1), (kernelRun0_B.sl.HS3_14 c i arg3 harg3 arg4 harg4 arg5 harg5 arg6 harg6 arg7 harg7 arg8 harg8 arg9 harg9 arg10 harg10 arg11 harg11 arg12 harg12 arg13 harg13 hc1 x0 xs0 xs1), (kernelRun0_B.sl.HS3_15 c i arg3 harg3 arg4 harg4 arg5 harg5 arg6 harg6 arg7 harg7 arg8 harg8 arg9 harg9 arg10 harg10 arg11 harg11 arg12 harg12 arg13 harg13 hc1 x0 xs0 xs1), (kernelRun0_B.sl.HS3_16 c i arg3 harg3 arg4 harg4 arg5 harg5 arg6 harg6 arg7 harg7 arg8 harg8 arg9 harg9 arg10 harg10 arg11 harg11 arg12 harg12 arg13 harg13 hc1 x0 xs0 xs1)]
    ![bA c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1), (kernelRun0_B.sl.HS4_1_1 c i arg3 harg3 arg4 harg4 arg5 harg5 arg6 harg6 arg7 harg7 arg8 harg8 arg9 harg9 arg10 harg10 arg11 harg11 arg12 harg12 arg13 harg13 hc1 x0 xs0 xs1), (kernelRun0_B.sl.HS4_2 c i arg3 harg3 arg4 harg4 arg5 harg5 arg6 harg6 arg7 harg7 arg8 harg8 arg9 harg9 arg10 harg10 arg11 harg11 arg12 harg12 arg13 harg13 hc1 x0 xs0 xs1), (kernelRun0_B.sl.HS4_3 c i arg3 harg3 arg4 harg4 arg5 harg5 arg6 harg6 arg7 harg7 arg8 harg8 arg9 harg9 arg10 harg10 arg11 harg11 arg12 harg12 arg13 harg13 hc1 x0 xs0 xs1), (kernelRun0_B.sl.HS4_4 c i arg3 harg3 arg4 harg4 arg5 harg5 arg6 harg6 arg7 harg7 arg8 harg8 arg9 harg9 arg10 harg10 arg11 harg11 arg12 harg12 arg13 harg13 hc1 x0 xs0 xs1), (kernelRun0_B.sl.HS4_5 c i arg3 harg3 arg4 harg4 arg5 harg5 arg6 harg6 arg7 harg7 arg8 harg8 arg9 harg9 arg10 harg10 arg11 harg11 arg12 harg12 arg13 harg13 hc1 x0 xs0 xs1), (kernelRun0_B.sl.HS4_6 c i arg3 harg3 arg4 harg4 arg5 harg5 arg6 harg6 arg7 harg7 arg8 harg8 arg9 harg9 arg10 harg10 arg11 harg11 arg12 harg12 arg13 harg13 hc1 x0 xs0 xs1), (kernelRun0_B.sl.HS4_7 c i arg3 harg3 arg4 harg4 arg5 harg5 arg6 harg6 arg7 harg7 arg8 harg8 arg9 harg9 arg10 harg10 arg11 harg11 arg12 harg12 arg13 harg13 hc1 x0 xs0 xs1), (kernelRun0_B.sl.HS4_8 c i arg3 harg3 arg4 harg4 arg5 harg5 arg6 harg6 arg7 harg7 arg8 harg8 arg9 harg9 arg10 harg10 arg11 harg11 arg12 harg12 arg13 harg13 hc1 x0 xs0 xs1), (kernelRun0_B.sl.HS4_9 c i arg3 harg3 arg4 harg4 arg5 harg5 arg6 harg6 arg7 harg7 arg8 harg8 arg9 harg9 arg10 harg10 arg11 harg11 arg12 harg12 arg13 harg13 hc1 x0 xs0 xs1), (kernelRun0_B.sl.HS4_10 c i arg3 harg3 arg4 harg4 arg5 harg5 arg6 harg6 arg7 harg7 arg8 harg8 arg9 harg9 arg10 harg10 arg11 harg11 arg12 harg12 arg13 harg13 hc1 x0 xs0 xs1), (kernelRun0_B.sl.HS4_11 c i arg3 harg3 arg4 harg4 arg5 harg5 arg6 harg6 arg7 harg7 arg8 harg8 arg9 harg9 arg10 harg10 arg11 harg11 arg12 harg12 arg13 harg13 hc1 x0 xs0 xs1), (kernelRun0_B.sl.HS4_12 c i arg3 harg3 arg4 harg4 arg5 harg5 arg6 harg6 arg7 harg7 arg8 harg8 arg9 harg9 arg10 harg10 arg11 harg11 arg12 harg12 arg13 harg13 hc1 x0 xs0 xs1), (kernelRun0_B.sl.HS4_13 c i arg3 harg3 arg4 harg4 arg5 harg5 arg6 harg6 arg7 harg7 arg8 harg8 arg9 harg9 arg10 harg10 arg11 harg11 arg12 harg12 arg13 harg13 hc1 x0 xs0 xs1), (kernelRun0_B.sl.HS4_14 c i arg3 harg3 arg4 harg4 arg5 harg5 arg6 harg6 arg7 harg7 arg8 harg8 arg9 harg9 arg10 harg10 arg11 harg11 arg12 harg12 arg13 harg13 hc1 x0 xs0 xs1), (kernelRun0_B.sl.HS4_15 c i arg3 harg3 arg4 harg4 arg5 harg5 arg6 harg6 arg7 harg7 arg8 harg8 arg9 harg9 arg10 harg10 arg11 harg11 arg12 harg12 arg13 harg13 hc1 x0 xs0 xs1), (kernelRun0_B.sl.HS4_16 c i arg3 harg3 arg4 harg4 arg5 harg5 arg6 harg6 arg7 harg7 arg8 harg8 arg9 harg9 arg10 harg10 arg11 harg11 arg12 harg12 arg13 harg13 hc1 x0 xs0 xs1)]
    rfl (by intro h; fin_cases h <;> rfl) rfl (by intro h; fin_cases h <;> rfl) rfl (by intro h; fin_cases h <;> rfl)
    (by unfold kernelRun0_B; dsimp only; rfl)

theorem runC (hc0 : ¬cond0_0 i) (hc1 : ¬cond0_1 i) (hc2 : cond0_2 i) (x0 : Vec F S1x256x1024 .bf16) (x1 : Vec F S1x1x1024x2048 .f32) (x2 : Vec F S1x1x1024x2048 .f32) (x3 : Vec F S1x16x8x256 .f32) (x4 : Vec F S1x256x1024 .bf16) (xs0 : Vec F S16x8x128x256 .bf16) (xs1 : Vec F S8x8x128x256 .bf16) :
    (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 xs0 xs1).1 =
      fin c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1)
        (fun h => m1 (diag (tl arg9 (Qx arg3 (harg3.unread x0)) (k0_off201 i 1) (Facts₀.k0_off201_inb i hc2 1) (harg9.unread xs0) h)))
        (fun h => l1 (diag (tl arg9 (Qx arg3 (harg3.unread x0)) (k0_off201 i 1) (Facts₀.k0_off201_inb i hc2 1) (harg9.unread xs0) h)))
        (fun h => a1 (diag (tl arg9 (Qx arg3 (harg3.unread x0)) (k0_off201 i 1) (Facts₀.k0_off201_inb i hc2 1) (harg9.unread xs0) h)) (tv arg10 (k0_off217 i 1) (Facts₀.k0_off217_inb i hc2 1) (harg10.unread xs1) h)) :=
  fin_of c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1) _ _ _
    ![bM c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1), (kernelRun0_C.sl.HS2_1_1 c i arg3 harg3 arg4 harg4 arg5 harg5 arg6 harg6 arg7 harg7 arg8 harg8 arg9 harg9 arg10 harg10 arg11 harg11 arg12 harg12 arg13 harg13 hc2 x0 xs0 xs1), (kernelRun0_C.sl.HS2_2 c i arg3 harg3 arg4 harg4 arg5 harg5 arg6 harg6 arg7 harg7 arg8 harg8 arg9 harg9 arg10 harg10 arg11 harg11 arg12 harg12 arg13 harg13 hc2 x0 xs0 xs1), (kernelRun0_C.sl.HS2_3 c i arg3 harg3 arg4 harg4 arg5 harg5 arg6 harg6 arg7 harg7 arg8 harg8 arg9 harg9 arg10 harg10 arg11 harg11 arg12 harg12 arg13 harg13 hc2 x0 xs0 xs1), (kernelRun0_C.sl.HS2_4 c i arg3 harg3 arg4 harg4 arg5 harg5 arg6 harg6 arg7 harg7 arg8 harg8 arg9 harg9 arg10 harg10 arg11 harg11 arg12 harg12 arg13 harg13 hc2 x0 xs0 xs1), (kernelRun0_C.sl.HS2_5 c i arg3 harg3 arg4 harg4 arg5 harg5 arg6 harg6 arg7 harg7 arg8 harg8 arg9 harg9 arg10 harg10 arg11 harg11 arg12 harg12 arg13 harg13 hc2 x0 xs0 xs1), (kernelRun0_C.sl.HS2_6 c i arg3 harg3 arg4 harg4 arg5 harg5 arg6 harg6 arg7 harg7 arg8 harg8 arg9 harg9 arg10 harg10 arg11 harg11 arg12 harg12 arg13 harg13 hc2 x0 xs0 xs1), (kernelRun0_C.sl.HS2_7 c i arg3 harg3 arg4 harg4 arg5 harg5 arg6 harg6 arg7 harg7 arg8 harg8 arg9 harg9 arg10 harg10 arg11 harg11 arg12 harg12 arg13 harg13 hc2 x0 xs0 xs1), (kernelRun0_C.sl.HS2_8 c i arg3 harg3 arg4 harg4 arg5 harg5 arg6 harg6 arg7 harg7 arg8 harg8 arg9 harg9 arg10 harg10 arg11 harg11 arg12 harg12 arg13 harg13 hc2 x0 xs0 xs1), (kernelRun0_C.sl.HS2_9 c i arg3 harg3 arg4 harg4 arg5 harg5 arg6 harg6 arg7 harg7 arg8 harg8 arg9 harg9 arg10 harg10 arg11 harg11 arg12 harg12 arg13 harg13 hc2 x0 xs0 xs1), (kernelRun0_C.sl.HS2_10 c i arg3 harg3 arg4 harg4 arg5 harg5 arg6 harg6 arg7 harg7 arg8 harg8 arg9 harg9 arg10 harg10 arg11 harg11 arg12 harg12 arg13 harg13 hc2 x0 xs0 xs1), (kernelRun0_C.sl.HS2_11 c i arg3 harg3 arg4 harg4 arg5 harg5 arg6 harg6 arg7 harg7 arg8 harg8 arg9 harg9 arg10 harg10 arg11 harg11 arg12 harg12 arg13 harg13 hc2 x0 xs0 xs1), (kernelRun0_C.sl.HS2_12 c i arg3 harg3 arg4 harg4 arg5 harg5 arg6 harg6 arg7 harg7 arg8 harg8 arg9 harg9 arg10 harg10 arg11 harg11 arg12 harg12 arg13 harg13 hc2 x0 xs0 xs1), (kernelRun0_C.sl.HS2_13 c i arg3 harg3 arg4 harg4 arg5 harg5 arg6 harg6 arg7 harg7 arg8 harg8 arg9 harg9 arg10 harg10 arg11 harg11 arg12 harg12 arg13 harg13 hc2 x0 xs0 xs1), (kernelRun0_C.sl.HS2_14 c i arg3 harg3 arg4 harg4 arg5 harg5 arg6 harg6 arg7 harg7 arg8 harg8 arg9 harg9 arg10 harg10 arg11 harg11 arg12 harg12 arg13 harg13 hc2 x0 xs0 xs1), (kernelRun0_C.sl.HS2_15 c i arg3 harg3 arg4 harg4 arg5 harg5 arg6 harg6 arg7 harg7 arg8 harg8 arg9 harg9 arg10 harg10 arg11 harg11 arg12 harg12 arg13 harg13 hc2 x0 xs0 xs1), consM arg11 (fun h => m1 (diag (tl arg9 (Qx arg3 (harg3.unread x0)) (k0_off201 i 1) (Facts₀.k0_off201_inb i hc2 1) (harg9.unread xs0) h))) 15 (kernelRun0_C.sl.HS2_15 c i arg3 harg3 arg4 harg4 arg5 harg5 arg6 harg6 arg7 harg7 arg8 harg8 arg9 harg9 arg10 harg10 arg11 harg11 arg12 harg12 arg13 harg13 hc2 x0 xs0 xs1)]
    ![bL c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1), (kernelRun0_C.sl.HS3_1_1 c i arg3 harg3 arg4 harg4 arg5 harg5 arg6 harg6 arg7 harg7 arg8 harg8 arg9 harg9 arg10 harg10 arg11 harg11 arg12 harg12 arg13 harg13 hc2 x0 xs0 xs1), (kernelRun0_C.sl.HS3_2 c i arg3 harg3 arg4 harg4 arg5 harg5 arg6 harg6 arg7 harg7 arg8 harg8 arg9 harg9 arg10 harg10 arg11 harg11 arg12 harg12 arg13 harg13 hc2 x0 xs0 xs1), (kernelRun0_C.sl.HS3_3 c i arg3 harg3 arg4 harg4 arg5 harg5 arg6 harg6 arg7 harg7 arg8 harg8 arg9 harg9 arg10 harg10 arg11 harg11 arg12 harg12 arg13 harg13 hc2 x0 xs0 xs1), (kernelRun0_C.sl.HS3_4 c i arg3 harg3 arg4 harg4 arg5 harg5 arg6 harg6 arg7 harg7 arg8 harg8 arg9 harg9 arg10 harg10 arg11 harg11 arg12 harg12 arg13 harg13 hc2 x0 xs0 xs1), (kernelRun0_C.sl.HS3_5 c i arg3 harg3 arg4 harg4 arg5 harg5 arg6 harg6 arg7 harg7 arg8 harg8 arg9 harg9 arg10 harg10 arg11 harg11 arg12 harg12 arg13 harg13 hc2 x0 xs0 xs1), (kernelRun0_C.sl.HS3_6 c i arg3 harg3 arg4 harg4 arg5 harg5 arg6 harg6 arg7 harg7 arg8 harg8 arg9 harg9 arg10 harg10 arg11 harg11 arg12 harg12 arg13 harg13 hc2 x0 xs0 xs1), (kernelRun0_C.sl.HS3_7 c i arg3 harg3 arg4 harg4 arg5 harg5 arg6 harg6 arg7 harg7 arg8 harg8 arg9 harg9 arg10 harg10 arg11 harg11 arg12 harg12 arg13 harg13 hc2 x0 xs0 xs1), (kernelRun0_C.sl.HS3_8 c i arg3 harg3 arg4 harg4 arg5 harg5 arg6 harg6 arg7 harg7 arg8 harg8 arg9 harg9 arg10 harg10 arg11 harg11 arg12 harg12 arg13 harg13 hc2 x0 xs0 xs1), (kernelRun0_C.sl.HS3_9 c i arg3 harg3 arg4 harg4 arg5 harg5 arg6 harg6 arg7 harg7 arg8 harg8 arg9 harg9 arg10 harg10 arg11 harg11 arg12 harg12 arg13 harg13 hc2 x0 xs0 xs1), (kernelRun0_C.sl.HS3_10 c i arg3 harg3 arg4 harg4 arg5 harg5 arg6 harg6 arg7 harg7 arg8 harg8 arg9 harg9 arg10 harg10 arg11 harg11 arg12 harg12 arg13 harg13 hc2 x0 xs0 xs1), (kernelRun0_C.sl.HS3_11 c i arg3 harg3 arg4 harg4 arg5 harg5 arg6 harg6 arg7 harg7 arg8 harg8 arg9 harg9 arg10 harg10 arg11 harg11 arg12 harg12 arg13 harg13 hc2 x0 xs0 xs1), (kernelRun0_C.sl.HS3_12 c i arg3 harg3 arg4 harg4 arg5 harg5 arg6 harg6 arg7 harg7 arg8 harg8 arg9 harg9 arg10 harg10 arg11 harg11 arg12 harg12 arg13 harg13 hc2 x0 xs0 xs1), (kernelRun0_C.sl.HS3_13 c i arg3 harg3 arg4 harg4 arg5 harg5 arg6 harg6 arg7 harg7 arg8 harg8 arg9 harg9 arg10 harg10 arg11 harg11 arg12 harg12 arg13 harg13 hc2 x0 xs0 xs1), (kernelRun0_C.sl.HS3_14 c i arg3 harg3 arg4 harg4 arg5 harg5 arg6 harg6 arg7 harg7 arg8 harg8 arg9 harg9 arg10 harg10 arg11 harg11 arg12 harg12 arg13 harg13 hc2 x0 xs0 xs1), (kernelRun0_C.sl.HS3_15 c i arg3 harg3 arg4 harg4 arg5 harg5 arg6 harg6 arg7 harg7 arg8 harg8 arg9 harg9 arg10 harg10 arg11 harg11 arg12 harg12 arg13 harg13 hc2 x0 xs0 xs1), (kernelRun0_C.sl.HS3_16 c i arg3 harg3 arg4 harg4 arg5 harg5 arg6 harg6 arg7 harg7 arg8 harg8 arg9 harg9 arg10 harg10 arg11 harg11 arg12 harg12 arg13 harg13 hc2 x0 xs0 xs1)]
    ![bA c i arg3 harg3 arg4 harg4 arg5 harg5 arg6 harg6 arg7 harg7 arg8 harg8 arg9 harg9 arg10 harg10 arg11 harg11 arg12 harg12 arg13 harg13 (Qx arg3 (harg3.unread x0)) (harg9.unread xs0) (harg10.unread xs1), (kernelRun0_C.sl.HS4_1_1 c i arg3 harg3 arg4 harg4 arg5 harg5 arg6 harg6 arg7 harg7 arg8 harg8 arg9 harg9 arg10 harg10 arg11 harg11 arg12 harg12 arg13 harg13 hc2 x0 xs0 xs1), (kernelRun0_C.sl.HS4_2 c i arg3 harg3 arg4 harg4 arg5 harg5 arg6 harg6 arg7 harg7 arg8 harg8 arg9 harg9 arg10 harg10 arg11 harg11 arg12 harg12 arg13 harg13 hc2 x0 xs0 xs1), (kernelRun0_C.sl.HS4_3 c i arg3 harg3 arg4 harg4 arg5 harg5 arg6 harg6 arg7 harg7 arg8 harg8 arg9 harg9 arg10 harg10 arg11 harg11 arg12 harg12 arg13 harg13 hc2 x0 xs0 xs1), (kernelRun0_C.sl.HS4_4 c i arg3 harg3 arg4 harg4 arg5 harg5 arg6 harg6 arg7 harg7 arg8 harg8 arg9 harg9 arg10 harg10 arg11 harg11 arg12 harg12 arg13 harg13 hc2 x0 xs0 xs1), (kernelRun0_C.sl.HS4_5 c i arg3 harg3 arg4 harg4 arg5 harg5 arg6 harg6 arg7 harg7 arg8 harg8 arg9 harg9 arg10 harg10 arg11 harg11 arg12 harg12 arg13 harg13 hc2 x0 xs0 xs1), (kernelRun0_C.sl.HS4_6 c i arg3 harg3 arg4 harg4 arg5 harg5 arg6 harg6 arg7 harg7 arg8 harg8 arg9 harg9 arg10 harg10 arg11 harg11 arg12 harg12 arg13 harg13 hc2 x0 xs0 xs1), (kernelRun0_C.sl.HS4_7 c i arg3 harg3 arg4 harg4 arg5 harg5 arg6 harg6 arg7 harg7 arg8 harg8 arg9 harg9 arg10 harg10 arg11 harg11 arg12 harg12 arg13 harg13 hc2 x0 xs0 xs1), (kernelRun0_C.sl.HS4_8 c i arg3 harg3 arg4 harg4 arg5 harg5 arg6 harg6 arg7 harg7 arg8 harg8 arg9 harg9 arg10 harg10 arg11 harg11 arg12 harg12 arg13 harg13 hc2 x0 xs0 xs1), (kernelRun0_C.sl.HS4_9 c i arg3 harg3 arg4 harg4 arg5 harg5 arg6 harg6 arg7 harg7 arg8 harg8 arg9 harg9 arg10 harg10 arg11 harg11 arg12 harg12 arg13 harg13 hc2 x0 xs0 xs1), (kernelRun0_C.sl.HS4_10 c i arg3 harg3 arg4 harg4 arg5 harg5 arg6 harg6 arg7 harg7 arg8 harg8 arg9 harg9 arg10 harg10 arg11 harg11 arg12 harg12 arg13 harg13 hc2 x0 xs0 xs1), (kernelRun0_C.sl.HS4_11 c i arg3 harg3 arg4 harg4 arg5 harg5 arg6 harg6 arg7 harg7 arg8 harg8 arg9 harg9 arg10 harg10 arg11 harg11 arg12 harg12 arg13 harg13 hc2 x0 xs0 xs1), (kernelRun0_C.sl.HS4_12 c i arg3 harg3 arg4 harg4 arg5 harg5 arg6 harg6 arg7 harg7 arg8 harg8 arg9 harg9 arg10 harg10 arg11 harg11 arg12 harg12 arg13 harg13 hc2 x0 xs0 xs1), (kernelRun0_C.sl.HS4_13 c i arg3 harg3 arg4 harg4 arg5 harg5 arg6 harg6 arg7 harg7 arg8 harg8 arg9 harg9 arg10 harg10 arg11 harg11 arg12 harg12 arg13 harg13 hc2 x0 xs0 xs1), (kernelRun0_C.sl.HS4_14 c i arg3 harg3 arg4 harg4 arg5 harg5 arg6 harg6 arg7 harg7 arg8 harg8 arg9 harg9 arg10 harg10 arg11 harg11 arg12 harg12 arg13 harg13 hc2 x0 xs0 xs1), (kernelRun0_C.sl.HS4_15 c i arg3 harg3 arg4 harg4 arg5 harg5 arg6 harg6 arg7 harg7 arg8 harg8 arg9 harg9 arg10 harg10 arg11 harg11 arg12 harg12 arg13 harg13 hc2 x0 xs0 xs1), (kernelRun0_C.sl.HS4_16 c i arg3 harg3 arg4 harg4 arg5 harg5 arg6 harg6 arg7 harg7 arg8 harg8 arg9 harg9 arg10 harg10 arg11 harg11 arg12 harg12 arg13 harg13 hc2 x0 xs0 xs1)]
    rfl (by intro h; fin_cases h <;> rfl) rfl (by intro h; fin_cases h <;> rfl) rfl (by intro h; fin_cases h <;> rfl)
    (by unfold kernelRun0_C; dsimp only; rfl)

end Cert.KernelIdeal.Step

end
-- ==== Proof.Tiles.lean ====
/- The two tile buffers after a sequence's first grid point: the key tiles, each with its rows of gate sums, and the value
   tiles. The hundred and ninety-two printed stores are one formula of the head and the tile. -/
module

public import proofs.«01_k».proof.Proof.Runs

@[expose] public section

set_option maxRecDepth 16384
set_option maxHeartbeats 2000000

noncomputable section

namespace Cert.KernelIdeal.Step

open Idealize.ShloMosaic Idealize.ShloMosaic.TcCoe Cert.KernelIdeal Cert.KernelIdeal.Gen Cert.Pile

variable {F : FTy → Type} [FloatOps F] [Named F]

/-- A tile's gate sums in the base-two scale, and their first, second and third parts of half precision. -/
def cl (g : Vec F S1x1x1x256 .f32) : FVec F S1x256 .f32 :=
  mulf (shapeCast S1x256 g shapeCasts_S1x1x1x256_S1x256) (broadcast S1x256 (Named.named κ "log2e" 0x3FB8AA3B#32))
def hi (g : Vec F S1x1x1x256 .f32) : FVec F S1x256 .f32 := extf .f32 (truncf .bf16 (cl g) bitsLt_bf16_f32) bitsLt_bf16_f32
def mid (g : Vec F S1x1x1x256 .f32) : FVec F S1x256 .f32 := extf .f32 (truncf .bf16 (subf (cl g) (hi g)) bitsLt_bf16_f32) bitsLt_bf16_f32
def lo (g : Vec F S1x1x1x256 .f32) : FVec F S1x256 .f32 := extf .f32 (truncf .bf16 (subf (subf (cl g) (hi g)) (mid g)) bitsLt_bf16_f32) bitsLt_bf16_f32

/-- The rows that carry the gate sums: the parts on the first three, zero below. -/
def gr (g : Vec F S1x1x1x256 .f32) : FVec F S16x256 .f32 :=
  let r (n : BitVec 32) : IVec S16x256 1 := cmpi .eq (iota .tc S16x256 32 [0] iota_S16x256_d0_w32) (broadcast S16x256 n)
  let b (x : FVec F S1x256 .f32) : FVec F S16x256 .f32 := broadcastTo S16x256 (shapeCast S1x256 x shapeCasts_S1x256_S1x256) broadcasts_S1x256_S16x256
  select (r 0#32) (b (hi g)) (select (r 1#32) (b (mid g)) (select (r 2#32) (b (lo g)) (broadcast S16x256 (FloatOps.ofBits .f32 0x00000000#32))))

/-- An even head's key tile, and an odd head's. -/
def kE (k : Vec F S1x1x128x256 .f32) (g : Vec F S1x1x1x256 .f32) : FVec F S1x1x128x256 .bf16 :=
  shapeCast S1x1x128x256 (truncf .bf16 (concatenate S128x256 0 [⟨S64x256, extractStridedSlice S64x256 ![0, 0] (shapeCast S128x256 k shapeCasts_S1x1x128x256_S128x256) slices_S128x256_o0_0_S64x256⟩,
    ⟨S16x256, gr g⟩, ⟨S48x256, broadcast S48x256 (FloatOps.ofBits .f32 0x00000000#32)⟩]
    concatenates_S64x256_S16x256_S48x256_S128x256_d0) bitsLt_bf16_f32) shapeCasts_S128x256_S1x1x128x256
def kO (k : Vec F S1x1x128x256 .f32) (g : Vec F S1x1x1x256 .f32) : FVec F S1x1x128x256 .bf16 :=
  shapeCast S1x1x128x256 (truncf .bf16 (concatenate S128x256 0 [⟨S16x256, gr g⟩, ⟨S48x256, broadcast S48x256 (FloatOps.ofBits .f32 0x00000000#32)⟩,
    ⟨S64x256, extractStridedSlice S64x256 ![64, 0] (shapeCast S128x256 k shapeCasts_S1x1x128x256_S128x256) slices_S128x256_o64_0_S64x256⟩]
    concatenates_S16x256_S48x256_S64x256_S128x256_d0) bitsLt_bf16_f32) shapeCasts_S128x256_S1x1x128x256
/-- A head pair's value tile. -/
def vP (v : Vec F S1x1x128x256 .f32) : FVec F S1x1x128x256 .bf16 :=
  shapeCast S1x1x128x256 (truncf .bf16 (shapeCast S128x256 v shapeCasts_S1x1x128x256_S128x256) bitsLt_bf16_f32) shapeCasts_S128x256_S1x1x128x256

theorem inbp (p t : Fin 8) : ∀ a : Fin 4, (![0, 0, 128 * (p : ℕ), 256 * (t : ℕ)] : Fin 4 → ℕ) a + S1x1x128x256.size a ≤ S1x1x1024x2048.size a := by
  have := p.isLt; have := t.isLt; intro a; fin_cases a
  · exact le_refl _
  · exact le_refl _
  · show 128 * (p : ℕ) + 128 ≤ 1024; omega
  · show 256 * (t : ℕ) + 256 ≤ 2048; omega
/-- Head pair `p`'s rows and tile `t`'s columns of a sequence's keys or values. -/
abbrev rp (p t : Fin 8) : Rect S1x1x1024x2048 := Rect.unit (s := S1x1x1024x2048) ![0, 0, 128 * (p : ℕ), 256 * (t : ℕ)] S1x1x128x256.size (inbp p t)

/-- The row of gate sums a load of head `h` names: the head's, there being one group of heads. -/
abbrev gh (i : grid0.Coords) (h : Fin 16) : ℕ := k0_off1 i (BitVec.ofNat 32 h.val) 1
theorem gh_eq (i : grid0.Coords) (h : Fin 16) : gh i h = h := by
  unfold gh k0_off1; dsimp only; generalize i 1 = n; revert n; revert h; decide
theorem inbg (i : grid0.Coords) (h : Fin 16) (t : Fin 8) : ∀ a : Fin 4, (![0, gh i h, (t : ℕ), 0] : Fin 4 → ℕ) a + S1x1x1x256.size a ≤ S1x16x8x256.size a := by
  have := h.isLt; have := t.isLt; have := gh_eq i h; intro a; fin_cases a
  · exact le_refl _
  · show gh i h + 1 ≤ 16; omega
  · show (t : ℕ) + 1 ≤ 8; omega
  · exact le_refl _
abbrev rg (i : grid0.Coords) (h : Fin 16) (t : Fin 8) : Rect S1x16x8x256 := Rect.unit (s := S1x16x8x256) ![0, gh i h, (t : ℕ), 0] S1x1x1x256.size (inbg i h t)

abbrev ev (p : Fin 8) : Fin 16 := ⟨2 * p.val, by omega⟩
abbrev od (p : Fin 8) : Fin 16 := ⟨2 * p.val + 1, by omega⟩
/-- The eight tiles, or head pairs, in the order in which they lie last first. -/
def down : List (Fin 8) := [7, 6, 5, 4, 3, 2, 1, 0]
theorem mem_down : ∀ t : Fin 8, t ∈ down := by decide

variable (c : Dev nD) (i : grid0.Coords) (arg4 : Memref sig .tc .vmem S1x1x1024x2048 .f32) (harg4 : arg4.IsWhole)
  (arg5 : Memref sig .tc .vmem S1x1x1024x2048 .f32) (harg5 : arg5.IsWhole) (arg6 : Memref sig .tc .vmem S1x16x8x256 .f32) (harg6 : arg6.IsWhole)

/-- The rectangle head `h`'s tile `t` fills, and head pair `p`'s value tile `t`. -/
abbrev rkt (h : Fin 16) (t : Fin 8) : Rect S16x8x128x256 := rk h t (by omega)
theorem inbw (p t : Fin 8) : ∀ a : Fin 4, (![(p : ℕ), (t : ℕ), 0, 0] : Fin 4 → ℕ) a + S1x1x128x256.size a ≤ S8x8x128x256.size a := by
  have := p.isLt; have := t.isLt; intro a; fin_cases a
  · show (p : ℕ) + 1 ≤ 8; omega
  · show (t : ℕ) + 1 ≤ 8; omega
  · exact le_refl _
  · exact le_refl _
abbrev rw' (p t : Fin 8) : Rect S8x8x128x256 := Rect.unit (s := S8x8x128x256) ![(p : ℕ), (t : ℕ), 0, 0] S1x1x128x256.size (inbw p t)

def ld4 (x1 : Vec F S1x1x1024x2048 .f32) (p t : Fin 8) : Vec F S1x1x128x256 .f32 := arg4.view.readAt (Elt F) (rp p t).toLoadRect (harg4.unread x1)
def ld6 (x3 : Vec F S1x16x8x256 .f32) (h : Fin 16) (t : Fin 8) : Vec F S1x1x1x256 .f32 := arg6.view.readAt (Elt F) (rg i h t).toLoadRect (harg6.unread x3)

theorem pw_eq (x2 : Vec F S1x1x1024x2048 .f32) : pw c arg5 harg5 x2 = down.flatMap fun p => down.flatMap fun t => [⟨rw' p t, vP (ld4 arg5 harg5 x2 p t)⟩] := rfl

theorem pk_eq (hc0 : cond0_0 i) (x1 : Vec F S1x1x1024x2048 .f32) (x3 : Vec F S1x16x8x256 .f32) :
    pk c i arg4 harg4 arg6 harg6 hc0 x1 x3 = down.flatMap fun p => down.flatMap fun t =>
      [⟨rkt (od p) t, kO (ld4 arg4 harg4 x1 p t) (ld6 i arg6 harg6 x3 (od p) t)⟩, ⟨rkt (ev p) t, kE (ld4 arg4 harg4 x1 p t) (ld6 i arg6 harg6 x3 (ev p) t)⟩] := rfl

end Cert.KernelIdeal.Step

end
-- ==== Proof.State.lean ====
/- What the three states hold, head by head: after a trip of the loop, and after the last sweep, each head's rows are its
   step of its rows before. -/
module

public import proofs.«01_k».proof.Proof.Runs

@[expose] public section

set_option maxRecDepth 16384

noncomputable section

namespace Cert.Pile

open Idealize.ShloMosaic

variable {s : Shape} {e : EltTy} {Val : EltTy → Type} (r : Fin 16 → Rect s) (w : (h : Fin 16) → (r h).shape.Idx → Val e)

/-- Stores that do not depend on the stores before them may be put in front of any list. -/
theorem upto_append (base : List (View.Piece Val s e)) : ∀ n : ℕ, n ≤ 16 → upto r (fun h _ => w h) [] n ++ base = upto r (fun h _ => w h) base n
  | 0, _ => rfl
  | n + 1, hn => by
    rw [show n + 1 = (⟨n, by omega⟩ : Fin 16).val + 1 from rfl, upto_succ, upto_succ, List.cons_append, upto_append base n (by omega)]

end Cert.Pile

namespace Cert.KernelIdeal.Step

open Idealize.ShloMosaic Idealize.ShloMosaic.TcCoe Cert.KernelIdeal Cert.KernelIdeal.Gen Cert.Pile

variable {F : FTy → Type} [FloatOps F] [Named F]

/-- Head `h`'s row of a state of rows, and its block of a state of blocks. -/
def row (S : S16x1x256.Idx → Elt F .f32) (h : Fin 16) : FVec F S1x256 .f32 :=
  shapeCast (α := Elt F .f32) S1x256 (s := S1x1x256) (fun j => S ((r1 h).emb j)) shapeCasts_S1x1x256_S1x256
def blk (S : S16x64x256.Idx → Elt F .f32) (h : Fin 16) : FVec F S64x256 .f32 :=
  shapeCast (α := Elt F .f32) S64x256 (s := S1x64x256) (fun j => S ((r64 h).emb j)) shapeCasts_S1x64x256_S64x256

section Lists

variable {sig : RefSig} {κ' : Kind} {sp : Space}
  (vm vl : View sig κ' sp S16x1x256 .f32) (va : View sig κ' sp S16x64x256 .f32)

theorem row_upto (w : (h : Fin 16) → List (View.Piece (Elt F) S16x1x256 .f32) → FVec F S1x256 .f32) (B : List (View.Piece (Elt F) S16x1x256 .f32)) (h : Fin 16) :
    row (View.canon (upto r1 (fun h L => shapeCast S1x1x256 (w h L) shapeCasts_S1x256_S1x1x256) B 16)) h = w h (upto r1 (fun h L => shapeCast S1x1x256 (w h L) shapeCasts_S1x256_S1x1x256) B h) := by
  unfold row
  refine (congrArg (fun z => shapeCast (α := Elt F .f32) S1x256 (s := S1x1x256) z shapeCasts_S1x1x256_S1x256) (funext fun j => canon_upto_of_lt _ _ apart1 h j 16 le_rfl h.isLt)).trans ?_
  exact shapeCast_shapeCast _ _ _

theorem blk_upto (w : (h : Fin 16) → List (View.Piece (Elt F) S16x64x256 .f32) → FVec F S64x256 .f32) (B : List (View.Piece (Elt F) S16x64x256 .f32)) (h : Fin 16) :
    blk (View.canon (upto r64 (fun h L => shapeCast S1x64x256 (w h L) shapeCasts_S64x256_S1x64x256) B 16)) h = w h (upto r64 (fun h L => shapeCast S1x64x256 (w h L) shapeCasts_S64x256_S1x64x256) B h) := by
  unfold blk
  refine (congrArg (fun z => shapeCast (α := Elt F .f32) S64x256 (s := S1x64x256) z shapeCasts_S1x64x256_S64x256) (funext fun j => canon_upto_of_lt _ _ apart64 h j 16 le_rfl h.isLt)).trans ?_
  exact shapeCast_shapeCast _ _ _

theorem cast_readCov (L : List (View.Piece (Elt F) S16x1x256 .f32)) (h : Fin 16) :
    shapeCast S1x256 (vm.readCov L (r1 h).toLoadRect) shapeCasts_S1x1x256_S1x256 = row (View.canon L) h := by
  rw [View.readCov_eq_canon']; rfl
theorem cast_readCov64 (L : List (View.Piece (Elt F) S16x64x256 .f32)) (h : Fin 16) :
    shapeCast S64x256 (va.readCov L (r64 h).toLoadRect) shapeCasts_S1x64x256_S64x256 = blk (View.canon L) h := by
  rw [View.readCov_eq_canon']; rfl
theorem cast_readAt (L : List (View.Piece (Elt F) S16x1x256 .f32)) (h : Fin 16) :
    shapeCast S1x256 (vm.readAt (Elt F) (r1 h).toLoadRect (vm.writes (Elt F) vm.junk L)) shapeCasts_S1x1x256_S1x256 = row (View.canon L) h := by
  rw [View.readAt_eq_ld, View.read_writes_junk_eq_canon]; rfl
theorem cast_readAt64 (L : List (View.Piece (Elt F) S16x64x256 .f32)) (h : Fin 16) :
    shapeCast S64x256 (va.readAt (Elt F) (r64 h).toLoadRect (va.writes (Elt F) va.junk L)) shapeCasts_S1x64x256_S64x256 = blk (View.canon L) h := by
  rw [View.readAt_eq_ld, View.read_writes_junk_eq_canon]; rfl

variable (fm : MStep F) (fl : LStep F) (fa : AStep F) (bm bl : List (View.Piece (Elt F) S16x1x256 .f32)) (ba : List (View.Piece (Elt F) S16x64x256 .f32)) (h : Fin 16)

theorem row_sweepM_le : row (View.canon (sweepM vm fm bm h)) h = row (View.canon bm) h := by
  rw [← cast_readCov vm, ← cast_readCov vm]; unfold sweepM; rw [readCov_upto _ _ _ apart1]
theorem row_sweepM : row (View.canon (sweepM vm fm bm 16)) h = fm h (row (View.canon bm) h) := by
  unfold sweepM; rw [row_upto]
  exact congrArg (fm h) (by rw [cast_readCov]; exact row_sweepM_le vm fm bm h)
theorem row_sweepL : row (View.canon (sweepL vm vl fm fl bm bl 16)) h = fl h (row (View.canon bm) h) (row (View.canon bl) h) := by
  unfold sweepL; rw [row_upto, cast_readCov, row_sweepM_le, readCov_upto _ _ _ apart1, cast_readCov]
theorem blk_sweepA : blk (View.canon (sweepA vm va fm fa bm ba 16)) h = fa h (row (View.canon bm) h) (blk (View.canon ba) h) := by
  unfold sweepA; rw [blk_upto, cast_readCov, row_sweepM_le, readCov_upto _ _ _ apart64, cast_readCov64]

theorem row_tripM : row (View.canon (tripM vm fm (vm.writes (Elt F) vm.junk bm) ++ bm)) h = fm h (row (View.canon bm) h) := by
  unfold tripM; rw [upto_append _ _ _ 16 le_rfl, row_upto, cast_readAt]
theorem row_tripL : row (View.canon (tripL vm vl fl (vm.writes (Elt F) vm.junk bm) (vl.writes (Elt F) vl.junk bl) ++ bl)) h = fl h (row (View.canon bm) h) (row (View.canon bl) h) := by
  unfold tripL; rw [upto_append _ _ _ 16 le_rfl, row_upto, cast_readAt, cast_readAt]
theorem blk_tripA : blk (View.canon (tripA vm va fa (vm.writes (Elt F) vm.junk bm) (va.writes (Elt F) va.junk ba) ++ ba)) h = fa h (row (View.canon bm) h) (blk (View.canon ba) h) := by
  unfold tripA; rw [upto_append _ _ _ 16 le_rfl, blk_upto, cast_readAt, cast_readAt64]

end Lists

theorem Qs_eta (Q : Fin 16 → FVec F S128x256 .bf16) :
    Qs (Q 0) (Q 1) (Q 2) (Q 3) (Q 4) (Q 5) (Q 6) (Q 7) (Q 8) (Q 9) (Q 10) (Q 11) (Q 12) (Q 13) (Q 14) (Q 15) = Q := by
  funext h; fin_cases h <;> rfl

variable (c : Dev nD) (i : grid0.Coords) (arg3 : Memref sig .tc .vmem S1x256x1024 .bf16) (harg3 : arg3.IsWhole) (arg4 : Memref sig .tc .vmem S1x1x1024x2048 .f32) (harg4 : arg4.IsWhole) (arg5 : Memref sig .tc .vmem S1x1x1024x2048 .f32) (harg5 : arg5.IsWhole) (arg6 : Memref sig .tc .vmem S1x16x8x256 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S16x8x128x256 .bf16) (harg9 : arg9.IsWhole) (arg10 : Memref sig .tc .vmem S8x8x128x256 .bf16) (harg10 : arg10.IsWhole) (arg11 : Memref sig .tc .vmem S16x1x256 .f32) (harg11 : arg11.IsWhole) (arg12 : Memref sig .tc .vmem S16x1x256 .f32) (harg12 : arg12.IsWhole) (arg13 : Memref sig .tc .vmem S16x64x256 .f32) (harg13 : arg13.IsWhole)
  (Q : Fin 16 → FVec F S128x256 .bf16) (X : BufTy.Contents (Elt F) arg9.view.ty) (Y : BufTy.Contents (Elt F) arg10.view.ty)

/-- The three states before trip `n`. -/
def stM (n : ℕ) : S16x1x256.Idx → Elt F .f32 := View.canon ((L1 c i arg3 harg3 arg4 harg4 arg5 harg5 arg6 harg6 arg7 harg7 arg8 harg8 arg9 harg9 arg10 harg10 arg11 harg11 arg12 harg12 arg13 harg13 Q X Y n).1 ++ iM)
def stL (n : ℕ) : S16x1x256.Idx → Elt F .f32 := View.canon ((L1 c i arg3 harg3 arg4 harg4 arg5 harg5 arg6 harg6 arg7 harg7 arg8 harg8 arg9 harg9 arg10 harg10 arg11 harg11 arg12 harg12 arg13 harg13 Q X Y n).2.1 ++ iL)
def stA (n : ℕ) : S16x64x256.Idx → Elt F .f32 := View.canon ((L1 c i arg3 harg3 arg4 harg4 arg5 harg5 arg6 harg6 arg7 harg7 arg8 harg8 arg9 harg9 arg10 harg10 arg11 harg11 arg12 harg12 arg13 harg13 Q X Y n).2.2 ++ iA)

theorem stM_succ (k : Fin (k0_t1_loop i).trips) (h : Fin 16) : row (stM c i arg3 harg3 arg4 harg4 arg5 harg5 arg6 harg6 arg7 harg7 arg8 harg8 arg9 harg9 arg10 harg10 arg11 harg11 arg12 harg12 arg13 harg13 Q X Y (k + 1)) h =
    m2 (tl arg9 Q (n0 i k) (n0_le i k) X h) (tl arg9 Q (n1 i k) (n1_le i k) X h) (row (stM c i arg3 harg3 arg4 harg4 arg5 harg5 arg6 harg6 arg7 harg7 arg8 harg8 arg9 harg9 arg10 harg10 arg11 harg11 arg12 harg12 arg13 harg13 Q X Y k) h) := by
  unfold stM L1; rw [pb_k0_t1_succ]; unfold tripL_k0_t1; dsimp only
  rw [trip_M, Qs_eta, ← View.writes_append, List.append_assoc, row_tripM]

theorem stL_succ (k : Fin (k0_t1_loop i).trips) (h : Fin 16) : row (stL c i arg3 harg3 arg4 harg4 arg5 harg5 arg6 harg6 arg7 harg7 arg8 harg8 arg9 harg9 arg10 harg10 arg11 harg11 arg12 harg12 arg13 harg13 Q X Y (k + 1)) h =
    l2 (tl arg9 Q (n0 i k) (n0_le i k) X h) (tl arg9 Q (n1 i k) (n1_le i k) X h) (row (stM c i arg3 harg3 arg4 harg4 arg5 harg5 arg6 harg6 arg7 harg7 arg8 harg8 arg9 harg9 arg10 harg10 arg11 harg11 arg12 harg12 arg13 harg13 Q X Y k) h) (row (stL c i arg3 harg3 arg4 harg4 arg5 harg5 arg6 harg6 arg7 harg7 arg8 harg8 arg9 harg9 arg10 harg10 arg11 harg11 arg12 harg12 arg13 harg13 Q X Y k) h) := by
  unfold stL stM L1; rw [pb_k0_t1_succ]; unfold tripL_k0_t1; dsimp only
  rw [trip_L, Qs_eta, ← View.writes_append, ← View.writes_append, List.append_assoc, row_tripL]

theorem stA_succ (k : Fin (k0_t1_loop i).trips) (h : Fin 16) : blk (stA c i arg3 harg3 arg4 harg4 arg5 harg5 arg6 harg6 arg7 harg7 arg8 harg8 arg9 harg9 arg10 harg10 arg11 harg11 arg12 harg12 arg13 harg13 Q X Y (k + 1)) h =
    a2 (tl arg9 Q (n0 i k) (n0_le i k) X h) (tl arg9 Q (n1 i k) (n1_le i k) X h) (tv arg10 (n0 i k) (n0_le i k) Y h) (tv arg10 (n1 i k) (n1_le i k) Y h)
      (row (stM c i arg3 harg3 arg4 harg4 arg5 harg5 arg6 harg6 arg7 harg7 arg8 harg8 arg9 harg9 arg10 harg10 arg11 harg11 arg12 harg12 arg13 harg13 Q X Y k) h) (blk (stA c i arg3 harg3 arg4 harg4 arg5 harg5 arg6 harg6 arg7 harg7 arg8 harg8 arg9 harg9 arg10 harg10 arg11 harg11 arg12 harg12 arg13 harg13 Q X Y k) h) := by
  unfold stA stM L1; rw [pb_k0_t1_succ]; unfold tripL_k0_t1; dsimp only
  rw [trip_A, Qs_eta, ← View.writes_append, ← View.writes_append, List.append_assoc, blk_tripA]

/-- A point's pairs of tiles before the diagonal, and the loop that takes what is left over: nothing. -/
theorem trips1 : (k0_t1_loop i).trips = (i 2).val / 2 := by
  unfold k0_t1_loop; dsimp only; generalize i 2 = n; revert n; decide
theorem trips2 : (k0_t2_loop i).trips = 0 := by
  unfold k0_t2_loop; dsimp only; generalize i 2 = n; revert n; decide

theorem L2_eq : L2 c i arg3 harg3 arg4 harg4 arg5 harg5 arg6 harg6 arg7 harg7 arg8 harg8 arg9 harg9 arg10 harg10 arg11 harg11 arg12 harg12 arg13 harg13 Q X Y = ([], [], []) := by
  unfold L2; rw [show Scf.trips (k0_t2_loop i).lb (k0_t2_loop i).ub (k0_t2_loop i).st = 0 from trips2 i]; rfl

theorem bM_eq : View.canon (bM c i arg3 harg3 arg4 harg4 arg5 harg5 arg6 harg6 arg7 harg7 arg8 harg8 arg9 harg9 arg10 harg10 arg11 harg11 arg12 harg12 arg13 harg13 Q X Y) = stM c i arg3 harg3 arg4 harg4 arg5 harg5 arg6 harg6 arg7 harg7 arg8 harg8 arg9 harg9 arg10 harg10 arg11 harg11 arg12 harg12 arg13 harg13 Q X Y ((i 2).val / 2) := by
  unfold bM; rw [L2_eq, show Scf.trips (k0_t1_loop i).lb (k0_t1_loop i).ub (k0_t1_loop i).st = (i 2).val / 2 from trips1 i]; rfl
theorem bL_eq : View.canon (bL c i arg3 harg3 arg4 harg4 arg5 harg5 arg6 harg6 arg7 harg7 arg8 harg8 arg9 harg9 arg10 harg10 arg11 harg11 arg12 harg12 arg13 harg13 Q X Y) = stL c i arg3 harg3 arg4 harg4 arg5 harg5 arg6 harg6 arg7 harg7 arg8 harg8 arg9 harg9 arg10 harg10 arg11 harg11 arg12 harg12 arg13 harg13 Q X Y ((i 2).val / 2) := by
  unfold bL; rw [L2_eq, show Scf.trips (k0_t1_loop i).lb (k0_t1_loop i).ub (k0_t1_loop i).st = (i 2).val / 2 from trips1 i]; rfl
theorem bA_eq : View.canon (bA c i arg3 harg3 arg4 harg4 arg5 harg5 arg6 harg6 arg7 harg7 arg8 harg8 arg9 harg9 arg10 harg10 arg11 harg11 arg12 harg12 arg13 harg13 Q X Y) = stA c i arg3 harg3 arg4 harg4 arg5 harg5 arg6 harg6 arg7 harg7 arg8 harg8 arg9 harg9 arg10 harg10 arg11 harg11 arg12 harg12 arg13 harg13 Q X Y ((i 2).val / 2) := by
  unfold bA; rw [L2_eq, show Scf.trips (k0_t1_loop i).lb (k0_t1_loop i).ub (k0_t1_loop i).st = (i 2).val / 2 from trips1 i]; rfl

end Cert.KernelIdeal.Step

end
-- ==== Proof.Read.lean ====
/- A head's step read at a query over the extended reals, and the step as the online softmax's law: the new state is the
   greatest logit, the sum of weights and the weighted values of one or two tiles of keys more. -/
module

public import proofs.«01_k».proof.Proof.State
public import proofs.«01_k».proof.Proof.Softmax
public import Idealize.ShloMosaic.Lib.Pointwise
public import Idealize.ShloMosaic.Lib.WordCmp

@[expose] public section

set_option maxRecDepth 16384

noncomputable section

namespace Cert.KernelIdeal.Step

open Idealize.ShloMosaic Cert.KernelIdeal Cert.KernelIdeal.Gen Cert.Softmax

theorem ofBits_negInf : Ideal.ofBits .f32 0xFF800000#32 = ⊥ := by simp [Ideal.ofBits, Ideal.ieee]
theorem ofBits_zero : Ideal.ofBits .f32 0x00000000#32 = 0 := by simp [Ideal.ofBits, Ideal.ieee]
theorem ofBits_negOne : Ideal.ofBits .f32 0xBF800000#32 = -1 := IdealRules.sign_bit.ideal_negOnePat .f32
theorem named_mask : Named.named (F := Ideal) κ "mask" (φ := .f32) 0xF149F2CA#32 = (⊥ : EReal) := rfl
theorem fold_max (f : Fin 256 → EReal) : Finset.univ.fold max (Ideal.ofBits .f32 0xFF800000#32) f = Finset.univ.sup f := by
  rw [ofBits_negInf]; rfl

theorem mx_apply (s : FVec Ideal S256x256 .f32) (q : Fin 256) : mx s (ix2 0 q) = Finset.univ.sup fun k : Fin 256 => s (ix2 k q) := by
  unfold mx
  pointwise
  exact fold_max _

theorem sm_apply (s : FVec Ideal S256x256 .f32) (m : FVec Ideal S1x256 .f32) (q : Fin 256) :
    sm (ex s m) (ix2 0 q) = ∑ k : Fin 256, Ideal.exp2 (s (ix2 k q) - m (ix2 0 q)) := by
  unfold sm ex
  pointwise
  rfl

theorem al_apply (mo m : FVec Ideal S1x256 .f32) (q : Fin 256) : al mo m (ix2 0 q) = Ideal.exp2 (mo (ix2 0 q) - m (ix2 0 q)) := by
  unfold al
  pointwise
  rfl

theorem pv_apply (s : FVec Ideal S256x256 .f32) (v : Vec Ideal S1x1x64x256 .bf16) (m : FVec Ideal S1x256 .f32) (d : Fin 64) (q : Fin 256) :
    pv v (ex s m) (ix2 d q) = ∑ k : Fin 256, v (ix4 0 0 d k) * Ideal.exp2 (s (ix2 k q) - m (ix2 0 q)) := by
  unfold pv ex
  pointwise
  rfl

theorem bc_apply (m : FVec Ideal S1x256 .f32) (d : Fin 64) (q : Fin 256) :
    broadcastTo S64x256 m broadcasts_S1x256_S64x256 (ix2 d q) = m (ix2 0 q) := by
  pointwise

theorem diag_apply (s : FVec Ideal S256x256 .f32) (k q : Fin 256) : diag s (ix2 k q) = if k.val ≤ q.val then s (ix2 k q) else ⊥ := by
  have hk := k.isLt; have hq := q.isLt
  unfold diag
  pointwise
  rw [Scalar.select, WordCmp.cmpi_sle_ofNat (by omega) (by omega), named_mask]
  by_cases h : k.val ≤ q.val <;> simp [h]

theorem row_apply (S : S16x1x256.Idx → Elt Ideal .f32) (h : Fin 16) (q : Fin 256) : row (F := Ideal) S h (ix2 0 q) = S ((r1 h).emb (ix3 0 0 q)) := by
  unfold row
  pointwise
theorem blk_apply (S : S16x64x256.Idx → Elt Ideal .f32) (h : Fin 16) (d : Fin 64) (q : Fin 256) : blk (F := Ideal) S h (ix2 d q) = S ((r64 h).emb (ix3 0 d q)) := by
  unfold blk
  pointwise

section Law

variable (S : ℕ → EReal) (hS : ∀ k, S k ≠ ⊤) (V : ℕ → EReal) (n : ℕ) (s t : FVec Ideal S256x256 .f32) (v u : Vec Ideal S1x1x64x256 .bf16)
  (mo lo : FVec Ideal S1x256 .f32) (ao : FVec Ideal S64x256 .f32) (d : Fin 64) (q : Fin 256)
  (hs : ∀ k : Fin 256, s (ix2 k q) = S (n + k)) (hm : mo (ix2 0 q) = top S n)
  (ht : ∀ k : Fin 256, t (ix2 k q) = S (n + 256 + k))
  (hl : lo (ix2 0 q) = den S n) (hv : ∀ k : Fin 256, v (ix4 0 0 d k) = V (n + k)) (hu : ∀ k : Fin 256, u (ix4 0 0 d k) = V (n + 256 + k))
  (ha : ao (ix2 d q) = num S V n)

include hs hm

theorem m1_law : m1 s mo (ix2 0 q) = top S (n + 256) := by
  rw [top_add, ← hm, show (fun k : Fin 256 => S (n + k)) = fun k => s (ix2 k q) from funext fun k => (hs k).symm, ← mx_apply]; rfl

include hS

include hl in
theorem l1_law : l1 s mo lo (ix2 0 q) = den S (n + 256) := by
  have e : l1 s mo lo (ix2 0 q) = al mo (m1 s mo) (ix2 0 q) * lo (ix2 0 q) + sm (ex s (m1 s mo)) (ix2 0 q) := rfl
  rw [e, al_apply, sm_apply, m1_law S n s mo q hs hm, hm, hl, den_add hS]
  simp only [hs]

include hv ha in
theorem a1_law : a1 s v mo ao (ix2 d q) = num S V (n + 256) := by
  have e : a1 s v mo ao (ix2 d q) = broadcastTo S64x256 (al mo (m1 s mo)) broadcasts_S1x256_S64x256 (ix2 d q) * ao (ix2 d q)
    + pv v (ex s (m1 s mo)) (ix2 d q) := rfl
  rw [e, bc_apply, al_apply, pv_apply, m1_law S n s mo q hs hm, hm, ha, num_add hS]
  simp only [hs, hv]

omit hS
include ht

theorem m2_law : m2 s t mo (ix2 0 q) = top S (n + 256 + 256) := by
  rw [top_add2, ← hm, show (fun k : Fin 256 => S (n + k)) = fun k => s (ix2 k q) from funext fun k => (hs k).symm,
    show (fun k : Fin 256 => S (n + 256 + k)) = fun k => t (ix2 k q) from funext fun k => (ht k).symm, ← mx_apply, ← mx_apply]; rfl

include hS

include hl in
theorem l2_law : l2 s t mo lo (ix2 0 q) = den S (n + 256 + 256) := by
  have e : l2 s t mo lo (ix2 0 q) = al mo (m2 s t mo) (ix2 0 q) * lo (ix2 0 q) + sm (ex s (m2 s t mo)) (ix2 0 q) + sm (ex t (m2 s t mo)) (ix2 0 q) := rfl
  rw [e, al_apply, sm_apply, sm_apply, m2_law S n s t mo q hs hm ht, hm, hl, den_add2 hS]
  simp only [hs, ht]

include hv hu ha in
theorem a2_law : a2 s t v u mo ao (ix2 d q) = num S V (n + 256 + 256) := by
  have e : a2 s t v u mo ao (ix2 d q) = broadcastTo S64x256 (al mo (m2 s t mo)) broadcasts_S1x256_S64x256 (ix2 d q) * ao (ix2 d q)
    + pv v (ex s (m2 s t mo)) (ix2 d q) + pv u (ex t (m2 s t mo)) (ix2 d q) := rfl
  rw [e, bc_apply, al_apply, pv_apply, pv_apply, m2_law S n s t mo q hs hm ht, hm, ha, num_add2 hS]
  simp only [hs, ht, hv, hu]

end Law

/-- An even head's product of a key tile with a query block: the head's sixty-four, and the gate sums' row negated. -/
theorem lgE_val (kt : Vec Ideal S1x1x128x256 .bf16) (x : Vec Ideal S1x256x128 .bf16) (k q : Fin 256) (K : Fin 64 → EReal) (B : EReal)
    (hK : ∀ d : Fin 64, kt (ix4 0 0 ⟨d.val, by omega⟩ k) = K d) (hB : kt (ix4 0 0 ⟨64, by omega⟩ k) = B)
    (hZ : ∀ d : Fin 64, d ≠ 0 → kt (ix4 0 0 ⟨64 + d.val, by omega⟩ k) = 0) :
    lg kt (qE x) (ix2 k q) = (∑ d : Fin 64, K d * x (ix3 0 q ⟨d.val, by omega⟩)) + B * -1 := by
  unfold lg qE qT bias
  pointwise
  rw [Fin.sum_univ_two_halves 64 64 rfl]
  congr 1
  · refine Finset.sum_congr rfl fun d _ => ?_
    rw [← hK d, dif_pos d.isLt]
  · rw [Finset.sum_eq_single (0 : Fin 64)]
    · rw [show (⟨64 + (0 : Fin 64).val, by decide⟩ : Fin 128) = ⟨64, by omega⟩ from rfl, hB]
      congr 1
      exact ofBits_negOne
    · intro d _ hd
      rw [hZ d hd, zero_mul]
    · intro h; exact absurd (Finset.mem_univ _) h

/-- An odd head's likewise. -/
theorem lgO_val (kt : Vec Ideal S1x1x128x256 .bf16) (x : Vec Ideal S1x256x128 .bf16) (k q : Fin 256) (K : Fin 64 → EReal) (B : EReal)
    (hK : ∀ d : Fin 64, kt (ix4 0 0 ⟨64 + d.val, by omega⟩ k) = K d) (hB : kt (ix4 0 0 ⟨0, by omega⟩ k) = B)
    (hZ : ∀ d : Fin 64, d ≠ 0 → kt (ix4 0 0 ⟨d.val, by omega⟩ k) = 0) :
    lg kt (qO x) (ix2 k q) = (∑ d : Fin 64, K d * x (ix3 0 q ⟨64 + d.val, by omega⟩)) + B * -1 := by
  unfold lg qO qT bias
  pointwise
  rw [Fin.sum_univ_two_halves 64 64 rfl, add_comm]
  congr 1
  · refine Finset.sum_congr rfl fun d _ => ?_
    rw [← hK d, dif_neg (show ¬64 + d.val < 16 by omega), dif_neg (show ¬64 + d.val - 16 < 48 by omega)]
    congr 3
    exact Fin.ext (show 64 + (64 + d.val - 16 - 48) = 64 + d.val by omega)
  · rw [Finset.sum_eq_single (0 : Fin 64)]
    · rw [show (⟨(0 : Fin 64).val, by decide⟩ : Fin 128) = ⟨0, by omega⟩ from rfl, hB]
      congr 1
      exact ofBits_negOne
    · intro d _ hd
      rw [hZ d hd, zero_mul]
    · intro h; exact absurd (Finset.mem_univ _) h

/-- A head pair's output: the even head's quotients, then the odd one's. -/
theorem outp_lo (a : Vec Ideal S1x64x256 .f32) (l : Vec Ideal S1x1x256 .f32) (a' : Vec Ideal S1x64x256 .f32) (l' : Vec Ideal S1x1x256 .f32)
    (q : Fin 256) (d : Fin 64) : outp a l a' l' (ix3 0 q ⟨d.val, by omega⟩) = Ideal.div (a (ix3 0 d q)) (l (ix3 0 0 q)) := by
  unfold outp
  pointwise
theorem outp_hi (a : Vec Ideal S1x64x256 .f32) (l : Vec Ideal S1x1x256 .f32) (a' : Vec Ideal S1x64x256 .f32) (l' : Vec Ideal S1x1x256 .f32)
    (q : Fin 256) (d : Fin 64) : outp a l a' l' (ix3 0 q ⟨64 + d.val, by omega⟩) = Ideal.div (a' (ix3 0 d q)) (l' (ix3 0 0 q)) := by
  unfold outp
  pointwise

end Cert.KernelIdeal.Step

end
-- ==== Proof.Contents.lean ====
/- What the tile buffers, the query block and the rectangles cut out of them hold over the extended reals, index by index. -/
module

public import proofs.«01_k».proof.Proof.Tiles
public import proofs.«01_k».proof.Proof.Read
public import Idealize.ShloMosaic.Lib.WholeRead

@[expose] public section

set_option maxRecDepth 16384
set_option maxHeartbeats 2000000

noncomputable section

namespace Cert.KernelIdeal.Step

open Idealize.ShloMosaic Idealize.ShloMosaic.TcCoe Cert.KernelIdeal Cert.KernelIdeal.Gen Cert.Pile

theorem rk_emb (h : Fin 16) (n : ℕ) (hn : n + 1 ≤ 8) (d : Fin 128) (k : Fin 256) :
    (rk h n hn).emb (ix4 0 0 d k) = ix4 h ⟨n, by omega⟩ d k := by
  funext a; refine Fin.ext ?_; rw [Rect.emb_apply]; fin_cases a
  · show (h : ℕ) + 1 * 0 = h; omega
  · show n + 1 * 0 = n; omega
  · show 0 + 1 * (d : ℕ) = d; omega
  · show 0 + 1 * (k : ℕ) = k; omega
theorem rv_emb (h : Fin 16) (n : ℕ) (hn : n + 1 ≤ 8) (d : Fin 64) (k : Fin 256) :
    (rv h n hn).emb (ix4 0 0 d k) = ix4 ⟨h / 2, by omega⟩ ⟨n, by omega⟩ ⟨h % 2 * 64 + d, by omega⟩ k := by
  funext a; refine Fin.ext ?_; rw [Rect.emb_apply]; fin_cases a
  · show (h : ℕ) / 2 + 1 * 0 = h / 2; omega
  · show n + 1 * 0 = n; omega
  · show (h : ℕ) % 2 * 64 + 1 * (d : ℕ) = h % 2 * 64 + d; omega
  · show 0 + 1 * (k : ℕ) = k; omega
theorem rq_emb (p : Fin 8) (q : Fin 256) (e : Fin 128) : (rq p).emb (ix3 0 q e) = ix3 0 q ⟨128 * p + e, by omega⟩ := by
  funext a; refine Fin.ext ?_; rw [Rect.emb_apply]; fin_cases a
  · rfl
  · show 0 + 1 * (q : ℕ) = q; omega
  · show 128 * (p : ℕ) + 1 * (e : ℕ) = 128 * p + e; omega
theorem rp_emb (p t : Fin 8) (d : Fin 128) (k : Fin 256) :
    (rp p t).emb (ix4 0 0 d k) = ix4 0 0 ⟨128 * p + d, by omega⟩ ⟨256 * t + k, by omega⟩ := by
  funext a; refine Fin.ext ?_; rw [Rect.emb_apply]; fin_cases a
  · rfl
  · rfl
  · show 128 * (p : ℕ) + 1 * (d : ℕ) = 128 * p + d; omega
  · show 256 * (t : ℕ) + 1 * (k : ℕ) = 256 * t + k; omega
theorem rg_emb (i : grid0.Coords) (h : Fin 16) (t : Fin 8) (k : Fin 256) : (rg i h t).emb (ix4 0 0 0 k) = ix4 0 h t k := by
  have e := gh_eq i h
  funext a; refine Fin.ext ?_; rw [Rect.emb_apply]; fin_cases a
  · rfl
  · show gh i h + 1 * 0 = h; omega
  · show (t : ℕ) + 1 * 0 = t; omega
  · show 0 + 1 * (k : ℕ) = k; omega
theorem rw_emb (p t : Fin 8) (d : Fin 128) (k : Fin 256) : (rw' p t).emb (ix4 0 0 d k) = ix4 p t d k := by
  funext a; refine Fin.ext ?_; rw [Rect.emb_apply]; fin_cases a
  · show (p : ℕ) + 1 * 0 = p; omega
  · show (t : ℕ) + 1 * 0 = t; omega
  · show 0 + 1 * (d : ℕ) = d; omega
  · show 0 + 1 * (k : ℕ) = k; omega

variable (i : grid0.Coords) (arg3 : Memref sig .tc .vmem S1x256x1024 .bf16) (harg3 : arg3.IsWhole)
  (arg4 : Memref sig .tc .vmem S1x1x1024x2048 .f32) (harg4 : arg4.IsWhole)
  (arg6 : Memref sig .tc .vmem S1x16x8x256 .f32) (harg6 : arg6.IsWhole)
  (arg9 : Memref sig .tc .vmem S16x8x128x256 .bf16) (arg10 : Memref sig .tc .vmem S8x8x128x256 .bf16)

theorem ld4_apply (x1 : Vec Ideal S1x1x1024x2048 .f32) (p t : Fin 8) (d : Fin 128) (k : Fin 256) :
    ld4 arg4 harg4 x1 p t (ix4 0 0 d k) = x1 (ix4 0 0 ⟨128 * p + d, by omega⟩ ⟨256 * t + k, by omega⟩) := by
  unfold ld4; rw [harg4.readAt_unread]; exact congrArg x1 (rp_emb p t d k)
theorem ld6_apply (x3 : Vec Ideal S1x16x8x256 .f32) (h : Fin 16) (t : Fin 8) (k : Fin 256) :
    ld6 i arg6 harg6 x3 h t (ix4 0 0 0 k) = x3 (ix4 0 h t k) := by
  unfold ld6; rw [harg6.readAt_unread]; exact congrArg x3 (rg_emb i h t k)

/-- The gate sums' first part is the sum in the base-two scale, the other two vanish. -/
theorem cl_apply (g : Vec Ideal S1x1x1x256 .f32) (k : Fin 256) : cl g (ix2 0 k) = g (ix4 0 0 0 k) * ((Real.log 2)⁻¹ : ℝ) := by
  unfold cl
  pointwise
  rfl
theorem hi_eq (g : Vec Ideal S1x1x1x256 .f32) : hi g = cl g := rfl
theorem mid_apply (g : Vec Ideal S1x1x1x256 .f32) (k : Fin 256) : mid g (ix2 0 k) = cl g (ix2 0 k) - cl g (ix2 0 k) := rfl
theorem lo_apply (g : Vec Ideal S1x1x1x256 .f32) (k : Fin 256) :
    lo g (ix2 0 k) = cl g (ix2 0 k) - cl g (ix2 0 k) - (cl g (ix2 0 k) - cl g (ix2 0 k)) := rfl

theorem cl_real (g : Vec Ideal S1x1x1x256 .f32) (k : Fin 256) (r : ℝ) (hg : g (ix4 0 0 0 k) = r) : cl g (ix2 0 k) = ((r * (Real.log 2)⁻¹ : ℝ) : EReal) := by
  rw [cl_apply, hg, EReal.coe_mul]

theorem gr_apply (g : Vec Ideal S1x1x1x256 .f32) (k : Fin 256) (r : ℝ) (hg : g (ix4 0 0 0 k) = r) (j : Fin 16) :
    gr g (ix2 j k) = if j = 0 then ((r * (Real.log 2)⁻¹ : ℝ) : EReal) else 0 := by
  have hc := cl_real g k r hg
  have hm : mid g (ix2 0 k) = 0 := by rw [mid_apply, hc, ← EReal.coe_sub, sub_self, EReal.coe_zero]
  have hl : lo g (ix2 0 k) = 0 := by rw [lo_apply, hc, ← EReal.coe_sub, sub_self, ← EReal.coe_sub, sub_self, EReal.coe_zero]
  have hj := j.isLt
  unfold gr
  rw [hi_eq]
  pointwise
  rw [hc, hm, hl]
  have e : ∀ j : Fin 16, IntOp.cmpi .eq (BitVec.ofNat 32 (j : ℕ)) 0#32 = if j = 0 then 1#1 else 0#1 := by decide
  rw [e]
  by_cases h : j = 0 <;> simp [h, Scalar.select]

section Tile

variable (kv : Vec Ideal S1x1x128x256 .f32) (g : Vec Ideal S1x1x1x256 .f32) (k : Fin 256) (r : ℝ) (hg : g (ix4 0 0 0 k) = r)

theorem kE_lo (d : Fin 64) : kE kv g (ix4 0 0 ⟨d.val, by omega⟩ k) = kv (ix4 0 0 ⟨d.val, by omega⟩ k) := by
  unfold kE
  pointwise
theorem kO_hi (d : Fin 64) : kO kv g (ix4 0 0 ⟨64 + d.val, by omega⟩ k) = kv (ix4 0 0 ⟨64 + d.val, by omega⟩ k) := by
  have hd := d.isLt
  unfold kO
  pointwise
  rw [dif_neg (by omega), dif_neg (by omega)]
  congr 2
  exact Fin.ext (show 64 + (64 + d.val - 16 - 48) = 64 + d.val by omega)

include hg

theorem gr_dite (d : Fin 64) : (if h : d.val < 16 then gr g (ix2 ⟨d.val, h⟩ k) else 0) = if d = 0 then ((r * (Real.log 2)⁻¹ : ℝ) : EReal) else 0 := by
  have z : d = 0 ↔ d.val = 0 := Fin.ext_iff
  by_cases h : d.val < 16
  · rw [dif_pos h, gr_apply g k r hg]
    simp only [z, Fin.ext_iff]; rfl
  · rw [dif_neg h, if_neg (by omega)]

theorem kE_hi (d : Fin 64) : kE kv g (ix4 0 0 ⟨64 + d.val, by omega⟩ k) = if d = 0 then ((r * (Real.log 2)⁻¹ : ℝ) : EReal) else 0 := by
  have hd := d.isLt
  unfold kE
  pointwise
  exact gr_dite g k r hg d
theorem kO_lo (d : Fin 64) : kO kv g (ix4 0 0 ⟨d.val, by omega⟩ k) = if d = 0 then ((r * (Real.log 2)⁻¹ : ℝ) : EReal) else 0 := by
  have hd := d.isLt
  unfold kO
  pointwise
  rw [← gr_dite g k r hg d]
  by_cases h : d.val < 16
  · rw [dif_pos h, dif_pos h]
  · rw [dif_neg h, dif_neg h, dif_pos (by omega)]

end Tile

/-- A key buffer that holds the keys `K` (a row per head and direction) and the gate sums `C`, in the base-two scale. -/
structure Keys (K C : ℕ → ℕ → ℝ) (X : S16x8x128x256.Idx → Elt Ideal .bf16) : Prop where
  eK : ∀ (p t : Fin 8) (d : Fin 64) (k : Fin 256), X (ix4 (ev p) t ⟨d.val, by omega⟩ k) = (K (64 * (2 * p) + d) (256 * t + k) : EReal)
  eC : ∀ (p t : Fin 8) (d : Fin 64) (k : Fin 256), X (ix4 (ev p) t ⟨64 + d.val, by omega⟩ k) = if d = 0 then (C (2 * p) (256 * t + k) : EReal) else 0
  oK : ∀ (p t : Fin 8) (d : Fin 64) (k : Fin 256), X (ix4 (od p) t ⟨64 + d.val, by omega⟩ k) = (K (64 * (2 * p + 1) + d) (256 * t + k) : EReal)
  oC : ∀ (p t : Fin 8) (d : Fin 64) (k : Fin 256), X (ix4 (od p) t ⟨d.val, by omega⟩ k) = if d = 0 then (C (2 * p + 1) (256 * t + k) : EReal) else 0

/-- A value buffer that holds the values `V`. -/
def Vals (V : ℕ → ℕ → EReal) (Y : S8x8x128x256.Idx → Elt Ideal .bf16) : Prop :=
  ∀ (p t : Fin 8) (d : Fin 128) (k : Fin 256), Y (ix4 p t d k) = V (128 * p + d) (256 * t + k)

/-- The logit of key `j` for query `q` of head `h`, in the base-two scale. -/
def lgt (K C Q : ℕ → ℕ → ℝ) (h q j : ℕ) : ℝ := (∑ d : Fin 64, K (64 * h + d) j * Q q (64 * h + d)) - C h j

theorem ev_or_od (h : Fin 16) : ∃ p : Fin 8, h = ev p ∨ h = od p := by
  refine ⟨⟨h / 2, by omega⟩, ?_⟩
  rcases Nat.mod_two_eq_zero_or_one h.val with e | e
  · exact Or.inl (Fin.ext (show (h : ℕ) = 2 * (h / 2) by omega))
  · exact Or.inr (Fin.ext (show (h : ℕ) = 2 * (h / 2) + 1 by omega))

theorem Qx_ev (W : BufTy.Contents (Elt Ideal) arg3.view.ty) (p : Fin 8) : Qx (F := Ideal) arg3 W (ev p) = qE (arg3.view.readAt (Elt Ideal) (rq p).toLoadRect W) := by
  fin_cases p <;> rfl
theorem Qx_od (W : BufTy.Contents (Elt Ideal) arg3.view.ty) (p : Fin 8) : Qx (F := Ideal) arg3 W (od p) = qO (arg3.view.readAt (Elt Ideal) (rq p).toLoadRect W) := by
  fin_cases p <;> rfl

theorem tl_val (K C Q : ℕ → ℕ → ℝ) (X : BufTy.Contents (Elt Ideal) arg9.view.ty) (hX : Keys K C (arg9.view.read (Elt Ideal) X))
    (x0 : Vec Ideal S1x256x1024 .bf16) (hx : ∀ (q : Fin 256) (e : Fin 1024), x0 (ix3 0 q e) = (Q q e : EReal))
    (n : ℕ) (hn : n + 1 ≤ 8) (h : Fin 16) (k q : Fin 256) :
    tl arg9 (Qx (F := Ideal) arg3 (harg3.unread x0)) n hn X h (ix2 k q) = (lgt K C Q h q (256 * n + k) : EReal) := by
  have hr : ∀ (h : Fin 16) (d : Fin 128), arg9.view.readAt (Elt Ideal) (rk h n hn).toLoadRect X (ix4 0 0 d k) = arg9.view.read (Elt Ideal) X (ix4 h ⟨n, by omega⟩ d k) :=
    fun h d => congrArg (arg9.view.read (Elt Ideal) X) (rk_emb h n hn d k)
  have hq : ∀ (p : Fin 8) (e : Fin 128), arg3.view.readAt (Elt Ideal) (rq p).toLoadRect (harg3.unread x0) (ix3 0 q e) = (Q q (128 * p + e) : EReal) := by
    intro p e; rw [harg3.readAt_unread]; exact (congrArg x0 (rq_emb p q e)).trans (hx q ⟨128 * p + e, by omega⟩)
  have one : ∀ (B : ℝ), (B : EReal) * -1 = ((-B : ℝ) : EReal) := by
    intro B; rw [show (-1 : EReal) = ((-1 : ℝ) : EReal) from rfl, ← EReal.coe_mul, mul_neg_one]
  obtain ⟨p, rfl | rfl⟩ := ev_or_od h
  · unfold tl
    rw [Qx_ev, lgE_val _ _ k q (fun d => (K (64 * (2 * p) + d) (256 * n + k) : EReal)) (C (2 * p) (256 * n + k) : EReal)
      (fun d => (hr _ _).trans (hX.eK p ⟨n, by omega⟩ d k)) ((hr _ _).trans (hX.eC p ⟨n, by omega⟩ 0 k))
      (fun d hd => (hr _ _).trans ((hX.eC p ⟨n, by omega⟩ d k).trans (if_neg hd))), one]
    simp only [hq, ← EReal.coe_mul]
    rw [← Softmax.coe_sum, ← EReal.coe_add]
    unfold lgt
    congr 1
    rw [sub_eq_add_neg]
    congr 1
    refine Finset.sum_congr rfl fun d _ => ?_
    rw [show 128 * (p : ℕ) + (d : ℕ) = 64 * (2 * p) + d by omega]
  · unfold tl
    rw [Qx_od, lgO_val _ _ k q (fun d => (K (64 * (2 * p + 1) + d) (256 * n + k) : EReal)) (C (2 * p + 1) (256 * n + k) : EReal)
      (fun d => (hr _ _).trans (hX.oK p ⟨n, by omega⟩ d k)) ((hr _ _).trans (hX.oC p ⟨n, by omega⟩ 0 k))
      (fun d hd => (hr _ _).trans ((hX.oC p ⟨n, by omega⟩ d k).trans (if_neg hd))), one]
    simp only [hq, ← EReal.coe_mul]
    rw [← Softmax.coe_sum, ← EReal.coe_add]
    unfold lgt
    congr 1
    rw [sub_eq_add_neg]
    congr 1
    refine Finset.sum_congr rfl fun d _ => ?_
    rw [show 128 * (p : ℕ) + (64 + (d : ℕ)) = 64 * (2 * p + 1) + d by omega]

theorem tv_val (V : ℕ → ℕ → EReal) (Y : BufTy.Contents (Elt Ideal) arg10.view.ty) (hY : Vals V (arg10.view.read (Elt Ideal) Y))
    (n : ℕ) (hn : n + 1 ≤ 8) (h : Fin 16) (d : Fin 64) (k : Fin 256) :
    tv arg10 n hn Y h (ix4 0 0 d k) = V (64 * h + d) (256 * n + k) := by
  refine (congrArg (arg10.view.read (Elt Ideal) Y) (rv_emb h n hn d k)).trans ((hY _ _ _ _).trans ?_)
  congr 1
  show 128 * ((h : ℕ) / 2) + (h % 2 * 64 + d) = 64 * h + d
  omega

section Fill

variable (c : Dev nD) (arg5 : Memref sig .tc .vmem S1x1x1024x2048 .f32) (harg5 : arg5.IsWhole) (hc0 : cond0_0 i)

theorem mem_pk (x1 : Vec Ideal S1x1x1024x2048 .f32) (x3 : Vec Ideal S1x16x8x256 .f32) (P : View.Piece (Elt Ideal) S16x8x128x256 .bf16) :
    P ∈ pk (F := Ideal) c i arg4 harg4 arg6 harg6 hc0 x1 x3 ↔ ∃ p t : Fin 8,
      P = ⟨rkt (od p) t, kO (ld4 arg4 harg4 x1 p t) (ld6 i arg6 harg6 x3 (od p) t)⟩ ∨ P = ⟨rkt (ev p) t, kE (ld4 arg4 harg4 x1 p t) (ld6 i arg6 harg6 x3 (ev p) t)⟩ := by
  rw [pk_eq]
  simp only [List.mem_flatMap, List.mem_cons, List.not_mem_nil, or_false, mem_down, true_and]
theorem mem_pw (x2 : Vec Ideal S1x1x1024x2048 .f32) (P : View.Piece (Elt Ideal) S8x8x128x256 .bf16) :
    P ∈ pw (F := Ideal) c arg5 harg5 x2 ↔ ∃ p t : Fin 8, P = ⟨rw' p t, vP (ld4 arg5 harg5 x2 p t)⟩ := by
  rw [pw_eq]
  simp only [List.mem_flatMap, List.mem_cons, List.not_mem_nil, or_false, mem_down, true_and]

/-- What a head's tile holds, by its parity. -/
def tile (x1 : Vec Ideal S1x1x1024x2048 .f32) (x3 : Vec Ideal S1x16x8x256 .f32) (h : Fin 16) (t : Fin 8) : FVec Ideal S1x1x128x256 .bf16 :=
  if (h : ℕ) % 2 = 0 then kE (ld4 arg4 harg4 x1 ⟨h / 2, by omega⟩ t) (ld6 i arg6 harg6 x3 h t)
  else kO (ld4 arg4 harg4 x1 ⟨h / 2, by omega⟩ t) (ld6 i arg6 harg6 x3 h t)
theorem half_ev (p : Fin 8) : (⟨(ev p : ℕ) / 2, by omega⟩ : Fin 8) = p := Fin.ext (show 2 * (p : ℕ) / 2 = p by omega)
theorem half_od (p : Fin 8) : (⟨(od p : ℕ) / 2, by omega⟩ : Fin 8) = p := Fin.ext (show (2 * (p : ℕ) + 1) / 2 = p by omega)
theorem tile_ev (x1 : Vec Ideal S1x1x1024x2048 .f32) (x3 : Vec Ideal S1x16x8x256 .f32) (p t : Fin 8) :
    tile i arg4 harg4 arg6 harg6 x1 x3 (ev p) t = kE (ld4 arg4 harg4 x1 p t) (ld6 i arg6 harg6 x3 (ev p) t) := by
  unfold tile; rw [if_pos (show 2 * (p : ℕ) % 2 = 0 by omega), half_ev]
theorem tile_od (x1 : Vec Ideal S1x1x1024x2048 .f32) (x3 : Vec Ideal S1x16x8x256 .f32) (p t : Fin 8) :
    tile i arg4 harg4 arg6 harg6 x1 x3 (od p) t = kO (ld4 arg4 harg4 x1 p t) (ld6 i arg6 harg6 x3 (od p) t) := by
  unfold tile; rw [if_neg (show ¬(2 * (p : ℕ) + 1) % 2 = 0 by omega), half_od]

theorem idx4 {a b c' d : ℕ} (x : (⟨4, ![a, b, c', d]⟩ : Shape).Idx) : x = ix4 (x 0) (x 1) (x 2) (x 3) := by
  funext j; fin_cases j <;> rfl

/-- An index of a whole tile. -/
theorem idxT (x : S1x1x128x256.Idx) : ∃ (d : Fin 128) (k : Fin 256), x = ix4 0 0 d k := by
  refine ⟨x 2, x 3, ?_⟩
  funext j; fin_cases j
  · exact Subsingleton.elim (α := Fin 1) _ _
  · exact Subsingleton.elim (α := Fin 1) _ _
  · rfl
  · rfl

theorem canon_pk (x1 : Vec Ideal S1x1x1024x2048 .f32) (x3 : Vec Ideal S1x16x8x256 .f32) (h : Fin 16) (t : Fin 8) (d : Fin 128) (k : Fin 256) :
    View.canon (pk (F := Ideal) c i arg4 harg4 arg6 harg6 hc0 x1 x3) (ix4 h t d k) = tile i arg4 harg4 arg6 harg6 x1 x3 h t (ix4 0 0 d k) := by
  have := View.canon_append_of_pieces (fun y : S16x8x128x256.Idx => tile i arg4 harg4 arg6 harg6 x1 x3 (y 0) (y 1) (ix4 0 0 (y 2) (y 3)))
    [] (pk (F := Ideal) c i arg4 harg4 arg6 harg6 hc0 x1 x3) ?_ (ix4 h t d k) ?_
  · rw [List.append_nil] at this; exact this
  · intro P hP x
    obtain ⟨p, t, rfl | rfl⟩ := (mem_pk i arg4 harg4 arg6 harg6 c hc0 x1 x3 P).mp hP
    · obtain ⟨d, k, rfl⟩ := idxT x
      show _ = (fun y : S16x8x128x256.Idx => _) ((rk (od p) t (by omega)).emb (ix4 0 0 d k))
      rw [rk_emb]
      exact (congrFun (tile_od i arg4 harg4 arg6 harg6 x1 x3 p t) _).symm
    · obtain ⟨d, k, rfl⟩ := idxT x
      show _ = (fun y : S16x8x128x256.Idx => _) ((rk (ev p) t (by omega)).emb (ix4 0 0 d k))
      rw [rk_emb]
      exact (congrFun (tile_ev i arg4 harg4 arg6 harg6 x1 x3 p t) _).symm
  · have hm : (ix4 h t d k : S16x8x128x256.Idx) ∈ (rkt h t).set := by
      rw [← Rect.map_emb_univ, ← rk_emb h t (by omega) d k]
      exact Finset.mem_map_of_mem _ (Finset.mem_univ _)
    obtain ⟨p, rfl | rfl⟩ := ev_or_od h
    · exact ⟨_, (mem_pk i arg4 harg4 arg6 harg6 c hc0 x1 x3 _).mpr ⟨p, t, Or.inr rfl⟩, hm⟩
    · exact ⟨_, (mem_pk i arg4 harg4 arg6 harg6 c hc0 x1 x3 _).mpr ⟨p, t, Or.inl rfl⟩, hm⟩

/-- The keys the first grid point leaves. -/
theorem keys_pk (K G : ℕ → ℕ → ℝ) (x1 : Vec Ideal S1x1x1024x2048 .f32) (x3 : Vec Ideal S1x16x8x256 .f32)
    (h1 : ∀ (e : Fin 1024) (j : Fin 2048), x1 (ix4 0 0 e j) = (K e j : EReal))
    (h3 : ∀ (h : Fin 16) (t : Fin 8) (k : Fin 256), x3 (ix4 0 h t k) = (G h (256 * t + k) : EReal)) :
    Keys K (fun h j => G h j * (Real.log 2)⁻¹) (View.canon (pk (F := Ideal) c i arg4 harg4 arg6 harg6 hc0 x1 x3)) where
  eK p t d k := by
    rw [canon_pk, tile_ev, kE_lo, ld4_apply, h1]
    show (K (128 * p + d) (256 * t + k) : EReal) = _
    rw [show 128 * (p : ℕ) + (d : ℕ) = 64 * (2 * p) + d by omega]
  eC p t d k := by
    rw [canon_pk, tile_ev, kE_hi _ _ k (G (2 * p) (256 * t + k)) ((ld6_apply i arg6 harg6 x3 _ t k).trans (h3 _ t k))]
  oK p t d k := by
    rw [canon_pk, tile_od, kO_hi, ld4_apply, h1]
    show (K (128 * p + (64 + d)) (256 * t + k) : EReal) = _
    rw [show 128 * (p : ℕ) + (64 + (d : ℕ)) = 64 * (2 * p + 1) + d by omega]
  oC p t d k := by
    rw [canon_pk, tile_od, kO_lo _ _ k (G (2 * p + 1) (256 * t + k)) ((ld6_apply i arg6 harg6 x3 _ t k).trans (h3 _ t k))]

theorem vP_apply (v : Vec Ideal S1x1x128x256 .f32) (d : Fin 128) (k : Fin 256) : vP v (ix4 0 0 d k) = v (ix4 0 0 d k) := by
  unfold vP
  pointwise

/-- The values the first grid point leaves. -/
theorem vals_pw (V : ℕ → ℕ → EReal) (x2 : Vec Ideal S1x1x1024x2048 .f32) (h2 : ∀ (e : Fin 1024) (j : Fin 2048), x2 (ix4 0 0 e j) = V e j) :
    Vals V (View.canon (pw (F := Ideal) c arg5 harg5 x2)) := by
  intro p t d k
  have := View.canon_append_of_pieces (fun y : S8x8x128x256.Idx => ld4 arg5 harg5 x2 (y 0) (y 1) (ix4 0 0 (y 2) (y 3)))
    [] (pw (F := Ideal) c arg5 harg5 x2) ?_ (ix4 p t d k) ?_
  · rw [List.append_nil] at this
    exact this.trans ((ld4_apply arg5 harg5 x2 p t d k).trans (h2 _ _))
  · intro P hP x
    obtain ⟨p, t, rfl⟩ := (mem_pw c arg5 harg5 x2 P).mp hP
    obtain ⟨d, k, rfl⟩ := idxT x
    show vP _ (ix4 0 0 d k) = (fun y : S8x8x128x256.Idx => _) ((rw' p t).emb (ix4 0 0 d k))
    rw [rw_emb, vP_apply]
    rfl
  · refine ⟨_, (mem_pw c arg5 harg5 x2 _).mpr ⟨p, t, rfl⟩, ?_⟩
    show (ix4 p t d k : S8x8x128x256.Idx) ∈ (rw' p t).set
    rw [← Rect.map_emb_univ, ← rw_emb p t d k]
    exact Finset.mem_map_of_mem _ (Finset.mem_univ _)

end Fill

end Cert.KernelIdeal.Step

end
-- ==== Proof.Point.lean ====
/- One grid point over the extended reals: after each pair of tiles the running greatest logit, sum of weights and weighted
   sum of values are those of the keys seen, and the point's output is the quotient over the keys up to its own block's end. -/
module

public import proofs.«01_k».proof.Proof.Contents
public import proofs.«01_k».proof.Proof.State

@[expose] public section

set_option maxRecDepth 16384
set_option maxHeartbeats 2000000

noncomputable section

namespace Cert.KernelIdeal.Step

open Idealize.ShloMosaic Idealize.ShloMosaic.TcCoe Cert.KernelIdeal Cert.KernelIdeal.Gen Cert.Pile Cert.Softmax

section Position

variable (i : grid0.Coords)

theorem n0_eq (k : Fin (k0_t1_loop i).trips) : n0 i k = 2 * k := by
  have hk : (k : ℕ) < 4 := by have := k.isLt; have := trips1 i; have := (i 2).isLt; change (i 2).val < 8 at this; omega
  unfold n0 k0_off9; generalize (k : ℕ) = j at hk ⊢; interval_cases j <;> rfl
theorem n1_eq (k : Fin (k0_t1_loop i).trips) : n1 i k = 2 * k + 1 := by
  have hk : (k : ℕ) < 4 := by have := k.isLt; have := trips1 i; have := (i 2).isLt; change (i 2).val < 8 at this; omega
  unfold n1 k0_off10; generalize (k : ℕ) = j at hk ⊢; interval_cases j <;> rfl
theorem off137_eq (h : (i 2).val ≠ 0) : k0_off137 i 1 = (i 2).val - 1 := by
  unfold k0_off137; dsimp only; generalize i 2 = n at h ⊢; revert n; decide
theorem off138_eq : k0_off138 i 1 = (i 2).val := by
  unfold k0_off138; dsimp only; generalize i 2 = n; revert n; decide
theorem off169_eq (h : (i 2).val ≠ 0) : k0_off169 i 1 = (i 2).val - 1 := by
  unfold k0_off169; dsimp only; generalize i 2 = n at h ⊢; revert n; decide
theorem off170_eq : k0_off170 i 1 = (i 2).val := by
  unfold k0_off170; dsimp only; generalize i 2 = n; revert n; decide
theorem off201_eq : k0_off201 i 1 = (i 2).val := by
  unfold k0_off201; dsimp only; generalize i 2 = n; revert n; decide
theorem off217_eq : k0_off217 i 1 = (i 2).val := by
  unfold k0_off217; dsimp only; generalize i 2 = n; revert n; decide

end Position

variable (c : Dev nD) (i : grid0.Coords) (arg3 : Memref sig .tc .vmem S1x256x1024 .bf16) (harg3 : arg3.IsWhole) (arg4 : Memref sig .tc .vmem S1x1x1024x2048 .f32) (harg4 : arg4.IsWhole) (arg5 : Memref sig .tc .vmem S1x1x1024x2048 .f32) (harg5 : arg5.IsWhole) (arg6 : Memref sig .tc .vmem S1x16x8x256 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S16x8x128x256 .bf16) (harg9 : arg9.IsWhole) (arg10 : Memref sig .tc .vmem S8x8x128x256 .bf16) (harg10 : arg10.IsWhole) (arg11 : Memref sig .tc .vmem S16x1x256 .f32) (harg11 : arg11.IsWhole) (arg12 : Memref sig .tc .vmem S16x1x256 .f32) (harg12 : arg12.IsWhole) (arg13 : Memref sig .tc .vmem S16x64x256 .f32) (harg13 : arg13.IsWhole)
  (X : BufTy.Contents (Elt Ideal) arg9.view.ty) (Y : BufTy.Contents (Elt Ideal) arg10.view.ty) (x0 : Vec Ideal S1x256x1024 .bf16)
  (K C Q : ℕ → ℕ → ℝ) (V : ℕ → ℕ → EReal) (hX : Keys K C (arg9.view.read (Elt Ideal) X)) (hY : Vals V (arg10.view.read (Elt Ideal) Y))
  (hx : ∀ (q : Fin 256) (e : Fin 1024), x0 (ix3 0 q e) = (Q q e : EReal))

/-- The point's logits as the causal mask leaves them, for query `q` of its block. -/
def seen (h q : ℕ) : ℕ → EReal := masked (256 * (i 2).val + q) (lgt K C Q h q)

theorem seen_ne_top (h q k : ℕ) : seen i K C Q h q k ≠ ⊤ := masked_ne_top _ _ _

include hX hx in
/-- A tile before the diagonal is seen whole, -/
theorem tl_seen (n : ℕ) (hn : n + 1 ≤ 8) (hi : n < (i 2).val) (h : Fin 16) (q : Fin 256) (m : ℕ) (hm : m = 256 * n) (k : Fin 256) :
    tl arg9 (Qx (F := Ideal) arg3 (harg3.unread x0)) n hn X h (ix2 k q) = seen i K C Q h q (m + k) := by
  subst hm
  rw [tl_val arg3 harg3 arg9 K C Q X hX x0 hx]
  unfold seen masked
  rw [if_pos (by have := k.isLt; omega)]

include hX hx in
/-- the diagonal tile up to the query. -/
theorem diag_seen (n : ℕ) (hn : n + 1 ≤ 8) (hi : n = (i 2).val) (h : Fin 16) (q : Fin 256) (m : ℕ) (hm : m = 256 * n) (k : Fin 256) :
    diag (tl arg9 (Qx (F := Ideal) arg3 (harg3.unread x0)) n hn X h) (ix2 k q) = seen i K C Q h q (m + k) := by
  subst hm
  rw [diag_apply, tl_val arg3 harg3 arg9 K C Q X hX x0 hx]
  unfold seen masked
  by_cases hk : (k : ℕ) ≤ q
  · rw [if_pos hk, if_pos (by omega)]
  · rw [if_neg hk, if_neg (by omega)]

theorem stM_zero (h : Fin 16) (q : Fin 256) : row (stM c i arg3 harg3 arg4 harg4 arg5 harg5 arg6 harg6 arg7 harg7 arg8 harg8 arg9 harg9 arg10 harg10 arg11 harg11 arg12 harg12 arg13 harg13 (Qx (F := Ideal) arg3 (harg3.unread x0)) X Y 0) h (ix2 0 q) = ⊥ := by
  rw [row_apply]
  exact (congrFun (View.canon_cons_unit_zero (by funext a; fin_cases a <;> rfl) _ _ _) _).trans named_mask
theorem stL_zero (h : Fin 16) (q : Fin 256) : row (stL c i arg3 harg3 arg4 harg4 arg5 harg5 arg6 harg6 arg7 harg7 arg8 harg8 arg9 harg9 arg10 harg10 arg11 harg11 arg12 harg12 arg13 harg13 (Qx (F := Ideal) arg3 (harg3.unread x0)) X Y 0) h (ix2 0 q) = 0 := by
  rw [row_apply]
  exact (congrFun (View.canon_cons_unit_zero (by funext a; fin_cases a <;> rfl) _ _ _) _).trans ofBits_zero
theorem stA_zero (h : Fin 16) (d : Fin 64) (q : Fin 256) : blk (stA c i arg3 harg3 arg4 harg4 arg5 harg5 arg6 harg6 arg7 harg7 arg8 harg8 arg9 harg9 arg10 harg10 arg11 harg11 arg12 harg12 arg13 harg13 (Qx (F := Ideal) arg3 (harg3.unread x0)) X Y 0) h (ix2 d q) = 0 := by
  rw [blk_apply]
  exact (congrFun (View.canon_cons_unit_zero (by funext a; fin_cases a <;> rfl) _ _ _) _).trans ofBits_zero

include hX hY hx in
/-- The running values after `n` pairs of tiles. -/
theorem running (n : ℕ) (hn : n ≤ (i 2).val / 2) :
    (∀ (h : Fin 16) (q : Fin 256), row (stM c i arg3 harg3 arg4 harg4 arg5 harg5 arg6 harg6 arg7 harg7 arg8 harg8 arg9 harg9 arg10 harg10 arg11 harg11 arg12 harg12 arg13 harg13 (Qx (F := Ideal) arg3 (harg3.unread x0)) X Y n) h (ix2 0 q) = top (seen i K C Q h q) (512 * n))
    ∧ (∀ (h : Fin 16) (q : Fin 256), row (stL c i arg3 harg3 arg4 harg4 arg5 harg5 arg6 harg6 arg7 harg7 arg8 harg8 arg9 harg9 arg10 harg10 arg11 harg11 arg12 harg12 arg13 harg13 (Qx (F := Ideal) arg3 (harg3.unread x0)) X Y n) h (ix2 0 q) = den (seen i K C Q h q) (512 * n))
    ∧ ∀ (h : Fin 16) (d : Fin 64) (q : Fin 256), blk (stA c i arg3 harg3 arg4 harg4 arg5 harg5 arg6 harg6 arg7 harg7 arg8 harg8 arg9 harg9 arg10 harg10 arg11 harg11 arg12 harg12 arg13 harg13 (Qx (F := Ideal) arg3 (harg3.unread x0)) X Y n) h (ix2 d q) = num (seen i K C Q h q) (V (64 * h + d)) (512 * n) := by
  induction n with
  | zero =>
    refine ⟨fun h q => ?_, fun h q => ?_, fun h d q => ?_⟩
    · rw [stM_zero]; exact (top_zero _).symm
    · rw [stL_zero]; exact (den_zero _).symm
    · rw [stA_zero]; exact (num_zero _ _).symm
  | succ n ih =>
    obtain ⟨hM, hL, hA⟩ := ih (by omega)
    have hk : n < (k0_t1_loop i).trips := by rw [trips1]; omega
    have e0 := n0_eq i ⟨n, hk⟩
    have e1 := n1_eq i ⟨n, hk⟩
    simp only at e0 e1
    have s0 := fun (h : Fin 16) (q : Fin 256) => tl_seen i arg3 harg3 arg9 X x0 K C Q hX hx (n0 i ⟨n, hk⟩) (n0_le i ⟨n, hk⟩) (by omega) h q (512 * n) (by omega)
    have s1 := fun (h : Fin 16) (q : Fin 256) => tl_seen i arg3 harg3 arg9 X x0 K C Q hX hx (n1 i ⟨n, hk⟩) (n1_le i ⟨n, hk⟩) (by omega) h q (512 * n + 256) (by omega)
    have v0 : ∀ (h : Fin 16) (d : Fin 64) (k : Fin 256), tv arg10 (n0 i ⟨n, hk⟩) (n0_le i ⟨n, hk⟩) Y h (ix4 0 0 d k) = V (64 * h + d) (512 * n + k) := by
      intro h d k; refine (tv_val arg10 V Y hY _ _ h d k).trans ?_; congr 1; omega
    have v1 : ∀ (h : Fin 16) (d : Fin 64) (k : Fin 256), tv arg10 (n1 i ⟨n, hk⟩) (n1_le i ⟨n, hk⟩) Y h (ix4 0 0 d k) = V (64 * h + d) (512 * n + 256 + k) := by
      intro h d k; refine (tv_val arg10 V Y hY _ _ h d k).trans ?_; congr 1; omega
    rw [show 512 * (n + 1) = 512 * n + 256 + 256 by omega]
    refine ⟨fun h q => ?_, fun h q => ?_, fun h d q => ?_⟩
    · exact (congrFun (stM_succ c i arg3 harg3 arg4 harg4 arg5 harg5 arg6 harg6 arg7 harg7 arg8 harg8 arg9 harg9 arg10 harg10 arg11 harg11 arg12 harg12 arg13 harg13 _ X Y ⟨n, hk⟩ h) _).trans (m2_law (S := seen i K C Q h q) (hs := s0 h q) (hm := hM h q) (ht := s1 h q) ..)
    · exact (congrFun (stL_succ c i arg3 harg3 arg4 harg4 arg5 harg5 arg6 harg6 arg7 harg7 arg8 harg8 arg9 harg9 arg10 harg10 arg11 harg11 arg12 harg12 arg13 harg13 _ X Y ⟨n, hk⟩ h) _).trans (l2_law (S := seen i K C Q h q) (hS := seen_ne_top i K C Q h q) (hs := s0 h q) (hm := hM h q) (ht := s1 h q) (hl := hL h q) ..)
    · exact (congrFun (stA_succ c i arg3 harg3 arg4 harg4 arg5 harg5 arg6 harg6 arg7 harg7 arg8 harg8 arg9 harg9 arg10 harg10 arg11 harg11 arg12 harg12 arg13 harg13 _ X Y ⟨n, hk⟩ h) _).trans (a2_law (S := seen i K C Q h q) (hS := seen_ne_top i K C Q h q) (hs := s0 h q) (hm := hM h q) (ht := s1 h q)
        (hv := v0 h d) (hu := v1 h d) (ha := hA h d q) ..)

theorem outs_eq (lL : List (View.Piece (Elt Ideal) S16x1x256 .f32)) (lA : List (View.Piece (Elt Ideal) S16x64x256 .f32)) :
    outs arg12 arg13 lL lA = down.map fun p => ⟨rq p, outp (arg13.view.readCov lA (r64 (ev p)).toLoadRect) (arg12.view.readCov lL (r1 (ev p)).toLoadRect)
      (arg13.view.readCov lA (r64 (od p)).toLoadRect) (arg12.view.readCov lL (r1 (od p)).toLoadRect)⟩ := rfl

theorem cov1 (lL : List (View.Piece (Elt Ideal) S16x1x256 .f32)) (h : Fin 16) (q : Fin 256) :
    arg12.view.readCov lL (r1 h).toLoadRect (ix3 0 0 q) = row (F := Ideal) (View.canon lL) h (ix2 0 q) := by
  rw [row_apply, View.readCov_eq_canon']; rfl
theorem cov64 (lA : List (View.Piece (Elt Ideal) S16x64x256 .f32)) (h : Fin 16) (d : Fin 64) (q : Fin 256) :
    arg13.view.readCov lA (r64 h).toLoadRect (ix3 0 d q) = blk (F := Ideal) (View.canon lA) h (ix2 d q) := by
  rw [blk_apply, View.readCov_eq_canon']; rfl

/-- The quotient of head `e / 64` in direction `e % 64`. -/
def quo (lL : List (View.Piece (Elt Ideal) S16x1x256 .f32)) (lA : List (View.Piece (Elt Ideal) S16x64x256 .f32)) (q : Fin 256) (h : Fin 16) (d : Fin 64) : EReal :=
  Ideal.div (blk (F := Ideal) (View.canon lA) h (ix2 d q)) (row (F := Ideal) (View.canon lL) h (ix2 0 q))

theorem idxQ (x : S1x256x128.Idx) : ∃ (q : Fin 256) (e : Fin 128), x = ix3 0 q e := by
  refine ⟨x 1, x 2, ?_⟩
  funext j; fin_cases j
  · exact Subsingleton.elim (α := Fin 1) _ _
  · rfl
  · rfl

theorem canon_outs (lL : List (View.Piece (Elt Ideal) S16x1x256 .f32)) (lA : List (View.Piece (Elt Ideal) S16x64x256 .f32)) (q : Fin 256) (e : Fin 1024) :
    View.canon (outs arg12 arg13 lL lA) (ix3 0 q e) = quo lL lA q ⟨e / 64, by omega⟩ ⟨e % 64, by omega⟩ := by
  have := View.canon_append_of_pieces (fun y : S1x256x1024.Idx => quo lL lA (y 1) ⟨(y 2).val / 64, by have := (y 2).isLt; change (y 2).val < 1024 at this; omega⟩ ⟨(y 2).val % 64, by omega⟩)
    [] (outs arg12 arg13 lL lA) ?_ (ix3 0 q e) ?_
  · rw [List.append_nil] at this; exact this
  · intro P hP x
    rw [outs_eq, List.mem_map] at hP
    obtain ⟨p, -, rfl⟩ := hP
    obtain ⟨q, e, rfl⟩ := idxQ x
    show outp _ _ _ _ (ix3 0 q e) = (fun y : S1x256x1024.Idx => _) ((rq p).emb (ix3 0 q e))
    rw [rq_emb]
    show _ = quo lL lA q ⟨(128 * (p : ℕ) + e) / 64, _⟩ ⟨(128 * (p : ℕ) + e) % 64, _⟩
    by_cases he : (e : ℕ) < 64
    · rw [show (⟨(128 * (p : ℕ) + e) / 64, by omega⟩ : Fin 16) = ev p from Fin.ext (show (128 * (p : ℕ) + e) / 64 = 2 * p by omega),
        show (⟨(128 * (p : ℕ) + e) % 64, by omega⟩ : Fin 64) = ⟨e, he⟩ from Fin.ext (show (128 * (p : ℕ) + e) % 64 = e by omega)]
      exact (outp_lo _ _ _ _ q ⟨e, he⟩).trans (by rw [cov64, cov1]; rfl)
    · rw [show (⟨(128 * (p : ℕ) + e) / 64, by omega⟩ : Fin 16) = od p from Fin.ext (show (128 * (p : ℕ) + e) / 64 = 2 * p + 1 by omega),
        show (⟨(128 * (p : ℕ) + e) % 64, by omega⟩ : Fin 64) = ⟨e - 64, by omega⟩ from Fin.ext (show (128 * (p : ℕ) + e) % 64 = e - 64 by omega)]
      have ee : (⟨64 + ((⟨e.val - 64, by omega⟩ : Fin 64) : ℕ), by simp only; omega⟩ : Fin 128) = e := Fin.ext (show 64 + ((e : ℕ) - 64) = e by omega)
      exact (congrArg (fun e => outp _ _ _ _ (ix3 0 q e)) ee).symm.trans <| (outp_hi _ _ _ _ q ⟨e - 64, by omega⟩).trans (by rw [cov64, cov1]; rfl)
  · refine ⟨_, by rw [outs_eq]; exact List.mem_map.mpr ⟨⟨e / 128, by omega⟩, mem_down _, rfl⟩, ?_⟩
    show (ix3 0 q e : S1x256x1024.Idx) ∈ (rq ⟨e / 128, by omega⟩).set
    have h := rq_emb ⟨e / 128, by omega⟩ q ⟨e % 128, by omega⟩
    rw [show (⟨128 * ((⟨(e : ℕ) / 128, by omega⟩ : Fin 8) : ℕ) + ((⟨(e : ℕ) % 128, by omega⟩ : Fin 128) : ℕ), by simp only; omega⟩ : Fin 1024) = e from Fin.ext (by simp only; omega)] at h
    rw [← h, ← Rect.map_emb_univ]
    exact Finset.mem_map_of_mem _ (Finset.mem_univ _)

/-- The point's output, from the last sweep's laws. -/
theorem fin_val (fm : MStep Ideal) (fl : LStep Ideal) (fa : AStep Ideal) (q : Fin 256) (e : Fin 1024) (N : ℕ)
    (hl : ∀ h : Fin 16, fl h (row (stM c i arg3 harg3 arg4 harg4 arg5 harg5 arg6 harg6 arg7 harg7 arg8 harg8 arg9 harg9 arg10 harg10 arg11 harg11 arg12 harg12 arg13 harg13 (Qx (F := Ideal) arg3 (harg3.unread x0)) X Y ((i 2).val / 2)) h) (row (stL c i arg3 harg3 arg4 harg4 arg5 harg5 arg6 harg6 arg7 harg7 arg8 harg8 arg9 harg9 arg10 harg10 arg11 harg11 arg12 harg12 arg13 harg13 (Qx (F := Ideal) arg3 (harg3.unread x0)) X Y ((i 2).val / 2)) h) (ix2 0 q)
      = den (seen i K C Q h q) N)
    (ha : ∀ (h : Fin 16) (d : Fin 64), fa h (row (stM c i arg3 harg3 arg4 harg4 arg5 harg5 arg6 harg6 arg7 harg7 arg8 harg8 arg9 harg9 arg10 harg10 arg11 harg11 arg12 harg12 arg13 harg13 (Qx (F := Ideal) arg3 (harg3.unread x0)) X Y ((i 2).val / 2)) h) (blk (stA c i arg3 harg3 arg4 harg4 arg5 harg5 arg6 harg6 arg7 harg7 arg8 harg8 arg9 harg9 arg10 harg10 arg11 harg11 arg12 harg12 arg13 harg13 (Qx (F := Ideal) arg3 (harg3.unread x0)) X Y ((i 2).val / 2)) h) (ix2 d q)
      = num (seen i K C Q h q) (V (64 * h + d)) N) :
    View.canon (fin c i arg3 harg3 arg4 harg4 arg5 harg5 arg6 harg6 arg7 harg7 arg8 harg8 arg9 harg9 arg10 harg10 arg11 harg11 arg12 harg12 arg13 harg13 (Qx (F := Ideal) arg3 (harg3.unread x0)) X Y fm fl fa) (ix3 0 q e)
      = Ideal.div (num (seen i K C Q (e / 64) q) (V e) N) (den (seen i K C Q (e / 64) q) N) := by
  unfold fin
  rw [canon_outs]
  unfold quo
  rw [row_sweepL, blk_sweepA, bM_eq, bL_eq, bA_eq, hl, ha]
  simp only
  rw [show 64 * ((e : ℕ) / 64) + e % 64 = e by omega]

include hX hY hx

/-- The output of a point with an even query block: one diagonal tile is left. -/
theorem even_val (h2 : (i 2).val % 2 = 0) (hc2 : cond0_2 i) (q : Fin 256) (e : Fin 1024) :
    View.canon (fin c i arg3 harg3 arg4 harg4 arg5 harg5 arg6 harg6 arg7 harg7 arg8 harg8 arg9 harg9 arg10 harg10 arg11 harg11 arg12 harg12 arg13 harg13 (Qx (F := Ideal) arg3 (harg3.unread x0)) X Y
        (fun h => m1 (diag (tl arg9 (Qx (F := Ideal) arg3 (harg3.unread x0)) (k0_off201 i 1) (Facts₀.k0_off201_inb i hc2 1) X h)))
        (fun h => l1 (diag (tl arg9 (Qx (F := Ideal) arg3 (harg3.unread x0)) (k0_off201 i 1) (Facts₀.k0_off201_inb i hc2 1) X h)))
        (fun h => a1 (diag (tl arg9 (Qx (F := Ideal) arg3 (harg3.unread x0)) (k0_off201 i 1) (Facts₀.k0_off201_inb i hc2 1) X h))
          (tv arg10 (k0_off217 i 1) (Facts₀.k0_off217_inb i hc2 1) Y h))) (ix3 0 q e)
      = Ideal.div (num (seen i K C Q (e / 64) q) (V e) (256 * ((i 2).val + 1))) (den (seen i K C Q (e / 64) q) (256 * ((i 2).val + 1))) := by
  obtain ⟨hM, hL, hA⟩ := running c i arg3 harg3 arg4 harg4 arg5 harg5 arg6 harg6 arg7 harg7 arg8 harg8 arg9 harg9 arg10 harg10 arg11 harg11 arg12 harg12 arg13 harg13 X Y x0 K C Q V hX hY hx ((i 2).val / 2) le_rfl
  have e1 := off201_eq i
  have e2 := off217_eq i
  have s := fun (h : Fin 16) (q : Fin 256) => diag_seen i arg3 harg3 arg9 X x0 K C Q hX hx (k0_off201 i 1) (Facts₀.k0_off201_inb i hc2 1) e1 h q (512 * ((i 2).val / 2)) (by omega)
  have v : ∀ (h : Fin 16) (d : Fin 64) (k : Fin 256), tv arg10 (k0_off217 i 1) (Facts₀.k0_off217_inb i hc2 1) Y h (ix4 0 0 d k) = V (64 * h + d) (512 * ((i 2).val / 2) + k) := by
    intro h d k; refine (tv_val arg10 V Y hY _ _ h d k).trans ?_; congr 1; omega
  rw [show 256 * ((i 2).val + 1) = 512 * ((i 2).val / 2) + 256 by omega]
  refine fin_val c i arg3 harg3 arg4 harg4 arg5 harg5 arg6 harg6 arg7 harg7 arg8 harg8 arg9 harg9 arg10 harg10 arg11 harg11 arg12 harg12 arg13 harg13 X Y x0 K C Q V _ _ _ q e _ (fun h => ?_) (fun h d => ?_)
  · exact l1_law (S := seen i K C Q h q) (hS := seen_ne_top i K C Q h q) (hs := s h q) (hm := hM h q) (hl := hL h q) ..
  · exact a1_law (S := seen i K C Q h q) (hS := seen_ne_top i K C Q h q) (hs := s h q) (hm := hM h q) (hv := v h d) (ha := hA h d q) ..

/-- The output of a point with an odd query block: a whole tile and the diagonal one are left. -/
theorem odd_val (h2 : (i 2).val % 2 = 1) (hc1 : cond0_1 i) (q : Fin 256) (e : Fin 1024) :
    View.canon (fin c i arg3 harg3 arg4 harg4 arg5 harg5 arg6 harg6 arg7 harg7 arg8 harg8 arg9 harg9 arg10 harg10 arg11 harg11 arg12 harg12 arg13 harg13 (Qx (F := Ideal) arg3 (harg3.unread x0)) X Y
        (fun h => m2 (tl arg9 (Qx (F := Ideal) arg3 (harg3.unread x0)) (k0_off137 i 1) (Facts₀.k0_off137_inb i hc1 1) X h) (diag (tl arg9 (Qx (F := Ideal) arg3 (harg3.unread x0)) (k0_off138 i 1) (Facts₀.k0_off138_inb i hc1 1) X h)))
        (fun h => l2 (tl arg9 (Qx (F := Ideal) arg3 (harg3.unread x0)) (k0_off137 i 1) (Facts₀.k0_off137_inb i hc1 1) X h) (diag (tl arg9 (Qx (F := Ideal) arg3 (harg3.unread x0)) (k0_off138 i 1) (Facts₀.k0_off138_inb i hc1 1) X h)))
        (fun h => a2 (tl arg9 (Qx (F := Ideal) arg3 (harg3.unread x0)) (k0_off137 i 1) (Facts₀.k0_off137_inb i hc1 1) X h) (diag (tl arg9 (Qx (F := Ideal) arg3 (harg3.unread x0)) (k0_off138 i 1) (Facts₀.k0_off138_inb i hc1 1) X h))
          (tv arg10 (k0_off169 i 1) (Facts₀.k0_off169_inb i hc1 1) Y h) (tv arg10 (k0_off170 i 1) (Facts₀.k0_off170_inb i hc1 1) Y h))) (ix3 0 q e)
      = Ideal.div (num (seen i K C Q (e / 64) q) (V e) (256 * ((i 2).val + 1))) (den (seen i K C Q (e / 64) q) (256 * ((i 2).val + 1))) := by
  obtain ⟨hM, hL, hA⟩ := running c i arg3 harg3 arg4 harg4 arg5 harg5 arg6 harg6 arg7 harg7 arg8 harg8 arg9 harg9 arg10 harg10 arg11 harg11 arg12 harg12 arg13 harg13 X Y x0 K C Q V hX hY hx ((i 2).val / 2) le_rfl
  have e1 := off137_eq i (by omega)
  have e2 := off138_eq i
  have e3 := off169_eq i (by omega)
  have e4 := off170_eq i
  have s := fun (h : Fin 16) (q : Fin 256) => tl_seen i arg3 harg3 arg9 X x0 K C Q hX hx (k0_off137 i 1) (Facts₀.k0_off137_inb i hc1 1) (by omega) h q (512 * ((i 2).val / 2)) (by omega)
  have t := fun (h : Fin 16) (q : Fin 256) => diag_seen i arg3 harg3 arg9 X x0 K C Q hX hx (k0_off138 i 1) (Facts₀.k0_off138_inb i hc1 1) e2 h q (512 * ((i 2).val / 2) + 256) (by omega)
  have v : ∀ (h : Fin 16) (d : Fin 64) (k : Fin 256), tv arg10 (k0_off169 i 1) (Facts₀.k0_off169_inb i hc1 1) Y h (ix4 0 0 d k) = V (64 * h + d) (512 * ((i 2).val / 2) + k) := by
    intro h d k; refine (tv_val arg10 V Y hY _ _ h d k).trans ?_; congr 1; omega
  have u : ∀ (h : Fin 16) (d : Fin 64) (k : Fin 256), tv arg10 (k0_off170 i 1) (Facts₀.k0_off170_inb i hc1 1) Y h (ix4 0 0 d k) = V (64 * h + d) (512 * ((i 2).val / 2) + 256 + k) := by
    intro h d k; refine (tv_val arg10 V Y hY _ _ h d k).trans ?_; congr 1; omega
  rw [show 256 * ((i 2).val + 1) = 512 * ((i 2).val / 2) + 256 + 256 by omega]
  refine fin_val c i arg3 harg3 arg4 harg4 arg5 harg5 arg6 harg6 arg7 harg7 arg8 harg8 arg9 harg9 arg10 harg10 arg11 harg11 arg12 harg12 arg13 harg13 X Y x0 K C Q V _ _ _ q e _ (fun h => ?_) (fun h d => ?_)
  · exact l2_law (S := seen i K C Q h q) (hS := seen_ne_top i K C Q h q) (hs := s h q) (hm := hM h q) (ht := t h q) (hl := hL h q) ..
  · exact a2_law (S := seen i K C Q h q) (hS := seen_ne_top i K C Q h q) (hs := s h q) (hm := hM h q) (ht := t h q) (hv := v h d) (hu := u h d) (ha := hA h d q) ..

end Cert.KernelIdeal.Step

end
-- ==== Proof.Grid.lean ====
/- The grid: the tile buffers a sequence's first point fills serve its other points, and each point's output is the quotient
   over the keys up to its block's end. -/
module

public import proofs.«01_k».proof.Proof.Point
public import proofs.«01_k».proof.Proof.Arrays

@[expose] public section

set_option maxRecDepth 16384
set_option maxHeartbeats 2000000

noncomputable section

namespace Cert.KernelIdeal.Step

open Idealize.ShloMosaic Idealize.ShloMosaic.TcCoe Cert.KernelIdeal Cert.KernelIdeal.Gen Cert.KernelIdeal.Value Cert.Softmax

variable {m : (ℓ : Loc nD τ sig) → Buf (Elt Ideal) ℓ} {c : Dev nD} (hF : Finite m c)

/-- The gate sums in the base-two scale, and the scaled queries of a point's block. -/
def c2 (m : (ℓ : Loc nD τ sig) → Buf (Elt Ideal) ℓ) (c : Dev nD) (b : Fin 16) (h j : ℕ) : ℝ := cR m c b h j * (Real.log 2)⁻¹
def q2 (m : (ℓ : Loc nD τ sig) → Buf (Elt Ideal) ℓ) (c : Dev nD) (t : Fin cfg0.N) (q e : ℕ) : ℝ := qR m c (sq t) (256 * (t.val % 8) + q) e * (0.125 / Real.log 2)

include hF

/-- The buffers a first point leaves. -/
theorem first_keys (t : Fin cfg0.N) (h0 : t.val % 8 = 0) :
    Keys (kR m c (sq t)) (c2 m c (sq t)) (outsAt0 m c t.val t.isLt).2.1 ∧ Vals (vE m c (sq t)) (outsAt0 m c t.val t.isLt).2.2 := by
  rw [outsAt0_A m c t h0 (by omega) (by omega)]
  refine ⟨?_, ?_⟩
  · unfold sout0_A_0
    dsimp only
    rw [View.read_writes_junk_eq_canon]
    exact keys_pk (grid0.coords t) (ms0_1 t) (hs0_1 t) (ms0_3 t) (hs0_3 t) c ((hcond0_0 t).mpr h0) (kR m c (sq t)) (cR m c (sq t)) (iblk m c 1 t) (iblk m c 3 t)
      (fun e j => iblk1_eq hF t e j) (fun h s k => iblk3_eq hF t h s k)
  · unfold sout0_A_1
    dsimp only
    rw [View.read_writes_junk_eq_canon]
    exact vals_pw c (ms0_2 t) (hs0_2 t) (vE m c (sq t)) (iblk m c 2 t) (fun e j => iblk2_eq t e j)

/-- The buffers after any point. -/
theorem carried : ∀ (n : ℕ) (hn : n < cfg0.N),
    Keys (kR m c (sq ⟨n, hn⟩)) (c2 m c (sq ⟨n, hn⟩)) (outsAt0 m c n hn).2.1 ∧ Vals (vE m c (sq ⟨n, hn⟩)) (outsAt0 m c n hn).2.2 := by
  intro n
  induction n with
  | zero => intro hn; exact first_keys hF ⟨0, hn⟩ rfl
  | succ n ih =>
    intro hn
    by_cases h0 : (n + 1) % 8 = 0
    · exact first_keys hF ⟨n + 1, hn⟩ h0
    · have hp : (sq ⟨n + 1, hn⟩) = sq ⟨n, by omega⟩ := Fin.ext (show (n + 1) / 8 = n / 8 by omega)
      rw [hp]
      by_cases h1 : (n + 1) % 2 = 1
      · have e := outsAt0_B m c ⟨n + 1, hn⟩ h0 h1 (by show ¬(n + 1) % 2 = 0; omega)
        rw [show (outsAt0 m c (n + 1) hn) = _ from e]
        exact ih (by omega)
      · have e := outsAt0_C m c ⟨n + 1, hn⟩ h0 h1 (by show (n + 1) % 2 = 0; omega)
        rw [show (outsAt0 m c (n + 1) hn) = _ from e]
        exact ih (by omega)

/-- A point's output. -/
theorem point (t : Fin cfg0.N) (q : Fin 256) (e : Fin 1024) :
    ((outsAt0 m c t.val t.isLt).1 (ix3 0 q e) : EReal)
      = Ideal.div (num (masked (256 * (t.val % 8) + q) (lgt (kR m c (sq t)) (c2 m c (sq t)) (q2 m c t) (e / 64) q)) (vE m c (sq t) e) (256 * (t.val % 8 + 1)))
          (den (masked (256 * (t.val % 8) + q) (lgt (kR m c (sq t)) (c2 m c (sq t)) (q2 m c t) (e / 64) q)) (256 * (t.val % 8 + 1))) := by
  have hc := (coords_eq t).2
  have hx : ∀ (q : Fin 256) (e : Fin 1024), (iblk m c 0 t (ix3 0 q e) : EReal) = (q2 m c t q e : EReal) := fun q e => iblk0_eq hF t q e
  by_cases h0 : t.val % 8 = 0
  · rw [outsAt0_A m c t h0 (by omega) (by omega)]
    unfold out0_A_5
    dsimp only
    rw [View.read_writes_junk_eq_canon, runA]
    refine (even_val (i := grid0.coords t) (K := kR m c (sq t)) (C := c2 m c (sq t)) (Q := q2 m c t) (V := vE m c (sq t)) (hX := ?_) (hY := ?_) (hx := hx) (h2 := by omega) (hc2 := (hcond0_2 t).mpr (by omega)) (q := q) (e := e) ..).trans ?_
    · rw [View.read_writes_junk_eq_canon]
      exact keys_pk (grid0.coords t) (ms0_1 t) (hs0_1 t) (ms0_3 t) (hs0_3 t) c ((hcond0_0 t).mpr h0) (kR m c (sq t)) (cR m c (sq t)) (iblk m c 1 t) (iblk m c 3 t)
        (fun e j => iblk1_eq hF t e j) (fun h s k => iblk3_eq hF t h s k)
    · rw [View.read_writes_junk_eq_canon]
      exact vals_pw c (ms0_2 t) (hs0_2 t) (vE m c (sq t)) (iblk m c 2 t) (fun e j => iblk2_eq t e j)
    · unfold seen; rw [hc]
  · have hp : (sq ⟨t.val - 1, by have := t.isLt; omega⟩) = sq t := Fin.ext (show (t.val - 1) / 8 = t.val / 8 by omega)
    obtain ⟨hk, hv⟩ := carried hF (t.val - 1) (by have := t.isLt; omega)
    rw [hp] at hk hv
    by_cases h1 : t.val % 2 = 1
    · rw [outsAt0_B m c t h0 h1 (by omega)]
      unfold out0_B_5
      dsimp only
      rw [View.read_writes_junk_eq_canon, runB]
      refine (odd_val (i := grid0.coords t) (K := kR m c (sq t)) (C := c2 m c (sq t)) (Q := q2 m c t) (V := vE m c (sq t)) (hX := ?_) (hY := ?_) (hx := hx) (h2 := by omega) (hc1 := (hcond0_1 t).mpr h1) (q := q) (e := e) ..).trans ?_
      · rw [Memref.IsWhole.read_unread]; exact hk
      · rw [Memref.IsWhole.read_unread]; exact hv
      · unfold seen; rw [hc]
    · rw [outsAt0_C m c t h0 h1 (by omega)]
      unfold out0_C_5
      dsimp only
      rw [View.read_writes_junk_eq_canon, runC]
      refine (even_val (i := grid0.coords t) (K := kR m c (sq t)) (C := c2 m c (sq t)) (Q := q2 m c t) (V := vE m c (sq t)) (hX := ?_) (hY := ?_) (hx := hx) (h2 := by omega) (hc2 := (hcond0_2 t).mpr (by omega)) (q := q) (e := e) ..).trans ?_
      · rw [Memref.IsWhole.read_unread]; exact hk
      · rw [Memref.IsWhole.read_unread]; exact hv
      · unfold seen; rw [hc]

/-- The call's result, at its elements. -/
theorem G5_apply (b : Fin 16) (q : Fin 2048) (e : Fin 1024) :
    (G5 m c (ix3 b q e) : EReal) = ∑ j ∈ Finset.range 2048, vE m c b e j *
      Ideal.div (Ideal.exp (masked q (fun j => (∑ d : Fin 64, qR m c b q (64 * (e / 64) + d) * kR m c b (64 * (e / 64) + d) j) * 0.125 + (cR m c b (e / 64) q - cR m c b (e / 64) j)) j
          - top (masked q (fun j => (∑ d : Fin 64, qR m c b q (64 * (e / 64) + d) * kR m c b (64 * (e / 64) + d) j) * 0.125 + (cR m c b (e / 64) q - cR m c b (e / 64) j))) 2048))
        (∑ j' ∈ Finset.range 2048, Ideal.exp (masked q (fun j => (∑ d : Fin 64, qR m c b q (64 * (e / 64) + d) * kR m c b (64 * (e / 64) + d) j) * 0.125 + (cR m c b (e / 64) q - cR m c b (e / 64) j)) j'
          - top (masked q (fun j => (∑ d : Fin 64, qR m c b q (64 * (e / 64) + d) * kR m c b (64 * (e / 64) + d) j) * 0.125 + (cR m c b (e / 64) q - cR m c b (e / 64) j))) 2048)) := by
  have hb := b.isLt
  have hq := q.isLt
  have he := e.isLt
  have hpt : pt5Of (ix3 b q e) = 8 * b + q / 256 := by
    show 8 * ((b : ℕ) / 1 - 0) + 1 * ((q : ℕ) / 256 - 0) + 1 * ((e : ℕ) / 1024 - 0) = _; omega
  have hlt : 8 * (b : ℕ) + q / 256 < cfg0.N := lt_of_lt_of_eq (by omega) (show cfg0.N = 128 from N_0).symm
  have hloc : loc5Of (ix3 b q e) = ix3 0 ⟨q % 256, by omega⟩ e := by
    funext a; refine Fin.ext ?_; fin_cases a
    · show (b : ℕ) % 1 = 0; omega
    · rfl
    · show (e : ℕ) % 1024 = e; omega
  have hG : (G5 m c (ix3 b q e) : EReal) = (outsAt0 m c (8 * b + q / 256) hlt).1 (ix3 0 ⟨q % 256, by omega⟩ e) := by
    unfold G5
    rw [dif_pos (show pt5Of (ix3 b q e) < cfg0.N by rw [hpt]; exact hlt), hloc, outsAt0_sweep]
    exact congrArg (fun z : Vec Ideal S1x256x1024 .bf16 × Vec Ideal S16x8x128x256 .bf16 × Vec Ideal S8x8x128x256 .bf16 => z.1 (ix3 0 ⟨q % 256, by omega⟩ e)) (fold0_congr m c _ _ _ _ hpt)
  rw [hG, point hF ⟨8 * b + q / 256, hlt⟩]
  have hs : sq ⟨8 * b + q / 256, hlt⟩ = b := Fin.ext (show (8 * (b : ℕ) + q / 256) / 8 = b by omega)
  have hm : (8 * (b : ℕ) + q / 256) % 8 = q / 256 := by omega
  have hr : 256 * ((q : ℕ) / 256) + q % 256 = q := by omega
  rw [hs]
  simp only [hm, hr]
  refine quot_eq q (256 * (q / 256 + 1)) 2048 (by omega) (by omega) _ _ (cR m c b (e / 64) q) (fun k => ?_) _
  have h3 : Real.log 2 ≠ 0 := ne_of_gt (Real.log_pos (by norm_num))
  unfold lgt c2 q2
  simp only [hm, hr, hs]
  rw [sub_mul, Finset.sum_mul, Finset.sum_mul, mul_assoc, inv_mul_cancel₀ h3]
  have : ∀ d : Fin 64, kR m c b (64 * (e / 64) + d) k * (qR m c b q (64 * (e / 64) + d) * (0.125 / Real.log 2)) * Real.log 2
      = qR m c b q (64 * (e / 64) + d) * kR m c b (64 * (e / 64) + d) k * 0.125 := by
    intro d; field_simp
  rw [Finset.sum_congr rfl fun d _ => this d]
  ring

end Cert.KernelIdeal.Step

end
-- ==== Proof.Ref.lean ====
/- The reference, index by index: the softmax of the masked logits over all the frames, times the values. -/
module

public import proofs.«01_k».proof.Proof.Gen.ReferenceIdeal.Read
public import proofs.«01_k».proof.Proof.Softmax
public import Idealize.ShloMosaic.Lib.Pointwise
public import Idealize.ShloMosaic.Lib.WordCmp

@[expose] public section

set_option maxRecDepth 16384
set_option maxHeartbeats 2000000

noncomputable section

namespace Cert.ReferenceIdeal.Read

open Idealize.ShloMosaic Idealize.ShloMosaic.WordCmp Idealize.ShloMosaic.TcCoe Cert.ReferenceIdeal Cert.ReferenceIdeal.Gen Cert.Softmax

variable (x0 : (⟨S16x2048x1024, .f32⟩ : BufTy).Contents (Elt Ideal)) (x2 x3 : (⟨S2x16x2048x16x64, .f32⟩ : BufTy).Contents (Elt Ideal))
  (x4 : (⟨S16x2048x16, .f32⟩ : BufTy).Contents (Elt Ideal))

theorem sum_range (f : ℕ → EReal) : (∑ k : Fin 2048, f k) = ∑ k ∈ Finset.range 2048, f k := Fin.sum_univ_eq_sum_range f 2048

/-- The maximum over all the frames, from the bottom, is the greatest logit. -/
theorem fold_top (f : ℕ → EReal) : Finset.univ.fold max (⊥ : EReal) (fun k : Fin 2048 => f k) = top f 2048 := by
  show Finset.univ.sup (fun k : Fin 2048 => f k) = (Finset.range 2048).sup f
  apply le_antisymm
  · exact Finset.sup_le fun k _ => Finset.le_sup (f := f) (Finset.mem_range.mpr k.isLt)
  · exact Finset.sup_le fun k hk => Finset.le_sup (f := fun k : Fin 2048 => f k) (Finset.mem_univ ⟨k, Finset.mem_range.mp hk⟩)

theorem bits_negInf : Ideal.ofBits .f32 0xFF800000#32 = ⊥ := by simp [Ideal.ofBits, Ideal.ieee]
theorem bits_zero : Ideal.ofBits .f32 0x00000000#32 = 0 := by simp [Ideal.ofBits, Ideal.ieee]
theorem bits_eighth : Ideal.ofBits .f32 0x3E000000#32 = ((0.125 : ℝ) : EReal) := by
  have e : BitVec.extractLsb' 31 1 1040187392#32 = 0#1 := by decide
  norm_num [Ideal.ofBits, Ideal.ieee, Nat.shiftRight_eq_div_pow, e]

theorem v5_val (b h : Fin 16) (q k : Fin 2048) : (val_main_v5 (F := Ideal) x0 x2 (ix4 b h q k) : EReal)
    = ∑ d : Fin 64, x0 (ix3 b q ⟨h * 64 + d, by omega⟩) * x2 (ix5 1 b k h d) := by
  unfold val_main_v5 val_main_v0 val_main_v2 val_main_v1
  pointwise

/-- Where the logits of a row are the reals `T`, the masked ones are `masked q T`. -/
theorem v22_val (b h : Fin 16) (q : Fin 2048) (T : ℕ → ℝ)
    (hT : ∀ k : Fin 2048, (∑ d : Fin 64, x0 (ix3 b q ⟨h * 64 + d, by omega⟩) * x2 (ix5 1 b k h d)) * ((0.125 : ℝ) : EReal)
      + (x4 (ix3 b q h) - x4 (ix3 b k h)) = ((T k : ℝ) : EReal)) (k : Fin 2048) :
    (val_main_v22 (F := Ideal) x0 x2 x4 (ix4 b h q k) : EReal) = masked q T k := by
  unfold val_main_v22 val_main_v21 val_main_v13 val_main_v12 val_main_v11 val_main_v10 val_main_v9 val_main_v8 val_main_v7 val_main_v6 val_main_cst val_main_call0_v1 val_main_call0_v2 val_main_call0_v0 val_main_v20 val_main_v19 val_main_v18 val_main_v17 val_main_v16 val_main_v15 val_main_v14 val_main_cst_0
  pointwise
  rw [v5_val, bits_eighth, hT k]
  show Scalar.select _ _ (Ideal.ofBits .f32 0xFF800000#32) = _
  rw [bits_negInf, cmpi_sle_ofNat (by omega) (by omega)]
  unfold masked Scalar.select
  by_cases hk : (k : ℕ) ≤ q <;> simp [hk]

theorem v23_val (b h : Fin 16) (q : Fin 2048) : (val_main_v23 (F := Ideal) x0 x2 x4 (ix3 b h q) : EReal)
    = Finset.univ.fold max (⊥ : EReal) (fun k : Fin 2048 => (val_main_v22 (F := Ideal) x0 x2 x4 (ix4 b h q k) : EReal)) := by
  unfold val_main_v23
  generalize val_main_v22 (F := Ideal) x0 x2 x4 = w
  have hc : (val_main_cst_1 (F := Ideal)) (Shape.Idx.first h_S_) = (⊥ : EReal) := bits_negInf
  revert hc
  generalize val_main_cst_1 (F := Ideal) = z
  intro hc
  pointwise
  rw [hc]

theorem v24_val (b h : Fin 16) (q : Fin 2048) : (val_main_v24 (F := Ideal) (ix3 b h q) : EReal) = ⊥ := by
  unfold val_main_v24 val_main_cst_2
  pointwise
  exact bits_negInf

theorem max_bot (y w : FVec Ideal S16x16x2048 .f32) (i : S16x16x2048.Idx) (r : EReal) (hy : (y i : EReal) = ⊥) (hw : (w i : EReal) = r) :
    (maximumf y w i : EReal) = r := by
  show max (y i : EReal) (w i) = r
  rw [hy, hw, max_eq_right bot_le]

theorem v25_val (b h : Fin 16) (q : Fin 2048) (f : ℕ → EReal)
    (hf : ∀ k : Fin 2048, (val_main_v22 (F := Ideal) x0 x2 x4 (ix4 b h q k) : EReal) = f k) :
    (val_main_v25 (F := Ideal) x0 x2 x4 (ix3 b h q) : EReal) = top f 2048 := by
  have h23 := (v23_val x0 x2 x4 b h q).trans ((congrArg (Finset.univ.fold max (⊥ : EReal)) (funext hf)).trans (fold_top f))
  unfold val_main_v25
  exact max_bot _ _ _ _ (v24_val b h q) h23

theorem v33_val (b h : Fin 16) (q : Fin 2048) (f : ℕ → EReal)
    (hf : ∀ k : Fin 2048, (val_main_v22 (F := Ideal) x0 x2 x4 (ix4 b h q k) : EReal) = f k) (k : Fin 2048) :
    (val_main_v33 (F := Ideal) x0 x2 x4 (ix4 b h q k) : EReal)
      = Ideal.div (Ideal.exp (f k - top f 2048)) (∑ j ∈ Finset.range 2048, Ideal.exp (f j - top f 2048)) := by
  have h25 := v25_val x0 x2 x4 b h q f hf
  have h3 : (val_main_cst_3 (F := Ideal)) (Shape.Idx.first h_S_) = (0 : EReal) := bits_zero
  unfold val_main_v33 val_main_v32 val_main_v31 val_main_v30 val_main_v29 val_main_v28 val_main_v27 val_main_v26
  generalize val_main_v22 (F := Ideal) x0 x2 x4 = w at hf
  generalize val_main_v25 (F := Ideal) x0 x2 x4 = t at h25
  revert h3
  generalize val_main_cst_3 (F := Ideal) = z
  intro h3
  pointwise
  rw [h3, h25, zero_add]
  simp only [hf]
  rw [sum_range fun j => Ideal.exp (f j - top f 2048)]

/-- The reference's value: the weights of the row against its greatest logit, over their sum, times the values. -/
theorem v37_val (b : Fin 16) (q : Fin 2048) (e : Fin 1024) (T : ℕ → ℝ) (W : ℕ → EReal)
    (hT : ∀ k : Fin 2048, (∑ d : Fin 64, x0 (ix3 b q ⟨e / 64 * 64 + d, by omega⟩) * x2 (ix5 1 b k ⟨e / 64, by omega⟩ d)) * ((0.125 : ℝ) : EReal)
      + (x4 (ix3 b q ⟨e / 64, by omega⟩) - x4 (ix3 b k ⟨e / 64, by omega⟩)) = ((T k : ℝ) : EReal))
    (hW : ∀ k : Fin 2048, (x3 (ix5 1 b k ⟨e / 64, by omega⟩ ⟨e % 64, by omega⟩) : EReal) = W k) :
    (val_main_v37 (F := Ideal) x0 x2 x3 x4 (ix3 b q e) : EReal) = ∑ k ∈ Finset.range 2048, W k *
      Ideal.div (Ideal.exp (masked q T k - top (masked q T) 2048)) (∑ j ∈ Finset.range 2048, Ideal.exp (masked q T j - top (masked q T) 2048)) := by
  have h33 := v33_val x0 x2 x4 b ⟨e / 64, by omega⟩ q (masked q T) (v22_val x0 x2 x4 b ⟨e / 64, by omega⟩ q T hT)
  unfold val_main_v37 val_main_v36 val_main_v35 val_main_v34 val_main_v4 val_main_v3
  generalize val_main_v33 (F := Ideal) x0 x2 x4 = p at h33
  pointwise
  simp only [h33, hW]
  exact sum_range fun k => W k * Ideal.div (Ideal.exp (masked q T k - top (masked q T) 2048)) (∑ j ∈ Finset.range 2048, Ideal.exp (masked q T j - top (masked q T) 2048))

end Cert.ReferenceIdeal.Read

end
-- ==== Proof.Meet.lean ====
/- Where the two programs meet: the precondition read as finiteness of the queries, keys and gate sums, and the reference's
   array equal to the attention call's. -/
module

public import proofs.«01_k».proof.Defs
public import proofs.«01_k».proof.Proof.Gen.Pre_finite
public import proofs.«01_k».proof.Proof.Grid
public import proofs.«01_k».proof.Proof.Ref
public import Idealize.ShloMosaic.Lib.Pointwise

@[expose] public section

set_option maxRecDepth 16384
set_option maxHeartbeats 2000000

noncomputable section

namespace Cert.Meet

open Idealize.ShloMosaic Idealize.ShloMosaic.TcCoe Cert.Softmax

/-- A magnitude below the top is of a number that is neither infinity. -/
theorem finite_of_olt (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  replace h : Ideal.cmp .olt (max x (-x)) (Ideal.ofBits .f32 0x7F800000#32) = 1#1 := h
  rw [htop] at h
  unfold Ideal.cmp at h
  refine ⟨?_, ?_⟩ <;> rintro rfl <;> simp at h

section pre
open Cert.Pre_finite

variable (x0 : FVec Ideal S16x2048x1024 .f32) (x1 : FVec Ideal S16x2048x3072 .f32) (x2 x3 : FVec Ideal S2x16x2048x16x64 .f32)
  (x4 : FVec Ideal S16x2048x16 .f32)

theorem q_finite (h : (fn (F := Ideal) x0 x1 x2 x3 x4).1 = fun _ => 1#1) (b : Fin 16) (q : Fin 2048) (e : Fin 1024) :
    (x0 (ix3 b q e) : EReal) ≠ ⊤ ∧ (x0 (ix3 b q e) : EReal) ≠ ⊥ := by
  have h' := congrFun h (ix3 b q e)
  unfold fn at h'
  exact finite_of_olt _ h'

theorem k_finite (h : (fn (F := Ideal) x0 x1 x2 x3 x4).2.1 = fun _ => 1#1) (b : Fin 16) (j : Fin 2048) (i : Fin 16) (d : Fin 64) :
    (x2 (ix5 1 b j i d) : EReal) ≠ ⊤ ∧ (x2 (ix5 1 b j i d) : EReal) ≠ ⊥ := by
  have h' := congrFun h (ix4 b j i d)
  unfold fn at h'
  dsimp only at h'
  have e : shapeCast S16x2048x16x64 (extractStridedSlice S1x16x2048x16x64 ![1, 0, 0, 0, 0] x2 Facts.slices_S2x16x2048x16x64_S1x16x2048x16x64_1_0_0_0_0) Facts.shapeCasts_S1x16x2048x16x64_S16x2048x16x64 (ix4 b j i d) = x2 (ix5 1 b j i d) := by
    pointwise
  rw [← e]
  exact finite_of_olt _ h'

theorem c_finite (h : (fn (F := Ideal) x0 x1 x2 x3 x4).2.2 = fun _ => 1#1) (b : Fin 16) (j : Fin 2048) (i : Fin 16) :
    (x4 (ix3 b j i) : EReal) ≠ ⊤ ∧ (x4 (ix3 b j i) : EReal) ≠ ⊥ := by
  have h' := congrFun h (ix3 b j i)
  unfold fn at h'
  exact finite_of_olt _ h'

end pre

open Cert.KernelIdeal Cert.KernelIdeal.Gen Cert.KernelIdeal.Step Cert.KernelIdeal.Value

variable (m : (ℓ : Loc nD τ sig) → Buf (Elt Ideal) ℓ) (c : Dev nD)

theorem finite (h : Cert.Pre_KernelIdeal_finite m) : Finite m c where
  q := q_finite _ _ _ _ _ (h c).1
  k := k_finite _ _ _ _ _ (h c).2.1
  c := c_finite _ _ _ _ _ (h c).2.2

variable {m c}

/-- The logits of a row, as the reference computes them, are the reals the call's logits are. -/
theorem logits (hF : Finite m c) (b : Fin 16) (q : Fin 2048) (e : Fin 1024) (k : Fin 2048) :
    (∑ d : Fin 64, inQ m c b q ⟨e / 64 * 64 + d, by omega⟩ * inK m c b k ⟨e / 64, by omega⟩ d) * ((0.125 : ℝ) : EReal)
      + (inC m c b q ⟨e / 64, by omega⟩ - inC m c b k ⟨e / 64, by omega⟩)
    = (((∑ d : Fin 64, qR m c b q (64 * (e / 64) + d) * kR m c b (64 * (e / 64) + d) k) * 0.125 + (cR m c b (e / 64) q - cR m c b (e / 64) k) : ℝ) : EReal) := by
  rw [EReal.coe_add, EReal.coe_mul, coe_sum, EReal.coe_sub]
  have hq := cR_eq hF b ⟨e / 64, by omega⟩ q
  have hk := cR_eq hF b ⟨e / 64, by omega⟩ k
  simp only [] at hq hk
  rw [hq, hk]
  congr 2
  refine Finset.sum_congr rfl fun d _ => ?_
  have h1 := qR_eq hF b q ⟨64 * (e / 64) + d, by omega⟩
  have h2 := kR_eq hF b ⟨64 * (e / 64) + d, by omega⟩ k
  simp only [] at h1 h2
  rw [EReal.coe_mul, h1, h2]
  congr 2
  · exact Fin.ext (by show (e : ℕ) / 64 * 64 + d = 64 * (e / 64) + d; omega)
  · exact Fin.ext (by show (e : ℕ) / 64 = (64 * (e / 64) + d) / 64; omega)
  · exact Fin.ext (by show (d : ℕ) = (64 * (e / 64) + d) % 64; omega)

/-- The reference's array of the call's arguments is the array the call leaves. -/
theorem meet (hF : Finite m c) :
    Cert.ReferenceIdeal.Read.val_main_v37 (F := Ideal) (m ((c.tc : Thread nD τ).loc main_arg0)) (m ((c.tc : Thread nD τ).loc main_arg2))
      (m ((c.tc : Thread nD τ).loc main_arg3)) (m ((c.tc : Thread nD τ).loc main_arg4)) = G5 m c := by
  funext i
  obtain ⟨b, q, e, rfl⟩ : ∃ (b : Fin 16) (q : Fin 2048) (e : Fin 1024), i = ix3 b q e := by
    refine ⟨i 0, i 1, i 2, ?_⟩
    funext a; fin_cases a <;> rfl
  refine Eq.trans ?_ (G5_apply hF b q e).symm
  exact Cert.ReferenceIdeal.Read.v37_val _ _ _ _ b q e _ (fun j => vE m c b e j) (logits hF b q e) (fun k => (vE_eq b e k).symm)

end Cert.Meet

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.ProjectZX
public import proofs.«01_k».proof.Proof.Gen.ProjectZX.Frame
public import proofs.«01_k».proof.Proof.Gen.ProjectZXIdeal
public import proofs.«01_k».proof.Proof.Gen.ProjectZXIdeal.Frame
public import proofs.«01_k».proof.Proof.Gen.ProjectZXIdeal.Value
public import proofs.«01_k».proof.Proof.Gen.ReferenceProjectZXIdeal
public import proofs.«01_k».proof.Proof.Gen.ReferenceProjectZXIdeal.Run
public import proofs.«01_k».proof.Proof.Gen.ReferenceProjectZXIdeal.Read
public import proofs.«01_k».proof.Proof.Gen.ProjectQG
public import proofs.«01_k».proof.Proof.Gen.ProjectQG.Frame
public import proofs.«01_k».proof.Proof.Gen.ProjectQGIdeal
public import proofs.«01_k».proof.Proof.Gen.ProjectQGIdeal.Frame
public import proofs.«01_k».proof.Proof.Gen.ProjectQGIdeal.Value
public import proofs.«01_k».proof.Proof.Gen.ReferenceProjectQGIdeal
public import proofs.«01_k».proof.Proof.Gen.ReferenceProjectQGIdeal.Run
public import proofs.«01_k».proof.Proof.Gen.ReferenceProjectQGIdeal.Read
public import proofs.«01_k».proof.Proof.Gen.ProjectDTF
public import proofs.«01_k».proof.Proof.Gen.ProjectDTF.Frame
public import proofs.«01_k».proof.Proof.Gen.ProjectDTFIdeal
public import proofs.«01_k».proof.Proof.Gen.ProjectDTFIdeal.Frame
public import proofs.«01_k».proof.Proof.Gen.ProjectDTFIdeal.Value
public import proofs.«01_k».proof.Proof.Gen.ReferenceProjectDTFIdeal
public import proofs.«01_k».proof.Proof.Gen.ReferenceProjectDTFIdeal.Run
public import proofs.«01_k».proof.Proof.Gen.ReferenceProjectDTFIdeal.Read
public import proofs.«01_k».proof.Proof.Gen.KeysFirst
public import proofs.«01_k».proof.Proof.Gen.KeysFirst.Frame
public import proofs.«01_k».proof.Proof.Gen.KeysFirstIdeal
public import proofs.«01_k».proof.Proof.Gen.KeysFirstIdeal.Frame
public import proofs.«01_k».proof.Proof.Gen.KeysFirstIdeal.Value
public import proofs.«01_k».proof.Proof.Gen.ReferenceKeysFirstIdeal
public import proofs.«01_k».proof.Proof.Gen.ReferenceKeysFirstIdeal.Run
public import proofs.«01_k».proof.Proof.Gen.ReferenceKeysFirstIdeal.Read
public import proofs.«01_k».proof.Proof.Gen.KeysSecond
public import proofs.«01_k».proof.Proof.Gen.KeysSecond.Frame
public import proofs.«01_k».proof.Proof.Gen.KeysSecondIdeal
public import proofs.«01_k».proof.Proof.Gen.KeysSecondIdeal.Frame
public import proofs.«01_k».proof.Proof.Gen.KeysSecondIdeal.Value
public import proofs.«01_k».proof.Proof.Gen.ReferenceKeysSecondIdeal
public import proofs.«01_k».proof.Proof.Gen.ReferenceKeysSecondIdeal.Run
public import proofs.«01_k».proof.Proof.Gen.ReferenceKeysSecondIdeal.Read
public import proofs.«01_k».proof.Proof.Gen.ValuesFirst
public import proofs.«01_k».proof.Proof.Gen.ValuesFirst.Frame
public import proofs.«01_k».proof.Proof.Gen.ValuesFirstIdeal
public import proofs.«01_k».proof.Proof.Gen.ValuesFirstIdeal.Frame
public import proofs.«01_k».proof.Proof.Gen.ValuesFirstIdeal.Value
public import proofs.«01_k».proof.Proof.Gen.ReferenceValuesFirstIdeal
public import proofs.«01_k».proof.Proof.Gen.ReferenceValuesFirstIdeal.Run
public import proofs.«01_k».proof.Proof.Gen.ReferenceValuesFirstIdeal.Read
public import proofs.«01_k».proof.Proof.Gen.ValuesSecond
public import proofs.«01_k».proof.Proof.Gen.ValuesSecond.Frame
public import proofs.«01_k».proof.Proof.Gen.ValuesSecondIdeal
public import proofs.«01_k».proof.Proof.Gen.ValuesSecondIdeal.Frame
public import proofs.«01_k».proof.Proof.Gen.ValuesSecondIdeal.Value
public import proofs.«01_k».proof.Proof.Gen.ReferenceValuesSecondIdeal
public import proofs.«01_k».proof.Proof.Gen.ReferenceValuesSecondIdeal.Run
public import proofs.«01_k».proof.Proof.Gen.ReferenceValuesSecondIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.ReferenceMergeIdeal
public import proofs.«01_k».proof.Proof.Gen.ReferenceMergeIdeal.Run
public import proofs.«01_k».proof.Proof.Gen.ReferenceMergeIdeal.Read
public import proofs.«01_k».proof.Proof.Gen.ForgetFirst
public import proofs.«01_k».proof.Proof.Gen.ForgetFirst.Frame
public import proofs.«01_k».proof.Proof.Gen.ForgetFirstIdeal
public import proofs.«01_k».proof.Proof.Gen.ForgetFirstIdeal.Frame
public import proofs.«01_k».proof.Proof.Gen.ForgetFirstIdeal.Value
public import proofs.«01_k».proof.Proof.Gen.ReferenceForgetFirstIdeal
public import proofs.«01_k».proof.Proof.Gen.ReferenceForgetFirstIdeal.Run
public import proofs.«01_k».proof.Proof.Gen.ReferenceForgetFirstIdeal.Read
public import proofs.«01_k».proof.Proof.Gen.ForgetSecond
public import proofs.«01_k».proof.Proof.Gen.ForgetSecond.Frame
public import proofs.«01_k».proof.Proof.Gen.ForgetSecondIdeal
public import proofs.«01_k».proof.Proof.Gen.ForgetSecondIdeal.Frame
public import proofs.«01_k».proof.Proof.Gen.ForgetSecondIdeal.Value
public import proofs.«01_k».proof.Proof.Gen.ReferenceForgetSecondIdeal
public import proofs.«01_k».proof.Proof.Gen.ReferenceForgetSecondIdeal.Run
public import proofs.«01_k».proof.Proof.Gen.ReferenceForgetSecondIdeal.Read
public import proofs.«01_k».proof.Proof.ProjectZX
public import proofs.«01_k».proof.Proof.ProjectQG
public import proofs.«01_k».proof.Proof.ProjectDTF
public import proofs.«01_k».proof.Proof.Keys
public import proofs.«01_k».proof.Proof.Values
public import proofs.«01_k».proof.Proof.Merge
public import proofs.«01_k».proof.Proof.ForgetFirst
public import proofs.«01_k».proof.Proof.Forget
public import proofs.«01_k».proof.Proof.Meet
public import Idealize.ShloMosaic.Adequacy
public import Idealize.ShloMosaic.Init

@[expose] public section

noncomputable section

namespace Cert.Proof

open Idealize.ShloMosaic Idealize.SL.Sem

/-- The reference leaves its arguments as they were and declares no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

/-- Both programs end with the softmax of the masked logits times the values. -/
theorem algebraic : Cert.algebraic_KernelIdeal_ReferenceIdeal_pre_finite := fun m g m' g' hpre hargs =>
  ⟨fun c => Cert.KernelIdeal.Value.G5 m c, Cert.KernelIdeal.Value.run m g,
    (θ_run Cert.ReferenceIdeal.defs _ _).mono
      (fun r h c => by
        obtain ⟨h0, h1, h2, h3, h4⟩ := hargs c
        refine ⟨(h c).1.trans ((Cert.ReferenceIdeal.Read.val_main_v37_eq m' c).trans ?_), (h c).2⟩
        rw [h0, h2, h3, h4]
        exact Cert.Meet.meet (Cert.Meet.finite m c hpre))
      (Cert.ReferenceIdeal.Value.run (F := Ideal) m' g')⟩

theorem projectZX_frame_reference : Cert.quiescent_ReferenceProjectZXIdeal := fun m g _ =>
  (θ_run Cert.ReferenceProjectZXIdeal.defs _ _).mono
    (fun r h => ⟨fun c => (h c).2, Idealize.ShloMosaic.sem_eq_zero_of_no_sems (by decide) r.2⟩)
    (Cert.ReferenceProjectZXIdeal.Value.run (F := Ideal) m g)

/-- The gate and the inputs of the convolution: both programs end with the same matrix product. -/
theorem projectZX_algebraic : Cert.algebraic_ProjectZXIdeal_ReferenceProjectZXIdeal := fun m g m' g' hpre hargs =>
  ⟨fun c => (Cert.ProjectZXIdeal.Gen.dats m 0 c).arrAt 2 Cert.ProjectZXIdeal.cfg0.N, Cert.ProjectZXIdeal.Value.run_blocks m g,
    (θ_run Cert.ReferenceProjectZXIdeal.defs _ _).mono
      (fun r h c => by
        obtain ⟨h0, h1⟩ := hargs c
        exact ⟨(h c).1.trans ((Cert.ReferenceProjectZXIdeal.Read.val_main_v5_eq _ _ ).trans (Cert.ProjectZXIdeal.Tile.meet m c _ _ h0 h1)), (h c).2⟩)
      (Cert.ReferenceProjectZXIdeal.Value.run (F := Ideal) m' g')⟩

theorem projectQG_frame_reference : Cert.quiescent_ReferenceProjectQGIdeal := fun m g _ =>
  (θ_run Cert.ReferenceProjectQGIdeal.defs _ _).mono
    (fun r h => ⟨fun c => (h c).2, Idealize.ShloMosaic.sem_eq_zero_of_no_sems (by decide) r.2⟩)
    (Cert.ReferenceProjectQGIdeal.Value.run (F := Ideal) m g)

/-- The scaled queries and the three gates. -/
theorem projectQG_algebraic : Cert.algebraic_ProjectQGIdeal_ReferenceProjectQGIdeal := fun m g m' g' hpre hargs =>
  ⟨fun c => (Cert.ProjectQGIdeal.Gen.dats m 0 c).arrAt 2 Cert.ProjectQGIdeal.cfg0.N, Cert.ProjectQGIdeal.Value.run_blocks m g,
    (θ_run Cert.ReferenceProjectQGIdeal.defs _ _).mono
      (fun r h c => by
        obtain ⟨h0, h1⟩ := hargs c
        exact ⟨(h c).1.trans ((Cert.ReferenceProjectQGIdeal.Read.val_main_v14_eq _ _ ).trans (Cert.ProjectQGIdeal.Tile.meet m c _ _ h0 h1)), (h c).2⟩)
      (Cert.ReferenceProjectQGIdeal.Value.run (F := Ideal) m' g')⟩

theorem projectDTF_frame_reference : Cert.quiescent_ReferenceProjectDTFIdeal := fun m g _ =>
  (θ_run Cert.ReferenceProjectDTFIdeal.defs _ _).mono
    (fun r h => ⟨fun c => (h c).2, Idealize.ShloMosaic.sem_eq_zero_of_no_sems (by decide) r.2⟩)
    (Cert.ReferenceProjectDTFIdeal.Value.run (F := Ideal) m g)

/-- The steps and the forget gates before their biases. -/
theorem projectDTF_algebraic : Cert.algebraic_ProjectDTFIdeal_ReferenceProjectDTFIdeal := fun m g m' g' hpre hargs =>
  ⟨fun c => (Cert.ProjectDTFIdeal.Gen.dats m 0 c).arrAt 2 Cert.ProjectDTFIdeal.cfg0.N, Cert.ProjectDTFIdeal.Value.run_blocks m g,
    (θ_run Cert.ReferenceProjectDTFIdeal.defs _ _).mono
      (fun r h c => by
        obtain ⟨h0, h1⟩ := hargs c
        exact ⟨(h c).1.trans ((Cert.ReferenceProjectDTFIdeal.Read.val_main_v10_eq _ _ ).trans (Cert.ProjectDTFIdeal.Tile.meet m c _ _ h0 h1)), (h c).2⟩)
      (Cert.ReferenceProjectDTFIdeal.Value.run (F := Ideal) m' g')⟩

theorem keysFirst_frame_reference : Cert.quiescent_ReferenceKeysFirstIdeal := fun m g _ =>
  (θ_run Cert.ReferenceKeysFirstIdeal.defs _ _).mono
    (fun r h => ⟨fun c => (h c).2, Idealize.ShloMosaic.sem_eq_zero_of_no_sems (by decide) r.2⟩)
    (Cert.ReferenceKeysFirstIdeal.Value.run (F := Ideal) m g)

/-- The first layer's keys. -/
theorem keysFirst_algebraic : Cert.algebraic_KeysFirstIdeal_ReferenceKeysFirstIdeal := fun m g m' g' hpre hargs =>
  ⟨fun c => (Cert.KeysFirstIdeal.Gen.dats m 0 c).arrAt 2 Cert.KeysFirstIdeal.cfg0.N, Cert.KeysFirstIdeal.Value.run_blocks m g,
    (θ_run Cert.ReferenceKeysFirstIdeal.defs _ _).mono
      (fun r h c => by
        obtain ⟨h0, h1⟩ := hargs c
        exact ⟨(h c).1.trans ((Cert.ReferenceKeysFirstIdeal.Read.val_main_v8_eq _ _ ).trans (Cert.KeysFirstIdeal.Tile.meet m c _ _ h0 h1)), (h c).2⟩)
      (Cert.ReferenceKeysFirstIdeal.Value.run (F := Ideal) m' g')⟩

theorem keysSecond_frame_reference : Cert.quiescent_ReferenceKeysSecondIdeal := fun m g _ =>
  (θ_run Cert.ReferenceKeysSecondIdeal.defs _ _).mono
    (fun r h => ⟨fun c => (h c).2, Idealize.ShloMosaic.sem_eq_zero_of_no_sems (by decide) r.2⟩)
    (Cert.ReferenceKeysSecondIdeal.Value.run (F := Ideal) m g)

/-- The second layer's keys. -/
theorem keysSecond_algebraic : Cert.algebraic_KeysSecondIdeal_ReferenceKeysSecondIdeal := fun m g m' g' hpre hargs =>
  ⟨fun c => (Cert.KeysSecondIdeal.Gen.dats m 0 c).arrAt 2 Cert.KeysSecondIdeal.cfg0.N, Cert.KeysSecondIdeal.Value.run_blocks m g,
    (θ_run Cert.ReferenceKeysSecondIdeal.defs _ _).mono
      (fun r h c => by
        obtain ⟨h0, h1, h2⟩ := hargs c
        exact ⟨(h c).1.trans ((Cert.ReferenceKeysSecondIdeal.Read.val_main_v9_eq _ _ _ ).trans (Cert.KeysSecondIdeal.Tile.meet m c _ _ _ h0 h1 h2)), (h c).2⟩)
      (Cert.ReferenceKeysSecondIdeal.Value.run (F := Ideal) m' g')⟩

theorem valuesFirst_frame_reference : Cert.quiescent_ReferenceValuesFirstIdeal := fun m g _ =>
  (θ_run Cert.ReferenceValuesFirstIdeal.defs _ _).mono
    (fun r h => ⟨fun c => (h c).2, Idealize.ShloMosaic.sem_eq_zero_of_no_sems (by decide) r.2⟩)
    (Cert.ReferenceValuesFirstIdeal.Value.run (F := Ideal) m g)

/-- The first layer's values. -/
theorem valuesFirst_algebraic : Cert.algebraic_ValuesFirstIdeal_ReferenceValuesFirstIdeal := fun m g m' g' hpre hargs =>
  ⟨fun c => (Cert.ValuesFirstIdeal.Gen.dats m 0 c).arrAt 2 Cert.ValuesFirstIdeal.cfg0.N, Cert.ValuesFirstIdeal.Value.run_blocks m g,
    (θ_run Cert.ReferenceValuesFirstIdeal.defs _ _).mono
      (fun r h c => by
        obtain ⟨h0, h1⟩ := hargs c
        exact ⟨(h c).1.trans ((Cert.ReferenceValuesFirstIdeal.Read.val_main_v8_eq _ _ ).trans (Cert.ValuesFirstIdeal.Tile.meet m c _ _ h0 h1)), (h c).2⟩)
      (Cert.ReferenceValuesFirstIdeal.Value.run (F := Ideal) m' g')⟩

theorem valuesSecond_frame_reference : Cert.quiescent_ReferenceValuesSecondIdeal := fun m g _ =>
  (θ_run Cert.ReferenceValuesSecondIdeal.defs _ _).mono
    (fun r h => ⟨fun c => (h c).2, Idealize.ShloMosaic.sem_eq_zero_of_no_sems (by decide) r.2⟩)
    (Cert.ReferenceValuesSecondIdeal.Value.run (F := Ideal) m g)

/-- The second layer's values. -/
theorem valuesSecond_algebraic : Cert.algebraic_ValuesSecondIdeal_ReferenceValuesSecondIdeal := fun m g m' g' hpre hargs =>
  ⟨fun c => (Cert.ValuesSecondIdeal.Gen.dats m 0 c).arrAt 2 Cert.ValuesSecondIdeal.cfg0.N, Cert.ValuesSecondIdeal.Value.run_blocks m g,
    (θ_run Cert.ReferenceValuesSecondIdeal.defs _ _).mono
      (fun r h c => by
        obtain ⟨h0, h1, h2⟩ := hargs c
        exact ⟨(h c).1.trans ((Cert.ReferenceValuesSecondIdeal.Read.val_main_v9_eq _ _ _ ).trans (Cert.ValuesSecondIdeal.Tile.meet m c _ _ _ h0 h1 h2)), (h c).2⟩)
      (Cert.ReferenceValuesSecondIdeal.Value.run (F := Ideal) m' g')⟩

theorem merge_frame_reference : Cert.quiescent_ReferenceMergeIdeal := fun m g _ =>
  (θ_run Cert.ReferenceMergeIdeal.defs _ _).mono
    (fun r h => ⟨fun c => (h c).2, Idealize.ShloMosaic.sem_eq_zero_of_no_sems (by decide) r.2⟩)
    (Cert.ReferenceMergeIdeal.Value.run (F := Ideal) m g)

/-- The second layer's rows: the branches merged, projected and normed. -/
theorem merge_algebraic : Cert.algebraic_MergeIdeal_ReferenceMergeIdeal := fun m g m' g' hpre hargs =>
  ⟨fun c => (Cert.MergeIdeal.Gen.dats m 0 c).arrAt 15 Cert.MergeIdeal.cfg0.N, Cert.MergeIdeal.Value.run_blocks m g,
    (θ_run Cert.ReferenceMergeIdeal.defs _ _).mono
      (fun r h c => by
        obtain ⟨h0, h1, h2, h3, h4, h5, h6, h7, h8, h9, h10, h11, h12, h13, h14, h15⟩ := hargs c
        exact ⟨(h c).1.trans ((Cert.ReferenceMergeIdeal.Read.val_main_v86_eq m' c).trans (Cert.MergeIdeal.Tile.meet m c _ _ _ _ _ _ _ _ _ _ _ _ _ _ h0 h1 h2 h5 h6 h7 h8 h9 h10 h11 h12 h13 h14 h15)), (h c).2⟩)
      (Cert.ReferenceMergeIdeal.Value.run (F := Ideal) m' g')⟩

theorem forgetFirst_frame_reference : Cert.quiescent_ReferenceForgetFirstIdeal := fun m g _ =>
  (θ_run Cert.ReferenceForgetFirstIdeal.defs _ _).mono
    (fun r h => ⟨fun c => (h c).2.2, Idealize.ShloMosaic.sem_eq_zero_of_no_sems (by decide) r.2⟩)
    (Cert.ReferenceForgetFirstIdeal.Value.run (F := Ideal) m g)

/-- The first layer's forget gates and their sums. -/
theorem forgetFirst_algebraic : Cert.algebraic_ForgetFirstIdeal_ReferenceForgetFirstIdeal := fun m g m' g' hpre hargs =>
  ⟨fun c => (Cert.ForgetFirstIdeal.Gen.dats m 0 c).arrAt 2 Cert.ForgetFirstIdeal.cfg0.N, fun c => (Cert.ForgetFirstIdeal.Gen.dats m 0 c).arrAt 3 Cert.ForgetFirstIdeal.cfg0.N, Cert.ForgetFirstIdeal.Value.run_blocks m g,
    (θ_run Cert.ReferenceForgetFirstIdeal.defs _ _).mono
      (fun r h c => by
        obtain ⟨h0, h1, h2⟩ := hargs c
        exact ⟨(h c).1.trans ((Cert.ReferenceForgetFirstIdeal.Read.val_main_v11_eq _ _).trans (Cert.ForgetFirstIdeal.Tile.meet_gates m c _ _ h0 h2)),
          (h c).2.1.trans ((Cert.ReferenceForgetFirstIdeal.Read.val_main_v12_eq _ _).trans (Cert.ForgetFirstIdeal.Tile.meet_sums m c _ _ h0 h2)), (h c).2.2⟩)
      (Cert.ReferenceForgetFirstIdeal.Value.run (F := Ideal) m' g')⟩

theorem forgetSecond_frame_reference : Cert.quiescent_ReferenceForgetSecondIdeal := fun m g _ =>
  (θ_run Cert.ReferenceForgetSecondIdeal.defs _ _).mono
    (fun r h => ⟨fun c => (h c).2.2, Idealize.ShloMosaic.sem_eq_zero_of_no_sems (by decide) r.2⟩)
    (Cert.ReferenceForgetSecondIdeal.Value.run (F := Ideal) m g)

/-- The second layer's forget gates and their sums. -/
theorem forgetSecond_algebraic : Cert.algebraic_ForgetSecondIdeal_ReferenceForgetSecondIdeal := fun m g m' g' hpre hargs =>
  ⟨fun c => (Cert.ForgetSecondIdeal.Gen.dats m 0 c).arrAt 2 Cert.ForgetSecondIdeal.cfg0.N, fun c => (Cert.ForgetSecondIdeal.Gen.dats m 0 c).arrAt 3 Cert.ForgetSecondIdeal.cfg0.N, Cert.ForgetSecondIdeal.Value.run_blocks m g,
    (θ_run Cert.ReferenceForgetSecondIdeal.defs _ _).mono
      (fun r h c => by
        obtain ⟨h0, h1, h2, h3⟩ := hargs c
        exact ⟨(h c).1.trans ((Cert.ReferenceForgetSecondIdeal.Read.val_main_v12_eq _ _ _).trans (Cert.ForgetSecondIdeal.Tile.meet_gates m c _ _ _ h0 h2 h3)),
          (h c).2.1.trans ((Cert.ReferenceForgetSecondIdeal.Read.val_main_v13_eq _ _).trans (Cert.ForgetSecondIdeal.Tile.meet_sums m c _ _ h0 h2)), (h c).2.2⟩)
      (Cert.ReferenceForgetSecondIdeal.Value.run (F := Ideal) m' g')⟩

theorem claim : Cert.Claim :=
  ⟨Cert.Kernel.Gen.facts, Cert.KernelIdeal.Gen.facts, Cert.ReferenceIdeal.Gen.facts, Cert.ProjectZX.Gen.facts, Cert.ProjectZXIdeal.Gen.facts, Cert.ReferenceProjectZXIdeal.Gen.facts, Cert.ProjectQG.Gen.facts, Cert.ProjectQGIdeal.Gen.facts, Cert.ReferenceProjectQGIdeal.Gen.facts, Cert.ProjectDTF.Gen.facts, Cert.ProjectDTFIdeal.Gen.facts, Cert.ReferenceProjectDTFIdeal.Gen.facts, Cert.KeysFirst.Gen.facts, Cert.KeysFirstIdeal.Gen.facts, Cert.ReferenceKeysFirstIdeal.Gen.facts, Cert.KeysSecond.Gen.facts, Cert.KeysSecondIdeal.Gen.facts, Cert.ReferenceKeysSecondIdeal.Gen.facts, Cert.ValuesFirst.Gen.facts, Cert.ValuesFirstIdeal.Gen.facts, Cert.ReferenceValuesFirstIdeal.Gen.facts, Cert.ValuesSecond.Gen.facts, Cert.ValuesSecondIdeal.Gen.facts, Cert.ReferenceValuesSecondIdeal.Gen.facts, Cert.Merge.Gen.facts, Cert.MergeIdeal.Gen.facts, Cert.ReferenceMergeIdeal.Gen.facts, Cert.ForgetFirst.Gen.facts, Cert.ForgetFirstIdeal.Gen.facts, Cert.ReferenceForgetFirstIdeal.Gen.facts, Cert.ForgetSecond.Gen.facts, Cert.ForgetSecondIdeal.Gen.facts, Cert.ReferenceForgetSecondIdeal.Gen.facts, Cert.Pre_finite.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.ProjectZX.Gen.frame m g,
    fun m g _ => Cert.ProjectZXIdeal.Gen.frame m g,
    projectZX_frame_reference,
    fun m g _ => Cert.ProjectQG.Gen.frame m g,
    fun m g _ => Cert.ProjectQGIdeal.Gen.frame m g,
    projectQG_frame_reference,
    fun m g _ => Cert.ProjectDTF.Gen.frame m g,
    fun m g _ => Cert.ProjectDTFIdeal.Gen.frame m g,
    projectDTF_frame_reference,
    fun m g _ => Cert.KeysFirst.Gen.frame m g,
    fun m g _ => Cert.KeysFirstIdeal.Gen.frame m g,
    keysFirst_frame_reference,
    fun m g _ => Cert.KeysSecond.Gen.frame m g,
    fun m g _ => Cert.KeysSecondIdeal.Gen.frame m g,
    keysSecond_frame_reference,
    fun m g _ => Cert.ValuesFirst.Gen.frame m g,
    fun m g _ => Cert.ValuesFirstIdeal.Gen.frame m g,
    valuesFirst_frame_reference,
    fun m g _ => Cert.ValuesSecond.Gen.frame m g,
    fun m g _ => Cert.ValuesSecondIdeal.Gen.frame m g,
    valuesSecond_frame_reference,
    fun m g _ => Cert.Merge.Gen.frame m g,
    fun m g _ => Cert.MergeIdeal.Gen.frame m g,
    merge_frame_reference,
    fun m g _ => Cert.ForgetFirst.Gen.frame m g,
    fun m g _ => Cert.ForgetFirstIdeal.Gen.frame m g,
    forgetFirst_frame_reference,
    fun m g _ => Cert.ForgetSecond.Gen.frame m g,
    fun m g _ => Cert.ForgetSecondIdeal.Gen.frame m g,
    forgetSecond_frame_reference,
    preserves,
    algebraic,
    trivial,
    projectZX_algebraic,
    trivial,
    projectQG_algebraic,
    trivial,
    projectDTF_algebraic,
    trivial,
    keysFirst_algebraic,
    trivial,
    keysSecond_algebraic,
    trivial,
    valuesFirst_algebraic,
    trivial,
    valuesSecond_algebraic,
    trivial,
    merge_algebraic,
    trivial,
    forgetFirst_algebraic,
    trivial,
    forgetSecond_algebraic⟩

end Cert.Proof

end
